-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x5120 : Shape := ⟨3, ![24, 1, 5120]⟩
abbrev S24x1x2 : Shape := ⟨3, ![24, 1, 2]⟩
abbrev S8x5120x2048 : Shape := ⟨3, ![8, 5120, 2048]⟩
abbrev S8x40x16 : Shape := ⟨3, ![8, 40, 16]⟩
abbrev S8x1024x5120 : Shape := ⟨3, ![8, 1024, 5120]⟩
abbrev S8x8x40 : Shape := ⟨3, ![8, 8, 40]⟩
abbrev S24x2 : Shape := ⟨2, ![24, 2]⟩
abbrev S48 : Shape := ⟨1, ![48]⟩
abbrev S24x5120 : Shape := ⟨2, ![24, 5120]⟩
abbrev S4x2x5120x256 : Shape := ⟨4, ![4, 2, 5120, 256]⟩
abbrev S4x256x5120 : Shape := ⟨3, ![4, 256, 5120]⟩
abbrev S16x40x128 : Shape := ⟨3, ![16, 40, 128]⟩
abbrev S8x5120 : Shape := ⟨2, ![8, 5120]⟩
abbrev S9 : Shape := ⟨1, ![9]⟩
abbrev S4 : Shape := ⟨1, ![4]⟩
abbrev S1 : Shape := ⟨1, ![1]⟩
abbrev S_ : Shape := ⟨0, ![]⟩
abbrev S1x1x5120x256 : Shape := ⟨4, ![1, 1, 5120, 256]⟩
abbrev S5120x256 : Shape := ⟨2, ![5120, 256]⟩
abbrev S1x5120x256 : Shape := ⟨3, ![1, 5120, 256]⟩
abbrev S1x256x5120 : Shape := ⟨3, ![1, 256, 5120]⟩
abbrev S256x5120 : Shape := ⟨2, ![256, 5120]⟩
abbrev S1x40x1 : Shape := ⟨3, ![1, 40, 1]⟩
abbrev S40x1 : Shape := ⟨2, ![40, 1]⟩
abbrev S40x128 : Shape := ⟨2, ![40, 128]⟩
abbrev S1x40x128 : Shape := ⟨3, ![1, 40, 128]⟩
abbrev S1x8x1 : Shape := ⟨3, ![1, 8, 1]⟩
abbrev S8x1 : Shape := ⟨2, ![8, 1]⟩
abbrev S8x128 : Shape := ⟨2, ![8, 128]⟩
abbrev S1x1x128 : Shape := ⟨3, ![1, 1, 128]⟩
abbrev S1x128 : Shape := ⟨2, ![1, 128]⟩
abbrev S1x256 : Shape := ⟨2, ![1, 256]⟩
abbrev S1x1x128x256 : Shape := ⟨4, ![1, 1, 128, 256]⟩
abbrev S128x256 : Shape := ⟨2, ![128, 256]⟩
abbrev S256x256 : Shape := ⟨2, ![256, 256]⟩
abbrev S24x256 : Shape := ⟨2, ![24, 256]⟩
abbrev S1x128x256 : Shape := ⟨3, ![1, 128, 256]⟩
abbrev S24x1 : Shape := ⟨2, ![24, 1]⟩

abbrev nBuf : Space → Nat
  | .hbm => 12
  | .vmem => 12
  | .smem => 2
  | _ => 0

abbrev bufTy : (tb : Table) → Fin (tcTables nBuf tb) → BufTy
  | .hbm, ⟨0, _⟩ => ⟨S24x1x5120, .bf16⟩
  | .hbm, ⟨1, _⟩ => ⟨S24x1x2, .i32⟩
  | .hbm, ⟨2, _⟩ => ⟨S24x1x2, .f32⟩
  | .hbm, ⟨3, _⟩ => ⟨S8x5120x2048, .fp8e4m3⟩
  | .hbm, ⟨4, _⟩ => ⟨S8x40x16, .f32⟩
  | .hbm, ⟨5, _⟩ => ⟨S8x1024x5120, .fp8e4m3⟩
  | .hbm, ⟨6, _⟩ => ⟨S8x8x40, .f32⟩
  | .hbm, ⟨7, _⟩ => ⟨S24x2, .i32⟩
  | .hbm, ⟨8, _⟩ => ⟨S48, .i32⟩
  | .hbm, ⟨9, _⟩ => ⟨S24x5120, .bf16⟩
  | .hbm, ⟨10, _⟩ => ⟨S24x2, .f32⟩
  | .hbm, ⟨11, _⟩ => ⟨S24x5120, .bf16⟩
  | .local _ .vmem, ⟨0, _⟩ => ⟨S24x5120, .bf16⟩
  | .local _ .vmem, ⟨1, _⟩ => ⟨S24x2, .i32⟩
  | .local _ .vmem, ⟨2, _⟩ => ⟨S24x2, .f32⟩
  | .local _ .vmem, ⟨3, _⟩ => ⟨S8x40x16, .f32⟩
  | .local _ .vmem, ⟨4, _⟩ => ⟨S8x8x40, .f32⟩
  | .local _ .vmem, ⟨5, _⟩ => ⟨S24x5120, .bf16⟩
  | .local _ .vmem, ⟨6, _⟩ => ⟨S4x2x5120x256, .fp8e4m3⟩
  | .local _ .vmem, ⟨7, _⟩ => ⟨S4x256x5120, .fp8e4m3⟩
  | .local _ .vmem, ⟨8, _⟩ => ⟨S16x40x128, .f32⟩
  | .local _ .vmem, ⟨9, _⟩ => ⟨S8x5120, .f32⟩
  | .local _ .vmem, ⟨10, _⟩ => ⟨S24x5120, .f32⟩
  | .local _ .vmem, ⟨11, _⟩ => ⟨S24x5120, .f32⟩
  | .local _ .smem, ⟨0, _⟩ => ⟨S48, .i32⟩
  | .local _ .smem, ⟨1, _⟩ => ⟨S9, .i32⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_stg0_0 : Ref sig .tc := ⟨.smem, 0, rfl⟩
abbrev cc0_scratch6 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let v148 : Index := Scalar.indexCast v147
  ![v148.toNat]

def k0_off2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let v153 : Index := Scalar.indexCast v152
  ![v153.toNat]
def k0_off3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let v158 : Index := Scalar.indexCast v157
  ![v158.toNat]
def k0_off4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let v163 : Index := Scalar.indexCast v162
  ![v163.toNat]
def k0_off5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let v168 : Index := Scalar.indexCast v167
  ![v168.toNat]
def k0_off6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let v173 : Index := Scalar.indexCast v172
  ![v173.toNat]
def k0_off7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let v178 : Index := Scalar.indexCast v177
  ![v178.toNat]
def k0_off8 : Fin 1 → Nat :=
  let c0_i32_69 : BitVec 32 := 0#32
  let c0_i32_90 : BitVec 32 := 0#32
  let v209 : BitVec 1 := Scalar.cmpi .sgt c0_i32_69 c0_i32_90
  let v210 : BitVec 32 := Scalar.extui v209
  let c0_i32_91 : BitVec 32 := 0#32
  let v211 : BitVec 1 := Scalar.cmpi .slt c0_i32_69 c0_i32_91
  let v212 : BitVec 32 := Scalar.extui v211
  let v213 : BitVec 32 := Scalar.subi v210 v212
  let c4_i32_89 : BitVec 32 := 4#32
  let c0_i32_92 : BitVec 32 := 0#32
  let v214 : BitVec 1 := Scalar.cmpi .sgt c4_i32_89 c0_i32_92
  let v215 : BitVec 32 := Scalar.extui v214
  let c0_i32_93 : BitVec 32 := 0#32
  let v216 : BitVec 1 := Scalar.cmpi .slt c4_i32_89 c0_i32_93
  let v217 : BitVec 32 := Scalar.extui v216
  let v218 : BitVec 32 := Scalar.subi v215 v217
  let v219 : BitVec 1 := Scalar.cmpi .ne v213 v218
  let v220 : BitVec 32 := Scalar.remsi c0_i32_69 c4_i32_89
  let c0_i32_94 : BitVec 32 := 0#32
  let v221 : BitVec 1 := Scalar.cmpi .ne v220 c0_i32_94
  let v222 : BitVec 1 := Scalar.andi v219 v221
  let v208 : BitVec 32 := Scalar.divsi c0_i32_69 c4_i32_89
  let c1_i32_95 : BitVec 32 := 1#32
  let v223 : BitVec 32 := Scalar.subi v208 c1_i32_95
  let v224 : BitVec 32 := Scalar.select v222 v223 v208
  let v225 : Index := Scalar.indexCast v224
  ![v225.toNat]
def k0_mult1 : BitVec 32 :=
  let c0_i32_69 : BitVec 32 := 0#32
  let c4_i32_96 : BitVec 32 := 4#32
  let v227 : BitVec 32 := Scalar.remsi c0_i32_69 c4_i32_96
  let c256_i32 : BitVec 32 := 256#32
  let v228 : BitVec 32 := Scalar.muli v227 c256_i32
  v228
def k0_mult2 : BitVec 32 :=
  let c1024_i32 : BitVec 32 := 1024#32
  let c0_i32_69 : BitVec 32 := 0#32
  let c4_i32_96 : BitVec 32 := 4#32
  let v227 : BitVec 32 := Scalar.remsi c0_i32_69 c4_i32_96
  let c256_i32_97 : BitVec 32 := 256#32
  let v230 : BitVec 32 := Scalar.muli v227 c256_i32_97
  let v231 : BitVec 32 := Scalar.addi c1024_i32 v230
  v231
def k0_mult3 : BitVec 32 :=
  let c0_i32_69 : BitVec 32 := 0#32
  let c4_i32_96 : BitVec 32 := 4#32
  let v227 : BitVec 32 := Scalar.remsi c0_i32_69 c4_i32_96
  let c256_i32_98 : BitVec 32 := 256#32
  let v233 : BitVec 32 := Scalar.muli v227 c256_i32_98
  v233
def k0_off9 : Fin 1 → Nat :=
  let c0_i32_69 : BitVec 32 := 0#32
  let c4_i32_88 : BitVec 32 := 4#32
  let v207 : BitVec 32 := Scalar.remsi c0_i32_69 c4_i32_88
  ![v207.toNat]
def k0_off10 : Fin 4 → Nat :=
  let c0_i32_69 : BitVec 32 := 0#32
  let c4_i32_88 : BitVec 32 := 4#32
  let v207 : BitVec 32 := Scalar.remsi c0_i32_69 c4_i32_88
  let c0_i32_99 : BitVec 32 := 0#32
  let c0_i32_100 : BitVec 32 := 0#32
  let c0_i32_101 : BitVec 32 := 0#32
  ![v207.toNat, 0, 0, 0]
def k0_off11 (v226 : BitVec 32) : Fin 3 → Nat :=
  let c0_i32_102 : BitVec 32 := 0#32
  let c0_i32_69 : BitVec 32 := 0#32
  let c4_i32_96 : BitVec 32 := 4#32
  let v227 : BitVec 32 := Scalar.remsi c0_i32_69 c4_i32_96
  let c256_i32 : BitVec 32 := 256#32
  let v228 : BitVec 32 := Scalar.muli v227 c256_i32
  let v229 : BitVec 32 := v228
  ![v226.toNat, 0, v229.toNat]
def k0_cond1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : BitVec 1 :=
  let c0_i32_68 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v184 : BitVec 1 := Scalar.cmpi .slt c0_i32_68 v183
  let v185 : BitVec 32 := Scalar.extui v184
  let c0_i32_70 : BitVec 32 := 0#32
  let v186 : BitVec 1 := Scalar.cmpi .ne v185 c0_i32_70
  v186

def k0_off12 : Fin 1 → Nat :=
  let c0_i32_69 : BitVec 32 := 0#32
  let c4_i32_88 : BitVec 32 := 4#32
  let v207 : BitVec 32 := Scalar.remsi c0_i32_69 c4_i32_88
  ![v207.toNat]
def k0_off13 : Fin 4 → Nat :=
  let c0_i32_69 : BitVec 32 := 0#32
  let c4_i32_88 : BitVec 32 := 4#32
  let v207 : BitVec 32 := Scalar.remsi c0_i32_69 c4_i32_88
  let c1_i32_103 : BitVec 32 := 1#32
  let c0_i32_104 : BitVec 32 := 0#32
  let c0_i32_105 : BitVec 32 := 0#32
  ![v207.toNat, 1, 0, 0]
def k0_off14 (v226 : BitVec 32) : Fin 3 → Nat :=
  let c0_i32_106 : BitVec 32 := 0#32
  let c1024_i32 : BitVec 32 := 1024#32
  let c0_i32_69 : BitVec 32 := 0#32
  let c4_i32_96 : BitVec 32 := 4#32
  let v227 : BitVec 32 := Scalar.remsi c0_i32_69 c4_i32_96
  let c256_i32_97 : BitVec 32 := 256#32
  let v230 : BitVec 32 := Scalar.muli v227 c256_i32_97
  let v231 : BitVec 32 := Scalar.addi c1024_i32 v230
  let v232 : BitVec 32 := v231
  ![v226.toNat, 0, v232.toNat]
def k0_off15 : Fin 3 → Nat :=
  let c0_i32_69 : BitVec 32 := 0#32
  let c4_i32_88 : BitVec 32 := 4#32
  let v207 : BitVec 32 := Scalar.remsi c0_i32_69 c4_i32_88
  let c0_i32_107 : BitVec 32 := 0#32
  let c0_i32_108 : BitVec 32 := 0#32
  ![v207.toNat, 0, 0]
def k0_off16 (v226 : BitVec 32) : Fin 3 → Nat :=
  let c0_i32_69 : BitVec 32 := 0#32
  let c4_i32_96 : BitVec 32 := 4#32
  let v227 : BitVec 32 := Scalar.remsi c0_i32_69 c4_i32_96
  let c256_i32_98 : BitVec 32 := 256#32
  let v233 : BitVec 32 := Scalar.muli v227 c256_i32_98
  let v234 : BitVec 32 := v233
  let c0_i32_109 : BitVec 32 := 0#32
  ![v226.toNat, v234.toNat, 0]

def k0_chk2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) : Prop :=
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off11 v226) a + S1x5120x256.size a ≤ S8x5120x2048.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off11 v226) a + S1x5120x256.size a ≤ S8x5120x2048.size a), (Rect.unit (s := S8x5120x2048) (k0_off11 v226) S1x5120x256.size hinb).WholeWords (EltTy.packing .fp8e4m3)) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off14 v226) a + S1x5120x256.size a ≤ S8x5120x2048.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off14 v226) a + S1x5120x256.size a ≤ S8x5120x2048.size a), (Rect.unit (s := S8x5120x2048) (k0_off14 v226) S1x5120x256.size hinb).WholeWords (EltTy.packing .fp8e4m3)) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off16 v226) a + S1x256x5120.size a ≤ S8x1024x5120.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off16 v226) a + S1x256x5120.size a ≤ S8x1024x5120.size a), (Rect.unit (s := S8x1024x5120) (k0_off16 v226) S1x256x5120.size hinb).WholeWords (EltTy.packing .fp8e4m3))
theorem k0_off11_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw2 : k0_chk2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off11 v226) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1 => k0_hw2.1 k0_h1
theorem k0_off11_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw2 : k0_chk2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x5120x2048) (k0_off11 v226) S1x5120x256.size (k0_off11_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1 => k0_hw2.2.1 k0_h1 (k0_off11_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1)
theorem k0_off14_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw2 : k0_chk2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off14 v226) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1 => k0_hw2.2.2.1 k0_h1
theorem k0_off14_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw2 : k0_chk2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x5120x2048) (k0_off14 v226) S1x5120x256.size (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1 => k0_hw2.2.2.2.1 k0_h1 (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1)
theorem k0_off16_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw2 : k0_chk2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off16 v226) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1 => k0_hw2.2.2.2.2.1 k0_h1
theorem k0_off16_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw2 : k0_chk2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x1024x5120) (k0_off16 v226) S1x256x5120.size (k0_off16_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1 => k0_hw2.2.2.2.2.2 k0_h1 (k0_off16_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw2 k0_h1)

def k0_off17 : Fin 1 → Nat :=
  let c1_i32_72 : BitVec 32 := 1#32
  let c0_i32_90 : BitVec 32 := 0#32
  let v209 : BitVec 1 := Scalar.cmpi .sgt c1_i32_72 c0_i32_90
  let v210 : BitVec 32 := Scalar.extui v209
  let c0_i32_91 : BitVec 32 := 0#32
  let v211 : BitVec 1 := Scalar.cmpi .slt c1_i32_72 c0_i32_91
  let v212 : BitVec 32 := Scalar.extui v211
  let v213 : BitVec 32 := Scalar.subi v210 v212
  let c4_i32_89 : BitVec 32 := 4#32
  let c0_i32_92 : BitVec 32 := 0#32
  let v214 : BitVec 1 := Scalar.cmpi .sgt c4_i32_89 c0_i32_92
  let v215 : BitVec 32 := Scalar.extui v214
  let c0_i32_93 : BitVec 32 := 0#32
  let v216 : BitVec 1 := Scalar.cmpi .slt c4_i32_89 c0_i32_93
  let v217 : BitVec 32 := Scalar.extui v216
  let v218 : BitVec 32 := Scalar.subi v215 v217
  let v219 : BitVec 1 := Scalar.cmpi .ne v213 v218
  let v220 : BitVec 32 := Scalar.remsi c1_i32_72 c4_i32_89
  let c0_i32_94 : BitVec 32 := 0#32
  let v221 : BitVec 1 := Scalar.cmpi .ne v220 c0_i32_94
  let v222 : BitVec 1 := Scalar.andi v219 v221
  let v208 : BitVec 32 := Scalar.divsi c1_i32_72 c4_i32_89
  let c1_i32_95 : BitVec 32 := 1#32
  let v223 : BitVec 32 := Scalar.subi v208 c1_i32_95
  let v224 : BitVec 32 := Scalar.select v222 v223 v208
  let v225 : Index := Scalar.indexCast v224
  ![v225.toNat]
def k0_mult4 : BitVec 32 :=
  let c1_i32_72 : BitVec 32 := 1#32
  let c4_i32_96 : BitVec 32 := 4#32
  let v227 : BitVec 32 := Scalar.remsi c1_i32_72 c4_i32_96
  let c256_i32 : BitVec 32 := 256#32
  let v228 : BitVec 32 := Scalar.muli v227 c256_i32
  v228
def k0_mult5 : BitVec 32 :=
  let c1024_i32 : BitVec 32 := 1024#32
  let c1_i32_72 : BitVec 32 := 1#32
  let c4_i32_96 : BitVec 32 := 4#32
  let v227 : BitVec 32 := Scalar.remsi c1_i32_72 c4_i32_96
  let c256_i32_97 : BitVec 32 := 256#32
  let v230 : BitVec 32 := Scalar.muli v227 c256_i32_97
  let v231 : BitVec 32 := Scalar.addi c1024_i32 v230
  v231
def k0_mult6 : BitVec 32 :=
  let c1_i32_72 : BitVec 32 := 1#32
  let c4_i32_96 : BitVec 32 := 4#32
  let v227 : BitVec 32 := Scalar.remsi c1_i32_72 c4_i32_96
  let c256_i32_98 : BitVec 32 := 256#32
  let v233 : BitVec 32 := Scalar.muli v227 c256_i32_98
  v233
def k0_off18 : Fin 1 → Nat :=
  let c1_i32_72 : BitVec 32 := 1#32
  let c4_i32_88 : BitVec 32 := 4#32
  let v207 : BitVec 32 := Scalar.remsi c1_i32_72 c4_i32_88
  ![v207.toNat]
def k0_off19 : Fin 4 → Nat :=
  let c1_i32_72 : BitVec 32 := 1#32
  let c4_i32_88 : BitVec 32 := 4#32
  let v207 : BitVec 32 := Scalar.remsi c1_i32_72 c4_i32_88
  let c0_i32_99 : BitVec 32 := 0#32
  let c0_i32_100 : BitVec 32 := 0#32
  let c0_i32_101 : BitVec 32 := 0#32
  ![v207.toNat, 0, 0, 0]
def k0_off20 (v226 : BitVec 32) : Fin 3 → Nat :=
  let c0_i32_102 : BitVec 32 := 0#32
  let c1_i32_72 : BitVec 32 := 1#32
  let c4_i32_96 : BitVec 32 := 4#32
  let v227 : BitVec 32 := Scalar.remsi c1_i32_72 c4_i32_96
  let c256_i32 : BitVec 32 := 256#32
  let v228 : BitVec 32 := Scalar.muli v227 c256_i32
  let v229 : BitVec 32 := v228
  ![v226.toNat, 0, v229.toNat]
def k0_cond2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : BitVec 1 :=
  let c1_i32_71 : BitVec 32 := 1#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v187 : BitVec 1 := Scalar.cmpi .slt c1_i32_71 v183
  let v188 : BitVec 32 := Scalar.extui v187
  let c0_i32_73 : BitVec 32 := 0#32
  let v189 : BitVec 1 := Scalar.cmpi .ne v188 c0_i32_73
  v189

def k0_off21 : Fin 1 → Nat :=
  let c1_i32_72 : BitVec 32 := 1#32
  let c4_i32_88 : BitVec 32 := 4#32
  let v207 : BitVec 32 := Scalar.remsi c1_i32_72 c4_i32_88
  ![v207.toNat]
def k0_off22 : Fin 4 → Nat :=
  let c1_i32_72 : BitVec 32 := 1#32
  let c4_i32_88 : BitVec 32 := 4#32
  let v207 : BitVec 32 := Scalar.remsi c1_i32_72 c4_i32_88
  let c1_i32_103 : BitVec 32 := 1#32
  let c0_i32_104 : BitVec 32 := 0#32
  let c0_i32_105 : BitVec 32 := 0#32
  ![v207.toNat, 1, 0, 0]
def k0_off23 (v226 : BitVec 32) : Fin 3 → Nat :=
  let c0_i32_106 : BitVec 32 := 0#32
  let c1024_i32 : BitVec 32 := 1024#32
  let c1_i32_72 : BitVec 32 := 1#32
  let c4_i32_96 : BitVec 32 := 4#32
  let v227 : BitVec 32 := Scalar.remsi c1_i32_72 c4_i32_96
  let c256_i32_97 : BitVec 32 := 256#32
  let v230 : BitVec 32 := Scalar.muli v227 c256_i32_97
  let v231 : BitVec 32 := Scalar.addi c1024_i32 v230
  let v232 : BitVec 32 := v231
  ![v226.toNat, 0, v232.toNat]
def k0_off24 : Fin 3 → Nat :=
  let c1_i32_72 : BitVec 32 := 1#32
  let c4_i32_88 : BitVec 32 := 4#32
  let v207 : BitVec 32 := Scalar.remsi c1_i32_72 c4_i32_88
  let c0_i32_107 : BitVec 32 := 0#32
  let c0_i32_108 : BitVec 32 := 0#32
  ![v207.toNat, 0, 0]
def k0_off25 (v226 : BitVec 32) : Fin 3 → Nat :=
  let c1_i32_72 : BitVec 32 := 1#32
  let c4_i32_96 : BitVec 32 := 4#32
  let v227 : BitVec 32 := Scalar.remsi c1_i32_72 c4_i32_96
  let c256_i32_98 : BitVec 32 := 256#32
  let v233 : BitVec 32 := Scalar.muli v227 c256_i32_98
  let v234 : BitVec 32 := v233
  let c0_i32_109 : BitVec 32 := 0#32
  ![v226.toNat, v234.toNat, 0]

def k0_chk3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) : Prop :=
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off20 v226) a + S1x5120x256.size a ≤ S8x5120x2048.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off20 v226) a + S1x5120x256.size a ≤ S8x5120x2048.size a), (Rect.unit (s := S8x5120x2048) (k0_off20 v226) S1x5120x256.size hinb).WholeWords (EltTy.packing .fp8e4m3)) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off23 v226) a + S1x5120x256.size a ≤ S8x5120x2048.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off23 v226) a + S1x5120x256.size a ≤ S8x5120x2048.size a), (Rect.unit (s := S8x5120x2048) (k0_off23 v226) S1x5120x256.size hinb).WholeWords (EltTy.packing .fp8e4m3)) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off25 v226) a + S1x256x5120.size a ≤ S8x1024x5120.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off25 v226) a + S1x256x5120.size a ≤ S8x1024x5120.size a), (Rect.unit (s := S8x1024x5120) (k0_off25 v226) S1x256x5120.size hinb).WholeWords (EltTy.packing .fp8e4m3))
theorem k0_off20_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw3 : k0_chk3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off20 v226) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2 => k0_hw3.1 k0_h2
theorem k0_off20_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw3 : k0_chk3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x5120x2048) (k0_off20 v226) S1x5120x256.size (k0_off20_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2 => k0_hw3.2.1 k0_h2 (k0_off20_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2)
theorem k0_off23_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw3 : k0_chk3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off23 v226) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2 => k0_hw3.2.2.1 k0_h2
theorem k0_off23_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw3 : k0_chk3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x5120x2048) (k0_off23 v226) S1x5120x256.size (k0_off23_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2 => k0_hw3.2.2.2.1 k0_h2 (k0_off23_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2)
theorem k0_off25_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw3 : k0_chk3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off25 v226) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2 => k0_hw3.2.2.2.2.1 k0_h2
theorem k0_off25_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw3 : k0_chk3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x1024x5120) (k0_off25 v226) S1x256x5120.size (k0_off25_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2 => k0_hw3.2.2.2.2.2 k0_h2 (k0_off25_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw3 k0_h2)

def k0_off26 : Fin 1 → Nat :=
  let c2_i32_75 : BitVec 32 := 2#32
  let c0_i32_90 : BitVec 32 := 0#32
  let v209 : BitVec 1 := Scalar.cmpi .sgt c2_i32_75 c0_i32_90
  let v210 : BitVec 32 := Scalar.extui v209
  let c0_i32_91 : BitVec 32 := 0#32
  let v211 : BitVec 1 := Scalar.cmpi .slt c2_i32_75 c0_i32_91
  let v212 : BitVec 32 := Scalar.extui v211
  let v213 : BitVec 32 := Scalar.subi v210 v212
  let c4_i32_89 : BitVec 32 := 4#32
  let c0_i32_92 : BitVec 32 := 0#32
  let v214 : BitVec 1 := Scalar.cmpi .sgt c4_i32_89 c0_i32_92
  let v215 : BitVec 32 := Scalar.extui v214
  let c0_i32_93 : BitVec 32 := 0#32
  let v216 : BitVec 1 := Scalar.cmpi .slt c4_i32_89 c0_i32_93
  let v217 : BitVec 32 := Scalar.extui v216
  let v218 : BitVec 32 := Scalar.subi v215 v217
  let v219 : BitVec 1 := Scalar.cmpi .ne v213 v218
  let v220 : BitVec 32 := Scalar.remsi c2_i32_75 c4_i32_89
  let c0_i32_94 : BitVec 32 := 0#32
  let v221 : BitVec 1 := Scalar.cmpi .ne v220 c0_i32_94
  let v222 : BitVec 1 := Scalar.andi v219 v221
  let v208 : BitVec 32 := Scalar.divsi c2_i32_75 c4_i32_89
  let c1_i32_95 : BitVec 32 := 1#32
  let v223 : BitVec 32 := Scalar.subi v208 c1_i32_95
  let v224 : BitVec 32 := Scalar.select v222 v223 v208
  let v225 : Index := Scalar.indexCast v224
  ![v225.toNat]
def k0_mult7 : BitVec 32 :=
  let c2_i32_75 : BitVec 32 := 2#32
  let c4_i32_96 : BitVec 32 := 4#32
  let v227 : BitVec 32 := Scalar.remsi c2_i32_75 c4_i32_96
  let c256_i32 : BitVec 32 := 256#32
  let v228 : BitVec 32 := Scalar.muli v227 c256_i32
  v228
def k0_mult8 : BitVec 32 :=
  let c1024_i32 : BitVec 32 := 1024#32
  let c2_i32_75 : BitVec 32 := 2#32
  let c4_i32_96 : BitVec 32 := 4#32
  let v227 : BitVec 32 := Scalar.remsi c2_i32_75 c4_i32_96
  let c256_i32_97 : BitVec 32 := 256#32
  let v230 : BitVec 32 := Scalar.muli v227 c256_i32_97
  let v231 : BitVec 32 := Scalar.addi c1024_i32 v230
  v231
def k0_mult9 : BitVec 32 :=
  let c2_i32_75 : BitVec 32 := 2#32
  let c4_i32_96 : BitVec 32 := 4#32
  let v227 : BitVec 32 := Scalar.remsi c2_i32_75 c4_i32_96
  let c256_i32_98 : BitVec 32 := 256#32
  let v233 : BitVec 32 := Scalar.muli v227 c256_i32_98
  v233
def k0_off27 : Fin 1 → Nat :=
  let c2_i32_75 : BitVec 32 := 2#32
  let c4_i32_88 : BitVec 32 := 4#32
  let v207 : BitVec 32 := Scalar.remsi c2_i32_75 c4_i32_88
  ![v207.toNat]
def k0_off28 : Fin 4 → Nat :=
  let c2_i32_75 : BitVec 32 := 2#32
  let c4_i32_88 : BitVec 32 := 4#32
  let v207 : BitVec 32 := Scalar.remsi c2_i32_75 c4_i32_88
  let c0_i32_99 : BitVec 32 := 0#32
  let c0_i32_100 : BitVec 32 := 0#32
  let c0_i32_101 : BitVec 32 := 0#32
  ![v207.toNat, 0, 0, 0]
def k0_off29 (v226 : BitVec 32) : Fin 3 → Nat :=
  let c0_i32_102 : BitVec 32 := 0#32
  let c2_i32_75 : BitVec 32 := 2#32
  let c4_i32_96 : BitVec 32 := 4#32
  let v227 : BitVec 32 := Scalar.remsi c2_i32_75 c4_i32_96
  let c256_i32 : BitVec 32 := 256#32
  let v228 : BitVec 32 := Scalar.muli v227 c256_i32
  let v229 : BitVec 32 := v228
  ![v226.toNat, 0, v229.toNat]
def k0_cond3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : BitVec 1 :=
  let c2_i32_74 : BitVec 32 := 2#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v190 : BitVec 1 := Scalar.cmpi .slt c2_i32_74 v183
  let v191 : BitVec 32 := Scalar.extui v190
  let c0_i32_76 : BitVec 32 := 0#32
  let v192 : BitVec 1 := Scalar.cmpi .ne v191 c0_i32_76
  v192

def k0_off30 : Fin 1 → Nat :=
  let c2_i32_75 : BitVec 32 := 2#32
  let c4_i32_88 : BitVec 32 := 4#32
  let v207 : BitVec 32 := Scalar.remsi c2_i32_75 c4_i32_88
  ![v207.toNat]
def k0_off31 : Fin 4 → Nat :=
  let c2_i32_75 : BitVec 32 := 2#32
  let c4_i32_88 : BitVec 32 := 4#32
  let v207 : BitVec 32 := Scalar.remsi c2_i32_75 c4_i32_88
  let c1_i32_103 : BitVec 32 := 1#32
  let c0_i32_104 : BitVec 32 := 0#32
  let c0_i32_105 : BitVec 32 := 0#32
  ![v207.toNat, 1, 0, 0]
def k0_off32 (v226 : BitVec 32) : Fin 3 → Nat :=
  let c0_i32_106 : BitVec 32 := 0#32
  let c1024_i32 : BitVec 32 := 1024#32
  let c2_i32_75 : BitVec 32 := 2#32
  let c4_i32_96 : BitVec 32 := 4#32
  let v227 : BitVec 32 := Scalar.remsi c2_i32_75 c4_i32_96
  let c256_i32_97 : BitVec 32 := 256#32
  let v230 : BitVec 32 := Scalar.muli v227 c256_i32_97
  let v231 : BitVec 32 := Scalar.addi c1024_i32 v230
  let v232 : BitVec 32 := v231
  ![v226.toNat, 0, v232.toNat]
def k0_off33 : Fin 3 → Nat :=
  let c2_i32_75 : BitVec 32 := 2#32
  let c4_i32_88 : BitVec 32 := 4#32
  let v207 : BitVec 32 := Scalar.remsi c2_i32_75 c4_i32_88
  let c0_i32_107 : BitVec 32 := 0#32
  let c0_i32_108 : BitVec 32 := 0#32
  ![v207.toNat, 0, 0]
def k0_off34 (v226 : BitVec 32) : Fin 3 → Nat :=
  let c2_i32_75 : BitVec 32 := 2#32
  let c4_i32_96 : BitVec 32 := 4#32
  let v227 : BitVec 32 := Scalar.remsi c2_i32_75 c4_i32_96
  let c256_i32_98 : BitVec 32 := 256#32
  let v233 : BitVec 32 := Scalar.muli v227 c256_i32_98
  let v234 : BitVec 32 := v233
  let c0_i32_109 : BitVec 32 := 0#32
  ![v226.toNat, v234.toNat, 0]

def k0_chk4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) : Prop :=
  (∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off29 v226) a + S1x5120x256.size a ≤ S8x5120x2048.size a) ∧
  (∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off29 v226) a + S1x5120x256.size a ≤ S8x5120x2048.size a), (Rect.unit (s := S8x5120x2048) (k0_off29 v226) S1x5120x256.size hinb).WholeWords (EltTy.packing .fp8e4m3)) ∧
  (∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off32 v226) a + S1x5120x256.size a ≤ S8x5120x2048.size a) ∧
  (∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off32 v226) a + S1x5120x256.size a ≤ S8x5120x2048.size a), (Rect.unit (s := S8x5120x2048) (k0_off32 v226) S1x5120x256.size hinb).WholeWords (EltTy.packing .fp8e4m3)) ∧
  (∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off34 v226) a + S1x256x5120.size a ≤ S8x1024x5120.size a) ∧
  (∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ (hinb : ∀ a, (k0_off34 v226) a + S1x256x5120.size a ≤ S8x1024x5120.size a), (Rect.unit (s := S8x1024x5120) (k0_off34 v226) S1x256x5120.size hinb).WholeWords (EltTy.packing .fp8e4m3))
theorem k0_off29_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw4 : k0_chk4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off29 v226) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3 => k0_hw4.1 k0_h3
theorem k0_off29_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw4 : k0_chk4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x5120x2048) (k0_off29 v226) S1x5120x256.size (k0_off29_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3 => k0_hw4.2.1 k0_h3 (k0_off29_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3)
theorem k0_off32_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw4 : k0_chk4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off32 v226) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3 => k0_hw4.2.2.1 k0_h3
theorem k0_off32_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw4 : k0_chk4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x5120x2048) (k0_off32 v226) S1x5120x256.size (k0_off32_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3 => k0_hw4.2.2.2.1 k0_h3 (k0_off32_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3)
theorem k0_off34_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw4 : k0_chk4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), ∀ a, (k0_off34 v226) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3 => k0_hw4.2.2.2.2.1 k0_h3
theorem k0_off34_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v226 : BitVec 32) (k0_hw4 : k0_chk4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226), ∀ (k0_h3 : k0_cond3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = 1#1), (Rect.unit (s := S8x1024x5120) (k0_off34 v226) S1x256x5120.size (k0_off34_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3 => k0_hw4.2.2.2.2.2 k0_h3 (k0_off34_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v226 k0_hw4 k0_h3)

@[reducible] def k0_t1_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Scf.Loop 32 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_82 : BitVec 32 := 1#32
  ⟨c0_i32_79, v201, c1_i32_82⟩
def k0_off35 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c0_i32_90 : BitVec 32 := 0#32
  let v209 : BitVec 1 := Scalar.cmpi .sgt arg18 c0_i32_90
  let v210 : BitVec 32 := Scalar.extui v209
  let c0_i32_91 : BitVec 32 := 0#32
  let v211 : BitVec 1 := Scalar.cmpi .slt arg18 c0_i32_91
  let v212 : BitVec 32 := Scalar.extui v211
  let v213 : BitVec 32 := Scalar.subi v210 v212
  let c4_i32_89 : BitVec 32 := 4#32
  let c0_i32_92 : BitVec 32 := 0#32
  let v214 : BitVec 1 := Scalar.cmpi .sgt c4_i32_89 c0_i32_92
  let v215 : BitVec 32 := Scalar.extui v214
  let c0_i32_93 : BitVec 32 := 0#32
  let v216 : BitVec 1 := Scalar.cmpi .slt c4_i32_89 c0_i32_93
  let v217 : BitVec 32 := Scalar.extui v216
  let v218 : BitVec 32 := Scalar.subi v215 v217
  let v219 : BitVec 1 := Scalar.cmpi .ne v213 v218
  let v220 : BitVec 32 := Scalar.remsi arg18 c4_i32_89
  let c0_i32_94 : BitVec 32 := 0#32
  let v221 : BitVec 1 := Scalar.cmpi .ne v220 c0_i32_94
  let v222 : BitVec 1 := Scalar.andi v219 v221
  let v208 : BitVec 32 := Scalar.divsi arg18 c4_i32_89
  let c1_i32_95 : BitVec 32 := 1#32
  let v223 : BitVec 32 := Scalar.subi v208 c1_i32_95
  let v224 : BitVec 32 := Scalar.select v222 v223 v208
  let v225 : Index := Scalar.indexCast v224
  ![v225.toNat]
def k0_off36 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c0_i32_1233 : BitVec 32 := 0#32
  let v2473 : BitVec 1 := Scalar.cmpi .sgt v229 c0_i32_1233
  let v2474 : BitVec 32 := Scalar.extui v2473
  let c0_i32_1234 : BitVec 32 := 0#32
  let v2475 : BitVec 1 := Scalar.cmpi .slt v229 c0_i32_1234
  let v2476 : BitVec 32 := Scalar.extui v2475
  let v2477 : BitVec 32 := Scalar.subi v2474 v2476
  let c4_i32_1232 : BitVec 32 := 4#32
  let c0_i32_1235 : BitVec 32 := 0#32
  let v2478 : BitVec 1 := Scalar.cmpi .sgt c4_i32_1232 c0_i32_1235
  let v2479 : BitVec 32 := Scalar.extui v2478
  let c0_i32_1236 : BitVec 32 := 0#32
  let v2480 : BitVec 1 := Scalar.cmpi .slt c4_i32_1232 c0_i32_1236
  let v2481 : BitVec 32 := Scalar.extui v2480
  let v2482 : BitVec 32 := Scalar.subi v2479 v2481
  let v2483 : BitVec 1 := Scalar.cmpi .ne v2477 v2482
  let v2484 : BitVec 32 := Scalar.remsi v229 c4_i32_1232
  let c0_i32_1237 : BitVec 32 := 0#32
  let v2485 : BitVec 1 := Scalar.cmpi .ne v2484 c0_i32_1237
  let v2486 : BitVec 1 := Scalar.andi v2483 v2485
  let v2472 : BitVec 32 := Scalar.divsi v229 c4_i32_1232
  let c1_i32_1238 : BitVec 32 := 1#32
  let v2487 : BitVec 32 := Scalar.subi v2472 c1_i32_1238
  let v2488 : BitVec 32 := Scalar.select v2486 v2487 v2472
  let v2489 : Index := Scalar.indexCast v2488
  ![v2489.toNat]
def k0_cond4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 1 :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v230 : BitVec 1 := Scalar.cmpi .slt v229 v183
  let v231 : BitVec 32 := Scalar.extui v230
  let c0_i32_99 : BitVec 32 := 0#32
  let v232 : BitVec 1 := Scalar.cmpi .ne v231 c0_i32_99
  v232

def k0_mult10 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1240 : BitVec 32 := 256#32
  let v2492 : BitVec 32 := Scalar.muli v2491 c256_i32_1240
  v2492
def k0_mult11 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c1024_i32_1242 : BitVec 32 := 1024#32
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1241 : BitVec 32 := 256#32
  let v2494 : BitVec 32 := Scalar.muli v2491 c256_i32_1241
  let v2495 : BitVec 32 := Scalar.addi c1024_i32_1242 v2494
  v2495
def k0_mult12 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1243 : BitVec 32 := 256#32
  let v2497 : BitVec 32 := Scalar.muli v2491 c256_i32_1243
  v2497
def k0_off37 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  ![v2471.toNat]
def k0_off38 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  let c0_i32_1244 : BitVec 32 := 0#32
  let c0_i32_1245 : BitVec 32 := 0#32
  let c0_i32_1246 : BitVec 32 := 0#32
  ![v2471.toNat, 0, 0, 0]
def k0_off39 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Fin 3 → Nat :=
  let c0_i32_1247 : BitVec 32 := 0#32
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1240 : BitVec 32 := 256#32
  let v2492 : BitVec 32 := Scalar.muli v2491 c256_i32_1240
  let v2493 : BitVec 32 := v2492
  ![v2490.toNat, 0, v2493.toNat]

def k0_off40 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  ![v2471.toNat]
def k0_off41 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  let c1_i32_1248 : BitVec 32 := 1#32
  let c0_i32_1249 : BitVec 32 := 0#32
  let c0_i32_1250 : BitVec 32 := 0#32
  ![v2471.toNat, 1, 0, 0]
def k0_off42 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Fin 3 → Nat :=
  let c0_i32_1251 : BitVec 32 := 0#32
  let c1024_i32_1242 : BitVec 32 := 1024#32
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1241 : BitVec 32 := 256#32
  let v2494 : BitVec 32 := Scalar.muli v2491 c256_i32_1241
  let v2495 : BitVec 32 := Scalar.addi c1024_i32_1242 v2494
  let v2496 : BitVec 32 := v2495
  ![v2490.toNat, 0, v2496.toNat]
def k0_off43 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  let c0_i32_1252 : BitVec 32 := 0#32
  let c0_i32_1253 : BitVec 32 := 0#32
  ![v2471.toNat, 0, 0]
def k0_off44 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Fin 3 → Nat :=
  let c0_i32_79 : BitVec 32 := 0#32
  let c1_i32_82 : BitVec 32 := 1#32
  let arg18 : BitVec 32 := Scf.iv c0_i32_79 c1_i32_82 k0_t1
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1243 : BitVec 32 := 256#32
  let v2497 : BitVec 32 := Scalar.muli v2491 c256_i32_1243
  let v2498 : BitVec 32 := v2497
  let c0_i32_1254 : BitVec 32 := 0#32
  ![v2490.toNat, v2498.toNat, 0]

def k0_chk5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Prop :=
  (∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x5120x256.size a ≤ S8x5120x2048.size a) ∧
  (∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x5120x256.size a ≤ S8x5120x2048.size a), (Rect.unit (s := S8x5120x2048) (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) S1x5120x256.size hinb).WholeWords (EltTy.packing .fp8e4m3)) ∧
  (∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x5120x256.size a ≤ S8x5120x2048.size a) ∧
  (∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x5120x256.size a ≤ S8x5120x2048.size a), (Rect.unit (s := S8x5120x2048) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) S1x5120x256.size hinb).WholeWords (EltTy.packing .fp8e4m3)) ∧
  (∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x256x5120.size a ≤ S8x1024x5120.size a) ∧
  (∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x256x5120.size a ≤ S8x1024x5120.size a), (Rect.unit (s := S8x1024x5120) (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) S1x256x5120.size hinb).WholeWords (EltTy.packing .fp8e4m3))
theorem k0_off39_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4 => k0_hw5.1 k0_h4
theorem k0_off39_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S8x5120x2048) (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) S1x5120x256.size (k0_off39_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4 => k0_hw5.2.1 k0_h4 (k0_off39_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4)
theorem k0_off42_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4 => k0_hw5.2.2.1 k0_h4
theorem k0_off42_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S8x5120x2048) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) S1x5120x256.size (k0_off42_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4 => k0_hw5.2.2.2.1 k0_h4 (k0_off42_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4)
theorem k0_off44_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4 => k0_hw5.2.2.2.2.1 k0_h4
theorem k0_off44_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S8x1024x5120) (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490) S1x256x5120.size (k0_off44_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4 => k0_hw5.2.2.2.2.2 k0_h4 (k0_off44_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v2490 k0_hw5 k0_h4)

def k0_cond5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 1 :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c0_i32_100 : BitVec 32 := 0#32
  let v233 : BitVec 1 := Scalar.cmpi .eq v227 c0_i32_100
  let v234 : BitVec 32 := Scalar.extui v233
  let c0_i32_101 : BitVec 32 := 0#32
  let v235 : BitVec 1 := Scalar.cmpi .ne v234 c0_i32_101
  v235

def k0_off45 (v226 : BitVec 32) : Fin 3 → Nat :=
  let v2471 : Index := Scalar.indexCast v226
  let c0_1231 : Index := 0#32
  let c0_1232 : Index := 0#32
  ![v2471.toNat, 0, 0]

def k0_off46 (v226 : BitVec 32) : Fin 3 → Nat :=
  let v2481 : Index := Scalar.indexCast v226
  let c0_1236 : Index := 0#32
  let c1_1237 : Index := 1#32
  ![v2481.toNat, 0, 1]
def k0_off47 (v226 : BitVec 32) : Fin 3 → Nat :=
  let v2491 : Index := Scalar.indexCast v226
  let c0_1241 : Index := 0#32
  let c2_1242 : Index := 2#32
  ![v2491.toNat, 0, 2]
def k0_off48 (v226 : BitVec 32) : Fin 3 → Nat :=
  let v2501 : Index := Scalar.indexCast v226
  let c0_1246 : Index := 0#32
  let c3_1247 : Index := 3#32
  ![v2501.toNat, 0, 3]
def k0_off49 (v226 : BitVec 32) : Fin 3 → Nat :=
  let v2511 : Index := Scalar.indexCast v226
  let c0_1251 : Index := 0#32
  let c4_1252 : Index := 4#32
  ![v2511.toNat, 0, 4]
def k0_off50 (v226 : BitVec 32) : Fin 3 → Nat :=
  let v2521 : Index := Scalar.indexCast v226
  let c0_1256 : Index := 0#32
  let c5_1257 : Index := 5#32
  ![v2521.toNat, 0, 5]
def k0_off51 (v226 : BitVec 32) : Fin 3 → Nat :=
  let v2531 : Index := Scalar.indexCast v226
  let c0_1261 : Index := 0#32
  let c6_1262 : Index := 6#32
  ![v2531.toNat, 0, 6]
def k0_off52 (v226 : BitVec 32) : Fin 3 → Nat :=
  let v2541 : Index := Scalar.indexCast v226
  let c0_1266 : Index := 0#32
  let c7_1267 : Index := 7#32
  ![v2541.toNat, 0, 7]
def k0_off53 (v226 : BitVec 32) : Fin 3 → Nat :=
  let v2551 : Index := Scalar.indexCast v226
  let c0_1271 : Index := 0#32
  let c8_1272 : Index := 8#32
  ![v2551.toNat, 0, 8]
def k0_off54 (v226 : BitVec 32) : Fin 3 → Nat :=
  let v2561 : Index := Scalar.indexCast v226
  let c0_1276 : Index := 0#32
  let c9_1277 : Index := 9#32
  ![v2561.toNat, 0, 9]
def k0_off55 (v226 : BitVec 32) : Fin 3 → Nat :=
  let v2571 : Index := Scalar.indexCast v226
  let c0_1281 : Index := 0#32
  let c10_1282 : Index := 10#32
  ![v2571.toNat, 0, 10]
def k0_off56 (v226 : BitVec 32) : Fin 3 → Nat :=
  let v2581 : Index := Scalar.indexCast v226
  let c0_1286 : Index := 0#32
  let c11_1287 : Index := 11#32
  ![v2581.toNat, 0, 11]
def k0_off57 (v226 : BitVec 32) : Fin 3 → Nat :=
  let v2591 : Index := Scalar.indexCast v226
  let c0_1291 : Index := 0#32
  let c12_1292 : Index := 12#32
  ![v2591.toNat, 0, 12]
def k0_off58 (v226 : BitVec 32) : Fin 3 → Nat :=
  let v2601 : Index := Scalar.indexCast v226
  let c0_1296 : Index := 0#32
  let c13_1297 : Index := 13#32
  ![v2601.toNat, 0, 13]
def k0_off59 (v226 : BitVec 32) : Fin 3 → Nat :=
  let v2611 : Index := Scalar.indexCast v226
  let c0_1301 : Index := 0#32
  let c14_1302 : Index := 14#32
  ![v2611.toNat, 0, 14]
def k0_off60 (v226 : BitVec 32) : Fin 3 → Nat :=
  let v2621 : Index := Scalar.indexCast v226
  let c0_1306 : Index := 0#32
  let c15_1307 : Index := 15#32
  ![v2621.toNat, 0, 15]
def k0_off61 (v226 : BitVec 32) : Fin 3 → Nat :=
  let v2631 : Index := Scalar.indexCast v226
  let c0_1311 : Index := 0#32
  let c0_1312 : Index := 0#32
  ![v2631.toNat, 0, 0]
def k0_off62 (v226 : BitVec 32) : Fin 3 → Nat :=
  let v2641 : Index := Scalar.indexCast v226
  let c0_1315 : Index := 0#32
  let c1_1316 : Index := 1#32
  ![v2641.toNat, 0, 1]
def k0_off63 (v226 : BitVec 32) : Fin 3 → Nat :=
  let v2651 : Index := Scalar.indexCast v226
  let c0_1319 : Index := 0#32
  let c2_1320 : Index := 2#32
  ![v2651.toNat, 0, 2]
def k0_off64 (v226 : BitVec 32) : Fin 3 → Nat :=
  let v2661 : Index := Scalar.indexCast v226
  let c0_1323 : Index := 0#32
  let c3_1324 : Index := 3#32
  ![v2661.toNat, 0, 3]
def k0_off65 (v226 : BitVec 32) : Fin 3 → Nat :=
  let v2671 : Index := Scalar.indexCast v226
  let c0_1327 : Index := 0#32
  let c4_1328 : Index := 4#32
  ![v2671.toNat, 0, 4]
def k0_off66 (v226 : BitVec 32) : Fin 3 → Nat :=
  let v2681 : Index := Scalar.indexCast v226
  let c0_1331 : Index := 0#32
  let c5_1332 : Index := 5#32
  ![v2681.toNat, 0, 5]
def k0_off67 (v226 : BitVec 32) : Fin 3 → Nat :=
  let v2691 : Index := Scalar.indexCast v226
  let c0_1335 : Index := 0#32
  let c6_1336 : Index := 6#32
  ![v2691.toNat, 0, 6]
def k0_off68 (v226 : BitVec 32) : Fin 3 → Nat :=
  let v2701 : Index := Scalar.indexCast v226
  let c0_1339 : Index := 0#32
  let c7_1340 : Index := 7#32
  ![v2701.toNat, 0, 7]
def k0_off69 (v226 : BitVec 32) : Fin 3 → Nat :=
  let v2711 : Index := Scalar.indexCast v226
  let c0_1343 : Index := 0#32
  let c8_1344 : Index := 8#32
  ![v2711.toNat, 0, 8]
def k0_off70 (v226 : BitVec 32) : Fin 3 → Nat :=
  let v2721 : Index := Scalar.indexCast v226
  let c0_1347 : Index := 0#32
  let c9_1348 : Index := 9#32
  ![v2721.toNat, 0, 9]
def k0_off71 (v226 : BitVec 32) : Fin 3 → Nat :=
  let v2731 : Index := Scalar.indexCast v226
  let c0_1351 : Index := 0#32
  let c10_1352 : Index := 10#32
  ![v2731.toNat, 0, 10]
def k0_off72 (v226 : BitVec 32) : Fin 3 → Nat :=
  let v2741 : Index := Scalar.indexCast v226
  let c0_1355 : Index := 0#32
  let c11_1356 : Index := 11#32
  ![v2741.toNat, 0, 11]
def k0_off73 (v226 : BitVec 32) : Fin 3 → Nat :=
  let v2751 : Index := Scalar.indexCast v226
  let c0_1359 : Index := 0#32
  let c12_1360 : Index := 12#32
  ![v2751.toNat, 0, 12]
def k0_off74 (v226 : BitVec 32) : Fin 3 → Nat :=
  let v2761 : Index := Scalar.indexCast v226
  let c0_1363 : Index := 0#32
  let c13_1364 : Index := 13#32
  ![v2761.toNat, 0, 13]
def k0_off75 (v226 : BitVec 32) : Fin 3 → Nat :=
  let v2771 : Index := Scalar.indexCast v226
  let c0_1367 : Index := 0#32
  let c14_1368 : Index := 14#32
  ![v2771.toNat, 0, 14]
def k0_off76 (v226 : BitVec 32) : Fin 3 → Nat :=
  let v2781 : Index := Scalar.indexCast v226
  let c0_1371 : Index := 0#32
  let c15_1372 : Index := 15#32
  ![v2781.toNat, 0, 15]
def k0_off77 (v226 : BitVec 32) : Fin 3 → Nat :=
  let v2791 : Index := Scalar.indexCast v226
  let c0_1375 : Index := 0#32
  let c16_1376 : Index := 16#32
  ![v2791.toNat, 0, 16]
def k0_off78 (v226 : BitVec 32) : Fin 3 → Nat :=
  let v2801 : Index := Scalar.indexCast v226
  let c0_1379 : Index := 0#32
  let c17_1380 : Index := 17#32
  ![v2801.toNat, 0, 17]
def k0_off79 (v226 : BitVec 32) : Fin 3 → Nat :=
  let v2811 : Index := Scalar.indexCast v226
  let c0_1383 : Index := 0#32
  let c18_1384 : Index := 18#32
  ![v2811.toNat, 0, 18]
def k0_off80 (v226 : BitVec 32) : Fin 3 → Nat :=
  let v2821 : Index := Scalar.indexCast v226
  let c0_1387 : Index := 0#32
  let c19_1388 : Index := 19#32
  ![v2821.toNat, 0, 19]
def k0_off81 (v226 : BitVec 32) : Fin 3 → Nat :=
  let v2831 : Index := Scalar.indexCast v226
  let c0_1391 : Index := 0#32
  let c20_1392 : Index := 20#32
  ![v2831.toNat, 0, 20]
def k0_off82 (v226 : BitVec 32) : Fin 3 → Nat :=
  let v2841 : Index := Scalar.indexCast v226
  let c0_1395 : Index := 0#32
  let c21_1396 : Index := 21#32
  ![v2841.toNat, 0, 21]
def k0_off83 (v226 : BitVec 32) : Fin 3 → Nat :=
  let v2851 : Index := Scalar.indexCast v226
  let c0_1399 : Index := 0#32
  let c22_1400 : Index := 22#32
  ![v2851.toNat, 0, 22]
def k0_off84 (v226 : BitVec 32) : Fin 3 → Nat :=
  let v2861 : Index := Scalar.indexCast v226
  let c0_1403 : Index := 0#32
  let c23_1404 : Index := 23#32
  ![v2861.toNat, 0, 23]
def k0_off85 (v226 : BitVec 32) : Fin 3 → Nat :=
  let v2871 : Index := Scalar.indexCast v226
  let c0_1407 : Index := 0#32
  let c24_1408 : Index := 24#32
  ![v2871.toNat, 0, 24]
def k0_off86 (v226 : BitVec 32) : Fin 3 → Nat :=
  let v2881 : Index := Scalar.indexCast v226
  let c0_1411 : Index := 0#32
  let c25_1412 : Index := 25#32
  ![v2881.toNat, 0, 25]
def k0_off87 (v226 : BitVec 32) : Fin 3 → Nat :=
  let v2891 : Index := Scalar.indexCast v226
  let c0_1415 : Index := 0#32
  let c26_1416 : Index := 26#32
  ![v2891.toNat, 0, 26]
def k0_off88 (v226 : BitVec 32) : Fin 3 → Nat :=
  let v2901 : Index := Scalar.indexCast v226
  let c0_1419 : Index := 0#32
  let c27_1420 : Index := 27#32
  ![v2901.toNat, 0, 27]
def k0_off89 (v226 : BitVec 32) : Fin 3 → Nat :=
  let v2911 : Index := Scalar.indexCast v226
  let c0_1423 : Index := 0#32
  let c28_1424 : Index := 28#32
  ![v2911.toNat, 0, 28]
def k0_off90 (v226 : BitVec 32) : Fin 3 → Nat :=
  let v2921 : Index := Scalar.indexCast v226
  let c0_1427 : Index := 0#32
  let c29_1428 : Index := 29#32
  ![v2921.toNat, 0, 29]
def k0_off91 (v226 : BitVec 32) : Fin 3 → Nat :=
  let v2931 : Index := Scalar.indexCast v226
  let c0_1431 : Index := 0#32
  let c30_1432 : Index := 30#32
  ![v2931.toNat, 0, 30]
def k0_off92 (v226 : BitVec 32) : Fin 3 → Nat :=
  let v2941 : Index := Scalar.indexCast v226
  let c0_1435 : Index := 0#32
  let c31_1436 : Index := 31#32
  ![v2941.toNat, 0, 31]
def k0_off93 (v226 : BitVec 32) : Fin 3 → Nat :=
  let v2951 : Index := Scalar.indexCast v226
  let c0_1439 : Index := 0#32
  let c32_1440 : Index := 32#32
  ![v2951.toNat, 0, 32]
def k0_off94 (v226 : BitVec 32) : Fin 3 → Nat :=
  let v2961 : Index := Scalar.indexCast v226
  let c0_1443 : Index := 0#32
  let c33_1444 : Index := 33#32
  ![v2961.toNat, 0, 33]
def k0_off95 (v226 : BitVec 32) : Fin 3 → Nat :=
  let v2971 : Index := Scalar.indexCast v226
  let c0_1447 : Index := 0#32
  let c34_1448 : Index := 34#32
  ![v2971.toNat, 0, 34]
def k0_off96 (v226 : BitVec 32) : Fin 3 → Nat :=
  let v2981 : Index := Scalar.indexCast v226
  let c0_1451 : Index := 0#32
  let c35_1452 : Index := 35#32
  ![v2981.toNat, 0, 35]
def k0_off97 (v226 : BitVec 32) : Fin 3 → Nat :=
  let v2991 : Index := Scalar.indexCast v226
  let c0_1455 : Index := 0#32
  let c36_1456 : Index := 36#32
  ![v2991.toNat, 0, 36]
def k0_off98 (v226 : BitVec 32) : Fin 3 → Nat :=
  let v3001 : Index := Scalar.indexCast v226
  let c0_1459 : Index := 0#32
  let c37_1460 : Index := 37#32
  ![v3001.toNat, 0, 37]
def k0_off99 (v226 : BitVec 32) : Fin 3 → Nat :=
  let v3011 : Index := Scalar.indexCast v226
  let c0_1463 : Index := 0#32
  let c38_1464 : Index := 38#32
  ![v3011.toNat, 0, 38]
def k0_off100 (v226 : BitVec 32) : Fin 3 → Nat :=
  let v3021 : Index := Scalar.indexCast v226
  let c0_1467 : Index := 0#32
  let c39_1468 : Index := 39#32
  ![v3021.toNat, 0, 39]

def k0_chk6_0 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) : Prop :=
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off45 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off46 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off47 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off48 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off49 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off50 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off51 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off52 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off53 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off54 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off55 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off56 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off57 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off58 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off59 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off60 v226) a + S1x40x1.size a ≤ S8x40x16.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off61 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off62 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off63 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off64 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off65 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off66 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off67 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off68 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off69 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off70 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off71 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off72 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off73 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off74 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off75 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off76 v226) a + S1x8x1.size a ≤ S8x8x40.size a)
def k0_chk6_1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) : Prop :=
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off77 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off78 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off79 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off80 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off81 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off82 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off83 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off84 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off85 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off86 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off87 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off88 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off89 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off90 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off91 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off92 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off93 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off94 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off95 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off96 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off97 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off98 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off99 v226) a + S1x8x1.size a ≤ S8x8x40.size a) ∧
  (∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off100 v226) a + S1x8x1.size a ≤ S8x8x40.size a)
def k0_chk6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) : Prop :=
  k0_chk6_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 ∧
  k0_chk6_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226
theorem k0_off45_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off45 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.1 k0_h5
theorem k0_off46_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off46 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.1 k0_h5
theorem k0_off47_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off47 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.1 k0_h5
theorem k0_off48_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off48 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.1 k0_h5
theorem k0_off49_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off49 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.1 k0_h5
theorem k0_off50_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off50 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.1 k0_h5
theorem k0_off51_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off51 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.1 k0_h5
theorem k0_off52_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off52 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.1 k0_h5
theorem k0_off53_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off53 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.1 k0_h5
theorem k0_off54_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off54 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.1 k0_h5
theorem k0_off55_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off55 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.1 k0_h5
theorem k0_off56_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off56 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.1 k0_h5
theorem k0_off57_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off57 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.1 k0_h5
theorem k0_off58_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off58 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.1 k0_h5
theorem k0_off59_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off59 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.1 k0_h5
theorem k0_off60_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off60 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.1 k0_h5
theorem k0_off61_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off61 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.1 k0_h5
theorem k0_off62_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off62 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.1 k0_h5
theorem k0_off63_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off63 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.1 k0_h5
theorem k0_off64_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off64 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.1 k0_h5
theorem k0_off65_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off65 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.1 k0_h5
theorem k0_off66_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off66 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.1 k0_h5
theorem k0_off67_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off67 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.1 k0_h5
theorem k0_off68_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off68 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.1 k0_h5
theorem k0_off69_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off69 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.1 k0_h5
theorem k0_off70_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off70 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.1 k0_h5
theorem k0_off71_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off71 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.2.1 k0_h5
theorem k0_off72_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off72 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.2.2.1 k0_h5
theorem k0_off73_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off73 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.2.2.2.1 k0_h5
theorem k0_off74_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off74 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.2.2.2.2.1 k0_h5
theorem k0_off75_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off75 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.2.2.2.2.2.1 k0_h5
theorem k0_off76_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off76 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.1.2.2.2.2.2.2.2.2.2.2.2.2.2.2.2.2.2.2.2.2.2.2.2.2.2.2.2.2.2.2.2 k0_h5
theorem k0_off77_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off77 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.1 k0_h5
theorem k0_off78_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off78 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.1 k0_h5
theorem k0_off79_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off79 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.1 k0_h5
theorem k0_off80_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off80 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.1 k0_h5
theorem k0_off81_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off81 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.1 k0_h5
theorem k0_off82_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off82 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.1 k0_h5
theorem k0_off83_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off83 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.1 k0_h5
theorem k0_off84_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off84 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.1 k0_h5
theorem k0_off85_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off85 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.1 k0_h5
theorem k0_off86_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off86 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.1 k0_h5
theorem k0_off87_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off87 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.1 k0_h5
theorem k0_off88_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off88 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.1 k0_h5
theorem k0_off89_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off89 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.1 k0_h5
theorem k0_off90_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off90 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.1 k0_h5
theorem k0_off91_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off91 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.1 k0_h5
theorem k0_off92_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off92 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.1 k0_h5
theorem k0_off93_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off93 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.1 k0_h5
theorem k0_off94_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off94 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.1 k0_h5
theorem k0_off95_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off95 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.2.1 k0_h5
theorem k0_off96_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off96 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.2.2.1 k0_h5
theorem k0_off97_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off97 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.2.2.2.1 k0_h5
theorem k0_off98_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off98 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.2.2.2.2.1 k0_h5
theorem k0_off99_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off99 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.2.2.2.2.2.1 k0_h5
theorem k0_off100_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226), ∀ (k0_h5 : k0_cond5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off100 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v226 k0_hw6 k0_h5 => k0_hw6.2.2.2.2.2.2.2.2.2.2.2.2.2.2.2.2.2.2.2.2.2.2.2.2 k0_h5

def k0_off101 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c0_i32_104 : BitVec 32 := 0#32
  let v238 : BitVec 1 := Scalar.cmpi .sgt arg18 c0_i32_104
  let v239 : BitVec 32 := Scalar.extui v238
  let c0_i32_105 : BitVec 32 := 0#32
  let v240 : BitVec 1 := Scalar.cmpi .slt arg18 c0_i32_105
  let v241 : BitVec 32 := Scalar.extui v240
  let v242 : BitVec 32 := Scalar.subi v239 v241
  let c4_i32_103 : BitVec 32 := 4#32
  let c0_i32_106 : BitVec 32 := 0#32
  let v243 : BitVec 1 := Scalar.cmpi .sgt c4_i32_103 c0_i32_106
  let v244 : BitVec 32 := Scalar.extui v243
  let c0_i32_107 : BitVec 32 := 0#32
  let v245 : BitVec 1 := Scalar.cmpi .slt c4_i32_103 c0_i32_107
  let v246 : BitVec 32 := Scalar.extui v245
  let v247 : BitVec 32 := Scalar.subi v244 v246
  let v248 : BitVec 1 := Scalar.cmpi .ne v242 v247
  let v249 : BitVec 32 := Scalar.remsi arg18 c4_i32_103
  let c0_i32_108 : BitVec 32 := 0#32
  let v250 : BitVec 1 := Scalar.cmpi .ne v249 c0_i32_108
  let v251 : BitVec 1 := Scalar.andi v248 v250
  let v237 : BitVec 32 := Scalar.divsi arg18 c4_i32_103
  let c1_i32_109 : BitVec 32 := 1#32
  let v252 : BitVec 32 := Scalar.subi v237 c1_i32_109
  let v253 : BitVec 32 := Scalar.select v251 v252 v237
  let v254 : Index := Scalar.indexCast v253
  ![v254.toNat]
def k0_mult13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c1_i32_82 : BitVec 32 := 1#32
  let arg18 : BitVec 32 := Scf.iv c0_i32_79 c1_i32_82 k0_t1
  let c4_i32_110 : BitVec 32 := 4#32
  let v256 : BitVec 32 := Scalar.remsi arg18 c4_i32_110
  let c256_i32 : BitVec 32 := 256#32
  let v257 : BitVec 32 := Scalar.muli v256 c256_i32
  v257
def k0_mult14 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c1024_i32 : BitVec 32 := 1024#32
  let c0_i32_79 : BitVec 32 := 0#32
  let c1_i32_82 : BitVec 32 := 1#32
  let arg18 : BitVec 32 := Scf.iv c0_i32_79 c1_i32_82 k0_t1
  let c4_i32_110 : BitVec 32 := 4#32
  let v256 : BitVec 32 := Scalar.remsi arg18 c4_i32_110
  let c256_i32_111 : BitVec 32 := 256#32
  let v259 : BitVec 32 := Scalar.muli v256 c256_i32_111
  let v260 : BitVec 32 := Scalar.addi c1024_i32 v259
  v260
def k0_mult15 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c1_i32_82 : BitVec 32 := 1#32
  let arg18 : BitVec 32 := Scf.iv c0_i32_79 c1_i32_82 k0_t1
  let c4_i32_110 : BitVec 32 := 4#32
  let v256 : BitVec 32 := Scalar.remsi arg18 c4_i32_110
  let c256_i32_112 : BitVec 32 := 256#32
  let v262 : BitVec 32 := Scalar.muli v256 c256_i32_112
  v262
def k0_off102 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c4_i32_102 : BitVec 32 := 4#32
  let v236 : BitVec 32 := Scalar.remsi arg18 c4_i32_102
  ![v236.toNat]
def k0_off103 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_102 : BitVec 32 := 4#32
  let v236 : BitVec 32 := Scalar.remsi arg18 c4_i32_102
  let c0_i32_113 : BitVec 32 := 0#32
  let c0_i32_114 : BitVec 32 := 0#32
  let c0_i32_115 : BitVec 32 := 0#32
  ![v236.toNat, 0, 0, 0]
def k0_off104 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Fin 3 → Nat :=
  let c0_i32_116 : BitVec 32 := 0#32
  let c0_i32_79 : BitVec 32 := 0#32
  let c1_i32_82 : BitVec 32 := 1#32
  let arg18 : BitVec 32 := Scf.iv c0_i32_79 c1_i32_82 k0_t1
  let c4_i32_110 : BitVec 32 := 4#32
  let v256 : BitVec 32 := Scalar.remsi arg18 c4_i32_110
  let c256_i32 : BitVec 32 := 256#32
  let v257 : BitVec 32 := Scalar.muli v256 c256_i32
  let v258 : BitVec 32 := v257
  ![v255.toNat, 0, v258.toNat]

def k0_off105 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c1_i32_82 : BitVec 32 := 1#32
  let arg18 : BitVec 32 := Scf.iv c0_i32_79 c1_i32_82 k0_t1
  let c4_i32_102 : BitVec 32 := 4#32
  let v236 : BitVec 32 := Scalar.remsi arg18 c4_i32_102
  ![v236.toNat]
def k0_off106 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_102 : BitVec 32 := 4#32
  let v236 : BitVec 32 := Scalar.remsi arg18 c4_i32_102
  let c1_i32_117 : BitVec 32 := 1#32
  let c0_i32_118 : BitVec 32 := 0#32
  let c0_i32_119 : BitVec 32 := 0#32
  ![v236.toNat, 1, 0, 0]
def k0_off107 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Fin 3 → Nat :=
  let c0_i32_120 : BitVec 32 := 0#32
  let c1024_i32 : BitVec 32 := 1024#32
  let c0_i32_79 : BitVec 32 := 0#32
  let c1_i32_82 : BitVec 32 := 1#32
  let arg18 : BitVec 32 := Scf.iv c0_i32_79 c1_i32_82 k0_t1
  let c4_i32_110 : BitVec 32 := 4#32
  let v256 : BitVec 32 := Scalar.remsi arg18 c4_i32_110
  let c256_i32_111 : BitVec 32 := 256#32
  let v259 : BitVec 32 := Scalar.muli v256 c256_i32_111
  let v260 : BitVec 32 := Scalar.addi c1024_i32 v259
  let v261 : BitVec 32 := v260
  ![v255.toNat, 0, v261.toNat]
def k0_off108 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_123 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v278 : BitVec 32 := Scalar.addi v277 c0_i32_123
  let v279 : Index := Scalar.indexCast v278
  let c0_124 : Index := 0#32
  let c0_125 : Index := 0#32
  ![v279.toNat, 0, 0]
def k0_off109 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v287 : Index := Scalar.indexCast v207
  let c0_129 : Index := 0#32
  let c0_130 : Index := 0#32
  let c0_131 : Index := 0#32
  ![v287.toNat, 0, 0, 0]
def k0_off110 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_132 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v295 : BitVec 32 := Scalar.addi v277 c0_i32_132
  let v296 : Index := Scalar.indexCast v295
  let c1_133 : Index := 1#32
  let c0_134 : Index := 0#32
  ![v296.toNat, 1, 0]
def k0_off111 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v304 : Index := Scalar.indexCast v207
  let c0_138 : Index := 0#32
  let c128 : Index := 128#32
  let c0_139 : Index := 0#32
  ![v304.toNat, 0, 128, 0]
def k0_off112 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_143 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v316 : BitVec 32 := Scalar.addi v277 c0_i32_143
  let v317 : Index := Scalar.indexCast v316
  let c2_144 : Index := 2#32
  let c0_145 : Index := 0#32
  ![v317.toNat, 2, 0]
def k0_off113 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v325 : Index := Scalar.indexCast v207
  let c0_149 : Index := 0#32
  let c256 : Index := 256#32
  let c0_150 : Index := 0#32
  ![v325.toNat, 0, 256, 0]
def k0_off114 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_151 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v333 : BitVec 32 := Scalar.addi v277 c0_i32_151
  let v334 : Index := Scalar.indexCast v333
  let c3_152 : Index := 3#32
  let c0_153 : Index := 0#32
  ![v334.toNat, 3, 0]
def k0_off115 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v342 : Index := Scalar.indexCast v207
  let c0_157 : Index := 0#32
  let c384 : Index := 384#32
  let c0_158 : Index := 0#32
  ![v342.toNat, 0, 384, 0]
def k0_off116 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_162 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v355 : BitVec 32 := Scalar.addi v277 c0_i32_162
  let v356 : Index := Scalar.indexCast v355
  let c4_163 : Index := 4#32
  let c0_164 : Index := 0#32
  ![v356.toNat, 4, 0]
def k0_off117 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v364 : Index := Scalar.indexCast v207
  let c0_168 : Index := 0#32
  let c512 : Index := 512#32
  let c0_169 : Index := 0#32
  ![v364.toNat, 0, 512, 0]
def k0_off118 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_170 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v372 : BitVec 32 := Scalar.addi v277 c0_i32_170
  let v373 : Index := Scalar.indexCast v372
  let c5_171 : Index := 5#32
  let c0_172 : Index := 0#32
  ![v373.toNat, 5, 0]
def k0_off119 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v381 : Index := Scalar.indexCast v207
  let c0_176 : Index := 0#32
  let c640 : Index := 640#32
  let c0_177 : Index := 0#32
  ![v381.toNat, 0, 640, 0]
def k0_off120 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_181 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v394 : BitVec 32 := Scalar.addi v277 c0_i32_181
  let v395 : Index := Scalar.indexCast v394
  let c6_182 : Index := 6#32
  let c0_183 : Index := 0#32
  ![v395.toNat, 6, 0]
def k0_off121 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v403 : Index := Scalar.indexCast v207
  let c0_187 : Index := 0#32
  let c768 : Index := 768#32
  let c0_188 : Index := 0#32
  ![v403.toNat, 0, 768, 0]
def k0_off122 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_189 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v411 : BitVec 32 := Scalar.addi v277 c0_i32_189
  let v412 : Index := Scalar.indexCast v411
  let c7_190 : Index := 7#32
  let c0_191 : Index := 0#32
  ![v412.toNat, 7, 0]
def k0_off123 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v420 : Index := Scalar.indexCast v207
  let c0_195 : Index := 0#32
  let c896 : Index := 896#32
  let c0_196 : Index := 0#32
  ![v420.toNat, 0, 896, 0]
def k0_off124 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_200 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v433 : BitVec 32 := Scalar.addi v277 c0_i32_200
  let v434 : Index := Scalar.indexCast v433
  let c8_201 : Index := 8#32
  let c0_202 : Index := 0#32
  ![v434.toNat, 8, 0]
def k0_off125 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v442 : Index := Scalar.indexCast v207
  let c0_206 : Index := 0#32
  let c1024 : Index := 1024#32
  let c0_207 : Index := 0#32
  ![v442.toNat, 0, 1024, 0]
def k0_off126 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_208 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v450 : BitVec 32 := Scalar.addi v277 c0_i32_208
  let v451 : Index := Scalar.indexCast v450
  let c9_209 : Index := 9#32
  let c0_210 : Index := 0#32
  ![v451.toNat, 9, 0]
def k0_off127 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v459 : Index := Scalar.indexCast v207
  let c0_214 : Index := 0#32
  let c1152 : Index := 1152#32
  let c0_215 : Index := 0#32
  ![v459.toNat, 0, 1152, 0]
def k0_off128 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_219 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v472 : BitVec 32 := Scalar.addi v277 c0_i32_219
  let v473 : Index := Scalar.indexCast v472
  let c10_220 : Index := 10#32
  let c0_221 : Index := 0#32
  ![v473.toNat, 10, 0]
def k0_off129 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v481 : Index := Scalar.indexCast v207
  let c0_225 : Index := 0#32
  let c1280 : Index := 1280#32
  let c0_226 : Index := 0#32
  ![v481.toNat, 0, 1280, 0]
def k0_off130 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_227 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v489 : BitVec 32 := Scalar.addi v277 c0_i32_227
  let v490 : Index := Scalar.indexCast v489
  let c11_228 : Index := 11#32
  let c0_229 : Index := 0#32
  ![v490.toNat, 11, 0]
def k0_off131 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v498 : Index := Scalar.indexCast v207
  let c0_233 : Index := 0#32
  let c1408 : Index := 1408#32
  let c0_234 : Index := 0#32
  ![v498.toNat, 0, 1408, 0]
def k0_off132 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_238 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v511 : BitVec 32 := Scalar.addi v277 c0_i32_238
  let v512 : Index := Scalar.indexCast v511
  let c12_239 : Index := 12#32
  let c0_240 : Index := 0#32
  ![v512.toNat, 12, 0]
def k0_off133 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v520 : Index := Scalar.indexCast v207
  let c0_244 : Index := 0#32
  let c1536 : Index := 1536#32
  let c0_245 : Index := 0#32
  ![v520.toNat, 0, 1536, 0]
def k0_off134 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_246 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v528 : BitVec 32 := Scalar.addi v277 c0_i32_246
  let v529 : Index := Scalar.indexCast v528
  let c13_247 : Index := 13#32
  let c0_248 : Index := 0#32
  ![v529.toNat, 13, 0]
def k0_off135 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v537 : Index := Scalar.indexCast v207
  let c0_252 : Index := 0#32
  let c1664 : Index := 1664#32
  let c0_253 : Index := 0#32
  ![v537.toNat, 0, 1664, 0]
def k0_off136 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_257 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v550 : BitVec 32 := Scalar.addi v277 c0_i32_257
  let v551 : Index := Scalar.indexCast v550
  let c14_258 : Index := 14#32
  let c0_259 : Index := 0#32
  ![v551.toNat, 14, 0]
def k0_off137 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v559 : Index := Scalar.indexCast v207
  let c0_263 : Index := 0#32
  let c1792 : Index := 1792#32
  let c0_264 : Index := 0#32
  ![v559.toNat, 0, 1792, 0]
def k0_off138 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_265 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v567 : BitVec 32 := Scalar.addi v277 c0_i32_265
  let v568 : Index := Scalar.indexCast v567
  let c15_266 : Index := 15#32
  let c0_267 : Index := 0#32
  ![v568.toNat, 15, 0]
def k0_off139 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v576 : Index := Scalar.indexCast v207
  let c0_271 : Index := 0#32
  let c1920 : Index := 1920#32
  let c0_272 : Index := 0#32
  ![v576.toNat, 0, 1920, 0]
def k0_off140 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_276 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v589 : BitVec 32 := Scalar.addi v277 c0_i32_276
  let v590 : Index := Scalar.indexCast v589
  let c16_277 : Index := 16#32
  let c0_278 : Index := 0#32
  ![v590.toNat, 16, 0]
def k0_off141 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v598 : Index := Scalar.indexCast v207
  let c0_282 : Index := 0#32
  let c2048 : Index := 2048#32
  let c0_283 : Index := 0#32
  ![v598.toNat, 0, 2048, 0]
def k0_off142 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_284 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v606 : BitVec 32 := Scalar.addi v277 c0_i32_284
  let v607 : Index := Scalar.indexCast v606
  let c17_285 : Index := 17#32
  let c0_286 : Index := 0#32
  ![v607.toNat, 17, 0]
def k0_off143 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v615 : Index := Scalar.indexCast v207
  let c0_290 : Index := 0#32
  let c2176 : Index := 2176#32
  let c0_291 : Index := 0#32
  ![v615.toNat, 0, 2176, 0]
def k0_off144 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_295 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v628 : BitVec 32 := Scalar.addi v277 c0_i32_295
  let v629 : Index := Scalar.indexCast v628
  let c18_296 : Index := 18#32
  let c0_297 : Index := 0#32
  ![v629.toNat, 18, 0]
def k0_off145 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v637 : Index := Scalar.indexCast v207
  let c0_301 : Index := 0#32
  let c2304 : Index := 2304#32
  let c0_302 : Index := 0#32
  ![v637.toNat, 0, 2304, 0]
def k0_off146 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_303 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v645 : BitVec 32 := Scalar.addi v277 c0_i32_303
  let v646 : Index := Scalar.indexCast v645
  let c19_304 : Index := 19#32
  let c0_305 : Index := 0#32
  ![v646.toNat, 19, 0]
def k0_off147 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v654 : Index := Scalar.indexCast v207
  let c0_309 : Index := 0#32
  let c2432 : Index := 2432#32
  let c0_310 : Index := 0#32
  ![v654.toNat, 0, 2432, 0]
def k0_off148 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_314 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v667 : BitVec 32 := Scalar.addi v277 c0_i32_314
  let v668 : Index := Scalar.indexCast v667
  let c20_315 : Index := 20#32
  let c0_316 : Index := 0#32
  ![v668.toNat, 20, 0]
def k0_off149 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v676 : Index := Scalar.indexCast v207
  let c0_320 : Index := 0#32
  let c2560 : Index := 2560#32
  let c0_321 : Index := 0#32
  ![v676.toNat, 0, 2560, 0]
def k0_off150 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_322 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v684 : BitVec 32 := Scalar.addi v277 c0_i32_322
  let v685 : Index := Scalar.indexCast v684
  let c21_323 : Index := 21#32
  let c0_324 : Index := 0#32
  ![v685.toNat, 21, 0]
def k0_off151 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v693 : Index := Scalar.indexCast v207
  let c0_328 : Index := 0#32
  let c2688 : Index := 2688#32
  let c0_329 : Index := 0#32
  ![v693.toNat, 0, 2688, 0]
def k0_off152 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_333 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v706 : BitVec 32 := Scalar.addi v277 c0_i32_333
  let v707 : Index := Scalar.indexCast v706
  let c22_334 : Index := 22#32
  let c0_335 : Index := 0#32
  ![v707.toNat, 22, 0]
def k0_off153 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v715 : Index := Scalar.indexCast v207
  let c0_339 : Index := 0#32
  let c2816 : Index := 2816#32
  let c0_340 : Index := 0#32
  ![v715.toNat, 0, 2816, 0]
def k0_off154 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_341 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v723 : BitVec 32 := Scalar.addi v277 c0_i32_341
  let v724 : Index := Scalar.indexCast v723
  let c23_342 : Index := 23#32
  let c0_343 : Index := 0#32
  ![v724.toNat, 23, 0]
def k0_off155 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v732 : Index := Scalar.indexCast v207
  let c0_347 : Index := 0#32
  let c2944 : Index := 2944#32
  let c0_348 : Index := 0#32
  ![v732.toNat, 0, 2944, 0]
def k0_off156 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_352 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v745 : BitVec 32 := Scalar.addi v277 c0_i32_352
  let v746 : Index := Scalar.indexCast v745
  let c24_353 : Index := 24#32
  let c0_354 : Index := 0#32
  ![v746.toNat, 24, 0]
def k0_off157 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v754 : Index := Scalar.indexCast v207
  let c0_358 : Index := 0#32
  let c3072 : Index := 3072#32
  let c0_359 : Index := 0#32
  ![v754.toNat, 0, 3072, 0]
def k0_off158 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_360 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v762 : BitVec 32 := Scalar.addi v277 c0_i32_360
  let v763 : Index := Scalar.indexCast v762
  let c25_361 : Index := 25#32
  let c0_362 : Index := 0#32
  ![v763.toNat, 25, 0]
def k0_off159 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v771 : Index := Scalar.indexCast v207
  let c0_366 : Index := 0#32
  let c3200 : Index := 3200#32
  let c0_367 : Index := 0#32
  ![v771.toNat, 0, 3200, 0]
def k0_off160 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_371 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v784 : BitVec 32 := Scalar.addi v277 c0_i32_371
  let v785 : Index := Scalar.indexCast v784
  let c26_372 : Index := 26#32
  let c0_373 : Index := 0#32
  ![v785.toNat, 26, 0]
def k0_off161 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v793 : Index := Scalar.indexCast v207
  let c0_377 : Index := 0#32
  let c3328 : Index := 3328#32
  let c0_378 : Index := 0#32
  ![v793.toNat, 0, 3328, 0]
def k0_off162 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_379 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v801 : BitVec 32 := Scalar.addi v277 c0_i32_379
  let v802 : Index := Scalar.indexCast v801
  let c27_380 : Index := 27#32
  let c0_381 : Index := 0#32
  ![v802.toNat, 27, 0]
def k0_off163 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v810 : Index := Scalar.indexCast v207
  let c0_385 : Index := 0#32
  let c3456 : Index := 3456#32
  let c0_386 : Index := 0#32
  ![v810.toNat, 0, 3456, 0]
def k0_off164 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_390 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v823 : BitVec 32 := Scalar.addi v277 c0_i32_390
  let v824 : Index := Scalar.indexCast v823
  let c28_391 : Index := 28#32
  let c0_392 : Index := 0#32
  ![v824.toNat, 28, 0]
def k0_off165 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v832 : Index := Scalar.indexCast v207
  let c0_396 : Index := 0#32
  let c3584 : Index := 3584#32
  let c0_397 : Index := 0#32
  ![v832.toNat, 0, 3584, 0]
def k0_off166 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_398 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v840 : BitVec 32 := Scalar.addi v277 c0_i32_398
  let v841 : Index := Scalar.indexCast v840
  let c29_399 : Index := 29#32
  let c0_400 : Index := 0#32
  ![v841.toNat, 29, 0]
def k0_off167 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v849 : Index := Scalar.indexCast v207
  let c0_404 : Index := 0#32
  let c3712 : Index := 3712#32
  let c0_405 : Index := 0#32
  ![v849.toNat, 0, 3712, 0]
def k0_off168 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_409 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v862 : BitVec 32 := Scalar.addi v277 c0_i32_409
  let v863 : Index := Scalar.indexCast v862
  let c30_410 : Index := 30#32
  let c0_411 : Index := 0#32
  ![v863.toNat, 30, 0]
def k0_off169 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v871 : Index := Scalar.indexCast v207
  let c0_415 : Index := 0#32
  let c3840 : Index := 3840#32
  let c0_416 : Index := 0#32
  ![v871.toNat, 0, 3840, 0]
def k0_off170 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_417 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v879 : BitVec 32 := Scalar.addi v277 c0_i32_417
  let v880 : Index := Scalar.indexCast v879
  let c31_418 : Index := 31#32
  let c0_419 : Index := 0#32
  ![v880.toNat, 31, 0]
def k0_off171 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v888 : Index := Scalar.indexCast v207
  let c0_423 : Index := 0#32
  let c3968 : Index := 3968#32
  let c0_424 : Index := 0#32
  ![v888.toNat, 0, 3968, 0]
def k0_off172 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_428 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v901 : BitVec 32 := Scalar.addi v277 c0_i32_428
  let v902 : Index := Scalar.indexCast v901
  let c32_429 : Index := 32#32
  let c0_430 : Index := 0#32
  ![v902.toNat, 32, 0]
def k0_off173 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v910 : Index := Scalar.indexCast v207
  let c0_434 : Index := 0#32
  let c4096 : Index := 4096#32
  let c0_435 : Index := 0#32
  ![v910.toNat, 0, 4096, 0]
def k0_off174 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_436 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v918 : BitVec 32 := Scalar.addi v277 c0_i32_436
  let v919 : Index := Scalar.indexCast v918
  let c33_437 : Index := 33#32
  let c0_438 : Index := 0#32
  ![v919.toNat, 33, 0]
def k0_off175 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v927 : Index := Scalar.indexCast v207
  let c0_442 : Index := 0#32
  let c4224 : Index := 4224#32
  let c0_443 : Index := 0#32
  ![v927.toNat, 0, 4224, 0]
def k0_off176 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_447 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v940 : BitVec 32 := Scalar.addi v277 c0_i32_447
  let v941 : Index := Scalar.indexCast v940
  let c34_448 : Index := 34#32
  let c0_449 : Index := 0#32
  ![v941.toNat, 34, 0]
def k0_off177 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v949 : Index := Scalar.indexCast v207
  let c0_453 : Index := 0#32
  let c4352 : Index := 4352#32
  let c0_454 : Index := 0#32
  ![v949.toNat, 0, 4352, 0]
def k0_off178 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_455 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v957 : BitVec 32 := Scalar.addi v277 c0_i32_455
  let v958 : Index := Scalar.indexCast v957
  let c35_456 : Index := 35#32
  let c0_457 : Index := 0#32
  ![v958.toNat, 35, 0]
def k0_off179 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v966 : Index := Scalar.indexCast v207
  let c0_461 : Index := 0#32
  let c4480 : Index := 4480#32
  let c0_462 : Index := 0#32
  ![v966.toNat, 0, 4480, 0]
def k0_off180 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_466 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v979 : BitVec 32 := Scalar.addi v277 c0_i32_466
  let v980 : Index := Scalar.indexCast v979
  let c36_467 : Index := 36#32
  let c0_468 : Index := 0#32
  ![v980.toNat, 36, 0]
def k0_off181 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v988 : Index := Scalar.indexCast v207
  let c0_472 : Index := 0#32
  let c4608 : Index := 4608#32
  let c0_473 : Index := 0#32
  ![v988.toNat, 0, 4608, 0]
def k0_off182 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_474 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v996 : BitVec 32 := Scalar.addi v277 c0_i32_474
  let v997 : Index := Scalar.indexCast v996
  let c37_475 : Index := 37#32
  let c0_476 : Index := 0#32
  ![v997.toNat, 37, 0]
def k0_off183 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1005 : Index := Scalar.indexCast v207
  let c0_480 : Index := 0#32
  let c4736 : Index := 4736#32
  let c0_481 : Index := 0#32
  ![v1005.toNat, 0, 4736, 0]
def k0_off184 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_485 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v1018 : BitVec 32 := Scalar.addi v277 c0_i32_485
  let v1019 : Index := Scalar.indexCast v1018
  let c38_486 : Index := 38#32
  let c0_487 : Index := 0#32
  ![v1019.toNat, 38, 0]
def k0_off185 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1027 : Index := Scalar.indexCast v207
  let c0_491 : Index := 0#32
  let c4864 : Index := 4864#32
  let c0_492 : Index := 0#32
  ![v1027.toNat, 0, 4864, 0]
def k0_off186 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_493 : BitVec 32) : Fin 3 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v1035 : BitVec 32 := Scalar.addi v277 c0_i32_493
  let v1036 : Index := Scalar.indexCast v1035
  let c39_494 : Index := 39#32
  let c0_495 : Index := 0#32
  ![v1036.toNat, 39, 0]
def k0_off187 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1044 : Index := Scalar.indexCast v207
  let c0_499 : Index := 0#32
  let c4992 : Index := 4992#32
  let c0_500 : Index := 0#32
  ![v1044.toNat, 0, 4992, 0]
def k0_off188 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1068 : Index := Scalar.indexCast v207
  let c1_511 : Index := 1#32
  let c0_512 : Index := 0#32
  let c0_513 : Index := 0#32
  ![v1068.toNat, 1, 0, 0]
def k0_off189 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1085 : Index := Scalar.indexCast v207
  let c1_520 : Index := 1#32
  let c128_521 : Index := 128#32
  let c0_522 : Index := 0#32
  ![v1085.toNat, 1, 128, 0]
def k0_off190 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1106 : Index := Scalar.indexCast v207
  let c1_532 : Index := 1#32
  let c256_533 : Index := 256#32
  let c0_534 : Index := 0#32
  ![v1106.toNat, 1, 256, 0]
def k0_off191 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1123 : Index := Scalar.indexCast v207
  let c1_541 : Index := 1#32
  let c384_542 : Index := 384#32
  let c0_543 : Index := 0#32
  ![v1123.toNat, 1, 384, 0]
def k0_off192 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1145 : Index := Scalar.indexCast v207
  let c1_553 : Index := 1#32
  let c512_554 : Index := 512#32
  let c0_555 : Index := 0#32
  ![v1145.toNat, 1, 512, 0]
def k0_off193 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1162 : Index := Scalar.indexCast v207
  let c1_562 : Index := 1#32
  let c640_563 : Index := 640#32
  let c0_564 : Index := 0#32
  ![v1162.toNat, 1, 640, 0]
def k0_off194 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1184 : Index := Scalar.indexCast v207
  let c1_574 : Index := 1#32
  let c768_575 : Index := 768#32
  let c0_576 : Index := 0#32
  ![v1184.toNat, 1, 768, 0]
def k0_off195 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1201 : Index := Scalar.indexCast v207
  let c1_583 : Index := 1#32
  let c896_584 : Index := 896#32
  let c0_585 : Index := 0#32
  ![v1201.toNat, 1, 896, 0]
def k0_off196 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1223 : Index := Scalar.indexCast v207
  let c1_595 : Index := 1#32
  let c1024_596 : Index := 1024#32
  let c0_597 : Index := 0#32
  ![v1223.toNat, 1, 1024, 0]
def k0_off197 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1240 : Index := Scalar.indexCast v207
  let c1_604 : Index := 1#32
  let c1152_605 : Index := 1152#32
  let c0_606 : Index := 0#32
  ![v1240.toNat, 1, 1152, 0]
def k0_off198 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1262 : Index := Scalar.indexCast v207
  let c1_616 : Index := 1#32
  let c1280_617 : Index := 1280#32
  let c0_618 : Index := 0#32
  ![v1262.toNat, 1, 1280, 0]
def k0_off199 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1279 : Index := Scalar.indexCast v207
  let c1_625 : Index := 1#32
  let c1408_626 : Index := 1408#32
  let c0_627 : Index := 0#32
  ![v1279.toNat, 1, 1408, 0]
def k0_off200 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1301 : Index := Scalar.indexCast v207
  let c1_637 : Index := 1#32
  let c1536_638 : Index := 1536#32
  let c0_639 : Index := 0#32
  ![v1301.toNat, 1, 1536, 0]
def k0_off201 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1318 : Index := Scalar.indexCast v207
  let c1_646 : Index := 1#32
  let c1664_647 : Index := 1664#32
  let c0_648 : Index := 0#32
  ![v1318.toNat, 1, 1664, 0]
def k0_off202 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1340 : Index := Scalar.indexCast v207
  let c1_658 : Index := 1#32
  let c1792_659 : Index := 1792#32
  let c0_660 : Index := 0#32
  ![v1340.toNat, 1, 1792, 0]
def k0_off203 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1357 : Index := Scalar.indexCast v207
  let c1_667 : Index := 1#32
  let c1920_668 : Index := 1920#32
  let c0_669 : Index := 0#32
  ![v1357.toNat, 1, 1920, 0]
def k0_off204 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1379 : Index := Scalar.indexCast v207
  let c1_679 : Index := 1#32
  let c2048_680 : Index := 2048#32
  let c0_681 : Index := 0#32
  ![v1379.toNat, 1, 2048, 0]
def k0_off205 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1396 : Index := Scalar.indexCast v207
  let c1_688 : Index := 1#32
  let c2176_689 : Index := 2176#32
  let c0_690 : Index := 0#32
  ![v1396.toNat, 1, 2176, 0]
def k0_off206 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1418 : Index := Scalar.indexCast v207
  let c1_700 : Index := 1#32
  let c2304_701 : Index := 2304#32
  let c0_702 : Index := 0#32
  ![v1418.toNat, 1, 2304, 0]
def k0_off207 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1435 : Index := Scalar.indexCast v207
  let c1_709 : Index := 1#32
  let c2432_710 : Index := 2432#32
  let c0_711 : Index := 0#32
  ![v1435.toNat, 1, 2432, 0]
def k0_off208 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1457 : Index := Scalar.indexCast v207
  let c1_721 : Index := 1#32
  let c2560_722 : Index := 2560#32
  let c0_723 : Index := 0#32
  ![v1457.toNat, 1, 2560, 0]
def k0_off209 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1474 : Index := Scalar.indexCast v207
  let c1_730 : Index := 1#32
  let c2688_731 : Index := 2688#32
  let c0_732 : Index := 0#32
  ![v1474.toNat, 1, 2688, 0]
def k0_off210 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1496 : Index := Scalar.indexCast v207
  let c1_742 : Index := 1#32
  let c2816_743 : Index := 2816#32
  let c0_744 : Index := 0#32
  ![v1496.toNat, 1, 2816, 0]
def k0_off211 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1513 : Index := Scalar.indexCast v207
  let c1_751 : Index := 1#32
  let c2944_752 : Index := 2944#32
  let c0_753 : Index := 0#32
  ![v1513.toNat, 1, 2944, 0]
def k0_off212 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1535 : Index := Scalar.indexCast v207
  let c1_763 : Index := 1#32
  let c3072_764 : Index := 3072#32
  let c0_765 : Index := 0#32
  ![v1535.toNat, 1, 3072, 0]
def k0_off213 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1552 : Index := Scalar.indexCast v207
  let c1_772 : Index := 1#32
  let c3200_773 : Index := 3200#32
  let c0_774 : Index := 0#32
  ![v1552.toNat, 1, 3200, 0]
def k0_off214 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1574 : Index := Scalar.indexCast v207
  let c1_784 : Index := 1#32
  let c3328_785 : Index := 3328#32
  let c0_786 : Index := 0#32
  ![v1574.toNat, 1, 3328, 0]
def k0_off215 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1591 : Index := Scalar.indexCast v207
  let c1_793 : Index := 1#32
  let c3456_794 : Index := 3456#32
  let c0_795 : Index := 0#32
  ![v1591.toNat, 1, 3456, 0]
def k0_off216 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1613 : Index := Scalar.indexCast v207
  let c1_805 : Index := 1#32
  let c3584_806 : Index := 3584#32
  let c0_807 : Index := 0#32
  ![v1613.toNat, 1, 3584, 0]
def k0_off217 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1630 : Index := Scalar.indexCast v207
  let c1_814 : Index := 1#32
  let c3712_815 : Index := 3712#32
  let c0_816 : Index := 0#32
  ![v1630.toNat, 1, 3712, 0]
def k0_off218 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1652 : Index := Scalar.indexCast v207
  let c1_826 : Index := 1#32
  let c3840_827 : Index := 3840#32
  let c0_828 : Index := 0#32
  ![v1652.toNat, 1, 3840, 0]
def k0_off219 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1669 : Index := Scalar.indexCast v207
  let c1_835 : Index := 1#32
  let c3968_836 : Index := 3968#32
  let c0_837 : Index := 0#32
  ![v1669.toNat, 1, 3968, 0]
def k0_off220 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1691 : Index := Scalar.indexCast v207
  let c1_847 : Index := 1#32
  let c4096_848 : Index := 4096#32
  let c0_849 : Index := 0#32
  ![v1691.toNat, 1, 4096, 0]
def k0_off221 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1708 : Index := Scalar.indexCast v207
  let c1_856 : Index := 1#32
  let c4224_857 : Index := 4224#32
  let c0_858 : Index := 0#32
  ![v1708.toNat, 1, 4224, 0]
def k0_off222 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1730 : Index := Scalar.indexCast v207
  let c1_868 : Index := 1#32
  let c4352_869 : Index := 4352#32
  let c0_870 : Index := 0#32
  ![v1730.toNat, 1, 4352, 0]
def k0_off223 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1747 : Index := Scalar.indexCast v207
  let c1_877 : Index := 1#32
  let c4480_878 : Index := 4480#32
  let c0_879 : Index := 0#32
  ![v1747.toNat, 1, 4480, 0]
def k0_off224 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1769 : Index := Scalar.indexCast v207
  let c1_889 : Index := 1#32
  let c4608_890 : Index := 4608#32
  let c0_891 : Index := 0#32
  ![v1769.toNat, 1, 4608, 0]
def k0_off225 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1786 : Index := Scalar.indexCast v207
  let c1_898 : Index := 1#32
  let c4736_899 : Index := 4736#32
  let c0_900 : Index := 0#32
  ![v1786.toNat, 1, 4736, 0]
def k0_off226 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1808 : Index := Scalar.indexCast v207
  let c1_910 : Index := 1#32
  let c4864_911 : Index := 4864#32
  let c0_912 : Index := 0#32
  ![v1808.toNat, 1, 4864, 0]
def k0_off227 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1825 : Index := Scalar.indexCast v207
  let c1_919 : Index := 1#32
  let c4992_920 : Index := 4992#32
  let c0_921 : Index := 0#32
  ![v1825.toNat, 1, 4992, 0]
def k0_off228 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_102 : BitVec 32 := 4#32
  let v236 : BitVec 32 := Scalar.remsi arg18 c4_i32_102
  let c0_i32_925 : BitVec 32 := 0#32
  let c0_i32_926 : BitVec 32 := 0#32
  ![v236.toNat, 0, 0]
def k0_off229 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Fin 3 → Nat :=
  let c0_i32_79 : BitVec 32 := 0#32
  let c1_i32_82 : BitVec 32 := 1#32
  let arg18 : BitVec 32 := Scf.iv c0_i32_79 c1_i32_82 k0_t1
  let c4_i32_110 : BitVec 32 := 4#32
  let v256 : BitVec 32 := Scalar.remsi arg18 c4_i32_110
  let c256_i32_112 : BitVec 32 := 256#32
  let v262 : BitVec 32 := Scalar.muli v256 c256_i32_112
  let v263 : BitVec 32 := v262
  let c0_i32_927 : BitVec 32 := 0#32
  ![v255.toNat, v263.toNat, 0]

def k0_chk7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Prop :=
  (∀ a, (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x5120x256.size a ≤ S8x5120x2048.size a) ∧
  (∀ (hinb : ∀ a, (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x5120x256.size a ≤ S8x5120x2048.size a), (Rect.unit (s := S8x5120x2048) (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) S1x5120x256.size hinb).WholeWords (EltTy.packing .fp8e4m3)) ∧
  (∀ a, (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x5120x256.size a ≤ S8x5120x2048.size a) ∧
  (∀ (hinb : ∀ a, (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x5120x256.size a ≤ S8x5120x2048.size a), (Rect.unit (s := S8x5120x2048) (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) S1x5120x256.size hinb).WholeWords (EltTy.packing .fp8e4m3)) ∧
  (∀ a, (k0_off229 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x256x5120.size a ≤ S8x1024x5120.size a) ∧
  (∀ (hinb : ∀ a, (k0_off229 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x256x5120.size a ≤ S8x1024x5120.size a), (Rect.unit (s := S8x1024x5120) (k0_off229 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) S1x256x5120.size hinb).WholeWords (EltTy.packing .fp8e4m3))
theorem k0_off104_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255), ∀ a, (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7 => k0_hw7.1
theorem k0_off104_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255), (Rect.unit (s := S8x5120x2048) (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) S1x5120x256.size (k0_off104_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7 => k0_hw7.2.1 (k0_off104_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7)
theorem k0_off107_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255), ∀ a, (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7 => k0_hw7.2.2.1
theorem k0_off107_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255), (Rect.unit (s := S8x5120x2048) (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) S1x5120x256.size (k0_off107_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7 => k0_hw7.2.2.2.1 (k0_off107_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7)
theorem k0_off229_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255), ∀ a, (k0_off229 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7 => k0_hw7.2.2.2.2.1
theorem k0_off229_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255), (Rect.unit (s := S8x1024x5120) (k0_off229 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255) S1x256x5120.size (k0_off229_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7 => k0_hw7.2.2.2.2.2 (k0_off229_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v255 k0_hw7)

def k0_off230 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1848 : Index := Scalar.indexCast v207
  let c0_928 : Index := 0#32
  let c0_929 : Index := 0#32
  ![v1848.toNat, 0, 0]
def k0_off231 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_931 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_930 : BitVec 32 := 2#32
  let v1851 : BitVec 32 := Scalar.muli v227 c2_i32_930
  let v1852 : BitVec 32 := Scalar.addi v1851 c0_i32_931
  let v1853 : Index := Scalar.indexCast v1852
  let c0_932 : Index := 0#32
  ![v1853.toNat, 0]
def k0_off232 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1860 : Index := Scalar.indexCast v207
  let c128_933 : Index := 128#32
  let c0_934 : Index := 0#32
  ![v1860.toNat, 128, 0]
def k0_off233 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1879 : Index := Scalar.indexCast v207
  let c0_943 : Index := 0#32
  let c256_944 : Index := 256#32
  ![v1879.toNat, 0, 256]
def k0_off234 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_946 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_945 : BitVec 32 := 2#32
  let v1882 : BitVec 32 := Scalar.muli v227 c2_i32_945
  let v1883 : BitVec 32 := Scalar.addi v1882 c0_i32_946
  let v1884 : Index := Scalar.indexCast v1883
  let c256_947 : Index := 256#32
  ![v1884.toNat, 256]
def k0_off235 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1891 : Index := Scalar.indexCast v207
  let c128_948 : Index := 128#32
  let c256_949 : Index := 256#32
  ![v1891.toNat, 128, 256]
def k0_off236 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1910 : Index := Scalar.indexCast v207
  let c0_958 : Index := 0#32
  let c512_959 : Index := 512#32
  ![v1910.toNat, 0, 512]
def k0_off237 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_961 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_960 : BitVec 32 := 2#32
  let v1913 : BitVec 32 := Scalar.muli v227 c2_i32_960
  let v1914 : BitVec 32 := Scalar.addi v1913 c0_i32_961
  let v1915 : Index := Scalar.indexCast v1914
  let c512_962 : Index := 512#32
  ![v1915.toNat, 512]
def k0_off238 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1922 : Index := Scalar.indexCast v207
  let c128_963 : Index := 128#32
  let c512_964 : Index := 512#32
  ![v1922.toNat, 128, 512]
def k0_off239 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1941 : Index := Scalar.indexCast v207
  let c0_973 : Index := 0#32
  let c768_974 : Index := 768#32
  ![v1941.toNat, 0, 768]
def k0_off240 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_976 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_975 : BitVec 32 := 2#32
  let v1944 : BitVec 32 := Scalar.muli v227 c2_i32_975
  let v1945 : BitVec 32 := Scalar.addi v1944 c0_i32_976
  let v1946 : Index := Scalar.indexCast v1945
  let c768_977 : Index := 768#32
  ![v1946.toNat, 768]
def k0_off241 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1953 : Index := Scalar.indexCast v207
  let c128_978 : Index := 128#32
  let c768_979 : Index := 768#32
  ![v1953.toNat, 128, 768]
def k0_off242 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1972 : Index := Scalar.indexCast v207
  let c0_988 : Index := 0#32
  let c1024_989 : Index := 1024#32
  ![v1972.toNat, 0, 1024]
def k0_off243 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_991 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_990 : BitVec 32 := 2#32
  let v1975 : BitVec 32 := Scalar.muli v227 c2_i32_990
  let v1976 : BitVec 32 := Scalar.addi v1975 c0_i32_991
  let v1977 : Index := Scalar.indexCast v1976
  let c1024_992 : Index := 1024#32
  ![v1977.toNat, 1024]
def k0_off244 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v1984 : Index := Scalar.indexCast v207
  let c128_993 : Index := 128#32
  let c1024_994 : Index := 1024#32
  ![v1984.toNat, 128, 1024]
def k0_off245 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2003 : Index := Scalar.indexCast v207
  let c0_1003 : Index := 0#32
  let c1280_1004 : Index := 1280#32
  ![v2003.toNat, 0, 1280]
def k0_off246 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1006 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1005 : BitVec 32 := 2#32
  let v2006 : BitVec 32 := Scalar.muli v227 c2_i32_1005
  let v2007 : BitVec 32 := Scalar.addi v2006 c0_i32_1006
  let v2008 : Index := Scalar.indexCast v2007
  let c1280_1007 : Index := 1280#32
  ![v2008.toNat, 1280]
def k0_off247 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2015 : Index := Scalar.indexCast v207
  let c128_1008 : Index := 128#32
  let c1280_1009 : Index := 1280#32
  ![v2015.toNat, 128, 1280]
def k0_off248 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2034 : Index := Scalar.indexCast v207
  let c0_1018 : Index := 0#32
  let c1536_1019 : Index := 1536#32
  ![v2034.toNat, 0, 1536]
def k0_off249 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1021 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1020 : BitVec 32 := 2#32
  let v2037 : BitVec 32 := Scalar.muli v227 c2_i32_1020
  let v2038 : BitVec 32 := Scalar.addi v2037 c0_i32_1021
  let v2039 : Index := Scalar.indexCast v2038
  let c1536_1022 : Index := 1536#32
  ![v2039.toNat, 1536]
def k0_off250 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2046 : Index := Scalar.indexCast v207
  let c128_1023 : Index := 128#32
  let c1536_1024 : Index := 1536#32
  ![v2046.toNat, 128, 1536]
def k0_off251 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2065 : Index := Scalar.indexCast v207
  let c0_1033 : Index := 0#32
  let c1792_1034 : Index := 1792#32
  ![v2065.toNat, 0, 1792]
def k0_off252 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1036 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1035 : BitVec 32 := 2#32
  let v2068 : BitVec 32 := Scalar.muli v227 c2_i32_1035
  let v2069 : BitVec 32 := Scalar.addi v2068 c0_i32_1036
  let v2070 : Index := Scalar.indexCast v2069
  let c1792_1037 : Index := 1792#32
  ![v2070.toNat, 1792]
def k0_off253 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2077 : Index := Scalar.indexCast v207
  let c128_1038 : Index := 128#32
  let c1792_1039 : Index := 1792#32
  ![v2077.toNat, 128, 1792]
def k0_off254 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2096 : Index := Scalar.indexCast v207
  let c0_1048 : Index := 0#32
  let c2048_1049 : Index := 2048#32
  ![v2096.toNat, 0, 2048]
def k0_off255 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1051 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1050 : BitVec 32 := 2#32
  let v2099 : BitVec 32 := Scalar.muli v227 c2_i32_1050
  let v2100 : BitVec 32 := Scalar.addi v2099 c0_i32_1051
  let v2101 : Index := Scalar.indexCast v2100
  let c2048_1052 : Index := 2048#32
  ![v2101.toNat, 2048]
def k0_off256 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2108 : Index := Scalar.indexCast v207
  let c128_1053 : Index := 128#32
  let c2048_1054 : Index := 2048#32
  ![v2108.toNat, 128, 2048]
def k0_off257 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2127 : Index := Scalar.indexCast v207
  let c0_1063 : Index := 0#32
  let c2304_1064 : Index := 2304#32
  ![v2127.toNat, 0, 2304]
def k0_off258 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1066 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1065 : BitVec 32 := 2#32
  let v2130 : BitVec 32 := Scalar.muli v227 c2_i32_1065
  let v2131 : BitVec 32 := Scalar.addi v2130 c0_i32_1066
  let v2132 : Index := Scalar.indexCast v2131
  let c2304_1067 : Index := 2304#32
  ![v2132.toNat, 2304]
def k0_off259 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2139 : Index := Scalar.indexCast v207
  let c128_1068 : Index := 128#32
  let c2304_1069 : Index := 2304#32
  ![v2139.toNat, 128, 2304]
def k0_off260 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2158 : Index := Scalar.indexCast v207
  let c0_1078 : Index := 0#32
  let c2560_1079 : Index := 2560#32
  ![v2158.toNat, 0, 2560]
def k0_off261 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1081 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1080 : BitVec 32 := 2#32
  let v2161 : BitVec 32 := Scalar.muli v227 c2_i32_1080
  let v2162 : BitVec 32 := Scalar.addi v2161 c0_i32_1081
  let v2163 : Index := Scalar.indexCast v2162
  let c2560_1082 : Index := 2560#32
  ![v2163.toNat, 2560]
def k0_off262 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2170 : Index := Scalar.indexCast v207
  let c128_1083 : Index := 128#32
  let c2560_1084 : Index := 2560#32
  ![v2170.toNat, 128, 2560]
def k0_off263 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2189 : Index := Scalar.indexCast v207
  let c0_1093 : Index := 0#32
  let c2816_1094 : Index := 2816#32
  ![v2189.toNat, 0, 2816]
def k0_off264 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1096 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1095 : BitVec 32 := 2#32
  let v2192 : BitVec 32 := Scalar.muli v227 c2_i32_1095
  let v2193 : BitVec 32 := Scalar.addi v2192 c0_i32_1096
  let v2194 : Index := Scalar.indexCast v2193
  let c2816_1097 : Index := 2816#32
  ![v2194.toNat, 2816]
def k0_off265 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2201 : Index := Scalar.indexCast v207
  let c128_1098 : Index := 128#32
  let c2816_1099 : Index := 2816#32
  ![v2201.toNat, 128, 2816]
def k0_off266 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2220 : Index := Scalar.indexCast v207
  let c0_1108 : Index := 0#32
  let c3072_1109 : Index := 3072#32
  ![v2220.toNat, 0, 3072]
def k0_off267 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1111 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1110 : BitVec 32 := 2#32
  let v2223 : BitVec 32 := Scalar.muli v227 c2_i32_1110
  let v2224 : BitVec 32 := Scalar.addi v2223 c0_i32_1111
  let v2225 : Index := Scalar.indexCast v2224
  let c3072_1112 : Index := 3072#32
  ![v2225.toNat, 3072]
def k0_off268 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2232 : Index := Scalar.indexCast v207
  let c128_1113 : Index := 128#32
  let c3072_1114 : Index := 3072#32
  ![v2232.toNat, 128, 3072]
def k0_off269 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2251 : Index := Scalar.indexCast v207
  let c0_1123 : Index := 0#32
  let c3328_1124 : Index := 3328#32
  ![v2251.toNat, 0, 3328]
def k0_off270 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1126 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1125 : BitVec 32 := 2#32
  let v2254 : BitVec 32 := Scalar.muli v227 c2_i32_1125
  let v2255 : BitVec 32 := Scalar.addi v2254 c0_i32_1126
  let v2256 : Index := Scalar.indexCast v2255
  let c3328_1127 : Index := 3328#32
  ![v2256.toNat, 3328]
def k0_off271 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2263 : Index := Scalar.indexCast v207
  let c128_1128 : Index := 128#32
  let c3328_1129 : Index := 3328#32
  ![v2263.toNat, 128, 3328]
def k0_off272 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2282 : Index := Scalar.indexCast v207
  let c0_1138 : Index := 0#32
  let c3584_1139 : Index := 3584#32
  ![v2282.toNat, 0, 3584]
def k0_off273 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1141 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1140 : BitVec 32 := 2#32
  let v2285 : BitVec 32 := Scalar.muli v227 c2_i32_1140
  let v2286 : BitVec 32 := Scalar.addi v2285 c0_i32_1141
  let v2287 : Index := Scalar.indexCast v2286
  let c3584_1142 : Index := 3584#32
  ![v2287.toNat, 3584]
def k0_off274 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2294 : Index := Scalar.indexCast v207
  let c128_1143 : Index := 128#32
  let c3584_1144 : Index := 3584#32
  ![v2294.toNat, 128, 3584]
def k0_off275 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2313 : Index := Scalar.indexCast v207
  let c0_1153 : Index := 0#32
  let c3840_1154 : Index := 3840#32
  ![v2313.toNat, 0, 3840]
def k0_off276 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1156 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1155 : BitVec 32 := 2#32
  let v2316 : BitVec 32 := Scalar.muli v227 c2_i32_1155
  let v2317 : BitVec 32 := Scalar.addi v2316 c0_i32_1156
  let v2318 : Index := Scalar.indexCast v2317
  let c3840_1157 : Index := 3840#32
  ![v2318.toNat, 3840]
def k0_off277 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2325 : Index := Scalar.indexCast v207
  let c128_1158 : Index := 128#32
  let c3840_1159 : Index := 3840#32
  ![v2325.toNat, 128, 3840]
def k0_off278 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2344 : Index := Scalar.indexCast v207
  let c0_1168 : Index := 0#32
  let c4096_1169 : Index := 4096#32
  ![v2344.toNat, 0, 4096]
def k0_off279 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1171 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1170 : BitVec 32 := 2#32
  let v2347 : BitVec 32 := Scalar.muli v227 c2_i32_1170
  let v2348 : BitVec 32 := Scalar.addi v2347 c0_i32_1171
  let v2349 : Index := Scalar.indexCast v2348
  let c4096_1172 : Index := 4096#32
  ![v2349.toNat, 4096]
def k0_off280 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2356 : Index := Scalar.indexCast v207
  let c128_1173 : Index := 128#32
  let c4096_1174 : Index := 4096#32
  ![v2356.toNat, 128, 4096]
def k0_off281 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2375 : Index := Scalar.indexCast v207
  let c0_1183 : Index := 0#32
  let c4352_1184 : Index := 4352#32
  ![v2375.toNat, 0, 4352]
def k0_off282 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1186 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1185 : BitVec 32 := 2#32
  let v2378 : BitVec 32 := Scalar.muli v227 c2_i32_1185
  let v2379 : BitVec 32 := Scalar.addi v2378 c0_i32_1186
  let v2380 : Index := Scalar.indexCast v2379
  let c4352_1187 : Index := 4352#32
  ![v2380.toNat, 4352]
def k0_off283 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2387 : Index := Scalar.indexCast v207
  let c128_1188 : Index := 128#32
  let c4352_1189 : Index := 4352#32
  ![v2387.toNat, 128, 4352]
def k0_off284 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2406 : Index := Scalar.indexCast v207
  let c0_1198 : Index := 0#32
  let c4608_1199 : Index := 4608#32
  ![v2406.toNat, 0, 4608]
def k0_off285 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1201 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1200 : BitVec 32 := 2#32
  let v2409 : BitVec 32 := Scalar.muli v227 c2_i32_1200
  let v2410 : BitVec 32 := Scalar.addi v2409 c0_i32_1201
  let v2411 : Index := Scalar.indexCast v2410
  let c4608_1202 : Index := 4608#32
  ![v2411.toNat, 4608]
def k0_off286 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2418 : Index := Scalar.indexCast v207
  let c128_1203 : Index := 128#32
  let c4608_1204 : Index := 4608#32
  ![v2418.toNat, 128, 4608]
def k0_off287 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2437 : Index := Scalar.indexCast v207
  let c0_1213 : Index := 0#32
  let c4864_1214 : Index := 4864#32
  ![v2437.toNat, 0, 4864]
def k0_off288 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1216 : BitVec 32) : Fin 2 → Nat :=
  let c0_i32_79 : BitVec 32 := 0#32
  let c1_i32_82 : BitVec 32 := 1#32
  let arg18 : BitVec 32 := Scf.iv c0_i32_79 c1_i32_82 k0_t1
  let c4_i32_96 : BitVec 32 := 4#32
  let v227 : BitVec 32 := Scalar.remsi arg18 c4_i32_96
  let c2_i32_1215 : BitVec 32 := 2#32
  let v2440 : BitVec 32 := Scalar.muli v227 c2_i32_1215
  let v2441 : BitVec 32 := Scalar.addi v2440 c0_i32_1216
  let v2442 : Index := Scalar.indexCast v2441
  let c4864_1217 : Index := 4864#32
  ![v2442.toNat, 4864]
def k0_off289 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c1_i32_82 : BitVec 32 := 1#32
  let arg18 : BitVec 32 := Scf.iv c0_i32_79 c1_i32_82 k0_t1
  let c4_i32_88 : BitVec 32 := 4#32
  let v207 : BitVec 32 := Scalar.remsi arg18 c4_i32_88
  let v2449 : Index := Scalar.indexCast v207
  let c128_1218 : Index := 128#32
  let c4864_1219 : Index := 4864#32
  ![v2449.toNat, 128, 4864]
@[reducible] def k0_t2_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Scf.Loop 32 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let v198 : BitVec 32 := Scalar.addi c0_i32_79 v197
  let c1_i32_83 : BitVec 32 := 1#32
  ⟨v201, v198, c1_i32_83⟩
def k0_off290 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c0_i32_90 : BitVec 32 := 0#32
  let v209 : BitVec 1 := Scalar.cmpi .sgt arg18 c0_i32_90
  let v210 : BitVec 32 := Scalar.extui v209
  let c0_i32_91 : BitVec 32 := 0#32
  let v211 : BitVec 1 := Scalar.cmpi .slt arg18 c0_i32_91
  let v212 : BitVec 32 := Scalar.extui v211
  let v213 : BitVec 32 := Scalar.subi v210 v212
  let c4_i32_89 : BitVec 32 := 4#32
  let c0_i32_92 : BitVec 32 := 0#32
  let v214 : BitVec 1 := Scalar.cmpi .sgt c4_i32_89 c0_i32_92
  let v215 : BitVec 32 := Scalar.extui v214
  let c0_i32_93 : BitVec 32 := 0#32
  let v216 : BitVec 1 := Scalar.cmpi .slt c4_i32_89 c0_i32_93
  let v217 : BitVec 32 := Scalar.extui v216
  let v218 : BitVec 32 := Scalar.subi v215 v217
  let v219 : BitVec 1 := Scalar.cmpi .ne v213 v218
  let v220 : BitVec 32 := Scalar.remsi arg18 c4_i32_89
  let c0_i32_94 : BitVec 32 := 0#32
  let v221 : BitVec 1 := Scalar.cmpi .ne v220 c0_i32_94
  let v222 : BitVec 1 := Scalar.andi v219 v221
  let v208 : BitVec 32 := Scalar.divsi arg18 c4_i32_89
  let c1_i32_95 : BitVec 32 := 1#32
  let v223 : BitVec 32 := Scalar.subi v208 c1_i32_95
  let v224 : BitVec 32 := Scalar.select v222 v223 v208
  let v225 : Index := Scalar.indexCast v224
  ![v225.toNat]
def k0_off291 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c0_i32_1233 : BitVec 32 := 0#32
  let v2473 : BitVec 1 := Scalar.cmpi .sgt v229 c0_i32_1233
  let v2474 : BitVec 32 := Scalar.extui v2473
  let c0_i32_1234 : BitVec 32 := 0#32
  let v2475 : BitVec 1 := Scalar.cmpi .slt v229 c0_i32_1234
  let v2476 : BitVec 32 := Scalar.extui v2475
  let v2477 : BitVec 32 := Scalar.subi v2474 v2476
  let c4_i32_1232 : BitVec 32 := 4#32
  let c0_i32_1235 : BitVec 32 := 0#32
  let v2478 : BitVec 1 := Scalar.cmpi .sgt c4_i32_1232 c0_i32_1235
  let v2479 : BitVec 32 := Scalar.extui v2478
  let c0_i32_1236 : BitVec 32 := 0#32
  let v2480 : BitVec 1 := Scalar.cmpi .slt c4_i32_1232 c0_i32_1236
  let v2481 : BitVec 32 := Scalar.extui v2480
  let v2482 : BitVec 32 := Scalar.subi v2479 v2481
  let v2483 : BitVec 1 := Scalar.cmpi .ne v2477 v2482
  let v2484 : BitVec 32 := Scalar.remsi v229 c4_i32_1232
  let c0_i32_1237 : BitVec 32 := 0#32
  let v2485 : BitVec 1 := Scalar.cmpi .ne v2484 c0_i32_1237
  let v2486 : BitVec 1 := Scalar.andi v2483 v2485
  let v2472 : BitVec 32 := Scalar.divsi v229 c4_i32_1232
  let c1_i32_1238 : BitVec 32 := 1#32
  let v2487 : BitVec 32 := Scalar.subi v2472 c1_i32_1238
  let v2488 : BitVec 32 := Scalar.select v2486 v2487 v2472
  let v2489 : Index := Scalar.indexCast v2488
  ![v2489.toNat]
def k0_cond7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 1 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let v230 : BitVec 1 := Scalar.cmpi .slt v229 v183
  let v231 : BitVec 32 := Scalar.extui v230
  let c0_i32_99 : BitVec 32 := 0#32
  let v232 : BitVec 1 := Scalar.cmpi .ne v231 c0_i32_99
  v232

def k0_mult16 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1240 : BitVec 32 := 256#32
  let v2492 : BitVec 32 := Scalar.muli v2491 c256_i32_1240
  v2492
def k0_mult17 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c1024_i32_1242 : BitVec 32 := 1024#32
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1241 : BitVec 32 := 256#32
  let v2494 : BitVec 32 := Scalar.muli v2491 c256_i32_1241
  let v2495 : BitVec 32 := Scalar.addi c1024_i32_1242 v2494
  v2495
def k0_mult18 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1243 : BitVec 32 := 256#32
  let v2497 : BitVec 32 := Scalar.muli v2491 c256_i32_1243
  v2497
def k0_off292 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  ![v2471.toNat]
def k0_off293 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  let c0_i32_1244 : BitVec 32 := 0#32
  let c0_i32_1245 : BitVec 32 := 0#32
  let c0_i32_1246 : BitVec 32 := 0#32
  ![v2471.toNat, 0, 0, 0]
def k0_off294 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Fin 3 → Nat :=
  let c0_i32_1247 : BitVec 32 := 0#32
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1240 : BitVec 32 := 256#32
  let v2492 : BitVec 32 := Scalar.muli v2491 c256_i32_1240
  let v2493 : BitVec 32 := v2492
  ![v2490.toNat, 0, v2493.toNat]

def k0_off295 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  ![v2471.toNat]
def k0_off296 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  let c1_i32_1248 : BitVec 32 := 1#32
  let c0_i32_1249 : BitVec 32 := 0#32
  let c0_i32_1250 : BitVec 32 := 0#32
  ![v2471.toNat, 1, 0, 0]
def k0_off297 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Fin 3 → Nat :=
  let c0_i32_1251 : BitVec 32 := 0#32
  let c1024_i32_1242 : BitVec 32 := 1024#32
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1241 : BitVec 32 := 256#32
  let v2494 : BitVec 32 := Scalar.muli v2491 c256_i32_1241
  let v2495 : BitVec 32 := Scalar.addi c1024_i32_1242 v2494
  let v2496 : BitVec 32 := v2495
  ![v2490.toNat, 0, v2496.toNat]
def k0_off298 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1231 : BitVec 32 := 4#32
  let v2471 : BitVec 32 := Scalar.remsi v229 c4_i32_1231
  let c0_i32_1252 : BitVec 32 := 0#32
  let c0_i32_1253 : BitVec 32 := 0#32
  ![v2471.toNat, 0, 0]
def k0_off299 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_97 : BitVec 32 := 4#32
  let v228 : BitVec 32 := Scalar.addi arg18 c4_i32_97
  let c1_i32_98 : BitVec 32 := 1#32
  let v229 : BitVec 32 := Scalar.subi v228 c1_i32_98
  let c4_i32_1239 : BitVec 32 := 4#32
  let v2491 : BitVec 32 := Scalar.remsi v229 c4_i32_1239
  let c256_i32_1243 : BitVec 32 := 256#32
  let v2497 : BitVec 32 := Scalar.muli v2491 c256_i32_1243
  let v2498 : BitVec 32 := v2497
  let c0_i32_1254 : BitVec 32 := 0#32
  ![v2490.toNat, v2498.toNat, 0]

def k0_chk8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) : Prop :=
  (∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off294 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x5120x256.size a ≤ S8x5120x2048.size a) ∧
  (∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off294 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x5120x256.size a ≤ S8x5120x2048.size a), (Rect.unit (s := S8x5120x2048) (k0_off294 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) S1x5120x256.size hinb).WholeWords (EltTy.packing .fp8e4m3)) ∧
  (∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off297 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x5120x256.size a ≤ S8x5120x2048.size a) ∧
  (∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off297 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x5120x256.size a ≤ S8x5120x2048.size a), (Rect.unit (s := S8x5120x2048) (k0_off297 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) S1x5120x256.size hinb).WholeWords (EltTy.packing .fp8e4m3)) ∧
  (∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off299 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x256x5120.size a ≤ S8x1024x5120.size a) ∧
  (∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off299 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x256x5120.size a ≤ S8x1024x5120.size a), (Rect.unit (s := S8x1024x5120) (k0_off299 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) S1x256x5120.size hinb).WholeWords (EltTy.packing .fp8e4m3))
theorem k0_off294_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw8 : k0_chk8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off294 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7 => k0_hw8.1 k0_h7
theorem k0_off294_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw8 : k0_chk8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S8x5120x2048) (k0_off294 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) S1x5120x256.size (k0_off294_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7 => k0_hw8.2.1 k0_h7 (k0_off294_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7)
theorem k0_off297_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw8 : k0_chk8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off297 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7 => k0_hw8.2.2.1 k0_h7
theorem k0_off297_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw8 : k0_chk8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S8x5120x2048) (k0_off297 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) S1x5120x256.size (k0_off297_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7 => k0_hw8.2.2.2.1 k0_h7 (k0_off297_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7)
theorem k0_off299_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw8 : k0_chk8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off299 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7 => k0_hw8.2.2.2.2.1 k0_h7
theorem k0_off299_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v2490 : BitVec 32) (k0_hw8 : k0_chk8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S8x1024x5120) (k0_off299 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490) S1x256x5120.size (k0_off299_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7 => k0_hw8.2.2.2.2.2 k0_h7 (k0_off299_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v2490 k0_hw8 k0_h7)

def k0_off300 (v226 : BitVec 32) : Fin 3 → Nat :=
  let v2471 : Index := Scalar.indexCast v226
  let c0_1231 : Index := 0#32
  let c0_1232 : Index := 0#32
  ![v2471.toNat, 0, 0]
def k0_cond8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 1 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c0_i32_100 : BitVec 32 := 0#32
  let v233 : BitVec 1 := Scalar.cmpi .eq v227 c0_i32_100
  let v234 : BitVec 32 := Scalar.extui v233
  let c0_i32_101 : BitVec 32 := 0#32
  let v235 : BitVec 1 := Scalar.cmpi .ne v234 c0_i32_101
  v235

def k0_off301 (v226 : BitVec 32) : Fin 3 → Nat :=
  let v2481 : Index := Scalar.indexCast v226
  let c0_1236 : Index := 0#32
  let c1_1237 : Index := 1#32
  ![v2481.toNat, 0, 1]
def k0_off302 (v226 : BitVec 32) : Fin 3 → Nat :=
  let v2491 : Index := Scalar.indexCast v226
  let c0_1241 : Index := 0#32
  let c2_1242 : Index := 2#32
  ![v2491.toNat, 0, 2]
def k0_off303 (v226 : BitVec 32) : Fin 3 → Nat :=
  let v2501 : Index := Scalar.indexCast v226
  let c0_1246 : Index := 0#32
  let c3_1247 : Index := 3#32
  ![v2501.toNat, 0, 3]
def k0_off304 (v226 : BitVec 32) : Fin 3 → Nat :=
  let v2511 : Index := Scalar.indexCast v226
  let c0_1251 : Index := 0#32
  let c4_1252 : Index := 4#32
  ![v2511.toNat, 0, 4]
def k0_off305 (v226 : BitVec 32) : Fin 3 → Nat :=
  let v2521 : Index := Scalar.indexCast v226
  let c0_1256 : Index := 0#32
  let c5_1257 : Index := 5#32
  ![v2521.toNat, 0, 5]
def k0_off306 (v226 : BitVec 32) : Fin 3 → Nat :=
  let v2531 : Index := Scalar.indexCast v226
  let c0_1261 : Index := 0#32
  let c6_1262 : Index := 6#32
  ![v2531.toNat, 0, 6]
def k0_off307 (v226 : BitVec 32) : Fin 3 → Nat :=
  let v2541 : Index := Scalar.indexCast v226
  let c0_1266 : Index := 0#32
  let c7_1267 : Index := 7#32
  ![v2541.toNat, 0, 7]
def k0_off308 (v226 : BitVec 32) : Fin 3 → Nat :=
  let v2551 : Index := Scalar.indexCast v226
  let c0_1271 : Index := 0#32
  let c8_1272 : Index := 8#32
  ![v2551.toNat, 0, 8]
def k0_off309 (v226 : BitVec 32) : Fin 3 → Nat :=
  let v2561 : Index := Scalar.indexCast v226
  let c0_1276 : Index := 0#32
  let c9_1277 : Index := 9#32
  ![v2561.toNat, 0, 9]
def k0_off310 (v226 : BitVec 32) : Fin 3 → Nat :=
  let v2571 : Index := Scalar.indexCast v226
  let c0_1281 : Index := 0#32
  let c10_1282 : Index := 10#32
  ![v2571.toNat, 0, 10]
def k0_off311 (v226 : BitVec 32) : Fin 3 → Nat :=
  let v2581 : Index := Scalar.indexCast v226
  let c0_1286 : Index := 0#32
  let c11_1287 : Index := 11#32
  ![v2581.toNat, 0, 11]
def k0_off312 (v226 : BitVec 32) : Fin 3 → Nat :=
  let v2591 : Index := Scalar.indexCast v226
  let c0_1291 : Index := 0#32
  let c12_1292 : Index := 12#32
  ![v2591.toNat, 0, 12]
def k0_off313 (v226 : BitVec 32) : Fin 3 → Nat :=
  let v2601 : Index := Scalar.indexCast v226
  let c0_1296 : Index := 0#32
  let c13_1297 : Index := 13#32
  ![v2601.toNat, 0, 13]
def k0_off314 (v226 : BitVec 32) : Fin 3 → Nat :=
  let v2611 : Index := Scalar.indexCast v226
  let c0_1301 : Index := 0#32
  let c14_1302 : Index := 14#32
  ![v2611.toNat, 0, 14]
def k0_off315 (v226 : BitVec 32) : Fin 3 → Nat :=
  let v2621 : Index := Scalar.indexCast v226
  let c0_1306 : Index := 0#32
  let c15_1307 : Index := 15#32
  ![v2621.toNat, 0, 15]
def k0_off316 (v226 : BitVec 32) : Fin 3 → Nat :=
  let v2631 : Index := Scalar.indexCast v226
  let c0_1311 : Index := 0#32
  let c0_1312 : Index := 0#32
  ![v2631.toNat, 0, 0]
def k0_off317 (v226 : BitVec 32) : Fin 3 → Nat :=
  let v2641 : Index := Scalar.indexCast v226
  let c0_1315 : Index := 0#32
  let c1_1316 : Index := 1#32
  ![v2641.toNat, 0, 1]
def k0_off318 (v226 : BitVec 32) : Fin 3 → Nat :=
  let v2651 : Index := Scalar.indexCast v226
  let c0_1319 : Index := 0#32
  let c2_1320 : Index := 2#32
  ![v2651.toNat, 0, 2]
def k0_off319 (v226 : BitVec 32) : Fin 3 → Nat :=
  let v2661 : Index := Scalar.indexCast v226
  let c0_1323 : Index := 0#32
  let c3_1324 : Index := 3#32
  ![v2661.toNat, 0, 3]
def k0_off320 (v226 : BitVec 32) : Fin 3 → Nat :=
  let v2671 : Index := Scalar.indexCast v226
  let c0_1327 : Index := 0#32
  let c4_1328 : Index := 4#32
  ![v2671.toNat, 0, 4]
def k0_off321 (v226 : BitVec 32) : Fin 3 → Nat :=
  let v2681 : Index := Scalar.indexCast v226
  let c0_1331 : Index := 0#32
  let c5_1332 : Index := 5#32
  ![v2681.toNat, 0, 5]
def k0_off322 (v226 : BitVec 32) : Fin 3 → Nat :=
  let v2691 : Index := Scalar.indexCast v226
  let c0_1335 : Index := 0#32
  let c6_1336 : Index := 6#32
  ![v2691.toNat, 0, 6]
def k0_off323 (v226 : BitVec 32) : Fin 3 → Nat :=
  let v2701 : Index := Scalar.indexCast v226
  let c0_1339 : Index := 0#32
  let c7_1340 : Index := 7#32
  ![v2701.toNat, 0, 7]
def k0_off324 (v226 : BitVec 32) : Fin 3 → Nat :=
  let v2711 : Index := Scalar.indexCast v226
  let c0_1343 : Index := 0#32
  let c8_1344 : Index := 8#32
  ![v2711.toNat, 0, 8]
def k0_off325 (v226 : BitVec 32) : Fin 3 → Nat :=
  let v2721 : Index := Scalar.indexCast v226
  let c0_1347 : Index := 0#32
  let c9_1348 : Index := 9#32
  ![v2721.toNat, 0, 9]
def k0_off326 (v226 : BitVec 32) : Fin 3 → Nat :=
  let v2731 : Index := Scalar.indexCast v226
  let c0_1351 : Index := 0#32
  let c10_1352 : Index := 10#32
  ![v2731.toNat, 0, 10]
def k0_off327 (v226 : BitVec 32) : Fin 3 → Nat :=
  let v2741 : Index := Scalar.indexCast v226
  let c0_1355 : Index := 0#32
  let c11_1356 : Index := 11#32
  ![v2741.toNat, 0, 11]
def k0_off328 (v226 : BitVec 32) : Fin 3 → Nat :=
  let v2751 : Index := Scalar.indexCast v226
  let c0_1359 : Index := 0#32
  let c12_1360 : Index := 12#32
  ![v2751.toNat, 0, 12]
def k0_off329 (v226 : BitVec 32) : Fin 3 → Nat :=
  let v2761 : Index := Scalar.indexCast v226
  let c0_1363 : Index := 0#32
  let c13_1364 : Index := 13#32
  ![v2761.toNat, 0, 13]
def k0_off330 (v226 : BitVec 32) : Fin 3 → Nat :=
  let v2771 : Index := Scalar.indexCast v226
  let c0_1367 : Index := 0#32
  let c14_1368 : Index := 14#32
  ![v2771.toNat, 0, 14]
def k0_off331 (v226 : BitVec 32) : Fin 3 → Nat :=
  let v2781 : Index := Scalar.indexCast v226
  let c0_1371 : Index := 0#32
  let c15_1372 : Index := 15#32
  ![v2781.toNat, 0, 15]
def k0_off332 (v226 : BitVec 32) : Fin 3 → Nat :=
  let v2791 : Index := Scalar.indexCast v226
  let c0_1375 : Index := 0#32
  let c16_1376 : Index := 16#32
  ![v2791.toNat, 0, 16]
def k0_off333 (v226 : BitVec 32) : Fin 3 → Nat :=
  let v2801 : Index := Scalar.indexCast v226
  let c0_1379 : Index := 0#32
  let c17_1380 : Index := 17#32
  ![v2801.toNat, 0, 17]
def k0_off334 (v226 : BitVec 32) : Fin 3 → Nat :=
  let v2811 : Index := Scalar.indexCast v226
  let c0_1383 : Index := 0#32
  let c18_1384 : Index := 18#32
  ![v2811.toNat, 0, 18]
def k0_off335 (v226 : BitVec 32) : Fin 3 → Nat :=
  let v2821 : Index := Scalar.indexCast v226
  let c0_1387 : Index := 0#32
  let c19_1388 : Index := 19#32
  ![v2821.toNat, 0, 19]
def k0_off336 (v226 : BitVec 32) : Fin 3 → Nat :=
  let v2831 : Index := Scalar.indexCast v226
  let c0_1391 : Index := 0#32
  let c20_1392 : Index := 20#32
  ![v2831.toNat, 0, 20]
def k0_off337 (v226 : BitVec 32) : Fin 3 → Nat :=
  let v2841 : Index := Scalar.indexCast v226
  let c0_1395 : Index := 0#32
  let c21_1396 : Index := 21#32
  ![v2841.toNat, 0, 21]
def k0_off338 (v226 : BitVec 32) : Fin 3 → Nat :=
  let v2851 : Index := Scalar.indexCast v226
  let c0_1399 : Index := 0#32
  let c22_1400 : Index := 22#32
  ![v2851.toNat, 0, 22]
def k0_off339 (v226 : BitVec 32) : Fin 3 → Nat :=
  let v2861 : Index := Scalar.indexCast v226
  let c0_1403 : Index := 0#32
  let c23_1404 : Index := 23#32
  ![v2861.toNat, 0, 23]
def k0_off340 (v226 : BitVec 32) : Fin 3 → Nat :=
  let v2871 : Index := Scalar.indexCast v226
  let c0_1407 : Index := 0#32
  let c24_1408 : Index := 24#32
  ![v2871.toNat, 0, 24]
def k0_off341 (v226 : BitVec 32) : Fin 3 → Nat :=
  let v2881 : Index := Scalar.indexCast v226
  let c0_1411 : Index := 0#32
  let c25_1412 : Index := 25#32
  ![v2881.toNat, 0, 25]
def k0_off342 (v226 : BitVec 32) : Fin 3 → Nat :=
  let v2891 : Index := Scalar.indexCast v226
  let c0_1415 : Index := 0#32
  let c26_1416 : Index := 26#32
  ![v2891.toNat, 0, 26]
def k0_off343 (v226 : BitVec 32) : Fin 3 → Nat :=
  let v2901 : Index := Scalar.indexCast v226
  let c0_1419 : Index := 0#32
  let c27_1420 : Index := 27#32
  ![v2901.toNat, 0, 27]
def k0_off344 (v226 : BitVec 32) : Fin 3 → Nat :=
  let v2911 : Index := Scalar.indexCast v226
  let c0_1423 : Index := 0#32
  let c28_1424 : Index := 28#32
  ![v2911.toNat, 0, 28]
def k0_off345 (v226 : BitVec 32) : Fin 3 → Nat :=
  let v2921 : Index := Scalar.indexCast v226
  let c0_1427 : Index := 0#32
  let c29_1428 : Index := 29#32
  ![v2921.toNat, 0, 29]
def k0_off346 (v226 : BitVec 32) : Fin 3 → Nat :=
  let v2931 : Index := Scalar.indexCast v226
  let c0_1431 : Index := 0#32
  let c30_1432 : Index := 30#32
  ![v2931.toNat, 0, 30]
def k0_off347 (v226 : BitVec 32) : Fin 3 → Nat :=
  let v2941 : Index := Scalar.indexCast v226
  let c0_1435 : Index := 0#32
  let c31_1436 : Index := 31#32
  ![v2941.toNat, 0, 31]
def k0_off348 (v226 : BitVec 32) : Fin 3 → Nat :=
  let v2951 : Index := Scalar.indexCast v226
  let c0_1439 : Index := 0#32
  let c32_1440 : Index := 32#32
  ![v2951.toNat, 0, 32]
def k0_off349 (v226 : BitVec 32) : Fin 3 → Nat :=
  let v2961 : Index := Scalar.indexCast v226
  let c0_1443 : Index := 0#32
  let c33_1444 : Index := 33#32
  ![v2961.toNat, 0, 33]
def k0_off350 (v226 : BitVec 32) : Fin 3 → Nat :=
  let v2971 : Index := Scalar.indexCast v226
  let c0_1447 : Index := 0#32
  let c34_1448 : Index := 34#32
  ![v2971.toNat, 0, 34]
def k0_off351 (v226 : BitVec 32) : Fin 3 → Nat :=
  let v2981 : Index := Scalar.indexCast v226
  let c0_1451 : Index := 0#32
  let c35_1452 : Index := 35#32
  ![v2981.toNat, 0, 35]
def k0_off352 (v226 : BitVec 32) : Fin 3 → Nat :=
  let v2991 : Index := Scalar.indexCast v226
  let c0_1455 : Index := 0#32
  let c36_1456 : Index := 36#32
  ![v2991.toNat, 0, 36]
def k0_off353 (v226 : BitVec 32) : Fin 3 → Nat :=
  let v3001 : Index := Scalar.indexCast v226
  let c0_1459 : Index := 0#32
  let c37_1460 : Index := 37#32
  ![v3001.toNat, 0, 37]
def k0_off354 (v226 : BitVec 32) : Fin 3 → Nat :=
  let v3011 : Index := Scalar.indexCast v226
  let c0_1463 : Index := 0#32
  let c38_1464 : Index := 38#32
  ![v3011.toNat, 0, 38]
def k0_off355 (v226 : BitVec 32) : Fin 3 → Nat :=
  let v3021 : Index := Scalar.indexCast v226
  let c0_1467 : Index := 0#32
  let c39_1468 : Index := 39#32
  ![v3021.toNat, 0, 39]

def k0_chk9_0 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) : Prop :=
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off300 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off301 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off302 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off303 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off304 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off305 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off306 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off307 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off308 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off309 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off310 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off311 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off312 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off313 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off314 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off315 v226) a + S1x40x1.size a ≤ S8x40x16.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off316 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off317 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off318 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off319 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off320 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off321 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off322 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off323 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off324 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off325 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off326 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off327 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off328 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off329 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off330 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off331 v226) a + S1x8x1.size a ≤ S8x8x40.size a)
def k0_chk9_1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) : Prop :=
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off332 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off333 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off334 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off335 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off336 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off337 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off338 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off339 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off340 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off341 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off342 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off343 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off344 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off345 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off346 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off347 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off348 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off349 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off350 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off351 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off352 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off353 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off354 v226) a + S1x8x1.size a ≤ S8x8x40.size a) ∧
  (∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off355 v226) a + S1x8x1.size a ≤ S8x8x40.size a)
def k0_chk9 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) : Prop :=
  k0_chk9_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 ∧
  k0_chk9_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226
theorem k0_off300_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off300 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.1 k0_h8
theorem k0_off301_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off301 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.1 k0_h8
theorem k0_off302_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off302 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.1 k0_h8
theorem k0_off303_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off303 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.1 k0_h8
theorem k0_off304_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off304 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.1 k0_h8
theorem k0_off305_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off305 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.1 k0_h8
theorem k0_off306_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off306 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.1 k0_h8
theorem k0_off307_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off307 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.1 k0_h8
theorem k0_off308_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off308 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.1 k0_h8
theorem k0_off309_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off309 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.1 k0_h8
theorem k0_off310_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off310 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.1 k0_h8
theorem k0_off311_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off311 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.1 k0_h8
theorem k0_off312_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off312 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.1 k0_h8
theorem k0_off313_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off313 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.1 k0_h8
theorem k0_off314_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off314 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.1 k0_h8
theorem k0_off315_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off315 v226) a + S1x40x1.size a ≤ S8x40x16.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.1 k0_h8
theorem k0_off316_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off316 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.1 k0_h8
theorem k0_off317_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off317 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.1 k0_h8
theorem k0_off318_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off318 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.1 k0_h8
theorem k0_off319_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off319 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.1 k0_h8
theorem k0_off320_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off320 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.1 k0_h8
theorem k0_off321_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off321 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.1 k0_h8
theorem k0_off322_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off322 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.1 k0_h8
theorem k0_off323_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off323 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.1 k0_h8
theorem k0_off324_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off324 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.1 k0_h8
theorem k0_off325_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off325 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.1 k0_h8
theorem k0_off326_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off326 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.2.1 k0_h8
theorem k0_off327_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off327 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.2.2.1 k0_h8
theorem k0_off328_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off328 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.2.2.2.1 k0_h8
theorem k0_off329_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off329 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.2.2.2.2.1 k0_h8
theorem k0_off330_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off330 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.2.2.2.2.2.1 k0_h8
theorem k0_off331_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off331 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.1.2.2.2.2.2.2.2.2.2.2.2.2.2.2.2.2.2.2.2.2.2.2.2.2.2.2.2.2.2.2.2 k0_h8
theorem k0_off332_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off332 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.1 k0_h8
theorem k0_off333_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off333 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.1 k0_h8
theorem k0_off334_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off334 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.1 k0_h8
theorem k0_off335_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off335 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.1 k0_h8
theorem k0_off336_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off336 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.1 k0_h8
theorem k0_off337_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off337 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.1 k0_h8
theorem k0_off338_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off338 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.1 k0_h8
theorem k0_off339_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off339 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.1 k0_h8
theorem k0_off340_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off340 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.1 k0_h8
theorem k0_off341_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off341 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.1 k0_h8
theorem k0_off342_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off342 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.1 k0_h8
theorem k0_off343_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off343 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.1 k0_h8
theorem k0_off344_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off344 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.1 k0_h8
theorem k0_off345_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off345 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.1 k0_h8
theorem k0_off346_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off346 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.1 k0_h8
theorem k0_off347_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off347 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.1 k0_h8
theorem k0_off348_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off348 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.1 k0_h8
theorem k0_off349_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off349 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.1 k0_h8
theorem k0_off350_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off350 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.2.1 k0_h8
theorem k0_off351_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off351 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.2.2.1 k0_h8
theorem k0_off352_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off352 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.2.2.2.1 k0_h8
theorem k0_off353_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off353 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.2.2.2.2.1 k0_h8
theorem k0_off354_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off354 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.2.2.2.2.2.1 k0_h8
theorem k0_off355_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v226 : BitVec 32) (k0_hw9 : k0_chk9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226), ∀ (k0_h8 : k0_cond8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off355 v226) a + S1x8x1.size a ≤ S8x8x40.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v226 k0_hw9 k0_h8 => k0_hw9.2.2.2.2.2.2.2.2.2.2.2.2.2.2.2.2.2.2.2.2.2.2.2.2 k0_h8

def k0_off356 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c0_i32_104 : BitVec 32 := 0#32
  let v238 : BitVec 1 := Scalar.cmpi .sgt arg18 c0_i32_104
  let v239 : BitVec 32 := Scalar.extui v238
  let c0_i32_105 : BitVec 32 := 0#32
  let v240 : BitVec 1 := Scalar.cmpi .slt arg18 c0_i32_105
  let v241 : BitVec 32 := Scalar.extui v240
  let v242 : BitVec 32 := Scalar.subi v239 v241
  let c4_i32_103 : BitVec 32 := 4#32
  let c0_i32_106 : BitVec 32 := 0#32
  let v243 : BitVec 1 := Scalar.cmpi .sgt c4_i32_103 c0_i32_106
  let v244 : BitVec 32 := Scalar.extui v243
  let c0_i32_107 : BitVec 32 := 0#32
  let v245 : BitVec 1 := Scalar.cmpi .slt c4_i32_103 c0_i32_107
  let v246 : BitVec 32 := Scalar.extui v245
  let v247 : BitVec 32 := Scalar.subi v244 v246
  let v248 : BitVec 1 := Scalar.cmpi .ne v242 v247
  let v249 : BitVec 32 := Scalar.remsi arg18 c4_i32_103
  let c0_i32_108 : BitVec 32 := 0#32
  let v250 : BitVec 1 := Scalar.cmpi .ne v249 c0_i32_108
  let v251 : BitVec 1 := Scalar.andi v248 v250
  let v237 : BitVec 32 := Scalar.divsi arg18 c4_i32_103
  let c1_i32_109 : BitVec 32 := 1#32
  let v252 : BitVec 32 := Scalar.subi v237 c1_i32_109
  let v253 : BitVec 32 := Scalar.select v251 v252 v237
  let v254 : Index := Scalar.indexCast v253
  ![v254.toNat]
def k0_mult19 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_110 : BitVec 32 := 4#32
  let v256 : BitVec 32 := Scalar.remsi arg18 c4_i32_110
  let c256_i32 : BitVec 32 := 256#32
  let v257 : BitVec 32 := Scalar.muli v256 c256_i32
  v257
def k0_mult20 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c1024_i32 : BitVec 32 := 1024#32
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_110 : BitVec 32 := 4#32
  let v256 : BitVec 32 := Scalar.remsi arg18 c4_i32_110
  let c256_i32_111 : BitVec 32 := 256#32
  let v259 : BitVec 32 := Scalar.muli v256 c256_i32_111
  let v260 : BitVec 32 := Scalar.addi c1024_i32 v259
  v260
def k0_mult21 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 32 :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_110 : BitVec 32 := 4#32
  let v256 : BitVec 32 := Scalar.remsi arg18 c4_i32_110
  let c256_i32_112 : BitVec 32 := 256#32
  let v262 : BitVec 32 := Scalar.muli v256 c256_i32_112
  v262
def k0_off357 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_102 : BitVec 32 := 4#32
  let v236 : BitVec 32 := Scalar.remsi arg18 c4_i32_102
  ![v236.toNat]
def k0_off358 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_102 : BitVec 32 := 4#32
  let v236 : BitVec 32 := Scalar.remsi arg18 c4_i32_102
  let c0_i32_113 : BitVec 32 := 0#32
  let c0_i32_114 : BitVec 32 := 0#32
  let c0_i32_115 : BitVec 32 := 0#32
  ![v236.toNat, 0, 0, 0]
def k0_off359 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Fin 3 → Nat :=
  let c0_i32_116 : BitVec 32 := 0#32
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_110 : BitVec 32 := 4#32
  let v256 : BitVec 32 := Scalar.remsi arg18 c4_i32_110
  let c256_i32 : BitVec 32 := 256#32
  let v257 : BitVec 32 := Scalar.muli v256 c256_i32
  let v258 : BitVec 32 := v257
  ![v255.toNat, 0, v258.toNat]

def k0_off360 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_102 : BitVec 32 := 4#32
  let v236 : BitVec 32 := Scalar.remsi arg18 c4_i32_102
  ![v236.toNat]
def k0_off361 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_102 : BitVec 32 := 4#32
  let v236 : BitVec 32 := Scalar.remsi arg18 c4_i32_102
  let c1_i32_117 : BitVec 32 := 1#32
  let c0_i32_118 : BitVec 32 := 0#32
  let c0_i32_119 : BitVec 32 := 0#32
  ![v236.toNat, 1, 0, 0]
def k0_off362 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Fin 3 → Nat :=
  let c0_i32_120 : BitVec 32 := 0#32
  let c1024_i32 : BitVec 32 := 1024#32
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_110 : BitVec 32 := 4#32
  let v256 : BitVec 32 := Scalar.remsi arg18 c4_i32_110
  let c256_i32_111 : BitVec 32 := 256#32
  let v259 : BitVec 32 := Scalar.muli v256 c256_i32_111
  let v260 : BitVec 32 := Scalar.addi c1024_i32 v259
  let v261 : BitVec 32 := v260
  ![v255.toNat, 0, v261.toNat]
def k0_off363 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_123 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v278 : BitVec 32 := Scalar.addi v277 c0_i32_123
  let v279 : Index := Scalar.indexCast v278
  let c0_124 : Index := 0#32
  let c0_125 : Index := 0#32
  ![v279.toNat, 0, 0]
def k0_off364 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v287 : Index := Scalar.indexCast v207
  let c0_129 : Index := 0#32
  let c0_130 : Index := 0#32
  let c0_131 : Index := 0#32
  ![v287.toNat, 0, 0, 0]
def k0_off365 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_132 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v295 : BitVec 32 := Scalar.addi v277 c0_i32_132
  let v296 : Index := Scalar.indexCast v295
  let c1_133 : Index := 1#32
  let c0_134 : Index := 0#32
  ![v296.toNat, 1, 0]
def k0_off366 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v304 : Index := Scalar.indexCast v207
  let c0_138 : Index := 0#32
  let c128 : Index := 128#32
  let c0_139 : Index := 0#32
  ![v304.toNat, 0, 128, 0]
def k0_off367 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_143 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v316 : BitVec 32 := Scalar.addi v277 c0_i32_143
  let v317 : Index := Scalar.indexCast v316
  let c2_144 : Index := 2#32
  let c0_145 : Index := 0#32
  ![v317.toNat, 2, 0]
def k0_off368 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v325 : Index := Scalar.indexCast v207
  let c0_149 : Index := 0#32
  let c256 : Index := 256#32
  let c0_150 : Index := 0#32
  ![v325.toNat, 0, 256, 0]
def k0_off369 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_151 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v333 : BitVec 32 := Scalar.addi v277 c0_i32_151
  let v334 : Index := Scalar.indexCast v333
  let c3_152 : Index := 3#32
  let c0_153 : Index := 0#32
  ![v334.toNat, 3, 0]
def k0_off370 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v342 : Index := Scalar.indexCast v207
  let c0_157 : Index := 0#32
  let c384 : Index := 384#32
  let c0_158 : Index := 0#32
  ![v342.toNat, 0, 384, 0]
def k0_off371 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_162 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v355 : BitVec 32 := Scalar.addi v277 c0_i32_162
  let v356 : Index := Scalar.indexCast v355
  let c4_163 : Index := 4#32
  let c0_164 : Index := 0#32
  ![v356.toNat, 4, 0]
def k0_off372 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v364 : Index := Scalar.indexCast v207
  let c0_168 : Index := 0#32
  let c512 : Index := 512#32
  let c0_169 : Index := 0#32
  ![v364.toNat, 0, 512, 0]
def k0_off373 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_170 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v372 : BitVec 32 := Scalar.addi v277 c0_i32_170
  let v373 : Index := Scalar.indexCast v372
  let c5_171 : Index := 5#32
  let c0_172 : Index := 0#32
  ![v373.toNat, 5, 0]
def k0_off374 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v381 : Index := Scalar.indexCast v207
  let c0_176 : Index := 0#32
  let c640 : Index := 640#32
  let c0_177 : Index := 0#32
  ![v381.toNat, 0, 640, 0]
def k0_off375 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_181 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v394 : BitVec 32 := Scalar.addi v277 c0_i32_181
  let v395 : Index := Scalar.indexCast v394
  let c6_182 : Index := 6#32
  let c0_183 : Index := 0#32
  ![v395.toNat, 6, 0]
def k0_off376 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v403 : Index := Scalar.indexCast v207
  let c0_187 : Index := 0#32
  let c768 : Index := 768#32
  let c0_188 : Index := 0#32
  ![v403.toNat, 0, 768, 0]
def k0_off377 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_189 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v411 : BitVec 32 := Scalar.addi v277 c0_i32_189
  let v412 : Index := Scalar.indexCast v411
  let c7_190 : Index := 7#32
  let c0_191 : Index := 0#32
  ![v412.toNat, 7, 0]
def k0_off378 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v420 : Index := Scalar.indexCast v207
  let c0_195 : Index := 0#32
  let c896 : Index := 896#32
  let c0_196 : Index := 0#32
  ![v420.toNat, 0, 896, 0]
def k0_off379 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_200 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v433 : BitVec 32 := Scalar.addi v277 c0_i32_200
  let v434 : Index := Scalar.indexCast v433
  let c8_201 : Index := 8#32
  let c0_202 : Index := 0#32
  ![v434.toNat, 8, 0]
def k0_off380 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v442 : Index := Scalar.indexCast v207
  let c0_206 : Index := 0#32
  let c1024 : Index := 1024#32
  let c0_207 : Index := 0#32
  ![v442.toNat, 0, 1024, 0]
def k0_off381 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_208 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v450 : BitVec 32 := Scalar.addi v277 c0_i32_208
  let v451 : Index := Scalar.indexCast v450
  let c9_209 : Index := 9#32
  let c0_210 : Index := 0#32
  ![v451.toNat, 9, 0]
def k0_off382 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v459 : Index := Scalar.indexCast v207
  let c0_214 : Index := 0#32
  let c1152 : Index := 1152#32
  let c0_215 : Index := 0#32
  ![v459.toNat, 0, 1152, 0]
def k0_off383 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_219 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v472 : BitVec 32 := Scalar.addi v277 c0_i32_219
  let v473 : Index := Scalar.indexCast v472
  let c10_220 : Index := 10#32
  let c0_221 : Index := 0#32
  ![v473.toNat, 10, 0]
def k0_off384 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v481 : Index := Scalar.indexCast v207
  let c0_225 : Index := 0#32
  let c1280 : Index := 1280#32
  let c0_226 : Index := 0#32
  ![v481.toNat, 0, 1280, 0]
def k0_off385 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_227 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v489 : BitVec 32 := Scalar.addi v277 c0_i32_227
  let v490 : Index := Scalar.indexCast v489
  let c11_228 : Index := 11#32
  let c0_229 : Index := 0#32
  ![v490.toNat, 11, 0]
def k0_off386 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v498 : Index := Scalar.indexCast v207
  let c0_233 : Index := 0#32
  let c1408 : Index := 1408#32
  let c0_234 : Index := 0#32
  ![v498.toNat, 0, 1408, 0]
def k0_off387 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_238 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v511 : BitVec 32 := Scalar.addi v277 c0_i32_238
  let v512 : Index := Scalar.indexCast v511
  let c12_239 : Index := 12#32
  let c0_240 : Index := 0#32
  ![v512.toNat, 12, 0]
def k0_off388 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v520 : Index := Scalar.indexCast v207
  let c0_244 : Index := 0#32
  let c1536 : Index := 1536#32
  let c0_245 : Index := 0#32
  ![v520.toNat, 0, 1536, 0]
def k0_off389 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_246 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v528 : BitVec 32 := Scalar.addi v277 c0_i32_246
  let v529 : Index := Scalar.indexCast v528
  let c13_247 : Index := 13#32
  let c0_248 : Index := 0#32
  ![v529.toNat, 13, 0]
def k0_off390 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v537 : Index := Scalar.indexCast v207
  let c0_252 : Index := 0#32
  let c1664 : Index := 1664#32
  let c0_253 : Index := 0#32
  ![v537.toNat, 0, 1664, 0]
def k0_off391 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_257 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v550 : BitVec 32 := Scalar.addi v277 c0_i32_257
  let v551 : Index := Scalar.indexCast v550
  let c14_258 : Index := 14#32
  let c0_259 : Index := 0#32
  ![v551.toNat, 14, 0]
def k0_off392 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v559 : Index := Scalar.indexCast v207
  let c0_263 : Index := 0#32
  let c1792 : Index := 1792#32
  let c0_264 : Index := 0#32
  ![v559.toNat, 0, 1792, 0]
def k0_off393 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_265 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v567 : BitVec 32 := Scalar.addi v277 c0_i32_265
  let v568 : Index := Scalar.indexCast v567
  let c15_266 : Index := 15#32
  let c0_267 : Index := 0#32
  ![v568.toNat, 15, 0]
def k0_off394 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v576 : Index := Scalar.indexCast v207
  let c0_271 : Index := 0#32
  let c1920 : Index := 1920#32
  let c0_272 : Index := 0#32
  ![v576.toNat, 0, 1920, 0]
def k0_off395 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_276 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v589 : BitVec 32 := Scalar.addi v277 c0_i32_276
  let v590 : Index := Scalar.indexCast v589
  let c16_277 : Index := 16#32
  let c0_278 : Index := 0#32
  ![v590.toNat, 16, 0]
def k0_off396 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v598 : Index := Scalar.indexCast v207
  let c0_282 : Index := 0#32
  let c2048 : Index := 2048#32
  let c0_283 : Index := 0#32
  ![v598.toNat, 0, 2048, 0]
def k0_off397 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_284 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v606 : BitVec 32 := Scalar.addi v277 c0_i32_284
  let v607 : Index := Scalar.indexCast v606
  let c17_285 : Index := 17#32
  let c0_286 : Index := 0#32
  ![v607.toNat, 17, 0]
def k0_off398 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v615 : Index := Scalar.indexCast v207
  let c0_290 : Index := 0#32
  let c2176 : Index := 2176#32
  let c0_291 : Index := 0#32
  ![v615.toNat, 0, 2176, 0]
def k0_off399 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_295 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v628 : BitVec 32 := Scalar.addi v277 c0_i32_295
  let v629 : Index := Scalar.indexCast v628
  let c18_296 : Index := 18#32
  let c0_297 : Index := 0#32
  ![v629.toNat, 18, 0]
def k0_off400 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v637 : Index := Scalar.indexCast v207
  let c0_301 : Index := 0#32
  let c2304 : Index := 2304#32
  let c0_302 : Index := 0#32
  ![v637.toNat, 0, 2304, 0]
def k0_off401 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_303 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v645 : BitVec 32 := Scalar.addi v277 c0_i32_303
  let v646 : Index := Scalar.indexCast v645
  let c19_304 : Index := 19#32
  let c0_305 : Index := 0#32
  ![v646.toNat, 19, 0]
def k0_off402 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v654 : Index := Scalar.indexCast v207
  let c0_309 : Index := 0#32
  let c2432 : Index := 2432#32
  let c0_310 : Index := 0#32
  ![v654.toNat, 0, 2432, 0]
def k0_off403 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_314 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v667 : BitVec 32 := Scalar.addi v277 c0_i32_314
  let v668 : Index := Scalar.indexCast v667
  let c20_315 : Index := 20#32
  let c0_316 : Index := 0#32
  ![v668.toNat, 20, 0]
def k0_off404 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v676 : Index := Scalar.indexCast v207
  let c0_320 : Index := 0#32
  let c2560 : Index := 2560#32
  let c0_321 : Index := 0#32
  ![v676.toNat, 0, 2560, 0]
def k0_off405 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_322 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v684 : BitVec 32 := Scalar.addi v277 c0_i32_322
  let v685 : Index := Scalar.indexCast v684
  let c21_323 : Index := 21#32
  let c0_324 : Index := 0#32
  ![v685.toNat, 21, 0]
def k0_off406 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v693 : Index := Scalar.indexCast v207
  let c0_328 : Index := 0#32
  let c2688 : Index := 2688#32
  let c0_329 : Index := 0#32
  ![v693.toNat, 0, 2688, 0]
def k0_off407 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_333 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v706 : BitVec 32 := Scalar.addi v277 c0_i32_333
  let v707 : Index := Scalar.indexCast v706
  let c22_334 : Index := 22#32
  let c0_335 : Index := 0#32
  ![v707.toNat, 22, 0]
def k0_off408 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v715 : Index := Scalar.indexCast v207
  let c0_339 : Index := 0#32
  let c2816 : Index := 2816#32
  let c0_340 : Index := 0#32
  ![v715.toNat, 0, 2816, 0]
def k0_off409 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_341 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v723 : BitVec 32 := Scalar.addi v277 c0_i32_341
  let v724 : Index := Scalar.indexCast v723
  let c23_342 : Index := 23#32
  let c0_343 : Index := 0#32
  ![v724.toNat, 23, 0]
def k0_off410 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v732 : Index := Scalar.indexCast v207
  let c0_347 : Index := 0#32
  let c2944 : Index := 2944#32
  let c0_348 : Index := 0#32
  ![v732.toNat, 0, 2944, 0]
def k0_off411 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_352 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v745 : BitVec 32 := Scalar.addi v277 c0_i32_352
  let v746 : Index := Scalar.indexCast v745
  let c24_353 : Index := 24#32
  let c0_354 : Index := 0#32
  ![v746.toNat, 24, 0]
def k0_off412 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v754 : Index := Scalar.indexCast v207
  let c0_358 : Index := 0#32
  let c3072 : Index := 3072#32
  let c0_359 : Index := 0#32
  ![v754.toNat, 0, 3072, 0]
def k0_off413 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_360 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v762 : BitVec 32 := Scalar.addi v277 c0_i32_360
  let v763 : Index := Scalar.indexCast v762
  let c25_361 : Index := 25#32
  let c0_362 : Index := 0#32
  ![v763.toNat, 25, 0]
def k0_off414 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v771 : Index := Scalar.indexCast v207
  let c0_366 : Index := 0#32
  let c3200 : Index := 3200#32
  let c0_367 : Index := 0#32
  ![v771.toNat, 0, 3200, 0]
def k0_off415 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_371 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v784 : BitVec 32 := Scalar.addi v277 c0_i32_371
  let v785 : Index := Scalar.indexCast v784
  let c26_372 : Index := 26#32
  let c0_373 : Index := 0#32
  ![v785.toNat, 26, 0]
def k0_off416 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v793 : Index := Scalar.indexCast v207
  let c0_377 : Index := 0#32
  let c3328 : Index := 3328#32
  let c0_378 : Index := 0#32
  ![v793.toNat, 0, 3328, 0]
def k0_off417 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_379 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v801 : BitVec 32 := Scalar.addi v277 c0_i32_379
  let v802 : Index := Scalar.indexCast v801
  let c27_380 : Index := 27#32
  let c0_381 : Index := 0#32
  ![v802.toNat, 27, 0]
def k0_off418 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v810 : Index := Scalar.indexCast v207
  let c0_385 : Index := 0#32
  let c3456 : Index := 3456#32
  let c0_386 : Index := 0#32
  ![v810.toNat, 0, 3456, 0]
def k0_off419 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_390 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v823 : BitVec 32 := Scalar.addi v277 c0_i32_390
  let v824 : Index := Scalar.indexCast v823
  let c28_391 : Index := 28#32
  let c0_392 : Index := 0#32
  ![v824.toNat, 28, 0]
def k0_off420 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v832 : Index := Scalar.indexCast v207
  let c0_396 : Index := 0#32
  let c3584 : Index := 3584#32
  let c0_397 : Index := 0#32
  ![v832.toNat, 0, 3584, 0]
def k0_off421 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_398 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v840 : BitVec 32 := Scalar.addi v277 c0_i32_398
  let v841 : Index := Scalar.indexCast v840
  let c29_399 : Index := 29#32
  let c0_400 : Index := 0#32
  ![v841.toNat, 29, 0]
def k0_off422 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v849 : Index := Scalar.indexCast v207
  let c0_404 : Index := 0#32
  let c3712 : Index := 3712#32
  let c0_405 : Index := 0#32
  ![v849.toNat, 0, 3712, 0]
def k0_off423 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_409 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v862 : BitVec 32 := Scalar.addi v277 c0_i32_409
  let v863 : Index := Scalar.indexCast v862
  let c30_410 : Index := 30#32
  let c0_411 : Index := 0#32
  ![v863.toNat, 30, 0]
def k0_off424 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v871 : Index := Scalar.indexCast v207
  let c0_415 : Index := 0#32
  let c3840 : Index := 3840#32
  let c0_416 : Index := 0#32
  ![v871.toNat, 0, 3840, 0]
def k0_off425 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_417 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v879 : BitVec 32 := Scalar.addi v277 c0_i32_417
  let v880 : Index := Scalar.indexCast v879
  let c31_418 : Index := 31#32
  let c0_419 : Index := 0#32
  ![v880.toNat, 31, 0]
def k0_off426 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v888 : Index := Scalar.indexCast v207
  let c0_423 : Index := 0#32
  let c3968 : Index := 3968#32
  let c0_424 : Index := 0#32
  ![v888.toNat, 0, 3968, 0]
def k0_off427 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_428 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v901 : BitVec 32 := Scalar.addi v277 c0_i32_428
  let v902 : Index := Scalar.indexCast v901
  let c32_429 : Index := 32#32
  let c0_430 : Index := 0#32
  ![v902.toNat, 32, 0]
def k0_off428 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v910 : Index := Scalar.indexCast v207
  let c0_434 : Index := 0#32
  let c4096 : Index := 4096#32
  let c0_435 : Index := 0#32
  ![v910.toNat, 0, 4096, 0]
def k0_off429 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_436 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v918 : BitVec 32 := Scalar.addi v277 c0_i32_436
  let v919 : Index := Scalar.indexCast v918
  let c33_437 : Index := 33#32
  let c0_438 : Index := 0#32
  ![v919.toNat, 33, 0]
def k0_off430 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v927 : Index := Scalar.indexCast v207
  let c0_442 : Index := 0#32
  let c4224 : Index := 4224#32
  let c0_443 : Index := 0#32
  ![v927.toNat, 0, 4224, 0]
def k0_off431 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_447 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v940 : BitVec 32 := Scalar.addi v277 c0_i32_447
  let v941 : Index := Scalar.indexCast v940
  let c34_448 : Index := 34#32
  let c0_449 : Index := 0#32
  ![v941.toNat, 34, 0]
def k0_off432 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v949 : Index := Scalar.indexCast v207
  let c0_453 : Index := 0#32
  let c4352 : Index := 4352#32
  let c0_454 : Index := 0#32
  ![v949.toNat, 0, 4352, 0]
def k0_off433 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_455 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v957 : BitVec 32 := Scalar.addi v277 c0_i32_455
  let v958 : Index := Scalar.indexCast v957
  let c35_456 : Index := 35#32
  let c0_457 : Index := 0#32
  ![v958.toNat, 35, 0]
def k0_off434 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v966 : Index := Scalar.indexCast v207
  let c0_461 : Index := 0#32
  let c4480 : Index := 4480#32
  let c0_462 : Index := 0#32
  ![v966.toNat, 0, 4480, 0]
def k0_off435 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_466 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v979 : BitVec 32 := Scalar.addi v277 c0_i32_466
  let v980 : Index := Scalar.indexCast v979
  let c36_467 : Index := 36#32
  let c0_468 : Index := 0#32
  ![v980.toNat, 36, 0]
def k0_off436 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v988 : Index := Scalar.indexCast v207
  let c0_472 : Index := 0#32
  let c4608 : Index := 4608#32
  let c0_473 : Index := 0#32
  ![v988.toNat, 0, 4608, 0]
def k0_off437 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_474 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v996 : BitVec 32 := Scalar.addi v277 c0_i32_474
  let v997 : Index := Scalar.indexCast v996
  let c37_475 : Index := 37#32
  let c0_476 : Index := 0#32
  ![v997.toNat, 37, 0]
def k0_off438 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1005 : Index := Scalar.indexCast v207
  let c0_480 : Index := 0#32
  let c4736 : Index := 4736#32
  let c0_481 : Index := 0#32
  ![v1005.toNat, 0, 4736, 0]
def k0_off439 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_485 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v1018 : BitVec 32 := Scalar.addi v277 c0_i32_485
  let v1019 : Index := Scalar.indexCast v1018
  let c38_486 : Index := 38#32
  let c0_487 : Index := 0#32
  ![v1019.toNat, 38, 0]
def k0_off440 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1027 : Index := Scalar.indexCast v207
  let c0_491 : Index := 0#32
  let c4864 : Index := 4864#32
  let c0_492 : Index := 0#32
  ![v1027.toNat, 0, 4864, 0]
def k0_off441 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_122 : BitVec 32) (c0_i32_493 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_121 : BitVec 32 := 2#32
  let v276 : BitVec 32 := Scalar.muli v227 c2_i32_121
  let v277 : BitVec 32 := Scalar.addi c0_i32_122 v276
  let v1035 : BitVec 32 := Scalar.addi v277 c0_i32_493
  let v1036 : Index := Scalar.indexCast v1035
  let c39_494 : Index := 39#32
  let c0_495 : Index := 0#32
  ![v1036.toNat, 39, 0]
def k0_off442 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1044 : Index := Scalar.indexCast v207
  let c0_499 : Index := 0#32
  let c4992 : Index := 4992#32
  let c0_500 : Index := 0#32
  ![v1044.toNat, 0, 4992, 0]
def k0_off443 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1068 : Index := Scalar.indexCast v207
  let c1_511 : Index := 1#32
  let c0_512 : Index := 0#32
  let c0_513 : Index := 0#32
  ![v1068.toNat, 1, 0, 0]

variable {F : FTy → Type} [FloatOps F]

def k0_off444 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1085 : Index := Scalar.indexCast v207
  let c1_520 : Index := 1#32
  let c128_521 : Index := 128#32
  let c0_522 : Index := 0#32
  ![v1085.toNat, 1, 128, 0]
def k0_off445 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1106 : Index := Scalar.indexCast v207
  let c1_532 : Index := 1#32
  let c256_533 : Index := 256#32
  let c0_534 : Index := 0#32
  ![v1106.toNat, 1, 256, 0]
def k0_off446 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1123 : Index := Scalar.indexCast v207
  let c1_541 : Index := 1#32
  let c384_542 : Index := 384#32
  let c0_543 : Index := 0#32
  ![v1123.toNat, 1, 384, 0]
def k0_off447 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1145 : Index := Scalar.indexCast v207
  let c1_553 : Index := 1#32
  let c512_554 : Index := 512#32
  let c0_555 : Index := 0#32
  ![v1145.toNat, 1, 512, 0]
def k0_off448 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1162 : Index := Scalar.indexCast v207
  let c1_562 : Index := 1#32
  let c640_563 : Index := 640#32
  let c0_564 : Index := 0#32
  ![v1162.toNat, 1, 640, 0]
def k0_off449 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1184 : Index := Scalar.indexCast v207
  let c1_574 : Index := 1#32
  let c768_575 : Index := 768#32
  let c0_576 : Index := 0#32
  ![v1184.toNat, 1, 768, 0]
def k0_off450 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1201 : Index := Scalar.indexCast v207
  let c1_583 : Index := 1#32
  let c896_584 : Index := 896#32
  let c0_585 : Index := 0#32
  ![v1201.toNat, 1, 896, 0]
def k0_off451 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1223 : Index := Scalar.indexCast v207
  let c1_595 : Index := 1#32
  let c1024_596 : Index := 1024#32
  let c0_597 : Index := 0#32
  ![v1223.toNat, 1, 1024, 0]
def k0_off452 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1240 : Index := Scalar.indexCast v207
  let c1_604 : Index := 1#32
  let c1152_605 : Index := 1152#32
  let c0_606 : Index := 0#32
  ![v1240.toNat, 1, 1152, 0]
def k0_off453 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1262 : Index := Scalar.indexCast v207
  let c1_616 : Index := 1#32
  let c1280_617 : Index := 1280#32
  let c0_618 : Index := 0#32
  ![v1262.toNat, 1, 1280, 0]
def k0_off454 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1279 : Index := Scalar.indexCast v207
  let c1_625 : Index := 1#32
  let c1408_626 : Index := 1408#32
  let c0_627 : Index := 0#32
  ![v1279.toNat, 1, 1408, 0]
def k0_off455 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1301 : Index := Scalar.indexCast v207
  let c1_637 : Index := 1#32
  let c1536_638 : Index := 1536#32
  let c0_639 : Index := 0#32
  ![v1301.toNat, 1, 1536, 0]
def k0_off456 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1318 : Index := Scalar.indexCast v207
  let c1_646 : Index := 1#32
  let c1664_647 : Index := 1664#32
  let c0_648 : Index := 0#32
  ![v1318.toNat, 1, 1664, 0]
def k0_off457 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1340 : Index := Scalar.indexCast v207
  let c1_658 : Index := 1#32
  let c1792_659 : Index := 1792#32
  let c0_660 : Index := 0#32
  ![v1340.toNat, 1, 1792, 0]
def k0_off458 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1357 : Index := Scalar.indexCast v207
  let c1_667 : Index := 1#32
  let c1920_668 : Index := 1920#32
  let c0_669 : Index := 0#32
  ![v1357.toNat, 1, 1920, 0]
def k0_off459 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1379 : Index := Scalar.indexCast v207
  let c1_679 : Index := 1#32
  let c2048_680 : Index := 2048#32
  let c0_681 : Index := 0#32
  ![v1379.toNat, 1, 2048, 0]
def k0_off460 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1396 : Index := Scalar.indexCast v207
  let c1_688 : Index := 1#32
  let c2176_689 : Index := 2176#32
  let c0_690 : Index := 0#32
  ![v1396.toNat, 1, 2176, 0]
def k0_off461 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1418 : Index := Scalar.indexCast v207
  let c1_700 : Index := 1#32
  let c2304_701 : Index := 2304#32
  let c0_702 : Index := 0#32
  ![v1418.toNat, 1, 2304, 0]
def k0_off462 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1435 : Index := Scalar.indexCast v207
  let c1_709 : Index := 1#32
  let c2432_710 : Index := 2432#32
  let c0_711 : Index := 0#32
  ![v1435.toNat, 1, 2432, 0]
def k0_off463 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1457 : Index := Scalar.indexCast v207
  let c1_721 : Index := 1#32
  let c2560_722 : Index := 2560#32
  let c0_723 : Index := 0#32
  ![v1457.toNat, 1, 2560, 0]
def k0_off464 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1474 : Index := Scalar.indexCast v207
  let c1_730 : Index := 1#32
  let c2688_731 : Index := 2688#32
  let c0_732 : Index := 0#32
  ![v1474.toNat, 1, 2688, 0]
def k0_off465 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1496 : Index := Scalar.indexCast v207
  let c1_742 : Index := 1#32
  let c2816_743 : Index := 2816#32
  let c0_744 : Index := 0#32
  ![v1496.toNat, 1, 2816, 0]
def k0_off466 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1513 : Index := Scalar.indexCast v207
  let c1_751 : Index := 1#32
  let c2944_752 : Index := 2944#32
  let c0_753 : Index := 0#32
  ![v1513.toNat, 1, 2944, 0]
def k0_off467 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1535 : Index := Scalar.indexCast v207
  let c1_763 : Index := 1#32
  let c3072_764 : Index := 3072#32
  let c0_765 : Index := 0#32
  ![v1535.toNat, 1, 3072, 0]
def k0_off468 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1552 : Index := Scalar.indexCast v207
  let c1_772 : Index := 1#32
  let c3200_773 : Index := 3200#32
  let c0_774 : Index := 0#32
  ![v1552.toNat, 1, 3200, 0]
def k0_off469 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1574 : Index := Scalar.indexCast v207
  let c1_784 : Index := 1#32
  let c3328_785 : Index := 3328#32
  let c0_786 : Index := 0#32
  ![v1574.toNat, 1, 3328, 0]
def k0_off470 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1591 : Index := Scalar.indexCast v207
  let c1_793 : Index := 1#32
  let c3456_794 : Index := 3456#32
  let c0_795 : Index := 0#32
  ![v1591.toNat, 1, 3456, 0]
def k0_off471 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1613 : Index := Scalar.indexCast v207
  let c1_805 : Index := 1#32
  let c3584_806 : Index := 3584#32
  let c0_807 : Index := 0#32
  ![v1613.toNat, 1, 3584, 0]
def k0_off472 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1630 : Index := Scalar.indexCast v207
  let c1_814 : Index := 1#32
  let c3712_815 : Index := 3712#32
  let c0_816 : Index := 0#32
  ![v1630.toNat, 1, 3712, 0]
def k0_off473 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1652 : Index := Scalar.indexCast v207
  let c1_826 : Index := 1#32
  let c3840_827 : Index := 3840#32
  let c0_828 : Index := 0#32
  ![v1652.toNat, 1, 3840, 0]
def k0_off474 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1669 : Index := Scalar.indexCast v207
  let c1_835 : Index := 1#32
  let c3968_836 : Index := 3968#32
  let c0_837 : Index := 0#32
  ![v1669.toNat, 1, 3968, 0]
def k0_off475 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1691 : Index := Scalar.indexCast v207
  let c1_847 : Index := 1#32
  let c4096_848 : Index := 4096#32
  let c0_849 : Index := 0#32
  ![v1691.toNat, 1, 4096, 0]
def k0_off476 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1708 : Index := Scalar.indexCast v207
  let c1_856 : Index := 1#32
  let c4224_857 : Index := 4224#32
  let c0_858 : Index := 0#32
  ![v1708.toNat, 1, 4224, 0]
def k0_off477 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1730 : Index := Scalar.indexCast v207
  let c1_868 : Index := 1#32
  let c4352_869 : Index := 4352#32
  let c0_870 : Index := 0#32
  ![v1730.toNat, 1, 4352, 0]
def k0_off478 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1747 : Index := Scalar.indexCast v207
  let c1_877 : Index := 1#32
  let c4480_878 : Index := 4480#32
  let c0_879 : Index := 0#32
  ![v1747.toNat, 1, 4480, 0]
def k0_off479 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1769 : Index := Scalar.indexCast v207
  let c1_889 : Index := 1#32
  let c4608_890 : Index := 4608#32
  let c0_891 : Index := 0#32
  ![v1769.toNat, 1, 4608, 0]
def k0_off480 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1786 : Index := Scalar.indexCast v207
  let c1_898 : Index := 1#32
  let c4736_899 : Index := 4736#32
  let c0_900 : Index := 0#32
  ![v1786.toNat, 1, 4736, 0]
def k0_off481 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1808 : Index := Scalar.indexCast v207
  let c1_910 : Index := 1#32
  let c4864_911 : Index := 4864#32
  let c0_912 : Index := 0#32
  ![v1808.toNat, 1, 4864, 0]
def k0_off482 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 4 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1825 : Index := Scalar.indexCast v207
  let c1_919 : Index := 1#32
  let c4992_920 : Index := 4992#32
  let c0_921 : Index := 0#32
  ![v1825.toNat, 1, 4992, 0]
def k0_off483 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_102 : BitVec 32 := 4#32
  let v236 : BitVec 32 := Scalar.remsi arg18 c4_i32_102
  let c0_i32_925 : BitVec 32 := 0#32
  let c0_i32_926 : BitVec 32 := 0#32
  ![v236.toNat, 0, 0]
def k0_off484 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_110 : BitVec 32 := 4#32
  let v256 : BitVec 32 := Scalar.remsi arg18 c4_i32_110
  let c256_i32_112 : BitVec 32 := 256#32
  let v262 : BitVec 32 := Scalar.muli v256 c256_i32_112
  let v263 : BitVec 32 := v262
  let c0_i32_927 : BitVec 32 := 0#32
  ![v255.toNat, v263.toNat, 0]

def k0_chk10 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) : Prop :=
  (∀ a, (k0_off359 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x5120x256.size a ≤ S8x5120x2048.size a) ∧
  (∀ (hinb : ∀ a, (k0_off359 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x5120x256.size a ≤ S8x5120x2048.size a), (Rect.unit (s := S8x5120x2048) (k0_off359 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) S1x5120x256.size hinb).WholeWords (EltTy.packing .fp8e4m3)) ∧
  (∀ a, (k0_off362 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x5120x256.size a ≤ S8x5120x2048.size a) ∧
  (∀ (hinb : ∀ a, (k0_off362 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x5120x256.size a ≤ S8x5120x2048.size a), (Rect.unit (s := S8x5120x2048) (k0_off362 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) S1x5120x256.size hinb).WholeWords (EltTy.packing .fp8e4m3)) ∧
  (∀ a, (k0_off484 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x256x5120.size a ≤ S8x1024x5120.size a) ∧
  (∀ (hinb : ∀ a, (k0_off484 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x256x5120.size a ≤ S8x1024x5120.size a), (Rect.unit (s := S8x1024x5120) (k0_off484 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) S1x256x5120.size hinb).WholeWords (EltTy.packing .fp8e4m3))
theorem k0_off359_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw10 : k0_chk10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255), ∀ a, (k0_off359 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10 => k0_hw10.1
theorem k0_off359_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw10 : k0_chk10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255), (Rect.unit (s := S8x5120x2048) (k0_off359 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) S1x5120x256.size (k0_off359_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10 => k0_hw10.2.1 (k0_off359_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10)
theorem k0_off362_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw10 : k0_chk10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255), ∀ a, (k0_off362 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x5120x256.size a ≤ S8x5120x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10 => k0_hw10.2.2.1
theorem k0_off362_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw10 : k0_chk10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255), (Rect.unit (s := S8x5120x2048) (k0_off362 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) S1x5120x256.size (k0_off362_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10 => k0_hw10.2.2.2.1 (k0_off362_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10)
theorem k0_off484_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw10 : k0_chk10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255), ∀ a, (k0_off484 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) a + S1x256x5120.size a ≤ S8x1024x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10 => k0_hw10.2.2.2.2.1
theorem k0_off484_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v255 : BitVec 32) (k0_hw10 : k0_chk10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255), (Rect.unit (s := S8x1024x5120) (k0_off484 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255) S1x256x5120.size (k0_off484_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10 => k0_hw10.2.2.2.2.2 (k0_off484_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v255 k0_hw10)

def k0_off485 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1848 : Index := Scalar.indexCast v207
  let c0_928 : Index := 0#32
  let c0_929 : Index := 0#32
  ![v1848.toNat, 0, 0]
def k0_off486 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_931 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_930 : BitVec 32 := 2#32
  let v1851 : BitVec 32 := Scalar.muli v227 c2_i32_930
  let v1852 : BitVec 32 := Scalar.addi v1851 c0_i32_931
  let v1853 : Index := Scalar.indexCast v1852
  let c0_932 : Index := 0#32
  ![v1853.toNat, 0]
def k0_off487 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1860 : Index := Scalar.indexCast v207
  let c128_933 : Index := 128#32
  let c0_934 : Index := 0#32
  ![v1860.toNat, 128, 0]
def k0_off488 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1879 : Index := Scalar.indexCast v207
  let c0_943 : Index := 0#32
  let c256_944 : Index := 256#32
  ![v1879.toNat, 0, 256]
def k0_off489 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_946 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_945 : BitVec 32 := 2#32
  let v1882 : BitVec 32 := Scalar.muli v227 c2_i32_945
  let v1883 : BitVec 32 := Scalar.addi v1882 c0_i32_946
  let v1884 : Index := Scalar.indexCast v1883
  let c256_947 : Index := 256#32
  ![v1884.toNat, 256]
def k0_off490 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1891 : Index := Scalar.indexCast v207
  let c128_948 : Index := 128#32
  let c256_949 : Index := 256#32
  ![v1891.toNat, 128, 256]
def k0_off491 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1910 : Index := Scalar.indexCast v207
  let c0_958 : Index := 0#32
  let c512_959 : Index := 512#32
  ![v1910.toNat, 0, 512]
def k0_off492 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_961 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_960 : BitVec 32 := 2#32
  let v1913 : BitVec 32 := Scalar.muli v227 c2_i32_960
  let v1914 : BitVec 32 := Scalar.addi v1913 c0_i32_961
  let v1915 : Index := Scalar.indexCast v1914
  let c512_962 : Index := 512#32
  ![v1915.toNat, 512]
def k0_off493 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1922 : Index := Scalar.indexCast v207
  let c128_963 : Index := 128#32
  let c512_964 : Index := 512#32
  ![v1922.toNat, 128, 512]
def k0_off494 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1941 : Index := Scalar.indexCast v207
  let c0_973 : Index := 0#32
  let c768_974 : Index := 768#32
  ![v1941.toNat, 0, 768]
def k0_off495 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_976 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_975 : BitVec 32 := 2#32
  let v1944 : BitVec 32 := Scalar.muli v227 c2_i32_975
  let v1945 : BitVec 32 := Scalar.addi v1944 c0_i32_976
  let v1946 : Index := Scalar.indexCast v1945
  let c768_977 : Index := 768#32
  ![v1946.toNat, 768]
def k0_off496 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1953 : Index := Scalar.indexCast v207
  let c128_978 : Index := 128#32
  let c768_979 : Index := 768#32
  ![v1953.toNat, 128, 768]
def k0_off497 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1972 : Index := Scalar.indexCast v207
  let c0_988 : Index := 0#32
  let c1024_989 : Index := 1024#32
  ![v1972.toNat, 0, 1024]
def k0_off498 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_991 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_990 : BitVec 32 := 2#32
  let v1975 : BitVec 32 := Scalar.muli v227 c2_i32_990
  let v1976 : BitVec 32 := Scalar.addi v1975 c0_i32_991
  let v1977 : Index := Scalar.indexCast v1976
  let c1024_992 : Index := 1024#32
  ![v1977.toNat, 1024]
def k0_off499 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v1984 : Index := Scalar.indexCast v207
  let c128_993 : Index := 128#32
  let c1024_994 : Index := 1024#32
  ![v1984.toNat, 128, 1024]
def k0_off500 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2003 : Index := Scalar.indexCast v207
  let c0_1003 : Index := 0#32
  let c1280_1004 : Index := 1280#32
  ![v2003.toNat, 0, 1280]
def k0_off501 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1006 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1005 : BitVec 32 := 2#32
  let v2006 : BitVec 32 := Scalar.muli v227 c2_i32_1005
  let v2007 : BitVec 32 := Scalar.addi v2006 c0_i32_1006
  let v2008 : Index := Scalar.indexCast v2007
  let c1280_1007 : Index := 1280#32
  ![v2008.toNat, 1280]
def k0_off502 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2015 : Index := Scalar.indexCast v207
  let c128_1008 : Index := 128#32
  let c1280_1009 : Index := 1280#32
  ![v2015.toNat, 128, 1280]
def k0_off503 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2034 : Index := Scalar.indexCast v207
  let c0_1018 : Index := 0#32
  let c1536_1019 : Index := 1536#32
  ![v2034.toNat, 0, 1536]
def k0_off504 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1021 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1020 : BitVec 32 := 2#32
  let v2037 : BitVec 32 := Scalar.muli v227 c2_i32_1020
  let v2038 : BitVec 32 := Scalar.addi v2037 c0_i32_1021
  let v2039 : Index := Scalar.indexCast v2038
  let c1536_1022 : Index := 1536#32
  ![v2039.toNat, 1536]
def k0_off505 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2046 : Index := Scalar.indexCast v207
  let c128_1023 : Index := 128#32
  let c1536_1024 : Index := 1536#32
  ![v2046.toNat, 128, 1536]
def k0_off506 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2065 : Index := Scalar.indexCast v207
  let c0_1033 : Index := 0#32
  let c1792_1034 : Index := 1792#32
  ![v2065.toNat, 0, 1792]
def k0_off507 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1036 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1035 : BitVec 32 := 2#32
  let v2068 : BitVec 32 := Scalar.muli v227 c2_i32_1035
  let v2069 : BitVec 32 := Scalar.addi v2068 c0_i32_1036
  let v2070 : Index := Scalar.indexCast v2069
  let c1792_1037 : Index := 1792#32
  ![v2070.toNat, 1792]
def k0_off508 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2077 : Index := Scalar.indexCast v207
  let c128_1038 : Index := 128#32
  let c1792_1039 : Index := 1792#32
  ![v2077.toNat, 128, 1792]
def k0_off509 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2096 : Index := Scalar.indexCast v207
  let c0_1048 : Index := 0#32
  let c2048_1049 : Index := 2048#32
  ![v2096.toNat, 0, 2048]
def k0_off510 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1051 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1050 : BitVec 32 := 2#32
  let v2099 : BitVec 32 := Scalar.muli v227 c2_i32_1050
  let v2100 : BitVec 32 := Scalar.addi v2099 c0_i32_1051
  let v2101 : Index := Scalar.indexCast v2100
  let c2048_1052 : Index := 2048#32
  ![v2101.toNat, 2048]
def k0_off511 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2108 : Index := Scalar.indexCast v207
  let c128_1053 : Index := 128#32
  let c2048_1054 : Index := 2048#32
  ![v2108.toNat, 128, 2048]
def k0_off512 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2127 : Index := Scalar.indexCast v207
  let c0_1063 : Index := 0#32
  let c2304_1064 : Index := 2304#32
  ![v2127.toNat, 0, 2304]
def k0_off513 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1066 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1065 : BitVec 32 := 2#32
  let v2130 : BitVec 32 := Scalar.muli v227 c2_i32_1065
  let v2131 : BitVec 32 := Scalar.addi v2130 c0_i32_1066
  let v2132 : Index := Scalar.indexCast v2131
  let c2304_1067 : Index := 2304#32
  ![v2132.toNat, 2304]
def k0_off514 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2139 : Index := Scalar.indexCast v207
  let c128_1068 : Index := 128#32
  let c2304_1069 : Index := 2304#32
  ![v2139.toNat, 128, 2304]
def k0_off515 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2158 : Index := Scalar.indexCast v207
  let c0_1078 : Index := 0#32
  let c2560_1079 : Index := 2560#32
  ![v2158.toNat, 0, 2560]
def k0_off516 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1081 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1080 : BitVec 32 := 2#32
  let v2161 : BitVec 32 := Scalar.muli v227 c2_i32_1080
  let v2162 : BitVec 32 := Scalar.addi v2161 c0_i32_1081
  let v2163 : Index := Scalar.indexCast v2162
  let c2560_1082 : Index := 2560#32
  ![v2163.toNat, 2560]
def k0_off517 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2170 : Index := Scalar.indexCast v207
  let c128_1083 : Index := 128#32
  let c2560_1084 : Index := 2560#32
  ![v2170.toNat, 128, 2560]
def k0_off518 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2189 : Index := Scalar.indexCast v207
  let c0_1093 : Index := 0#32
  let c2816_1094 : Index := 2816#32
  ![v2189.toNat, 0, 2816]
def k0_off519 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1096 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1095 : BitVec 32 := 2#32
  let v2192 : BitVec 32 := Scalar.muli v227 c2_i32_1095
  let v2193 : BitVec 32 := Scalar.addi v2192 c0_i32_1096
  let v2194 : Index := Scalar.indexCast v2193
  let c2816_1097 : Index := 2816#32
  ![v2194.toNat, 2816]
def k0_off520 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2201 : Index := Scalar.indexCast v207
  let c128_1098 : Index := 128#32
  let c2816_1099 : Index := 2816#32
  ![v2201.toNat, 128, 2816]
def k0_off521 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2220 : Index := Scalar.indexCast v207
  let c0_1108 : Index := 0#32
  let c3072_1109 : Index := 3072#32
  ![v2220.toNat, 0, 3072]
def k0_off522 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1111 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1110 : BitVec 32 := 2#32
  let v2223 : BitVec 32 := Scalar.muli v227 c2_i32_1110
  let v2224 : BitVec 32 := Scalar.addi v2223 c0_i32_1111
  let v2225 : Index := Scalar.indexCast v2224
  let c3072_1112 : Index := 3072#32
  ![v2225.toNat, 3072]
def k0_off523 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2232 : Index := Scalar.indexCast v207
  let c128_1113 : Index := 128#32
  let c3072_1114 : Index := 3072#32
  ![v2232.toNat, 128, 3072]
def k0_off524 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2251 : Index := Scalar.indexCast v207
  let c0_1123 : Index := 0#32
  let c3328_1124 : Index := 3328#32
  ![v2251.toNat, 0, 3328]
def k0_off525 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1126 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1125 : BitVec 32 := 2#32
  let v2254 : BitVec 32 := Scalar.muli v227 c2_i32_1125
  let v2255 : BitVec 32 := Scalar.addi v2254 c0_i32_1126
  let v2256 : Index := Scalar.indexCast v2255
  let c3328_1127 : Index := 3328#32
  ![v2256.toNat, 3328]
def k0_off526 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2263 : Index := Scalar.indexCast v207
  let c128_1128 : Index := 128#32
  let c3328_1129 : Index := 3328#32
  ![v2263.toNat, 128, 3328]
def k0_off527 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2282 : Index := Scalar.indexCast v207
  let c0_1138 : Index := 0#32
  let c3584_1139 : Index := 3584#32
  ![v2282.toNat, 0, 3584]
def k0_off528 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1141 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1140 : BitVec 32 := 2#32
  let v2285 : BitVec 32 := Scalar.muli v227 c2_i32_1140
  let v2286 : BitVec 32 := Scalar.addi v2285 c0_i32_1141
  let v2287 : Index := Scalar.indexCast v2286
  let c3584_1142 : Index := 3584#32
  ![v2287.toNat, 3584]
def k0_off529 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2294 : Index := Scalar.indexCast v207
  let c128_1143 : Index := 128#32
  let c3584_1144 : Index := 3584#32
  ![v2294.toNat, 128, 3584]
def k0_off530 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2313 : Index := Scalar.indexCast v207
  let c0_1153 : Index := 0#32
  let c3840_1154 : Index := 3840#32
  ![v2313.toNat, 0, 3840]
def k0_off531 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1156 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1155 : BitVec 32 := 2#32
  let v2316 : BitVec 32 := Scalar.muli v227 c2_i32_1155
  let v2317 : BitVec 32 := Scalar.addi v2316 c0_i32_1156
  let v2318 : Index := Scalar.indexCast v2317
  let c3840_1157 : Index := 3840#32
  ![v2318.toNat, 3840]
def k0_off532 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2325 : Index := Scalar.indexCast v207
  let c128_1158 : Index := 128#32
  let c3840_1159 : Index := 3840#32
  ![v2325.toNat, 128, 3840]
def k0_off533 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2344 : Index := Scalar.indexCast v207
  let c0_1168 : Index := 0#32
  let c4096_1169 : Index := 4096#32
  ![v2344.toNat, 0, 4096]
def k0_off534 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1171 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1170 : BitVec 32 := 2#32
  let v2347 : BitVec 32 := Scalar.muli v227 c2_i32_1170
  let v2348 : BitVec 32 := Scalar.addi v2347 c0_i32_1171
  let v2349 : Index := Scalar.indexCast v2348
  let c4096_1172 : Index := 4096#32
  ![v2349.toNat, 4096]
def k0_off535 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2356 : Index := Scalar.indexCast v207
  let c128_1173 : Index := 128#32
  let c4096_1174 : Index := 4096#32
  ![v2356.toNat, 128, 4096]
def k0_off536 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2375 : Index := Scalar.indexCast v207
  let c0_1183 : Index := 0#32
  let c4352_1184 : Index := 4352#32
  ![v2375.toNat, 0, 4352]
def k0_off537 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1186 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1185 : BitVec 32 := 2#32
  let v2378 : BitVec 32 := Scalar.muli v227 c2_i32_1185
  let v2379 : BitVec 32 := Scalar.addi v2378 c0_i32_1186
  let v2380 : Index := Scalar.indexCast v2379
  let c4352_1187 : Index := 4352#32
  ![v2380.toNat, 4352]
def k0_off538 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2387 : Index := Scalar.indexCast v207
  let c128_1188 : Index := 128#32
  let c4352_1189 : Index := 4352#32
  ![v2387.toNat, 128, 4352]
def k0_off539 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2406 : Index := Scalar.indexCast v207
  let c0_1198 : Index := 0#32
  let c4608_1199 : Index := 4608#32
  ![v2406.toNat, 0, 4608]
def k0_off540 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1201 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1200 : BitVec 32 := 2#32
  let v2409 : BitVec 32 := Scalar.muli v227 c2_i32_1200
  let v2410 : BitVec 32 := Scalar.addi v2409 c0_i32_1201
  let v2411 : Index := Scalar.indexCast v2410
  let c4608_1202 : Index := 4608#32
  ![v2411.toNat, 4608]
def k0_off541 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2418 : Index := Scalar.indexCast v207
  let c128_1203 : Index := 128#32
  let c4608_1204 : Index := 4608#32
  ![v2418.toNat, 128, 4608]
def k0_off542 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2437 : Index := Scalar.indexCast v207
  let c0_1213 : Index := 0#32
  let c4864_1214 : Index := 4864#32
  ![v2437.toNat, 0, 4864]
def k0_off543 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (c0_i32_1216 : BitVec 32) : Fin 2 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_96 : BitVec 32 := 4#32
  let v227 : BitVec 32 := Scalar.remsi arg18 c4_i32_96
  let c2_i32_1215 : BitVec 32 := 2#32
  let v2440 : BitVec 32 := Scalar.muli v227 c2_i32_1215
  let v2441 : BitVec 32 := Scalar.addi v2440 c0_i32_1216
  let v2442 : Index := Scalar.indexCast v2441
  let c4864_1217 : Index := 4864#32
  ![v2442.toNat, 4864]
def k0_off544 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_79 : BitVec 32 := 0#32
  let c0_i32_51 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c0_i32_49 : BitVec 32 := 0#32
  let v145 : BitVec 32 := Scalar.shrsi v143 c0_i32_49
  let c1_i32_50 : BitVec 32 := 1#32
  let v146 : BitVec 32 := Scalar.andi v145 c1_i32_50
  let v147 : BitVec 32 := Scalar.addi c0_i32_51 v146
  let c1_i32_53 : BitVec 32 := 1#32
  let v150 : BitVec 32 := Scalar.shrsi v143 c1_i32_53
  let c1_i32_54 : BitVec 32 := 1#32
  let v151 : BitVec 32 := Scalar.andi v150 c1_i32_54
  let v152 : BitVec 32 := Scalar.addi v147 v151
  let c2_i32_55 : BitVec 32 := 2#32
  let v155 : BitVec 32 := Scalar.shrsi v143 c2_i32_55
  let c1_i32_56 : BitVec 32 := 1#32
  let v156 : BitVec 32 := Scalar.andi v155 c1_i32_56
  let v157 : BitVec 32 := Scalar.addi v152 v156
  let c3_i32_57 : BitVec 32 := 3#32
  let v160 : BitVec 32 := Scalar.shrsi v143 c3_i32_57
  let c1_i32_58 : BitVec 32 := 1#32
  let v161 : BitVec 32 := Scalar.andi v160 c1_i32_58
  let v162 : BitVec 32 := Scalar.addi v157 v161
  let c4_i32_59 : BitVec 32 := 4#32
  let v165 : BitVec 32 := Scalar.shrsi v143 c4_i32_59
  let c1_i32_60 : BitVec 32 := 1#32
  let v166 : BitVec 32 := Scalar.andi v165 c1_i32_60
  let v167 : BitVec 32 := Scalar.addi v162 v166
  let c5_i32_61 : BitVec 32 := 5#32
  let v170 : BitVec 32 := Scalar.shrsi v143 c5_i32_61
  let c1_i32_62 : BitVec 32 := 1#32
  let v171 : BitVec 32 := Scalar.andi v170 c1_i32_62
  let v172 : BitVec 32 := Scalar.addi v167 v171
  let c6_i32_63 : BitVec 32 := 6#32
  let v175 : BitVec 32 := Scalar.shrsi v143 c6_i32_63
  let c1_i32_64 : BitVec 32 := 1#32
  let v176 : BitVec 32 := Scalar.andi v175 c1_i32_64
  let v177 : BitVec 32 := Scalar.addi v172 v176
  let c7_i32_65 : BitVec 32 := 7#32
  let v180 : BitVec 32 := Scalar.shrsi v143 c7_i32_65
  let c1_i32_66 : BitVec 32 := 1#32
  let v181 : BitVec 32 := Scalar.andi v180 c1_i32_66
  let v182 : BitVec 32 := Scalar.addi v177 v181
  let c4_i32_67 : BitVec 32 := 4#32
  let v183 : BitVec 32 := Scalar.muli v182 c4_i32_67
  let v197 : BitVec 32 := Scalar.subi v183 c0_i32_79
  let c1_i32_81 : BitVec 32 := 1#32
  let v199 : BitVec 32 := Scalar.divsi v197 c1_i32_81
  let v200 : BitVec 32 := Scalar.muli v199 c1_i32_81
  let v201 : BitVec 32 := Scalar.addi c0_i32_79 v200
  let c1_i32_83 : BitVec 32 := 1#32
  let arg18 : BitVec 32 := Scf.iv v201 c1_i32_83 k0_t2
  let c4_i32_88 : BitVec 32 := 4#32
  let v207 : BitVec 32 := Scalar.remsi arg18 c4_i32_88
  let v2449 : Index := Scalar.indexCast v207
  let c128_1218 : Index := 128#32
  let c4864_1219 : Index := 4864#32
  ![v2449.toNat, 128, 4864]

variable {F : FTy → Type} [FloatOps F]

def k0_chk1_0 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ a, (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  (∀ a, (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  (∀ a, (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  (∀ a, (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  (∀ a, (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  (∀ a, (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  (∀ a, (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a) ∧
  ((k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S9.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S9.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), 256 ∣ (k0_mult10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), 256 ∣ (k0_mult11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), 256 ∣ (k0_mult12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off37 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a), (Rect.unit (s := S4x2x5120x256) (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size hinb).WholeWords (EltTy.packing .fp8e4m3)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off40 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a), (Rect.unit (s := S4x2x5120x256) (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size hinb).WholeWords (EltTy.packing .fp8e4m3)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off43 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x256x5120.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off43 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x256x5120.size a ≤ S4x256x5120.size a), (Rect.unit (s := S4x256x5120) (k0_off43 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x256x5120.size hinb).WholeWords (EltTy.packing .fp8e4m3)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off101 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S9.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, 256 ∣ (k0_mult13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, 256 ∣ (k0_mult14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, 256 ∣ (k0_mult15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off103 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off103 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a), (Rect.unit (s := S4x2x5120x256) (k0_off103 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size hinb).WholeWords (EltTy.packing .fp8e4m3)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off105 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a), (Rect.unit (s := S4x2x5120x256) (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size hinb).WholeWords (EltTy.packing .fp8e4m3)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off108 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a)
def k0_chk1_1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off109 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off111 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off112 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off114 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off115 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off116 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off117 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off118 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off120 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off121 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off123 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off124 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off125 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off126 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off127 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off128 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off129 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off130 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off131 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off132 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off133 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off134 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off135 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off136 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off137 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off138 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off139 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off140 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a)
def k0_chk1_2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off141 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off142 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off143 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off144 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off145 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off146 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off147 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off148 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off149 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off150 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off151 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off152 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off153 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off154 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off155 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off156 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off157 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off158 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off159 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off160 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off161 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off162 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off163 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off164 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off165 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off166 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off167 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off168 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off169 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off170 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off171 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off172 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a)
def k0_chk1_3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off173 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off174 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off175 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off176 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off177 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off178 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off179 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off180 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off181 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off182 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off183 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off184 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off185 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off186 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off187 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off188 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off189 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off190 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off191 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off192 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off193 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off194 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off195 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off196 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off197 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off198 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off199 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off200 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off201 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off202 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off203 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off204 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a)
def k0_chk1_4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off205 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off206 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off207 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off208 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off209 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off210 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off211 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off212 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off213 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off214 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off215 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off216 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off217 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off218 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off219 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off220 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off221 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off222 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off223 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off224 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off225 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off226 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off227 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off228 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x256x5120.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off228 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x256x5120.size a ≤ S4x256x5120.size a), (Rect.unit (s := S4x256x5120) (k0_off228 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x256x5120.size hinb).WholeWords (EltTy.packing .fp8e4m3)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off230 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off231 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off232 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off233 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off234 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off235 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off236 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a)
def k0_chk1_5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off237 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off238 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off239 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off240 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off241 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off242 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off243 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off244 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off245 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off246 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off247 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off248 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off249 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off250 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off251 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off252 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off253 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off254 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off255 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off256 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off257 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off258 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off259 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off260 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off261 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off262 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off263 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off264 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off265 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off266 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off267 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off268 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a)
def k0_chk1_6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off269 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off270 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off271 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off272 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off273 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off274 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off275 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off276 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off277 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off278 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off279 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off280 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off281 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off282 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off283 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off284 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off285 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off286 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off287 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off288 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off289 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a) ∧
  ((k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off290 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S9.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off291 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S9.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), 256 ∣ (k0_mult16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), 256 ∣ (k0_mult17 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), 256 ∣ (k0_mult18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off292 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off293 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off293 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a), (Rect.unit (s := S4x2x5120x256) (k0_off293 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size hinb).WholeWords (EltTy.packing .fp8e4m3)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off295 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off296 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a)
def k0_chk1_7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off296 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a), (Rect.unit (s := S4x2x5120x256) (k0_off296 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size hinb).WholeWords (EltTy.packing .fp8e4m3)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off298 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x256x5120.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off298 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x256x5120.size a ≤ S4x256x5120.size a), (Rect.unit (s := S4x256x5120) (k0_off298 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x256x5120.size hinb).WholeWords (EltTy.packing .fp8e4m3)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off356 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S9.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, 256 ∣ (k0_mult19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, 256 ∣ (k0_mult20 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, 256 ∣ (k0_mult21 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off357 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off358 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off358 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a), (Rect.unit (s := S4x2x5120x256) (k0_off358 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size hinb).WholeWords (EltTy.packing .fp8e4m3)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off360 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off361 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off361 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a), (Rect.unit (s := S4x2x5120x256) (k0_off361 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size hinb).WholeWords (EltTy.packing .fp8e4m3)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off363 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off364 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off365 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off366 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off367 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off368 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off369 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off370 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off371 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off372 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off373 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off374 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off375 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off376 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off377 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off378 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off379 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off380 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off381 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a)
def k0_chk1_8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off382 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off383 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off384 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off385 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off386 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off387 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off388 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off389 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off390 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off391 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off392 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off393 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off394 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off395 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off396 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off397 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off398 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off399 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off400 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off401 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off402 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off403 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off404 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off405 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off406 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off407 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off408 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off409 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off410 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off411 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off412 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off413 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a)
def k0_chk1_9 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off414 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off415 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off416 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off417 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off418 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off419 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off420 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off421 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off422 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off423 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off424 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off425 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off426 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off427 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off428 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off429 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off430 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off431 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off432 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off433 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off434 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off435 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off436 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off437 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off438 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off439 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off440 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r₁ : Fin 2) (r₂ : Fin 2), ∀ a, (k0_off441 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off442 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off443 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off444 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off445 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a)
def k0_chk1_10 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off446 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off447 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off448 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off449 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off450 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off451 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off452 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off453 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off454 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off455 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off456 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off457 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off458 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off459 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off460 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off461 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off462 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off463 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off464 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off465 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off466 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off467 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off468 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off469 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off470 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off471 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off472 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off473 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off474 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off475 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off476 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off477 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a)
def k0_chk1_11 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off478 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off479 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off480 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off481 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off482 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off483 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x256x5120.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off483 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x256x5120.size a ≤ S4x256x5120.size a), (Rect.unit (s := S4x256x5120) (k0_off483 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x256x5120.size hinb).WholeWords (EltTy.packing .fp8e4m3)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off485 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off486 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off487 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off488 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off489 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off490 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off491 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off492 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off493 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off494 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off495 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off496 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off497 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off498 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off499 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off500 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off501 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off502 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off503 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off504 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off505 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off506 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off507 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off508 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off509 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a)
def k0_chk1_12 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off510 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off511 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off512 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off513 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off514 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off515 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off516 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off517 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off518 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off519 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off520 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off521 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off522 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off523 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off524 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off525 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off526 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off527 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off528 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off529 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off530 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off531 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off532 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off533 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off534 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off535 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off536 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off537 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off538 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off539 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off540 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off541 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a)
def k0_chk1_13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off542 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (r : Fin 2), ∀ a, (k0_off543 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off544 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a)
def k0_chk1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141
theorem k0_off1_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.1
theorem k0_off2_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.1
theorem k0_off3_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.1
theorem k0_off4_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.1
theorem k0_off5_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.1
theorem k0_off6_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.1
theorem k0_off7_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.1
theorem k0_t1_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.1
theorem k0_off35_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.1 k0_t1
theorem k0_off36_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.1 k0_t1 k0_h4
theorem k0_mult10_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), 256 ∣ (k0_mult10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.1 k0_t1 k0_h4
theorem k0_mult11_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), 256 ∣ (k0_mult11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.1 k0_t1 k0_h4
theorem k0_mult12_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), 256 ∣ (k0_mult12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.1 k0_t1 k0_h4
theorem k0_off37_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off37 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.1 k0_t1 k0_h4
theorem k0_off38_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.1 k0_t1 k0_h4
theorem k0_off38_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S4x2x5120x256) (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size (k0_off38_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.2.1 k0_t1 k0_h4 (k0_off38_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4)
theorem k0_off40_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off40 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.2.2.1 k0_t1 k0_h4
theorem k0_off41_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.2.2.2.1 k0_t1 k0_h4
theorem k0_off41_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S4x2x5120x256) (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size (k0_off41_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.2.2.2.2.1 k0_t1 k0_h4 (k0_off41_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4)
theorem k0_off43_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off43 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x256x5120.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.2.2.2.2.2.1 k0_t1 k0_h4
theorem k0_off43_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h4 : k0_cond4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S4x256x5120) (k0_off43 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x256x5120.size (k0_off43_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4 => k0_hw1.1.2.2.2.2.2.2.2.2.2.2.2.2.2.2.2.2.2.2.2.2.1 k0_t1 k0_h4 (k0_off43_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h4)
theorem k0_off101_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off101 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.1 k0_t1
theorem k0_mult13_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), 256 ∣ (k0_mult13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.1 k0_t1
theorem k0_mult14_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), 256 ∣ (k0_mult14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.1 k0_t1
theorem k0_mult15_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), 256 ∣ (k0_mult15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.1 k0_t1
theorem k0_off102_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.2.1 k0_t1
theorem k0_off103_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off103 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.2.2.1 k0_t1
theorem k0_off103_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S4x2x5120x256) (k0_off103 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size (k0_off103_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.2.2.2.1 k0_t1 (k0_off103_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off105_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off105 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.2.2.2.2.1 k0_t1
theorem k0_off106_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.2.2.2.2.2.1 k0_t1
theorem k0_off106_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S4x2x5120x256) (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1x5120x256.size (k0_off106_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.2.2.2.2.2.2.2.2.2.2.2.2.2.2.1 k0_t1 (k0_off106_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off108_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off108 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.1.2.2.2.2.2.2.2.2.2.2.2.2.2.2.2.2.2.2.2.2.2.2.2.2.2.2.2.2.2.2.2 k0_t1 r₁ r₂
theorem k0_off109_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off109 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.1 k0_t1
theorem k0_off110_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.1 k0_t1 r₁ r₂
theorem k0_off111_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off111 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.1 k0_t1
theorem k0_off112_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off112 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.1 k0_t1 r₁ r₂
theorem k0_off113_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.1 k0_t1
theorem k0_off114_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off114 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.1 k0_t1 r₁ r₂
theorem k0_off115_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off115 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.1 k0_t1
theorem k0_off116_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off116 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.1 k0_t1 r₁ r₂
theorem k0_off117_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off117 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.1 k0_t1
theorem k0_off118_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off118 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.1 k0_t1 r₁ r₂
theorem k0_off119_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.1 k0_t1
theorem k0_off120_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off120 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.1 k0_t1 r₁ r₂
theorem k0_off121_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off121 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.1 k0_t1
theorem k0_off122_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.1 k0_t1 r₁ r₂
theorem k0_off123_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off123 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.1 k0_t1
theorem k0_off124_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off124 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.1 k0_t1 r₁ r₂
theorem k0_off125_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off125 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.1 k0_t1
theorem k0_off126_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off126 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.1 k0_t1 r₁ r₂
theorem k0_off127_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off127 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.1 k0_t1
theorem k0_off128_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off128 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.1 k0_t1 r₁ r₂
theorem k0_off129_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off129 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.1 k0_t1
theorem k0_off130_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off130 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.2.2.1 k0_t1 r₁ r₂
theorem k0_off131_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off131 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.1 k0_t1
theorem k0_off132_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off132 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.2.2.2.2.1 k0_t1 r₁ r₂
theorem k0_off133_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off133 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.1 k0_t1
theorem k0_off134_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off134 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.2.2.2.2.2.2.1 k0_t1 r₁ r₂
theorem k0_off135_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off135 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.1 k0_t1
theorem k0_off136_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off136 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.2.2.2.2.2.2.2.2.1 k0_t1 r₁ r₂
theorem k0_off137_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off137 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.2.1 k0_t1
theorem k0_off138_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off138 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.2.2.2.2.2.2.2.2.2.2.1 k0_t1 r₁ r₂
theorem k0_off139_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off139 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.2.2.2.1 k0_t1
theorem k0_off140_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off140 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.1.2.2.2.2.2.2.2.2.2.2.2.2.2.2.2.2.2.2.2.2.2.2.2.2.2.2.2.2.2.2.2 k0_t1 r₁ r₂
theorem k0_off141_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off141 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.1 k0_t1
theorem k0_off142_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off142 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.1 k0_t1 r₁ r₂
theorem k0_off143_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off143 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.1 k0_t1
theorem k0_off144_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off144 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.1 k0_t1 r₁ r₂
theorem k0_off145_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off145 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.1 k0_t1
theorem k0_off146_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off146 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.1 k0_t1 r₁ r₂
theorem k0_off147_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off147 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.1 k0_t1
theorem k0_off148_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off148 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.1 k0_t1 r₁ r₂
theorem k0_off149_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off149 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.1 k0_t1
theorem k0_off150_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off150 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.1 k0_t1 r₁ r₂
theorem k0_off151_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off151 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.1 k0_t1
theorem k0_off152_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off152 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.1 k0_t1 r₁ r₂
theorem k0_off153_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off153 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.1 k0_t1
theorem k0_off154_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off154 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.1 k0_t1 r₁ r₂
theorem k0_off155_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off155 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.1 k0_t1
theorem k0_off156_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off156 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.1 k0_t1 r₁ r₂
theorem k0_off157_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off157 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.1 k0_t1
theorem k0_off158_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off158 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.1 k0_t1 r₁ r₂
theorem k0_off159_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off159 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.1 k0_t1
theorem k0_off160_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off160 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.1 k0_t1 r₁ r₂
theorem k0_off161_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off161 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.2.2.1 k0_t1
theorem k0_off162_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off162 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.2.2.1 k0_t1 r₁ r₂
theorem k0_off163_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off163 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.2.2.2.2.1 k0_t1
theorem k0_off164_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off164 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.2.2.2.2.1 k0_t1 r₁ r₂
theorem k0_off165_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off165 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.2.2.2.2.2.2.1 k0_t1
theorem k0_off166_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off166 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.2.2.2.2.2.2.1 k0_t1 r₁ r₂
theorem k0_off167_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off167 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.2.2.2.2.2.2.2.2.1 k0_t1
theorem k0_off168_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off168 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.2.2.2.2.2.2.2.2.1 k0_t1 r₁ r₂
theorem k0_off169_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off169 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.2.2.2.2.2.2.2.2.2.2.1 k0_t1
theorem k0_off170_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off170 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.2.2.2.2.2.2.2.2.2.2.1 k0_t1 r₁ r₂
theorem k0_off171_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off171 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.2.2.2.2.2.2.2.2.2.2.2.2.2.2.2.2.2.2.2.2.2.2.2.2.2.2.2.2.1 k0_t1
theorem k0_off172_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off172 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.1.2.2.2.2.2.2.2.2.2.2.2.2.2.2.2.2.2.2.2.2.2.2.2.2.2.2.2.2.2.2.2 k0_t1 r₁ r₂
theorem k0_off173_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off173 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.1 k0_t1
theorem k0_off174_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off174 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.1 k0_t1 r₁ r₂
theorem k0_off175_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off175 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.1 k0_t1
theorem k0_off176_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off176 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.2.2.1 k0_t1 r₁ r₂
theorem k0_off177_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off177 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.1 k0_t1
theorem k0_off178_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off178 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.2.2.2.2.1 k0_t1 r₁ r₂
theorem k0_off179_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off179 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.1 k0_t1
theorem k0_off180_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off180 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.2.2.2.2.2.2.1 k0_t1 r₁ r₂
theorem k0_off181_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off181 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.1 k0_t1
theorem k0_off182_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off182 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.2.2.2.2.2.2.2.2.1 k0_t1 r₁ r₂
theorem k0_off183_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off183 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.1 k0_t1
theorem k0_off184_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off184 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.2.2.2.2.2.2.2.2.2.2.1 k0_t1 r₁ r₂
theorem k0_off185_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off185 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.1 k0_t1
theorem k0_off186_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off186 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r₁ r₂ => k0_hw1.2.2.2.1.2.2.2.2.2.2.2.2.2.2.2.2.2.1 k0_t1 r₁ r₂
theorem k0_off187_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off187 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.1 k0_t1
theorem k0_off188_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off188 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.1 k0_t1
theorem k0_off189_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off189 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.1 k0_t1
theorem k0_off190_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off190 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.1 k0_t1
theorem k0_off191_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off191 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.1 k0_t1
theorem k0_off192_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off192 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.1 k0_t1
theorem k0_off193_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off193 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.1 k0_t1
theorem k0_off194_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off194 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.1 k0_t1
theorem k0_off195_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off195 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.1 k0_t1
theorem k0_off196_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off196 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.1 k0_t1
theorem k0_off197_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off197 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.1 k0_t1
theorem k0_off198_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off198 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.1 k0_t1
theorem k0_off199_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off199 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.2.1 k0_t1
theorem k0_off200_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off200 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.2.2.1 k0_t1
theorem k0_off201_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off201 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.2.2.2.1 k0_t1
theorem k0_off202_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off202 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.2.2.2.2.1 k0_t1
theorem k0_off203_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off203 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.2.2.2.2.2.1 k0_t1
theorem k0_off204_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off204 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.1.2.2.2.2.2.2.2.2.2.2.2.2.2.2.2.2.2.2.2.2.2.2.2.2.2.2.2.2.2.2.2 k0_t1
theorem k0_off205_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off205 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.1 k0_t1
theorem k0_off206_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off206 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.1 k0_t1
theorem k0_off207_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off207 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.1 k0_t1
theorem k0_off208_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off208 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.1 k0_t1
theorem k0_off209_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off209 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.1 k0_t1
theorem k0_off210_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off210 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.1 k0_t1
theorem k0_off211_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off211 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.1 k0_t1
theorem k0_off212_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off212 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.1 k0_t1
theorem k0_off213_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off213 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.1 k0_t1
theorem k0_off214_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off214 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.1 k0_t1
theorem k0_off215_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off215 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.1 k0_t1
theorem k0_off216_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off216 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.1 k0_t1
theorem k0_off217_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off217 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.1 k0_t1
theorem k0_off218_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off218 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.1 k0_t1
theorem k0_off219_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off219 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.1 k0_t1
theorem k0_off220_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off220 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.1 k0_t1
theorem k0_off221_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off221 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.1 k0_t1
theorem k0_off222_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off222 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.1 k0_t1
theorem k0_off223_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off223 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.1 k0_t1
theorem k0_off224_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off224 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.1 k0_t1
theorem k0_off225_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off225 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.1 k0_t1
theorem k0_off226_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off226 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.1 k0_t1
theorem k0_off227_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off227 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.1 k0_t1
theorem k0_off228_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off228 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x256x5120.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.1 k0_t1
theorem k0_off228_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S4x256x5120) (k0_off228 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x256x5120.size (k0_off228_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.2.1 k0_t1 (k0_off228_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off230_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off230 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.2.2.1 k0_t1
theorem k0_off231_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off231 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.1.2.2.2.2.2.2.2.2.2.2.2.2.2.2.2.2.2.2.2.2.2.2.2.2.2.2.1 k0_t1 r
theorem k0_off232_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off232 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.2.2.2.2.1 k0_t1
theorem k0_off233_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off233 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.2.2.2.2.2.1 k0_t1
theorem k0_off234_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off234 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.1.2.2.2.2.2.2.2.2.2.2.2.2.2.2.2.2.2.2.2.2.2.2.2.2.2.2.2.2.2.1 k0_t1 r
theorem k0_off235_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off235 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.2.2.2.2.2.2.2.1 k0_t1
theorem k0_off236_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off236 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.1.2.2.2.2.2.2.2.2.2.2.2.2.2.2.2.2.2.2.2.2.2.2.2.2.2.2.2.2.2.2.2 k0_t1
theorem k0_off237_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off237 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.1 k0_t1 r
theorem k0_off238_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off238 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.1 k0_t1
theorem k0_off239_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off239 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.1 k0_t1
theorem k0_off240_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off240 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.1 k0_t1 r
theorem k0_off241_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off241 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.1 k0_t1
theorem k0_off242_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off242 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.1 k0_t1
theorem k0_off243_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off243 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.1 k0_t1 r
theorem k0_off244_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off244 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.1 k0_t1
theorem k0_off245_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off245 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.1 k0_t1
theorem k0_off246_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off246 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.1 k0_t1 r
theorem k0_off247_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off247 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.1 k0_t1
theorem k0_off248_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off248 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.1 k0_t1
theorem k0_off249_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off249 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.1 k0_t1 r
theorem k0_off250_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off250 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.1 k0_t1
theorem k0_off251_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off251 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.1 k0_t1
theorem k0_off252_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off252 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.2.2.2.1 k0_t1 r
theorem k0_off253_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off253 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.1 k0_t1
theorem k0_off254_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off254 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.1 k0_t1
theorem k0_off255_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off255 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.2.2.2.2.2.2.1 k0_t1 r
theorem k0_off256_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off256 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.1 k0_t1
theorem k0_off257_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off257 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.1 k0_t1
theorem k0_off258_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off258 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.2.2.2.2.2.2.2.2.2.1 k0_t1 r
theorem k0_off259_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off259 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.1 k0_t1
theorem k0_off260_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off260 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.2.1 k0_t1
theorem k0_off261_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off261 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.2.2.2.2.2.2.2.2.2.2.2.2.1 k0_t1 r
theorem k0_off262_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off262 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.2.2.2.1 k0_t1
theorem k0_off263_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off263 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.2.2.2.2.1 k0_t1
theorem k0_off264_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off264 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.2.2.2.2.2.2.2.2.2.2.2.2.2.2.2.1 k0_t1 r
theorem k0_off265_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off265 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.2.2.2.2.2.2.1 k0_t1
theorem k0_off266_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off266 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.2.2.2.2.2.2.2.1 k0_t1
theorem k0_off267_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off267 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.1.2.2.2.2.2.2.2.2.2.2.2.2.2.2.2.2.2.2.2.2.2.2.2.2.2.2.2.2.2.2.1 k0_t1 r
theorem k0_off268_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off268 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.1.2.2.2.2.2.2.2.2.2.2.2.2.2.2.2.2.2.2.2.2.2.2.2.2.2.2.2.2.2.2.2 k0_t1
theorem k0_off269_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off269 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.1 k0_t1
theorem k0_off270_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off270 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.1 k0_t1 r
theorem k0_off271_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off271 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.1 k0_t1
theorem k0_off272_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off272 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.1 k0_t1
theorem k0_off273_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off273 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.2.2.2.1 k0_t1 r
theorem k0_off274_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off274 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.1 k0_t1
theorem k0_off275_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off275 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.1 k0_t1
theorem k0_off276_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off276 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.2.2.2.2.2.2.1 k0_t1 r
theorem k0_off277_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off277 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.1 k0_t1
theorem k0_off278_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off278 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.1 k0_t1
theorem k0_off279_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off279 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.2.2.2.2.2.2.2.2.2.1 k0_t1 r
theorem k0_off280_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off280 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.1 k0_t1
theorem k0_off281_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off281 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.2.1 k0_t1
theorem k0_off282_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off282 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.2.2.2.2.2.2.2.2.2.2.2.2.1 k0_t1 r
theorem k0_off283_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off283 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.2.2.2.1 k0_t1
theorem k0_off284_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off284 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.2.2.2.2.1 k0_t1
theorem k0_off285_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off285 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.2.2.2.2.2.2.2.2.2.2.2.2.2.2.2.1 k0_t1 r
theorem k0_off286_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off286 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.2.2.2.2.2.2.1 k0_t1
theorem k0_off287_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off287 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.2.2.2.2.2.2.2.1 k0_t1
theorem k0_off288_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off288 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 r => k0_hw1.2.2.2.2.2.2.1.2.2.2.2.2.2.2.2.2.2.2.2.2.2.2.2.2.2.2.1 k0_t1 r
theorem k0_off289_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off289 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.2.2.2.2.1.2.2.2.2.2.2.2.2.2.2.2.2.2.2.2.2.2.2.2.2.1 k0_t1
theorem k0_t2_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.2.2.2.2.2.2.1.2.2.2.2.2.2.2.2.2.2.2.2.2.2.2.2.2.2.2.2.2.1
theorem k0_off290_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off290 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.1.2.2.2.2.2.2.2.2.2.2.2.2.2.2.2.2.2.2.2.2.2.2.1 k0_t2
theorem k0_off291_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off291 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.1 k0_t2 k0_h7
theorem k0_mult16_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), 256 ∣ (k0_mult16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.1 k0_t2 k0_h7
theorem k0_mult17_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), 256 ∣ (k0_mult17 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.1 k0_t2 k0_h7
theorem k0_mult18_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), 256 ∣ (k0_mult18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.2.1 k0_t2 k0_h7
theorem k0_off292_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off292 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.2.2.1 k0_t2 k0_h7
theorem k0_off293_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off293 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.2.2.2.1 k0_t2 k0_h7
theorem k0_off293_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S4x2x5120x256) (k0_off293 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size (k0_off293_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.2.2.2.2.1 k0_t2 k0_h7 (k0_off293_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7)
theorem k0_off295_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off295 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.2.2.2.2.2.1 k0_t2 k0_h7
theorem k0_off296_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off296 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.1.2.2.2.2.2.2.2.2.2.2.2.2.2.2.2.2.2.2.2.2.2.2.2.2.2.2.2.2.2.2.2 k0_t2 k0_h7
theorem k0_off296_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S4x2x5120x256) (k0_off296 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size (k0_off296_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.2.1.1 k0_t2 k0_h7 (k0_off296_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7)
theorem k0_off298_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off298 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x256x5120.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.2.1.2.1 k0_t2 k0_h7
theorem k0_off298_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h7 : k0_cond7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S4x256x5120) (k0_off298 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x256x5120.size (k0_off298_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7 => k0_hw1.2.2.2.2.2.2.2.1.2.2.1 k0_t2 k0_h7 (k0_off298_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h7)
theorem k0_off356_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off356 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S9.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.1 k0_t2
theorem k0_mult19_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), 256 ∣ (k0_mult19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.1 k0_t2
theorem k0_mult20_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), 256 ∣ (k0_mult20 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.1 k0_t2
theorem k0_mult21_dvd : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), 256 ∣ (k0_mult21 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2).toNat := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.1 k0_t2
theorem k0_off357_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off357 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.1 k0_t2
theorem k0_off358_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off358 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.1 k0_t2
theorem k0_off358_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S4x2x5120x256) (k0_off358 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size (k0_off358_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.1 k0_t2 (k0_off358_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off360_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off360 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.1 k0_t2
theorem k0_off361_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off361 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x5120x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.1 k0_t2
theorem k0_off361_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S4x2x5120x256) (k0_off361 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1x5120x256.size (k0_off361_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.1 k0_t2 (k0_off361_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off363_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off363 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.1 k0_t2 r₁ r₂
theorem k0_off364_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off364 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.1 k0_t2
theorem k0_off365_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off365 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.1 k0_t2 r₁ r₂
theorem k0_off366_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off366 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.1 k0_t2
theorem k0_off367_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off367 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.1 k0_t2 r₁ r₂
theorem k0_off368_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off368 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.1 k0_t2
theorem k0_off369_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off369 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.1 k0_t2 r₁ r₂
theorem k0_off370_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off370 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.2.2.1 k0_t2
theorem k0_off371_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off371 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.2.2.1 k0_t2 r₁ r₂
theorem k0_off372_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off372 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.2.2.2.2.1 k0_t2
theorem k0_off373_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off373 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.2.2.2.2.1 k0_t2 r₁ r₂
theorem k0_off374_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off374 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.2.2.2.2.2.2.1 k0_t2
theorem k0_off375_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off375 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.2.2.2.2.2.2.1 k0_t2 r₁ r₂
theorem k0_off376_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off376 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.2.2.2.2.2.2.2.2.1 k0_t2
theorem k0_off377_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off377 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.2.2.2.2.2.2.2.2.1 k0_t2 r₁ r₂
theorem k0_off378_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off378 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.2.2.2.2.2.2.2.2.2.2.1 k0_t2
theorem k0_off379_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off379 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.2.2.2.2.2.2.2.2.2.2.1 k0_t2 r₁ r₂
theorem k0_off380_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off380 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1.2.2.2.2.2.2.2.2.2.2.2.2.2.2.2.2.2.2.2.2.2.2.2.2.2.2.2.2.2.2.1 k0_t2
theorem k0_off381_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off381 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.1.2.2.2.2.2.2.2.2.2.2.2.2.2.2.2.2.2.2.2.2.2.2.2.2.2.2.2.2.2.2.2 k0_t2 r₁ r₂
theorem k0_off382_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off382 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.1 k0_t2
theorem k0_off383_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off383 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.1 k0_t2 r₁ r₂
theorem k0_off384_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off384 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.1 k0_t2
theorem k0_off385_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off385 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.1 k0_t2 r₁ r₂
theorem k0_off386_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off386 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.1 k0_t2
theorem k0_off387_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off387 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.1 k0_t2 r₁ r₂
theorem k0_off388_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off388 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.1 k0_t2
theorem k0_off389_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off389 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.1 k0_t2 r₁ r₂
theorem k0_off390_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off390 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.1 k0_t2
theorem k0_off391_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off391 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.1 k0_t2 r₁ r₂
theorem k0_off392_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off392 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.1 k0_t2
theorem k0_off393_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off393 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.1 k0_t2 r₁ r₂
theorem k0_off394_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off394 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.1 k0_t2
theorem k0_off395_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off395 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.1 k0_t2 r₁ r₂
theorem k0_off396_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off396 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.1 k0_t2
theorem k0_off397_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off397 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.1 k0_t2 r₁ r₂
theorem k0_off398_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off398 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.1 k0_t2
theorem k0_off399_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off399 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.1 k0_t2 r₁ r₂
theorem k0_off400_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off400 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.1 k0_t2
theorem k0_off401_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off401 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.1 k0_t2 r₁ r₂
theorem k0_off402_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off402 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.2.2.1 k0_t2
theorem k0_off403_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off403 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.2.2.1 k0_t2 r₁ r₂
theorem k0_off404_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off404 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.2.2.2.2.1 k0_t2
theorem k0_off405_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off405 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.2.2.2.2.1 k0_t2 r₁ r₂
theorem k0_off406_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off406 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.2.2.2.2.2.2.1 k0_t2
theorem k0_off407_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off407 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.2.2.2.2.2.2.1 k0_t2 r₁ r₂
theorem k0_off408_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off408 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.2.2.2.2.2.2.2.2.1 k0_t2
theorem k0_off409_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off409 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.2.2.2.2.2.2.2.2.1 k0_t2 r₁ r₂
theorem k0_off410_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off410 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.2.2.2.2.2.2.2.2.2.2.1 k0_t2
theorem k0_off411_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off411 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.2.2.2.2.2.2.2.2.2.2.1 k0_t2 r₁ r₂
theorem k0_off412_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off412 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1.2.2.2.2.2.2.2.2.2.2.2.2.2.2.2.2.2.2.2.2.2.2.2.2.2.2.2.2.2.2.1 k0_t2
theorem k0_off413_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off413 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.1.2.2.2.2.2.2.2.2.2.2.2.2.2.2.2.2.2.2.2.2.2.2.2.2.2.2.2.2.2.2.2 k0_t2 r₁ r₂
theorem k0_off414_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off414 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.1 k0_t2
theorem k0_off415_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off415 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.1 k0_t2 r₁ r₂
theorem k0_off416_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off416 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.1 k0_t2
theorem k0_off417_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off417 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.1 k0_t2 r₁ r₂
theorem k0_off418_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off418 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.1 k0_t2
theorem k0_off419_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off419 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.1 k0_t2 r₁ r₂
theorem k0_off420_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off420 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.1 k0_t2
theorem k0_off421_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off421 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.1 k0_t2 r₁ r₂
theorem k0_off422_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off422 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.1 k0_t2
theorem k0_off423_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off423 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.1 k0_t2 r₁ r₂
theorem k0_off424_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off424 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.1 k0_t2
theorem k0_off425_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off425 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.1 k0_t2 r₁ r₂
theorem k0_off426_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off426 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.1 k0_t2
theorem k0_off427_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off427 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.1 k0_t2 r₁ r₂
theorem k0_off428_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off428 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.1 k0_t2
theorem k0_off429_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off429 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.1 k0_t2 r₁ r₂
theorem k0_off430_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off430 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.1 k0_t2
theorem k0_off431_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off431 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.2.2.1 k0_t2 r₁ r₂
theorem k0_off432_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off432 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.1 k0_t2
theorem k0_off433_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off433 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.2.2.2.2.1 k0_t2 r₁ r₂
theorem k0_off434_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off434 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.1 k0_t2
theorem k0_off435_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off435 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.2.2.2.2.2.2.1 k0_t2 r₁ r₂
theorem k0_off436_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off436 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.1 k0_t2
theorem k0_off437_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off437 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.2.2.2.2.2.2.2.2.1 k0_t2 r₁ r₂
theorem k0_off438_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off438 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.2.2.1 k0_t2
theorem k0_off439_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off439 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.2.2.2.2.2.2.2.2.2.2.1 k0_t2 r₁ r₂
theorem k0_off440_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off440 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.2.2.2.2.1 k0_t2
theorem k0_off441_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r₁ : Fin 2) (r₂ : Fin 2), ∀ a, (k0_off441 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 (8 * r₁.val)) (BitVec.ofNat 32 r₂.val)) a + S1x1x128.size a ≤ S16x40x128.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r₁ r₂ => k0_hw1.2.2.2.2.2.2.2.2.2.1.2.2.2.2.2.2.2.2.2.2.2.2.2.2.2.2.2.2.2.2.2.2.2.2.2.2.2.1 k0_t2 r₁ r₂
theorem k0_off442_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off442 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.2.2.2.2.2.2.1 k0_t2
theorem k0_off443_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off443 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.2.2.2.2.2.2.2.1 k0_t2
theorem k0_off444_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off444 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.2.2.2.2.2.2.2.2.1 k0_t2
theorem k0_off445_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off445 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1.2.2.2.2.2.2.2.2.2.2.2.2.2.2.2.2.2.2.2.2.2.2.2.2.2.2.2.2.2.2.2 k0_t2
theorem k0_off446_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off446 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.1 k0_t2
theorem k0_off447_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off447 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.1 k0_t2
theorem k0_off448_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off448 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.1 k0_t2
theorem k0_off449_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off449 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.1 k0_t2
theorem k0_off450_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off450 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.1 k0_t2
theorem k0_off451_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off451 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.1 k0_t2
theorem k0_off452_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off452 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.1 k0_t2
theorem k0_off453_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off453 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.1 k0_t2
theorem k0_off454_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off454 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.1 k0_t2
theorem k0_off455_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off455 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.1 k0_t2
theorem k0_off456_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off456 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.1 k0_t2
theorem k0_off457_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off457 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.1 k0_t2
theorem k0_off458_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off458 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.1 k0_t2
theorem k0_off459_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off459 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.1 k0_t2
theorem k0_off460_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off460 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.1 k0_t2
theorem k0_off461_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off461 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.1 k0_t2
theorem k0_off462_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off462 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.1 k0_t2
theorem k0_off463_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off463 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.1 k0_t2
theorem k0_off464_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off464 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.1 k0_t2
theorem k0_off465_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off465 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.1 k0_t2
theorem k0_off466_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off466 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.1 k0_t2
theorem k0_off467_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off467 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.1 k0_t2
theorem k0_off468_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off468 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.1 k0_t2
theorem k0_off469_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off469 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.1 k0_t2
theorem k0_off470_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off470 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.1 k0_t2
theorem k0_off471_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off471 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.1 k0_t2
theorem k0_off472_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off472 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.2.1 k0_t2
theorem k0_off473_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off473 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.2.2.1 k0_t2
theorem k0_off474_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off474 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.2.2.2.1 k0_t2
theorem k0_off475_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off475 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.2.2.2.2.1 k0_t2
theorem k0_off476_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off476 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.2.2.2.2.2.1 k0_t2
theorem k0_off477_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off477 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1.2.2.2.2.2.2.2.2.2.2.2.2.2.2.2.2.2.2.2.2.2.2.2.2.2.2.2.2.2.2.2 k0_t2
theorem k0_off478_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off478 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.1 k0_t2
theorem k0_off479_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off479 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.1 k0_t2
theorem k0_off480_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off480 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.1 k0_t2
theorem k0_off481_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off481 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.1 k0_t2
theorem k0_off482_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off482 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1x128x256.size a ≤ S4x2x5120x256.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.1 k0_t2
theorem k0_off483_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off483 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x256x5120.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.1 k0_t2
theorem k0_off483_wordsfp8e4m3 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S4x256x5120) (k0_off483 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x256x5120.size (k0_off483_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .fp8e4m3) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.1 k0_t2 (k0_off483_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off485_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off485 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.1 k0_t2
theorem k0_off486_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off486 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.1 k0_t2 r
theorem k0_off487_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off487 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.1 k0_t2
theorem k0_off488_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off488 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.1 k0_t2
theorem k0_off489_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off489 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.1 k0_t2 r
theorem k0_off490_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off490 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.1 k0_t2
theorem k0_off491_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off491 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.1 k0_t2
theorem k0_off492_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off492 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.2.2.2.1 k0_t2 r
theorem k0_off493_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off493 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.1 k0_t2
theorem k0_off494_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off494 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.1 k0_t2
theorem k0_off495_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off495 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.2.2.2.2.2.2.1 k0_t2 r
theorem k0_off496_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off496 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.1 k0_t2
theorem k0_off497_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off497 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.1 k0_t2
theorem k0_off498_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off498 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.2.2.2.2.2.2.2.2.2.1 k0_t2 r
theorem k0_off499_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off499 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.1 k0_t2
theorem k0_off500_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off500 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.1 k0_t2
theorem k0_off501_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off501 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.2.2.2.2.2.2.2.2.2.2.2.2.1 k0_t2 r
theorem k0_off502_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off502 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.2.2.1 k0_t2
theorem k0_off503_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off503 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.2.2.2.1 k0_t2
theorem k0_off504_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off504 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.2.2.2.2.2.2.2.2.2.2.2.2.2.2.2.1 k0_t2 r
theorem k0_off505_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off505 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.2.2.2.2.2.1 k0_t2
theorem k0_off506_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off506 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.2.2.2.2.2.2.1 k0_t2
theorem k0_off507_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off507 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.1.2.2.2.2.2.2.2.2.2.2.2.2.2.2.2.2.2.2.2.2.2.2.2.2.2.2.2.2.2.1 k0_t2 r
theorem k0_off508_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off508 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.2.2.2.2.2.2.2.2.1 k0_t2
theorem k0_off509_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off509 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1.2.2.2.2.2.2.2.2.2.2.2.2.2.2.2.2.2.2.2.2.2.2.2.2.2.2.2.2.2.2.2 k0_t2
theorem k0_off510_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off510 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.1 k0_t2 r
theorem k0_off511_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off511 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.1 k0_t2
theorem k0_off512_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off512 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.1 k0_t2
theorem k0_off513_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off513 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.1 k0_t2 r
theorem k0_off514_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off514 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.1 k0_t2
theorem k0_off515_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off515 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.1 k0_t2
theorem k0_off516_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off516 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.1 k0_t2 r
theorem k0_off517_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off517 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.1 k0_t2
theorem k0_off518_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off518 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.1 k0_t2
theorem k0_off519_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off519 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.1 k0_t2 r
theorem k0_off520_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off520 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.1 k0_t2
theorem k0_off521_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off521 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.1 k0_t2
theorem k0_off522_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off522 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.1 k0_t2 r
theorem k0_off523_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off523 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.1 k0_t2
theorem k0_off524_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off524 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.1 k0_t2
theorem k0_off525_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off525 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.2.2.2.1 k0_t2 r
theorem k0_off526_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off526 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.1 k0_t2
theorem k0_off527_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off527 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.1 k0_t2
theorem k0_off528_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off528 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.2.2.2.2.2.2.1 k0_t2 r
theorem k0_off529_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off529 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.1 k0_t2
theorem k0_off530_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off530 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.1 k0_t2
theorem k0_off531_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off531 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.2.2.2.2.2.2.2.2.2.1 k0_t2 r
theorem k0_off532_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off532 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.1 k0_t2
theorem k0_off533_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off533 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.2.1 k0_t2
theorem k0_off534_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off534 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.2.2.2.2.2.2.2.2.2.2.2.2.1 k0_t2 r
theorem k0_off535_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off535 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.2.2.2.1 k0_t2
theorem k0_off536_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off536 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.2.2.2.2.1 k0_t2
theorem k0_off537_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off537 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.2.2.2.2.2.2.2.2.2.2.2.2.2.2.2.1 k0_t2 r
theorem k0_off538_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off538 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.2.2.2.2.2.2.1 k0_t2
theorem k0_off539_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off539 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.2.2.2.2.2.2.2.1 k0_t2
theorem k0_off540_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off540 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.1.2.2.2.2.2.2.2.2.2.2.2.2.2.2.2.2.2.2.2.2.2.2.2.2.2.2.2.2.2.2.1 k0_t2 r
theorem k0_off541_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off541 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1.2.2.2.2.2.2.2.2.2.2.2.2.2.2.2.2.2.2.2.2.2.2.2.2.2.2.2.2.2.2.2 k0_t2
theorem k0_off542_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off542 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.1 k0_t2
theorem k0_off543_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (r : Fin 2), ∀ a, (k0_off543 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 (BitVec.ofNat 32 r.val)) a + S1x256.size a ≤ S8x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 r => k0_hw1.2.2.2.2.2.2.2.2.2.2.2.2.2.2.1 k0_t2 r
theorem k0_off544_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off544 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x128x256.size a ≤ S4x256x5120.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2 k0_t2

abbrev stage0_0 : Fin 1 → Memref sig .tc .smem S48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x40x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S24x1x5120 : Shape := ⟨3, ![24, 1, 5120]⟩
abbrev S24x1x2 : Shape := ⟨3, ![24, 1, 2]⟩
abbrev S8x5120x2048 : Shape := ⟨3, ![8, 5120, 2048]⟩
abbrev S8x40x16 : Shape := ⟨3, ![8, 40, 16]⟩
abbrev S8x1024x5120 : Shape := ⟨3, ![8, 1024, 5120]⟩
abbrev S8x8x40 : Shape := ⟨3, ![8, 8, 40]⟩
abbrev S24x5120 : Shape := ⟨2, ![24, 5120]⟩
abbrev S24x2 : Shape := ⟨2, ![24, 2]⟩
abbrev S1x5120x2048 : Shape := ⟨3, ![1, 5120, 2048]⟩
abbrev S5120x2048 : Shape := ⟨2, ![5120, 2048]⟩
abbrev S1x40x16 : Shape := ⟨3, ![1, 40, 16]⟩
abbrev S40x16 : Shape := ⟨2, ![40, 16]⟩
abbrev S40x128x16x128 : Shape := ⟨4, ![40, 128, 16, 128]⟩
abbrev S40x1x16x1 : Shape := ⟨4, ![40, 1, 16, 1]⟩
abbrev S24x2048 : Shape := ⟨2, ![24, 2048]⟩
abbrev S24x1024 : Shape := ⟨2, ![24, 1024]⟩
abbrev S1x1024x5120 : Shape := ⟨3, ![1, 1024, 5120]⟩
abbrev S1024x5120 : Shape := ⟨2, ![1024, 5120]⟩
abbrev S1x8x40 : Shape := ⟨3, ![1, 8, 40]⟩
abbrev S8x40 : Shape := ⟨2, ![8, 40]⟩
abbrev S8x128x40x128 : Shape := ⟨4, ![8, 128, 40, 128]⟩
abbrev S8x1x40x1 : Shape := ⟨4, ![8, 1, 40, 1]⟩
abbrev S24 : Shape := ⟨1, ![24]⟩
abbrev S24x1 : Shape := ⟨2, ![24, 1]⟩

abbrev nBuf : Space → Nat
  | .hbm => 11
  | .vmem => 8
  | .smem => 0
  | _ => 0

abbrev bufTy : (tb : Table) → Fin (tcTables nBuf tb) → BufTy
  | .hbm, ⟨0, _⟩ => ⟨S24x1x5120, .bf16⟩
  | .hbm, ⟨1, _⟩ => ⟨S24x1x2, .i32⟩
  | .hbm, ⟨2, _⟩ => ⟨S24x1x2, .f32⟩
  | .hbm, ⟨3, _⟩ => ⟨S8x5120x2048, .fp8e4m3⟩
  | .hbm, ⟨4, _⟩ => ⟨S8x40x16, .f32⟩
  | .hbm, ⟨5, _⟩ => ⟨S8x1024x5120, .fp8e4m3⟩
  | .hbm, ⟨6, _⟩ => ⟨S8x8x40, .f32⟩
  | .hbm, ⟨7, _⟩ => ⟨S24x5120, .bf16⟩
  | .hbm, ⟨8, _⟩ => ⟨S24x2, .i32⟩
  | .hbm, ⟨9, _⟩ => ⟨S24x2, .f32⟩
  | .hbm, ⟨10, _⟩ => ⟨S24x5120, .bf16⟩
  | .local _ .vmem, ⟨0, _⟩ => ⟨S24x5120, .bf16⟩
  | .local _ .vmem, ⟨1, _⟩ => ⟨S24x2, .i32⟩
  | .local _ .vmem, ⟨2, _⟩ => ⟨S24x2, .f32⟩
  | .local _ .vmem, ⟨3, _⟩ => ⟨S8x5120x2048, .fp8e4m3⟩
  | .local _ .vmem, ⟨4, _⟩ => ⟨S8x40x16, .f32⟩
  | .local _ .vmem, ⟨5, _⟩ => ⟨S8x1024x5120, .fp8e4m3⟩
  | .local _ .vmem, ⟨6, _⟩ => ⟨S8x8x40, .f32⟩
  | .local _ .vmem, ⟨7, _⟩ => ⟨S24x5120, .bf16⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5120x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x40x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Ev.lean ====
/-
  The state of the kernel's buffers while its body runs, and the rules by which one operation of the body
  takes one state to the next.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The operands -/

abbrev A0 : Memref sig .tc .smem S48 .i32 := Memref.whole cc0_stg0_0
abbrev A1 : Memref sig .tc .vmem S24x5120 .bf16 := Memref.whole cc0_stg1_0
abbrev A2 : Memref sig .tc .vmem S24x2 .i32 := Memref.whole cc0_stg2_0
abbrev A3 : Memref sig .tc .vmem S24x2 .f32 := Memref.whole cc0_stg3_0
abbrev A4 : Memref sig .tc .vmem S8x40x16 .f32 := Memref.whole cc0_stg4_0
abbrev A5 : Memref sig .tc .vmem S8x8x40 .f32 := Memref.whole cc0_stg5_0
abbrev A6 : Memref sig .tc .hbm S8x5120x2048 .fp8e4m3 := Memref.whole main_arg3
abbrev A7 : Memref sig .tc .hbm S8x1024x5120 .fp8e4m3 := Memref.whole main_arg5
abbrev A8 : Memref sig .tc .vmem S24x5120 .bf16 := Memref.whole cc0_stg6_0
abbrev A9 : Memref sig .tc .vmem S4x2x5120x256 .fp8e4m3 := Memref.whole cc0_scratch0
abbrev A10 : Memref sig .tc .vmem S4x256x5120 .fp8e4m3 := Memref.whole cc0_scratch1
abbrev A11 : Memref sig .tc .vmem S16x40x128 .f32 := Memref.whole cc0_scratch2
abbrev A12 : Memref sig .tc .vmem S8x5120 .f32 := Memref.whole cc0_scratch3
abbrev A13 : Memref sig .tc .vmem S24x5120 .f32 := Memref.whole cc0_scratch4
abbrev A14 : Memref sig .tc .vmem S24x5120 .f32 := Memref.whole cc0_scratch5
abbrev A15 : Memref sig .tc .smem S9 .i32 := Memref.whole cc0_scratch6

/-! ## The state -/

/-- What the body only reads, each array as a function of its coordinates. -/
structure Inp (F : FTy → Type) where
  iw : ℕ → Elt F .i32
  x : ℕ → ℕ → Elt F .bf16
  ids : ℕ → ℕ → Elt F .i32
  wts : ℕ → ℕ → Elt F .f32
  sgu : ℕ → ℕ → ℕ → Elt F .f32
  sd : ℕ → ℕ → ℕ → Elt F .f32
  wgu : ℕ → ℕ → ℕ → Elt F .fp8e4m3
  wd : ℕ → ℕ → ℕ → Elt F .fp8e4m3

/-- A slot of the gate and up weights: free, the first of its two transfers started, both in flight, the first
    waited for, or holding block `j` of expert `e`. -/
inductive GuSt
  | idle
  | one (e j : ℕ)
  | fly (e j : ℕ)
  | wt (e j : ℕ)
  | rdy (e j : ℕ)

/-- A slot of the down weights. -/
inductive DSt
  | idle
  | fly (e j : ℕ)
  | rdy (e j : ℕ)

/-- What the body writes. -/
structure St (F : FTy → Type) where
  out : ℕ → ℕ → Elt F .bf16
  sg : ℕ → ℕ → ℕ → Elt F .f32
  sx : ℕ → ℕ → Elt F .f32
  acc : ℕ → ℕ → Elt F .f32
  y : ℕ → ℕ → Elt F .f32
  ord : ℕ → Elt F .i32
  g : Fin 4 → GuSt
  d : Fin 4 → DSt

/-- The pieces of the state. -/
inductive Piece
  | iw | x | ids | wts | sgu | sd | out | sg | sx | acc | y | ord | owes
  | g (s : Fin 4)
  | d (s : Fin 4)
  deriving DecidableEq

instance : Fintype Piece where
  elems := {.iw, .x, .ids, .wts, .sgu, .sd, .out, .sg, .sx, .acc, .y, .ord, .owes,
    .g 0, .g 1, .g 2, .g 3, .d 0, .d 1, .d 2, .d 3}
  complete p := by
    cases p with
    | g s => revert s; decide
    | d s => revert s; decide
    | _ => decide

/-! ## Cells and windows -/

theorem inb4 (s : Fin 4) : ∀ a, (![(s : ℕ)] : Fin S4.rank → ℕ) a + S1.size a ≤ S4.size a := by
  revert s; decide

abbrev gsem (s : Fin 4) : DmaSem sig :=
  ((cc0_scratch7.slice (Rect.unit (s := S4) ![(s : ℕ)] S1.size (inb4 s))).squeeze S_ squeezes_S1_S_).sem
abbrev dsem (s : Fin 4) : DmaSem sig :=
  ((cc0_scratch8.slice (Rect.unit (s := S4) ![(s : ℕ)] S1.size (inb4 s))).squeeze S_ squeezes_S1_S_).sem

/-- A window of the gate and up slots, at any offsets. -/
abbrev dstG (off : Fin 4 → ℕ) (inb : ∀ a, off a + S1x1x5120x256.size a ≤ S4x2x5120x256.size a) :
    Memref sig .tc .vmem S5120x256 .fp8e4m3 :=
  (A9.slice (Rect.unit (s := S4x2x5120x256) off S1x1x5120x256.size inb) (fun _ => rfl)).squeeze S5120x256
    squeezes_S1x1x5120x256_S5120x256
/-- A window of the gate and up weights. -/
abbrev srcG (off : Fin 3 → ℕ) (inb : ∀ a, off a + S1x5120x256.size a ≤ S8x5120x2048.size a) :
    Memref sig .tc .hbm S5120x256 .fp8e4m3 :=
  (A6.slice (Rect.unit (s := S8x5120x2048) off S1x5120x256.size inb) (fun _ => rfl)).squeeze S5120x256
    squeezes_S1x5120x256_S5120x256
/-- A window of the down slots. -/
abbrev dstD (off : Fin 3 → ℕ) (inb : ∀ a, off a + S1x256x5120.size a ≤ S4x256x5120.size a) :
    Memref sig .tc .vmem S256x5120 .fp8e4m3 :=
  (A10.slice (Rect.unit (s := S4x256x5120) off S1x256x5120.size inb) (fun _ => rfl)).squeeze S256x5120
    squeezes_S1x256x5120_S256x5120
/-- A window of the down weights. -/
abbrev srcD (off : Fin 3 → ℕ) (inb : ∀ a, off a + S1x256x5120.size a ≤ S8x1024x5120.size a) :
    Memref sig .tc .hbm S256x5120 .fp8e4m3 :=
  (A7.slice (Rect.unit (s := S8x1024x5120) off S1x256x5120.size inb) (fun _ => rfl)).squeeze S256x5120
    squeezes_S1x256x5120_S256x5120

def gset (s : Fin 4) (w : Fin 2) : Finset S4x2x5120x256.Idx :=
  Finset.univ.filter fun i => (i 0 : ℕ) = s ∧ (i 1 : ℕ) = w
def dset (s : Fin 4) : Finset S4x256x5120.Idx := Finset.univ.filter fun i => (i 0 : ℕ) = s
/-- The elements of the gate and up weights one transfer reads. -/
def wset (e j : ℕ) (w : Fin 2) : Finset S8x5120x2048.Idx :=
  Finset.univ.filter fun i => (i 0 : ℕ) = e ∧ w * 1024 + 256 * j ≤ (i 2 : ℕ) ∧ (i 2 : ℕ) < w * 1024 + 256 * j + 256
def vset (e j : ℕ) : Finset S8x1024x5120.Idx :=
  Finset.univ.filter fun i => (i 0 : ℕ) = e ∧ 256 * j ≤ (i 1 : ℕ) ∧ (i 1 : ℕ) < 256 * j + 256

abbrev NG : ℕ := (dstG ![0, 0, 0, 0] (by decide)).view.dmaCredit
abbrev ND : ℕ := (dstD ![0, 0, 0] (by decide)).view.dmaCredit

/-- The shares in which the weights are read: one per slot and half. -/
def qg (s : Fin 4) (w : Fin 2) : PosShare TreeShare :=
  let a := if s.val < 2 then fullShare.left else fullShare.right
  let b := if s.val % 2 = 0 then PosShare.left a else PosShare.right a
  if w.val = 0 then PosShare.left b else PosShare.right b
def qd (s : Fin 4) : PosShare TreeShare :=
  let a := if s.val < 2 then fullShare.left else fullShare.right
  if s.val % 2 = 0 then PosShare.left a else PosShare.right a

variable (c : Dev nD) (I : Inp F)

/-- The wait evidence and counters the transfers live in. -/
abbrev EC : UEmb Counters 𝕄 := countersEmb (U := Pipeline.UD sig nD τ)

abbrev guC (e j : ℕ) : S4x2x5120x256.Idx → Elt F .fp8e4m3 := fun i => I.wgu e (i 2) ((i 1 : ℕ) * 1024 + 256 * j + i 3)
abbrev dC (e j : ℕ) : S4x256x5120.Idx → Elt F .fp8e4m3 := fun i => I.wd e (256 * j + i 1) (i 2)
abbrev wguC : S8x5120x2048.Idx → Elt F .fp8e4m3 := fun i => I.wgu (i 0) (i 1) (i 2)
abbrev wdC : S8x1024x5120.Idx → Elt F .fp8e4m3 := fun i => I.wd (i 0) (i 1) (i 2)

def DG (s : Fin 4) (e j : ℕ) (w : Fin 2) : sProp 𝕄 :=
  iprop((A9.view.loc (c : Thread nD τ) ↦[gset s w]{fullShare} guC I e j)
    ∗ (A6.view.loc (c : Thread nD τ) ↦[wset e j w]{qg s w} wguC I))
def DD (s : Fin 4) (e j : ℕ) : sProp 𝕄 :=
  iprop((A10.view.loc (c : Thread nD τ) ↦[dset s]{fullShare} dC I e j)
    ∗ (A7.view.loc (c : Thread nD τ) ↦[vset e j]{qd s} wdC I))

def restG (s : Fin 4) (e j : ℕ) (w : Fin 2) : sProp 𝕄 :=
  A6.view.loc (c : Thread nD τ) ↦[Finset.univ \ wset e j w]{qg s w} wguC I
def allG (s : Fin 4) (w : Fin 2) : sProp 𝕄 := A6.view.loc (c : Thread nD τ) ↦[Finset.univ]{qg s w} wguC I
def restD (s : Fin 4) (e j : ℕ) : sProp 𝕄 :=
  A7.view.loc (c : Thread nD τ) ↦[Finset.univ \ vset e j]{qd s} wdC I
def allD (s : Fin 4) : sProp 𝕄 := A7.view.loc (c : Thread nD τ) ↦[Finset.univ]{qd s} wdC I

def anyG (s : Fin 4) (w : Fin 2) : sProp 𝕄 :=
  iprop(∃ f : S4x2x5120x256.Idx → Elt F .fp8e4m3, A9.view.loc (c : Thread nD τ) ↦[gset s w]{fullShare} f)
def anyD (s : Fin 4) : sProp 𝕄 :=
  iprop(∃ f : S4x256x5120.Idx → Elt F .fp8e4m3, A10.view.loc (c : Thread nD τ) ↦[dset s]{fullShare} f)

def gP (s : Fin 4) : GuSt → sProp 𝕄
  | .idle => iprop(semVal ((c : Thread nD τ), SemLoc.dma (gsem s)) 0 ∗ anyG c s 0 ∗ anyG c s 1 ∗ allG c I s 0 ∗ allG c I s 1)
  | .one e j => iprop(Transfers.Batch EC (c : Thread nD τ) (SemLoc.dma (gsem s)) () NG (DG c I s e j) 1 0 ∗ restG c I s e j 0
      ∗ anyG c s 1 ∗ allG c I s 1)
  | .fly e j => iprop(Transfers.Batch EC (c : Thread nD τ) (SemLoc.dma (gsem s)) () NG (DG c I s e j) 2 0 ∗ restG c I s e j 0 ∗ restG c I s e j 1)
  | .wt e j => iprop(Transfers.Batch EC (c : Thread nD τ) (SemLoc.dma (gsem s)) () NG (DG c I s e j) 2 NG ∗ restG c I s e j 0 ∗ restG c I s e j 1)
  | .rdy e j => iprop((A9.view.loc (c : Thread nD τ) ↦[gset s 0]{fullShare} guC I e j)
      ∗ (A9.view.loc (c : Thread nD τ) ↦[gset s 1]{fullShare} guC I e j)
      ∗ semVal ((c : Thread nD τ), SemLoc.dma (gsem s)) 0 ∗ allG c I s 0 ∗ allG c I s 1)

def dP (s : Fin 4) : DSt → sProp 𝕄
  | .idle => iprop(semVal ((c : Thread nD τ), SemLoc.dma (dsem s)) 0 ∗ anyD c s ∗ allD c I s)
  | .fly e j => iprop(Transfers.Flight EC (c : Thread nD τ) (SemLoc.dma (dsem s)) () ND (DD c I s e j) ∗ restD c I s e j)
  | .rdy e j => iprop((A10.view.loc (c : Thread nD τ) ↦[dset s]{fullShare} dC I e j)
      ∗ semVal ((c : Thread nD τ), SemLoc.dma (dsem s)) 0 ∗ allD c I s)

/-- A buffer held whole. -/
abbrev pt {sp : Space} {S : Shape} {e : EltTy} (M : Memref sig .tc sp S e) (f : Buf (Elt F) (M.view.loc (c : Thread nD τ))) : sProp 𝕄 :=
  M.view.loc (c : Thread nD τ) ↦[Finset.univ]{fullShare} f

def comp (σ : St F) : Piece → sProp 𝕄
  | .iw => pt c A0 fun i => I.iw (i 0)
  | .x => pt c A1 fun i => I.x (i 0) (i 1)
  | .ids => pt c A2 fun i => I.ids (i 0) (i 1)
  | .wts => pt c A3 fun i => I.wts (i 0) (i 1)
  | .sgu => pt c A4 fun i => I.sgu (i 0) (i 1) (i 2)
  | .sd => pt c A5 fun i => I.sd (i 0) (i 1) (i 2)
  | .out => pt c A8 fun i => σ.out (i 0) (i 1)
  | .sg => pt c A11 fun i => σ.sg (i 0) (i 1) (i 2)
  | .sx => pt c A12 fun i => σ.sx (i 0) (i 1)
  | .acc => pt c A13 fun i => σ.acc (i 0) (i 1)
  | .y => pt c A14 fun i => σ.y (i 0) (i 1)
  | .ord => pt c A15 fun i => σ.ord (i 0)
  | .owes => iprop(∃ W, owes (c : Thread nD τ) 0 W)
  | .g s => gP c I s (σ.g s)
  | .d s => dP c I s (σ.d s)

def Res (σ : St F) : sProp 𝕄 := bigSep Finset.univ (comp c I σ)

/-! ## Evaluation -/

abbrev P (α : Type) := Prog (TpuEff nD τ sig (Elt F) Λ₀ .tc) α

/-- From the state `σ` the program ends, at every result and state only as `Q` says. -/
def Ev {α : Type} (Q : α → St F → Prop) (σ : St F) (p : P (F := F) α) : Prop :=
  ∀ (Φ : α → sProp 𝕄) (R : sProp 𝕄), (∀ a σ', Q a σ' → (iprop(Res c I σ' ∗ R) ⊢ Φ a)) →
    (iprop(Res c I σ ∗ R) ⊢ wp frame (wpE (defs₀ (F := F)) Variants.none (c : Thread nD τ) none) Set.univ p Φ)

/-- From the state `σ` the program ends at the result `v` and the state `σ'`. -/
abbrev EvS {α : Type} (σ : St F) (p : P (F := F) α) (v : α) (σ' : St F) : Prop :=
  Ev c I (fun a s => a = v ∧ s = σ') σ p

variable {c I}

theorem Ev.ret {α : Type} {Q : α → St F → Prop} {σ : St F} {a : α} (h : Q a σ) : Ev c I Q σ (.ret a) := by
  intro Φ R hΦ
  rw [wp_ret]
  exact (hΦ a σ h).trans fupd_intro

theorem Ev.pure {α : Type} {Q : α → St F → Prop} {σ : St F} {a : α} (h : Q a σ) : Ev c I Q σ (pure a) := Ev.ret h

theorem Ev.mono {α : Type} {Q Q' : α → St F → Prop} {σ : St F} {p : P (F := F) α} (hp : Ev c I Q' σ p)
    (h : ∀ a s, Q' a s → Q a s) : Ev c I Q σ p :=
  fun Φ R hΦ => hp Φ R fun a s hq => hΦ a s (h a s hq)

theorem Ev.bindQ {α β : Type} {Q : β → St F → Prop} {Q₁ : α → St F → Prop} {σ : St F} {p : P (F := F) α} {k : α → P (F := F) β}
    (hp : Ev c I Q₁ σ p) (hk : ∀ a s, Q₁ a s → Ev c I Q s (k a)) : Ev c I Q σ (p >>= k) := by
  intro Φ R hΦ
  rw [wp_bind]
  exact hp _ R fun a s h => hk a s h Φ R hΦ

theorem Ev.bind {α β : Type} {Q : β → St F → Prop} {σ σ₁ : St F} {v : α} {p : P (F := F) α} {k : α → P (F := F) β}
    (hp : EvS c I σ p v σ₁) (hk : Ev c I Q σ₁ (k v)) : Ev c I Q σ (p >>= k) :=
  Ev.bindQ hp fun a s h => by rcases h with ⟨rfl, rfl⟩; exact hk

theorem Ev.assume {β : Type} {Q : β → St F → Prop} {σ : St F} {A : Prop} {dA : Decidable A} {k : PLift A → P (F := F) β}
    (h : A) (hk : Ev c I Q σ (k ⟨h⟩)) : Ev c I Q σ (Prog.lift (TpuEff.assume A dA) >>= k) := by
  intro Φ R hΦ
  refine (hk Φ R hΦ).trans ?_
  exact wp_assume Variants.none (c : Thread nD τ) none Set.univ h

theorem Ev.ite_pos {α : Type} {Q : α → St F → Prop} {σ : St F} {A : Prop} {dA : Decidable A} {p : A → P (F := F) α} {q : ¬ A → P (F := F) α}
    (h : A) (hp : Ev c I Q σ (p h)) : Ev c I Q σ (dite A p q) := by rwa [dif_pos h]
theorem Ev.ite_neg {α : Type} {Q : α → St F → Prop} {σ : St F} {A : Prop} {dA : Decidable A} {p : A → P (F := F) α} {q : ¬ A → P (F := F) α}
    (h : ¬ A) (hp : Ev c I Q σ (q h)) : Ev c I Q σ (dite A p q) := by rwa [dif_neg h]

/-- One operation that changes one piece. -/
theorem EvS.one {α : Type} {σ : St F} {p : P (F := F) α} {v : α} (i : Piece) (σ' : St F)
    (hj : ∀ j, j ≠ i → comp c I σ' j = comp c I σ j)
    (h : ∀ Φ : α → sProp 𝕄, comp c I σ i ⊢ iprop((comp c I σ' i -∗ wp frame (wpE (defs₀ (F := F)) Variants.none (c : Thread nD τ) none) Set.univ (.ret v) Φ) -∗ wp frame (wpE (defs₀ (F := F)) Variants.none (c : Thread nD τ) none) Set.univ p Φ)) :
    EvS c I σ p v σ' := by
  intro Φ R hΦ
  have e : ∀ s : St F, Res c I s = iprop(comp c I s i ∗ bigSep (Finset.univ.erase i) (comp c I s)) := fun s =>
    bigSep_erase (Finset.mem_univ i)
  have e2 : bigSep (Finset.univ.erase i) (comp c I σ) = bigSep (Finset.univ.erase i) (comp c I σ') :=
    bigSep_congr fun j hm => (hj j (Finset.ne_of_mem_erase hm)).symm
  have hΦ' := hΦ v σ' ⟨rfl, rfl⟩
  rw [e σ'] at hΦ'
  rw [e σ, e2]
  iintro ⟨⟨Hi, Hr⟩, HR⟩
  iapply (h Φ) $$ Hi
  iintro Hi
  rw [wp_ret]
  iapply fupd_intro
  iapply hΦ'
  isplitr [HR]
  · isplitl [Hi]
    · iexact Hi
    · iexact Hr
  · iexact HR

/-- One operation that changes two pieces. -/
theorem EvS.two {α : Type} {σ : St F} {p : P (F := F) α} {v : α} (i i' : Piece) (hne : i' ≠ i) (σ' : St F)
    (hj : ∀ j, j ≠ i → j ≠ i' → comp c I σ' j = comp c I σ j)
    (h : ∀ Φ : α → sProp 𝕄, iprop(comp c I σ i ∗ comp c I σ i') ⊢ iprop((iprop(comp c I σ' i ∗ comp c I σ' i') -∗ wp frame (wpE (defs₀ (F := F)) Variants.none (c : Thread nD τ) none) Set.univ (.ret v) Φ) -∗ wp frame (wpE (defs₀ (F := F)) Variants.none (c : Thread nD τ) none) Set.univ p Φ)) :
    EvS c I σ p v σ' := by
  intro Φ R hΦ
  have e : ∀ s : St F, Res c I s = iprop(comp c I s i ∗ (comp c I s i' ∗ bigSep ((Finset.univ.erase i).erase i') (comp c I s))) := fun s => by
    have h2 : bigSep (Finset.univ.erase i) (comp c I s) = iprop(comp c I s i' ∗ bigSep ((Finset.univ.erase i).erase i') (comp c I s)) :=
      bigSep_erase (Finset.mem_erase.mpr ⟨hne, Finset.mem_univ i'⟩)
    rw [← h2]
    exact bigSep_erase (Finset.mem_univ i)
  have e2 : bigSep ((Finset.univ.erase i).erase i') (comp c I σ) = bigSep ((Finset.univ.erase i).erase i') (comp c I σ') :=
    bigSep_congr fun j hm => (hj j (Finset.ne_of_mem_erase (Finset.mem_of_mem_erase hm)) (Finset.ne_of_mem_erase hm)).symm
  have hΦ' := hΦ v σ' ⟨rfl, rfl⟩
  rw [e σ'] at hΦ'
  rw [e σ, e2]
  iintro ⟨⟨Hi, ⟨Hi', Hr⟩⟩, HR⟩
  iapply (h Φ) $$ [Hi Hi']
  · isplitl [Hi]
    · iexact Hi
    · iexact Hi'
  iintro ⟨Hi, Hi'⟩
  rw [wp_ret]
  iapply fupd_intro
  iapply hΦ'
  isplitr [HR]
  · isplitl [Hi]
    · iexact Hi
    · isplitl [Hi']
      · iexact Hi'
      · iexact Hr
  · iexact HR

/-! ## Loads and stores -/

theorem EvS.load {σ : St F} {cs : CoreSpace} {s : Shape} {e : EltTy} {m : Memref sig .tc cs s e} {r : LoadRect s} {hl : m.view.LoadsAt r}
    (i : Piece) {S : Finset (Idx (m.view.loc (c : Thread nD τ)))} {f : Buf (Elt F) (m.view.loc (c : Thread nD τ))} (R : sProp 𝕄)
    (hS : m.view.setOn r.set ⊆ S)
    (hc : comp c I σ i = iprop((m.view.loc (c : Thread nD τ) ↦[S]{fullShare} f) ∗ R)) {v : r.shape.Idx → Elt F e}
    (hv : m.view.readAt (Elt F) r f = v) : EvS c I σ (Prog.lift (.load m r hl)) v σ := by
  subst hv
  refine EvS.one i σ (fun _ _ => rfl) fun Φ => ?_
  rw [hc]
  iintro ⟨H, HR⟩ Hk
  iapply (wp_load Variants.none (c : Thread nD τ) none Set.univ (k := fun v => .ret v) hS) $$ H
  iintro H
  iapply Hk
  isplitl [H]
  · iexact H
  · iexact HR

theorem EvS.loadW {σ : St F} {cs : CoreSpace} {s : Shape} {e : EltTy} {m : Memref sig .tc cs s e} {r : LoadRect s} {hl : m.view.LoadsAt r}
    (i : Piece) {f : Buf (Elt F) (m.view.loc (c : Thread nD τ))}
    (hc : comp c I σ i = pt c m f) {v : r.shape.Idx → Elt F e}
    (hv : m.view.readAt (Elt F) r f = v) : EvS c I σ (Prog.lift (.load m r hl)) v σ := by
  subst hv
  refine EvS.one i σ (fun _ _ => rfl) fun Φ => ?_
  rw [hc]
  exact wp_load Variants.none (c : Thread nD τ) none Set.univ (k := fun v => .ret v) (Finset.subset_univ _)

theorem EvS.storeW {σ : St F} {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    (i : Piece) (σ' : St F) {f f' : Buf (Elt F) ((m.access r).loc (c : Thread nD τ))}
    (hj : ∀ j, j ≠ i → comp c I σ' j = comp c I σ j)
    (hc : comp c I σ i = pt c m f) (hc' : comp c I σ' i = pt c m f')
    (hw : (m.access r).write (Elt F) f w Mk = f') : EvS c I σ (Prog.lift (.store m r w Mk hx hm)) ⟨⟩ σ' := by
  subst hw
  refine EvS.one i σ' hj fun Φ => ?_
  rw [hc, hc']
  exact wp_store (defs := defs₀ (F := F)) (m := m) (r := r) (w := w) (Mk := Mk) (hx := hx) (hm := hm) Variants.none (c : Thread nD τ) none
    (Q := Φ) Set.univ (k := fun v => .ret v) (f := f) (S := Finset.univ) (Finset.subset_univ _)

theorem write_rect {b : Ref sig .tc} {r : Rect b.ty.shape} {f f' : b.ty.Contents (Elt F)} {w : r.shape.Idx → Elt F b.ty.elt}
    (h1 : ∀ x, f' (r.emb x) = w x) (h2 : ∀ i, i ∉ r.set → f' i = f i) :
    ((Memref.whole b).access r).write (Elt F) f w Finset.univ = f' := by
  funext i
  by_cases hi : i ∈ r.set
  · obtain ⟨x, rfl⟩ := r.exists_idx_of_mem hi
    exact (View.write_emb_of_mem (v := (Memref.whole b).access r) f w (Finset.mem_univ x)).trans (h1 x).symm
  · refine (View.write_of_not_mem (v := (Memref.whole b).access r) f w Finset.univ ?_).trans (h2 i hi).symm
    intro hm
    apply hi
    obtain ⟨x, -, rfl⟩ := Finset.mem_map.mp hm
    exact r.idx_mem x

theorem EvS.ld_x {σ : St F} {off : Fin 2 → ℕ} {size : Fin 2 → ℕ} {inb : ∀ a, off a + size a ≤ S24x5120.size a} {hl} :
    EvS c I σ (Prog.lift (.load A1 (Rect.unit (s := S24x5120) off size inb).toLoadRect hl))
      (fun i => I.x (off 0 + i 0) (off 1 + i 1)) σ := by
  refine EvS.loadW .x rfl (funext fun i => ?_)
  show I.x (off 0 + 1 * i 0) (off 1 + 1 * i 1) = _
  rw [Nat.one_mul, Nat.one_mul]

end Cert.Kernel.Moe
-- ==== Proof.K.Dma.lean ====
/-
  The transfers of the body: what one takes, what it leaves, and how its wait hands it back.
-/
module

public import proofs.«01_k».proof.Proof.K.Ev

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}

/-! ## Windows -/

theorem dstG_set (s : Fin 4) (w : Fin 2) (inb) : (dstG ![(s : ℕ), w, 0, 0] inb).view.set = gset s w := by
  show ((A9.view.slice (Rect.unit (s := S4x2x5120x256) ![(s : ℕ), w, 0, 0] S1x1x5120x256.size inb)).reshape _ _).set = _
  rw [View.set_reshape]
  erw [View.set_slice_whole]
  ext i
  refine (LoadRect.mem_set _).trans ?_
  simp only [gset, Finset.mem_filter, Finset.mem_univ, true_and]
  constructor
  · intro h
    obtain ⟨j0, h0, e0⟩ := h 0
    obtain ⟨j1, h1, e1⟩ := h 1
    have h0' : j0 < 1 := h0
    have h1' : j1 < 1 := h1
    have e0' : (i 0 : ℕ) = s + 1 * j0 := e0
    have e1' : (i 1 : ℕ) = w + 1 * j1 := e1
    constructor <;> omega
  · rintro ⟨h0, h1⟩ a
    fin_cases a
    · exact ⟨0, Nat.one_pos, h0⟩
    · exact ⟨0, Nat.one_pos, h1⟩
    · exact ⟨(i 2 : ℕ), (i 2).2, by show (i 2 : ℕ) = 0 + 1 * (i 2 : ℕ); omega⟩
    · exact ⟨(i 3 : ℕ), (i 3).2, by show (i 3 : ℕ) = 0 + 1 * (i 3 : ℕ); omega⟩

theorem srcG_set (e j : ℕ) (w : Fin 2) (inb) : (srcG ![e, 0, w * 1024 + 256 * j] inb).view.set = wset e j w := by
  show ((A6.view.slice (Rect.unit (s := S8x5120x2048) ![e, 0, w * 1024 + 256 * j] S1x5120x256.size inb)).reshape _ _).set = _
  rw [View.set_reshape]
  erw [View.set_slice_whole]
  ext i
  refine (LoadRect.mem_set _).trans ?_
  simp only [wset, Finset.mem_filter, Finset.mem_univ, true_and]
  constructor
  · intro h
    obtain ⟨j0, h0, e0⟩ := h 0
    obtain ⟨j1, h1, e1⟩ := h 2
    have h0' : j0 < 1 := h0
    have h1' : j1 < 256 := h1
    have e0' : (i 0 : ℕ) = e + 1 * j0 := e0
    have e1' : (i 2 : ℕ) = (w * 1024 + 256 * j) + 1 * j1 := e1
    refine ⟨?_, ?_, ?_⟩ <;> omega
  · rintro ⟨h0, h1, h2⟩ a
    fin_cases a
    · exact ⟨0, Nat.one_pos, h0⟩
    · exact ⟨(i 1 : ℕ), (i 1).2, by show (i 1 : ℕ) = 0 + 1 * (i 1 : ℕ); omega⟩
    · refine ⟨(i 2 : ℕ) - (w * 1024 + 256 * j), ?_, ?_⟩
      · show (i 2 : ℕ) - (w * 1024 + 256 * j) < 256
        omega
      · show (i 2 : ℕ) = (w * 1024 + 256 * j) + 1 * ((i 2 : ℕ) - (w * 1024 + 256 * j))
        omega

theorem dstD_set (s : Fin 4) (inb) : (dstD ![(s : ℕ), 0, 0] inb).view.set = dset s := by
  show ((A10.view.slice (Rect.unit (s := S4x256x5120) ![(s : ℕ), 0, 0] S1x256x5120.size inb)).reshape _ _).set = _
  rw [View.set_reshape]
  erw [View.set_slice_whole]
  ext i
  refine (LoadRect.mem_set _).trans ?_
  simp only [dset, Finset.mem_filter, Finset.mem_univ, true_and]
  constructor
  · intro h
    obtain ⟨j0, h0, e0⟩ := h 0
    have h0' : j0 < 1 := h0
    have e0' : (i 0 : ℕ) = s + 1 * j0 := e0
    omega
  · intro h0 a
    fin_cases a
    · exact ⟨0, Nat.one_pos, h0⟩
    · exact ⟨(i 1 : ℕ), (i 1).2, by show (i 1 : ℕ) = 0 + 1 * (i 1 : ℕ); omega⟩
    · exact ⟨(i 2 : ℕ), (i 2).2, by show (i 2 : ℕ) = 0 + 1 * (i 2 : ℕ); omega⟩

theorem srcD_set (e j : ℕ) (inb) : (srcD ![e, 256 * j, 0] inb).view.set = vset e j := by
  show ((A7.view.slice (Rect.unit (s := S8x1024x5120) ![e, 256 * j, 0] S1x256x5120.size inb)).reshape _ _).set = _
  rw [View.set_reshape]
  erw [View.set_slice_whole]
  ext i
  refine (LoadRect.mem_set _).trans ?_
  simp only [vset, Finset.mem_filter, Finset.mem_univ, true_and]
  constructor
  · intro h
    obtain ⟨j0, h0, e0⟩ := h 0
    obtain ⟨j1, h1, e1⟩ := h 1
    have h0' : j0 < 1 := h0
    have h1' : j1 < 256 := h1
    have e0' : (i 0 : ℕ) = e + 1 * j0 := e0
    have e1' : (i 1 : ℕ) = (256 * j) + 1 * j1 := e1
    refine ⟨?_, ?_, ?_⟩ <;> omega
  · rintro ⟨h0, h1, h2⟩ a
    fin_cases a
    · exact ⟨0, Nat.one_pos, h0⟩
    · refine ⟨(i 1 : ℕ) - (256 * j), ?_, ?_⟩
      · show (i 1 : ℕ) - (256 * j) < 256
        omega
      · show (i 1 : ℕ) = (256 * j) + 1 * ((i 1 : ℕ) - (256 * j))
        omega
    · exact ⟨(i 2 : ℕ), (i 2).2, by show (i 2 : ℕ) = 0 + 1 * (i 2 : ℕ); omega⟩

/-- What a transfer of block `j` of expert `e` leaves in its window. -/
theorem landG (s : Fin 4) (w : Fin 2) (e j : ℕ) (inb inb') (f : S4x2x5120x256.Idx → Elt F .fp8e4m3) :
    ∀ i ∈ gset s w, (dstG ![(s : ℕ), w, 0, 0] inb).view.write (Elt F) f
      (ReadAs.same.apply ((srcG ![e, 0, w * 1024 + 256 * j] inb').view.read (Elt F) (wguC I))) Finset.univ i = guC I e j i := by
  intro i hi
  rw [← dstG_set s w inb] at hi
  obtain ⟨x, -, rfl⟩ := Finset.mem_map.mp hi
  refine (View.write_emb_of_mem (v := (dstG ![(s : ℕ), w, 0, 0] inb).view) f _ (Finset.mem_univ x)).trans ?_
  obtain ⟨a, b, rfl⟩ : ∃ (a : Fin 5120) (b : Fin 256), x = ix2 a b := ⟨x 0, x 1, eq_ix2 x⟩
  have h4 : Shape.reshapeEquiv (s := S1x1x5120x256) (s' := S5120x256) squeezes_S1x1x5120x256_S5120x256.numel_eq (ix2 a b)
      = ix4 (⟨0, Nat.one_pos⟩ : Fin 1) (⟨0, Nat.one_pos⟩ : Fin 1) a b := reshapeEquiv_ix2_11ab _ a b
  have h3 : Shape.reshapeEquiv (s := S1x5120x256) (s' := S5120x256) squeezes_S1x5120x256_S5120x256.numel_eq (ix2 a b)
      = ix3 (⟨0, Nat.one_pos⟩ : Fin 1) a b := reshapeEquiv_ix2_1ab _ a b
  have e1 : (dstG ![(s : ℕ), w, 0, 0] inb).view.emb (ix2 a b)
      = (Rect.unit (s := S4x2x5120x256) ![(s : ℕ), w, 0, 0] S1x1x5120x256.size inb).emb (ix4 (⟨0, Nat.one_pos⟩ : Fin 1) (⟨0, Nat.one_pos⟩ : Fin 1) a b) := by
    rw [← h4]; rfl
  have e2 : (srcG ![e, 0, w * 1024 + 256 * j] inb').view.emb (ix2 a b)
      = (Rect.unit (s := S8x5120x2048) ![e, 0, w * 1024 + 256 * j] S1x5120x256.size inb').emb (ix3 (⟨0, Nat.one_pos⟩ : Fin 1) a b) := by
    rw [← h3]; rfl
  show wguC I ((srcG ![e, 0, w * 1024 + 256 * j] inb').view.emb (ix2 a b)) = guC I e j ((dstG ![(s : ℕ), w, 0, 0] inb).view.emb (ix2 a b))
  rw [e1, e2]
  show I.wgu (e + 1 * 0) (0 + 1 * a) (w * 1024 + 256 * j + 1 * b) = I.wgu e (0 + 1 * a) ((w + 1 * 0) * 1024 + 256 * j + (0 + 1 * b))
  simp only [Nat.mul_zero, Nat.add_zero, Nat.zero_add, Nat.one_mul]

theorem landD (s : Fin 4) (e j : ℕ) (inb inb') (f : S4x256x5120.Idx → Elt F .fp8e4m3) :
    ∀ i ∈ dset s, (dstD ![(s : ℕ), 0, 0] inb).view.write (Elt F) f
      (ReadAs.same.apply ((srcD ![e, 256 * j, 0] inb').view.read (Elt F) (wdC I))) Finset.univ i = dC I e j i := by
  intro i hi
  rw [← dstD_set s inb] at hi
  obtain ⟨x, -, rfl⟩ := Finset.mem_map.mp hi
  refine (View.write_emb_of_mem (v := (dstD ![(s : ℕ), 0, 0] inb).view) f _ (Finset.mem_univ x)).trans ?_
  obtain ⟨a, b, rfl⟩ : ∃ (a : Fin 256) (b : Fin 5120), x = ix2 a b := ⟨x 0, x 1, eq_ix2 x⟩
  have h3 : Shape.reshapeEquiv (s := S1x256x5120) (s' := S256x5120) squeezes_S1x256x5120_S256x5120.numel_eq (ix2 a b)
      = ix3 (⟨0, Nat.one_pos⟩ : Fin 1) a b := reshapeEquiv_ix2_1ab _ a b
  have e1 : (dstD ![(s : ℕ), 0, 0] inb).view.emb (ix2 a b)
      = (Rect.unit (s := S4x256x5120) ![(s : ℕ), 0, 0] S1x256x5120.size inb).emb (ix3 (⟨0, Nat.one_pos⟩ : Fin 1) a b) := by
    rw [← h3]; rfl
  have e2 : (srcD ![e, 256 * j, 0] inb').view.emb (ix2 a b)
      = (Rect.unit (s := S8x1024x5120) ![e, 256 * j, 0] S1x256x5120.size inb').emb (ix3 (⟨0, Nat.one_pos⟩ : Fin 1) a b) := by
    rw [← h3]; rfl
  show wdC I ((srcD ![e, 256 * j, 0] inb').view.emb (ix2 a b)) = dC I e j ((dstD ![(s : ℕ), 0, 0] inb).view.emb (ix2 a b))
  rw [e1, e2]
  show I.wd (e + 1 * 0) (256 * j + 1 * a) (0 + 1 * b) = I.wd e (256 * j + (0 + 1 * a)) (0 + 1 * b)
  simp only [Nat.mul_zero, Nat.add_zero, Nat.zero_add, Nat.one_mul]

/-! ## Starting a transfer -/

instance (s : Fin 4) (e j : ℕ) (w : Fin 2) : Storable (upEmb : UEmb _ 𝕄) (DG c I s e j w) := by
  unfold DG; infer_instance

theorem upd_self {A : Type} (f : Fin 4 → A) (s : Fin 4) (v : A) : Function.update f s v s = v := Function.update_self s v f

theorem hj_g {σ : St F} {s : Fin 4} {v : GuSt} : ∀ j, j ≠ Piece.g s →
    comp c I { σ with g := Function.update σ.g s v } j = comp c I σ j := by
  intro j hj
  cases j with
  | g t =>
    have : t ≠ s := fun h => hj (by rw [h])
    show gP c I t (Function.update σ.g s v t) = _
    rw [Function.update_of_ne this]; rfl
  | _ => rfl
theorem hj_d {σ : St F} {s : Fin 4} {v : DSt} : ∀ j, j ≠ Piece.d s →
    comp c I { σ with d := Function.update σ.d s v } j = comp c I σ j := by
  intro j hj
  cases j with
  | d t =>
    have : t ≠ s := fun h => hj (by rw [h])
    show dP c I t (Function.update σ.d s v t) = _
    rw [Function.update_of_ne this]; rfl
  | _ => rfl

theorem comp_g {σ : St F} {s : Fin 4} {v : GuSt} : comp c I { σ with g := Function.update σ.g s v } (.g s) = gP c I s v := by
  show gP c I s (Function.update σ.g s v s) = _
  rw [Function.update_self]
theorem comp_d {σ : St F} {s : Fin 4} {v : DSt} : comp c I { σ with d := Function.update σ.d s v } (.d s) = dP c I s v := by
  show dP c I s (Function.update σ.d s v s) = _
  rw [Function.update_self]

theorem allG_split (s : Fin 4) (e j : ℕ) (w : Fin 2) :
    allG c I s w ⊣⊢ iprop((A6.view.loc (c : Thread nD τ) ↦[wset e j w]{qg s w} wguC I) ∗ restG c I s e j w) :=
  pointsTo_split_subset (Finset.subset_univ _)
theorem allD_split (s : Fin 4) (e j : ℕ) :
    allD c I s ⊣⊢ iprop((A7.view.loc (c : Thread nD τ) ↦[vset e j]{qd s} wdC I) ∗ restD c I s e j) :=
  pointsTo_split_subset (Finset.subset_univ _)

theorem landG' (s : Fin 4) (w : Fin 2) (e j : ℕ) (inb inb') (f : S4x2x5120x256.Idx → Elt F .fp8e4m3) :
    iprop(((dstG ![(s : ℕ), w, 0, 0] inb).view.loc (c : Thread nD τ) ↦[gset s w]{fullShare} ((dstG ![(s : ℕ), w, 0, 0] inb).view.write (Elt F) f
      (ReadAs.same.apply ((srcG ![e, 0, w * 1024 + 256 * j] inb').view.read (Elt F) (wguC I))) Finset.univ))
      ∗ ((srcG ![e, 0, w * 1024 + 256 * j] inb').view.loc (c : Thread nD τ) ↦[(srcG ![e, 0, w * 1024 + 256 * j] inb').view.set]{qg s w} wguC I))
    ⊢ DG c I s e j w := by
  rw [srcG_set]
  exact sep_mono_left (Entails.of_eq (pointsTo_congr (landG s w e j inb inb' f)))

theorem EvS.startG0 {σ : St F} (s : Fin 4) (e j : ℕ) {sem : DmaSem sig} {o1 : Fin 4 → ℕ} {i1} {o2 : Fin 3 → ℕ} {i2} {hsrc hdst hsem}
    (hsm : sem = gsem s) (h1 : o1 = ![(s : ℕ), 0, 0, 0]) (h2 : o2 = ![e, 0, 256 * j]) (hσ : σ.g s = .idle) :
    EvS c I σ (Prog.lift (.enqueueDma (srcG o2 i2) (.here (dstG o1 i1)) (.dma sem) hsrc hdst hsem)) ⟨⟩
      { σ with g := Function.update σ.g s (.one e j) } := by
  subst hsm h1
  have h2' : o2 = ![e, 0, (0 : Fin 2) * 1024 + 256 * j] := by rw [h2]; congr 2; simp
  subst h2'
  refine EvS.one (.g s) _ hj_g fun Φ => ?_
  rw [comp_g]
  show gP c I s (σ.g s) ⊢ _
  rw [hσ]
  simp only [gP, anyG]
  iintro ⟨Hs, ⟨%f, Ha⟩, Hb, Hq, Hq'⟩ Hk
  ihave Hq := (allG_split s e j 0).1 $$ Hq
  icases Hq with ⟨Hw, Hr⟩
  imod (Transfers.batch_alloc' EC (c : Thread nD τ) () NG (DG c I s e j) (sm := SemLoc.dma (gsem s)) (E := Set.univ)) $$ Hs with HB
  rw [← srcG_set e j 0 i2]
  iapply (Transfers.wp_dmaBatch EC Variants.none (c : Thread nD τ) none (src := srcG ![e, 0, (0 : Fin 2) * 1024 + 256 * j] i2) (dst := dstG ![(s : ℕ), (0 : Fin 2), 0, 0] i1)
    (k := fun v => .ret v) (D := DG c I s e j) (j := 0) (u := 0) (Sd := gset s 0) (fd := f) () NG rfl (dstG_set s 0 i1).le (by decide) (Nat.zero_le _)
    (landG' s 0 e j i1 i2 f)) $$ [Hw Ha HB]
  · isplitl [Hw]; · iexact Hw
    isplitl [Ha]; · iexact Ha
    iexact HB
  iintro HB
  iapply Hk
  isplitl [HB]; · iexact HB
  isplitl [Hr]; · iexact Hr
  isplitl [Hb]; · iexact Hb
  iexact Hq'

theorem EvS.startG1 {σ : St F} (s : Fin 4) (e j : ℕ) {sem : DmaSem sig} {o1 : Fin 4 → ℕ} {i1} {o2 : Fin 3 → ℕ} {i2} {hsrc hdst hsem}
    (hsm : sem = gsem s) (h1 : o1 = ![(s : ℕ), 1, 0, 0]) (h2 : o2 = ![e, 0, 1024 + 256 * j]) (hσ : σ.g s = .one e j) :
    EvS c I σ (Prog.lift (.enqueueDma (srcG o2 i2) (.here (dstG o1 i1)) (.dma sem) hsrc hdst hsem)) ⟨⟩
      { σ with g := Function.update σ.g s (.fly e j) } := by
  subst hsm h1
  have h2' : o2 = ![e, 0, (1 : Fin 2) * 1024 + 256 * j] := by rw [h2]; congr 2
  subst h2'
  refine EvS.one (.g s) _ hj_g fun Φ => ?_
  rw [comp_g]
  show gP c I s (σ.g s) ⊢ _
  rw [hσ]
  simp only [gP, anyG]
  iintro ⟨HB, Hr0, ⟨%f, Ha⟩, Hq⟩ Hk
  ihave Hq := (allG_split s e j 1).1 $$ Hq
  icases Hq with ⟨Hw, Hr⟩
  rw [← srcG_set e j 1 i2]
  iapply (Transfers.wp_dmaBatch EC Variants.none (c : Thread nD τ) none (src := srcG ![e, 0, (1 : Fin 2) * 1024 + 256 * j] i2) (dst := dstG ![(s : ℕ), (1 : Fin 2), 0, 0] i1)
    (k := fun v => .ret v) (D := DG c I s e j) (j := 1) (u := 0) (Sd := gset s 1) (fd := f) () NG rfl (dstG_set s 1 i1).le (by decide) (Nat.zero_le _)
    (landG' s 1 e j i1 i2 f)) $$ [Hw Ha HB]
  · isplitl [Hw]; · iexact Hw
    isplitl [Ha]; · iexact Ha
    iexact HB
  iintro HB
  iapply Hk
  isplitl [HB]; · iexact HB
  isplitl [Hr0]; · iexact Hr0
  iexact Hr

theorem NG_pos : 0 < NG := View.dmaCredit_pos (dstG ![0, 0, 0, 0] (by decide)).view (Shape.numel_pos (by decide))
theorem ND_pos : 0 < ND := View.dmaCredit_pos (dstD ![0, 0, 0] (by decide)).view (Shape.numel_pos (by decide))

theorem landD' (s : Fin 4) (e j : ℕ) (inb inb') (f : S4x256x5120.Idx → Elt F .fp8e4m3) :
    iprop(((dstD ![(s : ℕ), 0, 0] inb).view.loc (c : Thread nD τ) ↦[dset s]{fullShare} ((dstD ![(s : ℕ), 0, 0] inb).view.write (Elt F) f
      (ReadAs.same.apply ((srcD ![e, 256 * j, 0] inb').view.read (Elt F) (wdC I))) Finset.univ))
      ∗ ((srcD ![e, 256 * j, 0] inb').view.loc (c : Thread nD τ) ↦[(srcD ![e, 256 * j, 0] inb').view.set]{qd s} wdC I))
    = DD c I s e j := by
  rw [srcD_set]
  exact congrArg (fun P : sProp 𝕄 => iprop(P ∗ (A7.view.loc (c : Thread nD τ) ↦[vset e j]{qd s} wdC I))) (pointsTo_congr (landD s e j inb inb' f))

theorem EvS.startD {σ : St F} (s : Fin 4) (e j : ℕ) {sem : DmaSem sig} {o1 : Fin 3 → ℕ} {i1} {o2 : Fin 3 → ℕ} {i2} {hsrc hdst hsem}
    (hsm : sem = dsem s) (h1 : o1 = ![(s : ℕ), 0, 0]) (h2 : o2 = ![e, 256 * j, 0]) (hσ : σ.d s = .idle) :
    EvS c I σ (Prog.lift (.enqueueDma (srcD o2 i2) (.here (dstD o1 i1)) (.dma sem) hsrc hdst hsem)) ⟨⟩
      { σ with d := Function.update σ.d s (.fly e j) } := by
  subst hsm h1 h2
  refine EvS.one (.d s) _ hj_d fun Φ => ?_
  rw [comp_d]
  show dP c I s (σ.d s) ⊢ _
  rw [hσ]
  simp only [dP, anyD]
  iintro ⟨Hs, ⟨%f, Ha⟩, Hq⟩ Hk
  ihave Hq := (allD_split s e j).1 $$ Hq
  icases Hq with ⟨Hw, Hr⟩
  rw [← srcD_set e j i2]
  iapply (Transfers.wp_dmaLocal EC Variants.none (c : Thread nD τ) none (src := srcD ![e, 256 * j, 0] i2) (dst := dstD ![(s : ℕ), 0, 0] i1)
    (k := fun v => .ret v) (Sd := dset s) (fd := f) () ND rfl ND_pos (dstD_set s i1).le) $$ [Hw Ha Hs]
  · isplitl [Hw]; · iexact Hw
    isplitl [Ha]; · iexact Ha
    iexact Hs
  iintro HB
  iapply Hk
  isplitl [HB]
  · rw [← landD' s e j i1 i2 f]
    iexact HB
  iexact Hr

/-! ## Waiting for a transfer -/

theorem hj_g2 {σ : St F} {s : Fin 4} {v : GuSt} : ∀ j, j ≠ Piece.g s → j ≠ Piece.owes →
    comp c I { σ with g := Function.update σ.g s v } j = comp c I σ j := fun j h _ => hj_g j h
theorem hj_d2 {σ : St F} {s : Fin 4} {v : DSt} : ∀ j, j ≠ Piece.d s → j ≠ Piece.owes →
    comp c I { σ with d := Function.update σ.d s v } j = comp c I σ j := fun j h _ => hj_d j h

theorem EvS.waitG0 {σ : St F} (s : Fin 4) (e j : ℕ) {sem : DmaSem sig} {o1 : Fin 4 → ℕ} {i1} {o2 : Fin 3 → ℕ} {i2} {hsrc hdst}
    (hsm : sem = gsem s) (hσ : σ.g s = .fly e j) :
    EvS c I σ (Prog.lift (.waitDma2 sem (srcG o2 i2) (dstG o1 i1) hsrc hdst)) ⟨⟩
      { σ with g := Function.update σ.g s (.wt e j) } := by
  subst hsm
  refine EvS.two (.g s) .owes (by intro h; cases h) _ hj_g2 fun Φ => ?_
  rw [comp_g]
  show iprop(gP c I s (σ.g s) ∗ iprop(∃ W, owes (c : Thread nD τ) 0 W)) ⊢ iprop((iprop(_ ∗ iprop(∃ W, owes (c : Thread nD τ) 0 W)) -∗ _) -∗ _)
  rw [hσ]
  simp only [gP]
  iintro ⟨⟨HB, Hr0, Hr1⟩, ⟨%W, HO⟩⟩ Hk
  iapply (Transfers.wp_waitBatch EC Variants.none (c : Thread nD τ) none (srcw := srcG o2 i2) (dstw := dstG o1 i1)
    (k := fun v => .ret v) (D := DG c I s e j) (u := 0) () (N := NG) rfl (by have := NG_pos; omega)) $$ [HB HO]
  · isplitl [HB]; · iexact HB
    iexact HO
  rw [Nat.zero_add]
  iintro ⟨HB, HO⟩
  iapply Hk
  isplitr [HO]
  · isplitl [HB]; · iexact HB
    isplitl [Hr0]; · iexact Hr0
    iexact Hr1
  iexists _
  iexact HO

theorem bigSep_pair (D : Fin 2 → sProp 𝕄) : bigSep Finset.univ D ⊢ iprop(D 0 ∗ D 1) := by
  have h0 : bigSep Finset.univ D = iprop(D 0 ∗ bigSep (Finset.univ.erase 0) D) := bigSep_erase (Finset.mem_univ _)
  have h1 : bigSep (Finset.univ.erase 0) D = iprop(D 1 ∗ bigSep ((Finset.univ.erase 0).erase 1) D) := bigSep_erase (by decide)
  rw [h0, h1]
  iintro ⟨H0, H1, -⟩
  isplitl [H0]; · iexact H0
  iexact H1

theorem EvS.waitG1 {σ : St F} (s : Fin 4) (e j : ℕ) {sem : DmaSem sig} {o1 : Fin 4 → ℕ} {i1} {o2 : Fin 3 → ℕ} {i2} {hsrc hdst}
    (hsm : sem = gsem s) (hσ : σ.g s = .wt e j) :
    EvS c I σ (Prog.lift (.waitDma2 sem (srcG o2 i2) (dstG o1 i1) hsrc hdst)) ⟨⟩
      { σ with g := Function.update σ.g s (.rdy e j) } := by
  subst hsm
  refine EvS.two (.g s) .owes (by intro h; cases h) _ hj_g2 fun Φ => ?_
  rw [comp_g]
  show iprop(gP c I s (σ.g s) ∗ iprop(∃ W, owes (c : Thread nD τ) 0 W)) ⊢ iprop((iprop(_ ∗ iprop(∃ W, owes (c : Thread nD τ) 0 W)) -∗ _) -∗ _)
  rw [hσ]
  simp only [gP]
  iintro ⟨⟨HB, Hr0, Hr1⟩, ⟨%W, HO⟩⟩ Hk
  iapply (Transfers.wp_waitBatchLast EC Variants.none (c : Thread nD τ) none (srcw := srcG o2 i2) (dstw := dstG o1 i1)
    (k := fun v => .ret v) (D := DG c I s e j) (u := NG) () (N := NG) rfl NG_pos (by omega)) $$ [HB HO]
  · isplitl [HB]; · iexact HB
    iexact HO
  iintro ⟨HD, Hs, HO⟩
  ihave HD := bigSep_pair (DG c I s e j) $$ HD
  simp only [DG]
  icases HD with ⟨⟨Ha, Hw⟩, ⟨Hb, Hv⟩⟩
  iapply Hk
  isplitr [HO]
  · isplitl [Ha]; · iexact Ha
    isplitl [Hb]; · iexact Hb
    isplitl [Hs]; · iexact Hs
    isplitl [Hw Hr0]
    · iapply (allG_split s e j 0).2
      isplitl [Hw]; · iexact Hw
      iexact Hr0
    · iapply (allG_split s e j 1).2
      isplitl [Hv]; · iexact Hv
      iexact Hr1
  iexists _
  iexact HO

theorem EvS.waitD {σ : St F} (s : Fin 4) (e j : ℕ) {sem : DmaSem sig} {o1 : Fin 3 → ℕ} {i1} {o2 : Fin 3 → ℕ} {i2} {hsrc hdst}
    (hsm : sem = dsem s) (hσ : σ.d s = .fly e j) :
    EvS c I σ (Prog.lift (.waitDma2 sem (srcD o2 i2) (dstD o1 i1) hsrc hdst)) ⟨⟩
      { σ with d := Function.update σ.d s (.rdy e j) } := by
  subst hsm
  refine EvS.two (.d s) .owes (by intro h; cases h) _ hj_d2 fun Φ => ?_
  rw [comp_d]
  show iprop(dP c I s (σ.d s) ∗ iprop(∃ W, owes (c : Thread nD τ) 0 W)) ⊢ iprop((iprop(_ ∗ iprop(∃ W, owes (c : Thread nD τ) 0 W)) -∗ _) -∗ _)
  rw [hσ]
  simp only [dP]
  iintro ⟨⟨HB, Hr⟩, ⟨%W, HO⟩⟩ Hk
  iapply (Transfers.wp_waitLocal EC Variants.none (c : Thread nD τ) none (srcw := srcD o2 i2) (dstw := dstD o1 i1)
    (k := fun v => .ret v) (D := DD c I s e j) () (N := ND) rfl) $$ [HB HO]
  · isplitl [HB]; · iexact HB
    iexact HO
  unfold DD
  iintro ⟨⟨Ha, Hw⟩, Hs, HO⟩
  iapply Hk
  isplitr [HO]
  · isplitl [Ha]; · iexact Ha
    isplitl [Hs]; · iexact Hs
    iapply (allD_split s e j).2
    isplitl [Hw]; · iexact Hw
    iexact Hr
  iexists _
  iexact HO

/-! ## A slot whose weights are used is free again -/

theorem gP_idle (s : Fin 4) (e j : ℕ) : gP c I s (.rdy e j) ⊢ gP c I s .idle := by
  simp only [gP, anyG]
  iintro ⟨Ha, Hb, Hs, H0, H1⟩
  isplitl [Hs]; · iexact Hs
  isplitl [Ha]; · iexists _; iexact Ha
  isplitl [Hb]; · iexists _; iexact Hb
  isplitl [H0]; · iexact H0
  iexact H1
theorem dP_idle (s : Fin 4) (e j : ℕ) : dP c I s (.rdy e j) ⊢ dP c I s .idle := by
  simp only [dP, anyD]
  iintro ⟨Ha, Hs, H0⟩
  isplitl [Hs]; · iexact Hs
  isplitl [Ha]; · iexists _; iexact Ha
  iexact H0

theorem Ev.conseq {α : Type} {Q : α → St F → Prop} {σ σ' : St F} {p : P (F := F) α} (h : Res c I σ ⊢ Res c I σ') (hp : Ev c I Q σ' p) : Ev c I Q σ p :=
  fun Φ R hΦ => (sep_mono_left h).trans (hp Φ R hΦ)

theorem Ev.freeG {α : Type} {Q : α → St F → Prop} {σ : St F} {p : P (F := F) α} (s : Fin 4) {e j : ℕ} (hσ : σ.g s = .rdy e j)
    (hp : Ev c I Q { σ with g := Function.update σ.g s .idle } p) : Ev c I Q σ p := by
  refine Ev.conseq (bigSep_mono fun i _ => ?_) hp
  by_cases hi : i = .g s
  · subst hi
    rw [comp_g]
    show gP c I s (σ.g s) ⊢ _
    rw [hσ]
    exact gP_idle s e j
  · exact Entails.of_eq (hj_g i hi).symm
theorem Ev.freeD {α : Type} {Q : α → St F → Prop} {σ : St F} {p : P (F := F) α} (s : Fin 4) {e j : ℕ} (hσ : σ.d s = .rdy e j)
    (hp : Ev c I Q { σ with d := Function.update σ.d s .idle } p) : Ev c I Q σ p := by
  refine Ev.conseq (bigSep_mono fun i _ => ?_) hp
  by_cases hi : i = .d s
  · subst hi
    rw [comp_d]
    show dP c I s (σ.d s) ⊢ _
    rw [hσ]
    exact dP_idle s e j
  · exact Entails.of_eq (hj_d i hi).symm

/-! ## Loads of what a slot holds -/

theorem sep_lc' (A B C : sProp 𝕄) : iprop(A ∗ B ∗ C) ⊢ iprop(B ∗ A ∗ C) := by
  iintro ⟨HA, HB, HC⟩
  isplitl [HB]; · iexact HB
  isplitl [HA]; · iexact HA
  iexact HC
theorem sep_lc (A B C : sProp 𝕄) : iprop(A ∗ B ∗ C) = iprop(B ∗ A ∗ C) := equiv_iff.mp ⟨sep_lc' A B C, sep_lc' B A C⟩

theorem EvS.ld_g {σ : St F} (s : Fin 4) (w : Fin 2) {e j : ℕ} {off : Fin 4 → ℕ} {n0 n1 n2 n3 : ℕ} {inb : ∀ a, off a + (![n0, n1, n2, n3] : Fin 4 → ℕ) a ≤ S4x2x5120x256.size a} {hl}
    (hσ : σ.g s = .rdy e j) (h0 : off 0 = s) (h1 : off 1 = w) (hn0 : n0 = 1) (hn1 : n1 = 1) :
    EvS c I σ (Prog.lift (.load A9 (Rect.unit (s := S4x2x5120x256) off ![n0, n1, n2, n3] inb).toLoadRect hl))
      (fun i => I.wgu e (off 2 + i 2) ((w : ℕ) * 1024 + 256 * j + (off 3 + i 3))) σ := by
  subst hn0 hn1
  have hS : A9.view.setOn (Rect.unit (s := S4x2x5120x256) off ![1, 1, n2, n3] inb).toLoadRect.set ⊆ gset s w := by
    intro i hi
    obtain ⟨i', hi', rfl⟩ := Finset.mem_map.mp hi
    have h := (LoadRect.mem_set _).mp hi'
    obtain ⟨j0, q0, e0⟩ := h 0
    obtain ⟨j1, q1, e1⟩ := h 1
    have q0' : j0 < 1 := q0
    have q1' : j1 < 1 := q1
    have e0' : (i' 0 : ℕ) = off 0 + 1 * j0 := e0
    have e1' : (i' 1 : ℕ) = off 1 + 1 * j1 := e1
    refine Finset.mem_filter.mpr ⟨Finset.mem_univ _, ?_, ?_⟩
    · show (i' 0 : ℕ) = s
      omega
    · show (i' 1 : ℕ) = w
      omega
  have hv : A9.view.readAt (Elt F) (Rect.unit (s := S4x2x5120x256) off ![1, 1, n2, n3] inb).toLoadRect (guC I e j)
      = fun i => I.wgu e (off 2 + i 2) ((w : ℕ) * 1024 + 256 * j + (off 3 + i 3)) := by
    funext i
    show I.wgu e (off 2 + 1 * i 2) ((off 1 + 1 * i 1) * 1024 + 256 * j + (off 3 + 1 * i 3)) = _
    have hi1 : (i 1 : ℕ) < 1 := (i 1).2
    have hi1' : (i 1 : ℕ) = 0 := by omega
    rw [hi1', h1]
    simp only [Nat.one_mul, Nat.mul_zero, Nat.add_zero]
  have hw : ∀ w : Fin 2, w = 0 ∨ w = 1 := by decide
  rcases hw w with rfl | rfl
  · refine EvS.load (.g s) iprop((A9.view.loc (c : Thread nD τ) ↦[gset s 1]{fullShare} guC I e j)
      ∗ semVal ((c : Thread nD τ), SemLoc.dma (gsem s)) 0 ∗ allG c I s 0 ∗ allG c I s 1) hS ?_ hv
    show gP c I s (σ.g s) = _
    rw [hσ]; rfl
  · refine EvS.load (.g s) iprop((A9.view.loc (c : Thread nD τ) ↦[gset s 0]{fullShare} guC I e j)
      ∗ semVal ((c : Thread nD τ), SemLoc.dma (gsem s)) 0 ∗ allG c I s 0 ∗ allG c I s 1) hS ?_ hv
    show gP c I s (σ.g s) = _
    rw [hσ]
    simp only [gP]
    exact sep_lc _ _ _

theorem EvS.ld_d {σ : St F} (s : Fin 4) {e j : ℕ} {off : Fin 3 → ℕ} {n0 n1 n2 : ℕ} {inb : ∀ a, off a + (![n0, n1, n2] : Fin 3 → ℕ) a ≤ S4x256x5120.size a} {hl}
    (hσ : σ.d s = .rdy e j) (h0 : off 0 = s) (hn0 : n0 = 1) :
    EvS c I σ (Prog.lift (.load A10 (Rect.unit (s := S4x256x5120) off ![n0, n1, n2] inb).toLoadRect hl))
      (fun i => I.wd e (256 * j + (off 1 + i 1)) (off 2 + i 2)) σ := by
  subst hn0
  have hS : A10.view.setOn (Rect.unit (s := S4x256x5120) off ![1, n1, n2] inb).toLoadRect.set ⊆ dset s := by
    intro i hi
    obtain ⟨i', hi', rfl⟩ := Finset.mem_map.mp hi
    have h := (LoadRect.mem_set _).mp hi'
    obtain ⟨j0, q0, e0⟩ := h 0
    have q0' : j0 < 1 := q0
    have e0' : (i' 0 : ℕ) = off 0 + 1 * j0 := e0
    refine Finset.mem_filter.mpr ⟨Finset.mem_univ _, ?_⟩
    show (i' 0 : ℕ) = s
    omega
  have hv : A10.view.readAt (Elt F) (Rect.unit (s := S4x256x5120) off ![1, n1, n2] inb).toLoadRect (dC I e j)
      = fun i => I.wd e (256 * j + (off 1 + i 1)) (off 2 + i 2) := by
    funext i
    show I.wd e (256 * j + (off 1 + 1 * i 1)) (off 2 + 1 * i 2) = _
    simp only [Nat.one_mul]
  refine EvS.load (.d s) iprop(semVal ((c : Thread nD τ), SemLoc.dma (dsem s)) 0 ∗ allD c I s) hS ?_ hv
  show dP c I s (σ.d s) = _
  rw [hσ]; rfl

end Cert.Kernel.Moe
-- ==== Proof.K.Mem.lean ====
/-
  The loads and stores of the body, one rule for each of its buffers.
-/
module

public import proofs.«01_k».proof.Proof.K.Ev

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}

theorem mem_rect {S : Shape} {off size : Fin S.rank → ℕ} (inb : ∀ a, off a + size a ≤ S.size a) {i : S.Idx}
    (h : ∀ a, off a ≤ (i a : ℕ) ∧ (i a : ℕ) < off a + size a) : i ∈ (Rect.unit (s := S) off size inb).set := by
  refine (LoadRect.mem_set _).mpr fun a => ⟨(i a : ℕ) - off a, ?_, ?_⟩
  · have := h a
    show (i a : ℕ) - off a < size a
    omega
  · have := h a
    show (i a : ℕ) = off a + 1 * ((i a : ℕ) - off a)
    omega

theorem mem_rect2 {d : Fin 2 → ℕ} {off size : Fin 2 → ℕ} (inb : ∀ a, off a + size a ≤ d a) {i : Shape.Idx ⟨2, d⟩}
    (h0 : off 0 ≤ (i 0 : ℕ) ∧ (i 0 : ℕ) < off 0 + size 0) (h1 : off 1 ≤ (i 1 : ℕ) ∧ (i 1 : ℕ) < off 1 + size 1) :
    i ∈ (Rect.unit (s := ⟨2, d⟩) off size inb).set :=
  mem_rect (S := ⟨2, d⟩) inb fun a => by
    match a with
    | ⟨0, _⟩ => exact h0
    | ⟨1, _⟩ => exact h1

theorem EvS.ld_ids {σ : St F} {off : Fin 2 → ℕ} {size : Fin 2 → ℕ} {inb : ∀ a, off a + size a ≤ S24x2.size a} {hl} :
    EvS c I σ (Prog.lift (.load A2 (Rect.unit (s := S24x2) off size inb).toLoadRect hl))
      (fun i => I.ids (off 0 + i 0) (off 1 + i 1)) σ :=
  EvS.loadW .ids rfl (funext fun i => by
    show I.ids (off 0 + 1 * i 0) (off 1 + 1 * i 1) = _
    rw [Nat.one_mul, Nat.one_mul])
theorem EvS.ld_wts {σ : St F} {off : Fin 2 → ℕ} {size : Fin 2 → ℕ} {inb : ∀ a, off a + size a ≤ S24x2.size a} {hl} :
    EvS c I σ (Prog.lift (.load A3 (Rect.unit (s := S24x2) off size inb).toLoadRect hl))
      (fun i => I.wts (off 0 + i 0) (off 1 + i 1)) σ :=
  EvS.loadW .wts rfl (funext fun i => by
    show I.wts (off 0 + 1 * i 0) (off 1 + 1 * i 1) = _
    rw [Nat.one_mul, Nat.one_mul])
theorem EvS.ld_sx {σ : St F} {off : Fin 2 → ℕ} {size : Fin 2 → ℕ} {inb : ∀ a, off a + size a ≤ S8x5120.size a} {hl} :
    EvS c I σ (Prog.lift (.load A12 (Rect.unit (s := S8x5120) off size inb).toLoadRect hl))
      (fun i => σ.sx (off 0 + i 0) (off 1 + i 1)) σ :=
  EvS.loadW .sx rfl (funext fun i => by
    show σ.sx (off 0 + 1 * i 0) (off 1 + 1 * i 1) = _
    rw [Nat.one_mul, Nat.one_mul])
theorem EvS.ld_acc {σ : St F} {off : Fin 2 → ℕ} {size : Fin 2 → ℕ} {inb : ∀ a, off a + size a ≤ S24x5120.size a} {hl} :
    EvS c I σ (Prog.lift (.load A13 (Rect.unit (s := S24x5120) off size inb).toLoadRect hl))
      (fun i => σ.acc (off 0 + i 0) (off 1 + i 1)) σ :=
  EvS.loadW .acc rfl (funext fun i => by
    show σ.acc (off 0 + 1 * i 0) (off 1 + 1 * i 1) = _
    rw [Nat.one_mul, Nat.one_mul])
theorem EvS.ld_y {σ : St F} {off : Fin 2 → ℕ} {size : Fin 2 → ℕ} {inb : ∀ a, off a + size a ≤ S24x5120.size a} {hl} :
    EvS c I σ (Prog.lift (.load A14 (Rect.unit (s := S24x5120) off size inb).toLoadRect hl))
      (fun i => σ.y (off 0 + i 0) (off 1 + i 1)) σ :=
  EvS.loadW .y rfl (funext fun i => by
    show σ.y (off 0 + 1 * i 0) (off 1 + 1 * i 1) = _
    rw [Nat.one_mul, Nat.one_mul])
theorem EvS.ld_out {σ : St F} {off : Fin 2 → ℕ} {size : Fin 2 → ℕ} {inb : ∀ a, off a + size a ≤ S24x5120.size a} {hl} :
    EvS c I σ (Prog.lift (.load A8 (Rect.unit (s := S24x5120) off size inb).toLoadRect hl))
      (fun i => σ.out (off 0 + i 0) (off 1 + i 1)) σ :=
  EvS.loadW .out rfl (funext fun i => by
    show σ.out (off 0 + 1 * i 0) (off 1 + 1 * i 1) = _
    rw [Nat.one_mul, Nat.one_mul])
theorem EvS.ld_sgu {σ : St F} {off : Fin 3 → ℕ} {size : Fin 3 → ℕ} {inb : ∀ a, off a + size a ≤ S8x40x16.size a} {hl} :
    EvS c I σ (Prog.lift (.load A4 (Rect.unit (s := S8x40x16) off size inb).toLoadRect hl))
      (fun i => I.sgu (off 0 + i 0) (off 1 + i 1) (off 2 + i 2)) σ :=
  EvS.loadW .sgu rfl (funext fun i => by
    show I.sgu (off 0 + 1 * i 0) (off 1 + 1 * i 1) (off 2 + 1 * i 2) = _
    rw [Nat.one_mul, Nat.one_mul, Nat.one_mul])
theorem EvS.ld_sd {σ : St F} {off : Fin 3 → ℕ} {size : Fin 3 → ℕ} {inb : ∀ a, off a + size a ≤ S8x8x40.size a} {hl} :
    EvS c I σ (Prog.lift (.load A5 (Rect.unit (s := S8x8x40) off size inb).toLoadRect hl))
      (fun i => I.sd (off 0 + i 0) (off 1 + i 1) (off 2 + i 2)) σ :=
  EvS.loadW .sd rfl (funext fun i => by
    show I.sd (off 0 + 1 * i 0) (off 1 + 1 * i 1) (off 2 + 1 * i 2) = _
    rw [Nat.one_mul, Nat.one_mul, Nat.one_mul])
theorem EvS.ld_sg {σ : St F} {off : Fin 3 → ℕ} {size : Fin 3 → ℕ} {inb : ∀ a, off a + size a ≤ S16x40x128.size a} {hl} :
    EvS c I σ (Prog.lift (.load A11 (Rect.unit (s := S16x40x128) off size inb).toLoadRect hl))
      (fun i => σ.sg (off 0 + i 0) (off 1 + i 1) (off 2 + i 2)) σ :=
  EvS.loadW .sg rfl (funext fun i => by
    show σ.sg (off 0 + 1 * i 0) (off 1 + 1 * i 1) (off 2 + 1 * i 2) = _
    rw [Nat.one_mul, Nat.one_mul, Nat.one_mul])

theorem EvS.st_sx {σ : St F} {off : Fin 2 → ℕ} {size : Fin 2 → ℕ} {inb : ∀ a, off a + size a ≤ S8x5120.size a} {w hx hm}
    (f' : ℕ → ℕ → Elt F .f32)
    (h1 : ∀ i : Shape.Idx ⟨2, size⟩, f' (off 0 + i 0) (off 1 + i 1) = w i)
    (h2 : ∀ a b, a < 8 → b < 5120 → ¬ ((off 0 ≤ a ∧ a < off 0 + size 0) ∧ (off 1 ≤ b ∧ b < off 1 + size 1)) → f' a b = σ.sx a b) :
    EvS c I σ (Prog.lift (.store A12 (Rect.unit (s := S8x5120) off size inb) w Finset.univ hx hm)) ⟨⟩ { σ with sx := f' } :=
  EvS.storeW .sx { σ with sx := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_acc {σ : St F} {off : Fin 2 → ℕ} {size : Fin 2 → ℕ} {inb : ∀ a, off a + size a ≤ S24x5120.size a} {w hx hm}
    (f' : ℕ → ℕ → Elt F .f32)
    (h1 : ∀ i : Shape.Idx ⟨2, size⟩, f' (off 0 + i 0) (off 1 + i 1) = w i)
    (h2 : ∀ a b, a < 24 → b < 5120 → ¬ ((off 0 ≤ a ∧ a < off 0 + size 0) ∧ (off 1 ≤ b ∧ b < off 1 + size 1)) → f' a b = σ.acc a b) :
    EvS c I σ (Prog.lift (.store A13 (Rect.unit (s := S24x5120) off size inb) w Finset.univ hx hm)) ⟨⟩ { σ with acc := f' } :=
  EvS.storeW .acc { σ with acc := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_y {σ : St F} {off : Fin 2 → ℕ} {size : Fin 2 → ℕ} {inb : ∀ a, off a + size a ≤ S24x5120.size a} {w hx hm}
    (f' : ℕ → ℕ → Elt F .f32)
    (h1 : ∀ i : Shape.Idx ⟨2, size⟩, f' (off 0 + i 0) (off 1 + i 1) = w i)
    (h2 : ∀ a b, a < 24 → b < 5120 → ¬ ((off 0 ≤ a ∧ a < off 0 + size 0) ∧ (off 1 ≤ b ∧ b < off 1 + size 1)) → f' a b = σ.y a b) :
    EvS c I σ (Prog.lift (.store A14 (Rect.unit (s := S24x5120) off size inb) w Finset.univ hx hm)) ⟨⟩ { σ with y := f' } :=
  EvS.storeW .y { σ with y := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_out {σ : St F} {off : Fin 2 → ℕ} {size : Fin 2 → ℕ} {inb : ∀ a, off a + size a ≤ S24x5120.size a} {w hx hm}
    (f' : ℕ → ℕ → Elt F .bf16)
    (h1 : ∀ i : Shape.Idx ⟨2, size⟩, f' (off 0 + i 0) (off 1 + i 1) = w i)
    (h2 : ∀ a b, a < 24 → b < 5120 → ¬ ((off 0 ≤ a ∧ a < off 0 + size 0) ∧ (off 1 ≤ b ∧ b < off 1 + size 1)) → f' a b = σ.out a b) :
    EvS c I σ (Prog.lift (.store A8 (Rect.unit (s := S24x5120) off size inb) w Finset.univ hx hm)) ⟨⟩ { σ with out := f' } :=
  EvS.storeW .out { σ with out := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_sg {σ : St F} {off : Fin 3 → ℕ} {size : Fin 3 → ℕ} {inb : ∀ a, off a + size a ≤ S16x40x128.size a} {w hx hm}
    (f' : ℕ → ℕ → ℕ → Elt F .f32)
    (h1 : ∀ i : Shape.Idx ⟨3, size⟩, f' (off 0 + i 0) (off 1 + i 1) (off 2 + i 2) = w i)
    (h2 : ∀ a b d, a < 16 → b < 40 → d < 128 → ¬ ((off 0 ≤ a ∧ a < off 0 + size 0) ∧ (off 1 ≤ b ∧ b < off 1 + size 1) ∧ (off 2 ≤ d ∧ d < off 2 + size 2)) →
      f' a b d = σ.sg a b d) :
    EvS c I σ (Prog.lift (.store A11 (Rect.unit (s := S16x40x128) off size inb) w Finset.univ hx hm)) ⟨⟩ { σ with sg := f' } :=
  EvS.storeW .sg { σ with sg := f' } (fun j hj => by cases j <;> first | exact absurd rfl hj | rfl) rfl rfl
    (write_rect (fun i => by
      rw [← h1 i]
      show f' (off 0 + 1 * i 0) (off 1 + 1 * i 1) (off 2 + 1 * i 2) = _
      rw [Nat.one_mul, Nat.one_mul, Nat.one_mul])
    fun i hi => h2 _ _ _ (i 0).2 (i 1).2 (i 2).2 fun h => hi (mem_rect (S := S16x40x128) inb fun a => by
      match a with
      | ⟨0, _⟩ => exact h.1
      | ⟨1, _⟩ => exact h.2.1
      | ⟨2, _⟩ => exact h.2.2))

theorem EvS.st_ord {σ : St F} {off : Fin 1 → ℕ} {inb : ∀ a, off a + S1.size a ≤ S9.size a} {v : Elt F .i32} {hx hm} :
    EvS c I σ (Prog.lift (.store A15 (Rect.unit (s := S9) off S1.size inb) (fun _ => v) Finset.univ hx hm)) ⟨⟩
      { σ with ord := fun a => if a = off 0 then v else σ.ord a } :=
  EvS.storeW .ord { σ with ord := fun a => if a = off 0 then v else σ.ord a }
    (fun j hj => by cases j <;> first | exact absurd rfl hj | rfl) rfl rfl
    (write_rect (fun i => by
      have h0 : (i 0 : ℕ) < 1 := (i 0).2
      show (if off 0 + 1 * i 0 = off 0 then v else _) = v
      rw [if_pos (by omega)])
    fun i hi => by
      refine if_neg fun h => hi (mem_rect (S := S9) inb fun a => ?_)
      match a with
      | ⟨0, _⟩ =>
        have h' : (i 0 : ℕ) = off 0 := h
        show off 0 ≤ (i 0 : ℕ) ∧ (i 0 : ℕ) < off 0 + 1
        omega)

theorem EvS.sld_ord {σ : St F} {off : Fin 1 → ℕ} {inb : ∀ a, off a + S1.size a ≤ S9.size a} {h1 hp} :
    EvS c I σ (smemLoad A15 (Rect.unit (s := S9) off S1.size inb) h1 hp) (σ.ord (off 0)) σ := by
  refine EvS.one .ord σ (fun _ _ => rfl) fun Φ => ?_
  have e : ((A15.access (Rect.unit (s := S9) off S1.size inb)).read (Elt F) (fun i => σ.ord (i 0)) (Shape.Idx.first (h1.symm ▸ Nat.one_pos)) : Elt F .i32) = σ.ord (off 0) := by
    have h0 : ((Shape.Idx.first (s := S1) (h1.symm ▸ Nat.one_pos)) 0 : ℕ) < 1 := ((Shape.Idx.first (s := S1) (h1.symm ▸ Nat.one_pos)) 0).2
    show σ.ord (off 0 + 1 * ((Shape.Idx.first (s := S1) (h1.symm ▸ Nat.one_pos)) 0 : ℕ)) = _
    congr 1
  rw [← e]
  exact wp_smemLoadElt (defs := defs₀ (F := F)) Variants.none (c : Thread nD τ) none Set.univ (Q := Φ) (m := A15)
    (r := Rect.unit (s := S9) off S1.size inb) (hw := View.loads_smem_one hp h1) (x := Shape.Idx.first (h1.symm ▸ Nat.one_pos)) (k := fun v => .ret v)
    (q := fullShare) (f := fun i => σ.ord (i 0)) (S := Finset.univ) (Finset.subset_univ _)

theorem EvS.sld_iw {σ : St F} {off : Fin 1 → ℕ} {inb : ∀ a, off a + S1.size a ≤ S48.size a} {h1 hp} :
    EvS c I σ (smemLoad A0 (Rect.unit (s := S48) off S1.size inb) h1 hp) (I.iw (off 0)) σ := by
  refine EvS.one .iw σ (fun _ _ => rfl) fun Φ => ?_
  have e : ((A0.access (Rect.unit (s := S48) off S1.size inb)).read (Elt F) (fun i => I.iw (i 0)) (Shape.Idx.first (h1.symm ▸ Nat.one_pos)) : Elt F .i32) = I.iw (off 0) := by
    have h0 : ((Shape.Idx.first (s := S1) (h1.symm ▸ Nat.one_pos)) 0 : ℕ) < 1 := ((Shape.Idx.first (s := S1) (h1.symm ▸ Nat.one_pos)) 0).2
    show I.iw (off 0 + 1 * ((Shape.Idx.first (s := S1) (h1.symm ▸ Nat.one_pos)) 0 : ℕ)) = _
    congr 1
  rw [← e]
  exact wp_smemLoadElt (defs := defs₀ (F := F)) Variants.none (c : Thread nD τ) none Set.univ (Q := Φ) (m := A0)
    (r := Rect.unit (s := S48) off S1.size inb) (hw := View.loads_smem_one hp h1) (x := Shape.Idx.first (h1.symm ▸ Nat.one_pos)) (k := fun v => .ret v)
    (q := fullShare) (f := fun i => I.iw (i 0)) (S := Finset.univ) (Finset.subset_univ _)

end Cert.Kernel.Moe
-- ==== Proof.K.Tile.lean ====
/-
  Tiles: the gate and up products, the down product, the widened scales.
-/
module

public import proofs.«01_k».proof.Proof.K.Dma
public import proofs.«01_k».proof.Proof.K.Mem

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}

/-- A row of the widened gate and up scales. -/
def sgV (sg : ℕ → ℕ → ℕ → Elt F .f32) (a k : ℕ) : Vec F S1x1x128 .f32 := fun i => sg (a + i 0) (k + i 1) (0 + i 2)
/-- A tile of the gate (`w = 0`) or up (`w = 1`) weights. -/
def wV (I : Inp F) (e j w k : ℕ) : Vec F S1x1x128x256 .fp8e4m3 := fun i => I.wgu e (k + i 2) (w * 1024 + 256 * j + (0 + i 3))
/-- A tile of the activations. -/
def xV (I : Inp F) (k : ℕ) : Vec F S24x256 .bf16 := fun i => I.x (0 + i 0) (k + i 1)
/-- A tile of the down weights. -/
def dV (I : Inp F) (e j r n : ℕ) : Vec F S1x128x256 .fp8e4m3 := fun i => I.wd e (256 * j + (r + i 1)) (n + i 2)
/-- A piece of a row of the widened down scales. -/
def sxV (sx : ℕ → ℕ → Elt F .f32) (a n : ℕ) : Vec F S1x256 .f32 := fun i => sx (a + i 0) (n + i 1)
/-- A column tile of the expert's sum. -/
def yV (y : ℕ → ℕ → Elt F .f32) (n : ℕ) : Vec F S24x256 .f32 := fun i => y (0 + i 0) (n + i 1)

/-- One double tile of the gate or up product. -/
theorem Ev.tile {α : Type} {Q : α → St F → Prop} {σ : St F} (s : Fin 4) (w : Fin 2) {e j c0 : ℕ} (hσ : σ.g s = .rdy e j)
    {o1 o2 o4 o5 : Fin 3 → ℕ} {o3 o6 : Fin 4 → ℕ} {o7 : Fin 2 → ℕ} {i1 i2 i3 i4 i5 i6 i7 l1 l2 l3 l4 l5 l6 l7}
    {R : Vec F S1x1x128 .f32 → Vec F S1x1x128 .f32 → Vec F S1x1x128x256 .fp8e4m3 → Vec F S1x1x128 .f32 → Vec F S1x1x128 .f32 → Vec F S1x1x128x256 .fp8e4m3 → Vec F S24x256 .bf16 → P (F := F) α}
    (a1 : o1 0 = c0) (b1 : o1 2 = 0) (a2 : o2 0 = c0 + 1) (b2 : o2 2 = 0) (a3 : o3 0 = s) (b3 : o3 1 = w) (d3 : o3 3 = 0)
    (a4 : o4 0 = c0) (b4 : o4 2 = 0) (a5 : o5 0 = c0 + 1) (b5 : o5 2 = 0) (a6 : o6 0 = s) (b6 : o6 1 = w) (d6 : o6 3 = 0) (a7 : o7 0 = 0)
    (h : Ev c I Q σ (R (sgV σ.sg c0 (o1 1)) (sgV σ.sg (c0 + 1) (o2 1)) (wV I e j w (o3 2)) (sgV σ.sg c0 (o4 1)) (sgV σ.sg (c0 + 1) (o5 1)) (wV I e j w (o6 2)) (xV I (o7 1)))) :
    Ev c I Q σ (Prog.lift (.load A11 (Rect.unit (s := S16x40x128) o1 S1x1x128.size i1).toLoadRect l1) >>= fun v1 =>
      Prog.lift (.load A11 (Rect.unit (s := S16x40x128) o2 S1x1x128.size i2).toLoadRect l2) >>= fun v2 =>
      Prog.lift (.load A9 (Rect.unit (s := S4x2x5120x256) o3 S1x1x128x256.size i3).toLoadRect l3) >>= fun v3 =>
      Prog.lift (.load A11 (Rect.unit (s := S16x40x128) o4 S1x1x128.size i4).toLoadRect l4) >>= fun v4 =>
      Prog.lift (.load A11 (Rect.unit (s := S16x40x128) o5 S1x1x128.size i5).toLoadRect l5) >>= fun v5 =>
      Prog.lift (.load A9 (Rect.unit (s := S4x2x5120x256) o6 S1x1x128x256.size i6).toLoadRect l6) >>= fun v6 =>
      Prog.lift (.load A1 (Rect.unit (s := S24x5120) o7 S24x256.size i7).toLoadRect l7) >>= fun v7 => R v1 v2 v3 v4 v5 v6 v7) := by
  refine Ev.bind EvS.ld_sg (Ev.bind EvS.ld_sg (Ev.bind (EvS.ld_g s w hσ a3 b3 rfl rfl) (Ev.bind EvS.ld_sg (Ev.bind EvS.ld_sg (Ev.bind (EvS.ld_g s w hσ a6 b6 rfl rfl) (Ev.bind EvS.ld_x ?_))))))
  rw [a1, b1, a2, b2, d3, a4, b4, a5, b5, d6, a7]
  exact h

/-- The columns below `256 * n` from `new`, the others from `old`. -/
def yMix (n : ℕ) (new old : ℕ → ℕ → Elt F .f32) (a b : ℕ) : Elt F .f32 := if b < 256 * n then new a b else old a b

/-- One column tile of the expert's sum after the down product. -/
def yTile (I : Inp F) (sx : ℕ → ℕ → Elt F .f32) (e j : ℕ) (hid : FVec F S24x256 .bf16) (old : ℕ → ℕ → Elt F .f32) (n : ℕ) : FVec F S24x256 .f32 :=
  k0_pay103 hid (dV I e j 0 (256 * n)) (sxV sx (2 * j) (256 * n)) (dV I e j 128 (256 * n)) (sxV sx (2 * j + 1) (256 * n)) (yV old (256 * n))

/-- The expert's sum after the down product. -/
def yNew (I : Inp F) (sx : ℕ → ℕ → Elt F .f32) (e j : ℕ) (hid : FVec F S24x256 .bf16) (old : ℕ → ℕ → Elt F .f32) (a b : ℕ) : Elt F .f32 :=
  if h : a < 24 then yTile I sx e j hid old (b / 256) (ix2 ⟨a, h⟩ ⟨b % 256, Nat.mod_lt _ (by decide)⟩) else old a b

theorem yNew_at (I : Inp F) (sx : ℕ → ℕ → Elt F .f32) (e j : ℕ) (hid : FVec F S24x256 .bf16) (old : ℕ → ℕ → Elt F .f32) (n : ℕ) (i : S24x256.Idx) :
    yNew I sx e j hid old (i 0) (256 * n + i 1) = yTile I sx e j hid old n i := by
  have h0 : (i 0 : ℕ) < 24 := (i 0).2
  have h1 : (i 1 : ℕ) < 256 := (i 1).2
  have hd : (256 * n + (i 1 : ℕ)) / 256 = n := by omega
  have hm : (256 * n + (i 1 : ℕ)) % 256 = i 1 := by omega
  unfold yNew
  rw [dif_pos h0, hd]
  congr 1
  exact (congrArg₂ ix2 (Fin.ext rfl) (Fin.ext hm)).trans (eq_ix2 i).symm

/-- One column tile of the down product. -/
theorem Ev.down {α : Type} {Q : α → St F → Prop} (σ : St F) (s : Fin 4) {e j n : ℕ} (hid : FVec F S24x256 .bf16) {old : ℕ → ℕ → Elt F .f32} (hσ : σ.d s = .rdy e j)
    {o1 o3 : Fin 3 → ℕ} {o2 o4 : Fin 2 → ℕ} {m : ℕ} {i1 i2 i3 i4 i5 i6 i7 l1 l2 l3 l4 l5 l6 l7 l8}
    {pay : Vec F S1x128x256 .fp8e4m3 → Vec F S1x256 .f32 → Vec F S1x128x256 .fp8e4m3 → Vec F S1x256 .f32 → Vec F S24x256 .f32 → FVec F S24x256 .f32}
    {R : P (F := F) α}
    (hp : ∀ v1 v2 v3 v4 v5, pay v1 v2 v3 v4 v5 = k0_pay103 hid v1 v2 v3 v4 v5)
    (a1 : o1 0 = s) (a2 : o2 0 = 2 * j) (a3 : o3 0 = s) (a4 : o4 0 = 2 * j + 1)
    (hm : m = 256 * n) (b1 : o1 1 = 0) (d1 : o1 2 = m) (b2 : o2 1 = m) (b3 : o3 1 = 128) (d3 : o3 2 = m) (b4 : o4 1 = m)
    (h : Ev c I Q { σ with y := yMix (n + 1) (yNew I σ.sx e j hid old) old } R) :
    Ev c I Q { σ with y := yMix n (yNew I σ.sx e j hid old) old } (Prog.lift (.load A10 (Rect.unit (s := S4x256x5120) o1 S1x128x256.size i1).toLoadRect l1) >>= fun v1 =>
      Prog.lift (.load A12 (Rect.unit (s := S8x5120) o2 S1x256.size i2).toLoadRect l2) >>= fun v2 =>
      Prog.lift (.load A10 (Rect.unit (s := S4x256x5120) o3 S1x128x256.size i3).toLoadRect l3) >>= fun v3 =>
      Prog.lift (.load A12 (Rect.unit (s := S8x5120) o4 S1x256.size i4).toLoadRect l4) >>= fun v4 =>
      Prog.lift (.load A14 (Rect.unit (s := S24x5120) ![0, m] S24x256.size i5).toLoadRect l5) >>= fun v5 =>
      Prog.lift (.load A14 (Rect.unit (s := S24x5120) ![0, m] S24x256.size i6).toLoadRect l6) >>= fun _ =>
      Prog.lift (.store A14 (Rect.unit (s := S24x5120) ![0, m] S24x256.size i7) (pay v1 v2 v3 v4 v5) Finset.univ l7 l8) >>= fun _ => R) := by
  subst hm
  refine Ev.bind (EvS.ld_d s hσ a1 rfl) (Ev.bind EvS.ld_sx (Ev.bind (EvS.ld_d s hσ a3 rfl) (Ev.bind EvS.ld_sx (Ev.bind EvS.ld_y (Ev.bind EvS.ld_y (Ev.bind (EvS.st_y (yMix (n + 1) (yNew I σ.sx e j hid old) old) ?_ ?_) h))))))
  · intro i
    have h1 : (i 1 : ℕ) < 256 := (i 1).2
    rw [hp, a2, b1, d1, b2, b3, d3, a4, b4]
    show yMix (n + 1) (yNew I σ.sx e j hid old) old (0 + i 0) (256 * n + i 1) = _
    have e5 : (fun i : S24x256.Idx => yMix n (yNew I σ.sx e j hid old) old (0 + i 0) (256 * n + i 1)) = yV old (256 * n) :=
      funext fun i => if_neg (by omega)
    have e6 : yMix (n + 1) (yNew I σ.sx e j hid old) old (0 + i 0) (256 * n + i 1) = yNew I σ.sx e j hid old (0 + i 0) (256 * n + i 1) := if_pos (by omega)
    rw [e6, Nat.zero_add]
    refine (yNew_at I σ.sx e j hid old n i).trans ?_
    exact congrFun (congrArg (k0_pay103 hid (dV I e j 0 (256 * n)) (sxV σ.sx (2 * j) (256 * n)) (dV I e j 128 (256 * n)) (sxV σ.sx (2 * j + 1) (256 * n))) e5.symm) i
  · intro a b ha hb hn
    have hn' : ¬ ((0 ≤ a ∧ a < 0 + 24) ∧ (256 * n ≤ b ∧ b < 256 * n + 256)) := hn
    show (if b < 256 * (n + 1) then _ else _) = if b < 256 * n then _ else _
    by_cases h1 : b < 256 * n
    · rw [if_pos h1, if_pos (by omega)]
    · rw [if_neg h1, if_neg (by omega)]

/-- One column block of gate and up scales, widened. -/
def sgCol (I : Inp F) (e a : ℕ) : FVec F S1x40x128 .f32 := k0_pay2 fun i => I.sgu (e + i 0) (0 + i 1) (a + i 2)
def sgNew (I : Inp F) (e a r l : ℕ) : Elt F .f32 :=
  if h : r < 40 ∧ l < 128 then sgCol I e a (ix3 ⟨0, by decide⟩ ⟨r, h.1⟩ ⟨l, h.2⟩) else FloatOps.ofBits .f32 0#32
def sgMix (n : ℕ) (new old : ℕ → ℕ → ℕ → Elt F .f32) (a r l : ℕ) : Elt F .f32 := if a < n then new a r l else old a r l

theorem Ev.scaleG {α : Type} {Q : α → St F → Prop} (σ : St F) {e n : ℕ} {old : ℕ → ℕ → ℕ → Elt F .f32}
    {o1 : Fin 3 → ℕ} {m : ℕ} {i1 i2 i3 l1 l2 l3 l4} {pay : Vec F S1x40x1 .f32 → FVec F S1x40x128 .f32} {R : P (F := F) α}
    (hp : ∀ v, pay v = k0_pay2 v) (hm : m = n) (a1 : o1 0 = e) (b1 : o1 1 = 0) (d1 : o1 2 = m)
    (h : Ev c I Q { σ with sg := sgMix (n + 1) (sgNew I e) old } R) :
    Ev c I Q { σ with sg := sgMix n (sgNew I e) old } (Prog.lift (.load A4 (Rect.unit (s := S8x40x16) o1 S1x40x1.size i1).toLoadRect l1) >>= fun v1 =>
      Prog.lift (.load A11 (Rect.unit (s := S16x40x128) ![m, 0, 0] S1x40x128.size i2).toLoadRect l2) >>= fun _ =>
      Prog.lift (.store A11 (Rect.unit (s := S16x40x128) ![m, 0, 0] S1x40x128.size i3) (pay v1) Finset.univ l3 l4) >>= fun _ => R) := by
  subst hm
  refine Ev.bind EvS.ld_sgu (Ev.bind EvS.ld_sg (Ev.bind (EvS.st_sg (sgMix (m + 1) (sgNew I e) old) ?_ ?_) h))
  · intro i
    rw [hp, a1, b1, d1]
    have h0 : (i 0 : ℕ) = 0 := Nat.lt_one_iff.mp (i 0).2
    have h1 : (i 1 : ℕ) < 40 := (i 1).2
    have h2 : (i 2 : ℕ) < 128 := (i 2).2
    show sgMix (m + 1) (sgNew I e) old (m + i 0) (0 + i 1) (0 + i 2) = _
    rw [h0, Nat.zero_add, Nat.zero_add]
    have e1 : sgMix (m + 1) (sgNew I e) old (m + 0) (i 1) (i 2) = sgNew I e (m + 0) (i 1) (i 2) := if_pos (by omega)
    rw [e1, Nat.add_zero]
    unfold sgNew
    rw [dif_pos ⟨h1, h2⟩]
    show sgCol I e m _ = sgCol I e m i
    congr 1
    refine Eq.trans ?_ (eq_ix3 i).symm
    exact congrArg (fun z => ix3 z (i 1) (i 2)) (Fin.ext h0.symm)
  · intro a r l ha hr hl hn
    have hn' : ¬ ((m ≤ a ∧ a < m + 1) ∧ (0 ≤ r ∧ r < 0 + 40) ∧ (0 ≤ l ∧ l < 0 + 128)) := hn
    show (if a < m + 1 then _ else _) = if a < m then _ else _
    by_cases h1 : a < m
    · rw [if_pos h1, if_pos (by omega)]
    · rw [if_neg h1, if_neg (by omega)]

/-- One column block of down scales, widened. -/
def sxCol (I : Inp F) (e n : ℕ) : FVec F S8x128 .f32 := k0_pay42 fun i => I.sd (e + i 0) (0 + i 1) (n + i 2)
def sxNew (I : Inp F) (e r l : ℕ) : Elt F .f32 :=
  if h : r < 8 then sxCol I e (l / 128) (ix2 ⟨r, h⟩ ⟨l % 128, Nat.mod_lt _ (by decide)⟩) else FloatOps.ofBits .f32 0#32
def sxMix (n : ℕ) (new old : ℕ → ℕ → Elt F .f32) (r l : ℕ) : Elt F .f32 := if l < 128 * n then new r l else old r l

theorem Ev.scaleD {α : Type} {Q : α → St F → Prop} (σ : St F) {e n : ℕ} {old : ℕ → ℕ → Elt F .f32}
    {o1 : Fin 3 → ℕ} {m : ℕ} {i1 i2 i3 l1 l2 l3 l4} {pay : Vec F S1x8x1 .f32 → FVec F S8x128 .f32} {R : P (F := F) α}
    (hp : ∀ v, pay v = k0_pay42 v) (hm : m = 128 * n) (a1 : o1 0 = e) (b1 : o1 1 = 0) (d1 : o1 2 = n)
    (h : Ev c I Q { σ with sx := sxMix (n + 1) (sxNew I e) old } R) :
    Ev c I Q { σ with sx := sxMix n (sxNew I e) old } (Prog.lift (.load A5 (Rect.unit (s := S8x8x40) o1 S1x8x1.size i1).toLoadRect l1) >>= fun v1 =>
      Prog.lift (.load A12 (Rect.unit (s := S8x5120) ![0, m] S8x128.size i2).toLoadRect l2) >>= fun _ =>
      Prog.lift (.store A12 (Rect.unit (s := S8x5120) ![0, m] S8x128.size i3) (pay v1) Finset.univ l3 l4) >>= fun _ => R) := by
  subst hm
  refine Ev.bind EvS.ld_sd (Ev.bind EvS.ld_sx (Ev.bind (EvS.st_sx (sxMix (n + 1) (sxNew I e) old) ?_ ?_) h))
  · intro i
    rw [hp, a1, b1, d1]
    have h0 : (i 0 : ℕ) < 8 := (i 0).2
    have h1 : (i 1 : ℕ) < 128 := (i 1).2
    have hd : (128 * n + (i 1 : ℕ)) / 128 = n := by omega
    have hm : (128 * n + (i 1 : ℕ)) % 128 = i 1 := by omega
    show sxMix (n + 1) (sxNew I e) old (0 + i 0) (128 * n + i 1) = _
    have e1 : sxMix (n + 1) (sxNew I e) old (0 + i 0) (128 * n + i 1) = sxNew I e (0 + i 0) (128 * n + i 1) := if_pos (by omega)
    rw [e1, Nat.zero_add]
    unfold sxNew
    rw [dif_pos h0, hd]
    show sxCol I e n _ = sxCol I e n i
    congr 1
    exact (congrArg₂ ix2 (Fin.ext rfl) (Fin.ext hm)).trans (eq_ix2 i).symm
  · intro a b ha hb hn
    have hn' : ¬ ((0 ≤ a ∧ a < 0 + 8) ∧ (128 * n ≤ b ∧ b < 128 * n + 128)) := hn
    show (if b < 128 * (n + 1) then _ else _) = if b < 128 * n then _ else _
    by_cases h1 : b < 128 * n
    · rw [if_pos h1, if_pos (by omega)]
    · rw [if_neg h1, if_neg (by omega)]

end Cert.Kernel.Moe
-- ==== Proof.K.Ids.lean ====
/-
  The experts in use, their order, and the number of steps.
-/
module

public import proofs.«01_k».proof.Proof.K.Ev

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The used experts' bits after the first `n` ids. -/
def usedW (f : ℕ → BitVec 32) : ℕ → BitVec 32
  | 0 => 0#32
  | n + 1 => Scalar.ori (usedW f n) (Scalar.shli 1#32 (f n))

/-- One expert's bit as a word. -/
def bitW (u : BitVec 32) (e : ℕ) : BitVec 32 := Scalar.andi (Scalar.shrsi u (BitVec.ofNat 32 e)) 1#32

/-- How many experts below `e` are used, as the kernel counts them. -/
def cntW (u : BitVec 32) : ℕ → BitVec 32
  | 0 => 0#32
  | e + 1 => Scalar.addi (cntW u e) (bitW u e)

/-- All ids' bits. -/
def U (f : ℕ → BitVec 32) : BitVec 32 := usedW f 48

/-- The number of experts below `e` in use. -/
def cnt (u : BitVec 32) (e : ℕ) : ℕ := (cntW u e).toNat

theorem bitW_le (u : BitVec 32) (e : ℕ) : (bitW u e).toNat ≤ 1 := by
  show (_ &&& (1#32 : BitVec 32)).toNat ≤ 1
  rw [BitVec.toNat_and]
  exact Nat.and_le_right

theorem cnt_succ_aux (u : BitVec 32) (e : ℕ) (h : cnt u e ≤ e) (he : e < 9) : cnt u (e + 1) = cnt u e + (bitW u e).toNat := by
  have h1 := bitW_le u e
  show (cntW u e + bitW u e).toNat = _
  rw [BitVec.toNat_add]
  exact Nat.mod_eq_of_lt (by unfold cnt at h; omega)

theorem cnt_le (u : BitVec 32) : ∀ e, e ≤ 9 → cnt u e ≤ e
  | 0, _ => Nat.le_refl 0
  | e + 1, he => by
    have h := cnt_le u e (by omega)
    have h1 := bitW_le u e
    rw [cnt_succ_aux u e h (by omega)]
    omega

theorem cnt_succ (u : BitVec 32) (e : ℕ) (he : e < 9) : cnt u (e + 1) = cnt u e + (bitW u e).toNat :=
  cnt_succ_aux u e (cnt_le u e (by omega)) he

theorem cntW_eq (u : BitVec 32) (e : ℕ) : cntW u e = BitVec.ofNat 32 (cnt u e) := by
  show _ = BitVec.ofNat 32 (cntW u e).toNat
  rw [BitVec.ofNat_toNat, BitVec.setWidth_eq]

/-- The order array after `k` experts, from what it held. -/
def ordF (u : BitVec 32) (o : ℕ → BitVec 32) : ℕ → ℕ → BitVec 32
  | 0 => o
  | k + 1 => fun a => if a = cnt u k then BitVec.ofNat 32 k else ordF u o k a

/-- The `i`-th used expert. -/
def ex (u : BitVec 32) (i : ℕ) : ℕ := (ordF u (fun _ => 0#32) 8 i).toNat

theorem ordF_eq (u : BitVec 32) (o : ℕ → BitVec 32) : ∀ k, k ≤ 8 → ∀ i, i < cnt u k →
    ordF u o k i = ordF u (fun _ => 0#32) k i
  | 0, _, i, h => absurd h (Nat.not_lt_zero _)
  | k + 1, hk, i, h => by
    have hs := cnt_succ u k (by omega)
    have h1 := bitW_le u k
    show (if i = cnt u k then _ else _) = if i = cnt u k then _ else _
    split
    · rfl
    · exact ordF_eq u o k (by omega) i (by omega)

theorem ordF_spec (u : BitVec 32) (o : ℕ → BitVec 32) : ∀ k, k ≤ 8 → ∀ i, i < cnt u k →
    ∃ e, e < k ∧ ordF u o k i = BitVec.ofNat 32 e ∧ bitW u e = 1#32
  | 0, _, i, h => absurd h (Nat.not_lt_zero _)
  | k + 1, hk, i, h => by
    have hs := cnt_succ u k (by omega)
    have h1 := bitW_le u k
    by_cases hi : i = cnt u k
    · refine ⟨k, Nat.lt_succ_self k, if_pos hi, ?_⟩
      apply BitVec.eq_of_toNat_eq
      show (bitW u k).toNat = 1
      omega
    · obtain ⟨e, he, h2, h3⟩ := ordF_spec u o k (by omega) i (by omega)
      exact ⟨e, by omega, (if_neg hi).trans h2, h3⟩

theorem ex_lt (u : BitVec 32) {i : ℕ} (h : i < cnt u 8) : ex u i < 8 := by
  obtain ⟨e, he, h2, _⟩ := ordF_spec u (fun _ => 0#32) 8 (Nat.le_refl _) i h
  unfold ex; rw [h2, BitVec.toNat_ofNat]; omega

theorem ord_ex (u : BitVec 32) (o : ℕ → BitVec 32) {i : ℕ} (h : i < cnt u 8) :
    ordF u o 8 i = BitVec.ofNat 32 (ex u i) := by
  rw [ordF_eq u o 8 (Nat.le_refl _) i h]
  unfold ex
  rw [BitVec.ofNat_toNat, BitVec.setWidth_eq]

/-- The trip loop over `4 * c` steps. -/
@[reducible] def loopW (c : BitVec 32) : Scf.Loop 32 :=
  ⟨0#32, Scalar.addi 0#32 (Scalar.muli (Scalar.divsi (Scalar.subi (Scalar.muli c 4#32) 0#32) 1#32) 1#32), 1#32⟩

@[reducible] def loopW2 (c : BitVec 32) : Scf.Loop 32 :=
  ⟨(loopW c).ub, Scalar.addi 0#32 (Scalar.subi (Scalar.muli c 4#32) 0#32), 1#32⟩

theorem loopW_all : ∀ n < 9, (loopW (BitVec.ofNat 32 n)).OK ∧ (loopW (BitVec.ofNat 32 n)).trips = 4 * n ∧
    (loopW2 (BitVec.ofNat 32 n)).OK ∧ (loopW2 (BitVec.ofNat 32 n)).trips = 0 := by decide +kernel

theorem loopW_c (u : BitVec 32) : (loopW (cntW u 8)).OK ∧ (loopW (cntW u 8)).trips = 4 * cnt u 8 ∧
    (loopW2 (cntW u 8)).OK ∧ (loopW2 (cntW u 8)).trips = 0 := by
  rw [cntW_eq u 8]; exact loopW_all _ (by have := cnt_le u 8 (by omega); omega)

abbrev t1L (f : ℕ → BitVec 32) : Scf.Loop 32 := k0_t1_loop (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)
abbrev t2L (f : ℕ → BitVec 32) : Scf.Loop 32 := k0_t2_loop (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)

theorem t1L_eq (f : ℕ → BitVec 32) : t1L f = loopW (cntW (U f) 8) := rfl
theorem t2L_eq (f : ℕ → BitVec 32) : t2L f = loopW2 (cntW (U f) 8) := rfl

theorem t1_trips (f : ℕ → BitVec 32) : (t1L f).trips = 4 * cnt (U f) 8 := (loopW_c (U f)).2.1
theorem t2_trips (f : ℕ → BitVec 32) : (t2L f).trips = 0 := (loopW_c (U f)).2.2.2
theorem t2_no (f : ℕ → BitVec 32) (t : Fin (t2L f).trips) {P : Prop} : P :=
  absurd (lt_of_lt_of_eq t.2 (t2_trips f)) (Nat.not_lt_zero _)
theorem t1_ok (f : ℕ → BitVec 32) : (t1L f).OK := (loopW_c (U f)).1
theorem t2_ok (f : ℕ → BitVec 32) : (t2L f).OK := (loopW_c (U f)).2.2.1
theorem t1_lt (f : ℕ → BitVec 32) (t : Fin (t1L f).trips) : t.val < 32 := by
  have h : t.val < 4 * cnt (U f) 8 := lt_of_lt_of_eq t.2 (t1_trips f)
  have := cnt_le (U f) 8 (by omega)
  omega

end Cert.Kernel.Moe
-- ==== Proof.K.Off.lean ====
/-
  The offsets the kernel computes, as numbers.
-/
module

public import proofs.«01_k».proof.Proof.K.Ids

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The loop's step as the kernel's word. -/
abbrev iv (n : ℕ) : BitVec 32 := Scf.iv 0#32 1#32 n
abbrev slotW (n : ℕ) : BitVec 32 := Scalar.remsi (iv n) 4#32
abbrev nextW (n : ℕ) : BitVec 32 := Scalar.remsi (Scalar.subi (Scalar.addi (iv n) 4#32) 1#32) 4#32

/-- The words the kernel computes from the step number, as numbers. -/
theorem words_lt : ∀ n < 32, (slotW n).toNat = n % 4 ∧ (nextW n).toNat = (n + 3) % 4 ∧
    (Scalar.muli (nextW n) 256#32).toNat = 256 * ((n + 3) % 4) ∧
    (Scalar.addi 1024#32 (Scalar.muli (nextW n) 256#32)).toNat = 1024 + 256 * ((n + 3) % 4) := by decide +kernel

theorem srow_lt : ∀ n < 32,
    (Scalar.addi (Scalar.addi 0#32 (Scalar.muli (slotW n) 2#32)) 0#32).toNat = 2 * (n % 4) ∧
    (Scalar.addi (Scalar.addi 0#32 (Scalar.muli (slotW n) 2#32)) 1#32).toNat = 2 * (n % 4) + 1 ∧
    (Scalar.addi (Scalar.addi 8#32 (Scalar.muli (slotW n) 2#32)) 0#32).toNat = 8 + 2 * (n % 4) ∧
    (Scalar.addi (Scalar.addi 8#32 (Scalar.muli (slotW n) 2#32)) 1#32).toNat = 8 + 2 * (n % 4) + 1 ∧
    (Scalar.addi (Scalar.muli (slotW n) 2#32) 0#32).toNat = 2 * (n % 4) ∧
    (Scalar.addi (Scalar.muli (slotW n) 2#32) 1#32).toNat = 2 * (n % 4) + 1 := by decide +kernel

variable (f : ℕ → BitVec 32) (t : Fin (t1L f).trips)

theorem off36_eq : k0_off36 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) / 4] := by
  have ht : t.val < 32 := t1_lt f t
  simp only [k0_off36]
  generalize t.val = n at ht ⊢
  revert n; decide +kernel

theorem off35_eq : k0_off35 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val / 4] := by
  have ht : t.val < 32 := t1_lt f t
  simp only [k0_off35]
  generalize t.val = n at ht ⊢
  revert n; decide +kernel

theorem off101_eq : k0_off101 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val / 4] := by
  have ht : t.val < 32 := t1_lt f t
  simp only [k0_off101]
  generalize t.val = n at ht ⊢
  revert n; decide +kernel

theorem off37_eq : k0_off37 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4] := by
  have h := words_lt t.val (t1_lt f t)
  show ![(nextW t.val).toNat] = _
  rw [h.2.1]

theorem off40_eq : k0_off40 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4] := by
  have h := words_lt t.val (t1_lt f t)
  show ![(nextW t.val).toNat] = _
  rw [h.2.1]

theorem off38_eq : k0_off38 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4, 0, 0, 0] := by
  have h := words_lt t.val (t1_lt f t)
  show ![(nextW t.val).toNat, 0, 0, 0] = _
  rw [h.2.1]

theorem off41_eq : k0_off41 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4, 1, 0, 0] := by
  have h := words_lt t.val (t1_lt f t)
  show ![(nextW t.val).toNat, 1, 0, 0] = _
  rw [h.2.1]

theorem off43_eq : k0_off43 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4, 0, 0] := by
  have h := words_lt t.val (t1_lt f t)
  show ![(nextW t.val).toNat, 0, 0] = _
  rw [h.2.1]

theorem off102_eq : k0_off102 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val % 4] := by
  have h := words_lt t.val (t1_lt f t)
  show ![(slotW t.val).toNat] = _
  rw [h.1]

theorem off105_eq : k0_off105 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val % 4] := by
  have h := words_lt t.val (t1_lt f t)
  show ![(slotW t.val).toNat] = _
  rw [h.1]

theorem off39_eq (e : BitVec 32) : k0_off39 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e = ![e.toNat, 0, 256 * ((t.val + 3) % 4)] := by
  have h := words_lt t.val (t1_lt f t)
  show ![e.toNat, 0, (Scalar.muli (nextW t.val) 256#32).toNat] = _
  rw [h.2.2.1]

theorem off42_eq (e : BitVec 32) : k0_off42 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e = ![e.toNat, 0, 1024 + 256 * ((t.val + 3) % 4)] := by
  have h := words_lt t.val (t1_lt f t)
  show ![e.toNat, 0, (Scalar.addi 1024#32 (Scalar.muli (nextW t.val) 256#32)).toNat] = _
  rw [h.2.2.2]

theorem off44_eq (e : BitVec 32) : k0_off44 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e = ![e.toNat, 256 * ((t.val + 3) % 4), 0] := by
  have h := words_lt t.val (t1_lt f t)
  show ![e.toNat, (Scalar.muli (nextW t.val) 256#32).toNat, 0] = _
  rw [h.2.2.1]

theorem cond4_lt : ∀ n < 32, ∀ k < 9, (Scalar.cmpi .ne (Scalar.extui (Scalar.cmpi .slt (Scalar.subi (Scalar.addi (iv n) 4#32) 1#32)
    (Scalar.muli (BitVec.ofNat 32 k) 4#32)) : BitVec 32) 0#32 = 1#1) = decide (n + 3 < 4 * k) := by decide +kernel

theorem cond4_iff : k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1 ↔ t.val + 3 < 4 * cnt (U f) 8 := by
  have h := cond4_lt t.val (t1_lt f t) (cnt (U f) 8) (by have := cnt_le (U f) 8 (by omega); omega)
  rw [← cntW_eq] at h
  have e : (k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1) = (decide (t.val + 3 < 4 * cnt (U f) 8) = true) := h
  rw [e, decide_eq_true_iff]

theorem cond5_lt : ∀ n < 32, (Scalar.cmpi .ne (Scalar.extui (Scalar.cmpi .eq (slotW n) 0#32) : BitVec 32) 0#32 = 1#1) = decide (n % 4 = 0) := by decide +kernel
theorem cond5_iff : k0_cond5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1 ↔ t.val % 4 = 0 := by
  have e : (k0_cond5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1) = (decide (t.val % 4 = 0) = true) := cond5_lt t.val (t1_lt f t)
  rw [e, decide_eq_true_iff]
theorem cond6_lt : ∀ n < 32, (Scalar.cmpi .ne (Scalar.extui (Scalar.cmpi .eq (slotW n) 3#32) : BitVec 32) 0#32 = 1#1) = decide (n % 4 = 3) := by decide +kernel

theorem cond1_lt : ∀ k < 9, (Scalar.cmpi .ne (Scalar.extui (Scalar.cmpi .slt 0#32 (Scalar.muli (BitVec.ofNat 32 k) 4#32)) : BitVec 32) 0#32 = 1#1) = decide (0 < 4 * k) := by decide +kernel
theorem cond1_iff : k0_cond1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1 ↔ 0 < 4 * cnt (U f) 8 := by
  have h := cond1_lt (cnt (U f) 8) (by have := cnt_le (U f) 8 (by omega); omega)
  rw [← cntW_eq] at h
  have e : (k0_cond1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1) = (decide (0 < 4 * cnt (U f) 8) = true) := h
  rw [e, decide_eq_true_iff]

theorem cond2_lt : ∀ k < 9, (Scalar.cmpi .ne (Scalar.extui (Scalar.cmpi .slt 1#32 (Scalar.muli (BitVec.ofNat 32 k) 4#32)) : BitVec 32) 0#32 = 1#1) = decide (1 < 4 * k) := by decide +kernel
theorem cond2_iff : k0_cond2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1 ↔ 1 < 4 * cnt (U f) 8 := by
  have h := cond2_lt (cnt (U f) 8) (by have := cnt_le (U f) 8 (by omega); omega)
  rw [← cntW_eq] at h
  have e : (k0_cond2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1) = (decide (1 < 4 * cnt (U f) 8) = true) := h
  rw [e, decide_eq_true_iff]

theorem cond3_lt : ∀ k < 9, (Scalar.cmpi .ne (Scalar.extui (Scalar.cmpi .slt 2#32 (Scalar.muli (BitVec.ofNat 32 k) 4#32)) : BitVec 32) 0#32 = 1#1) = decide (2 < 4 * k) := by decide +kernel
theorem cond3_iff : k0_cond3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1 ↔ 2 < 4 * cnt (U f) 8 := by
  have h := cond3_lt (cnt (U f) 8) (by have := cnt_le (U f) 8 (by omega); omega)
  rw [← cntW_eq] at h
  have e : (k0_cond3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1) = (decide (2 < 4 * cnt (U f) 8) = true) := h
  rw [e, decide_eq_true_iff]

end Cert.Kernel.Moe
-- ==== Proof.K.Chk.lean ====
/-
  The bounds of every access, for all ids.
-/
module

public import proofs.«01_k».proof.Proof.K.Off

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ
theorem off1_ok (f : ℕ → BitVec 32) : ∀ a, k0_off1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 1 + 1 ≤ 9
    have := cnt_le (U f) 1 (by omega)
    omega
theorem off2_ok (f : ℕ → BitVec 32) : ∀ a, k0_off2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 2 + 1 ≤ 9
    have := cnt_le (U f) 2 (by omega)
    omega
theorem off3_ok (f : ℕ → BitVec 32) : ∀ a, k0_off3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 3 + 1 ≤ 9
    have := cnt_le (U f) 3 (by omega)
    omega
theorem off4_ok (f : ℕ → BitVec 32) : ∀ a, k0_off4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 4 + 1 ≤ 9
    have := cnt_le (U f) 4 (by omega)
    omega
theorem off5_ok (f : ℕ → BitVec 32) : ∀ a, k0_off5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 5 + 1 ≤ 9
    have := cnt_le (U f) 5 (by omega)
    omega
theorem off6_ok (f : ℕ → BitVec 32) : ∀ a, k0_off6 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 6 + 1 ≤ 9
    have := cnt_le (U f) 6 (by omega)
    omega
theorem off7_ok (f : ℕ → BitVec 32) : ∀ a, k0_off7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 7 + 1 ≤ 9
    have := cnt_le (U f) 7 (by omega)
    omega

theorem fin8 {e : BitVec 32} (he : e.toNat < 8) : ∃ n, n < 8 ∧ e = BitVec.ofNat 32 n := ⟨e.toNat, he, by rw [BitVec.ofNat_toNat, BitVec.setWidth_eq]⟩
theorem chk1_0 (f : ℕ → BitVec 32) : k0_chk1_0 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, t1_ok f, ?_, ?_, ?_, ?_, ?_, ?_, ?_, ?_, ?_, ?_, ?_, ?_, ?_, ?_, ?_, ?_, ?_, ?_, ?_, ?_, ?_, ?_, ?_, ?_⟩
  · exact off1_ok f
  · exact off2_ok f
  · exact off3_ok f
  · exact off4_ok f
  · exact off5_ok f
  · exact off6_ok f
  · exact off7_ok f
  all_goals (intro t; have ht : t.val < 32 := t1_lt f t)
  all_goals first
    | (simp only [k0_off35, k0_off36, k0_mult10, k0_mult11, k0_mult12, k0_off37, k0_off38, k0_off40, k0_off41, k0_off43, k0_off101, k0_mult13, k0_mult14, k0_mult15, k0_off102, k0_off103, k0_off105, k0_off106, k0_off108]; generalize t.val = n at ht ⊢; revert n; decide +kernel)
    | (intro h4; clear h4; first | (simp only [k0_off35, k0_off36, k0_mult10, k0_mult11, k0_mult12, k0_off37, k0_off38, k0_off40, k0_off41, k0_off43, k0_off101, k0_mult13, k0_mult14, k0_mult15, k0_off102, k0_off103, k0_off105, k0_off106, k0_off108]; generalize t.val = n at ht ⊢; revert n; decide +kernel) | (intro hinb; refine (Rect.wholeWords_iff_at _ _).2 ?_; simp only [Rect.unit, k0_off35, k0_off36, k0_mult10, k0_mult11, k0_mult12, k0_off37, k0_off38, k0_off40, k0_off41, k0_off43, k0_off101, k0_mult13, k0_mult14, k0_mult15, k0_off102, k0_off103, k0_off105, k0_off106, k0_off108]; clear hinb; generalize t.val = n at ht ⊢; revert n; decide +kernel))
    | (intro hinb; refine (Rect.wholeWords_iff_at _ _).2 ?_; simp only [Rect.unit, k0_off35, k0_off36, k0_mult10, k0_mult11, k0_mult12, k0_off37, k0_off38, k0_off40, k0_off41, k0_off43, k0_off101, k0_mult13, k0_mult14, k0_mult15, k0_off102, k0_off103, k0_off105, k0_off106, k0_off108]; clear hinb; generalize t.val = n at ht ⊢; revert n; decide +kernel)
theorem chk1_1 (f : ℕ → BitVec 32) : k0_chk1_1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; generalize t.val = n at ht ⊢; revert n; decide +kernel)
    | (intro h4; clear h4; first | (simp only [k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; generalize t.val = n at ht ⊢; revert n; decide +kernel) | (intro hinb; refine (Rect.wholeWords_iff_at _ _).2 ?_; simp only [Rect.unit, k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; clear hinb; generalize t.val = n at ht ⊢; revert n; decide +kernel))
    | (intro hinb; refine (Rect.wholeWords_iff_at _ _).2 ?_; simp only [Rect.unit, k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; clear hinb; generalize t.val = n at ht ⊢; revert n; decide +kernel)
theorem chk1_2 (f : ℕ → BitVec 32) : k0_chk1_2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; generalize t.val = n at ht ⊢; revert n; decide +kernel)
    | (intro h4; clear h4; first | (simp only [k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; generalize t.val = n at ht ⊢; revert n; decide +kernel) | (intro hinb; refine (Rect.wholeWords_iff_at _ _).2 ?_; simp only [Rect.unit, k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; clear hinb; generalize t.val = n at ht ⊢; revert n; decide +kernel))
    | (intro hinb; refine (Rect.wholeWords_iff_at _ _).2 ?_; simp only [Rect.unit, k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; clear hinb; generalize t.val = n at ht ⊢; revert n; decide +kernel)
theorem chk1_3 (f : ℕ → BitVec 32) : k0_chk1_3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; generalize t.val = n at ht ⊢; revert n; decide +kernel)
    | (intro h4; clear h4; first | (simp only [k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; generalize t.val = n at ht ⊢; revert n; decide +kernel) | (intro hinb; refine (Rect.wholeWords_iff_at _ _).2 ?_; simp only [Rect.unit, k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; clear hinb; generalize t.val = n at ht ⊢; revert n; decide +kernel))
    | (intro hinb; refine (Rect.wholeWords_iff_at _ _).2 ?_; simp only [Rect.unit, k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; clear hinb; generalize t.val = n at ht ⊢; revert n; decide +kernel)
theorem chk1_4 (f : ℕ → BitVec 32) : k0_chk1_4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; generalize t.val = n at ht ⊢; revert n; decide +kernel)
    | (intro h4; clear h4; first | (simp only [k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; generalize t.val = n at ht ⊢; revert n; decide +kernel) | (intro hinb; refine (Rect.wholeWords_iff_at _ _).2 ?_; simp only [Rect.unit, k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; clear hinb; generalize t.val = n at ht ⊢; revert n; decide +kernel))
    | (intro hinb; refine (Rect.wholeWords_iff_at _ _).2 ?_; simp only [Rect.unit, k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; clear hinb; generalize t.val = n at ht ⊢; revert n; decide +kernel)
theorem chk1_5 (f : ℕ → BitVec 32) : k0_chk1_5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; generalize t.val = n at ht ⊢; revert n; decide +kernel)
    | (intro h4; clear h4; first | (simp only [k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; generalize t.val = n at ht ⊢; revert n; decide +kernel) | (intro hinb; refine (Rect.wholeWords_iff_at _ _).2 ?_; simp only [Rect.unit, k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; clear hinb; generalize t.val = n at ht ⊢; revert n; decide +kernel))
    | (intro hinb; refine (Rect.wholeWords_iff_at _ _).2 ?_; simp only [Rect.unit, k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; clear hinb; generalize t.val = n at ht ⊢; revert n; decide +kernel)
theorem chk1_6 (f : ℕ → BitVec 32) : k0_chk1_6 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, t2_ok f, fun t => t2_no f t, fun t => t2_no f t, fun t => t2_no f t, fun t => t2_no f t, fun t => t2_no f t, fun t => t2_no f t, fun t => t2_no f t, fun t => t2_no f t, fun t => t2_no f t, fun t => t2_no f t⟩
  all_goals (intro t; have ht : t.val < 32 := t1_lt f t)
  all_goals first
    | (simp only [k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; generalize t.val = n at ht ⊢; revert n; decide +kernel)
    | (intro h4; clear h4; first | (simp only [k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; generalize t.val = n at ht ⊢; revert n; decide +kernel) | (intro hinb; refine (Rect.wholeWords_iff_at _ _).2 ?_; simp only [Rect.unit, k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; clear hinb; generalize t.val = n at ht ⊢; revert n; decide +kernel))
    | (intro hinb; refine (Rect.wholeWords_iff_at _ _).2 ?_; simp only [Rect.unit, k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; clear hinb; generalize t.val = n at ht ⊢; revert n; decide +kernel)
theorem chk1_7 (f : ℕ → BitVec 32) : k0_chk1_7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_8 (f : ℕ → BitVec 32) : k0_chk1_8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_9 (f : ℕ → BitVec 32) : k0_chk1_9 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_10 (f : ℕ → BitVec 32) : k0_chk1_10 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_11 (f : ℕ → BitVec 32) : k0_chk1_11 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_12 (f : ℕ → BitVec 32) : k0_chk1_12 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_13 (f : ℕ → BitVec 32) : k0_chk1_13 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t⟩
theorem chk1 (f : ℕ → BitVec 32) : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) :=
  ⟨chk1_0 f, chk1_1 f, chk1_2 f, chk1_3 f, chk1_4 f, chk1_5 f, chk1_6 f, chk1_7 f, chk1_8 f, chk1_9 f, chk1_10 f, chk1_11 f, chk1_12 f, chk1_13 f⟩
theorem chk2 (f : ℕ → BitVec 32) {e : BitVec 32} (he : e.toNat < 8) : k0_chk2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) e := by
  obtain ⟨n, hn, rfl⟩ := fin8 he
  refine ⟨?_, ?_, ?_, ?_, ?_, ?_⟩
  all_goals (intro h; clear h)
  all_goals first
    | (simp only [k0_off11, k0_off14, k0_off16]; clear he; revert n; decide +kernel)
    | (intro hinb; refine (Rect.wholeWords_iff_at _ _).2 ?_; simp only [Rect.unit, k0_off11, k0_off14, k0_off16]; clear hinb he; revert n; decide +kernel)
theorem chk3 (f : ℕ → BitVec 32) {e : BitVec 32} (he : e.toNat < 8) : k0_chk3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) e := by
  obtain ⟨n, hn, rfl⟩ := fin8 he
  refine ⟨?_, ?_, ?_, ?_, ?_, ?_⟩
  all_goals (intro h; clear h)
  all_goals first
    | (simp only [k0_off20, k0_off23, k0_off25]; clear he; revert n; decide +kernel)
    | (intro hinb; refine (Rect.wholeWords_iff_at _ _).2 ?_; simp only [Rect.unit, k0_off20, k0_off23, k0_off25]; clear hinb he; revert n; decide +kernel)
theorem chk4 (f : ℕ → BitVec 32) {e : BitVec 32} (he : e.toNat < 8) : k0_chk4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) e := by
  obtain ⟨n, hn, rfl⟩ := fin8 he
  refine ⟨?_, ?_, ?_, ?_, ?_, ?_⟩
  all_goals (intro h; clear h)
  all_goals first
    | (simp only [k0_off29, k0_off32, k0_off34]; clear he; revert n; decide +kernel)
    | (intro hinb; refine (Rect.wholeWords_iff_at _ _).2 ?_; simp only [Rect.unit, k0_off29, k0_off32, k0_off34]; clear hinb he; revert n; decide +kernel)
set_option maxHeartbeats 1000000 in
theorem chk5 (f : ℕ → BitVec 32) (t : Fin (t1L f).trips) {e : BitVec 32} (he : e.toNat < 8) : k0_chk5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  have ht : (t.val + 3) % 4 < 4 := Nat.mod_lt _ (by omega)
  refine ⟨?_, ?_, ?_, ?_, ?_, ?_⟩
  all_goals (intro h; clear h)
  all_goals first
    | (simp only [off39_eq, off42_eq, off44_eq]; clear he; generalize (t.val + 3) % 4 = m at ht ⊢; revert n m; decide +kernel)
    | (intro hinb; refine (Rect.wholeWords_iff_at _ _).2 ?_; simp only [Rect.unit, off39_eq, off42_eq, off44_eq]; clear hinb he; generalize (t.val + 3) % 4 = m at ht ⊢; revert n m; decide +kernel)
set_option maxHeartbeats 1000000 in
theorem chk7 (f : ℕ → BitVec 32) (t : Fin (t1L f).trips) {e : BitVec 32} (he : e.toNat < 8) : k0_chk7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  have ht : t.val < 32 := t1_lt f t
  refine ⟨?_, ?_, ?_, ?_, ?_, ?_⟩
  all_goals first
    | (simp only [k0_off104, k0_off107, k0_off229]; clear he; generalize t.val = m at ht ⊢; revert n m; decide +kernel)
    | (intro hinb; refine (Rect.wholeWords_iff_at _ _).2 ?_; simp only [Rect.unit, k0_off104, k0_off107, k0_off229]; clear hinb he; generalize t.val = m at ht ⊢; revert n m; decide +kernel)
theorem chk6_0 (f : ℕ → BitVec 32) (t : Fin (t1L f).trips) {e : BitVec 32} (he : e.toNat < 8) : k0_chk6_0 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro h; clear h; simp only [k0_off45, k0_off46, k0_off47, k0_off48, k0_off49, k0_off50, k0_off51, k0_off52, k0_off53, k0_off54, k0_off55, k0_off56, k0_off57, k0_off58, k0_off59, k0_off60, k0_off61, k0_off62, k0_off63, k0_off64, k0_off65, k0_off66, k0_off67, k0_off68, k0_off69, k0_off70, k0_off71, k0_off72, k0_off73, k0_off74, k0_off75, k0_off76]; clear he; revert n; decide +kernel)
theorem chk6_1 (f : ℕ → BitVec 32) (t : Fin (t1L f).trips) {e : BitVec 32} (he : e.toNat < 8) : k0_chk6_1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  refine ⟨?_, ?_, ?_, ?_, ?_, ?_, ?_, ?_, ?_, ?_, ?_, ?_, ?_, ?_, ?_, ?_, ?_, ?_, ?_, ?_, ?_, ?_, ?_, ?_⟩
  all_goals (intro h; clear h; simp only [k0_off77, k0_off78, k0_off79, k0_off80, k0_off81, k0_off82, k0_off83, k0_off84, k0_off85, k0_off86, k0_off87, k0_off88, k0_off89, k0_off90, k0_off91, k0_off92, k0_off93, k0_off94, k0_off95, k0_off96, k0_off97, k0_off98, k0_off99, k0_off100]; clear he; revert n; decide +kernel)
theorem chk6 (f : ℕ → BitVec 32) (t : Fin (t1L f).trips) {e : BitVec 32} (he : e.toNat < 8) : k0_chk6 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e :=
  ⟨chk6_0 f t he, chk6_1 f t he⟩

end Cert.Kernel.Moe
-- ==== Proof.K.Plan.lean ====
/-
  Which weight blocks are where at each step of the loop, and what the loop computes.
-/
module

public import proofs.«01_k».proof.Proof.K.Tile
public import proofs.«01_k».proof.Proof.K.Chk

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- What slot `s` of the gate and up weights holds when the blocks of steps `t` to `h - 1` have been asked for. -/
def flG (u : BitVec 32) (t h : ℕ) (s : Fin 4) : GuSt :=
  if t + (s + 4 - t % 4) % 4 < h ∧ t + (s + 4 - t % 4) % 4 < 4 * cnt u 8 then .fly (ex u ((t + (s + 4 - t % 4) % 4) / 4)) s else .idle
/-- The same for the down weights. -/
def flD (u : BitVec 32) (t h : ℕ) (s : Fin 4) : DSt :=
  if t + (s + 4 - t % 4) % 4 < h ∧ t + (s + 4 - t % 4) % 4 < 4 * cnt u 8 then .fly (ex u ((t + (s + 4 - t % 4) % 4) / 4)) s else .idle

abbrev sl (n : ℕ) : Fin 4 := ⟨n % 4, Nat.mod_lt _ (by decide)⟩

theorem flG_idle (u : BitVec 32) (t h : ℕ) (hh : t ≤ h) (h4 : h < t + 4) : flG u t h (sl h) = .idle := by
  have e : ((sl h : Fin 4) : ℕ) = h % 4 := rfl
  refine if_neg ?_; rw [e]; omega
theorem flD_idle (u : BitVec 32) (t h : ℕ) (hh : t ≤ h) (h4 : h < t + 4) : flD u t h (sl h) = .idle := by
  have e : ((sl h : Fin 4) : ℕ) = h % 4 := rfl
  refine if_neg ?_; rw [e]; omega

theorem flG_start (u : BitVec 32) (t h : ℕ) (hh : t ≤ h) (h4 : h < t + 4) (hn : h < 4 * cnt u 8) :
    Function.update (flG u t h) (sl h) (.fly (ex u (h / 4)) (h % 4)) = flG u t (h + 1) := by
  funext s
  have hs := s.2
  by_cases e : s = sl h
  · subst e
    have e2 : ((sl h : Fin 4) : ℕ) = h % 4 := rfl
    have e3 : t + ((sl h : Fin 4) + 4 - t % 4) % 4 = h := by rw [e2]; omega
    rw [Function.update_self]; unfold flG; rw [e3, if_pos ⟨by omega, hn⟩]
  · have e2 : (s : ℕ) ≠ h % 4 := fun q => e (Fin.ext q)
    rw [Function.update_of_ne e]; unfold flG
    have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
    simp only [e3]
theorem flD_start (u : BitVec 32) (t h : ℕ) (hh : t ≤ h) (h4 : h < t + 4) (hn : h < 4 * cnt u 8) :
    Function.update (flD u t h) (sl h) (.fly (ex u (h / 4)) (h % 4)) = flD u t (h + 1) := by
  funext s
  have hs := s.2
  by_cases e : s = sl h
  · subst e
    have e2 : ((sl h : Fin 4) : ℕ) = h % 4 := rfl
    have e3 : t + ((sl h : Fin 4) + 4 - t % 4) % 4 = h := by rw [e2]; omega
    rw [Function.update_self]; unfold flD; rw [e3, if_pos ⟨by omega, hn⟩]
  · have e2 : (s : ℕ) ≠ h % 4 := fun q => e (Fin.ext q)
    rw [Function.update_of_ne e]; unfold flD
    have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
    simp only [e3]

theorem flG_skip (u : BitVec 32) (t h : ℕ) (hn : ¬ h < 4 * cnt u 8) : flG u t h = flG u t (h + 1) := by
  funext s; unfold flG
  have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
  simp only [e3]
theorem flD_skip (u : BitVec 32) (t h : ℕ) (hn : ¬ h < 4 * cnt u 8) : flD u t h = flD u t (h + 1) := by
  funext s; unfold flD
  have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
  simp only [e3]

theorem flG_now (u : BitVec 32) (t : ℕ) (hn : t < 4 * cnt u 8) : flG u t (t + 4) (sl t) = .fly (ex u (t / 4)) (t % 4) := by
  have e2 : ((sl t : Fin 4) : ℕ) = t % 4 := rfl
  have e3 : t + ((sl t : Fin 4) + 4 - t % 4) % 4 = t := by rw [e2]; omega
  unfold flG; rw [e3, if_pos ⟨by omega, hn⟩]
theorem flD_now (u : BitVec 32) (t : ℕ) (hn : t < 4 * cnt u 8) : flD u t (t + 4) (sl t) = .fly (ex u (t / 4)) (t % 4) := by
  have e2 : ((sl t : Fin 4) : ℕ) = t % 4 := rfl
  have e3 : t + ((sl t : Fin 4) + 4 - t % 4) % 4 = t := by rw [e2]; omega
  unfold flD; rw [e3, if_pos ⟨by omega, hn⟩]

theorem flG_done (u : BitVec 32) (t : ℕ) : Function.update (flG u t (t + 4)) (sl t) .idle = flG u (t + 1) (t + 4) := by
  funext s
  have hs := s.2
  by_cases e : s = sl t
  · subst e
    have e2 : ((sl t : Fin 4) : ℕ) = t % 4 := rfl
    rw [Function.update_self]; unfold flG; rw [if_neg]; rw [e2]; omega
  · have e2 : (s : ℕ) ≠ t % 4 := fun q => e (Fin.ext q)
    rw [Function.update_of_ne e]; unfold flG
    have e3 : t + 1 + (↑s + 4 - (t + 1) % 4) % 4 = t + (↑s + 4 - t % 4) % 4 := by omega
    rw [e3]
theorem flD_done (u : BitVec 32) (t : ℕ) : Function.update (flD u t (t + 4)) (sl t) .idle = flD u (t + 1) (t + 4) := by
  funext s
  have hs := s.2
  by_cases e : s = sl t
  · subst e
    have e2 : ((sl t : Fin 4) : ℕ) = t % 4 := rfl
    rw [Function.update_self]; unfold flD; rw [if_neg]; rw [e2]; omega
  · have e2 : (s : ℕ) ≠ t % 4 := fun q => e (Fin.ext q)
    rw [Function.update_of_ne e]; unfold flD
    have e3 : t + 1 + (↑s + 4 - (t + 1) % 4) % 4 = t + (↑s + 4 - t % 4) % 4 := by omega
    rw [e3]

theorem flG_end (u : BitVec 32) (t h : ℕ) (hn : 4 * cnt u 8 ≤ t) : flG u t h = fun _ => .idle := by
  funext s; exact if_neg (by omega)
theorem flD_end (u : BitVec 32) (t h : ℕ) (hn : 4 * cnt u 8 ≤ t) : flD u t h = fun _ => .idle := by
  funext s; exact if_neg (by omega)
theorem flG_zero (u : BitVec 32) : flG u 0 0 = fun _ => .idle := by
  funext s; exact if_neg (by omega)
theorem flD_zero (u : BitVec 32) : flD u 0 0 = fun _ => .idle := by
  funext s; exact if_neg (by omega)

theorem gsem_eq (s : Fin 4) {o : Fin 1 → ℕ} {i} (h : o = ![(s : ℕ)]) : ((cc0_scratch7.slice (Rect.unit (s := S4) o S1.size i)).squeeze S_ squeezes_S1_S_).sem = gsem s := by subst h; rfl
theorem dsem_eq (s : Fin 4) {o : Fin 1 → ℕ} {i} (h : o = ![(s : ℕ)]) : ((cc0_scratch8.slice (Rect.unit (s := S4) o S1.size i)).squeeze S_ squeezes_S1_S_).sem = dsem s := by subst h; rfl

/-! ## What the loop computes -/

/-- One half of the hidden layer's product: 20 double tiles. -/
def halfV (I : Inp F) (e j w c0 : ℕ) : ℕ → FVec F S24x256 .f32
  | 0 => k0_pay61 (sgV (sgNew I e) c0 (2 * 0)) (sgV (sgNew I e) (c0 + 1) (2 * 0)) (wV I e j w (256 * 0)) (sgV (sgNew I e) c0 (2 * 0 + 1)) (sgV (sgNew I e) (c0 + 1) (2 * 0 + 1)) (wV I e j w (256 * 0 + 128)) (xV I (256 * 0))
  | k + 1 => k0_pay62 (halfV I e j w c0 k) (sgV (sgNew I e) c0 (2 * (k + 1))) (sgV (sgNew I e) (c0 + 1) (2 * (k + 1))) (wV I e j w (256 * (k + 1))) (sgV (sgNew I e) c0 (2 * (k + 1) + 1)) (sgV (sgNew I e) (c0 + 1) (2 * (k + 1) + 1)) (wV I e j w (256 * (k + 1) + 128)) (xV I (256 * (k + 1)))

end Cert.Kernel.Moe
-- ==== Proof.K.Fetch.lean ====
/-
  One step of the loop up to the point where its weights are waited for.
-/
module

public import proofs.«01_k».proof.Proof.K.Plan

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The gated hidden block of expert `e`, as the down product takes it. -/
def hidV (I : Inp F) (e j : ℕ) : FVec F S24x256 .bf16 :=
  k0_pay101 (mulf (mulf (halfV I e j 0 (2 * j) 19) (logistic (halfV I e j 0 (2 * j) 19))) (halfV I e j 1 (8 + 2 * j) 19))

def zeroF (F : FTy → Type) [FloatOps F] (_ _ : ℕ) : Elt F .f32 := FloatOps.ofBits .f32 0#32
def colI (I : Inp F) (k : ℕ) : Vec F S24x1 .i32 := fun i => I.ids (0 + i 0) (k + i 1)
def colW (I : Inp F) (k : ℕ) : Vec F S24x1 .f32 := fun i => I.wts (0 + i 0) (k + i 1)
def allV (y : ℕ → ℕ → Elt F .f32) : Vec F S24x5120 .f32 := fun i => y (0 + i 0) (0 + i 1)

/-- The sum over experts once one more expert's sum is weighed in. -/
def accNew (I : Inp F) (e : ℕ) (acc y : ℕ → ℕ → Elt F .f32) (a b : ℕ) : Elt F .f32 :=
  if h : a < 24 ∧ b < 5120 then k0_pay280 (BitVec.ofNat 32 e) (colI I 0) (colW I 0) (colI I 1) (colW I 1) (allV acc) (allV y) (ix2 ⟨a, h.1⟩ ⟨b, h.2⟩) else zeroF F a b

/-- The expert's sum after `n` steps. -/
def yS (I : Inp F) (u : BitVec 32) : ℕ → ℕ → ℕ → Elt F .f32
  | 0 => zeroF F
  | n + 1 => yNew I (sxNew I (ex u (n / 4))) (ex u (n / 4)) (n % 4) (hidV I (ex u (n / 4)) (n % 4)) (if n % 4 = 0 then zeroF F else yS I u n)
/-- The sum over experts after `n` steps. -/
def accS (I : Inp F) (u : BitVec 32) : ℕ → ℕ → ℕ → Elt F .f32
  | 0 => zeroF F
  | n + 1 => if n % 4 = 3 then accNew I (ex u (n / 4)) (accS I u n) (yS I u (n + 1)) else accS I u n

/-- What holds before step `t`. -/
structure Inv (I : Inp F) (f : ℕ → BitVec 32) (t : ℕ) (σ : St F) : Prop where
  g : σ.g = flG (U f) t (t + 3)
  d : σ.d = flD (U f) t (t + 3)
  ord : ∀ i, i < cnt (U f) 8 → σ.ord i = BitVec.ofNat 32 (ex (U f) i)
  sg : t % 4 ≠ 0 → ∀ a r l, a < 16 → σ.sg a r l = sgNew I (ex (U f) (t / 4)) a r l
  sx : t % 4 ≠ 0 → ∀ r l, l < 5120 → σ.sx r l = sxNew I (ex (U f) (t / 4)) r l
  y : t % 4 ≠ 0 → ∀ a b, a < 24 → b < 5120 → σ.y a b = yS I (U f) t a b
  acc : ∀ a b, a < 24 → b < 5120 → σ.acc a b = accS I (U f) t a b

/-- What holds once step `t` has asked for the block three steps ahead and has the scales. -/
structure Mid (I : Inp F) (f : ℕ → BitVec 32) (t : ℕ) (σ : St F) : Prop where
  g : σ.g = flG (U f) t (t + 4)
  d : σ.d = flD (U f) t (t + 4)
  ord : ∀ i, i < cnt (U f) 8 → σ.ord i = BitVec.ofNat 32 (ex (U f) i)
  sg : ∀ a r l, a < 16 → σ.sg a r l = sgNew I (ex (U f) (t / 4)) a r l
  sx : ∀ r l, l < 5120 → σ.sx r l = sxNew I (ex (U f) (t / 4)) r l
  y : ∀ a b, a < 24 → b < 5120 → σ.y a b = (if t % 4 = 0 then zeroF F else yS I (U f) t) a b
  acc : ∀ a b, a < 24 → b < 5120 → σ.acc a b = accS I (U f) t a b

variable {c : Dev nD} {I : Inp F} {f : ℕ → BitVec 32}
variable {w0 : A0.IsWhole} {w1 : A1.IsWhole} {w2 : A2.IsWhole} {w3 : A3.IsWhole} {w4 : A4.IsWhole} {w5 : A5.IsWhole} {w6 : A6.IsWhole} {w7 : A7.IsWhole} {w8 : A8.IsWhole} {w9 : A9.IsWhole} {w10 : A10.IsWhole} {w11 : A11.IsWhole} {w12 : A12.IsWhole} {w13 : A13.IsWhole} {w14 : A14.IsWhole} {w15 : A15.IsWhole}

theorem exw {u : BitVec 32} {i : ℕ} (h : i < cnt u 8) : (BitVec.ofNat 32 (ex u i)).toNat = ex u i := by
  have := ex_lt u h
  rw [BitVec.toNat_ofNat]; omega

theorem Ev.cast {α : Type} {Q : α → St F → Prop} {σ σ' : St F} {p : P (F := F) α} (h : σ = σ') (hp : Ev c I Q σ' p) : Ev c I Q σ p := h ▸ hp
theorem sgMix_zero (new old : ℕ → ℕ → ℕ → Elt F .f32) : sgMix 0 new old = old := by
  funext a r l; exact if_neg (by omega)
theorem sxMix_zero (new old : ℕ → ℕ → Elt F .f32) : sxMix 0 new old = old := by
  funext r l; exact if_neg (by omega)

set_option maxHeartbeats 4000000 in
set_option maxRecDepth 100000 in
set_option pp.maxSteps 30 in
theorem ev4 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) (x : BitVec 32) (h4 : k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1) {σ : St F}
    (hg : σ.g = flG (U f) t (t + 3)) (ho : ∀ i, i < cnt (U f) 8 → σ.ord i = BitVec.ofNat 32 (ex (U f) i)) (hc : t.val + 3 < 4 * cnt (U f) 8) :
    EvS c I σ (k0_part4 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw t x h4) ⟨BitVec.ofNat 32 (ex (U f) ((t + 3) / 4)), chk5 f t (by rw [exw (by omega)]; exact ex_lt _ (by omega))⟩
      { σ with g := Function.update σ.g (sl (t + 3)) (.one (ex (U f) ((t + 3) / 4)) ((t + 3) % 4)) } := by
  have hi : (t.val + 3) / 4 < cnt (U f) 8 := by omega
  have e36 : σ.ord (k0_off36 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t 0) = BitVec.ofNat 32 (ex (U f) ((t + 3) / 4)) := by rw [off36_eq]; exact ho _ hi
  rw [k0_part4_eq_skeleton]; unfold k0_part4_skel
  refine Ev.bind EvS.sld_ord ?_
  rw [e36]
  refine Ev.assume (chk5 f t (by rw [exw hi]; exact ex_lt _ hi)) ?_
  refine Ev.bind (EvS.startG0 (sl (t + 3)) (ex (U f) ((t + 3) / 4)) ((t + 3) % 4) (gsem_eq _ (off37_eq f t)) (off38_eq f t) ((off39_eq f t _).trans (by rw [exw hi])) ?_) ?_
  · rw [hg]; exact flG_idle _ _ _ (by omega) (by omega)
  · exact Ev.pure ⟨rfl, rfl⟩

set_option maxHeartbeats 4000000 in
set_option maxRecDepth 100000 in
set_option pp.maxSteps 30 in
theorem ev19 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) (x : BitVec 32) {σ : St F} (hI : Inv I f t σ) :
    Ev c I (fun v σ' => v = ⟨iv t, slotW t, BitVec.ofNat 32 (ex (U f) (t / 4)), slotW t, 4#32, Scalar.divsi (iv t) 4#32,
        Scalar.subi (Scalar.extui (Scalar.cmpi .sgt (iv t) 0#32)) (Scalar.extui (Scalar.cmpi .slt (iv t) 0#32)), Scalar.cmpi .sgt 4#32 0#32⟩ ∧ Mid I f t σ') σ
      (k0_part19 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw x 0#32 1#32 t) := by
  have ht : t.val < 4 * cnt (U f) 8 := lt_of_lt_of_eq t.2 (t1_trips f)
  have hi : t.val / 4 < cnt (U f) 8 := by omega
  have e35 : σ.ord (k0_off35 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t 0) = BitVec.ofNat 32 (ex (U f) (t / 4)) := by rw [off35_eq]; exact hI.ord _ hi
  have he : (BitVec.ofNat 32 (ex (U f) (t / 4))).toNat < 8 := by rw [exw hi]; exact ex_lt _ hi
  rw [k0_part19_eq_skeleton]; unfold k0_part19_skel
  refine Ev.bind EvS.sld_ord ?_
  rw [e35]
  refine Ev.assume (chk6 f t he) ?_
  extract_lets; rename_i jp2 jp
  have hj2 : ∀ σ2, Mid I f t σ2 → Ev c I (fun v σ' => v = ⟨iv t, slotW t, BitVec.ofNat 32 (ex (U f) (t / 4)), slotW t, 4#32, Scalar.divsi (iv t) 4#32,
      Scalar.subi (Scalar.extui (Scalar.cmpi .sgt (iv t) 0#32)) (Scalar.extui (Scalar.cmpi .slt (iv t) 0#32)), Scalar.cmpi .sgt 4#32 0#32⟩ ∧ Mid I f t σ') σ2 (jp2 ⟨⟩) :=
    fun σ2 h2 => Ev.pure ⟨rfl, h2⟩
  clear_value jp2
  have hj : Ev c I (fun v σ' => v = ⟨iv t, slotW t, BitVec.ofNat 32 (ex (U f) (t / 4)), slotW t, 4#32, Scalar.divsi (iv t) 4#32,
        Scalar.subi (Scalar.extui (Scalar.cmpi .sgt (iv t) 0#32)) (Scalar.extui (Scalar.cmpi .slt (iv t) 0#32)), Scalar.cmpi .sgt 4#32 0#32⟩ ∧ Mid I f t σ')
      { σ with g := flG (U f) t (t + 4), d := flD (U f) t (t + 4) } (jp ⟨⟩) := by
    generalize hσ1 : ({ σ with g := flG (U f) t (t + 4), d := flD (U f) t (t + 4) } : St F) = σ1
    simp only [jp]
    by_cases h5 : k0_cond5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1
    · have ht0 : t.val % 4 = 0 := (cond5_iff f t).1 h5
      refine Ev.ite_pos h5 ?_
      simp only [k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, bind_assoc, pure_bind]
      refine Ev.cast (σ' := { σ1 with sg := sgMix 0 (sgNew I (ex (U f) (t / 4))) σ1.sg }) (by rw [sgMix_zero]) ?_
      iterate 16 refine Ev.scaleG σ1 (fun _ => rfl) rfl (exw hi) rfl rfl ?_
      generalize hσ2 : ({ σ1 with sg := sgMix _ (sgNew I (ex (U f) (t / 4))) σ1.sg } : St F) = σ2
      refine Ev.cast (σ' := { σ2 with sx := sxMix 0 (sxNew I (ex (U f) (t / 4))) σ2.sx }) (by rw [sxMix_zero]) ?_
      iterate 40 refine Ev.scaleD σ2 (fun _ => rfl) rfl (exw hi) rfl rfl ?_
      refine Ev.bind EvS.ld_y ?_
      refine Ev.bind (EvS.st_y (zeroF F) (fun i => rfl) ?_) ?_
      · intro a b ha hb hn
        exact absurd ⟨⟨Nat.zero_le _, by simpa using ha⟩, Nat.zero_le _, by simpa using hb⟩ hn
      · refine hj2 _ ?_
        subst hσ2 hσ1
        refine ⟨rfl, rfl, hI.ord, ?_, ?_, ?_, hI.acc⟩
        · intro a r l ha; exact if_pos ha
        · intro r l hl; exact if_pos hl
        · intro a b _ _; show zeroF F a b = _; rw [if_pos ht0]
    · have ht0 : ¬ t.val % 4 = 0 := fun h => h5 ((cond5_iff f t).2 h)
      refine Ev.ite_neg h5 ?_
      refine hj2 _ ?_
      subst hσ1
      refine ⟨rfl, rfl, hI.ord, hI.sg ht0, hI.sx ht0, ?_, hI.acc⟩
      intro a b ha hb; rw [if_neg ht0]; exact hI.y ht0 a b ha hb
  clear_value jp
  by_cases h4 : k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1
  · have hc : t.val + 3 < 4 * cnt (U f) 8 := (cond4_iff f t).1 h4
    have hi3 : (t.val + 3) / 4 < cnt (U f) 8 := by omega
    refine Ev.ite_pos h4 ?_
    refine Ev.bind (ev4 t hw _ h4 hI.g hI.ord hc) ?_
    refine Ev.bind (EvS.startG1 (sl (t + 3)) (ex (U f) ((t + 3) / 4)) ((t + 3) % 4) (gsem_eq _ (off40_eq f t)) (off41_eq f t) ((off42_eq f t _).trans (by rw [exw hi3])) (Function.update_self ..)) ?_
    refine Ev.bind (EvS.startD (sl (t + 3)) (ex (U f) ((t + 3) / 4)) ((t + 3) % 4) (dsem_eq _ (off40_eq f t)) (off43_eq f t) ((off44_eq f t _).trans (by rw [exw hi3])) ?_) ?_
    · show σ.d _ = _; rw [hI.d]; exact flD_idle _ _ _ (by omega) (by omega)
    · refine Ev.cast ?_ hj
      show ({ σ with g := Function.update (Function.update σ.g (sl (t + 3)) _) (sl (t + 3)) _, d := Function.update σ.d (sl (t + 3)) _ } : St F) = _
      rw [Function.update_idem, hI.g, hI.d, flG_start _ _ _ (by omega) (by omega) hc, flD_start _ _ _ (by omega) (by omega) hc]
  · have hc : ¬ t.val + 3 < 4 * cnt (U f) 8 := fun h => h4 ((cond4_iff f t).2 h)
    refine Ev.ite_neg h4 ?_
    refine Ev.cast ?_ hj
    rw [← flG_skip _ _ _ hc, ← flD_skip _ _ _ hc, ← hI.g, ← hI.d]

end Cert.Kernel.Moe
-- ==== Proof.K.Step.lean ====
/-
  One step of the loop.
-/
module

public import proofs.«01_k».proof.Proof.K.Fetch

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F} {f : ℕ → BitVec 32}
variable {w0 : A0.IsWhole} {w1 : A1.IsWhole} {w2 : A2.IsWhole} {w3 : A3.IsWhole} {w4 : A4.IsWhole} {w5 : A5.IsWhole} {w6 : A6.IsWhole} {w7 : A7.IsWhole} {w8 : A8.IsWhole} {w9 : A9.IsWhole} {w10 : A10.IsWhole} {w11 : A11.IsWhole} {w12 : A12.IsWhole} {w13 : A13.IsWhole} {w14 : A14.IsWhole} {w15 : A15.IsWhole}

theorem sgV_congr {sg S : ℕ → ℕ → ℕ → Elt F .f32} (h : ∀ a r l, a < 16 → sg a r l = S a r l) {c0 : ℕ} (hc : c0 < 16) (k : ℕ) : sgV sg c0 k = sgV S c0 k :=
  funext fun i => h _ _ _ (by have h0 : (i 0 : ℕ) < 1 := (i 0).2; omega)

/-- One double tile, with the scales the buffer is known to hold. -/
theorem Ev.tileS {α : Type} {Q : α → St F → Prop} {σ : St F} (S : ℕ → ℕ → ℕ → Elt F .f32) (hS : ∀ a r l, a < 16 → σ.sg a r l = S a r l)
    (s : Fin 4) (w : Fin 2) {e j c0 : ℕ} (hc : c0 + 1 < 16) (hσ : σ.g s = .rdy e j)
    {o1 o2 o4 o5 : Fin 3 → ℕ} {o3 o6 : Fin 4 → ℕ} {o7 : Fin 2 → ℕ} {i1 i2 i3 i4 i5 i6 i7 l1 l2 l3 l4 l5 l6 l7}
    {R : Vec F S1x1x128 .f32 → Vec F S1x1x128 .f32 → Vec F S1x1x128x256 .fp8e4m3 → Vec F S1x1x128 .f32 → Vec F S1x1x128 .f32 → Vec F S1x1x128x256 .fp8e4m3 → Vec F S24x256 .bf16 → P (F := F) α}
    (a1 : o1 0 = c0) (a2 : o2 0 = c0 + 1) (a3 : o3 0 = s) (a4 : o4 0 = c0) (a5 : o5 0 = c0 + 1) (a6 : o6 0 = s)
    (b1 : o1 2 = 0) (b2 : o2 2 = 0) (b3 : o3 1 = w) (d3 : o3 3 = 0)
    (b4 : o4 2 = 0) (b5 : o5 2 = 0) (b6 : o6 1 = w) (d6 : o6 3 = 0) (a7 : o7 0 = 0)
    (h : Ev c I Q σ (R (sgV S c0 (o1 1)) (sgV S (c0 + 1) (o2 1)) (wV I e j w (o3 2)) (sgV S c0 (o4 1)) (sgV S (c0 + 1) (o5 1)) (wV I e j w (o6 2)) (xV I (o7 1)))) :
    Ev c I Q σ (Prog.lift (.load A11 (Rect.unit (s := S16x40x128) o1 S1x1x128.size i1).toLoadRect l1) >>= fun v1 =>
      Prog.lift (.load A11 (Rect.unit (s := S16x40x128) o2 S1x1x128.size i2).toLoadRect l2) >>= fun v2 =>
      Prog.lift (.load A9 (Rect.unit (s := S4x2x5120x256) o3 S1x1x128x256.size i3).toLoadRect l3) >>= fun v3 =>
      Prog.lift (.load A11 (Rect.unit (s := S16x40x128) o4 S1x1x128.size i4).toLoadRect l4) >>= fun v4 =>
      Prog.lift (.load A11 (Rect.unit (s := S16x40x128) o5 S1x1x128.size i5).toLoadRect l5) >>= fun v5 =>
      Prog.lift (.load A9 (Rect.unit (s := S4x2x5120x256) o6 S1x1x128x256.size i6).toLoadRect l6) >>= fun v6 =>
      Prog.lift (.load A1 (Rect.unit (s := S24x5120) o7 S24x256.size i7).toLoadRect l7) >>= fun v7 => R v1 v2 v3 v4 v5 v6 v7) := by
  refine Ev.tile s w hσ a1 b1 a2 b2 a3 b3 d3 a4 b4 a5 b5 a6 b6 d6 a7 ?_
  rw [sgV_congr hS (by omega), sgV_congr hS (by omega), sgV_congr hS (by omega), sgV_congr hS (by omega)]
  exact h

theorem yV_congr {y y' : ℕ → ℕ → Elt F .f32} (h : ∀ a b, a < 24 → b < 5120 → y a b = y' a b) {n : ℕ} (hn : n < 20) : yV y (256 * n) = yV y' (256 * n) :=
  funext fun i => h _ _ (by have h0 : (i 0 : ℕ) < 24 := (i 0).2; omega) (by have h0 : (i 1 : ℕ) < 256 := (i 1).2; omega)
theorem sxV_congr {y y' : ℕ → ℕ → Elt F .f32} (h : ∀ a b, b < 5120 → y a b = y' a b) (a : ℕ) {n : ℕ} (hn : n < 20) : sxV y a (256 * n) = sxV y' a (256 * n) :=
  funext fun i => h _ _ (by have h0 : (i 1 : ℕ) < 256 := (i 1).2; omega)

theorem yNew_congr {sx sx' : ℕ → ℕ → Elt F .f32} {y y' : ℕ → ℕ → Elt F .f32} {e j : ℕ} {hid : FVec F S24x256 .bf16} (hx : ∀ a b, b < 5120 → sx a b = sx' a b)
    (hy : ∀ a b, a < 24 → b < 5120 → y a b = y' a b) {a b : ℕ} (ha : a < 24) (hb : b < 5120) : yNew I sx e j hid y a b = yNew I sx' e j hid y' a b := by
  have hn : b / 256 < 20 := by omega
  unfold yNew yTile
  rw [dif_pos ha, dif_pos ha, yV_congr hy hn, sxV_congr hx _ hn, sxV_congr hx _ hn]

theorem allV_congr {y y' : ℕ → ℕ → Elt F .f32} (h : ∀ a b, a < 24 → b < 5120 → y a b = y' a b) : allV y = allV y' :=
  funext fun i => h _ _ (by have h0 : (i 0 : ℕ) < 24 := (i 0).2; omega) (by have h0 : (i 1 : ℕ) < 5120 := (i 1).2; omega)

theorem accNew_at (e : ℕ) (acc y : ℕ → ℕ → Elt F .f32) (i : S24x5120.Idx) :
    accNew I e acc y (0 + i 0) (0 + i 1) = k0_pay280 (BitVec.ofNat 32 e) (colI I 0) (colW I 0) (colI I 1) (colW I 1) (allV acc) (allV y) i := by
  unfold accNew
  rw [Nat.zero_add, Nat.zero_add, dif_pos ⟨(i 0).2, (i 1).2⟩]
  exact congrArg _ (eq_ix2 i).symm

theorem yMix_zero (new old : ℕ → ℕ → Elt F .f32) : yMix 0 new old = old := by
  funext r l; exact if_neg (by omega)

set_option maxHeartbeats 8000000 in
set_option maxRecDepth 100000 in
set_option pp.maxSteps 60 in
theorem ev20 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) {a1 a2 a3 : BitVec 32} {a4 : BitVec 1} {σ : St F}
    (hg : σ.g (sl t) = .fly (ex (U f) (t / 4)) (t % 4)) (ho : ∀ i, i < cnt (U f) 8 → σ.ord i = BitVec.ofNat 32 (ex (U f) i)) (hi : t.val / 4 < cnt (U f) 8) :
    EvS c I σ (k0_part20 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw t (iv t) (slotW t) a1 a2 a3 a4) ⟨BitVec.ofNat 32 (ex (U f) (t / 4)), chk7 f t (by rw [exw hi]; exact ex_lt _ hi), Scalar.addi 0#32 (Scalar.muli (slotW t) 2#32)⟩
      { σ with g := Function.update σ.g (sl t) (.rdy (ex (U f) (t / 4)) (t % 4)) } := by
  have e36 : σ.ord (k0_off101 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t 0) = BitVec.ofNat 32 (ex (U f) (t / 4)) := by rw [off101_eq]; exact ho _ hi
  rw [k0_part20_eq_skeleton]; unfold k0_part20_skel
  refine Ev.bind EvS.sld_ord ?_
  rw [e36]
  refine Ev.assume (chk7 f t (by rw [exw hi]; exact ex_lt _ hi)) ?_
  refine Ev.bind (EvS.waitG0 (sl t) (ex (U f) (t / 4)) (t % 4) (gsem_eq _ (off102_eq f t)) hg) ?_
  refine Ev.bind (EvS.waitG1 (sl t) (ex (U f) (t / 4)) (t % 4) (gsem_eq _ (off105_eq f t)) (Function.update_self ..)) ?_
  refine Ev.pure ⟨rfl, ?_⟩
  show ({ σ with g := Function.update (Function.update σ.g (sl t) _) (sl t) _ } : St F) = _
  rw [Function.update_idem]

set_option maxHeartbeats 8000000 in
set_option maxRecDepth 100000 in
set_option pp.maxSteps 60 in
theorem ev61 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) {e : ℕ} {v : BitVec 32} {h7 : k0_chk7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t v} {H : FVec F S24x256 .f32} {hid : FVec F S24x256 .bf16} (hH : k0_pay101 H = hid) {σ : St F}
    (hd : σ.d (sl t) = .fly e (t % 4)) :
    EvS c I σ (k0_part61 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw t (slotW t) (slotW t) v h7 H) hid
      { σ with d := Function.update σ.d (sl t) (.rdy e (t % 4)), y := yMix 1 (yNew I σ.sx e (t % 4) hid σ.y) σ.y } := by
  subst hH
  have hr := srow_lt t (t1_lt f t)
  have hs := words_lt t (t1_lt f t)
  rw [k0_part61_eq_skeleton]; unfold k0_part61_skel
  refine Ev.bind (EvS.waitD (sl t) e (t % 4) (dsem_eq _ (off105_eq f t)) hd) ?_
  generalize hσ2 : ({ σ with d := Function.update σ.d (sl t) (.rdy e (t % 4)) } : St F) = σ2
  have hd2 : σ2.d (sl t) = .rdy e (t % 4) := by subst hσ2; exact Function.update_self ..
  refine Ev.cast (σ' := { σ2 with y := yMix 0 (yNew I σ2.sx e (t % 4) (k0_pay101 H) σ2.y) σ2.y }) (by rw [yMix_zero]) ?_
  refine Ev.down σ2 (sl t) (k0_pay101 H) hd2 (fun _ _ _ _ _ => rfl) hs.1 hr.2.2.2.2.1 hs.1 hr.2.2.2.2.2 rfl rfl rfl rfl rfl rfl rfl ?_
  subst hσ2
  exact Ev.pure ⟨rfl, rfl⟩

set_option maxHeartbeats 8000000 in
set_option maxRecDepth 100000 in
set_option pp.maxSteps 60 in
theorem evTrip (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) (x0 x1 x2 x3 r : BitVec 32) {σ : St F} (hI : Inv I f t σ) :
    Ev c I (fun _ σ' => Inv I f (t + 1) σ') σ (k0_t1_body A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw x0 x1 x2 x3 t r) := by
  have ht : t.val < 4 * cnt (U f) 8 := lt_of_lt_of_eq t.2 (t1_trips f)
  have hi : t.val / 4 < cnt (U f) 8 := by omega
  have hr := srow_lt t (t1_lt f t)
  have hs := words_lt t (t1_lt f t)
  have h8 : t.val % 4 < 4 := Nat.mod_lt _ (by decide)
  unfold k0_t1_body
  rw [k0_part76_eq_skeleton]
  simp only [k0_part76_skel, bind_assoc, pure_bind]
  refine Ev.bindQ (ev19 t hw x3 hI) fun v σ1 hv => ?_
  obtain ⟨rfl, hM⟩ := hv
  refine Ev.bind (ev20 t hw (by rw [hM.g]; exact flG_now _ _ ht) hM.ord hi) ?_
  generalize hσ2 : ({ σ1 with g := Function.update σ1.g (sl t) (.rdy (ex (U f) (t / 4)) (t % 4)) } : St F) = σ2
  have hg2 : σ2.g (sl t) = .rdy (ex (U f) (t / 4)) (t % 4) := by subst hσ2; exact Function.update_self ..
  have hsg2 : ∀ a r l, a < 16 → σ2.sg a r l = sgNew I (ex (U f) (t / 4)) a r l := by subst hσ2; exact hM.sg
  simp only [k0_part21_eq_skeleton, k0_part21_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part22_eq_skeleton, k0_part22_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part23_eq_skeleton, k0_part23_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part24_eq_skeleton, k0_part24_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part25_eq_skeleton, k0_part25_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part26_eq_skeleton, k0_part26_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part27_eq_skeleton, k0_part27_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part28_eq_skeleton, k0_part28_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part29_eq_skeleton, k0_part29_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part30_eq_skeleton, k0_part30_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part31_eq_skeleton, k0_part31_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part32_eq_skeleton, k0_part32_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part33_eq_skeleton, k0_part33_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part34_eq_skeleton, k0_part34_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part35_eq_skeleton, k0_part35_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part36_eq_skeleton, k0_part36_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part37_eq_skeleton, k0_part37_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part38_eq_skeleton, k0_part38_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part39_eq_skeleton, k0_part39_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part40_eq_skeleton, k0_part40_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part41_eq_skeleton, k0_part41_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part42_eq_skeleton, k0_part42_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part43_eq_skeleton, k0_part43_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part44_eq_skeleton, k0_part44_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part45_eq_skeleton, k0_part45_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part46_eq_skeleton, k0_part46_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part47_eq_skeleton, k0_part47_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part48_eq_skeleton, k0_part48_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part49_eq_skeleton, k0_part49_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part50_eq_skeleton, k0_part50_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part51_eq_skeleton, k0_part51_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part52_eq_skeleton, k0_part52_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part53_eq_skeleton, k0_part53_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part54_eq_skeleton, k0_part54_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part55_eq_skeleton, k0_part55_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part56_eq_skeleton, k0_part56_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part57_eq_skeleton, k0_part57_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part58_eq_skeleton, k0_part58_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part59_eq_skeleton, k0_part59_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part60_eq_skeleton, k0_part60_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  refine Ev.bind (ev61 t hw (hid := hidV I (ex (U f) (t / 4)) (t % 4)) ?_ (e := ex (U f) (t / 4)) ?_) ?_
  · rfl
  · subst hσ2; show σ1.d _ = _; rw [hM.d]; exact flD_now _ _ ht
  · generalize hσ3 : ({ σ2 with d := Function.update σ2.d (sl t) (.rdy (ex (U f) (t / 4)) (t % 4)), y := σ2.y } : St F) = σ3
    have hd3 : σ3.d (sl t) = .rdy (ex (U f) (t / 4)) (t % 4) := by subst hσ3; exact Function.update_self ..
    refine Ev.cast (σ' := { σ3 with y := yMix 1 (yNew I σ3.sx (ex (U f) (t / 4)) (t % 4) (hidV I (ex (U f) (t / 4)) (t % 4)) σ3.y) σ3.y }) (by subst hσ3; rfl) ?_
    simp only [k0_part62_eq_skeleton, k0_part62_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part63_eq_skeleton, k0_part63_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part64_eq_skeleton, k0_part64_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part65_eq_skeleton, k0_part65_skel, bind_assoc, pure_bind]
    iterate 2 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part66_eq_skeleton, k0_part66_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part67_eq_skeleton, k0_part67_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part68_eq_skeleton, k0_part68_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part69_eq_skeleton, k0_part69_skel, bind_assoc, pure_bind]
    iterate 2 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part70_eq_skeleton, k0_part70_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part71_eq_skeleton, k0_part71_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part72_eq_skeleton, k0_part72_skel, bind_assoc, pure_bind]
    iterate 2 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part73_eq_skeleton, k0_part73_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part74_eq_skeleton, k0_part74_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part75_eq_skeleton, k0_part75_skel, bind_assoc, pure_bind]
    iterate 3 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    clear hr
    generalize hY : yMix 20 (yNew I σ3.sx (ex (U f) (t / 4)) (t % 4) (hidV I (ex (U f) (t / 4)) (t % 4)) σ3.y) σ3.y = Y
    have hY' : ∀ a b, a < 24 → b < 5120 → Y a b = yS I (U f) (t + 1) a b := by
      intro a b ha hb
      subst hY hσ3 hσ2
      refine (if_pos (by omega)).trans ?_
      exact yNew_congr hM.sx hM.y ha hb
    refine Ev.freeG (sl t) (e := ex (U f) (t / 4)) (j := t % 4) (by subst hσ3; exact hg2) ?_
    refine Ev.freeD (sl t) (e := ex (U f) (t / 4)) (j := t % 4) hd3 ?_
    generalize hσ4 : St.mk _ _ _ _ _ _ _ _ = σ4
    have hJ : σ4.y = Y ∧ σ4.acc = σ1.acc := by subst hσ4 hσ3 hσ2; exact ⟨rfl, rfl⟩
    have hK : ∀ A, (∀ a b, a < 24 → b < 5120 → A a b = accS I (U f) (t + 1) a b) → Inv I f (t + 1) { σ4 with acc := A } := by
      intro A hA
      subst hσ4 hσ3 hσ2
      have e4 : (t.val + 1) % 4 ≠ 0 → (t.val + 1) / 4 = t.val / 4 := by omega
      refine ⟨?_, ?_, hM.ord, ?_, ?_, fun _ => hY', hA⟩
      · show Function.update (Function.update σ1.g (sl t) _) (sl t) _ = _
        rw [Function.update_idem, hM.g]; exact flG_done _ _
      · show Function.update (Function.update σ1.d (sl t) _) (sl t) _ = _
        rw [Function.update_idem, hM.d]; exact flD_done _ _
      · intro h; rw [e4 h]; exact hM.sg
      · intro h; rw [e4 h]; exact hM.sx
    have h6 := cond6_lt t (t1_lt f t)
    by_cases h3 : t.val % 4 = 3
    · refine Ev.ite_pos (by rw [h6]; exact decide_eq_true h3) ?_
      refine Ev.bind EvS.ld_ids (Ev.bind EvS.ld_wts (Ev.bind EvS.ld_ids (Ev.bind EvS.ld_wts (Ev.bind EvS.ld_acc (Ev.bind EvS.ld_y (Ev.bind EvS.ld_acc (Ev.bind (EvS.st_acc (accNew I (ex (U f) (t / 4)) σ4.acc σ4.y) ?_ ?_) (Ev.pure ?_))))))))
      · intro i; exact accNew_at _ _ _ i
      · intro a b ha hb hn
        exact absurd ⟨⟨Nat.zero_le _, by simpa using ha⟩, Nat.zero_le _, by simpa using hb⟩ hn
      · refine hK _ fun a b ha hb => ?_
        rw [hJ.1, hJ.2]
        rw [show accS I (U f) (t + 1) = accNew I (ex (U f) (t / 4)) (accS I (U f) t) (yS I (U f) (t + 1)) from if_pos h3]
        unfold accNew
        rw [allV_congr hY', allV_congr hM.acc]
    · refine Ev.ite_neg (by rw [h6]; exact fun h => h3 (of_decide_eq_true h)) ?_
      refine Ev.pure ?_
      refine (show { σ4 with acc := σ1.acc } = σ4 by rw [← hJ.2]) ▸ hK σ1.acc fun a b ha hb => ?_
      rw [show accS I (U f) (t + 1) = accS I (U f) t from if_neg h3]
      exact hM.acc a b ha hb

end Cert.Kernel.Moe
-- ==== Proof.K.Body.lean ====
/-
  The whole kernel: the used experts, the first transfers, the loop, the result.
-/
module

public import proofs.«01_k».proof.Proof.K.Step

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}
variable {w0 : A0.IsWhole} {w1 : A1.IsWhole} {w2 : A2.IsWhole} {w3 : A3.IsWhole} {w4 : A4.IsWhole} {w5 : A5.IsWhole} {w6 : A6.IsWhole} {w7 : A7.IsWhole} {w8 : A8.IsWhole} {w9 : A9.IsWhole} {w10 : A10.IsWhole} {w11 : A11.IsWhole} {w12 : A12.IsWhole} {w13 : A13.IsWhole} {w14 : A14.IsWhole} {w15 : A15.IsWhole}

theorem Ev.forFrom {n : ℕ} {β : Type} {Q : β → St F → Prop} (body : Fin n → β → P (F := F) β) (V : ℕ → St F → Prop)
    (hb : ∀ (t : Fin n) b σ, V t σ → Ev c I (fun _ σ' => V (t + 1) σ') σ (body t b)) (hQ : ∀ b σ, V n σ → Q b σ) :
    ∀ m k, m = n - k → k ≤ n → ∀ b σ, V k σ → Ev c I Q σ (Scf.forFrom body ((List.finRange n).drop k) b)
  | 0, k, hm, hk, b, σ, h => by
    have e : k = n := by omega
    subst e
    rw [List.drop_eq_nil_of_le (by simp)]
    exact Ev.ret (hQ b σ h)
  | m + 1, k, hm, hk, b, σ, h => by
    have hk' : k < n := by omega
    rw [List.drop_eq_getElem_cons (by simpa using hk'), Scf.forFrom_cons]
    simp only [List.getElem_finRange]
    refine Ev.bindQ (hb ⟨k, hk'⟩ b σ h) fun b' σ' h' => ?_
    exact Ev.forFrom body V hb hQ m (k + 1) (by omega) hk' b' σ' h'

/-- A counted loop, by an invariant. -/
theorem Ev.loop {l : Scf.Loop 32} {hok : l.OK} {β : Type} {Q : β → St F → Prop} {init : β} {body : Fin l.trips → β → P (F := F) β} (V : ℕ → St F → Prop) {σ : St F}
    (h0 : V 0 σ) (hb : ∀ (t : Fin l.trips) b σ, V t σ → Ev c I (fun _ σ' => V (t + 1) σ') σ (body t b)) (hQ : ∀ b σ, V l.trips σ → Q b σ) :
    Ev c I Q σ (Scf.Loop.for l hok init body) := by
  unfold Scf.Loop.for
  rw [Scf.for_eq]
  exact Ev.forFrom body V hb hQ _ 0 rfl (Nat.zero_le _) init σ h0

set_option maxHeartbeats 8000000 in
set_option maxRecDepth 100000 in
set_option pp.maxSteps 60 in
theorem ev150 {σ : St F} : EvS c I σ (k0_part150 A0 w0 A1 w1 A2 w2 A3 w3 A4 w4 A5 w5 A6 w6 A7 w7 A8 w8 A9 w9 A10 w10 A11 w11 A12 w12 A13 w13 A14 w14 A15 w15 cc0_scratch7 cc0_scratch8) ⟨I.iw 0, I.iw 1, I.iw 2, I.iw 3, I.iw 4, I.iw 5, I.iw 6, I.iw 7, I.iw 8, I.iw 9, I.iw 10, usedW I.iw 11, I.iw 11, Scalar.shli 1#32 (I.iw 11)⟩ σ := by
  rw [k0_part150_eq_skeleton]; unfold k0_part150_skel
  iterate 12 refine Ev.bind EvS.sld_iw ?_
  exact Ev.pure ⟨rfl, rfl⟩
set_option maxHeartbeats 8000000 in
set_option maxRecDepth 100000 in
set_option pp.maxSteps 60 in
theorem ev151 {σ : St F} : EvS c I σ (k0_part151 A0 w0 A1 w1 A2 w2 A3 w3 A4 w4 A5 w5 A6 w6 A7 w7 A8 w8 A9 w9 A10 w10 A11 w11 A12 w12 A13 w13 A14 w14 A15 w15 cc0_scratch7 cc0_scratch8 (usedW I.iw 11) (Scalar.shli 1#32 (I.iw 11))) ⟨I.iw 12, I.iw 13, I.iw 14, I.iw 15, I.iw 16, I.iw 17, I.iw 18, I.iw 19, I.iw 20, I.iw 21, I.iw 22, usedW I.iw 23, I.iw 23, Scalar.shli 1#32 (I.iw 23)⟩ σ := by
  rw [k0_part151_eq_skeleton]; unfold k0_part151_skel
  iterate 12 refine Ev.bind EvS.sld_iw ?_
  exact Ev.pure ⟨rfl, rfl⟩
set_option maxHeartbeats 8000000 in
set_option maxRecDepth 100000 in
set_option pp.maxSteps 60 in
theorem ev152 {σ : St F} : EvS c I σ (k0_part152 A0 w0 A1 w1 A2 w2 A3 w3 A4 w4 A5 w5 A6 w6 A7 w7 A8 w8 A9 w9 A10 w10 A11 w11 A12 w12 A13 w13 A14 w14 A15 w15 cc0_scratch7 cc0_scratch8 (usedW I.iw 23) (Scalar.shli 1#32 (I.iw 23))) ⟨I.iw 24, I.iw 25, I.iw 26, I.iw 27, I.iw 28, I.iw 29, I.iw 30, I.iw 31, I.iw 32, I.iw 33, I.iw 34, usedW I.iw 35, I.iw 35, Scalar.shli 1#32 (I.iw 35)⟩ σ := by
  rw [k0_part152_eq_skeleton]; unfold k0_part152_skel
  iterate 12 refine Ev.bind EvS.sld_iw ?_
  exact Ev.pure ⟨rfl, rfl⟩
set_option maxHeartbeats 8000000 in
set_option maxRecDepth 100000 in
set_option pp.maxSteps 60 in
theorem ev153 {σ : St F} : EvS c I σ (k0_part153 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (usedW I.iw 35) (I.iw 35) (Scalar.shli 1#32 (I.iw 35))) ⟨I.iw 36, I.iw 37, I.iw 38, I.iw 39, I.iw 40, I.iw 41, I.iw 42, I.iw 43, I.iw 44, I.iw 45, I.iw 46, usedW I.iw 47, I.iw 47, chk1 I.iw, 1#32⟩ σ := by
  rw [k0_part153_eq_skeleton]; unfold k0_part153_skel
  iterate 12 refine Ev.bind EvS.sld_iw ?_
  refine Ev.assume (chk1 I.iw) ?_
  exact Ev.pure ⟨rfl, rfl⟩
set_option maxHeartbeats 8000000 in
set_option maxRecDepth 100000 in
set_option pp.maxSteps 60 in
theorem ev154 {σ : St F} {hw : k0_chk1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47)} : EvS c I σ (k0_part154 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (usedW I.iw 47) (I.iw 47) hw 1#32) ⟨U I.iw, cntW (U I.iw) 6, 6#32⟩ { σ with ord := ordF (U I.iw) σ.ord 6 } := by
  rw [k0_part154_eq_skeleton]; unfold k0_part154_skel
  iterate 6 refine Ev.bind EvS.sld_ord (Ev.bind EvS.st_ord ?_)
  refine Ev.bind EvS.sld_ord ?_
  exact Ev.pure ⟨rfl, rfl⟩

theorem offS1 : k0_off9 = ![0] ∧ k0_off10 = ![0, 0, 0, 0] ∧ k0_off12 = ![0] ∧ k0_off13 = ![0, 1, 0, 0] ∧ k0_off15 = ![0, 0, 0] ∧ k0_off8 = ![0] := by
  simp only [k0_off9, k0_off10, k0_off12, k0_off13, k0_off15, k0_off8]; decide +kernel
theorem offS1' (e : BitVec 32) : k0_off11 e = ![e.toNat, 0, 256 * 0] ∧ k0_off14 e = ![e.toNat, 0, 1024 + 256 * 0] ∧ k0_off16 e = ![e.toNat, 256 * 0, 0] := ⟨rfl, rfl, rfl⟩
set_option maxHeartbeats 8000000 in
set_option maxRecDepth 100000 in
set_option pp.maxSteps 60 in
theorem evP1 {x : BitVec 32} {hc : k0_cond1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1} {σ : St F} (hg : σ.g = flG (U I.iw) 0 0) (ho : ∀ i, i < cnt (U I.iw) 8 → σ.ord i = BitVec.ofNat 32 (ex (U I.iw) i)) (h : 0 < 4 * cnt (U I.iw) 8) :
    EvS c I σ (k0_part1 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) x hc) ⟨BitVec.ofNat 32 (ex (U I.iw) 0), chk2 I.iw (by rw [exw (by omega)]; exact ex_lt _ (by omega))⟩
      { σ with g := Function.update σ.g (sl 0) (.one (ex (U I.iw) 0) 0) } := by
  have hi : 0 < cnt (U I.iw) 8 := by omega
  have e8 : σ.ord (k0_off8 0) = BitVec.ofNat 32 (ex (U I.iw) 0) := by rw [offS1.2.2.2.2.2]; exact ho _ hi
  rw [k0_part1_eq_skeleton]; unfold k0_part1_skel
  refine Ev.bind EvS.sld_ord ?_
  rw [e8]
  refine Ev.assume (chk2 I.iw (by rw [exw hi]; exact ex_lt _ hi)) ?_
  refine Ev.bind (EvS.startG0 (sl 0) (ex (U I.iw) 0) 0 (gsem_eq _ offS1.1) offS1.2.1 ((offS1' _).1.trans (by rw [exw hi])) ?_) ?_
  · rw [hg]; exact flG_idle _ _ 0 (by omega) (by omega)
  · exact Ev.pure ⟨rfl, rfl⟩

theorem offS2 : k0_off18 = ![1] ∧ k0_off19 = ![1, 0, 0, 0] ∧ k0_off21 = ![1] ∧ k0_off22 = ![1, 1, 0, 0] ∧ k0_off24 = ![1, 0, 0] ∧ k0_off17 = ![0] := by
  simp only [k0_off18, k0_off19, k0_off21, k0_off22, k0_off24, k0_off17]; decide +kernel
theorem offS2' (e : BitVec 32) : k0_off20 e = ![e.toNat, 0, 256 * 1] ∧ k0_off23 e = ![e.toNat, 0, 1024 + 256 * 1] ∧ k0_off25 e = ![e.toNat, 256 * 1, 0] := ⟨rfl, rfl, rfl⟩
set_option maxHeartbeats 8000000 in
set_option maxRecDepth 100000 in
set_option pp.maxSteps 60 in
theorem evP2 {x : BitVec 32} {hc : k0_cond2 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1} {σ : St F} (hg : σ.g = flG (U I.iw) 0 1) (ho : ∀ i, i < cnt (U I.iw) 8 → σ.ord i = BitVec.ofNat 32 (ex (U I.iw) i)) (h : 1 < 4 * cnt (U I.iw) 8) :
    EvS c I σ (k0_part2 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) x hc) ⟨BitVec.ofNat 32 (ex (U I.iw) 0), chk3 I.iw (by rw [exw (by omega)]; exact ex_lt _ (by omega))⟩
      { σ with g := Function.update σ.g (sl 1) (.one (ex (U I.iw) 0) 1) } := by
  have hi : 0 < cnt (U I.iw) 8 := by omega
  have e8 : σ.ord (k0_off17 0) = BitVec.ofNat 32 (ex (U I.iw) 0) := by rw [offS2.2.2.2.2.2]; exact ho _ hi
  rw [k0_part2_eq_skeleton]; unfold k0_part2_skel
  refine Ev.bind EvS.sld_ord ?_
  rw [e8]
  refine Ev.assume (chk3 I.iw (by rw [exw hi]; exact ex_lt _ hi)) ?_
  refine Ev.bind (EvS.startG0 (sl 1) (ex (U I.iw) 0) 1 (gsem_eq _ offS2.1) offS2.2.1 ((offS2' _).1.trans (by rw [exw hi])) ?_) ?_
  · rw [hg]; exact flG_idle _ _ 1 (by omega) (by omega)
  · exact Ev.pure ⟨rfl, rfl⟩

theorem offS3 : k0_off27 = ![2] ∧ k0_off28 = ![2, 0, 0, 0] ∧ k0_off30 = ![2] ∧ k0_off31 = ![2, 1, 0, 0] ∧ k0_off33 = ![2, 0, 0] ∧ k0_off26 = ![0] := by
  simp only [k0_off27, k0_off28, k0_off30, k0_off31, k0_off33, k0_off26]; decide +kernel
theorem offS3' (e : BitVec 32) : k0_off29 e = ![e.toNat, 0, 256 * 2] ∧ k0_off32 e = ![e.toNat, 0, 1024 + 256 * 2] ∧ k0_off34 e = ![e.toNat, 256 * 2, 0] := ⟨rfl, rfl, rfl⟩
set_option maxHeartbeats 8000000 in
set_option maxRecDepth 100000 in
set_option pp.maxSteps 60 in
theorem evP3 {x : BitVec 32} {hc : k0_cond3 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1} {σ : St F} (hg : σ.g = flG (U I.iw) 0 2) (ho : ∀ i, i < cnt (U I.iw) 8 → σ.ord i = BitVec.ofNat 32 (ex (U I.iw) i)) (h : 2 < 4 * cnt (U I.iw) 8) :
    EvS c I σ (k0_part3 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) x hc) ⟨BitVec.ofNat 32 (ex (U I.iw) 0), chk4 I.iw (by rw [exw (by omega)]; exact ex_lt _ (by omega))⟩
      { σ with g := Function.update σ.g (sl 2) (.one (ex (U I.iw) 0) 2) } := by
  have hi : 0 < cnt (U I.iw) 8 := by omega
  have e8 : σ.ord (k0_off26 0) = BitVec.ofNat 32 (ex (U I.iw) 0) := by rw [offS3.2.2.2.2.2]; exact ho _ hi
  rw [k0_part3_eq_skeleton]; unfold k0_part3_skel
  refine Ev.bind EvS.sld_ord ?_
  rw [e8]
  refine Ev.assume (chk4 I.iw (by rw [exw hi]; exact ex_lt _ hi)) ?_
  refine Ev.bind (EvS.startG0 (sl 2) (ex (U I.iw) 0) 2 (gsem_eq _ offS3.1) offS3.2.1 ((offS3' _).1.trans (by rw [exw hi])) ?_) ?_
  · rw [hg]; exact flG_idle _ _ 2 (by omega) (by omega)
  · exact Ev.pure ⟨rfl, rfl⟩

set_option maxHeartbeats 8000000 in
set_option maxRecDepth 100000 in
set_option pp.maxSteps 60 in
theorem ev155 {σ : St F} (hw : k0_chk1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47)) (hg : ∀ s, σ.g s = .idle) (hd : ∀ s, σ.d s = .idle) {o : ℕ → BitVec 32} (ho : σ.ord = ordF (U I.iw) o 6) :
    Ev c I (fun v σ' => Inv I I.iw (4 * cnt (U I.iw) 8) σ') σ (k0_part155 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) hw (U I.iw) (cntW (U I.iw) 6) 6#32) := by
  rw [k0_part155_eq_skeleton]; unfold k0_part155_skel
  refine Ev.bind EvS.st_ord (Ev.bind EvS.sld_ord (Ev.bind EvS.st_ord ?_))
  refine Ev.cast (σ' := { σ with ord := ordF (U I.iw) o 8, g := flG (U I.iw) 0 0, d := flD (U I.iw) 0 0 }) ?_ ?_
  · rw [flG_zero, flD_zero, ← funext hg, ← funext hd, ho]
    cases σ; cases ho; rfl
  have hor : ∀ i, i < cnt (U I.iw) 8 → ordF (U I.iw) o 8 i = BitVec.ofNat 32 (ex (U I.iw) i) := fun i h => ord_ex _ _ h
  extract_lets; rename_i jp3 _ _ _ _ _ _ _ _ jp2 _ _ _ _ _ _ _ _ jp1 _ _ _ _ _ _ _ _
  have hj3 : Ev c I (fun v σ' => Inv I I.iw (4 * cnt (U I.iw) 8) σ')
      { σ with ord := ordF (U I.iw) o 8, g := flG (U I.iw) 0 3, d := flD (U I.iw) 0 3 } (jp3 ⟨⟩) := by
    simp only [jp3]
    refine Ev.bind EvS.ld_acc (Ev.bind (EvS.st_acc (zeroF F) (fun i => rfl) ?_) ?_)
    · intro a b ha hb hn
      exact absurd ⟨⟨Nat.zero_le _, by simpa using ha⟩, Nat.zero_le _, by simpa using hb⟩ hn
    refine Ev.bindQ (Ev.loop (Q := fun _ σ' => Inv I I.iw (4 * cnt (U I.iw) 8) σ') (Inv I I.iw) ?_ (fun t b σ' h => evTrip t hw _ _ _ _ b h) ?_) fun v σ' h => ?_
    · exact ⟨rfl, rfl, hor, fun h => absurd rfl h, fun h => absurd rfl h, fun h => absurd rfl h, fun a b _ _ => rfl⟩
    · intro b σ' h; rw [← t1_trips I.iw]; exact h
    · refine Ev.bindQ (Ev.loop (Q := fun _ σ' => Inv I I.iw (4 * cnt (U I.iw) 8) σ') (fun _ => Inv I I.iw (4 * cnt (U I.iw) 8)) h (fun t => t2_no I.iw t) fun b σ' h => h) fun v σ' h => ?_
      exact Ev.pure h
  clear_value jp3
  have hj2 : Ev c I (fun v σ' => Inv I I.iw (4 * cnt (U I.iw) 8) σ')
      { σ with ord := ordF (U I.iw) o 8, g := flG (U I.iw) 0 2, d := flD (U I.iw) 0 2 } (jp2 ⟨⟩) := by
    simp only [jp2]
    by_cases hc : k0_cond3 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1
    · have h : 2 < 4 * cnt (U I.iw) 8 := (cond3_iff I.iw).1 hc
      have hi : 0 < cnt (U I.iw) 8 := by omega
      refine Ev.ite_pos hc ?_
      refine Ev.bind (evP3 rfl hor h) ?_
      refine Ev.bind (EvS.startG1 (sl 2) (ex (U I.iw) 0) 2 (gsem_eq _ offS3.2.2.1) offS3.2.2.2.1 ((offS3' _).2.1.trans (by rw [exw hi])) (by simp only [Function.update_self])) ?_
      refine Ev.bind (EvS.startD (sl 2) (ex (U I.iw) 0) 2 (dsem_eq _ offS3.2.2.1) offS3.2.2.2.2.1 ((offS3' _).2.2.trans (by rw [exw hi])) ?_) ?_
      · exact flD_idle (U I.iw) 0 2 (by omega) (by omega)
      · refine Ev.cast ?_ hj3
        have e1 := flG_start (U I.iw) 0 2 (by omega) (by omega) h
        have e2 := flD_start (U I.iw) 0 2 (by omega) (by omega) h
        show ({ σ with ord := ordF (U I.iw) o 8, g := Function.update (Function.update (flG (U I.iw) 0 2) (sl 2) _) (sl 2) (.fly (ex (U I.iw) (2 / 4)) (2 % 4)), d := Function.update (flD (U I.iw) 0 2) (sl 2) (.fly (ex (U I.iw) (2 / 4)) (2 % 4)) } : St F) = _
        rw [Function.update_idem, e1, e2]
    · have h : ¬ 2 < 4 * cnt (U I.iw) 8 := fun h => hc ((cond3_iff I.iw).2 h)
      refine Ev.ite_neg hc ?_
      refine Ev.cast ?_ hj3
      rw [flG_skip _ 0 2 h, flD_skip _ 0 2 h]
  clear_value jp2
  have hj1 : Ev c I (fun v σ' => Inv I I.iw (4 * cnt (U I.iw) 8) σ')
      { σ with ord := ordF (U I.iw) o 8, g := flG (U I.iw) 0 1, d := flD (U I.iw) 0 1 } (jp1 ⟨⟩) := by
    simp only [jp1]
    by_cases hc : k0_cond2 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1
    · have h : 1 < 4 * cnt (U I.iw) 8 := (cond2_iff I.iw).1 hc
      have hi : 0 < cnt (U I.iw) 8 := by omega
      refine Ev.ite_pos hc ?_
      refine Ev.bind (evP2 rfl hor h) ?_
      refine Ev.bind (EvS.startG1 (sl 1) (ex (U I.iw) 0) 1 (gsem_eq _ offS2.2.2.1) offS2.2.2.2.1 ((offS2' _).2.1.trans (by rw [exw hi])) (by simp only [Function.update_self])) ?_
      refine Ev.bind (EvS.startD (sl 1) (ex (U I.iw) 0) 1 (dsem_eq _ offS2.2.2.1) offS2.2.2.2.2.1 ((offS2' _).2.2.trans (by rw [exw hi])) ?_) ?_
      · exact flD_idle (U I.iw) 0 1 (by omega) (by omega)
      · refine Ev.cast ?_ hj2
        have e1 := flG_start (U I.iw) 0 1 (by omega) (by omega) h
        have e2 := flD_start (U I.iw) 0 1 (by omega) (by omega) h
        show ({ σ with ord := ordF (U I.iw) o 8, g := Function.update (Function.update (flG (U I.iw) 0 1) (sl 1) _) (sl 1) (.fly (ex (U I.iw) (1 / 4)) (1 % 4)), d := Function.update (flD (U I.iw) 0 1) (sl 1) (.fly (ex (U I.iw) (1 / 4)) (1 % 4)) } : St F) = _
        rw [Function.update_idem, e1, e2]
    · have h : ¬ 1 < 4 * cnt (U I.iw) 8 := fun h => hc ((cond2_iff I.iw).2 h)
      refine Ev.ite_neg hc ?_
      refine Ev.cast ?_ hj2
      rw [flG_skip _ 0 1 h, flD_skip _ 0 1 h]
  clear_value jp1
  by_cases hc : k0_cond1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1
  · have h : 0 < 4 * cnt (U I.iw) 8 := (cond1_iff I.iw).1 hc
    have hi : 0 < cnt (U I.iw) 8 := by omega
    refine Ev.ite_pos hc ?_
    refine Ev.bind (evP1 rfl hor h) ?_
    refine Ev.bind (EvS.startG1 (sl 0) (ex (U I.iw) 0) 0 (gsem_eq _ offS1.2.2.1) offS1.2.2.2.1 ((offS1' _).2.1.trans (by rw [exw hi])) (by simp only [Function.update_self])) ?_
    refine Ev.bind (EvS.startD (sl 0) (ex (U I.iw) 0) 0 (dsem_eq _ offS1.2.2.1) offS1.2.2.2.2.1 ((offS1' _).2.2.trans (by rw [exw hi])) ?_) ?_
    · exact flD_idle (U I.iw) 0 0 (by omega) (by omega)
    · refine Ev.cast ?_ hj1
      have e1 := flG_start (U I.iw) 0 0 (by omega) (by omega) h
      have e2 := flD_start (U I.iw) 0 0 (by omega) (by omega) h
      show ({ σ with ord := ordF (U I.iw) o 8, g := Function.update (Function.update (flG (U I.iw) 0 0) (sl 0) _) (sl 0) (.fly (ex (U I.iw) (0 / 4)) (0 % 4)), d := Function.update (flD (U I.iw) 0 0) (sl 0) (.fly (ex (U I.iw) (0 / 4)) (0 % 4)) } : St F) = _
      rw [Function.update_idem, e1, e2]
  · have h : ¬ 0 < 4 * cnt (U I.iw) 8 := fun h => hc ((cond1_iff I.iw).2 h)
    refine Ev.ite_neg hc ?_
    refine Ev.cast ?_ hj1
    rw [flG_skip _ 0 0 h, flD_skip _ 0 0 h]

/-- The kernel's result. -/
def outV (I : Inp F) : FVec F S24x5120 .bf16 := k0_pay1 (allV (accS I (U I.iw) (4 * cnt (U I.iw) 8)))
/-- The same by coordinates. -/
def outF (I : Inp F) (a b : ℕ) : Elt F .bf16 := if h : a < 24 ∧ b < 5120 then outV I (ix2 ⟨a, h.1⟩ ⟨b, h.2⟩) else FloatOps.ofBits .bf16 0#16

set_option maxHeartbeats 8000000 in
set_option maxRecDepth 100000 in
set_option pp.maxSteps 60 in
theorem evBody {σ : St F} (hg : ∀ s, σ.g s = .idle) (hd : ∀ s, σ.d s = .idle) :
    Ev c I (fun _ σ' => (∀ s, σ'.g s = .idle) ∧ (∀ s, σ'.d s = .idle) ∧ σ'.out = outF I) σ (cc0_moe_swiglu A0 w0 A1 w1 A2 w2 A3 w3 A4 w4 A5 w5 A6 w6 A7 w7 A8 w8 A9 w9 A10 w10 A11 w11 A12 w12 A13 w13 A14 w14 A15 w15 cc0_scratch7 cc0_scratch8) := by
  rw [cc0_moe_swiglu_eq_skeleton]; unfold cc0_moe_swiglu_skel
  refine Ev.bind ev150 (Ev.bind ev151 (Ev.bind ev152 (Ev.bind ev153 (Ev.bind ev154 ?_))))
  refine Ev.bindQ (ev155 (chk1 I.iw) hg hd rfl) fun v σ' h => ?_
  refine Ev.bind EvS.ld_acc (Ev.bind EvS.ld_out (Ev.bind (EvS.st_out (outF I) ?_ ?_) (Ev.pure ?_)))
  · intro i
    unfold outF
    have h0 : (i 0 : ℕ) < 24 := (i 0).2
    have h1 : (i 1 : ℕ) < 5120 := (i 1).2
    rw [dif_pos ⟨by show 0 + (i 0 : ℕ) < 24; omega, by show 0 + (i 1 : ℕ) < 5120; omega⟩]
    unfold outV
    rw [← allV_congr h.acc]
    refine congrArg (k0_pay1 (allV σ'.acc)) ?_
    exact (congrArg₂ ix2 (Fin.ext (Nat.zero_add _)) (Fin.ext (Nat.zero_add _))).trans (eq_ix2 i).symm
  · intro a b ha hb hn
    exact absurd ⟨⟨Nat.zero_le _, by simpa using ha⟩, Nat.zero_le _, by simpa using hb⟩ hn
  · refine ⟨fun s => ?_, fun s => ?_, rfl⟩
    · show σ'.g s = _; rw [h.g, flG_end _ _ _ (Nat.le_refl _)]
    · show σ'.d s = _; rw [h.d, flD_end _ _ _ (Nat.le_refl _)]

end Cert.Kernel.Moe
-- ==== Proof.K.Split.lean ====
/-
  The buffers, shares and counters of the kernel taken apart and put together.
-/
module

public import proofs.«01_k».proof.Proof.K.Body

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## Arrays by coordinates -/

section ext
variable {α : Type} [Nonempty α]
def ext1 {n : ℕ} (f : (⟨1, ![n]⟩ : Shape).Idx → α) (a : ℕ) : α := if h : a < n then f (ix1 ⟨a, h⟩) else Classical.arbitrary α
def ext2 {n k : ℕ} (f : (⟨2, ![n, k]⟩ : Shape).Idx → α) (a b : ℕ) : α :=
  if h : a < n ∧ b < k then f (ix2 ⟨a, h.1⟩ ⟨b, h.2⟩) else Classical.arbitrary α
def ext3 {n k l : ℕ} (f : (⟨3, ![n, k, l]⟩ : Shape).Idx → α) (a b d : ℕ) : α :=
  if h : a < n ∧ b < k ∧ d < l then f (ix3 ⟨a, h.1⟩ ⟨b, h.2.1⟩ ⟨d, h.2.2⟩) else Classical.arbitrary α
theorem ext1_eq {n : ℕ} (f : (⟨1, ![n]⟩ : Shape).Idx → α) : (fun i => ext1 f (i 0)) = f := by
  funext i
  have h : ((i 0 : Fin n) : ℕ) < n := (i 0).2
  unfold ext1; rw [dif_pos h]; exact congrArg f (eq_ix1 i).symm
theorem ext2_eq {n k : ℕ} (f : (⟨2, ![n, k]⟩ : Shape).Idx → α) : (fun i => ext2 f (i 0) (i 1)) = f := by
  funext i
  have h : ((i 0 : Fin n) : ℕ) < n ∧ ((i 1 : Fin k) : ℕ) < k := ⟨(i 0).2, (i 1).2⟩
  unfold ext2; rw [dif_pos h]; exact congrArg f (eq_ix2 i).symm
theorem ext3_eq {n k l : ℕ} (f : (⟨3, ![n, k, l]⟩ : Shape).Idx → α) : (fun i => ext3 f (i 0) (i 1) (i 2)) = f := by
  funext i
  have h : ((i 0 : Fin n) : ℕ) < n ∧ ((i 1 : Fin k) : ℕ) < k ∧ ((i 2 : Fin l) : ℕ) < l := ⟨(i 0).2, (i 1).2, (i 2).2⟩
  unfold ext3; rw [dif_pos h]; exact congrArg f (eq_ix3 i).symm
end ext

instance : Nonempty (Elt F .bf16) := Elt.nonempty F _
instance : Nonempty (Elt F .f32) := Elt.nonempty F _
instance : Nonempty (Elt F .fp8e4m3) := Elt.nonempty F _

/-! ## Shares and parts -/

variable {c : Dev nD} {I : Inp F}

section shares
variable {ℓ : Loc nD τ sig} {S : Finset (Idx ℓ)} {f : Buf (Elt F) ℓ}

theorem quad (q : PosShare TreeShare) : (ℓ ↦[S]{q} f : sProp 𝕄) ⊣⊢
    iprop((ℓ ↦[S]{q.left.left} f) ∗ (ℓ ↦[S]{q.left.right} f) ∗ (ℓ ↦[S]{q.right.left} f) ∗ (ℓ ↦[S]{q.right.right} f)) := by
  constructor
  · iintro H
    ihave H2 := (pointsTo_share (PosShare.mem_left_op_right q)).1 $$ H
    icases H2 with ⟨Hl, Hr⟩
    ihave H3 := (pointsTo_share (PosShare.mem_left_op_right q.left)).1 $$ Hl
    icases H3 with ⟨Hll, Hlr⟩
    ihave H4 := (pointsTo_share (PosShare.mem_left_op_right q.right)).1 $$ Hr
    icases H4 with ⟨Hrl, Hrr⟩
    isplitl [Hll]; · iexact Hll
    isplitl [Hlr]; · iexact Hlr
    isplitl [Hrl]; · iexact Hrl
    iexact Hrr
  · iintro ⟨H1, H2, H3, H4⟩
    iapply (pointsTo_share (PosShare.mem_left_op_right q)).2
    isplitl [H1 H2]
    · iapply (pointsTo_share (PosShare.mem_left_op_right q.left)).2
      isplitl [H1]; · iexact H1
      iexact H2
    · iapply (pointsTo_share (PosShare.mem_left_op_right q.right)).2
      isplitl [H3]; · iexact H3
      iexact H4
end shares

theorem wgu_shares : (A6.view.loc (c : Thread nD τ) ↦[Finset.univ]{fullShare} wguC I : sProp 𝕄) ⊣⊢
    iprop((allG c I 0 0 ∗ allG c I 0 1 ∗ allG c I 1 0 ∗ allG c I 1 1) ∗ (allG c I 2 0 ∗ allG c I 2 1 ∗ allG c I 3 0 ∗ allG c I 3 1)) := by
  constructor
  · iintro H
    ihave H2 := (pointsTo_share (PosShare.mem_left_op_right fullShare)).1 $$ H
    icases H2 with ⟨Hl, Hr⟩
    isplitl [Hl]
    · iapply (quad fullShare.left).1; iexact Hl
    · iapply (quad fullShare.right).1; iexact Hr
  · iintro ⟨Hl, Hr⟩
    iapply (pointsTo_share (PosShare.mem_left_op_right fullShare)).2
    isplitl [Hl]
    · iapply (quad fullShare.left).2; iexact Hl
    · iapply (quad fullShare.right).2; iexact Hr

theorem wd_shares : (A7.view.loc (c : Thread nD τ) ↦[Finset.univ]{fullShare} wdC I : sProp 𝕄) ⊣⊢
    iprop(allD c I 0 ∗ allD c I 1 ∗ allD c I 2 ∗ allD c I 3) := quad fullShare

theorem gset_disj (t t' : Fin 4 × Fin 2) (h : t ≠ t') : Disjoint (gset t.1 t.2) (gset t'.1 t'.2) := by
  refine Finset.disjoint_left.mpr fun i hi hi' => h ?_
  simp only [gset, Finset.mem_filter] at hi hi'
  exact Prod.ext (Fin.ext (hi.2.1.symm.trans hi'.2.1)) (Fin.ext (hi.2.2.symm.trans hi'.2.2))
theorem gset_univ : (Finset.univ : Finset (Fin 4 × Fin 2)).biUnion (fun t => gset t.1 t.2) = Finset.univ := by
  refine Finset.eq_univ_of_forall fun i => Finset.mem_biUnion.mpr ⟨(i 0, i 1), Finset.mem_univ _, ?_⟩
  exact Finset.mem_filter.mpr ⟨Finset.mem_univ _, rfl, rfl⟩
theorem dset_disj (t t' : Fin 4) (h : t ≠ t') : Disjoint (dset t) (dset t') := by
  refine Finset.disjoint_left.mpr fun i hi hi' => h ?_
  simp only [dset, Finset.mem_filter] at hi hi'
  exact Fin.ext (hi.2.symm.trans hi'.2)
theorem dset_univ : (Finset.univ : Finset (Fin 4)).biUnion dset = Finset.univ := by
  refine Finset.eq_univ_of_forall fun i => Finset.mem_biUnion.mpr ⟨i 0, Finset.mem_univ _, ?_⟩
  exact Finset.mem_filter.mpr ⟨Finset.mem_univ _, rfl⟩

theorem seq8 (Φ : Fin 4 × Fin 2 → sProp 𝕄) : bigSep Finset.univ Φ =
    iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
theorem seq4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem gbuf_split (f : S4x2x5120x256.Idx → Elt F .fp8e4m3) : (pt c A9 f : sProp 𝕄) ⊢
    iprop(anyG c 0 0 ∗ anyG c 0 1 ∗ anyG c 1 0 ∗ anyG c 1 1 ∗ anyG c 2 0 ∗ anyG c 2 1 ∗ anyG c 3 0 ∗ anyG c 3 1) := by
  have e : (pt c A9 f : sProp 𝕄) = bigSep Finset.univ (fun t : Fin 4 × Fin 2 => A9.view.loc (c : Thread nD τ) ↦[gset t.1 t.2]{fullShare} f) :=
    (congrArg (fun S => (A9.view.loc (c : Thread nD τ) ↦[S]{fullShare} f : sProp 𝕄)) gset_univ.symm).trans
      (pointsTo_biUnion _ _ fun t _ t' _ h => gset_disj t t' h)
  rw [e, seq8]
  iintro ⟨H0, H1, H2, H3, H4, H5, H6, H7⟩
  unfold anyG
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

theorem gbuf_join : iprop(anyG c 0 0 ∗ anyG c 0 1 ∗ anyG c 1 0 ∗ anyG c 1 1 ∗ anyG c 2 0 ∗ anyG c 2 1 ∗ anyG c 3 0 ∗ anyG c 3 1) ⊢
    (iprop(∃ f : S4x2x5120x256.Idx → Elt F .fp8e4m3, pt c A9 f) : sProp 𝕄) := by
  unfold anyG
  iintro ⟨⟨%f0, H0⟩, ⟨%f1, H1⟩, ⟨%f2, H2⟩, ⟨%f3, H3⟩, ⟨%f4, H4⟩, ⟨%f5, H5⟩, ⟨%f6, H6⟩, ⟨%f7, H7⟩⟩
  have j := pointsTo_biUnion_join (Ix := Unit) (Name := ℕ) (U := Pipeline.UD sig nD τ) (Lvl := ℕ) (q := fullShare) (ℓ := A9.view.loc (c : Thread nD τ)) (Finset.univ : Finset (Fin 4 × Fin 2)) (fun t => gset t.1 t.2)
    (fun t => (![![f0, f1], ![f2, f3], ![f4, f5], ![f6, f7]] : Fin 4 → Fin 2 → S4x2x5120x256.Idx → Elt F .fp8e4m3) t.1 t.2) f0 (fun t _ t' _ h => gset_disj t t' h)
  rw [seq8, gset_univ] at j
  ihave Hj := j $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hj with ⟨%g, -, Hg⟩
  iexists g; iexact Hg

theorem dbuf_split (f : S4x256x5120.Idx → Elt F .fp8e4m3) : (pt c A10 f : sProp 𝕄) ⊢
    iprop(anyD c 0 ∗ anyD c 1 ∗ anyD c 2 ∗ anyD c 3) := by
  have e : (pt c A10 f : sProp 𝕄) = bigSep Finset.univ (fun t : Fin 4 => A10.view.loc (c : Thread nD τ) ↦[dset t]{fullShare} f) :=
    (congrArg (fun S => (A10.view.loc (c : Thread nD τ) ↦[S]{fullShare} f : sProp 𝕄)) dset_univ.symm).trans
      (pointsTo_biUnion _ _ fun t _ t' _ h => dset_disj t t' h)
  rw [e, seq4]
  iintro ⟨H0, H1, H2, H3⟩
  unfold anyD
  isplitl [H0]; · iexists f; iexact H0
  isplitl [H1]; · iexists f; iexact H1
  isplitl [H2]; · iexists f; iexact H2
  iexists f; iexact H3

theorem dbuf_join : iprop(anyD c 0 ∗ anyD c 1 ∗ anyD c 2 ∗ anyD c 3) ⊢
    (iprop(∃ f : S4x256x5120.Idx → Elt F .fp8e4m3, pt c A10 f) : sProp 𝕄) := by
  unfold anyD
  iintro ⟨⟨%f0, H0⟩, ⟨%f1, H1⟩, ⟨%f2, H2⟩, ⟨%f3, H3⟩⟩
  have j := pointsTo_biUnion_join (Ix := Unit) (Name := ℕ) (U := Pipeline.UD sig nD τ) (Lvl := ℕ) (q := fullShare) (ℓ := A10.view.loc (c : Thread nD τ)) (Finset.univ : Finset (Fin 4)) dset
    (![f0, f1, f2, f3] : Fin 4 → S4x256x5120.Idx → Elt F .fp8e4m3) f0 (fun t _ t' _ h => dset_disj t t' h)
  rw [seq4, dset_univ] at j
  ihave Hj := j $$ [H0 H1 H2 H3]
  · isplitl [H0]; · iexact H0
    isplitl [H1]; · iexact H1
    isplitl [H2]; · iexact H2
    iexact H3
  icases Hj with ⟨%g, -, Hg⟩
  iexists g; iexact Hg

/-! ## The whole state with nothing in flight -/

/-- The eight counters at zero. -/
abbrev sems (c : Dev nD) : sProp 𝕄 :=
  iprop(semVal ((c : Thread nD τ), SemLoc.dma (gsem 0)) 0 ∗ semVal ((c : Thread nD τ), SemLoc.dma (gsem 1)) 0
    ∗ semVal ((c : Thread nD τ), SemLoc.dma (gsem 2)) 0 ∗ semVal ((c : Thread nD τ), SemLoc.dma (gsem 3)) 0
    ∗ semVal ((c : Thread nD τ), SemLoc.dma (dsem 0)) 0 ∗ semVal ((c : Thread nD τ), SemLoc.dma (dsem 1)) 0
    ∗ semVal ((c : Thread nD τ), SemLoc.dma (dsem 2)) 0 ∗ semVal ((c : Thread nD τ), SemLoc.dma (dsem 3)) 0)

theorem Res_eq (σ : St F) : Res c I σ = iprop(comp c I σ .iw ∗ comp c I σ .x ∗ comp c I σ .ids ∗ comp c I σ .wts ∗ comp c I σ .sgu ∗ comp c I σ .sd
    ∗ comp c I σ .out ∗ comp c I σ .sg ∗ comp c I σ .sx ∗ comp c I σ .acc ∗ comp c I σ .y ∗ comp c I σ .ord ∗ comp c I σ .owes
    ∗ gP c I 0 (σ.g 0) ∗ gP c I 1 (σ.g 1) ∗ gP c I 2 (σ.g 2) ∗ gP c I 3 (σ.g 3)
    ∗ dP c I 0 (σ.d 0) ∗ dP c I 1 (σ.d 1) ∗ dP c I 2 (σ.d 2) ∗ dP c I 3 (σ.d 3)) :=
  bigSep_univ_eq_bigSepL ([.iw, .x, .ids, .wts, .sgu, .sd, .out, .sg, .sx, .acc, .y, .ord, .owes, .g 0, .g 1, .g 2, .g 3, .d 0, .d 1, .d 2, .d 3] : List Piece)
    (by decide) (by decide) _

/-- What the kernel is given, and gives back. -/
abbrev Idle (c : Dev nD) (I : Inp F) (σ : St F) : sProp 𝕄 :=
  iprop((comp c I σ .iw ∗ comp c I σ .x ∗ comp c I σ .ids ∗ comp c I σ .wts ∗ comp c I σ .sgu ∗ comp c I σ .sd
    ∗ comp c I σ .out ∗ comp c I σ .sg ∗ comp c I σ .sx ∗ comp c I σ .acc ∗ comp c I σ .y ∗ comp c I σ .ord ∗ comp c I σ .owes)
    ∗ (∃ f : S4x2x5120x256.Idx → Elt F .fp8e4m3, pt c A9 f) ∗ (∃ f : S4x256x5120.Idx → Elt F .fp8e4m3, pt c A10 f)
    ∗ pt c A6 (wguC I) ∗ pt c A7 (wdC I) ∗ sems c)

theorem Res_idle {σ : St F} (hg : ∀ s, σ.g s = .idle) (hd : ∀ s, σ.d s = .idle) : Res c I σ ⊣⊢ Idle c I σ := by
  rw [Res_eq, hg, hg, hg, hg, hd, hd, hd, hd]
  unfold gP dP
  constructor
  · iintro ⟨P0, P1, P2, P3, P4, P5, P6, P7, P8, P9, P10, P11, P12, ⟨S0, G00, G01, W00, W01⟩, ⟨S1, G10, G11, W10, W11⟩, ⟨S2, G20, G21, W20, W21⟩, ⟨S3, G30, G31, W30, W31⟩,
      ⟨T0, D0, V0⟩, ⟨T1, D1, V1⟩, ⟨T2, D2, V2⟩, ⟨T3, D3, V3⟩⟩
    isplitl [P0 P1 P2 P3 P4 P5 P6 P7 P8 P9 P10 P11 P12]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [G00 G01 G10 G11 G20 G21 G30 G31]
    · iapply gbuf_join
      isplitl [G00]; · iexact G00
      isplitl [G01]; · iexact G01
      isplitl [G10]; · iexact G10
      isplitl [G11]; · iexact G11
      isplitl [G20]; · iexact G20
      isplitl [G21]; · iexact G21
      isplitl [G30]; · iexact G30
      iexact G31
    isplitl [D0 D1 D2 D3]
    · iapply dbuf_join
      isplitl [D0]; · iexact D0
      isplitl [D1]; · iexact D1
      isplitl [D2]; · iexact D2
      iexact D3
    isplitl [W00 W01 W10 W11 W20 W21 W30 W31]
    · iapply (wgu_shares (c := c) (I := I)).2
      isplitl [W00 W01 W10 W11]
      · isplitl [W00]; · iexact W00
        isplitl [W01]; · iexact W01
        isplitl [W10]; · iexact W10
        iexact W11
      · isplitl [W20]; · iexact W20
        isplitl [W21]; · iexact W21
        isplitl [W30]; · iexact W30
        iexact W31
    isplitl [V0 V1 V2 V3]
    · iapply (wd_shares (c := c) (I := I)).2
      isplitl [V0]; · iexact V0
      isplitl [V1]; · iexact V1
      isplitl [V2]; · iexact V2
      iexact V3
    isplitl [S0]; · iexact S0
    isplitl [S1]; · iexact S1
    isplitl [S2]; · iexact S2
    isplitl [S3]; · iexact S3
    isplitl [T0]; · iexact T0
    isplitl [T1]; · iexact T1
    isplitl [T2]; · iexact T2
    iexact T3
  · iintro ⟨⟨P0, P1, P2, P3, P4, P5, P6, P7, P8, P9, P10, P11, P12⟩, ⟨%f, G⟩, ⟨%g, D⟩, W, V, ⟨S0, S1, S2, S3, T0, T1, T2, T3⟩⟩
    ihave G := (gbuf_split (c := c) f) $$ G
    icases G with ⟨G00, G01, G10, G11, G20, G21, G30, G31⟩
    ihave D := (dbuf_split (c := c) g) $$ D
    icases D with ⟨D0, D1, D2, D3⟩
    ihave W := (wgu_shares (c := c) (I := I)).1 $$ W
    icases W with ⟨⟨W00, W01, W10, W11⟩, ⟨W20, W21, W30, W31⟩⟩
    ihave V := (wd_shares (c := c) (I := I)).1 $$ V
    icases V with ⟨V0, V1, V2, V3⟩
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [S0 G00 G01 W00 W01]
    · isplitl [S0]; · iexact S0
      isplitl [G00]; · iexact G00
      isplitl [G01]; · iexact G01
      isplitl [W00]; · iexact W00
      iexact W01
    isplitl [S1 G10 G11 W10 W11]
    · isplitl [S1]; · iexact S1
      isplitl [G10]; · iexact G10
      isplitl [G11]; · iexact G11
      isplitl [W10]; · iexact W10
      iexact W11
    isplitl [S2 G20 G21 W20 W21]
    · isplitl [S2]; · iexact S2
      isplitl [G20]; · iexact G20
      isplitl [G21]; · iexact G21
      isplitl [W20]; · iexact W20
      iexact W21
    isplitl [S3 G30 G31 W30 W31]
    · isplitl [S3]; · iexact S3
      isplitl [G30]; · iexact G30
      isplitl [G31]; · iexact G31
      isplitl [W30]; · iexact W30
      iexact W31
    isplitl [T0 D0 V0]
    · isplitl [T0]; · iexact T0
      isplitl [D0]; · iexact D0
      iexact V0
    isplitl [T1 D1 V1]
    · isplitl [T1]; · iexact T1
      isplitl [D1]; · iexact D1
      iexact V1
    isplitl [T2 D2 V2]
    · isplitl [T2]; · iexact T2
      isplitl [D2]; · iexact D2
      iexact V2
    isplitl [T3]; · iexact T3
    isplitl [D3]; · iexact D3
    iexact V3

end Cert.Kernel.Moe
-- ==== Proof.K.Frame.lean ====
/-
  The kernel runs and leaves its arguments unchanged; its result named.
-/
module

public import proofs.«01_k».proof.Proof.K.Split
public import Idealize.ShloMosaic.Lib.Pipeline.FrameBody
public import proofs.«01_k».proof.Proof.Gen.Kernel.Frame

@[expose] public section

noncomputable section

namespace Cert.Kernel.Moe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the kernel reads -/

def vIW (c : Dev nD) : S48.Idx → Elt F .i32 := V m c main_v1
def vX (c : Dev nD) : S24x5120.Idx → Elt F .bf16 := V m c main_v2
def vIds (c : Dev nD) : S24x2.Idx → Elt F .i32 := V m c main_v0
def vWts (c : Dev nD) : S24x2.Idx → Elt F .f32 := V m c main_v3
def vSgu (c : Dev nD) : S8x40x16.Idx → Elt F .f32 := V m c main_arg4
def vSd (c : Dev nD) : S8x8x40.Idx → Elt F .f32 := V m c main_arg6
def vWgu (c : Dev nD) : S8x5120x2048.Idx → Elt F .fp8e4m3 := V m c main_arg3
def vWd (c : Dev nD) : S8x1024x5120.Idx → Elt F .fp8e4m3 := V m c main_arg5

/-- The arrays the kernel reads, by coordinates. -/
def inp (c : Dev nD) : Inp F where
  iw := ext1 (vIW m c)
  x := ext2 (vX m c)
  ids := ext2 (vIds m c)
  wts := ext2 (vWts m c)
  sgu := ext3 (vSgu m c)
  sd := ext3 (vSd m c)
  wgu := ext3 (vWgu m c)
  wd := ext3 (vWd m c)

theorem emb0 (t : Fin cfg0.N) (j : S48.Idx) : ((cfg0.win 0).blk t).view.emb j = j := by
  funext a; apply Fin.ext
  match a with
  | ⟨0, _⟩ => show 0 * 48 + 1 * (j 0).val = (j 0).val; omega
theorem iblk0_eq (c : Dev nD) (t : Fin cfg0.N) : iblk m c 0 t = vIW m c := by
  funext j; show V m c main_v1 (((cfg0.win 0).blk t).view.emb j) = V m c main_v1 j; rw [emb0]
theorem emb1 (t : Fin cfg0.N) (j : S24x5120.Idx) : ((cfg0.win 1).blk t).view.emb j = j := by
  funext a; apply Fin.ext
  match a with
  | ⟨0, _⟩ => show 0 * 24 + 1 * (j 0).val = (j 0).val; omega
  | ⟨1, _⟩ => show 0 * 5120 + 1 * (j 1).val = (j 1).val; omega
theorem iblk1_eq (c : Dev nD) (t : Fin cfg0.N) : iblk m c 1 t = vX m c := by
  funext j; show V m c main_v2 (((cfg0.win 1).blk t).view.emb j) = V m c main_v2 j; rw [emb1]
theorem emb2 (t : Fin cfg0.N) (j : S24x2.Idx) : ((cfg0.win 2).blk t).view.emb j = j := by
  funext a; apply Fin.ext
  match a with
  | ⟨0, _⟩ => show 0 * 24 + 1 * (j 0).val = (j 0).val; omega
  | ⟨1, _⟩ => show 0 * 2 + 1 * (j 1).val = (j 1).val; omega
theorem iblk2_eq (c : Dev nD) (t : Fin cfg0.N) : iblk m c 2 t = vIds m c := by
  funext j; show V m c main_v0 (((cfg0.win 2).blk t).view.emb j) = V m c main_v0 j; rw [emb2]
theorem emb3 (t : Fin cfg0.N) (j : S24x2.Idx) : ((cfg0.win 3).blk t).view.emb j = j := by
  funext a; apply Fin.ext
  match a with
  | ⟨0, _⟩ => show 0 * 24 + 1 * (j 0).val = (j 0).val; omega
  | ⟨1, _⟩ => show 0 * 2 + 1 * (j 1).val = (j 1).val; omega
theorem iblk3_eq (c : Dev nD) (t : Fin cfg0.N) : iblk m c 3 t = vWts m c := by
  funext j; show V m c main_v3 (((cfg0.win 3).blk t).view.emb j) = V m c main_v3 j; rw [emb3]
theorem emb4 (t : Fin cfg0.N) (j : S8x40x16.Idx) : ((cfg0.win 4).blk t).view.emb j = j := by
  funext a; apply Fin.ext
  match a with
  | ⟨0, _⟩ => show 0 * 8 + 1 * (j 0).val = (j 0).val; omega
  | ⟨1, _⟩ => show 0 * 40 + 1 * (j 1).val = (j 1).val; omega
  | ⟨2, _⟩ => show 0 * 16 + 1 * (j 2).val = (j 2).val; omega
theorem iblk4_eq (c : Dev nD) (t : Fin cfg0.N) : iblk m c 4 t = vSgu m c := by
  funext j; show V m c main_arg4 (((cfg0.win 4).blk t).view.emb j) = V m c main_arg4 j; rw [emb4]
theorem emb5 (t : Fin cfg0.N) (j : S8x8x40.Idx) : ((cfg0.win 5).blk t).view.emb j = j := by
  funext a; apply Fin.ext
  match a with
  | ⟨0, _⟩ => show 0 * 8 + 1 * (j 0).val = (j 0).val; omega
  | ⟨1, _⟩ => show 0 * 8 + 1 * (j 1).val = (j 1).val; omega
  | ⟨2, _⟩ => show 0 * 40 + 1 * (j 2).val = (j 2).val; omega
theorem iblk5_eq (c : Dev nD) (t : Fin cfg0.N) : iblk m c 5 t = vSd m c := by
  funext j; show V m c main_arg6 (((cfg0.win 5).blk t).view.emb j) = V m c main_arg6 j; rw [emb5]
theorem emb6 (t : Fin cfg0.N) (j : S24x5120.Idx) : ((cfg0.win 6).blk t).view.emb j = j := by
  funext a; apply Fin.ext
  match a with
  | ⟨0, _⟩ => show 0 * 24 + 1 * (j 0).val = (j 0).val; omega
  | ⟨1, _⟩ => show 0 * 5120 + 1 * (j 1).val = (j 1).val; omega

/-! ## The program up to the kernel -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem frame_of (dats : (p : Fin 1) → (c : Dev nD) → Dat τ (Elt F) Unit ℕ (Pipeline.UD sig nD τ) ℕ (cfgs p) c)
    (hA : ∀ c w, (dats 0 c).A w = V m c (Pipeline.arrRef spec0 w)) {r : PUnit × MemSt nD τ sig (Elt F)}
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c)))⟩

/-! ## The kernel's own counters and operands -/

/-- The kernel's eight transfer counters. -/
abbrev osem0 : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = sems c := by
  rw [Pipeline.ownSems0_eq_of_list c osem0 [0, 1, 2, 3, 4, 5, 6, 7] (by decide) (by decide)]; rfl
/-- The weights, which the kernel's own transfers read. -/
def H0 : Finset (Ref sig .tc) := {main_arg3, main_arg5}
theorem H0_sub : H0 ⊆ Pipeline.restRefs sig spec0 := by decide

theorem weights_eq (c : Dev nD) :
    (bigSep H0 (fun b => ((c : Thread nD τ).loc b) ↦{fullShare} V m c b) : sProp 𝕄) = iprop(pt c A6 (wguC (inp m c)) ∗ pt c A7 (wdC (inp m c))) := by
  have e1 : wguC (inp m c) = vWgu m c := ext3_eq _
  have e2 : wdC (inp m c) = vWd m c := ext3_eq _
  rw [BI.bigSep_eq_bigSepL_of_eq [main_arg3, main_arg5] (by decide) (by decide), e1, e2]; rfl

theorem Phi_eq (c : Dev nD) :
    (Pipeline.ΦD osem0 spec0 H0 (V m) c : sProp 𝕄)
      = iprop(iprop((∃ f : S4x2x5120x256.Idx → Elt F .fp8e4m3, pt c A9 f) ∗ (∃ f : S4x256x5120.Idx → Elt F .fp8e4m3, pt c A10 f)
            ∗ (∃ f : S16x40x128.Idx → Elt F .f32, pt c A11 f) ∗ (∃ f : S8x5120.Idx → Elt F .f32, pt c A12 f)
            ∗ (∃ f : S24x5120.Idx → Elt F .f32, pt c A13 f) ∗ (∃ f : S24x5120.Idx → Elt F .f32, pt c A14 f)
            ∗ (∃ f : S9.Idx → Elt F .i32, pt c A15 f))
          ∗ (∃ r, prngReg c r) ∗ sems c ∗ iprop(pt c A6 (wguC (inp m c)) ∗ pt c A7 (wdC (inp m c)))) := by
  rw [Pipeline.ΦD_eq, scopedRest0_eq, ownSems00_eq, weights_eq]; rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun i : S24x5120.Idx => outF (inp m c) (i 0) (i 1)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = fun i : S24x5120.Idx => outF (inp m c) (i 0) (i 1) := by dsimp only [dats]
theorem before0_0 (c : Dev nD) (t : Fin cfg0.N) (d) : (dats m 0 c).before 0 t d = vIW m c :=
  (((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)).trans (iblk0_eq m c t)
theorem before0_1 (c : Dev nD) (t : Fin cfg0.N) (d) : (dats m 0 c).before 1 t d = vX m c :=
  (((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)).trans (iblk1_eq m c t)
theorem before0_2 (c : Dev nD) (t : Fin cfg0.N) (d) : (dats m 0 c).before 2 t d = vIds m c :=
  (((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)).trans (iblk2_eq m c t)
theorem before0_3 (c : Dev nD) (t : Fin cfg0.N) (d) : (dats m 0 c).before 3 t d = vWts m c :=
  (((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)).trans (iblk3_eq m c t)
theorem before0_4 (c : Dev nD) (t : Fin cfg0.N) (d) : (dats m 0 c).before 4 t d = vSgu m c :=
  (((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)).trans (iblk4_eq m c t)
theorem before0_5 (c : Dev nD) (t : Fin cfg0.N) (d) : (dats m 0 c).before 5 t d = vSd m c :=
  (((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)).trans (iblk5_eq m c t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem comp_iw (c : Dev nD) (σ : St F) : comp c (inp m c) σ .iw = pt c A0 (vIW m c) := congrArg (fun f => (pt c A0 f : sProp 𝕄)) (ext1_eq (vIW m c))
theorem comp_x (c : Dev nD) (σ : St F) : comp c (inp m c) σ .x = pt c A1 (vX m c) := congrArg (fun f => (pt c A1 f : sProp 𝕄)) (ext2_eq (vX m c))
theorem comp_ids (c : Dev nD) (σ : St F) : comp c (inp m c) σ .ids = pt c A2 (vIds m c) := congrArg (fun f => (pt c A2 f : sProp 𝕄)) (ext2_eq (vIds m c))
theorem comp_wts (c : Dev nD) (σ : St F) : comp c (inp m c) σ .wts = pt c A3 (vWts m c) := congrArg (fun f => (pt c A3 f : sProp 𝕄)) (ext2_eq (vWts m c))
theorem comp_sgu (c : Dev nD) (σ : St F) : comp c (inp m c) σ .sgu = pt c A4 (vSgu m c) := congrArg (fun f => (pt c A4 f : sProp 𝕄)) (ext3_eq (vSgu m c))
theorem comp_sd (c : Dev nD) (σ : St F) : comp c (inp m c) σ .sd = pt c A5 (vSd m c) := congrArg (fun f => (pt c A5 f : sProp 𝕄)) (ext3_eq (vSd m c))

/-- A state with nothing in flight and the buffers at the given contents. -/
def st0 (o : S24x5120.Idx → Elt F .bf16) (f1 : S16x40x128.Idx → Elt F .f32) (f2 : S8x5120.Idx → Elt F .f32) (f3 f4 : S24x5120.Idx → Elt F .f32)
    (f5 : S9.Idx → Elt F .i32) : St F where
  out := ext2 o
  sg := ext3 f1
  sx := ext2 f2
  acc := ext2 f3
  y := ext2 f4
  ord := ext1 f5
  g _ := .idle
  d _ := .idle

theorem own0 (c : Dev nD) (t : Fin cfg0.N) (f : S48.Idx → Elt F .i32) : (owns (c : Thread nD τ) (st0_0 t) fullShare f : sProp 𝕄) = pt c A0 f := owns_whole _ _ _ _
theorem own1 (c : Dev nD) (t : Fin cfg0.N) (f : S24x5120.Idx → Elt F .bf16) : (owns (c : Thread nD τ) (st0_1 t) fullShare f : sProp 𝕄) = pt c A1 f := owns_whole _ _ _ _
theorem own2 (c : Dev nD) (t : Fin cfg0.N) (f : S24x2.Idx → Elt F .i32) : (owns (c : Thread nD τ) (st0_2 t) fullShare f : sProp 𝕄) = pt c A2 f := owns_whole _ _ _ _
theorem own3 (c : Dev nD) (t : Fin cfg0.N) (f : S24x2.Idx → Elt F .f32) : (owns (c : Thread nD τ) (st0_3 t) fullShare f : sProp 𝕄) = pt c A3 f := owns_whole _ _ _ _
theorem own4 (c : Dev nD) (t : Fin cfg0.N) (f : S8x40x16.Idx → Elt F .f32) : (owns (c : Thread nD τ) (st0_4 t) fullShare f : sProp 𝕄) = pt c A4 f := owns_whole _ _ _ _
theorem own5 (c : Dev nD) (t : Fin cfg0.N) (f : S8x8x40.Idx → Elt F .f32) : (owns (c : Thread nD τ) (st0_5 t) fullShare f : sProp 𝕄) = pt c A5 f := owns_whole _ _ _ _
theorem own6 (c : Dev nD) (t : Fin cfg0.N) (f : S24x5120.Idx → Elt F .bf16) : (owns (c : Thread nD τ) (st0_6 t) fullShare f : sProp 𝕄) = pt c A8 f := owns_whole _ _ _ _

/-- What the pipeline hands the kernel, as the kernel's state with nothing in flight. -/
theorem enter (c : Dev nD) (o f1 f2 f3 f4 f5) :
    iprop((pt c A0 (vIW m c) ∗ pt c A1 (vX m c) ∗ pt c A2 (vIds m c) ∗ pt c A3 (vWts m c) ∗ pt c A4 (vSgu m c) ∗ pt c A5 (vSd m c)
        ∗ pt c A8 o ∗ pt c A11 f1 ∗ pt c A12 f2 ∗ pt c A13 f3 ∗ pt c A14 f4 ∗ pt c A15 f5 ∗ (∃ W, owes (c : Thread nD τ) 0 W))
      ∗ (∃ f : S4x2x5120x256.Idx → Elt F .fp8e4m3, pt c A9 f) ∗ (∃ f : S4x256x5120.Idx → Elt F .fp8e4m3, pt c A10 f)
      ∗ pt c A6 (wguC (inp m c)) ∗ pt c A7 (wdC (inp m c)) ∗ sems c)
    ⊢ (Res c (inp m c) (st0 o f1 f2 f3 f4 f5) : sProp 𝕄) := by
  refine .trans ?_ (Res_idle (fun _ => rfl) (fun _ => rfl)).2
  have e (T : Piece) (P : sProp 𝕄) (h : comp c (inp m c) (st0 o f1 f2 f3 f4 f5) T = P) := h
  unfold Idle
  rw [comp_iw, comp_x, comp_ids, comp_wts, comp_sgu, comp_sd,
    e .out _ (congrArg (fun f => (pt c A8 f : sProp 𝕄)) (ext2_eq o)), e .sg _ (congrArg (fun f => (pt c A11 f : sProp 𝕄)) (ext3_eq f1)),
    e .sx _ (congrArg (fun f => (pt c A12 f : sProp 𝕄)) (ext2_eq f2)), e .acc _ (congrArg (fun f => (pt c A13 f : sProp 𝕄)) (ext2_eq f3)),
    e .y _ (congrArg (fun f => (pt c A14 f : sProp 𝕄)) (ext2_eq f4)), e .ord _ (congrArg (fun f => (pt c A15 f : sProp 𝕄)) (ext1_eq f5))]
  exact .rfl

theorem leave (c : Dev nD) {σ : St F} (hg : ∀ s, σ.g s = .idle) (hd : ∀ s, σ.d s = .idle) (ho : σ.out = outF (inp m c)) :
    (Res c (inp m c) σ : sProp 𝕄) ⊢
    iprop((pt c A0 (vIW m c) ∗ pt c A1 (vX m c) ∗ pt c A2 (vIds m c) ∗ pt c A3 (vWts m c) ∗ pt c A4 (vSgu m c) ∗ pt c A5 (vSd m c)
        ∗ pt c A8 (fun i => outF (inp m c) (i 0) (i 1)) ∗ (∃ f : S16x40x128.Idx → Elt F .f32, pt c A11 f) ∗ (∃ f : S8x5120.Idx → Elt F .f32, pt c A12 f)
            ∗ (∃ f : S24x5120.Idx → Elt F .f32, pt c A13 f) ∗ (∃ f : S24x5120.Idx → Elt F .f32, pt c A14 f)
            ∗ (∃ f : S9.Idx → Elt F .i32, pt c A15 f) ∗ (∃ W, owes (c : Thread nD τ) 0 W))
      ∗ (∃ f : S4x2x5120x256.Idx → Elt F .fp8e4m3, pt c A9 f) ∗ (∃ f : S4x256x5120.Idx → Elt F .fp8e4m3, pt c A10 f)
      ∗ pt c A6 (wguC (inp m c)) ∗ pt c A7 (wdC (inp m c)) ∗ sems c) := by
  refine (Res_idle hg hd).1.trans ?_
  unfold Idle
  rw [comp_iw, comp_x, comp_ids, comp_wts, comp_sgu, comp_sd, ← ho]
  simp only [comp]
  iintro ⟨⟨P0, P1, P2, P3, P4, P5, P6, P7, P8, P9, P10, P11, P12⟩, G, D, W, V, S⟩
  isplitr [G D W V S]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexists _; iexact P7
    isplitl [P8]; · iexists _; iexact P8
    isplitl [P9]; · iexists _; iexact P9
    isplitl [P10]; · iexists _; iexact P10
    isplitl [P11]; · iexists _; iexact P11
    iexact P12
  isplitl [G]; · iexact G
  isplitl [D]; · iexact D
  isplitl [W]; · iexact W
  isplitl [V]; · iexact V
  iexact S

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ (t0_0 : Fin cfg0.N).succ = Pipeline.ΦD osem0 spec0 H0 (V m) c from rfl,
    show (dats m 0 c).Φ (t0_0 : Fin cfg0.N).castSucc = Pipeline.ΦD osem0 spec0 H0 (V m) c from rfl, Phi_eq,
    after0_0, after0_1, after0_2, after0_3, after0_4, after0_5, after0_6, iblk0_eq, iblk1_eq, iblk2_eq, iblk3_eq, iblk4_eq, iblk5_eq]
  simp only [own0, own1, own2, own3, own4, own5, own6, before0_0, before0_1, before0_2, before0_3, before0_4, before0_5]
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨S0, S1, ⟨%f1, S2⟩, ⟨%f2, S3⟩, ⟨%f3, S4⟩, ⟨%f4, S5⟩, ⟨%f5, S6⟩⟩, Hg, Hq, ⟨Hw, Hv⟩⟩, ⟨%W, -, HW⟩, ⟨%d0, P0⟩, ⟨%d1, P1⟩, ⟨%d2, P2⟩, ⟨%d3, P3⟩, ⟨%d4, P4⟩, ⟨%d5, P5⟩, ⟨%d6, P6⟩⟩
  iapply (evBody (c := c) (I := inp m c) (σ := st0 ((dats m 0 c).before 6 t0_0 d6) f1 f2 f3 f4 f5) (fun _ => rfl) (fun _ => rfl) _ iprop(∃ r, prngReg c r) ?_)
  swap
  · isplitr [Hg]; swap; · iexact Hg
    iapply (enter m c ((dats m 0 c).before 6 t0_0 d6) f1 f2 f3 f4 f5)
    isplitl [P0 P1 P2 P3 P4 P5 P6 S2 S3 S4 S5 S6 HW]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [S2]; · iexact S2
      isplitl [S3]; · iexact S3
      isplitl [S4]; · iexact S4
      isplitl [S5]; · iexact S5
      isplitl [S6]; · iexact S6
      iexists W; iexact HW
    isplitl [S0]; · iexact S0
    isplitl [S1]; · iexact S1
    isplitl [Hw]; · iexact Hw
    isplitl [Hv]; · iexact Hv
    iexact Hq
  · intro a σ' h
    iintro ⟨HR, Hg⟩
    ihave HR := (leave m c h.1 h.2.1 h.2.2) $$ HR
    icases HR with ⟨⟨P0, P1, P2, P3, P4, P5, P6, S2, S3, S4, S5, S6, HW⟩, S0, S1, Hw, Hv, Hq⟩
    isplitl [S0 S1 S2 S3 S4 S5 S6 Hg Hq Hw Hv]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      isplitl [Hg]; · iexact Hg
      isplitl [Hq]; · iexact Hq
      isplitl [Hw]; · iexact Hw
      iexact Hv
    isplitl [HW]
    · icases HW with ⟨%W', HW⟩
      iexists W'; isplitr; · ipureintro; exact fun _ _ => Or.inl trivial
      iexact HW
    isplitl [P0]; · iexact P0
    isplitl [P1]; · iexact P1
    isplitl [P2]; · iexact P2
    isplitl [P3]; · iexact P3
    isplitl [P4]; · iexact P4
    isplitl [P5]; · iexact P5
    iexact P6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The kernel runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨frame_of m (dats m) (A_eq m) h.1, h.2⟩) (run_main m ρ)

/-- What the result holds. -/
def outA (c : Dev nD) : S24x5120.Idx → Elt F .bf16 := fun i => outF (inp m c) (i 0) (i 1)

theorem flushed6_eq (c : Dev nD) (t : Fin cfg0.N) :
    (dats m 0 c).flushed 6 t = ((cfg0.win 6).blk t).view.read (Elt F) (outA m c) := by
  show (cfg0.win 6).cut (grid0.coords t) ((dats m 0 c).after 6 t) = _
  rw [after0_6]
  funext j
  show outA m c j = outA m c (((cfg0.win 6).blk t).view.emb j)
  rw [emb6]

theorem covered6 (i : S24x5120.Idx) :
    ∃ t : Fin cfg0.N, (cfg0.win 6).flush t = true ∧ i ∈ ((cfg0.win 6).blk t).view.set :=
  ⟨t0_0, flush0_6 _, by
    have h := ((cfg0.win 6).blk t0_0).view.emb_mem_set i; rwa [emb6] at h⟩

/-- The result after the run. -/
theorem final6 (c : Dev nD) : (dats m 0 c).arrAt 6 cfg0.N = outA m c :=
  (dats m 0 c).arrAt_eq_of_cover 6 (outA m c) (fun t _ => flushed6_eq m c t) covered6

/-- The run with the result named. -/
theorem run : θ_run defs (onTc (τ := τ) (main (F := F))) ⟨m, fun _ => 0, ρ⟩ (fun r => ∀ c : Dev nD,
      r.2.mem ((c.tc : Thread nD τ).loc main_v4) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 6).trans (final6 m c), frame_of m (dats m) (A_eq m) h.1 c⟩) (run_main m ρ)

end Cert.Kernel.Moe
-- ==== Proof.KI.Ev.lean ====
/-
  The state of the kernel's buffers while its body runs, and the rules by which one operation of the body
  takes one state to the next.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The operands -/

abbrev A0 : Memref sig .tc .smem S48 .i32 := Memref.whole cc0_stg0_0
abbrev A1 : Memref sig .tc .vmem S24x5120 .bf16 := Memref.whole cc0_stg1_0
abbrev A2 : Memref sig .tc .vmem S24x2 .i32 := Memref.whole cc0_stg2_0
abbrev A3 : Memref sig .tc .vmem S24x2 .f32 := Memref.whole cc0_stg3_0
abbrev A4 : Memref sig .tc .vmem S8x40x16 .f32 := Memref.whole cc0_stg4_0
abbrev A5 : Memref sig .tc .vmem S8x8x40 .f32 := Memref.whole cc0_stg5_0
abbrev A6 : Memref sig .tc .hbm S8x5120x2048 .fp8e4m3 := Memref.whole main_arg3
abbrev A7 : Memref sig .tc .hbm S8x1024x5120 .fp8e4m3 := Memref.whole main_arg5
abbrev A8 : Memref sig .tc .vmem S24x5120 .bf16 := Memref.whole cc0_stg6_0
abbrev A9 : Memref sig .tc .vmem S4x2x5120x256 .fp8e4m3 := Memref.whole cc0_scratch0
abbrev A10 : Memref sig .tc .vmem S4x256x5120 .fp8e4m3 := Memref.whole cc0_scratch1
abbrev A11 : Memref sig .tc .vmem S16x40x128 .f32 := Memref.whole cc0_scratch2
abbrev A12 : Memref sig .tc .vmem S8x5120 .f32 := Memref.whole cc0_scratch3
abbrev A13 : Memref sig .tc .vmem S24x5120 .f32 := Memref.whole cc0_scratch4
abbrev A14 : Memref sig .tc .vmem S24x5120 .f32 := Memref.whole cc0_scratch5
abbrev A15 : Memref sig .tc .smem S9 .i32 := Memref.whole cc0_scratch6

/-! ## The state -/

/-- What the body only reads, each array as a function of its coordinates. -/
structure Inp (F : FTy → Type) where
  iw : ℕ → Elt F .i32
  x : ℕ → ℕ → Elt F .bf16
  ids : ℕ → ℕ → Elt F .i32
  wts : ℕ → ℕ → Elt F .f32
  sgu : ℕ → ℕ → ℕ → Elt F .f32
  sd : ℕ → ℕ → ℕ → Elt F .f32
  wgu : ℕ → ℕ → ℕ → Elt F .fp8e4m3
  wd : ℕ → ℕ → ℕ → Elt F .fp8e4m3

/-- A slot of the gate and up weights: free, the first of its two transfers started, both in flight, the first
    waited for, or holding block `j` of expert `e`. -/
inductive GuSt
  | idle
  | one (e j : ℕ)
  | fly (e j : ℕ)
  | wt (e j : ℕ)
  | rdy (e j : ℕ)

/-- A slot of the down weights. -/
inductive DSt
  | idle
  | fly (e j : ℕ)
  | rdy (e j : ℕ)

/-- What the body writes. -/
structure St (F : FTy → Type) where
  out : ℕ → ℕ → Elt F .bf16
  sg : ℕ → ℕ → ℕ → Elt F .f32
  sx : ℕ → ℕ → Elt F .f32
  acc : ℕ → ℕ → Elt F .f32
  y : ℕ → ℕ → Elt F .f32
  ord : ℕ → Elt F .i32
  g : Fin 4 → GuSt
  d : Fin 4 → DSt

/-- The pieces of the state. -/
inductive Piece
  | iw | x | ids | wts | sgu | sd | out | sg | sx | acc | y | ord | owes
  | g (s : Fin 4)
  | d (s : Fin 4)
  deriving DecidableEq

instance : Fintype Piece where
  elems := {.iw, .x, .ids, .wts, .sgu, .sd, .out, .sg, .sx, .acc, .y, .ord, .owes,
    .g 0, .g 1, .g 2, .g 3, .d 0, .d 1, .d 2, .d 3}
  complete p := by
    cases p with
    | g s => revert s; decide
    | d s => revert s; decide
    | _ => decide

/-! ## Cells and windows -/

theorem inb4 (s : Fin 4) : ∀ a, (![(s : ℕ)] : Fin S4.rank → ℕ) a + S1.size a ≤ S4.size a := by
  revert s; decide

abbrev gsem (s : Fin 4) : DmaSem sig :=
  ((cc0_scratch7.slice (Rect.unit (s := S4) ![(s : ℕ)] S1.size (inb4 s))).squeeze S_ squeezes_S1_S_).sem
abbrev dsem (s : Fin 4) : DmaSem sig :=
  ((cc0_scratch8.slice (Rect.unit (s := S4) ![(s : ℕ)] S1.size (inb4 s))).squeeze S_ squeezes_S1_S_).sem

/-- A window of the gate and up slots, at any offsets. -/
abbrev dstG (off : Fin 4 → ℕ) (inb : ∀ a, off a + S1x1x5120x256.size a ≤ S4x2x5120x256.size a) :
    Memref sig .tc .vmem S5120x256 .fp8e4m3 :=
  (A9.slice (Rect.unit (s := S4x2x5120x256) off S1x1x5120x256.size inb) (fun _ => rfl)).squeeze S5120x256
    squeezes_S1x1x5120x256_S5120x256
/-- A window of the gate and up weights. -/
abbrev srcG (off : Fin 3 → ℕ) (inb : ∀ a, off a + S1x5120x256.size a ≤ S8x5120x2048.size a) :
    Memref sig .tc .hbm S5120x256 .fp8e4m3 :=
  (A6.slice (Rect.unit (s := S8x5120x2048) off S1x5120x256.size inb) (fun _ => rfl)).squeeze S5120x256
    squeezes_S1x5120x256_S5120x256
/-- A window of the down slots. -/
abbrev dstD (off : Fin 3 → ℕ) (inb : ∀ a, off a + S1x256x5120.size a ≤ S4x256x5120.size a) :
    Memref sig .tc .vmem S256x5120 .fp8e4m3 :=
  (A10.slice (Rect.unit (s := S4x256x5120) off S1x256x5120.size inb) (fun _ => rfl)).squeeze S256x5120
    squeezes_S1x256x5120_S256x5120
/-- A window of the down weights. -/
abbrev srcD (off : Fin 3 → ℕ) (inb : ∀ a, off a + S1x256x5120.size a ≤ S8x1024x5120.size a) :
    Memref sig .tc .hbm S256x5120 .fp8e4m3 :=
  (A7.slice (Rect.unit (s := S8x1024x5120) off S1x256x5120.size inb) (fun _ => rfl)).squeeze S256x5120
    squeezes_S1x256x5120_S256x5120

def gset (s : Fin 4) (w : Fin 2) : Finset S4x2x5120x256.Idx :=
  Finset.univ.filter fun i => (i 0 : ℕ) = s ∧ (i 1 : ℕ) = w
def dset (s : Fin 4) : Finset S4x256x5120.Idx := Finset.univ.filter fun i => (i 0 : ℕ) = s
/-- The elements of the gate and up weights one transfer reads. -/
def wset (e j : ℕ) (w : Fin 2) : Finset S8x5120x2048.Idx :=
  Finset.univ.filter fun i => (i 0 : ℕ) = e ∧ w * 1024 + 256 * j ≤ (i 2 : ℕ) ∧ (i 2 : ℕ) < w * 1024 + 256 * j + 256
def vset (e j : ℕ) : Finset S8x1024x5120.Idx :=
  Finset.univ.filter fun i => (i 0 : ℕ) = e ∧ 256 * j ≤ (i 1 : ℕ) ∧ (i 1 : ℕ) < 256 * j + 256

abbrev NG : ℕ := (dstG ![0, 0, 0, 0] (by decide)).view.dmaCredit
abbrev ND : ℕ := (dstD ![0, 0, 0] (by decide)).view.dmaCredit

/-- The shares in which the weights are read: one per slot and half. -/
def qg (s : Fin 4) (w : Fin 2) : PosShare TreeShare :=
  let a := if s.val < 2 then fullShare.left else fullShare.right
  let b := if s.val % 2 = 0 then PosShare.left a else PosShare.right a
  if w.val = 0 then PosShare.left b else PosShare.right b
def qd (s : Fin 4) : PosShare TreeShare :=
  let a := if s.val < 2 then fullShare.left else fullShare.right
  if s.val % 2 = 0 then PosShare.left a else PosShare.right a

variable (c : Dev nD) (I : Inp F)

/-- The wait evidence and counters the transfers live in. -/
abbrev EC : UEmb Counters 𝕄 := countersEmb (U := Pipeline.UD sig nD τ)

abbrev guC (e j : ℕ) : S4x2x5120x256.Idx → Elt F .fp8e4m3 := fun i => I.wgu e (i 2) ((i 1 : ℕ) * 1024 + 256 * j + i 3)
abbrev dC (e j : ℕ) : S4x256x5120.Idx → Elt F .fp8e4m3 := fun i => I.wd e (256 * j + i 1) (i 2)
abbrev wguC : S8x5120x2048.Idx → Elt F .fp8e4m3 := fun i => I.wgu (i 0) (i 1) (i 2)
abbrev wdC : S8x1024x5120.Idx → Elt F .fp8e4m3 := fun i => I.wd (i 0) (i 1) (i 2)

def DG (s : Fin 4) (e j : ℕ) (w : Fin 2) : sProp 𝕄 :=
  iprop((A9.view.loc (c : Thread nD τ) ↦[gset s w]{fullShare} guC I e j)
    ∗ (A6.view.loc (c : Thread nD τ) ↦[wset e j w]{qg s w} wguC I))
def DD (s : Fin 4) (e j : ℕ) : sProp 𝕄 :=
  iprop((A10.view.loc (c : Thread nD τ) ↦[dset s]{fullShare} dC I e j)
    ∗ (A7.view.loc (c : Thread nD τ) ↦[vset e j]{qd s} wdC I))

def restG (s : Fin 4) (e j : ℕ) (w : Fin 2) : sProp 𝕄 :=
  A6.view.loc (c : Thread nD τ) ↦[Finset.univ \ wset e j w]{qg s w} wguC I
def allG (s : Fin 4) (w : Fin 2) : sProp 𝕄 := A6.view.loc (c : Thread nD τ) ↦[Finset.univ]{qg s w} wguC I
def restD (s : Fin 4) (e j : ℕ) : sProp 𝕄 :=
  A7.view.loc (c : Thread nD τ) ↦[Finset.univ \ vset e j]{qd s} wdC I
def allD (s : Fin 4) : sProp 𝕄 := A7.view.loc (c : Thread nD τ) ↦[Finset.univ]{qd s} wdC I

def anyG (s : Fin 4) (w : Fin 2) : sProp 𝕄 :=
  iprop(∃ f : S4x2x5120x256.Idx → Elt F .fp8e4m3, A9.view.loc (c : Thread nD τ) ↦[gset s w]{fullShare} f)
def anyD (s : Fin 4) : sProp 𝕄 :=
  iprop(∃ f : S4x256x5120.Idx → Elt F .fp8e4m3, A10.view.loc (c : Thread nD τ) ↦[dset s]{fullShare} f)

def gP (s : Fin 4) : GuSt → sProp 𝕄
  | .idle => iprop(semVal ((c : Thread nD τ), SemLoc.dma (gsem s)) 0 ∗ anyG c s 0 ∗ anyG c s 1 ∗ allG c I s 0 ∗ allG c I s 1)
  | .one e j => iprop(Transfers.Batch EC (c : Thread nD τ) (SemLoc.dma (gsem s)) () NG (DG c I s e j) 1 0 ∗ restG c I s e j 0
      ∗ anyG c s 1 ∗ allG c I s 1)
  | .fly e j => iprop(Transfers.Batch EC (c : Thread nD τ) (SemLoc.dma (gsem s)) () NG (DG c I s e j) 2 0 ∗ restG c I s e j 0 ∗ restG c I s e j 1)
  | .wt e j => iprop(Transfers.Batch EC (c : Thread nD τ) (SemLoc.dma (gsem s)) () NG (DG c I s e j) 2 NG ∗ restG c I s e j 0 ∗ restG c I s e j 1)
  | .rdy e j => iprop((A9.view.loc (c : Thread nD τ) ↦[gset s 0]{fullShare} guC I e j)
      ∗ (A9.view.loc (c : Thread nD τ) ↦[gset s 1]{fullShare} guC I e j)
      ∗ semVal ((c : Thread nD τ), SemLoc.dma (gsem s)) 0 ∗ allG c I s 0 ∗ allG c I s 1)

def dP (s : Fin 4) : DSt → sProp 𝕄
  | .idle => iprop(semVal ((c : Thread nD τ), SemLoc.dma (dsem s)) 0 ∗ anyD c s ∗ allD c I s)
  | .fly e j => iprop(Transfers.Flight EC (c : Thread nD τ) (SemLoc.dma (dsem s)) () ND (DD c I s e j) ∗ restD c I s e j)
  | .rdy e j => iprop((A10.view.loc (c : Thread nD τ) ↦[dset s]{fullShare} dC I e j)
      ∗ semVal ((c : Thread nD τ), SemLoc.dma (dsem s)) 0 ∗ allD c I s)

/-- A buffer held whole. -/
abbrev pt {sp : Space} {S : Shape} {e : EltTy} (M : Memref sig .tc sp S e) (f : Buf (Elt F) (M.view.loc (c : Thread nD τ))) : sProp 𝕄 :=
  M.view.loc (c : Thread nD τ) ↦[Finset.univ]{fullShare} f

def comp (σ : St F) : Piece → sProp 𝕄
  | .iw => pt c A0 fun i => I.iw (i 0)
  | .x => pt c A1 fun i => I.x (i 0) (i 1)
  | .ids => pt c A2 fun i => I.ids (i 0) (i 1)
  | .wts => pt c A3 fun i => I.wts (i 0) (i 1)
  | .sgu => pt c A4 fun i => I.sgu (i 0) (i 1) (i 2)
  | .sd => pt c A5 fun i => I.sd (i 0) (i 1) (i 2)
  | .out => pt c A8 fun i => σ.out (i 0) (i 1)
  | .sg => pt c A11 fun i => σ.sg (i 0) (i 1) (i 2)
  | .sx => pt c A12 fun i => σ.sx (i 0) (i 1)
  | .acc => pt c A13 fun i => σ.acc (i 0) (i 1)
  | .y => pt c A14 fun i => σ.y (i 0) (i 1)
  | .ord => pt c A15 fun i => σ.ord (i 0)
  | .owes => iprop(∃ W, owes (c : Thread nD τ) 0 W)
  | .g s => gP c I s (σ.g s)
  | .d s => dP c I s (σ.d s)

def Res (σ : St F) : sProp 𝕄 := bigSep Finset.univ (comp c I σ)

/-! ## Evaluation -/

abbrev P (α : Type) := Prog (TpuEff nD τ sig (Elt F) Λ₀ .tc) α

/-- From the state `σ` the program ends, at every result and state only as `Q` says. -/
def Ev {α : Type} (Q : α → St F → Prop) (σ : St F) (p : P (F := F) α) : Prop :=
  ∀ (Φ : α → sProp 𝕄) (R : sProp 𝕄), (∀ a σ', Q a σ' → (iprop(Res c I σ' ∗ R) ⊢ Φ a)) →
    (iprop(Res c I σ ∗ R) ⊢ wp frame (wpE (defs₀ (F := F)) Variants.none (c : Thread nD τ) none) Set.univ p Φ)

/-- From the state `σ` the program ends at the result `v` and the state `σ'`. -/
abbrev EvS {α : Type} (σ : St F) (p : P (F := F) α) (v : α) (σ' : St F) : Prop :=
  Ev c I (fun a s => a = v ∧ s = σ') σ p

variable {c I}

theorem Ev.ret {α : Type} {Q : α → St F → Prop} {σ : St F} {a : α} (h : Q a σ) : Ev c I Q σ (.ret a) := by
  intro Φ R hΦ
  rw [wp_ret]
  exact (hΦ a σ h).trans fupd_intro

theorem Ev.pure {α : Type} {Q : α → St F → Prop} {σ : St F} {a : α} (h : Q a σ) : Ev c I Q σ (pure a) := Ev.ret h

theorem Ev.mono {α : Type} {Q Q' : α → St F → Prop} {σ : St F} {p : P (F := F) α} (hp : Ev c I Q' σ p)
    (h : ∀ a s, Q' a s → Q a s) : Ev c I Q σ p :=
  fun Φ R hΦ => hp Φ R fun a s hq => hΦ a s (h a s hq)

theorem Ev.bindQ {α β : Type} {Q : β → St F → Prop} {Q₁ : α → St F → Prop} {σ : St F} {p : P (F := F) α} {k : α → P (F := F) β}
    (hp : Ev c I Q₁ σ p) (hk : ∀ a s, Q₁ a s → Ev c I Q s (k a)) : Ev c I Q σ (p >>= k) := by
  intro Φ R hΦ
  rw [wp_bind]
  exact hp _ R fun a s h => hk a s h Φ R hΦ

theorem Ev.bind {α β : Type} {Q : β → St F → Prop} {σ σ₁ : St F} {v : α} {p : P (F := F) α} {k : α → P (F := F) β}
    (hp : EvS c I σ p v σ₁) (hk : Ev c I Q σ₁ (k v)) : Ev c I Q σ (p >>= k) :=
  Ev.bindQ hp fun a s h => by rcases h with ⟨rfl, rfl⟩; exact hk

theorem Ev.assume {β : Type} {Q : β → St F → Prop} {σ : St F} {A : Prop} {dA : Decidable A} {k : PLift A → P (F := F) β}
    (h : A) (hk : Ev c I Q σ (k ⟨h⟩)) : Ev c I Q σ (Prog.lift (TpuEff.assume A dA) >>= k) := by
  intro Φ R hΦ
  refine (hk Φ R hΦ).trans ?_
  exact wp_assume Variants.none (c : Thread nD τ) none Set.univ h

theorem Ev.ite_pos {α : Type} {Q : α → St F → Prop} {σ : St F} {A : Prop} {dA : Decidable A} {p : A → P (F := F) α} {q : ¬ A → P (F := F) α}
    (h : A) (hp : Ev c I Q σ (p h)) : Ev c I Q σ (dite A p q) := by rwa [dif_pos h]
theorem Ev.ite_neg {α : Type} {Q : α → St F → Prop} {σ : St F} {A : Prop} {dA : Decidable A} {p : A → P (F := F) α} {q : ¬ A → P (F := F) α}
    (h : ¬ A) (hp : Ev c I Q σ (q h)) : Ev c I Q σ (dite A p q) := by rwa [dif_neg h]

/-- One operation that changes one piece. -/
theorem EvS.one {α : Type} {σ : St F} {p : P (F := F) α} {v : α} (i : Piece) (σ' : St F)
    (hj : ∀ j, j ≠ i → comp c I σ' j = comp c I σ j)
    (h : ∀ Φ : α → sProp 𝕄, comp c I σ i ⊢ iprop((comp c I σ' i -∗ wp frame (wpE (defs₀ (F := F)) Variants.none (c : Thread nD τ) none) Set.univ (.ret v) Φ) -∗ wp frame (wpE (defs₀ (F := F)) Variants.none (c : Thread nD τ) none) Set.univ p Φ)) :
    EvS c I σ p v σ' := by
  intro Φ R hΦ
  have e : ∀ s : St F, Res c I s = iprop(comp c I s i ∗ bigSep (Finset.univ.erase i) (comp c I s)) := fun s =>
    bigSep_erase (Finset.mem_univ i)
  have e2 : bigSep (Finset.univ.erase i) (comp c I σ) = bigSep (Finset.univ.erase i) (comp c I σ') :=
    bigSep_congr fun j hm => (hj j (Finset.ne_of_mem_erase hm)).symm
  have hΦ' := hΦ v σ' ⟨rfl, rfl⟩
  rw [e σ'] at hΦ'
  rw [e σ, e2]
  iintro ⟨⟨Hi, Hr⟩, HR⟩
  iapply (h Φ) $$ Hi
  iintro Hi
  rw [wp_ret]
  iapply fupd_intro
  iapply hΦ'
  isplitr [HR]
  · isplitl [Hi]
    · iexact Hi
    · iexact Hr
  · iexact HR

/-- One operation that changes two pieces. -/
theorem EvS.two {α : Type} {σ : St F} {p : P (F := F) α} {v : α} (i i' : Piece) (hne : i' ≠ i) (σ' : St F)
    (hj : ∀ j, j ≠ i → j ≠ i' → comp c I σ' j = comp c I σ j)
    (h : ∀ Φ : α → sProp 𝕄, iprop(comp c I σ i ∗ comp c I σ i') ⊢ iprop((iprop(comp c I σ' i ∗ comp c I σ' i') -∗ wp frame (wpE (defs₀ (F := F)) Variants.none (c : Thread nD τ) none) Set.univ (.ret v) Φ) -∗ wp frame (wpE (defs₀ (F := F)) Variants.none (c : Thread nD τ) none) Set.univ p Φ)) :
    EvS c I σ p v σ' := by
  intro Φ R hΦ
  have e : ∀ s : St F, Res c I s = iprop(comp c I s i ∗ (comp c I s i' ∗ bigSep ((Finset.univ.erase i).erase i') (comp c I s))) := fun s => by
    have h2 : bigSep (Finset.univ.erase i) (comp c I s) = iprop(comp c I s i' ∗ bigSep ((Finset.univ.erase i).erase i') (comp c I s)) :=
      bigSep_erase (Finset.mem_erase.mpr ⟨hne, Finset.mem_univ i'⟩)
    rw [← h2]
    exact bigSep_erase (Finset.mem_univ i)
  have e2 : bigSep ((Finset.univ.erase i).erase i') (comp c I σ) = bigSep ((Finset.univ.erase i).erase i') (comp c I σ') :=
    bigSep_congr fun j hm => (hj j (Finset.ne_of_mem_erase (Finset.mem_of_mem_erase hm)) (Finset.ne_of_mem_erase hm)).symm
  have hΦ' := hΦ v σ' ⟨rfl, rfl⟩
  rw [e σ'] at hΦ'
  rw [e σ, e2]
  iintro ⟨⟨Hi, ⟨Hi', Hr⟩⟩, HR⟩
  iapply (h Φ) $$ [Hi Hi']
  · isplitl [Hi]
    · iexact Hi
    · iexact Hi'
  iintro ⟨Hi, Hi'⟩
  rw [wp_ret]
  iapply fupd_intro
  iapply hΦ'
  isplitr [HR]
  · isplitl [Hi]
    · iexact Hi
    · isplitl [Hi']
      · iexact Hi'
      · iexact Hr
  · iexact HR

/-! ## Loads and stores -/

theorem EvS.load {σ : St F} {cs : CoreSpace} {s : Shape} {e : EltTy} {m : Memref sig .tc cs s e} {r : LoadRect s} {hl : m.view.LoadsAt r}
    (i : Piece) {S : Finset (Idx (m.view.loc (c : Thread nD τ)))} {f : Buf (Elt F) (m.view.loc (c : Thread nD τ))} (R : sProp 𝕄)
    (hS : m.view.setOn r.set ⊆ S)
    (hc : comp c I σ i = iprop((m.view.loc (c : Thread nD τ) ↦[S]{fullShare} f) ∗ R)) {v : r.shape.Idx → Elt F e}
    (hv : m.view.readAt (Elt F) r f = v) : EvS c I σ (Prog.lift (.load m r hl)) v σ := by
  subst hv
  refine EvS.one i σ (fun _ _ => rfl) fun Φ => ?_
  rw [hc]
  iintro ⟨H, HR⟩ Hk
  iapply (wp_load Variants.none (c : Thread nD τ) none Set.univ (k := fun v => .ret v) hS) $$ H
  iintro H
  iapply Hk
  isplitl [H]
  · iexact H
  · iexact HR

theorem EvS.loadW {σ : St F} {cs : CoreSpace} {s : Shape} {e : EltTy} {m : Memref sig .tc cs s e} {r : LoadRect s} {hl : m.view.LoadsAt r}
    (i : Piece) {f : Buf (Elt F) (m.view.loc (c : Thread nD τ))}
    (hc : comp c I σ i = pt c m f) {v : r.shape.Idx → Elt F e}
    (hv : m.view.readAt (Elt F) r f = v) : EvS c I σ (Prog.lift (.load m r hl)) v σ := by
  subst hv
  refine EvS.one i σ (fun _ _ => rfl) fun Φ => ?_
  rw [hc]
  exact wp_load Variants.none (c : Thread nD τ) none Set.univ (k := fun v => .ret v) (Finset.subset_univ _)

theorem EvS.storeW {σ : St F} {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    (i : Piece) (σ' : St F) {f f' : Buf (Elt F) ((m.access r).loc (c : Thread nD τ))}
    (hj : ∀ j, j ≠ i → comp c I σ' j = comp c I σ j)
    (hc : comp c I σ i = pt c m f) (hc' : comp c I σ' i = pt c m f')
    (hw : (m.access r).write (Elt F) f w Mk = f') : EvS c I σ (Prog.lift (.store m r w Mk hx hm)) ⟨⟩ σ' := by
  subst hw
  refine EvS.one i σ' hj fun Φ => ?_
  rw [hc, hc']
  exact wp_store (defs := defs₀ (F := F)) (m := m) (r := r) (w := w) (Mk := Mk) (hx := hx) (hm := hm) Variants.none (c : Thread nD τ) none
    (Q := Φ) Set.univ (k := fun v => .ret v) (f := f) (S := Finset.univ) (Finset.subset_univ _)

theorem write_rect {b : Ref sig .tc} {r : Rect b.ty.shape} {f f' : b.ty.Contents (Elt F)} {w : r.shape.Idx → Elt F b.ty.elt}
    (h1 : ∀ x, f' (r.emb x) = w x) (h2 : ∀ i, i ∉ r.set → f' i = f i) :
    ((Memref.whole b).access r).write (Elt F) f w Finset.univ = f' := by
  funext i
  by_cases hi : i ∈ r.set
  · obtain ⟨x, rfl⟩ := r.exists_idx_of_mem hi
    exact (View.write_emb_of_mem (v := (Memref.whole b).access r) f w (Finset.mem_univ x)).trans (h1 x).symm
  · refine (View.write_of_not_mem (v := (Memref.whole b).access r) f w Finset.univ ?_).trans (h2 i hi).symm
    intro hm
    apply hi
    obtain ⟨x, -, rfl⟩ := Finset.mem_map.mp hm
    exact r.idx_mem x

theorem EvS.ld_x {σ : St F} {off : Fin 2 → ℕ} {size : Fin 2 → ℕ} {inb : ∀ a, off a + size a ≤ S24x5120.size a} {hl} :
    EvS c I σ (Prog.lift (.load A1 (Rect.unit (s := S24x5120) off size inb).toLoadRect hl))
      (fun i => I.x (off 0 + i 0) (off 1 + i 1)) σ := by
  refine EvS.loadW .x rfl (funext fun i => ?_)
  show I.x (off 0 + 1 * i 0) (off 1 + 1 * i 1) = _
  rw [Nat.one_mul, Nat.one_mul]

end Cert.KernelIdeal.Moe
-- ==== Proof.KI.Dma.lean ====
/-
  The transfers of the body: what one takes, what it leaves, and how its wait hands it back.
-/
module

public import proofs.«01_k».proof.Proof.KI.Ev

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}

/-! ## Windows -/

theorem dstG_set (s : Fin 4) (w : Fin 2) (inb) : (dstG ![(s : ℕ), w, 0, 0] inb).view.set = gset s w := by
  show ((A9.view.slice (Rect.unit (s := S4x2x5120x256) ![(s : ℕ), w, 0, 0] S1x1x5120x256.size inb)).reshape _ _).set = _
  rw [View.set_reshape]
  erw [View.set_slice_whole]
  ext i
  refine (LoadRect.mem_set _).trans ?_
  simp only [gset, Finset.mem_filter, Finset.mem_univ, true_and]
  constructor
  · intro h
    obtain ⟨j0, h0, e0⟩ := h 0
    obtain ⟨j1, h1, e1⟩ := h 1
    have h0' : j0 < 1 := h0
    have h1' : j1 < 1 := h1
    have e0' : (i 0 : ℕ) = s + 1 * j0 := e0
    have e1' : (i 1 : ℕ) = w + 1 * j1 := e1
    constructor <;> omega
  · rintro ⟨h0, h1⟩ a
    fin_cases a
    · exact ⟨0, Nat.one_pos, h0⟩
    · exact ⟨0, Nat.one_pos, h1⟩
    · exact ⟨(i 2 : ℕ), (i 2).2, by show (i 2 : ℕ) = 0 + 1 * (i 2 : ℕ); omega⟩
    · exact ⟨(i 3 : ℕ), (i 3).2, by show (i 3 : ℕ) = 0 + 1 * (i 3 : ℕ); omega⟩

theorem srcG_set (e j : ℕ) (w : Fin 2) (inb) : (srcG ![e, 0, w * 1024 + 256 * j] inb).view.set = wset e j w := by
  show ((A6.view.slice (Rect.unit (s := S8x5120x2048) ![e, 0, w * 1024 + 256 * j] S1x5120x256.size inb)).reshape _ _).set = _
  rw [View.set_reshape]
  erw [View.set_slice_whole]
  ext i
  refine (LoadRect.mem_set _).trans ?_
  simp only [wset, Finset.mem_filter, Finset.mem_univ, true_and]
  constructor
  · intro h
    obtain ⟨j0, h0, e0⟩ := h 0
    obtain ⟨j1, h1, e1⟩ := h 2
    have h0' : j0 < 1 := h0
    have h1' : j1 < 256 := h1
    have e0' : (i 0 : ℕ) = e + 1 * j0 := e0
    have e1' : (i 2 : ℕ) = (w * 1024 + 256 * j) + 1 * j1 := e1
    refine ⟨?_, ?_, ?_⟩ <;> omega
  · rintro ⟨h0, h1, h2⟩ a
    fin_cases a
    · exact ⟨0, Nat.one_pos, h0⟩
    · exact ⟨(i 1 : ℕ), (i 1).2, by show (i 1 : ℕ) = 0 + 1 * (i 1 : ℕ); omega⟩
    · refine ⟨(i 2 : ℕ) - (w * 1024 + 256 * j), ?_, ?_⟩
      · show (i 2 : ℕ) - (w * 1024 + 256 * j) < 256
        omega
      · show (i 2 : ℕ) = (w * 1024 + 256 * j) + 1 * ((i 2 : ℕ) - (w * 1024 + 256 * j))
        omega

theorem dstD_set (s : Fin 4) (inb) : (dstD ![(s : ℕ), 0, 0] inb).view.set = dset s := by
  show ((A10.view.slice (Rect.unit (s := S4x256x5120) ![(s : ℕ), 0, 0] S1x256x5120.size inb)).reshape _ _).set = _
  rw [View.set_reshape]
  erw [View.set_slice_whole]
  ext i
  refine (LoadRect.mem_set _).trans ?_
  simp only [dset, Finset.mem_filter, Finset.mem_univ, true_and]
  constructor
  · intro h
    obtain ⟨j0, h0, e0⟩ := h 0
    have h0' : j0 < 1 := h0
    have e0' : (i 0 : ℕ) = s + 1 * j0 := e0
    omega
  · intro h0 a
    fin_cases a
    · exact ⟨0, Nat.one_pos, h0⟩
    · exact ⟨(i 1 : ℕ), (i 1).2, by show (i 1 : ℕ) = 0 + 1 * (i 1 : ℕ); omega⟩
    · exact ⟨(i 2 : ℕ), (i 2).2, by show (i 2 : ℕ) = 0 + 1 * (i 2 : ℕ); omega⟩

theorem srcD_set (e j : ℕ) (inb) : (srcD ![e, 256 * j, 0] inb).view.set = vset e j := by
  show ((A7.view.slice (Rect.unit (s := S8x1024x5120) ![e, 256 * j, 0] S1x256x5120.size inb)).reshape _ _).set = _
  rw [View.set_reshape]
  erw [View.set_slice_whole]
  ext i
  refine (LoadRect.mem_set _).trans ?_
  simp only [vset, Finset.mem_filter, Finset.mem_univ, true_and]
  constructor
  · intro h
    obtain ⟨j0, h0, e0⟩ := h 0
    obtain ⟨j1, h1, e1⟩ := h 1
    have h0' : j0 < 1 := h0
    have h1' : j1 < 256 := h1
    have e0' : (i 0 : ℕ) = e + 1 * j0 := e0
    have e1' : (i 1 : ℕ) = (256 * j) + 1 * j1 := e1
    refine ⟨?_, ?_, ?_⟩ <;> omega
  · rintro ⟨h0, h1, h2⟩ a
    fin_cases a
    · exact ⟨0, Nat.one_pos, h0⟩
    · refine ⟨(i 1 : ℕ) - (256 * j), ?_, ?_⟩
      · show (i 1 : ℕ) - (256 * j) < 256
        omega
      · show (i 1 : ℕ) = (256 * j) + 1 * ((i 1 : ℕ) - (256 * j))
        omega
    · exact ⟨(i 2 : ℕ), (i 2).2, by show (i 2 : ℕ) = 0 + 1 * (i 2 : ℕ); omega⟩

/-- What a transfer of block `j` of expert `e` leaves in its window. -/
theorem landG (s : Fin 4) (w : Fin 2) (e j : ℕ) (inb inb') (f : S4x2x5120x256.Idx → Elt F .fp8e4m3) :
    ∀ i ∈ gset s w, (dstG ![(s : ℕ), w, 0, 0] inb).view.write (Elt F) f
      (ReadAs.same.apply ((srcG ![e, 0, w * 1024 + 256 * j] inb').view.read (Elt F) (wguC I))) Finset.univ i = guC I e j i := by
  intro i hi
  rw [← dstG_set s w inb] at hi
  obtain ⟨x, -, rfl⟩ := Finset.mem_map.mp hi
  refine (View.write_emb_of_mem (v := (dstG ![(s : ℕ), w, 0, 0] inb).view) f _ (Finset.mem_univ x)).trans ?_
  obtain ⟨a, b, rfl⟩ : ∃ (a : Fin 5120) (b : Fin 256), x = ix2 a b := ⟨x 0, x 1, eq_ix2 x⟩
  have h4 : Shape.reshapeEquiv (s := S1x1x5120x256) (s' := S5120x256) squeezes_S1x1x5120x256_S5120x256.numel_eq (ix2 a b)
      = ix4 (⟨0, Nat.one_pos⟩ : Fin 1) (⟨0, Nat.one_pos⟩ : Fin 1) a b := reshapeEquiv_ix2_11ab _ a b
  have h3 : Shape.reshapeEquiv (s := S1x5120x256) (s' := S5120x256) squeezes_S1x5120x256_S5120x256.numel_eq (ix2 a b)
      = ix3 (⟨0, Nat.one_pos⟩ : Fin 1) a b := reshapeEquiv_ix2_1ab _ a b
  have e1 : (dstG ![(s : ℕ), w, 0, 0] inb).view.emb (ix2 a b)
      = (Rect.unit (s := S4x2x5120x256) ![(s : ℕ), w, 0, 0] S1x1x5120x256.size inb).emb (ix4 (⟨0, Nat.one_pos⟩ : Fin 1) (⟨0, Nat.one_pos⟩ : Fin 1) a b) := by
    rw [← h4]; rfl
  have e2 : (srcG ![e, 0, w * 1024 + 256 * j] inb').view.emb (ix2 a b)
      = (Rect.unit (s := S8x5120x2048) ![e, 0, w * 1024 + 256 * j] S1x5120x256.size inb').emb (ix3 (⟨0, Nat.one_pos⟩ : Fin 1) a b) := by
    rw [← h3]; rfl
  show wguC I ((srcG ![e, 0, w * 1024 + 256 * j] inb').view.emb (ix2 a b)) = guC I e j ((dstG ![(s : ℕ), w, 0, 0] inb).view.emb (ix2 a b))
  rw [e1, e2]
  show I.wgu (e + 1 * 0) (0 + 1 * a) (w * 1024 + 256 * j + 1 * b) = I.wgu e (0 + 1 * a) ((w + 1 * 0) * 1024 + 256 * j + (0 + 1 * b))
  simp only [Nat.mul_zero, Nat.add_zero, Nat.zero_add, Nat.one_mul]

theorem landD (s : Fin 4) (e j : ℕ) (inb inb') (f : S4x256x5120.Idx → Elt F .fp8e4m3) :
    ∀ i ∈ dset s, (dstD ![(s : ℕ), 0, 0] inb).view.write (Elt F) f
      (ReadAs.same.apply ((srcD ![e, 256 * j, 0] inb').view.read (Elt F) (wdC I))) Finset.univ i = dC I e j i := by
  intro i hi
  rw [← dstD_set s inb] at hi
  obtain ⟨x, -, rfl⟩ := Finset.mem_map.mp hi
  refine (View.write_emb_of_mem (v := (dstD ![(s : ℕ), 0, 0] inb).view) f _ (Finset.mem_univ x)).trans ?_
  obtain ⟨a, b, rfl⟩ : ∃ (a : Fin 256) (b : Fin 5120), x = ix2 a b := ⟨x 0, x 1, eq_ix2 x⟩
  have h3 : Shape.reshapeEquiv (s := S1x256x5120) (s' := S256x5120) squeezes_S1x256x5120_S256x5120.numel_eq (ix2 a b)
      = ix3 (⟨0, Nat.one_pos⟩ : Fin 1) a b := reshapeEquiv_ix2_1ab _ a b
  have e1 : (dstD ![(s : ℕ), 0, 0] inb).view.emb (ix2 a b)
      = (Rect.unit (s := S4x256x5120) ![(s : ℕ), 0, 0] S1x256x5120.size inb).emb (ix3 (⟨0, Nat.one_pos⟩ : Fin 1) a b) := by
    rw [← h3]; rfl
  have e2 : (srcD ![e, 256 * j, 0] inb').view.emb (ix2 a b)
      = (Rect.unit (s := S8x1024x5120) ![e, 256 * j, 0] S1x256x5120.size inb').emb (ix3 (⟨0, Nat.one_pos⟩ : Fin 1) a b) := by
    rw [← h3]; rfl
  show wdC I ((srcD ![e, 256 * j, 0] inb').view.emb (ix2 a b)) = dC I e j ((dstD ![(s : ℕ), 0, 0] inb).view.emb (ix2 a b))
  rw [e1, e2]
  show I.wd (e + 1 * 0) (256 * j + 1 * a) (0 + 1 * b) = I.wd e (256 * j + (0 + 1 * a)) (0 + 1 * b)
  simp only [Nat.mul_zero, Nat.add_zero, Nat.zero_add, Nat.one_mul]

/-! ## Starting a transfer -/

instance (s : Fin 4) (e j : ℕ) (w : Fin 2) : Storable (upEmb : UEmb _ 𝕄) (DG c I s e j w) := by
  unfold DG; infer_instance

theorem upd_self {A : Type} (f : Fin 4 → A) (s : Fin 4) (v : A) : Function.update f s v s = v := Function.update_self s v f

theorem hj_g {σ : St F} {s : Fin 4} {v : GuSt} : ∀ j, j ≠ Piece.g s →
    comp c I { σ with g := Function.update σ.g s v } j = comp c I σ j := by
  intro j hj
  cases j with
  | g t =>
    have : t ≠ s := fun h => hj (by rw [h])
    show gP c I t (Function.update σ.g s v t) = _
    rw [Function.update_of_ne this]; rfl
  | _ => rfl
theorem hj_d {σ : St F} {s : Fin 4} {v : DSt} : ∀ j, j ≠ Piece.d s →
    comp c I { σ with d := Function.update σ.d s v } j = comp c I σ j := by
  intro j hj
  cases j with
  | d t =>
    have : t ≠ s := fun h => hj (by rw [h])
    show dP c I t (Function.update σ.d s v t) = _
    rw [Function.update_of_ne this]; rfl
  | _ => rfl

theorem comp_g {σ : St F} {s : Fin 4} {v : GuSt} : comp c I { σ with g := Function.update σ.g s v } (.g s) = gP c I s v := by
  show gP c I s (Function.update σ.g s v s) = _
  rw [Function.update_self]
theorem comp_d {σ : St F} {s : Fin 4} {v : DSt} : comp c I { σ with d := Function.update σ.d s v } (.d s) = dP c I s v := by
  show dP c I s (Function.update σ.d s v s) = _
  rw [Function.update_self]

theorem allG_split (s : Fin 4) (e j : ℕ) (w : Fin 2) :
    allG c I s w ⊣⊢ iprop((A6.view.loc (c : Thread nD τ) ↦[wset e j w]{qg s w} wguC I) ∗ restG c I s e j w) :=
  pointsTo_split_subset (Finset.subset_univ _)
theorem allD_split (s : Fin 4) (e j : ℕ) :
    allD c I s ⊣⊢ iprop((A7.view.loc (c : Thread nD τ) ↦[vset e j]{qd s} wdC I) ∗ restD c I s e j) :=
  pointsTo_split_subset (Finset.subset_univ _)

theorem landG' (s : Fin 4) (w : Fin 2) (e j : ℕ) (inb inb') (f : S4x2x5120x256.Idx → Elt F .fp8e4m3) :
    iprop(((dstG ![(s : ℕ), w, 0, 0] inb).view.loc (c : Thread nD τ) ↦[gset s w]{fullShare} ((dstG ![(s : ℕ), w, 0, 0] inb).view.write (Elt F) f
      (ReadAs.same.apply ((srcG ![e, 0, w * 1024 + 256 * j] inb').view.read (Elt F) (wguC I))) Finset.univ))
      ∗ ((srcG ![e, 0, w * 1024 + 256 * j] inb').view.loc (c : Thread nD τ) ↦[(srcG ![e, 0, w * 1024 + 256 * j] inb').view.set]{qg s w} wguC I))
    ⊢ DG c I s e j w := by
  rw [srcG_set]
  exact sep_mono_left (Entails.of_eq (pointsTo_congr (landG s w e j inb inb' f)))

theorem EvS.startG0 {σ : St F} (s : Fin 4) (e j : ℕ) {sem : DmaSem sig} {o1 : Fin 4 → ℕ} {i1} {o2 : Fin 3 → ℕ} {i2} {hsrc hdst hsem}
    (hsm : sem = gsem s) (h1 : o1 = ![(s : ℕ), 0, 0, 0]) (h2 : o2 = ![e, 0, 256 * j]) (hσ : σ.g s = .idle) :
    EvS c I σ (Prog.lift (.enqueueDma (srcG o2 i2) (.here (dstG o1 i1)) (.dma sem) hsrc hdst hsem)) ⟨⟩
      { σ with g := Function.update σ.g s (.one e j) } := by
  subst hsm h1
  have h2' : o2 = ![e, 0, (0 : Fin 2) * 1024 + 256 * j] := by rw [h2]; congr 2; simp
  subst h2'
  refine EvS.one (.g s) _ hj_g fun Φ => ?_
  rw [comp_g]
  show gP c I s (σ.g s) ⊢ _
  rw [hσ]
  simp only [gP, anyG]
  iintro ⟨Hs, ⟨%f, Ha⟩, Hb, Hq, Hq'⟩ Hk
  ihave Hq := (allG_split s e j 0).1 $$ Hq
  icases Hq with ⟨Hw, Hr⟩
  imod (Transfers.batch_alloc' EC (c : Thread nD τ) () NG (DG c I s e j) (sm := SemLoc.dma (gsem s)) (E := Set.univ)) $$ Hs with HB
  rw [← srcG_set e j 0 i2]
  iapply (Transfers.wp_dmaBatch EC Variants.none (c : Thread nD τ) none (src := srcG ![e, 0, (0 : Fin 2) * 1024 + 256 * j] i2) (dst := dstG ![(s : ℕ), (0 : Fin 2), 0, 0] i1)
    (k := fun v => .ret v) (D := DG c I s e j) (j := 0) (u := 0) (Sd := gset s 0) (fd := f) () NG rfl (dstG_set s 0 i1).le (by decide) (Nat.zero_le _)
    (landG' s 0 e j i1 i2 f)) $$ [Hw Ha HB]
  · isplitl [Hw]; · iexact Hw
    isplitl [Ha]; · iexact Ha
    iexact HB
  iintro HB
  iapply Hk
  isplitl [HB]; · iexact HB
  isplitl [Hr]; · iexact Hr
  isplitl [Hb]; · iexact Hb
  iexact Hq'

theorem EvS.startG1 {σ : St F} (s : Fin 4) (e j : ℕ) {sem : DmaSem sig} {o1 : Fin 4 → ℕ} {i1} {o2 : Fin 3 → ℕ} {i2} {hsrc hdst hsem}
    (hsm : sem = gsem s) (h1 : o1 = ![(s : ℕ), 1, 0, 0]) (h2 : o2 = ![e, 0, 1024 + 256 * j]) (hσ : σ.g s = .one e j) :
    EvS c I σ (Prog.lift (.enqueueDma (srcG o2 i2) (.here (dstG o1 i1)) (.dma sem) hsrc hdst hsem)) ⟨⟩
      { σ with g := Function.update σ.g s (.fly e j) } := by
  subst hsm h1
  have h2' : o2 = ![e, 0, (1 : Fin 2) * 1024 + 256 * j] := by rw [h2]; congr 2
  subst h2'
  refine EvS.one (.g s) _ hj_g fun Φ => ?_
  rw [comp_g]
  show gP c I s (σ.g s) ⊢ _
  rw [hσ]
  simp only [gP, anyG]
  iintro ⟨HB, Hr0, ⟨%f, Ha⟩, Hq⟩ Hk
  ihave Hq := (allG_split s e j 1).1 $$ Hq
  icases Hq with ⟨Hw, Hr⟩
  rw [← srcG_set e j 1 i2]
  iapply (Transfers.wp_dmaBatch EC Variants.none (c : Thread nD τ) none (src := srcG ![e, 0, (1 : Fin 2) * 1024 + 256 * j] i2) (dst := dstG ![(s : ℕ), (1 : Fin 2), 0, 0] i1)
    (k := fun v => .ret v) (D := DG c I s e j) (j := 1) (u := 0) (Sd := gset s 1) (fd := f) () NG rfl (dstG_set s 1 i1).le (by decide) (Nat.zero_le _)
    (landG' s 1 e j i1 i2 f)) $$ [Hw Ha HB]
  · isplitl [Hw]; · iexact Hw
    isplitl [Ha]; · iexact Ha
    iexact HB
  iintro HB
  iapply Hk
  isplitl [HB]; · iexact HB
  isplitl [Hr0]; · iexact Hr0
  iexact Hr

theorem NG_pos : 0 < NG := View.dmaCredit_pos (dstG ![0, 0, 0, 0] (by decide)).view (Shape.numel_pos (by decide))
theorem ND_pos : 0 < ND := View.dmaCredit_pos (dstD ![0, 0, 0] (by decide)).view (Shape.numel_pos (by decide))

theorem landD' (s : Fin 4) (e j : ℕ) (inb inb') (f : S4x256x5120.Idx → Elt F .fp8e4m3) :
    iprop(((dstD ![(s : ℕ), 0, 0] inb).view.loc (c : Thread nD τ) ↦[dset s]{fullShare} ((dstD ![(s : ℕ), 0, 0] inb).view.write (Elt F) f
      (ReadAs.same.apply ((srcD ![e, 256 * j, 0] inb').view.read (Elt F) (wdC I))) Finset.univ))
      ∗ ((srcD ![e, 256 * j, 0] inb').view.loc (c : Thread nD τ) ↦[(srcD ![e, 256 * j, 0] inb').view.set]{qd s} wdC I))
    = DD c I s e j := by
  rw [srcD_set]
  exact congrArg (fun P : sProp 𝕄 => iprop(P ∗ (A7.view.loc (c : Thread nD τ) ↦[vset e j]{qd s} wdC I))) (pointsTo_congr (landD s e j inb inb' f))

theorem EvS.startD {σ : St F} (s : Fin 4) (e j : ℕ) {sem : DmaSem sig} {o1 : Fin 3 → ℕ} {i1} {o2 : Fin 3 → ℕ} {i2} {hsrc hdst hsem}
    (hsm : sem = dsem s) (h1 : o1 = ![(s : ℕ), 0, 0]) (h2 : o2 = ![e, 256 * j, 0]) (hσ : σ.d s = .idle) :
    EvS c I σ (Prog.lift (.enqueueDma (srcD o2 i2) (.here (dstD o1 i1)) (.dma sem) hsrc hdst hsem)) ⟨⟩
      { σ with d := Function.update σ.d s (.fly e j) } := by
  subst hsm h1 h2
  refine EvS.one (.d s) _ hj_d fun Φ => ?_
  rw [comp_d]
  show dP c I s (σ.d s) ⊢ _
  rw [hσ]
  simp only [dP, anyD]
  iintro ⟨Hs, ⟨%f, Ha⟩, Hq⟩ Hk
  ihave Hq := (allD_split s e j).1 $$ Hq
  icases Hq with ⟨Hw, Hr⟩
  rw [← srcD_set e j i2]
  iapply (Transfers.wp_dmaLocal EC Variants.none (c : Thread nD τ) none (src := srcD ![e, 256 * j, 0] i2) (dst := dstD ![(s : ℕ), 0, 0] i1)
    (k := fun v => .ret v) (Sd := dset s) (fd := f) () ND rfl ND_pos (dstD_set s i1).le) $$ [Hw Ha Hs]
  · isplitl [Hw]; · iexact Hw
    isplitl [Ha]; · iexact Ha
    iexact Hs
  iintro HB
  iapply Hk
  isplitl [HB]
  · rw [← landD' s e j i1 i2 f]
    iexact HB
  iexact Hr

/-! ## Waiting for a transfer -/

theorem hj_g2 {σ : St F} {s : Fin 4} {v : GuSt} : ∀ j, j ≠ Piece.g s → j ≠ Piece.owes →
    comp c I { σ with g := Function.update σ.g s v } j = comp c I σ j := fun j h _ => hj_g j h
theorem hj_d2 {σ : St F} {s : Fin 4} {v : DSt} : ∀ j, j ≠ Piece.d s → j ≠ Piece.owes →
    comp c I { σ with d := Function.update σ.d s v } j = comp c I σ j := fun j h _ => hj_d j h

theorem EvS.waitG0 {σ : St F} (s : Fin 4) (e j : ℕ) {sem : DmaSem sig} {o1 : Fin 4 → ℕ} {i1} {o2 : Fin 3 → ℕ} {i2} {hsrc hdst}
    (hsm : sem = gsem s) (hσ : σ.g s = .fly e j) :
    EvS c I σ (Prog.lift (.waitDma2 sem (srcG o2 i2) (dstG o1 i1) hsrc hdst)) ⟨⟩
      { σ with g := Function.update σ.g s (.wt e j) } := by
  subst hsm
  refine EvS.two (.g s) .owes (by intro h; cases h) _ hj_g2 fun Φ => ?_
  rw [comp_g]
  show iprop(gP c I s (σ.g s) ∗ iprop(∃ W, owes (c : Thread nD τ) 0 W)) ⊢ iprop((iprop(_ ∗ iprop(∃ W, owes (c : Thread nD τ) 0 W)) -∗ _) -∗ _)
  rw [hσ]
  simp only [gP]
  iintro ⟨⟨HB, Hr0, Hr1⟩, ⟨%W, HO⟩⟩ Hk
  iapply (Transfers.wp_waitBatch EC Variants.none (c : Thread nD τ) none (srcw := srcG o2 i2) (dstw := dstG o1 i1)
    (k := fun v => .ret v) (D := DG c I s e j) (u := 0) () (N := NG) rfl (by have := NG_pos; omega)) $$ [HB HO]
  · isplitl [HB]; · iexact HB
    iexact HO
  rw [Nat.zero_add]
  iintro ⟨HB, HO⟩
  iapply Hk
  isplitr [HO]
  · isplitl [HB]; · iexact HB
    isplitl [Hr0]; · iexact Hr0
    iexact Hr1
  iexists _
  iexact HO

theorem bigSep_pair (D : Fin 2 → sProp 𝕄) : bigSep Finset.univ D ⊢ iprop(D 0 ∗ D 1) := by
  have h0 : bigSep Finset.univ D = iprop(D 0 ∗ bigSep (Finset.univ.erase 0) D) := bigSep_erase (Finset.mem_univ _)
  have h1 : bigSep (Finset.univ.erase 0) D = iprop(D 1 ∗ bigSep ((Finset.univ.erase 0).erase 1) D) := bigSep_erase (by decide)
  rw [h0, h1]
  iintro ⟨H0, H1, -⟩
  isplitl [H0]; · iexact H0
  iexact H1

theorem EvS.waitG1 {σ : St F} (s : Fin 4) (e j : ℕ) {sem : DmaSem sig} {o1 : Fin 4 → ℕ} {i1} {o2 : Fin 3 → ℕ} {i2} {hsrc hdst}
    (hsm : sem = gsem s) (hσ : σ.g s = .wt e j) :
    EvS c I σ (Prog.lift (.waitDma2 sem (srcG o2 i2) (dstG o1 i1) hsrc hdst)) ⟨⟩
      { σ with g := Function.update σ.g s (.rdy e j) } := by
  subst hsm
  refine EvS.two (.g s) .owes (by intro h; cases h) _ hj_g2 fun Φ => ?_
  rw [comp_g]
  show iprop(gP c I s (σ.g s) ∗ iprop(∃ W, owes (c : Thread nD τ) 0 W)) ⊢ iprop((iprop(_ ∗ iprop(∃ W, owes (c : Thread nD τ) 0 W)) -∗ _) -∗ _)
  rw [hσ]
  simp only [gP]
  iintro ⟨⟨HB, Hr0, Hr1⟩, ⟨%W, HO⟩⟩ Hk
  iapply (Transfers.wp_waitBatchLast EC Variants.none (c : Thread nD τ) none (srcw := srcG o2 i2) (dstw := dstG o1 i1)
    (k := fun v => .ret v) (D := DG c I s e j) (u := NG) () (N := NG) rfl NG_pos (by omega)) $$ [HB HO]
  · isplitl [HB]; · iexact HB
    iexact HO
  iintro ⟨HD, Hs, HO⟩
  ihave HD := bigSep_pair (DG c I s e j) $$ HD
  simp only [DG]
  icases HD with ⟨⟨Ha, Hw⟩, ⟨Hb, Hv⟩⟩
  iapply Hk
  isplitr [HO]
  · isplitl [Ha]; · iexact Ha
    isplitl [Hb]; · iexact Hb
    isplitl [Hs]; · iexact Hs
    isplitl [Hw Hr0]
    · iapply (allG_split s e j 0).2
      isplitl [Hw]; · iexact Hw
      iexact Hr0
    · iapply (allG_split s e j 1).2
      isplitl [Hv]; · iexact Hv
      iexact Hr1
  iexists _
  iexact HO

theorem EvS.waitD {σ : St F} (s : Fin 4) (e j : ℕ) {sem : DmaSem sig} {o1 : Fin 3 → ℕ} {i1} {o2 : Fin 3 → ℕ} {i2} {hsrc hdst}
    (hsm : sem = dsem s) (hσ : σ.d s = .fly e j) :
    EvS c I σ (Prog.lift (.waitDma2 sem (srcD o2 i2) (dstD o1 i1) hsrc hdst)) ⟨⟩
      { σ with d := Function.update σ.d s (.rdy e j) } := by
  subst hsm
  refine EvS.two (.d s) .owes (by intro h; cases h) _ hj_d2 fun Φ => ?_
  rw [comp_d]
  show iprop(dP c I s (σ.d s) ∗ iprop(∃ W, owes (c : Thread nD τ) 0 W)) ⊢ iprop((iprop(_ ∗ iprop(∃ W, owes (c : Thread nD τ) 0 W)) -∗ _) -∗ _)
  rw [hσ]
  simp only [dP]
  iintro ⟨⟨HB, Hr⟩, ⟨%W, HO⟩⟩ Hk
  iapply (Transfers.wp_waitLocal EC Variants.none (c : Thread nD τ) none (srcw := srcD o2 i2) (dstw := dstD o1 i1)
    (k := fun v => .ret v) (D := DD c I s e j) () (N := ND) rfl) $$ [HB HO]
  · isplitl [HB]; · iexact HB
    iexact HO
  unfold DD
  iintro ⟨⟨Ha, Hw⟩, Hs, HO⟩
  iapply Hk
  isplitr [HO]
  · isplitl [Ha]; · iexact Ha
    isplitl [Hs]; · iexact Hs
    iapply (allD_split s e j).2
    isplitl [Hw]; · iexact Hw
    iexact Hr
  iexists _
  iexact HO

/-! ## A slot whose weights are used is free again -/

theorem gP_idle (s : Fin 4) (e j : ℕ) : gP c I s (.rdy e j) ⊢ gP c I s .idle := by
  simp only [gP, anyG]
  iintro ⟨Ha, Hb, Hs, H0, H1⟩
  isplitl [Hs]; · iexact Hs
  isplitl [Ha]; · iexists _; iexact Ha
  isplitl [Hb]; · iexists _; iexact Hb
  isplitl [H0]; · iexact H0
  iexact H1
theorem dP_idle (s : Fin 4) (e j : ℕ) : dP c I s (.rdy e j) ⊢ dP c I s .idle := by
  simp only [dP, anyD]
  iintro ⟨Ha, Hs, H0⟩
  isplitl [Hs]; · iexact Hs
  isplitl [Ha]; · iexists _; iexact Ha
  iexact H0

theorem Ev.conseq {α : Type} {Q : α → St F → Prop} {σ σ' : St F} {p : P (F := F) α} (h : Res c I σ ⊢ Res c I σ') (hp : Ev c I Q σ' p) : Ev c I Q σ p :=
  fun Φ R hΦ => (sep_mono_left h).trans (hp Φ R hΦ)

theorem Ev.freeG {α : Type} {Q : α → St F → Prop} {σ : St F} {p : P (F := F) α} (s : Fin 4) {e j : ℕ} (hσ : σ.g s = .rdy e j)
    (hp : Ev c I Q { σ with g := Function.update σ.g s .idle } p) : Ev c I Q σ p := by
  refine Ev.conseq (bigSep_mono fun i _ => ?_) hp
  by_cases hi : i = .g s
  · subst hi
    rw [comp_g]
    show gP c I s (σ.g s) ⊢ _
    rw [hσ]
    exact gP_idle s e j
  · exact Entails.of_eq (hj_g i hi).symm
theorem Ev.freeD {α : Type} {Q : α → St F → Prop} {σ : St F} {p : P (F := F) α} (s : Fin 4) {e j : ℕ} (hσ : σ.d s = .rdy e j)
    (hp : Ev c I Q { σ with d := Function.update σ.d s .idle } p) : Ev c I Q σ p := by
  refine Ev.conseq (bigSep_mono fun i _ => ?_) hp
  by_cases hi : i = .d s
  · subst hi
    rw [comp_d]
    show dP c I s (σ.d s) ⊢ _
    rw [hσ]
    exact dP_idle s e j
  · exact Entails.of_eq (hj_d i hi).symm

/-! ## Loads of what a slot holds -/

theorem sep_lc' (A B C : sProp 𝕄) : iprop(A ∗ B ∗ C) ⊢ iprop(B ∗ A ∗ C) := by
  iintro ⟨HA, HB, HC⟩
  isplitl [HB]; · iexact HB
  isplitl [HA]; · iexact HA
  iexact HC
theorem sep_lc (A B C : sProp 𝕄) : iprop(A ∗ B ∗ C) = iprop(B ∗ A ∗ C) := equiv_iff.mp ⟨sep_lc' A B C, sep_lc' B A C⟩

theorem EvS.ld_g {σ : St F} (s : Fin 4) (w : Fin 2) {e j : ℕ} {off : Fin 4 → ℕ} {n0 n1 n2 n3 : ℕ} {inb : ∀ a, off a + (![n0, n1, n2, n3] : Fin 4 → ℕ) a ≤ S4x2x5120x256.size a} {hl}
    (hσ : σ.g s = .rdy e j) (h0 : off 0 = s) (h1 : off 1 = w) (hn0 : n0 = 1) (hn1 : n1 = 1) :
    EvS c I σ (Prog.lift (.load A9 (Rect.unit (s := S4x2x5120x256) off ![n0, n1, n2, n3] inb).toLoadRect hl))
      (fun i => I.wgu e (off 2 + i 2) ((w : ℕ) * 1024 + 256 * j + (off 3 + i 3))) σ := by
  subst hn0 hn1
  have hS : A9.view.setOn (Rect.unit (s := S4x2x5120x256) off ![1, 1, n2, n3] inb).toLoadRect.set ⊆ gset s w := by
    intro i hi
    obtain ⟨i', hi', rfl⟩ := Finset.mem_map.mp hi
    have h := (LoadRect.mem_set _).mp hi'
    obtain ⟨j0, q0, e0⟩ := h 0
    obtain ⟨j1, q1, e1⟩ := h 1
    have q0' : j0 < 1 := q0
    have q1' : j1 < 1 := q1
    have e0' : (i' 0 : ℕ) = off 0 + 1 * j0 := e0
    have e1' : (i' 1 : ℕ) = off 1 + 1 * j1 := e1
    refine Finset.mem_filter.mpr ⟨Finset.mem_univ _, ?_, ?_⟩
    · show (i' 0 : ℕ) = s
      omega
    · show (i' 1 : ℕ) = w
      omega
  have hv : A9.view.readAt (Elt F) (Rect.unit (s := S4x2x5120x256) off ![1, 1, n2, n3] inb).toLoadRect (guC I e j)
      = fun i => I.wgu e (off 2 + i 2) ((w : ℕ) * 1024 + 256 * j + (off 3 + i 3)) := by
    funext i
    show I.wgu e (off 2 + 1 * i 2) ((off 1 + 1 * i 1) * 1024 + 256 * j + (off 3 + 1 * i 3)) = _
    have hi1 : (i 1 : ℕ) < 1 := (i 1).2
    have hi1' : (i 1 : ℕ) = 0 := by omega
    rw [hi1', h1]
    simp only [Nat.one_mul, Nat.mul_zero, Nat.add_zero]
  have hw : ∀ w : Fin 2, w = 0 ∨ w = 1 := by decide
  rcases hw w with rfl | rfl
  · refine EvS.load (.g s) iprop((A9.view.loc (c : Thread nD τ) ↦[gset s 1]{fullShare} guC I e j)
      ∗ semVal ((c : Thread nD τ), SemLoc.dma (gsem s)) 0 ∗ allG c I s 0 ∗ allG c I s 1) hS ?_ hv
    show gP c I s (σ.g s) = _
    rw [hσ]; rfl
  · refine EvS.load (.g s) iprop((A9.view.loc (c : Thread nD τ) ↦[gset s 0]{fullShare} guC I e j)
      ∗ semVal ((c : Thread nD τ), SemLoc.dma (gsem s)) 0 ∗ allG c I s 0 ∗ allG c I s 1) hS ?_ hv
    show gP c I s (σ.g s) = _
    rw [hσ]
    simp only [gP]
    exact sep_lc _ _ _

theorem EvS.ld_d {σ : St F} (s : Fin 4) {e j : ℕ} {off : Fin 3 → ℕ} {n0 n1 n2 : ℕ} {inb : ∀ a, off a + (![n0, n1, n2] : Fin 3 → ℕ) a ≤ S4x256x5120.size a} {hl}
    (hσ : σ.d s = .rdy e j) (h0 : off 0 = s) (hn0 : n0 = 1) :
    EvS c I σ (Prog.lift (.load A10 (Rect.unit (s := S4x256x5120) off ![n0, n1, n2] inb).toLoadRect hl))
      (fun i => I.wd e (256 * j + (off 1 + i 1)) (off 2 + i 2)) σ := by
  subst hn0
  have hS : A10.view.setOn (Rect.unit (s := S4x256x5120) off ![1, n1, n2] inb).toLoadRect.set ⊆ dset s := by
    intro i hi
    obtain ⟨i', hi', rfl⟩ := Finset.mem_map.mp hi
    have h := (LoadRect.mem_set _).mp hi'
    obtain ⟨j0, q0, e0⟩ := h 0
    have q0' : j0 < 1 := q0
    have e0' : (i' 0 : ℕ) = off 0 + 1 * j0 := e0
    refine Finset.mem_filter.mpr ⟨Finset.mem_univ _, ?_⟩
    show (i' 0 : ℕ) = s
    omega
  have hv : A10.view.readAt (Elt F) (Rect.unit (s := S4x256x5120) off ![1, n1, n2] inb).toLoadRect (dC I e j)
      = fun i => I.wd e (256 * j + (off 1 + i 1)) (off 2 + i 2) := by
    funext i
    show I.wd e (256 * j + (off 1 + 1 * i 1)) (off 2 + 1 * i 2) = _
    simp only [Nat.one_mul]
  refine EvS.load (.d s) iprop(semVal ((c : Thread nD τ), SemLoc.dma (dsem s)) 0 ∗ allD c I s) hS ?_ hv
  show dP c I s (σ.d s) = _
  rw [hσ]; rfl

end Cert.KernelIdeal.Moe
-- ==== Proof.KI.Mem.lean ====
/-
  The loads and stores of the body, one rule for each of its buffers.
-/
module

public import proofs.«01_k».proof.Proof.KI.Ev

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}

theorem mem_rect {S : Shape} {off size : Fin S.rank → ℕ} (inb : ∀ a, off a + size a ≤ S.size a) {i : S.Idx}
    (h : ∀ a, off a ≤ (i a : ℕ) ∧ (i a : ℕ) < off a + size a) : i ∈ (Rect.unit (s := S) off size inb).set := by
  refine (LoadRect.mem_set _).mpr fun a => ⟨(i a : ℕ) - off a, ?_, ?_⟩
  · have := h a
    show (i a : ℕ) - off a < size a
    omega
  · have := h a
    show (i a : ℕ) = off a + 1 * ((i a : ℕ) - off a)
    omega

theorem mem_rect2 {d : Fin 2 → ℕ} {off size : Fin 2 → ℕ} (inb : ∀ a, off a + size a ≤ d a) {i : Shape.Idx ⟨2, d⟩}
    (h0 : off 0 ≤ (i 0 : ℕ) ∧ (i 0 : ℕ) < off 0 + size 0) (h1 : off 1 ≤ (i 1 : ℕ) ∧ (i 1 : ℕ) < off 1 + size 1) :
    i ∈ (Rect.unit (s := ⟨2, d⟩) off size inb).set :=
  mem_rect (S := ⟨2, d⟩) inb fun a => by
    match a with
    | ⟨0, _⟩ => exact h0
    | ⟨1, _⟩ => exact h1

theorem EvS.ld_ids {σ : St F} {off : Fin 2 → ℕ} {size : Fin 2 → ℕ} {inb : ∀ a, off a + size a ≤ S24x2.size a} {hl} :
    EvS c I σ (Prog.lift (.load A2 (Rect.unit (s := S24x2) off size inb).toLoadRect hl))
      (fun i => I.ids (off 0 + i 0) (off 1 + i 1)) σ :=
  EvS.loadW .ids rfl (funext fun i => by
    show I.ids (off 0 + 1 * i 0) (off 1 + 1 * i 1) = _
    rw [Nat.one_mul, Nat.one_mul])
theorem EvS.ld_wts {σ : St F} {off : Fin 2 → ℕ} {size : Fin 2 → ℕ} {inb : ∀ a, off a + size a ≤ S24x2.size a} {hl} :
    EvS c I σ (Prog.lift (.load A3 (Rect.unit (s := S24x2) off size inb).toLoadRect hl))
      (fun i => I.wts (off 0 + i 0) (off 1 + i 1)) σ :=
  EvS.loadW .wts rfl (funext fun i => by
    show I.wts (off 0 + 1 * i 0) (off 1 + 1 * i 1) = _
    rw [Nat.one_mul, Nat.one_mul])
theorem EvS.ld_sx {σ : St F} {off : Fin 2 → ℕ} {size : Fin 2 → ℕ} {inb : ∀ a, off a + size a ≤ S8x5120.size a} {hl} :
    EvS c I σ (Prog.lift (.load A12 (Rect.unit (s := S8x5120) off size inb).toLoadRect hl))
      (fun i => σ.sx (off 0 + i 0) (off 1 + i 1)) σ :=
  EvS.loadW .sx rfl (funext fun i => by
    show σ.sx (off 0 + 1 * i 0) (off 1 + 1 * i 1) = _
    rw [Nat.one_mul, Nat.one_mul])
theorem EvS.ld_acc {σ : St F} {off : Fin 2 → ℕ} {size : Fin 2 → ℕ} {inb : ∀ a, off a + size a ≤ S24x5120.size a} {hl} :
    EvS c I σ (Prog.lift (.load A13 (Rect.unit (s := S24x5120) off size inb).toLoadRect hl))
      (fun i => σ.acc (off 0 + i 0) (off 1 + i 1)) σ :=
  EvS.loadW .acc rfl (funext fun i => by
    show σ.acc (off 0 + 1 * i 0) (off 1 + 1 * i 1) = _
    rw [Nat.one_mul, Nat.one_mul])
theorem EvS.ld_y {σ : St F} {off : Fin 2 → ℕ} {size : Fin 2 → ℕ} {inb : ∀ a, off a + size a ≤ S24x5120.size a} {hl} :
    EvS c I σ (Prog.lift (.load A14 (Rect.unit (s := S24x5120) off size inb).toLoadRect hl))
      (fun i => σ.y (off 0 + i 0) (off 1 + i 1)) σ :=
  EvS.loadW .y rfl (funext fun i => by
    show σ.y (off 0 + 1 * i 0) (off 1 + 1 * i 1) = _
    rw [Nat.one_mul, Nat.one_mul])
theorem EvS.ld_out {σ : St F} {off : Fin 2 → ℕ} {size : Fin 2 → ℕ} {inb : ∀ a, off a + size a ≤ S24x5120.size a} {hl} :
    EvS c I σ (Prog.lift (.load A8 (Rect.unit (s := S24x5120) off size inb).toLoadRect hl))
      (fun i => σ.out (off 0 + i 0) (off 1 + i 1)) σ :=
  EvS.loadW .out rfl (funext fun i => by
    show σ.out (off 0 + 1 * i 0) (off 1 + 1 * i 1) = _
    rw [Nat.one_mul, Nat.one_mul])
theorem EvS.ld_sgu {σ : St F} {off : Fin 3 → ℕ} {size : Fin 3 → ℕ} {inb : ∀ a, off a + size a ≤ S8x40x16.size a} {hl} :
    EvS c I σ (Prog.lift (.load A4 (Rect.unit (s := S8x40x16) off size inb).toLoadRect hl))
      (fun i => I.sgu (off 0 + i 0) (off 1 + i 1) (off 2 + i 2)) σ :=
  EvS.loadW .sgu rfl (funext fun i => by
    show I.sgu (off 0 + 1 * i 0) (off 1 + 1 * i 1) (off 2 + 1 * i 2) = _
    rw [Nat.one_mul, Nat.one_mul, Nat.one_mul])
theorem EvS.ld_sd {σ : St F} {off : Fin 3 → ℕ} {size : Fin 3 → ℕ} {inb : ∀ a, off a + size a ≤ S8x8x40.size a} {hl} :
    EvS c I σ (Prog.lift (.load A5 (Rect.unit (s := S8x8x40) off size inb).toLoadRect hl))
      (fun i => I.sd (off 0 + i 0) (off 1 + i 1) (off 2 + i 2)) σ :=
  EvS.loadW .sd rfl (funext fun i => by
    show I.sd (off 0 + 1 * i 0) (off 1 + 1 * i 1) (off 2 + 1 * i 2) = _
    rw [Nat.one_mul, Nat.one_mul, Nat.one_mul])
theorem EvS.ld_sg {σ : St F} {off : Fin 3 → ℕ} {size : Fin 3 → ℕ} {inb : ∀ a, off a + size a ≤ S16x40x128.size a} {hl} :
    EvS c I σ (Prog.lift (.load A11 (Rect.unit (s := S16x40x128) off size inb).toLoadRect hl))
      (fun i => σ.sg (off 0 + i 0) (off 1 + i 1) (off 2 + i 2)) σ :=
  EvS.loadW .sg rfl (funext fun i => by
    show σ.sg (off 0 + 1 * i 0) (off 1 + 1 * i 1) (off 2 + 1 * i 2) = _
    rw [Nat.one_mul, Nat.one_mul, Nat.one_mul])

theorem EvS.st_sx {σ : St F} {off : Fin 2 → ℕ} {size : Fin 2 → ℕ} {inb : ∀ a, off a + size a ≤ S8x5120.size a} {w hx hm}
    (f' : ℕ → ℕ → Elt F .f32)
    (h1 : ∀ i : Shape.Idx ⟨2, size⟩, f' (off 0 + i 0) (off 1 + i 1) = w i)
    (h2 : ∀ a b, a < 8 → b < 5120 → ¬ ((off 0 ≤ a ∧ a < off 0 + size 0) ∧ (off 1 ≤ b ∧ b < off 1 + size 1)) → f' a b = σ.sx a b) :
    EvS c I σ (Prog.lift (.store A12 (Rect.unit (s := S8x5120) off size inb) w Finset.univ hx hm)) ⟨⟩ { σ with sx := f' } :=
  EvS.storeW .sx { σ with sx := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_acc {σ : St F} {off : Fin 2 → ℕ} {size : Fin 2 → ℕ} {inb : ∀ a, off a + size a ≤ S24x5120.size a} {w hx hm}
    (f' : ℕ → ℕ → Elt F .f32)
    (h1 : ∀ i : Shape.Idx ⟨2, size⟩, f' (off 0 + i 0) (off 1 + i 1) = w i)
    (h2 : ∀ a b, a < 24 → b < 5120 → ¬ ((off 0 ≤ a ∧ a < off 0 + size 0) ∧ (off 1 ≤ b ∧ b < off 1 + size 1)) → f' a b = σ.acc a b) :
    EvS c I σ (Prog.lift (.store A13 (Rect.unit (s := S24x5120) off size inb) w Finset.univ hx hm)) ⟨⟩ { σ with acc := f' } :=
  EvS.storeW .acc { σ with acc := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_y {σ : St F} {off : Fin 2 → ℕ} {size : Fin 2 → ℕ} {inb : ∀ a, off a + size a ≤ S24x5120.size a} {w hx hm}
    (f' : ℕ → ℕ → Elt F .f32)
    (h1 : ∀ i : Shape.Idx ⟨2, size⟩, f' (off 0 + i 0) (off 1 + i 1) = w i)
    (h2 : ∀ a b, a < 24 → b < 5120 → ¬ ((off 0 ≤ a ∧ a < off 0 + size 0) ∧ (off 1 ≤ b ∧ b < off 1 + size 1)) → f' a b = σ.y a b) :
    EvS c I σ (Prog.lift (.store A14 (Rect.unit (s := S24x5120) off size inb) w Finset.univ hx hm)) ⟨⟩ { σ with y := f' } :=
  EvS.storeW .y { σ with y := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_out {σ : St F} {off : Fin 2 → ℕ} {size : Fin 2 → ℕ} {inb : ∀ a, off a + size a ≤ S24x5120.size a} {w hx hm}
    (f' : ℕ → ℕ → Elt F .bf16)
    (h1 : ∀ i : Shape.Idx ⟨2, size⟩, f' (off 0 + i 0) (off 1 + i 1) = w i)
    (h2 : ∀ a b, a < 24 → b < 5120 → ¬ ((off 0 ≤ a ∧ a < off 0 + size 0) ∧ (off 1 ≤ b ∧ b < off 1 + size 1)) → f' a b = σ.out a b) :
    EvS c I σ (Prog.lift (.store A8 (Rect.unit (s := S24x5120) off size inb) w Finset.univ hx hm)) ⟨⟩ { σ with out := f' } :=
  EvS.storeW .out { σ with out := f' } (fun j hj => by cases j <;> first | exact absurd rfl hj | rfl) rfl rfl
    (write_rect (fun i => by
      rw [← h1 i]
      show f' (off 0 + 1 * i 0) (off 1 + 1 * i 1) = _
      rw [Nat.one_mul, Nat.one_mul])
    fun i hi => h2 _ _ (i 0).2 (i 1).2 fun h => hi (mem_rect2 inb h.1 h.2))

theorem EvS.st_sg {σ : St F} {off : Fin 3 → ℕ} {size : Fin 3 → ℕ} {inb : ∀ a, off a + size a ≤ S16x40x128.size a} {w hx hm}
    (f' : ℕ → ℕ → ℕ → Elt F .f32)
    (h1 : ∀ i : Shape.Idx ⟨3, size⟩, f' (off 0 + i 0) (off 1 + i 1) (off 2 + i 2) = w i)
    (h2 : ∀ a b d, a < 16 → b < 40 → d < 128 → ¬ ((off 0 ≤ a ∧ a < off 0 + size 0) ∧ (off 1 ≤ b ∧ b < off 1 + size 1) ∧ (off 2 ≤ d ∧ d < off 2 + size 2)) →
      f' a b d = σ.sg a b d) :
    EvS c I σ (Prog.lift (.store A11 (Rect.unit (s := S16x40x128) off size inb) w Finset.univ hx hm)) ⟨⟩ { σ with sg := f' } :=
  EvS.storeW .sg { σ with sg := f' } (fun j hj => by cases j <;> first | exact absurd rfl hj | rfl) rfl rfl
    (write_rect (fun i => by
      rw [← h1 i]
      show f' (off 0 + 1 * i 0) (off 1 + 1 * i 1) (off 2 + 1 * i 2) = _
      rw [Nat.one_mul, Nat.one_mul, Nat.one_mul])
    fun i hi => h2 _ _ _ (i 0).2 (i 1).2 (i 2).2 fun h => hi (mem_rect (S := S16x40x128) inb fun a => by
      match a with
      | ⟨0, _⟩ => exact h.1
      | ⟨1, _⟩ => exact h.2.1
      | ⟨2, _⟩ => exact h.2.2))

theorem EvS.st_ord {σ : St F} {off : Fin 1 → ℕ} {inb : ∀ a, off a + S1.size a ≤ S9.size a} {v : Elt F .i32} {hx hm} :
    EvS c I σ (Prog.lift (.store A15 (Rect.unit (s := S9) off S1.size inb) (fun _ => v) Finset.univ hx hm)) ⟨⟩
      { σ with ord := fun a => if a = off 0 then v else σ.ord a } :=
  EvS.storeW .ord { σ with ord := fun a => if a = off 0 then v else σ.ord a }
    (fun j hj => by cases j <;> first | exact absurd rfl hj | rfl) rfl rfl
    (write_rect (fun i => by
      have h0 : (i 0 : ℕ) < 1 := (i 0).2
      show (if off 0 + 1 * i 0 = off 0 then v else _) = v
      rw [if_pos (by omega)])
    fun i hi => by
      refine if_neg fun h => hi (mem_rect (S := S9) inb fun a => ?_)
      match a with
      | ⟨0, _⟩ =>
        have h' : (i 0 : ℕ) = off 0 := h
        show off 0 ≤ (i 0 : ℕ) ∧ (i 0 : ℕ) < off 0 + 1
        omega)

theorem EvS.sld_ord {σ : St F} {off : Fin 1 → ℕ} {inb : ∀ a, off a + S1.size a ≤ S9.size a} {h1 hp} :
    EvS c I σ (smemLoad A15 (Rect.unit (s := S9) off S1.size inb) h1 hp) (σ.ord (off 0)) σ := by
  refine EvS.one .ord σ (fun _ _ => rfl) fun Φ => ?_
  have e : ((A15.access (Rect.unit (s := S9) off S1.size inb)).read (Elt F) (fun i => σ.ord (i 0)) (Shape.Idx.first (h1.symm ▸ Nat.one_pos)) : Elt F .i32) = σ.ord (off 0) := by
    have h0 : ((Shape.Idx.first (s := S1) (h1.symm ▸ Nat.one_pos)) 0 : ℕ) < 1 := ((Shape.Idx.first (s := S1) (h1.symm ▸ Nat.one_pos)) 0).2
    show σ.ord (off 0 + 1 * ((Shape.Idx.first (s := S1) (h1.symm ▸ Nat.one_pos)) 0 : ℕ)) = _
    congr 1
  rw [← e]
  exact wp_smemLoadElt (defs := defs₀ (F := F)) Variants.none (c : Thread nD τ) none Set.univ (Q := Φ) (m := A15)
    (r := Rect.unit (s := S9) off S1.size inb) (hw := View.loads_smem_one hp h1) (x := Shape.Idx.first (h1.symm ▸ Nat.one_pos)) (k := fun v => .ret v)
    (q := fullShare) (f := fun i => σ.ord (i 0)) (S := Finset.univ) (Finset.subset_univ _)

theorem EvS.sld_iw {σ : St F} {off : Fin 1 → ℕ} {inb : ∀ a, off a + S1.size a ≤ S48.size a} {h1 hp} :
    EvS c I σ (smemLoad A0 (Rect.unit (s := S48) off S1.size inb) h1 hp) (I.iw (off 0)) σ := by
  refine EvS.one .iw σ (fun _ _ => rfl) fun Φ => ?_
  have e : ((A0.access (Rect.unit (s := S48) off S1.size inb)).read (Elt F) (fun i => I.iw (i 0)) (Shape.Idx.first (h1.symm ▸ Nat.one_pos)) : Elt F .i32) = I.iw (off 0) := by
    have h0 : ((Shape.Idx.first (s := S1) (h1.symm ▸ Nat.one_pos)) 0 : ℕ) < 1 := ((Shape.Idx.first (s := S1) (h1.symm ▸ Nat.one_pos)) 0).2
    show I.iw (off 0 + 1 * ((Shape.Idx.first (s := S1) (h1.symm ▸ Nat.one_pos)) 0 : ℕ)) = _
    congr 1
  rw [← e]
  exact wp_smemLoadElt (defs := defs₀ (F := F)) Variants.none (c : Thread nD τ) none Set.univ (Q := Φ) (m := A0)
    (r := Rect.unit (s := S48) off S1.size inb) (hw := View.loads_smem_one hp h1) (x := Shape.Idx.first (h1.symm ▸ Nat.one_pos)) (k := fun v => .ret v)
    (q := fullShare) (f := fun i => I.iw (i 0)) (S := Finset.univ) (Finset.subset_univ _)

end Cert.KernelIdeal.Moe
-- ==== Proof.KI.Tile.lean ====
/-
  Tiles: the gate and up products, the down product, the widened scales.
-/
module

public import proofs.«01_k».proof.Proof.KI.Dma
public import proofs.«01_k».proof.Proof.KI.Mem

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}

/-- A row of the widened gate and up scales. -/
def sgV (sg : ℕ → ℕ → ℕ → Elt F .f32) (a k : ℕ) : Vec F S1x1x128 .f32 := fun i => sg (a + i 0) (k + i 1) (0 + i 2)
/-- A tile of the gate (`w = 0`) or up (`w = 1`) weights. -/
def wV (I : Inp F) (e j w k : ℕ) : Vec F S1x1x128x256 .fp8e4m3 := fun i => I.wgu e (k + i 2) (w * 1024 + 256 * j + (0 + i 3))
/-- A tile of the activations. -/
def xV (I : Inp F) (k : ℕ) : Vec F S24x256 .bf16 := fun i => I.x (0 + i 0) (k + i 1)
/-- A tile of the down weights. -/
def dV (I : Inp F) (e j r n : ℕ) : Vec F S1x128x256 .fp8e4m3 := fun i => I.wd e (256 * j + (r + i 1)) (n + i 2)
/-- A piece of a row of the widened down scales. -/
def sxV (sx : ℕ → ℕ → Elt F .f32) (a n : ℕ) : Vec F S1x256 .f32 := fun i => sx (a + i 0) (n + i 1)
/-- A column tile of the expert's sum. -/
def yV (y : ℕ → ℕ → Elt F .f32) (n : ℕ) : Vec F S24x256 .f32 := fun i => y (0 + i 0) (n + i 1)

/-- One double tile of the gate or up product. -/
theorem Ev.tile {α : Type} {Q : α → St F → Prop} {σ : St F} (s : Fin 4) (w : Fin 2) {e j c0 : ℕ} (hσ : σ.g s = .rdy e j)
    {o1 o2 o4 o5 : Fin 3 → ℕ} {o3 o6 : Fin 4 → ℕ} {o7 : Fin 2 → ℕ} {i1 i2 i3 i4 i5 i6 i7 l1 l2 l3 l4 l5 l6 l7}
    {R : Vec F S1x1x128 .f32 → Vec F S1x1x128 .f32 → Vec F S1x1x128x256 .fp8e4m3 → Vec F S1x1x128 .f32 → Vec F S1x1x128 .f32 → Vec F S1x1x128x256 .fp8e4m3 → Vec F S24x256 .bf16 → P (F := F) α}
    (a1 : o1 0 = c0) (b1 : o1 2 = 0) (a2 : o2 0 = c0 + 1) (b2 : o2 2 = 0) (a3 : o3 0 = s) (b3 : o3 1 = w) (d3 : o3 3 = 0)
    (a4 : o4 0 = c0) (b4 : o4 2 = 0) (a5 : o5 0 = c0 + 1) (b5 : o5 2 = 0) (a6 : o6 0 = s) (b6 : o6 1 = w) (d6 : o6 3 = 0) (a7 : o7 0 = 0)
    (h : Ev c I Q σ (R (sgV σ.sg c0 (o1 1)) (sgV σ.sg (c0 + 1) (o2 1)) (wV I e j w (o3 2)) (sgV σ.sg c0 (o4 1)) (sgV σ.sg (c0 + 1) (o5 1)) (wV I e j w (o6 2)) (xV I (o7 1)))) :
    Ev c I Q σ (Prog.lift (.load A11 (Rect.unit (s := S16x40x128) o1 S1x1x128.size i1).toLoadRect l1) >>= fun v1 =>
      Prog.lift (.load A11 (Rect.unit (s := S16x40x128) o2 S1x1x128.size i2).toLoadRect l2) >>= fun v2 =>
      Prog.lift (.load A9 (Rect.unit (s := S4x2x5120x256) o3 S1x1x128x256.size i3).toLoadRect l3) >>= fun v3 =>
      Prog.lift (.load A11 (Rect.unit (s := S16x40x128) o4 S1x1x128.size i4).toLoadRect l4) >>= fun v4 =>
      Prog.lift (.load A11 (Rect.unit (s := S16x40x128) o5 S1x1x128.size i5).toLoadRect l5) >>= fun v5 =>
      Prog.lift (.load A9 (Rect.unit (s := S4x2x5120x256) o6 S1x1x128x256.size i6).toLoadRect l6) >>= fun v6 =>
      Prog.lift (.load A1 (Rect.unit (s := S24x5120) o7 S24x256.size i7).toLoadRect l7) >>= fun v7 => R v1 v2 v3 v4 v5 v6 v7) := by
  refine Ev.bind EvS.ld_sg (Ev.bind EvS.ld_sg (Ev.bind (EvS.ld_g s w hσ a3 b3 rfl rfl) (Ev.bind EvS.ld_sg (Ev.bind EvS.ld_sg (Ev.bind (EvS.ld_g s w hσ a6 b6 rfl rfl) (Ev.bind EvS.ld_x ?_))))))
  rw [a1, b1, a2, b2, d3, a4, b4, a5, b5, d6, a7]
  exact h

/-- The columns below `256 * n` from `new`, the others from `old`. -/
def yMix (n : ℕ) (new old : ℕ → ℕ → Elt F .f32) (a b : ℕ) : Elt F .f32 := if b < 256 * n then new a b else old a b

/-- One column tile of the expert's sum after the down product. -/
def yTile (I : Inp F) (sx : ℕ → ℕ → Elt F .f32) (e j : ℕ) (hid : FVec F S24x256 .bf16) (old : ℕ → ℕ → Elt F .f32) (n : ℕ) : FVec F S24x256 .f32 :=
  k0_pay103 hid (dV I e j 0 (256 * n)) (sxV sx (2 * j) (256 * n)) (dV I e j 128 (256 * n)) (sxV sx (2 * j + 1) (256 * n)) (yV old (256 * n))

/-- The expert's sum after the down product. -/
def yNew (I : Inp F) (sx : ℕ → ℕ → Elt F .f32) (e j : ℕ) (hid : FVec F S24x256 .bf16) (old : ℕ → ℕ → Elt F .f32) (a b : ℕ) : Elt F .f32 :=
  if h : a < 24 then yTile I sx e j hid old (b / 256) (ix2 ⟨a, h⟩ ⟨b % 256, Nat.mod_lt _ (by decide)⟩) else old a b

theorem yNew_at (I : Inp F) (sx : ℕ → ℕ → Elt F .f32) (e j : ℕ) (hid : FVec F S24x256 .bf16) (old : ℕ → ℕ → Elt F .f32) (n : ℕ) (i : S24x256.Idx) :
    yNew I sx e j hid old (i 0) (256 * n + i 1) = yTile I sx e j hid old n i := by
  have h0 : (i 0 : ℕ) < 24 := (i 0).2
  have h1 : (i 1 : ℕ) < 256 := (i 1).2
  have hd : (256 * n + (i 1 : ℕ)) / 256 = n := by omega
  have hm : (256 * n + (i 1 : ℕ)) % 256 = i 1 := by omega
  unfold yNew
  rw [dif_pos h0, hd]
  congr 1
  exact (congrArg₂ ix2 (Fin.ext rfl) (Fin.ext hm)).trans (eq_ix2 i).symm

/-- One column tile of the down product. -/
theorem Ev.down {α : Type} {Q : α → St F → Prop} (σ : St F) (s : Fin 4) {e j n : ℕ} (hid : FVec F S24x256 .bf16) {old : ℕ → ℕ → Elt F .f32} (hσ : σ.d s = .rdy e j)
    {o1 o3 : Fin 3 → ℕ} {o2 o4 : Fin 2 → ℕ} {m : ℕ} {i1 i2 i3 i4 i5 i6 i7 l1 l2 l3 l4 l5 l6 l7 l8}
    {pay : Vec F S1x128x256 .fp8e4m3 → Vec F S1x256 .f32 → Vec F S1x128x256 .fp8e4m3 → Vec F S1x256 .f32 → Vec F S24x256 .f32 → FVec F S24x256 .f32}
    {R : P (F := F) α}
    (hp : ∀ v1 v2 v3 v4 v5, pay v1 v2 v3 v4 v5 = k0_pay103 hid v1 v2 v3 v4 v5)
    (a1 : o1 0 = s) (a2 : o2 0 = 2 * j) (a3 : o3 0 = s) (a4 : o4 0 = 2 * j + 1)
    (hm : m = 256 * n) (b1 : o1 1 = 0) (d1 : o1 2 = m) (b2 : o2 1 = m) (b3 : o3 1 = 128) (d3 : o3 2 = m) (b4 : o4 1 = m)
    (h : Ev c I Q { σ with y := yMix (n + 1) (yNew I σ.sx e j hid old) old } R) :
    Ev c I Q { σ with y := yMix n (yNew I σ.sx e j hid old) old } (Prog.lift (.load A10 (Rect.unit (s := S4x256x5120) o1 S1x128x256.size i1).toLoadRect l1) >>= fun v1 =>
      Prog.lift (.load A12 (Rect.unit (s := S8x5120) o2 S1x256.size i2).toLoadRect l2) >>= fun v2 =>
      Prog.lift (.load A10 (Rect.unit (s := S4x256x5120) o3 S1x128x256.size i3).toLoadRect l3) >>= fun v3 =>
      Prog.lift (.load A12 (Rect.unit (s := S8x5120) o4 S1x256.size i4).toLoadRect l4) >>= fun v4 =>
      Prog.lift (.load A14 (Rect.unit (s := S24x5120) ![0, m] S24x256.size i5).toLoadRect l5) >>= fun v5 =>
      Prog.lift (.load A14 (Rect.unit (s := S24x5120) ![0, m] S24x256.size i6).toLoadRect l6) >>= fun _ =>
      Prog.lift (.store A14 (Rect.unit (s := S24x5120) ![0, m] S24x256.size i7) (pay v1 v2 v3 v4 v5) Finset.univ l7 l8) >>= fun _ => R) := by
  subst hm
  refine Ev.bind (EvS.ld_d s hσ a1 rfl) (Ev.bind EvS.ld_sx (Ev.bind (EvS.ld_d s hσ a3 rfl) (Ev.bind EvS.ld_sx (Ev.bind EvS.ld_y (Ev.bind EvS.ld_y (Ev.bind (EvS.st_y (yMix (n + 1) (yNew I σ.sx e j hid old) old) ?_ ?_) h))))))
  · intro i
    have h1 : (i 1 : ℕ) < 256 := (i 1).2
    rw [hp, a2, b1, d1, b2, b3, d3, a4, b4]
    show yMix (n + 1) (yNew I σ.sx e j hid old) old (0 + i 0) (256 * n + i 1) = _
    have e5 : (fun i : S24x256.Idx => yMix n (yNew I σ.sx e j hid old) old (0 + i 0) (256 * n + i 1)) = yV old (256 * n) :=
      funext fun i => if_neg (by omega)
    have e6 : yMix (n + 1) (yNew I σ.sx e j hid old) old (0 + i 0) (256 * n + i 1) = yNew I σ.sx e j hid old (0 + i 0) (256 * n + i 1) := if_pos (by omega)
    rw [e6, Nat.zero_add]
    refine (yNew_at I σ.sx e j hid old n i).trans ?_
    exact congrFun (congrArg (k0_pay103 hid (dV I e j 0 (256 * n)) (sxV σ.sx (2 * j) (256 * n)) (dV I e j 128 (256 * n)) (sxV σ.sx (2 * j + 1) (256 * n))) e5.symm) i
  · intro a b ha hb hn
    have hn' : ¬ ((0 ≤ a ∧ a < 0 + 24) ∧ (256 * n ≤ b ∧ b < 256 * n + 256)) := hn
    show (if b < 256 * (n + 1) then _ else _) = if b < 256 * n then _ else _
    by_cases h1 : b < 256 * n
    · rw [if_pos h1, if_pos (by omega)]
    · rw [if_neg h1, if_neg (by omega)]

/-- One column block of gate and up scales, widened. -/
def sgCol (I : Inp F) (e a : ℕ) : FVec F S1x40x128 .f32 := k0_pay2 fun i => I.sgu (e + i 0) (0 + i 1) (a + i 2)
def sgNew (I : Inp F) (e a r l : ℕ) : Elt F .f32 :=
  if h : r < 40 ∧ l < 128 then sgCol I e a (ix3 ⟨0, by decide⟩ ⟨r, h.1⟩ ⟨l, h.2⟩) else FloatOps.ofBits .f32 0#32
def sgMix (n : ℕ) (new old : ℕ → ℕ → ℕ → Elt F .f32) (a r l : ℕ) : Elt F .f32 := if a < n then new a r l else old a r l

theorem Ev.scaleG {α : Type} {Q : α → St F → Prop} (σ : St F) {e n : ℕ} {old : ℕ → ℕ → ℕ → Elt F .f32}
    {o1 : Fin 3 → ℕ} {m : ℕ} {i1 i2 i3 l1 l2 l3 l4} {pay : Vec F S1x40x1 .f32 → FVec F S1x40x128 .f32} {R : P (F := F) α}
    (hp : ∀ v, pay v = k0_pay2 v) (hm : m = n) (a1 : o1 0 = e) (b1 : o1 1 = 0) (d1 : o1 2 = m)
    (h : Ev c I Q { σ with sg := sgMix (n + 1) (sgNew I e) old } R) :
    Ev c I Q { σ with sg := sgMix n (sgNew I e) old } (Prog.lift (.load A4 (Rect.unit (s := S8x40x16) o1 S1x40x1.size i1).toLoadRect l1) >>= fun v1 =>
      Prog.lift (.load A11 (Rect.unit (s := S16x40x128) ![m, 0, 0] S1x40x128.size i2).toLoadRect l2) >>= fun _ =>
      Prog.lift (.store A11 (Rect.unit (s := S16x40x128) ![m, 0, 0] S1x40x128.size i3) (pay v1) Finset.univ l3 l4) >>= fun _ => R) := by
  subst hm
  refine Ev.bind EvS.ld_sgu (Ev.bind EvS.ld_sg (Ev.bind (EvS.st_sg (sgMix (m + 1) (sgNew I e) old) ?_ ?_) h))
  · intro i
    rw [hp, a1, b1, d1]
    have h0 : (i 0 : ℕ) = 0 := Nat.lt_one_iff.mp (i 0).2
    have h1 : (i 1 : ℕ) < 40 := (i 1).2
    have h2 : (i 2 : ℕ) < 128 := (i 2).2
    show sgMix (m + 1) (sgNew I e) old (m + i 0) (0 + i 1) (0 + i 2) = _
    rw [h0, Nat.zero_add, Nat.zero_add]
    have e1 : sgMix (m + 1) (sgNew I e) old (m + 0) (i 1) (i 2) = sgNew I e (m + 0) (i 1) (i 2) := if_pos (by omega)
    rw [e1, Nat.add_zero]
    unfold sgNew
    rw [dif_pos ⟨h1, h2⟩]
    show sgCol I e m _ = sgCol I e m i
    congr 1
    refine Eq.trans ?_ (eq_ix3 i).symm
    exact congrArg (fun z => ix3 z (i 1) (i 2)) (Fin.ext h0.symm)
  · intro a r l ha hr hl hn
    have hn' : ¬ ((m ≤ a ∧ a < m + 1) ∧ (0 ≤ r ∧ r < 0 + 40) ∧ (0 ≤ l ∧ l < 0 + 128)) := hn
    show (if a < m + 1 then _ else _) = if a < m then _ else _
    by_cases h1 : a < m
    · rw [if_pos h1, if_pos (by omega)]
    · rw [if_neg h1, if_neg (by omega)]

/-- One column block of down scales, widened. -/
def sxCol (I : Inp F) (e n : ℕ) : FVec F S8x128 .f32 := k0_pay42 fun i => I.sd (e + i 0) (0 + i 1) (n + i 2)
def sxNew (I : Inp F) (e r l : ℕ) : Elt F .f32 :=
  if h : r < 8 then sxCol I e (l / 128) (ix2 ⟨r, h⟩ ⟨l % 128, Nat.mod_lt _ (by decide)⟩) else FloatOps.ofBits .f32 0#32
def sxMix (n : ℕ) (new old : ℕ → ℕ → Elt F .f32) (r l : ℕ) : Elt F .f32 := if l < 128 * n then new r l else old r l

theorem Ev.scaleD {α : Type} {Q : α → St F → Prop} (σ : St F) {e n : ℕ} {old : ℕ → ℕ → Elt F .f32}
    {o1 : Fin 3 → ℕ} {m : ℕ} {i1 i2 i3 l1 l2 l3 l4} {pay : Vec F S1x8x1 .f32 → FVec F S8x128 .f32} {R : P (F := F) α}
    (hp : ∀ v, pay v = k0_pay42 v) (hm : m = 128 * n) (a1 : o1 0 = e) (b1 : o1 1 = 0) (d1 : o1 2 = n)
    (h : Ev c I Q { σ with sx := sxMix (n + 1) (sxNew I e) old } R) :
    Ev c I Q { σ with sx := sxMix n (sxNew I e) old } (Prog.lift (.load A5 (Rect.unit (s := S8x8x40) o1 S1x8x1.size i1).toLoadRect l1) >>= fun v1 =>
      Prog.lift (.load A12 (Rect.unit (s := S8x5120) ![0, m] S8x128.size i2).toLoadRect l2) >>= fun _ =>
      Prog.lift (.store A12 (Rect.unit (s := S8x5120) ![0, m] S8x128.size i3) (pay v1) Finset.univ l3 l4) >>= fun _ => R) := by
  subst hm
  refine Ev.bind EvS.ld_sd (Ev.bind EvS.ld_sx (Ev.bind (EvS.st_sx (sxMix (n + 1) (sxNew I e) old) ?_ ?_) h))
  · intro i
    rw [hp, a1, b1, d1]
    have h0 : (i 0 : ℕ) < 8 := (i 0).2
    have h1 : (i 1 : ℕ) < 128 := (i 1).2
    have hd : (128 * n + (i 1 : ℕ)) / 128 = n := by omega
    have hm : (128 * n + (i 1 : ℕ)) % 128 = i 1 := by omega
    show sxMix (n + 1) (sxNew I e) old (0 + i 0) (128 * n + i 1) = _
    have e1 : sxMix (n + 1) (sxNew I e) old (0 + i 0) (128 * n + i 1) = sxNew I e (0 + i 0) (128 * n + i 1) := if_pos (by omega)
    rw [e1, Nat.zero_add]
    unfold sxNew
    rw [dif_pos h0, hd]
    show sxCol I e n _ = sxCol I e n i
    congr 1
    exact (congrArg₂ ix2 (Fin.ext rfl) (Fin.ext hm)).trans (eq_ix2 i).symm
  · intro a b ha hb hn
    have hn' : ¬ ((0 ≤ a ∧ a < 0 + 8) ∧ (128 * n ≤ b ∧ b < 128 * n + 128)) := hn
    show (if b < 128 * (n + 1) then _ else _) = if b < 128 * n then _ else _
    by_cases h1 : b < 128 * n
    · rw [if_pos h1, if_pos (by omega)]
    · rw [if_neg h1, if_neg (by omega)]

end Cert.KernelIdeal.Moe
-- ==== Proof.KI.Ids.lean ====
/-
  The experts in use, their order, and the number of steps.
-/
module

public import proofs.«01_k».proof.Proof.KI.Ev

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The used experts' bits after the first `n` ids. -/
def usedW (f : ℕ → BitVec 32) : ℕ → BitVec 32
  | 0 => 0#32
  | n + 1 => Scalar.ori (usedW f n) (Scalar.shli 1#32 (f n))

/-- One expert's bit as a word. -/
def bitW (u : BitVec 32) (e : ℕ) : BitVec 32 := Scalar.andi (Scalar.shrsi u (BitVec.ofNat 32 e)) 1#32

/-- How many experts below `e` are used, as the kernel counts them. -/
def cntW (u : BitVec 32) : ℕ → BitVec 32
  | 0 => 0#32
  | e + 1 => Scalar.addi (cntW u e) (bitW u e)

/-- All ids' bits. -/
def U (f : ℕ → BitVec 32) : BitVec 32 := usedW f 48

/-- The number of experts below `e` in use. -/
def cnt (u : BitVec 32) (e : ℕ) : ℕ := (cntW u e).toNat

theorem bitW_le (u : BitVec 32) (e : ℕ) : (bitW u e).toNat ≤ 1 := by
  show (_ &&& (1#32 : BitVec 32)).toNat ≤ 1
  rw [BitVec.toNat_and]
  exact Nat.and_le_right

theorem cnt_succ_aux (u : BitVec 32) (e : ℕ) (h : cnt u e ≤ e) (he : e < 9) : cnt u (e + 1) = cnt u e + (bitW u e).toNat := by
  have h1 := bitW_le u e
  show (cntW u e + bitW u e).toNat = _
  rw [BitVec.toNat_add]
  exact Nat.mod_eq_of_lt (by unfold cnt at h; omega)

theorem cnt_le (u : BitVec 32) : ∀ e, e ≤ 9 → cnt u e ≤ e
  | 0, _ => Nat.le_refl 0
  | e + 1, he => by
    have h := cnt_le u e (by omega)
    have h1 := bitW_le u e
    rw [cnt_succ_aux u e h (by omega)]
    omega

theorem cnt_succ (u : BitVec 32) (e : ℕ) (he : e < 9) : cnt u (e + 1) = cnt u e + (bitW u e).toNat :=
  cnt_succ_aux u e (cnt_le u e (by omega)) he

theorem cntW_eq (u : BitVec 32) (e : ℕ) : cntW u e = BitVec.ofNat 32 (cnt u e) := by
  show _ = BitVec.ofNat 32 (cntW u e).toNat
  rw [BitVec.ofNat_toNat, BitVec.setWidth_eq]

/-- The order array after `k` experts, from what it held. -/
def ordF (u : BitVec 32) (o : ℕ → BitVec 32) : ℕ → ℕ → BitVec 32
  | 0 => o
  | k + 1 => fun a => if a = cnt u k then BitVec.ofNat 32 k else ordF u o k a

/-- The `i`-th used expert. -/
def ex (u : BitVec 32) (i : ℕ) : ℕ := (ordF u (fun _ => 0#32) 8 i).toNat

theorem ordF_eq (u : BitVec 32) (o : ℕ → BitVec 32) : ∀ k, k ≤ 8 → ∀ i, i < cnt u k →
    ordF u o k i = ordF u (fun _ => 0#32) k i
  | 0, _, i, h => absurd h (Nat.not_lt_zero _)
  | k + 1, hk, i, h => by
    have hs := cnt_succ u k (by omega)
    have h1 := bitW_le u k
    show (if i = cnt u k then _ else _) = if i = cnt u k then _ else _
    split
    · rfl
    · exact ordF_eq u o k (by omega) i (by omega)

theorem ordF_spec (u : BitVec 32) (o : ℕ → BitVec 32) : ∀ k, k ≤ 8 → ∀ i, i < cnt u k →
    ∃ e, e < k ∧ ordF u o k i = BitVec.ofNat 32 e ∧ bitW u e = 1#32
  | 0, _, i, h => absurd h (Nat.not_lt_zero _)
  | k + 1, hk, i, h => by
    have hs := cnt_succ u k (by omega)
    have h1 := bitW_le u k
    by_cases hi : i = cnt u k
    · refine ⟨k, Nat.lt_succ_self k, if_pos hi, ?_⟩
      apply BitVec.eq_of_toNat_eq
      show (bitW u k).toNat = 1
      omega
    · obtain ⟨e, he, h2, h3⟩ := ordF_spec u o k (by omega) i (by omega)
      exact ⟨e, by omega, (if_neg hi).trans h2, h3⟩

theorem ex_lt (u : BitVec 32) {i : ℕ} (h : i < cnt u 8) : ex u i < 8 := by
  obtain ⟨e, he, h2, _⟩ := ordF_spec u (fun _ => 0#32) 8 (Nat.le_refl _) i h
  unfold ex; rw [h2, BitVec.toNat_ofNat]; omega

theorem ord_ex (u : BitVec 32) (o : ℕ → BitVec 32) {i : ℕ} (h : i < cnt u 8) :
    ordF u o 8 i = BitVec.ofNat 32 (ex u i) := by
  rw [ordF_eq u o 8 (Nat.le_refl _) i h]
  unfold ex
  rw [BitVec.ofNat_toNat, BitVec.setWidth_eq]

/-- The trip loop over `4 * c` steps. -/
@[reducible] def loopW (c : BitVec 32) : Scf.Loop 32 :=
  ⟨0#32, Scalar.addi 0#32 (Scalar.muli (Scalar.divsi (Scalar.subi (Scalar.muli c 4#32) 0#32) 1#32) 1#32), 1#32⟩

@[reducible] def loopW2 (c : BitVec 32) : Scf.Loop 32 :=
  ⟨(loopW c).ub, Scalar.addi 0#32 (Scalar.subi (Scalar.muli c 4#32) 0#32), 1#32⟩

theorem loopW_all : ∀ n < 9, (loopW (BitVec.ofNat 32 n)).OK ∧ (loopW (BitVec.ofNat 32 n)).trips = 4 * n ∧
    (loopW2 (BitVec.ofNat 32 n)).OK ∧ (loopW2 (BitVec.ofNat 32 n)).trips = 0 := by decide +kernel

theorem loopW_c (u : BitVec 32) : (loopW (cntW u 8)).OK ∧ (loopW (cntW u 8)).trips = 4 * cnt u 8 ∧
    (loopW2 (cntW u 8)).OK ∧ (loopW2 (cntW u 8)).trips = 0 := by
  rw [cntW_eq u 8]; exact loopW_all _ (by have := cnt_le u 8 (by omega); omega)

abbrev t1L (f : ℕ → BitVec 32) : Scf.Loop 32 := k0_t1_loop (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)
abbrev t2L (f : ℕ → BitVec 32) : Scf.Loop 32 := k0_t2_loop (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)

theorem t1L_eq (f : ℕ → BitVec 32) : t1L f = loopW (cntW (U f) 8) := rfl
theorem t2L_eq (f : ℕ → BitVec 32) : t2L f = loopW2 (cntW (U f) 8) := rfl

theorem t1_trips (f : ℕ → BitVec 32) : (t1L f).trips = 4 * cnt (U f) 8 := (loopW_c (U f)).2.1
theorem t2_trips (f : ℕ → BitVec 32) : (t2L f).trips = 0 := (loopW_c (U f)).2.2.2
theorem t2_no (f : ℕ → BitVec 32) (t : Fin (t2L f).trips) {P : Prop} : P :=
  absurd (lt_of_lt_of_eq t.2 (t2_trips f)) (Nat.not_lt_zero _)
theorem t1_ok (f : ℕ → BitVec 32) : (t1L f).OK := (loopW_c (U f)).1
theorem t2_ok (f : ℕ → BitVec 32) : (t2L f).OK := (loopW_c (U f)).2.2.1
theorem t1_lt (f : ℕ → BitVec 32) (t : Fin (t1L f).trips) : t.val < 32 := by
  have h : t.val < 4 * cnt (U f) 8 := lt_of_lt_of_eq t.2 (t1_trips f)
  have := cnt_le (U f) 8 (by omega)
  omega

end Cert.KernelIdeal.Moe
-- ==== Proof.KI.Off.lean ====
/-
  The offsets the kernel computes, as numbers.
-/
module

public import proofs.«01_k».proof.Proof.KI.Ids

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The loop's step as the kernel's word. -/
abbrev iv (n : ℕ) : BitVec 32 := Scf.iv 0#32 1#32 n
abbrev slotW (n : ℕ) : BitVec 32 := Scalar.remsi (iv n) 4#32
abbrev nextW (n : ℕ) : BitVec 32 := Scalar.remsi (Scalar.subi (Scalar.addi (iv n) 4#32) 1#32) 4#32

/-- The words the kernel computes from the step number, as numbers. -/
theorem words_lt : ∀ n < 32, (slotW n).toNat = n % 4 ∧ (nextW n).toNat = (n + 3) % 4 ∧
    (Scalar.muli (nextW n) 256#32).toNat = 256 * ((n + 3) % 4) ∧
    (Scalar.addi 1024#32 (Scalar.muli (nextW n) 256#32)).toNat = 1024 + 256 * ((n + 3) % 4) := by decide +kernel

theorem srow_lt : ∀ n < 32,
    (Scalar.addi (Scalar.addi 0#32 (Scalar.muli (slotW n) 2#32)) 0#32).toNat = 2 * (n % 4) ∧
    (Scalar.addi (Scalar.addi 0#32 (Scalar.muli (slotW n) 2#32)) 1#32).toNat = 2 * (n % 4) + 1 ∧
    (Scalar.addi (Scalar.addi 8#32 (Scalar.muli (slotW n) 2#32)) 0#32).toNat = 8 + 2 * (n % 4) ∧
    (Scalar.addi (Scalar.addi 8#32 (Scalar.muli (slotW n) 2#32)) 1#32).toNat = 8 + 2 * (n % 4) + 1 ∧
    (Scalar.addi (Scalar.muli (slotW n) 2#32) 0#32).toNat = 2 * (n % 4) ∧
    (Scalar.addi (Scalar.muli (slotW n) 2#32) 1#32).toNat = 2 * (n % 4) + 1 := by decide +kernel

variable (f : ℕ → BitVec 32) (t : Fin (t1L f).trips)

theorem off36_eq : k0_off36 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) / 4] := by
  have ht : t.val < 32 := t1_lt f t
  simp only [k0_off36]
  generalize t.val = n at ht ⊢
  revert n; decide +kernel

theorem off35_eq : k0_off35 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val / 4] := by
  have ht : t.val < 32 := t1_lt f t
  simp only [k0_off35]
  generalize t.val = n at ht ⊢
  revert n; decide +kernel

theorem off101_eq : k0_off101 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val / 4] := by
  have ht : t.val < 32 := t1_lt f t
  simp only [k0_off101]
  generalize t.val = n at ht ⊢
  revert n; decide +kernel

theorem off37_eq : k0_off37 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4] := by
  have h := words_lt t.val (t1_lt f t)
  show ![(nextW t.val).toNat] = _
  rw [h.2.1]

theorem off40_eq : k0_off40 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4] := by
  have h := words_lt t.val (t1_lt f t)
  show ![(nextW t.val).toNat] = _
  rw [h.2.1]

theorem off38_eq : k0_off38 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4, 0, 0, 0] := by
  have h := words_lt t.val (t1_lt f t)
  show ![(nextW t.val).toNat, 0, 0, 0] = _
  rw [h.2.1]

theorem off41_eq : k0_off41 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4, 1, 0, 0] := by
  have h := words_lt t.val (t1_lt f t)
  show ![(nextW t.val).toNat, 1, 0, 0] = _
  rw [h.2.1]

theorem off43_eq : k0_off43 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![(t.val + 3) % 4, 0, 0] := by
  have h := words_lt t.val (t1_lt f t)
  show ![(nextW t.val).toNat, 0, 0] = _
  rw [h.2.1]

theorem off102_eq : k0_off102 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val % 4] := by
  have h := words_lt t.val (t1_lt f t)
  show ![(slotW t.val).toNat] = _
  rw [h.1]

theorem off105_eq : k0_off105 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = ![t.val % 4] := by
  have h := words_lt t.val (t1_lt f t)
  show ![(slotW t.val).toNat] = _
  rw [h.1]

theorem off39_eq (e : BitVec 32) : k0_off39 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e = ![e.toNat, 0, 256 * ((t.val + 3) % 4)] := by
  have h := words_lt t.val (t1_lt f t)
  show ![e.toNat, 0, (Scalar.muli (nextW t.val) 256#32).toNat] = _
  rw [h.2.2.1]

theorem off42_eq (e : BitVec 32) : k0_off42 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e = ![e.toNat, 0, 1024 + 256 * ((t.val + 3) % 4)] := by
  have h := words_lt t.val (t1_lt f t)
  show ![e.toNat, 0, (Scalar.addi 1024#32 (Scalar.muli (nextW t.val) 256#32)).toNat] = _
  rw [h.2.2.2]

theorem off44_eq (e : BitVec 32) : k0_off44 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e = ![e.toNat, 256 * ((t.val + 3) % 4), 0] := by
  have h := words_lt t.val (t1_lt f t)
  show ![e.toNat, (Scalar.muli (nextW t.val) 256#32).toNat, 0] = _
  rw [h.2.2.1]

theorem cond4_lt : ∀ n < 32, ∀ k < 9, (Scalar.cmpi .ne (Scalar.extui (Scalar.cmpi .slt (Scalar.subi (Scalar.addi (iv n) 4#32) 1#32)
    (Scalar.muli (BitVec.ofNat 32 k) 4#32)) : BitVec 32) 0#32 = 1#1) = decide (n + 3 < 4 * k) := by decide +kernel

theorem cond4_iff : k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1 ↔ t.val + 3 < 4 * cnt (U f) 8 := by
  have h := cond4_lt t.val (t1_lt f t) (cnt (U f) 8) (by have := cnt_le (U f) 8 (by omega); omega)
  rw [← cntW_eq] at h
  have e : (k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1) = (decide (t.val + 3 < 4 * cnt (U f) 8) = true) := h
  rw [e, decide_eq_true_iff]

theorem cond5_lt : ∀ n < 32, (Scalar.cmpi .ne (Scalar.extui (Scalar.cmpi .eq (slotW n) 0#32) : BitVec 32) 0#32 = 1#1) = decide (n % 4 = 0) := by decide +kernel
theorem cond5_iff : k0_cond5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1 ↔ t.val % 4 = 0 := by
  have e : (k0_cond5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1) = (decide (t.val % 4 = 0) = true) := cond5_lt t.val (t1_lt f t)
  rw [e, decide_eq_true_iff]
theorem cond6_lt : ∀ n < 32, (Scalar.cmpi .ne (Scalar.extui (Scalar.cmpi .eq (slotW n) 3#32) : BitVec 32) 0#32 = 1#1) = decide (n % 4 = 3) := by decide +kernel

theorem cond1_lt : ∀ k < 9, (Scalar.cmpi .ne (Scalar.extui (Scalar.cmpi .slt 0#32 (Scalar.muli (BitVec.ofNat 32 k) 4#32)) : BitVec 32) 0#32 = 1#1) = decide (0 < 4 * k) := by decide +kernel
theorem cond1_iff : k0_cond1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1 ↔ 0 < 4 * cnt (U f) 8 := by
  have h := cond1_lt (cnt (U f) 8) (by have := cnt_le (U f) 8 (by omega); omega)
  rw [← cntW_eq] at h
  have e : (k0_cond1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1) = (decide (0 < 4 * cnt (U f) 8) = true) := h
  rw [e, decide_eq_true_iff]

theorem cond2_lt : ∀ k < 9, (Scalar.cmpi .ne (Scalar.extui (Scalar.cmpi .slt 1#32 (Scalar.muli (BitVec.ofNat 32 k) 4#32)) : BitVec 32) 0#32 = 1#1) = decide (1 < 4 * k) := by decide +kernel
theorem cond2_iff : k0_cond2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1 ↔ 1 < 4 * cnt (U f) 8 := by
  have h := cond2_lt (cnt (U f) 8) (by have := cnt_le (U f) 8 (by omega); omega)
  rw [← cntW_eq] at h
  have e : (k0_cond2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1) = (decide (1 < 4 * cnt (U f) 8) = true) := h
  rw [e, decide_eq_true_iff]

theorem cond3_lt : ∀ k < 9, (Scalar.cmpi .ne (Scalar.extui (Scalar.cmpi .slt 2#32 (Scalar.muli (BitVec.ofNat 32 k) 4#32)) : BitVec 32) 0#32 = 1#1) = decide (2 < 4 * k) := by decide +kernel
theorem cond3_iff : k0_cond3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1 ↔ 2 < 4 * cnt (U f) 8 := by
  have h := cond3_lt (cnt (U f) 8) (by have := cnt_le (U f) 8 (by omega); omega)
  rw [← cntW_eq] at h
  have e : (k0_cond3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) = 1#1) = (decide (2 < 4 * cnt (U f) 8) = true) := h
  rw [e, decide_eq_true_iff]

end Cert.KernelIdeal.Moe
-- ==== Proof.KI.Chk.lean ====
/-
  The bounds of every access, for all ids.
-/
module

public import proofs.«01_k».proof.Proof.KI.Off

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ
theorem off1_ok (f : ℕ → BitVec 32) : ∀ a, k0_off1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 1 + 1 ≤ 9
    have := cnt_le (U f) 1 (by omega)
    omega
theorem off2_ok (f : ℕ → BitVec 32) : ∀ a, k0_off2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 2 + 1 ≤ 9
    have := cnt_le (U f) 2 (by omega)
    omega
theorem off3_ok (f : ℕ → BitVec 32) : ∀ a, k0_off3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 3 + 1 ≤ 9
    have := cnt_le (U f) 3 (by omega)
    omega
theorem off4_ok (f : ℕ → BitVec 32) : ∀ a, k0_off4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 4 + 1 ≤ 9
    have := cnt_le (U f) 4 (by omega)
    omega
theorem off5_ok (f : ℕ → BitVec 32) : ∀ a, k0_off5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 5 + 1 ≤ 9
    have := cnt_le (U f) 5 (by omega)
    omega
theorem off6_ok (f : ℕ → BitVec 32) : ∀ a, k0_off6 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 6 + 1 ≤ 9
    have := cnt_le (U f) 6 (by omega)
    omega
theorem off7_ok (f : ℕ → BitVec 32) : ∀ a, k0_off7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) a + S1.size a ≤ S9.size a := fun a => by
  match a with
  | ⟨0, _⟩ =>
    show cnt (U f) 7 + 1 ≤ 9
    have := cnt_le (U f) 7 (by omega)
    omega

theorem fin8 {e : BitVec 32} (he : e.toNat < 8) : ∃ n, n < 8 ∧ e = BitVec.ofNat 32 n := ⟨e.toNat, he, by rw [BitVec.ofNat_toNat, BitVec.setWidth_eq]⟩
theorem chk1_0 (f : ℕ → BitVec 32) : k0_chk1_0 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, t1_ok f, ?_, ?_, ?_, ?_, ?_, ?_, ?_, ?_, ?_, ?_, ?_, ?_, ?_, ?_, ?_, ?_, ?_, ?_, ?_, ?_, ?_, ?_, ?_, ?_⟩
  · exact off1_ok f
  · exact off2_ok f
  · exact off3_ok f
  · exact off4_ok f
  · exact off5_ok f
  · exact off6_ok f
  · exact off7_ok f
  all_goals (intro t; have ht : t.val < 32 := t1_lt f t)
  all_goals first
    | (simp only [k0_off35, k0_off36, k0_mult10, k0_mult11, k0_mult12, k0_off37, k0_off38, k0_off40, k0_off41, k0_off43, k0_off101, k0_mult13, k0_mult14, k0_mult15, k0_off102, k0_off103, k0_off105, k0_off106, k0_off108]; generalize t.val = n at ht ⊢; revert n; decide +kernel)
    | (intro h4; clear h4; first | (simp only [k0_off35, k0_off36, k0_mult10, k0_mult11, k0_mult12, k0_off37, k0_off38, k0_off40, k0_off41, k0_off43, k0_off101, k0_mult13, k0_mult14, k0_mult15, k0_off102, k0_off103, k0_off105, k0_off106, k0_off108]; generalize t.val = n at ht ⊢; revert n; decide +kernel) | (intro hinb; refine (Rect.wholeWords_iff_at _ _).2 ?_; simp only [Rect.unit, k0_off35, k0_off36, k0_mult10, k0_mult11, k0_mult12, k0_off37, k0_off38, k0_off40, k0_off41, k0_off43, k0_off101, k0_mult13, k0_mult14, k0_mult15, k0_off102, k0_off103, k0_off105, k0_off106, k0_off108]; clear hinb; generalize t.val = n at ht ⊢; revert n; decide +kernel))
    | (intro hinb; refine (Rect.wholeWords_iff_at _ _).2 ?_; simp only [Rect.unit, k0_off35, k0_off36, k0_mult10, k0_mult11, k0_mult12, k0_off37, k0_off38, k0_off40, k0_off41, k0_off43, k0_off101, k0_mult13, k0_mult14, k0_mult15, k0_off102, k0_off103, k0_off105, k0_off106, k0_off108]; clear hinb; generalize t.val = n at ht ⊢; revert n; decide +kernel)
theorem chk1_1 (f : ℕ → BitVec 32) : k0_chk1_1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; generalize t.val = n at ht ⊢; revert n; decide +kernel)
    | (intro h4; clear h4; first | (simp only [k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; generalize t.val = n at ht ⊢; revert n; decide +kernel) | (intro hinb; refine (Rect.wholeWords_iff_at _ _).2 ?_; simp only [Rect.unit, k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; clear hinb; generalize t.val = n at ht ⊢; revert n; decide +kernel))
    | (intro hinb; refine (Rect.wholeWords_iff_at _ _).2 ?_; simp only [Rect.unit, k0_off109, k0_off110, k0_off111, k0_off112, k0_off113, k0_off114, k0_off115, k0_off116, k0_off117, k0_off118, k0_off119, k0_off120, k0_off121, k0_off122, k0_off123, k0_off124, k0_off125, k0_off126, k0_off127, k0_off128, k0_off129, k0_off130, k0_off131, k0_off132, k0_off133, k0_off134, k0_off135, k0_off136, k0_off137, k0_off138, k0_off139, k0_off140]; clear hinb; generalize t.val = n at ht ⊢; revert n; decide +kernel)
theorem chk1_2 (f : ℕ → BitVec 32) : k0_chk1_2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; generalize t.val = n at ht ⊢; revert n; decide +kernel)
    | (intro h4; clear h4; first | (simp only [k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; generalize t.val = n at ht ⊢; revert n; decide +kernel) | (intro hinb; refine (Rect.wholeWords_iff_at _ _).2 ?_; simp only [Rect.unit, k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; clear hinb; generalize t.val = n at ht ⊢; revert n; decide +kernel))
    | (intro hinb; refine (Rect.wholeWords_iff_at _ _).2 ?_; simp only [Rect.unit, k0_off141, k0_off142, k0_off143, k0_off144, k0_off145, k0_off146, k0_off147, k0_off148, k0_off149, k0_off150, k0_off151, k0_off152, k0_off153, k0_off154, k0_off155, k0_off156, k0_off157, k0_off158, k0_off159, k0_off160, k0_off161, k0_off162, k0_off163, k0_off164, k0_off165, k0_off166, k0_off167, k0_off168, k0_off169, k0_off170, k0_off171, k0_off172]; clear hinb; generalize t.val = n at ht ⊢; revert n; decide +kernel)
theorem chk1_3 (f : ℕ → BitVec 32) : k0_chk1_3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; generalize t.val = n at ht ⊢; revert n; decide +kernel)
    | (intro h4; clear h4; first | (simp only [k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; generalize t.val = n at ht ⊢; revert n; decide +kernel) | (intro hinb; refine (Rect.wholeWords_iff_at _ _).2 ?_; simp only [Rect.unit, k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; clear hinb; generalize t.val = n at ht ⊢; revert n; decide +kernel))
    | (intro hinb; refine (Rect.wholeWords_iff_at _ _).2 ?_; simp only [Rect.unit, k0_off173, k0_off174, k0_off175, k0_off176, k0_off177, k0_off178, k0_off179, k0_off180, k0_off181, k0_off182, k0_off183, k0_off184, k0_off185, k0_off186, k0_off187, k0_off188, k0_off189, k0_off190, k0_off191, k0_off192, k0_off193, k0_off194, k0_off195, k0_off196, k0_off197, k0_off198, k0_off199, k0_off200, k0_off201, k0_off202, k0_off203, k0_off204]; clear hinb; generalize t.val = n at ht ⊢; revert n; decide +kernel)
theorem chk1_4 (f : ℕ → BitVec 32) : k0_chk1_4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; generalize t.val = n at ht ⊢; revert n; decide +kernel)
    | (intro h4; clear h4; first | (simp only [k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; generalize t.val = n at ht ⊢; revert n; decide +kernel) | (intro hinb; refine (Rect.wholeWords_iff_at _ _).2 ?_; simp only [Rect.unit, k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; clear hinb; generalize t.val = n at ht ⊢; revert n; decide +kernel))
    | (intro hinb; refine (Rect.wholeWords_iff_at _ _).2 ?_; simp only [Rect.unit, k0_off205, k0_off206, k0_off207, k0_off208, k0_off209, k0_off210, k0_off211, k0_off212, k0_off213, k0_off214, k0_off215, k0_off216, k0_off217, k0_off218, k0_off219, k0_off220, k0_off221, k0_off222, k0_off223, k0_off224, k0_off225, k0_off226, k0_off227, k0_off228, k0_off230, k0_off231, k0_off232, k0_off233, k0_off234, k0_off235, k0_off236]; clear hinb; generalize t.val = n at ht ⊢; revert n; decide +kernel)
theorem chk1_5 (f : ℕ → BitVec 32) : k0_chk1_5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro t; have ht : t.val < 32 := t1_lt f t)
  all_goals first
    | (simp only [k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; generalize t.val = n at ht ⊢; revert n; decide +kernel)
    | (intro h4; clear h4; first | (simp only [k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; generalize t.val = n at ht ⊢; revert n; decide +kernel) | (intro hinb; refine (Rect.wholeWords_iff_at _ _).2 ?_; simp only [Rect.unit, k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; clear hinb; generalize t.val = n at ht ⊢; revert n; decide +kernel))
    | (intro hinb; refine (Rect.wholeWords_iff_at _ _).2 ?_; simp only [Rect.unit, k0_off237, k0_off238, k0_off239, k0_off240, k0_off241, k0_off242, k0_off243, k0_off244, k0_off245, k0_off246, k0_off247, k0_off248, k0_off249, k0_off250, k0_off251, k0_off252, k0_off253, k0_off254, k0_off255, k0_off256, k0_off257, k0_off258, k0_off259, k0_off260, k0_off261, k0_off262, k0_off263, k0_off264, k0_off265, k0_off266, k0_off267, k0_off268]; clear hinb; generalize t.val = n at ht ⊢; revert n; decide +kernel)
theorem chk1_6 (f : ℕ → BitVec 32) : k0_chk1_6 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨?_, ?_, ?_, ?_, ?_, ?_, ?_, ?_, ?_, ?_, ?_, ?_, ?_, ?_, ?_, ?_, ?_, ?_, ?_, ?_, ?_, t2_ok f, fun t => t2_no f t, fun t => t2_no f t, fun t => t2_no f t, fun t => t2_no f t, fun t => t2_no f t, fun t => t2_no f t, fun t => t2_no f t, fun t => t2_no f t, fun t => t2_no f t, fun t => t2_no f t⟩
  all_goals (intro t; have ht : t.val < 32 := t1_lt f t)
  all_goals first
    | (simp only [k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; generalize t.val = n at ht ⊢; revert n; decide +kernel)
    | (intro h4; clear h4; first | (simp only [k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; generalize t.val = n at ht ⊢; revert n; decide +kernel) | (intro hinb; refine (Rect.wholeWords_iff_at _ _).2 ?_; simp only [Rect.unit, k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; clear hinb; generalize t.val = n at ht ⊢; revert n; decide +kernel))
    | (intro hinb; refine (Rect.wholeWords_iff_at _ _).2 ?_; simp only [Rect.unit, k0_off269, k0_off270, k0_off271, k0_off272, k0_off273, k0_off274, k0_off275, k0_off276, k0_off277, k0_off278, k0_off279, k0_off280, k0_off281, k0_off282, k0_off283, k0_off284, k0_off285, k0_off286, k0_off287, k0_off288, k0_off289]; clear hinb; generalize t.val = n at ht ⊢; revert n; decide +kernel)
theorem chk1_7 (f : ℕ → BitVec 32) : k0_chk1_7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_8 (f : ℕ → BitVec 32) : k0_chk1_8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_9 (f : ℕ → BitVec 32) : k0_chk1_9 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_10 (f : ℕ → BitVec 32) : k0_chk1_10 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_11 (f : ℕ → BitVec 32) : k0_chk1_11 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_12 (f : ℕ → BitVec 32) : k0_chk1_12 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t, fun t => t2_no f t⟩
theorem chk1_13 (f : ℕ → BitVec 32) : k0_chk1_13 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) := by
  refine ⟨fun t => t2_no f t, fun t => t2_no f t, fun t => t2_no f t⟩
theorem chk1 (f : ℕ → BitVec 32) : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) :=
  ⟨chk1_0 f, chk1_1 f, chk1_2 f, chk1_3 f, chk1_4 f, chk1_5 f, chk1_6 f, chk1_7 f, chk1_8 f, chk1_9 f, chk1_10 f, chk1_11 f, chk1_12 f, chk1_13 f⟩
theorem chk2 (f : ℕ → BitVec 32) {e : BitVec 32} (he : e.toNat < 8) : k0_chk2 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) e := by
  obtain ⟨n, hn, rfl⟩ := fin8 he
  refine ⟨?_, ?_, ?_, ?_, ?_, ?_⟩
  all_goals (intro h; clear h)
  all_goals first
    | (simp only [k0_off11, k0_off14, k0_off16]; clear he; revert n; decide +kernel)
    | (intro hinb; refine (Rect.wholeWords_iff_at _ _).2 ?_; simp only [Rect.unit, k0_off11, k0_off14, k0_off16]; clear hinb he; revert n; decide +kernel)
theorem chk3 (f : ℕ → BitVec 32) {e : BitVec 32} (he : e.toNat < 8) : k0_chk3 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) e := by
  obtain ⟨n, hn, rfl⟩ := fin8 he
  refine ⟨?_, ?_, ?_, ?_, ?_, ?_⟩
  all_goals (intro h; clear h)
  all_goals first
    | (simp only [k0_off20, k0_off23, k0_off25]; clear he; revert n; decide +kernel)
    | (intro hinb; refine (Rect.wholeWords_iff_at _ _).2 ?_; simp only [Rect.unit, k0_off20, k0_off23, k0_off25]; clear hinb he; revert n; decide +kernel)
theorem chk4 (f : ℕ → BitVec 32) {e : BitVec 32} (he : e.toNat < 8) : k0_chk4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) e := by
  obtain ⟨n, hn, rfl⟩ := fin8 he
  refine ⟨?_, ?_, ?_, ?_, ?_, ?_⟩
  all_goals (intro h; clear h)
  all_goals first
    | (simp only [k0_off29, k0_off32, k0_off34]; clear he; revert n; decide +kernel)
    | (intro hinb; refine (Rect.wholeWords_iff_at _ _).2 ?_; simp only [Rect.unit, k0_off29, k0_off32, k0_off34]; clear hinb he; revert n; decide +kernel)
set_option maxHeartbeats 1000000 in
theorem chk5 (f : ℕ → BitVec 32) (t : Fin (t1L f).trips) {e : BitVec 32} (he : e.toNat < 8) : k0_chk5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  have ht : (t.val + 3) % 4 < 4 := Nat.mod_lt _ (by omega)
  refine ⟨?_, ?_, ?_, ?_, ?_, ?_⟩
  all_goals (intro h; clear h)
  all_goals first
    | (simp only [off39_eq, off42_eq, off44_eq]; clear he; generalize (t.val + 3) % 4 = m at ht ⊢; revert n m; decide +kernel)
    | (intro hinb; refine (Rect.wholeWords_iff_at _ _).2 ?_; simp only [Rect.unit, off39_eq, off42_eq, off44_eq]; clear hinb he; generalize (t.val + 3) % 4 = m at ht ⊢; revert n m; decide +kernel)
set_option maxHeartbeats 1000000 in
theorem chk7 (f : ℕ → BitVec 32) (t : Fin (t1L f).trips) {e : BitVec 32} (he : e.toNat < 8) : k0_chk7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  have ht : t.val < 32 := t1_lt f t
  refine ⟨?_, ?_, ?_, ?_, ?_, ?_⟩
  all_goals first
    | (simp only [k0_off104, k0_off107, k0_off229]; clear he; generalize t.val = m at ht ⊢; revert n m; decide +kernel)
    | (intro hinb; refine (Rect.wholeWords_iff_at _ _).2 ?_; simp only [Rect.unit, k0_off104, k0_off107, k0_off229]; clear hinb he; generalize t.val = m at ht ⊢; revert n m; decide +kernel)
theorem chk6_0 (f : ℕ → BitVec 32) (t : Fin (t1L f).trips) {e : BitVec 32} (he : e.toNat < 8) : k0_chk6_0 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (intro h; clear h; simp only [k0_off45, k0_off46, k0_off47, k0_off48, k0_off49, k0_off50, k0_off51, k0_off52, k0_off53, k0_off54, k0_off55, k0_off56, k0_off57, k0_off58, k0_off59, k0_off60, k0_off61, k0_off62, k0_off63, k0_off64, k0_off65, k0_off66, k0_off67, k0_off68, k0_off69, k0_off70, k0_off71, k0_off72, k0_off73, k0_off74, k0_off75, k0_off76]; clear he; revert n; decide +kernel)
theorem chk6_1 (f : ℕ → BitVec 32) (t : Fin (t1L f).trips) {e : BitVec 32} (he : e.toNat < 8) : k0_chk6_1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e := by
  obtain ⟨n, hn, rfl⟩ := fin8 he
  refine ⟨?_, ?_, ?_, ?_, ?_, ?_, ?_, ?_, ?_, ?_, ?_, ?_, ?_, ?_, ?_, ?_, ?_, ?_, ?_, ?_, ?_, ?_, ?_, ?_⟩
  all_goals (intro h; clear h; simp only [k0_off77, k0_off78, k0_off79, k0_off80, k0_off81, k0_off82, k0_off83, k0_off84, k0_off85, k0_off86, k0_off87, k0_off88, k0_off89, k0_off90, k0_off91, k0_off92, k0_off93, k0_off94, k0_off95, k0_off96, k0_off97, k0_off98, k0_off99, k0_off100]; clear he; revert n; decide +kernel)
theorem chk6 (f : ℕ → BitVec 32) (t : Fin (t1L f).trips) {e : BitVec 32} (he : e.toNat < 8) : k0_chk6 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t e :=
  ⟨chk6_0 f t he, chk6_1 f t he⟩

end Cert.KernelIdeal.Moe
-- ==== Proof.KI.Plan.lean ====
/-
  Which weight blocks are where at each step of the loop, and what the loop computes.
-/
module

public import proofs.«01_k».proof.Proof.KI.Tile
public import proofs.«01_k».proof.Proof.KI.Chk

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- What slot `s` of the gate and up weights holds when the blocks of steps `t` to `h - 1` have been asked for. -/
def flG (u : BitVec 32) (t h : ℕ) (s : Fin 4) : GuSt :=
  if t + (s + 4 - t % 4) % 4 < h ∧ t + (s + 4 - t % 4) % 4 < 4 * cnt u 8 then .fly (ex u ((t + (s + 4 - t % 4) % 4) / 4)) s else .idle
/-- The same for the down weights. -/
def flD (u : BitVec 32) (t h : ℕ) (s : Fin 4) : DSt :=
  if t + (s + 4 - t % 4) % 4 < h ∧ t + (s + 4 - t % 4) % 4 < 4 * cnt u 8 then .fly (ex u ((t + (s + 4 - t % 4) % 4) / 4)) s else .idle

abbrev sl (n : ℕ) : Fin 4 := ⟨n % 4, Nat.mod_lt _ (by decide)⟩

theorem flG_idle (u : BitVec 32) (t h : ℕ) (hh : t ≤ h) (h4 : h < t + 4) : flG u t h (sl h) = .idle := by
  have e : ((sl h : Fin 4) : ℕ) = h % 4 := rfl
  refine if_neg ?_; rw [e]; omega
theorem flD_idle (u : BitVec 32) (t h : ℕ) (hh : t ≤ h) (h4 : h < t + 4) : flD u t h (sl h) = .idle := by
  have e : ((sl h : Fin 4) : ℕ) = h % 4 := rfl
  refine if_neg ?_; rw [e]; omega

theorem flG_start (u : BitVec 32) (t h : ℕ) (hh : t ≤ h) (h4 : h < t + 4) (hn : h < 4 * cnt u 8) :
    Function.update (flG u t h) (sl h) (.fly (ex u (h / 4)) (h % 4)) = flG u t (h + 1) := by
  funext s
  have hs := s.2
  by_cases e : s = sl h
  · subst e
    have e2 : ((sl h : Fin 4) : ℕ) = h % 4 := rfl
    have e3 : t + ((sl h : Fin 4) + 4 - t % 4) % 4 = h := by rw [e2]; omega
    rw [Function.update_self]; unfold flG; rw [e3, if_pos ⟨by omega, hn⟩]
  · have e2 : (s : ℕ) ≠ h % 4 := fun q => e (Fin.ext q)
    rw [Function.update_of_ne e]; unfold flG
    have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
    simp only [e3]
theorem flD_start (u : BitVec 32) (t h : ℕ) (hh : t ≤ h) (h4 : h < t + 4) (hn : h < 4 * cnt u 8) :
    Function.update (flD u t h) (sl h) (.fly (ex u (h / 4)) (h % 4)) = flD u t (h + 1) := by
  funext s
  have hs := s.2
  by_cases e : s = sl h
  · subst e
    have e2 : ((sl h : Fin 4) : ℕ) = h % 4 := rfl
    have e3 : t + ((sl h : Fin 4) + 4 - t % 4) % 4 = h := by rw [e2]; omega
    rw [Function.update_self]; unfold flD; rw [e3, if_pos ⟨by omega, hn⟩]
  · have e2 : (s : ℕ) ≠ h % 4 := fun q => e (Fin.ext q)
    rw [Function.update_of_ne e]; unfold flD
    have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
    simp only [e3]

theorem flG_skip (u : BitVec 32) (t h : ℕ) (hn : ¬ h < 4 * cnt u 8) : flG u t h = flG u t (h + 1) := by
  funext s; unfold flG
  have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
  simp only [e3]
theorem flD_skip (u : BitVec 32) (t h : ℕ) (hn : ¬ h < 4 * cnt u 8) : flD u t h = flD u t (h + 1) := by
  funext s; unfold flD
  have e3 : (t + (↑s + 4 - t % 4) % 4 < h ∧ t + (↑s + 4 - t % 4) % 4 < 4 * cnt u 8) ↔ (t + (↑s + 4 - t % 4) % 4 < h + 1 ∧ t + (↑s + 4 - t % 4) % 4 < 4 * cnt u 8) := by omega
  simp only [e3]

theorem flG_now (u : BitVec 32) (t : ℕ) (hn : t < 4 * cnt u 8) : flG u t (t + 4) (sl t) = .fly (ex u (t / 4)) (t % 4) := by
  have e2 : ((sl t : Fin 4) : ℕ) = t % 4 := rfl
  have e3 : t + ((sl t : Fin 4) + 4 - t % 4) % 4 = t := by rw [e2]; omega
  unfold flG; rw [e3, if_pos ⟨by omega, hn⟩]
theorem flD_now (u : BitVec 32) (t : ℕ) (hn : t < 4 * cnt u 8) : flD u t (t + 4) (sl t) = .fly (ex u (t / 4)) (t % 4) := by
  have e2 : ((sl t : Fin 4) : ℕ) = t % 4 := rfl
  have e3 : t + ((sl t : Fin 4) + 4 - t % 4) % 4 = t := by rw [e2]; omega
  unfold flD; rw [e3, if_pos ⟨by omega, hn⟩]

theorem flG_done (u : BitVec 32) (t : ℕ) : Function.update (flG u t (t + 4)) (sl t) .idle = flG u (t + 1) (t + 4) := by
  funext s
  have hs := s.2
  by_cases e : s = sl t
  · subst e
    have e2 : ((sl t : Fin 4) : ℕ) = t % 4 := rfl
    rw [Function.update_self]; unfold flG; rw [if_neg]; rw [e2]; omega
  · have e2 : (s : ℕ) ≠ t % 4 := fun q => e (Fin.ext q)
    rw [Function.update_of_ne e]; unfold flG
    have e3 : t + 1 + (↑s + 4 - (t + 1) % 4) % 4 = t + (↑s + 4 - t % 4) % 4 := by omega
    rw [e3]
theorem flD_done (u : BitVec 32) (t : ℕ) : Function.update (flD u t (t + 4)) (sl t) .idle = flD u (t + 1) (t + 4) := by
  funext s
  have hs := s.2
  by_cases e : s = sl t
  · subst e
    have e2 : ((sl t : Fin 4) : ℕ) = t % 4 := rfl
    rw [Function.update_self]; unfold flD; rw [if_neg]; rw [e2]; omega
  · have e2 : (s : ℕ) ≠ t % 4 := fun q => e (Fin.ext q)
    rw [Function.update_of_ne e]; unfold flD
    have e3 : t + 1 + (↑s + 4 - (t + 1) % 4) % 4 = t + (↑s + 4 - t % 4) % 4 := by omega
    rw [e3]

theorem flG_end (u : BitVec 32) (t h : ℕ) (hn : 4 * cnt u 8 ≤ t) : flG u t h = fun _ => .idle := by
  funext s; exact if_neg (by omega)
theorem flD_end (u : BitVec 32) (t h : ℕ) (hn : 4 * cnt u 8 ≤ t) : flD u t h = fun _ => .idle := by
  funext s; exact if_neg (by omega)
theorem flG_zero (u : BitVec 32) : flG u 0 0 = fun _ => .idle := by
  funext s; exact if_neg (by omega)
theorem flD_zero (u : BitVec 32) : flD u 0 0 = fun _ => .idle := by
  funext s; exact if_neg (by omega)

theorem gsem_eq (s : Fin 4) {o : Fin 1 → ℕ} {i} (h : o = ![(s : ℕ)]) : ((cc0_scratch7.slice (Rect.unit (s := S4) o S1.size i)).squeeze S_ squeezes_S1_S_).sem = gsem s := by subst h; rfl
theorem dsem_eq (s : Fin 4) {o : Fin 1 → ℕ} {i} (h : o = ![(s : ℕ)]) : ((cc0_scratch8.slice (Rect.unit (s := S4) o S1.size i)).squeeze S_ squeezes_S1_S_).sem = dsem s := by subst h; rfl

/-! ## What the loop computes -/

/-- One half of the hidden layer's product: 20 double tiles. -/
def halfV (I : Inp F) (e j w c0 : ℕ) : ℕ → FVec F S24x256 .f32
  | 0 => k0_pay61 (sgV (sgNew I e) c0 (2 * 0)) (sgV (sgNew I e) (c0 + 1) (2 * 0)) (wV I e j w (256 * 0)) (sgV (sgNew I e) c0 (2 * 0 + 1)) (sgV (sgNew I e) (c0 + 1) (2 * 0 + 1)) (wV I e j w (256 * 0 + 128)) (xV I (256 * 0))
  | k + 1 => k0_pay62 (halfV I e j w c0 k) (sgV (sgNew I e) c0 (2 * (k + 1))) (sgV (sgNew I e) (c0 + 1) (2 * (k + 1))) (wV I e j w (256 * (k + 1))) (sgV (sgNew I e) c0 (2 * (k + 1) + 1)) (sgV (sgNew I e) (c0 + 1) (2 * (k + 1) + 1)) (wV I e j w (256 * (k + 1) + 128)) (xV I (256 * (k + 1)))

end Cert.KernelIdeal.Moe
-- ==== Proof.KI.Fetch.lean ====
/-
  One step of the loop up to the point where its weights are waited for.
-/
module

public import proofs.«01_k».proof.Proof.KI.Plan

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- The gated hidden block of expert `e`, as the down product takes it. -/
def hidV (I : Inp F) (e j : ℕ) : FVec F S24x256 .bf16 :=
  k0_pay101 (mulf (mulf (halfV I e j 0 (2 * j) 19) (logistic (halfV I e j 0 (2 * j) 19))) (halfV I e j 1 (8 + 2 * j) 19))

def zeroF (F : FTy → Type) [FloatOps F] (_ _ : ℕ) : Elt F .f32 := FloatOps.ofBits .f32 0#32
def colI (I : Inp F) (k : ℕ) : Vec F S24x1 .i32 := fun i => I.ids (0 + i 0) (k + i 1)
def colW (I : Inp F) (k : ℕ) : Vec F S24x1 .f32 := fun i => I.wts (0 + i 0) (k + i 1)
def allV (y : ℕ → ℕ → Elt F .f32) : Vec F S24x5120 .f32 := fun i => y (0 + i 0) (0 + i 1)

/-- The sum over experts once one more expert's sum is weighed in. -/
def accNew (I : Inp F) (e : ℕ) (acc y : ℕ → ℕ → Elt F .f32) (a b : ℕ) : Elt F .f32 :=
  if h : a < 24 ∧ b < 5120 then k0_pay280 (BitVec.ofNat 32 e) (colI I 0) (colW I 0) (colI I 1) (colW I 1) (allV acc) (allV y) (ix2 ⟨a, h.1⟩ ⟨b, h.2⟩) else zeroF F a b

/-- The expert's sum after `n` steps. -/
def yS (I : Inp F) (u : BitVec 32) : ℕ → ℕ → ℕ → Elt F .f32
  | 0 => zeroF F
  | n + 1 => yNew I (sxNew I (ex u (n / 4))) (ex u (n / 4)) (n % 4) (hidV I (ex u (n / 4)) (n % 4)) (if n % 4 = 0 then zeroF F else yS I u n)
/-- The sum over experts after `n` steps. -/
def accS (I : Inp F) (u : BitVec 32) : ℕ → ℕ → ℕ → Elt F .f32
  | 0 => zeroF F
  | n + 1 => if n % 4 = 3 then accNew I (ex u (n / 4)) (accS I u n) (yS I u (n + 1)) else accS I u n

/-- What holds before step `t`. -/
structure Inv (I : Inp F) (f : ℕ → BitVec 32) (t : ℕ) (σ : St F) : Prop where
  g : σ.g = flG (U f) t (t + 3)
  d : σ.d = flD (U f) t (t + 3)
  ord : ∀ i, i < cnt (U f) 8 → σ.ord i = BitVec.ofNat 32 (ex (U f) i)
  sg : t % 4 ≠ 0 → ∀ a r l, a < 16 → σ.sg a r l = sgNew I (ex (U f) (t / 4)) a r l
  sx : t % 4 ≠ 0 → ∀ r l, l < 5120 → σ.sx r l = sxNew I (ex (U f) (t / 4)) r l
  y : t % 4 ≠ 0 → ∀ a b, a < 24 → b < 5120 → σ.y a b = yS I (U f) t a b
  acc : ∀ a b, a < 24 → b < 5120 → σ.acc a b = accS I (U f) t a b

/-- What holds once step `t` has asked for the block three steps ahead and has the scales. -/
structure Mid (I : Inp F) (f : ℕ → BitVec 32) (t : ℕ) (σ : St F) : Prop where
  g : σ.g = flG (U f) t (t + 4)
  d : σ.d = flD (U f) t (t + 4)
  ord : ∀ i, i < cnt (U f) 8 → σ.ord i = BitVec.ofNat 32 (ex (U f) i)
  sg : ∀ a r l, a < 16 → σ.sg a r l = sgNew I (ex (U f) (t / 4)) a r l
  sx : ∀ r l, l < 5120 → σ.sx r l = sxNew I (ex (U f) (t / 4)) r l
  y : ∀ a b, a < 24 → b < 5120 → σ.y a b = (if t % 4 = 0 then zeroF F else yS I (U f) t) a b
  acc : ∀ a b, a < 24 → b < 5120 → σ.acc a b = accS I (U f) t a b

variable {c : Dev nD} {I : Inp F} {f : ℕ → BitVec 32}
variable {w0 : A0.IsWhole} {w1 : A1.IsWhole} {w2 : A2.IsWhole} {w3 : A3.IsWhole} {w4 : A4.IsWhole} {w5 : A5.IsWhole} {w6 : A6.IsWhole} {w7 : A7.IsWhole} {w8 : A8.IsWhole} {w9 : A9.IsWhole} {w10 : A10.IsWhole} {w11 : A11.IsWhole} {w12 : A12.IsWhole} {w13 : A13.IsWhole} {w14 : A14.IsWhole} {w15 : A15.IsWhole}

theorem exw {u : BitVec 32} {i : ℕ} (h : i < cnt u 8) : (BitVec.ofNat 32 (ex u i)).toNat = ex u i := by
  have := ex_lt u h
  rw [BitVec.toNat_ofNat]; omega

theorem Ev.cast {α : Type} {Q : α → St F → Prop} {σ σ' : St F} {p : P (F := F) α} (h : σ = σ') (hp : Ev c I Q σ' p) : Ev c I Q σ p := h ▸ hp
theorem sgMix_zero (new old : ℕ → ℕ → ℕ → Elt F .f32) : sgMix 0 new old = old := by
  funext a r l; exact if_neg (by omega)
theorem sxMix_zero (new old : ℕ → ℕ → Elt F .f32) : sxMix 0 new old = old := by
  funext r l; exact if_neg (by omega)

set_option maxHeartbeats 4000000 in
set_option maxRecDepth 100000 in
set_option pp.maxSteps 30 in
theorem ev4 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) (x : BitVec 32) (h4 : k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1) {σ : St F}
    (hg : σ.g = flG (U f) t (t + 3)) (ho : ∀ i, i < cnt (U f) 8 → σ.ord i = BitVec.ofNat 32 (ex (U f) i)) (hc : t.val + 3 < 4 * cnt (U f) 8) :
    EvS c I σ (k0_part4 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw t x h4) ⟨BitVec.ofNat 32 (ex (U f) ((t + 3) / 4)), chk5 f t (by rw [exw (by omega)]; exact ex_lt _ (by omega))⟩
      { σ with g := Function.update σ.g (sl (t + 3)) (.one (ex (U f) ((t + 3) / 4)) ((t + 3) % 4)) } := by
  have hi : (t.val + 3) / 4 < cnt (U f) 8 := by omega
  have e36 : σ.ord (k0_off36 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t 0) = BitVec.ofNat 32 (ex (U f) ((t + 3) / 4)) := by rw [off36_eq]; exact ho _ hi
  rw [k0_part4_eq_skeleton]; unfold k0_part4_skel
  refine Ev.bind EvS.sld_ord ?_
  rw [e36]
  refine Ev.assume (chk5 f t (by rw [exw hi]; exact ex_lt _ hi)) ?_
  refine Ev.bind (EvS.startG0 (sl (t + 3)) (ex (U f) ((t + 3) / 4)) ((t + 3) % 4) (gsem_eq _ (off37_eq f t)) (off38_eq f t) ((off39_eq f t _).trans (by rw [exw hi])) ?_) ?_
  · rw [hg]; exact flG_idle _ _ _ (by omega) (by omega)
  · exact Ev.pure ⟨rfl, rfl⟩

set_option maxHeartbeats 4000000 in
set_option maxRecDepth 100000 in
set_option pp.maxSteps 30 in
theorem ev19 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) (x : BitVec 32) {σ : St F} (hI : Inv I f t σ) :
    Ev c I (fun v σ' => v = ⟨iv t, slotW t, BitVec.ofNat 32 (ex (U f) (t / 4)), slotW t, 4#32, Scalar.divsi (iv t) 4#32,
        Scalar.subi (Scalar.extui (Scalar.cmpi .sgt (iv t) 0#32)) (Scalar.extui (Scalar.cmpi .slt (iv t) 0#32)), Scalar.cmpi .sgt 4#32 0#32⟩ ∧ Mid I f t σ') σ
      (k0_part19 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw x 0#32 1#32 t) := by
  have ht : t.val < 4 * cnt (U f) 8 := lt_of_lt_of_eq t.2 (t1_trips f)
  have hi : t.val / 4 < cnt (U f) 8 := by omega
  have e35 : σ.ord (k0_off35 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t 0) = BitVec.ofNat 32 (ex (U f) (t / 4)) := by rw [off35_eq]; exact hI.ord _ hi
  have he : (BitVec.ofNat 32 (ex (U f) (t / 4))).toNat < 8 := by rw [exw hi]; exact ex_lt _ hi
  rw [k0_part19_eq_skeleton]; unfold k0_part19_skel
  refine Ev.bind EvS.sld_ord ?_
  rw [e35]
  refine Ev.assume (chk6 f t he) ?_
  extract_lets; rename_i jp2 jp
  have hj2 : ∀ σ2, Mid I f t σ2 → Ev c I (fun v σ' => v = ⟨iv t, slotW t, BitVec.ofNat 32 (ex (U f) (t / 4)), slotW t, 4#32, Scalar.divsi (iv t) 4#32,
      Scalar.subi (Scalar.extui (Scalar.cmpi .sgt (iv t) 0#32)) (Scalar.extui (Scalar.cmpi .slt (iv t) 0#32)), Scalar.cmpi .sgt 4#32 0#32⟩ ∧ Mid I f t σ') σ2 (jp2 ⟨⟩) :=
    fun σ2 h2 => Ev.pure ⟨rfl, h2⟩
  clear_value jp2
  have hj : Ev c I (fun v σ' => v = ⟨iv t, slotW t, BitVec.ofNat 32 (ex (U f) (t / 4)), slotW t, 4#32, Scalar.divsi (iv t) 4#32,
        Scalar.subi (Scalar.extui (Scalar.cmpi .sgt (iv t) 0#32)) (Scalar.extui (Scalar.cmpi .slt (iv t) 0#32)), Scalar.cmpi .sgt 4#32 0#32⟩ ∧ Mid I f t σ')
      { σ with g := flG (U f) t (t + 4), d := flD (U f) t (t + 4) } (jp ⟨⟩) := by
    generalize hσ1 : ({ σ with g := flG (U f) t (t + 4), d := flD (U f) t (t + 4) } : St F) = σ1
    simp only [jp]
    by_cases h5 : k0_cond5 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1
    · have ht0 : t.val % 4 = 0 := (cond5_iff f t).1 h5
      refine Ev.ite_pos h5 ?_
      simp only [k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, bind_assoc, pure_bind]
      refine Ev.cast (σ' := { σ1 with sg := sgMix 0 (sgNew I (ex (U f) (t / 4))) σ1.sg }) (by rw [sgMix_zero]) ?_
      iterate 16 refine Ev.scaleG σ1 (fun _ => rfl) rfl (exw hi) rfl rfl ?_
      generalize hσ2 : ({ σ1 with sg := sgMix _ (sgNew I (ex (U f) (t / 4))) σ1.sg } : St F) = σ2
      refine Ev.cast (σ' := { σ2 with sx := sxMix 0 (sxNew I (ex (U f) (t / 4))) σ2.sx }) (by rw [sxMix_zero]) ?_
      iterate 40 refine Ev.scaleD σ2 (fun _ => rfl) rfl (exw hi) rfl rfl ?_
      refine Ev.bind EvS.ld_y ?_
      refine Ev.bind (EvS.st_y (zeroF F) (fun i => rfl) ?_) ?_
      · intro a b ha hb hn
        exact absurd ⟨⟨Nat.zero_le _, by simpa using ha⟩, Nat.zero_le _, by simpa using hb⟩ hn
      · refine hj2 _ ?_
        subst hσ2 hσ1
        refine ⟨rfl, rfl, hI.ord, ?_, ?_, ?_, hI.acc⟩
        · intro a r l ha; exact if_pos ha
        · intro r l hl; exact if_pos hl
        · intro a b _ _; show zeroF F a b = _; rw [if_pos ht0]
    · have ht0 : ¬ t.val % 4 = 0 := fun h => h5 ((cond5_iff f t).2 h)
      refine Ev.ite_neg h5 ?_
      refine hj2 _ ?_
      subst hσ1
      refine ⟨rfl, rfl, hI.ord, hI.sg ht0, hI.sx ht0, ?_, hI.acc⟩
      intro a b ha hb; rw [if_neg ht0]; exact hI.y ht0 a b ha hb
  clear_value jp
  by_cases h4 : k0_cond4 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t = 1#1
  · have hc : t.val + 3 < 4 * cnt (U f) 8 := (cond4_iff f t).1 h4
    have hi3 : (t.val + 3) / 4 < cnt (U f) 8 := by omega
    refine Ev.ite_pos h4 ?_
    refine Ev.bind (ev4 t hw _ h4 hI.g hI.ord hc) ?_
    refine Ev.bind (EvS.startG1 (sl (t + 3)) (ex (U f) ((t + 3) / 4)) ((t + 3) % 4) (gsem_eq _ (off40_eq f t)) (off41_eq f t) ((off42_eq f t _).trans (by rw [exw hi3])) (Function.update_self ..)) ?_
    refine Ev.bind (EvS.startD (sl (t + 3)) (ex (U f) ((t + 3) / 4)) ((t + 3) % 4) (dsem_eq _ (off40_eq f t)) (off43_eq f t) ((off44_eq f t _).trans (by rw [exw hi3])) ?_) ?_
    · show σ.d _ = _; rw [hI.d]; exact flD_idle _ _ _ (by omega) (by omega)
    · refine Ev.cast ?_ hj
      show ({ σ with g := Function.update (Function.update σ.g (sl (t + 3)) _) (sl (t + 3)) _, d := Function.update σ.d (sl (t + 3)) _ } : St F) = _
      rw [Function.update_idem, hI.g, hI.d, flG_start _ _ _ (by omega) (by omega) hc, flD_start _ _ _ (by omega) (by omega) hc]
  · have hc : ¬ t.val + 3 < 4 * cnt (U f) 8 := fun h => h4 ((cond4_iff f t).2 h)
    refine Ev.ite_neg h4 ?_
    refine Ev.cast ?_ hj
    rw [← flG_skip _ _ _ hc, ← flD_skip _ _ _ hc, ← hI.g, ← hI.d]

end Cert.KernelIdeal.Moe
-- ==== Proof.KI.Step.lean ====
/-
  One step of the loop.
-/
module

public import proofs.«01_k».proof.Proof.KI.Fetch

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F} {f : ℕ → BitVec 32}
variable {w0 : A0.IsWhole} {w1 : A1.IsWhole} {w2 : A2.IsWhole} {w3 : A3.IsWhole} {w4 : A4.IsWhole} {w5 : A5.IsWhole} {w6 : A6.IsWhole} {w7 : A7.IsWhole} {w8 : A8.IsWhole} {w9 : A9.IsWhole} {w10 : A10.IsWhole} {w11 : A11.IsWhole} {w12 : A12.IsWhole} {w13 : A13.IsWhole} {w14 : A14.IsWhole} {w15 : A15.IsWhole}

theorem sgV_congr {sg S : ℕ → ℕ → ℕ → Elt F .f32} (h : ∀ a r l, a < 16 → sg a r l = S a r l) {c0 : ℕ} (hc : c0 < 16) (k : ℕ) : sgV sg c0 k = sgV S c0 k :=
  funext fun i => h _ _ _ (by have h0 : (i 0 : ℕ) < 1 := (i 0).2; omega)

/-- One double tile, with the scales the buffer is known to hold. -/
theorem Ev.tileS {α : Type} {Q : α → St F → Prop} {σ : St F} (S : ℕ → ℕ → ℕ → Elt F .f32) (hS : ∀ a r l, a < 16 → σ.sg a r l = S a r l)
    (s : Fin 4) (w : Fin 2) {e j c0 : ℕ} (hc : c0 + 1 < 16) (hσ : σ.g s = .rdy e j)
    {o1 o2 o4 o5 : Fin 3 → ℕ} {o3 o6 : Fin 4 → ℕ} {o7 : Fin 2 → ℕ} {i1 i2 i3 i4 i5 i6 i7 l1 l2 l3 l4 l5 l6 l7}
    {R : Vec F S1x1x128 .f32 → Vec F S1x1x128 .f32 → Vec F S1x1x128x256 .fp8e4m3 → Vec F S1x1x128 .f32 → Vec F S1x1x128 .f32 → Vec F S1x1x128x256 .fp8e4m3 → Vec F S24x256 .bf16 → P (F := F) α}
    (a1 : o1 0 = c0) (a2 : o2 0 = c0 + 1) (a3 : o3 0 = s) (a4 : o4 0 = c0) (a5 : o5 0 = c0 + 1) (a6 : o6 0 = s)
    (b1 : o1 2 = 0) (b2 : o2 2 = 0) (b3 : o3 1 = w) (d3 : o3 3 = 0)
    (b4 : o4 2 = 0) (b5 : o5 2 = 0) (b6 : o6 1 = w) (d6 : o6 3 = 0) (a7 : o7 0 = 0)
    (h : Ev c I Q σ (R (sgV S c0 (o1 1)) (sgV S (c0 + 1) (o2 1)) (wV I e j w (o3 2)) (sgV S c0 (o4 1)) (sgV S (c0 + 1) (o5 1)) (wV I e j w (o6 2)) (xV I (o7 1)))) :
    Ev c I Q σ (Prog.lift (.load A11 (Rect.unit (s := S16x40x128) o1 S1x1x128.size i1).toLoadRect l1) >>= fun v1 =>
      Prog.lift (.load A11 (Rect.unit (s := S16x40x128) o2 S1x1x128.size i2).toLoadRect l2) >>= fun v2 =>
      Prog.lift (.load A9 (Rect.unit (s := S4x2x5120x256) o3 S1x1x128x256.size i3).toLoadRect l3) >>= fun v3 =>
      Prog.lift (.load A11 (Rect.unit (s := S16x40x128) o4 S1x1x128.size i4).toLoadRect l4) >>= fun v4 =>
      Prog.lift (.load A11 (Rect.unit (s := S16x40x128) o5 S1x1x128.size i5).toLoadRect l5) >>= fun v5 =>
      Prog.lift (.load A9 (Rect.unit (s := S4x2x5120x256) o6 S1x1x128x256.size i6).toLoadRect l6) >>= fun v6 =>
      Prog.lift (.load A1 (Rect.unit (s := S24x5120) o7 S24x256.size i7).toLoadRect l7) >>= fun v7 => R v1 v2 v3 v4 v5 v6 v7) := by
  refine Ev.tile s w hσ a1 b1 a2 b2 a3 b3 d3 a4 b4 a5 b5 a6 b6 d6 a7 ?_
  rw [sgV_congr hS (by omega), sgV_congr hS (by omega), sgV_congr hS (by omega), sgV_congr hS (by omega)]
  exact h

theorem yV_congr {y y' : ℕ → ℕ → Elt F .f32} (h : ∀ a b, a < 24 → b < 5120 → y a b = y' a b) {n : ℕ} (hn : n < 20) : yV y (256 * n) = yV y' (256 * n) :=
  funext fun i => h _ _ (by have h0 : (i 0 : ℕ) < 24 := (i 0).2; omega) (by have h0 : (i 1 : ℕ) < 256 := (i 1).2; omega)
theorem sxV_congr {y y' : ℕ → ℕ → Elt F .f32} (h : ∀ a b, b < 5120 → y a b = y' a b) (a : ℕ) {n : ℕ} (hn : n < 20) : sxV y a (256 * n) = sxV y' a (256 * n) :=
  funext fun i => h _ _ (by have h0 : (i 1 : ℕ) < 256 := (i 1).2; omega)

theorem yNew_congr {sx sx' : ℕ → ℕ → Elt F .f32} {y y' : ℕ → ℕ → Elt F .f32} {e j : ℕ} {hid : FVec F S24x256 .bf16} (hx : ∀ a b, b < 5120 → sx a b = sx' a b)
    (hy : ∀ a b, a < 24 → b < 5120 → y a b = y' a b) {a b : ℕ} (ha : a < 24) (hb : b < 5120) : yNew I sx e j hid y a b = yNew I sx' e j hid y' a b := by
  have hn : b / 256 < 20 := by omega
  unfold yNew yTile
  rw [dif_pos ha, dif_pos ha, yV_congr hy hn, sxV_congr hx _ hn, sxV_congr hx _ hn]

theorem allV_congr {y y' : ℕ → ℕ → Elt F .f32} (h : ∀ a b, a < 24 → b < 5120 → y a b = y' a b) : allV y = allV y' :=
  funext fun i => h _ _ (by have h0 : (i 0 : ℕ) < 24 := (i 0).2; omega) (by have h0 : (i 1 : ℕ) < 5120 := (i 1).2; omega)

theorem accNew_at (e : ℕ) (acc y : ℕ → ℕ → Elt F .f32) (i : S24x5120.Idx) :
    accNew I e acc y (0 + i 0) (0 + i 1) = k0_pay280 (BitVec.ofNat 32 e) (colI I 0) (colW I 0) (colI I 1) (colW I 1) (allV acc) (allV y) i := by
  unfold accNew
  rw [Nat.zero_add, Nat.zero_add, dif_pos ⟨(i 0).2, (i 1).2⟩]
  exact congrArg _ (eq_ix2 i).symm

theorem yMix_zero (new old : ℕ → ℕ → Elt F .f32) : yMix 0 new old = old := by
  funext r l; exact if_neg (by omega)

set_option maxHeartbeats 8000000 in
set_option maxRecDepth 100000 in
set_option pp.maxSteps 60 in
theorem ev20 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) {a1 a2 a3 : BitVec 32} {a4 : BitVec 1} {σ : St F}
    (hg : σ.g (sl t) = .fly (ex (U f) (t / 4)) (t % 4)) (ho : ∀ i, i < cnt (U f) 8 → σ.ord i = BitVec.ofNat 32 (ex (U f) i)) (hi : t.val / 4 < cnt (U f) 8) :
    EvS c I σ (k0_part20 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw t (iv t) (slotW t) a1 a2 a3 a4) ⟨BitVec.ofNat 32 (ex (U f) (t / 4)), chk7 f t (by rw [exw hi]; exact ex_lt _ hi), Scalar.addi 0#32 (Scalar.muli (slotW t) 2#32)⟩
      { σ with g := Function.update σ.g (sl t) (.rdy (ex (U f) (t / 4)) (t % 4)) } := by
  have e36 : σ.ord (k0_off101 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t 0) = BitVec.ofNat 32 (ex (U f) (t / 4)) := by rw [off101_eq]; exact ho _ hi
  rw [k0_part20_eq_skeleton]; unfold k0_part20_skel
  refine Ev.bind EvS.sld_ord ?_
  rw [e36]
  refine Ev.assume (chk7 f t (by rw [exw hi]; exact ex_lt _ hi)) ?_
  refine Ev.bind (EvS.waitG0 (sl t) (ex (U f) (t / 4)) (t % 4) (gsem_eq _ (off102_eq f t)) hg) ?_
  refine Ev.bind (EvS.waitG1 (sl t) (ex (U f) (t / 4)) (t % 4) (gsem_eq _ (off105_eq f t)) (Function.update_self ..)) ?_
  refine Ev.pure ⟨rfl, ?_⟩
  show ({ σ with g := Function.update (Function.update σ.g (sl t) _) (sl t) _ } : St F) = _
  rw [Function.update_idem]

set_option maxHeartbeats 8000000 in
set_option maxRecDepth 100000 in
set_option pp.maxSteps 60 in
theorem ev61 (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) {e : ℕ} {v : BitVec 32} {h7 : k0_chk7 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) t v} {H : FVec F S24x256 .f32} {hid : FVec F S24x256 .bf16} (hH : k0_pay101 H = hid) {σ : St F}
    (hd : σ.d (sl t) = .fly e (t % 4)) :
    EvS c I σ (k0_part61 A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw t (slotW t) (slotW t) v h7 H) hid
      { σ with d := Function.update σ.d (sl t) (.rdy e (t % 4)), y := yMix 1 (yNew I σ.sx e (t % 4) hid σ.y) σ.y } := by
  subst hH
  have hr := srow_lt t (t1_lt f t)
  have hs := words_lt t (t1_lt f t)
  rw [k0_part61_eq_skeleton]; unfold k0_part61_skel
  refine Ev.bind (EvS.waitD (sl t) e (t % 4) (dsem_eq _ (off105_eq f t)) hd) ?_
  generalize hσ2 : ({ σ with d := Function.update σ.d (sl t) (.rdy e (t % 4)) } : St F) = σ2
  have hd2 : σ2.d (sl t) = .rdy e (t % 4) := by subst hσ2; exact Function.update_self ..
  refine Ev.cast (σ' := { σ2 with y := yMix 0 (yNew I σ2.sx e (t % 4) (k0_pay101 H) σ2.y) σ2.y }) (by rw [yMix_zero]) ?_
  refine Ev.down σ2 (sl t) (k0_pay101 H) hd2 (fun _ _ _ _ _ => rfl) hs.1 hr.2.2.2.2.1 hs.1 hr.2.2.2.2.2 rfl rfl rfl rfl rfl rfl rfl ?_
  subst hσ2
  exact Ev.pure ⟨rfl, rfl⟩

set_option maxHeartbeats 8000000 in
set_option maxRecDepth 100000 in
set_option pp.maxSteps 60 in
theorem evTrip (t : Fin (t1L f).trips) (hw : k0_chk1 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47)) (x0 x1 x2 x3 r : BitVec 32) {σ : St F} (hI : Inv I f t σ) :
    Ev c I (fun _ σ' => Inv I f (t + 1) σ') σ (k0_t1_body A0 w0 A1 w1 A2 w2 A3 w3 A4 w4 A5 w5 A6 w6 A7 w7 A8 w8 A9 w9 A10 w10 A11 w11 A12 w12 A13 w13 A14 w14 A15 w15 cc0_scratch7 cc0_scratch8 (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) hw x0 x1 x2 x3 t r) := by
  have ht : t.val < 4 * cnt (U f) 8 := lt_of_lt_of_eq t.2 (t1_trips f)
  have hi : t.val / 4 < cnt (U f) 8 := by omega
  have hr := srow_lt t (t1_lt f t)
  have hs := words_lt t (t1_lt f t)
  have h8 : t.val % 4 < 4 := Nat.mod_lt _ (by decide)
  unfold k0_t1_body
  rw [k0_part76_eq_skeleton]
  simp only [k0_part76_skel, bind_assoc, pure_bind]
  refine Ev.bindQ (ev19 t hw x3 hI) fun v σ1 hv => ?_
  obtain ⟨rfl, hM⟩ := hv
  refine Ev.bind (ev20 t hw (by rw [hM.g]; exact flG_now _ _ ht) hM.ord hi) ?_
  generalize hσ2 : ({ σ1 with g := Function.update σ1.g (sl t) (.rdy (ex (U f) (t / 4)) (t % 4)) } : St F) = σ2
  have hg2 : σ2.g (sl t) = .rdy (ex (U f) (t / 4)) (t % 4) := by subst hσ2; exact Function.update_self ..
  have hsg2 : ∀ a r l, a < 16 → σ2.sg a r l = sgNew I (ex (U f) (t / 4)) a r l := by subst hσ2; exact hM.sg
  simp only [k0_part21_eq_skeleton, k0_part21_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part22_eq_skeleton, k0_part22_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part23_eq_skeleton, k0_part23_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part24_eq_skeleton, k0_part24_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part25_eq_skeleton, k0_part25_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part26_eq_skeleton, k0_part26_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part27_eq_skeleton, k0_part27_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part28_eq_skeleton, k0_part28_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part29_eq_skeleton, k0_part29_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part30_eq_skeleton, k0_part30_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part31_eq_skeleton, k0_part31_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part32_eq_skeleton, k0_part32_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part33_eq_skeleton, k0_part33_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part34_eq_skeleton, k0_part34_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part35_eq_skeleton, k0_part35_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part36_eq_skeleton, k0_part36_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part37_eq_skeleton, k0_part37_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part38_eq_skeleton, k0_part38_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part39_eq_skeleton, k0_part39_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part40_eq_skeleton, k0_part40_skel, bind_assoc, pure_bind]
  refine Ev.tileS (sgNew I (ex (U f) (t / 4))) hsg2 (sl t) 0 (c0 := 2 * (t % 4)) (by omega) hg2 hr.1 hr.2.1 hs.1 hr.1 hr.2.1 hs.1 rfl rfl rfl rfl rfl rfl rfl rfl rfl ?_
  simp only [k0_part41_eq_skeleton, k0_part41_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part42_eq_skeleton, k0_part42_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part43_eq_skeleton, k0_part43_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part44_eq_skeleton, k0_part44_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part45_eq_skeleton, k0_part45_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part46_eq_skeleton, k0_part46_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part47_eq_skeleton, k0_part47_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part48_eq_skeleton, k0_part48_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part49_eq_skeleton, k0_part49_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part50_eq_skeleton, k0_part50_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part51_eq_skeleton, k0_part51_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part52_eq_skeleton, k0_part52_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part53_eq_skeleton, k0_part53_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part54_eq_skeleton, k0_part54_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part55_eq_skeleton, k0_part55_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part56_eq_skeleton, k0_part56_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part57_eq_skeleton, k0_part57_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part58_eq_skeleton, k0_part58_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part59_eq_skeleton, k0_part59_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  simp only [k0_part60_eq_skeleton, k0_part60_skel, bind_assoc, pure_bind]
  refine Ev.tileS (sgNew I (ex (U f) (t / 4))) hsg2 (sl t) 1 (c0 := 8 + 2 * (t % 4)) (by omega) hg2 hr.2.2.1 hr.2.2.2.1 hs.1 hr.2.2.1 hr.2.2.2.1 hs.1 rfl rfl rfl rfl rfl rfl rfl rfl rfl ?_
  refine Ev.bind (ev61 t hw (hid := hidV I (ex (U f) (t / 4)) (t % 4)) ?_ (e := ex (U f) (t / 4)) ?_) ?_
  · rfl
  · subst hσ2; show σ1.d _ = _; rw [hM.d]; exact flD_now _ _ ht
  · generalize hσ3 : ({ σ2 with d := Function.update σ2.d (sl t) (.rdy (ex (U f) (t / 4)) (t % 4)), y := σ2.y } : St F) = σ3
    have hd3 : σ3.d (sl t) = .rdy (ex (U f) (t / 4)) (t % 4) := by subst hσ3; exact Function.update_self ..
    refine Ev.cast (σ' := { σ3 with y := yMix 1 (yNew I σ3.sx (ex (U f) (t / 4)) (t % 4) (hidV I (ex (U f) (t / 4)) (t % 4)) σ3.y) σ3.y }) (by subst hσ3; rfl) ?_
    simp only [k0_part62_eq_skeleton, k0_part62_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part63_eq_skeleton, k0_part63_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part64_eq_skeleton, k0_part64_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part65_eq_skeleton, k0_part65_skel, bind_assoc, pure_bind]
    iterate 2 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part66_eq_skeleton, k0_part66_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part67_eq_skeleton, k0_part67_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part68_eq_skeleton, k0_part68_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part69_eq_skeleton, k0_part69_skel, bind_assoc, pure_bind]
    iterate 2 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part70_eq_skeleton, k0_part70_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part71_eq_skeleton, k0_part71_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part72_eq_skeleton, k0_part72_skel, bind_assoc, pure_bind]
    iterate 2 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part73_eq_skeleton, k0_part73_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part74_eq_skeleton, k0_part74_skel, bind_assoc, pure_bind]
    iterate 1 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    simp only [k0_part75_eq_skeleton, k0_part75_skel, bind_assoc, pure_bind]
    iterate 3 refine Ev.down σ3 (sl t) (hidV I (ex (U f) (t / 4)) (t % 4)) hd3 (fun _ _ _ _ _ => rfl) hs.1 hr.2.2.2.2.1 hs.1 hr.2.2.2.2.2 rfl rfl rfl rfl rfl rfl rfl ?_
    clear hr
    generalize hY : yMix 20 (yNew I σ3.sx (ex (U f) (t / 4)) (t % 4) (hidV I (ex (U f) (t / 4)) (t % 4)) σ3.y) σ3.y = Y
    have hY' : ∀ a b, a < 24 → b < 5120 → Y a b = yS I (U f) (t + 1) a b := by
      intro a b ha hb
      subst hY hσ3 hσ2
      refine (if_pos (by omega)).trans ?_
      exact yNew_congr hM.sx hM.y ha hb
    refine Ev.freeG (sl t) (e := ex (U f) (t / 4)) (j := t % 4) (by subst hσ3; exact hg2) ?_
    refine Ev.freeD (sl t) (e := ex (U f) (t / 4)) (j := t % 4) hd3 ?_
    generalize hσ4 : St.mk _ _ _ _ _ _ _ _ = σ4
    have hJ : σ4.y = Y ∧ σ4.acc = σ1.acc := by subst hσ4 hσ3 hσ2; exact ⟨rfl, rfl⟩
    have hK : ∀ A, (∀ a b, a < 24 → b < 5120 → A a b = accS I (U f) (t + 1) a b) → Inv I f (t + 1) { σ4 with acc := A } := by
      intro A hA
      subst hσ4 hσ3 hσ2
      have e4 : (t.val + 1) % 4 ≠ 0 → (t.val + 1) / 4 = t.val / 4 := by omega
      refine ⟨?_, ?_, hM.ord, ?_, ?_, fun _ => hY', hA⟩
      · show Function.update (Function.update σ1.g (sl t) _) (sl t) _ = _
        rw [Function.update_idem, hM.g]; exact flG_done _ _
      · show Function.update (Function.update σ1.d (sl t) _) (sl t) _ = _
        rw [Function.update_idem, hM.d]; exact flD_done _ _
      · intro h; rw [e4 h]; exact hM.sg
      · intro h; rw [e4 h]; exact hM.sx
    have h6 := cond6_lt t (t1_lt f t)
    by_cases h3 : t.val % 4 = 3
    · refine Ev.ite_pos (by rw [h6]; exact decide_eq_true h3) ?_
      refine Ev.bind EvS.ld_ids (Ev.bind EvS.ld_wts (Ev.bind EvS.ld_ids (Ev.bind EvS.ld_wts (Ev.bind EvS.ld_acc (Ev.bind EvS.ld_y (Ev.bind EvS.ld_acc (Ev.bind (EvS.st_acc (accNew I (ex (U f) (t / 4)) σ4.acc σ4.y) ?_ ?_) (Ev.pure ?_))))))))
      · intro i; exact accNew_at _ _ _ i
      · intro a b ha hb hn
        exact absurd ⟨⟨Nat.zero_le _, by simpa using ha⟩, Nat.zero_le _, by simpa using hb⟩ hn
      · refine hK _ fun a b ha hb => ?_
        rw [hJ.1, hJ.2]
        rw [show accS I (U f) (t + 1) = accNew I (ex (U f) (t / 4)) (accS I (U f) t) (yS I (U f) (t + 1)) from if_pos h3]
        unfold accNew
        rw [allV_congr hY', allV_congr hM.acc]
    · refine Ev.ite_neg (by rw [h6]; exact fun h => h3 (of_decide_eq_true h)) ?_
      refine Ev.pure ?_
      refine (show { σ4 with acc := σ1.acc } = σ4 by rw [← hJ.2]) ▸ hK σ1.acc fun a b ha hb => ?_
      rw [show accS I (U f) (t + 1) = accS I (U f) t from if_neg h3]
      exact hM.acc a b ha hb

end Cert.KernelIdeal.Moe
-- ==== Proof.KI.Body.lean ====
/-
  The whole kernel: the used experts, the first transfers, the loop, the result.
-/
module

public import proofs.«01_k».proof.Proof.KI.Step

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable {c : Dev nD} {I : Inp F}
variable {w0 : A0.IsWhole} {w1 : A1.IsWhole} {w2 : A2.IsWhole} {w3 : A3.IsWhole} {w4 : A4.IsWhole} {w5 : A5.IsWhole} {w6 : A6.IsWhole} {w7 : A7.IsWhole} {w8 : A8.IsWhole} {w9 : A9.IsWhole} {w10 : A10.IsWhole} {w11 : A11.IsWhole} {w12 : A12.IsWhole} {w13 : A13.IsWhole} {w14 : A14.IsWhole} {w15 : A15.IsWhole}

theorem Ev.forFrom {n : ℕ} {β : Type} {Q : β → St F → Prop} (body : Fin n → β → P (F := F) β) (V : ℕ → St F → Prop)
    (hb : ∀ (t : Fin n) b σ, V t σ → Ev c I (fun _ σ' => V (t + 1) σ') σ (body t b)) (hQ : ∀ b σ, V n σ → Q b σ) :
    ∀ m k, m = n - k → k ≤ n → ∀ b σ, V k σ → Ev c I Q σ (Scf.forFrom body ((List.finRange n).drop k) b)
  | 0, k, hm, hk, b, σ, h => by
    have e : k = n := by omega
    subst e
    rw [List.drop_eq_nil_of_le (by simp)]
    exact Ev.ret (hQ b σ h)
  | m + 1, k, hm, hk, b, σ, h => by
    have hk' : k < n := by omega
    rw [List.drop_eq_getElem_cons (by simpa using hk'), Scf.forFrom_cons]
    simp only [List.getElem_finRange]
    refine Ev.bindQ (hb ⟨k, hk'⟩ b σ h) fun b' σ' h' => ?_
    exact Ev.forFrom body V hb hQ m (k + 1) (by omega) hk' b' σ' h'

/-- A counted loop, by an invariant. -/
theorem Ev.loop {l : Scf.Loop 32} {hok : l.OK} {β : Type} {Q : β → St F → Prop} {init : β} {body : Fin l.trips → β → P (F := F) β} (V : ℕ → St F → Prop) {σ : St F}
    (h0 : V 0 σ) (hb : ∀ (t : Fin l.trips) b σ, V t σ → Ev c I (fun _ σ' => V (t + 1) σ') σ (body t b)) (hQ : ∀ b σ, V l.trips σ → Q b σ) :
    Ev c I Q σ (Scf.Loop.for l hok init body) := by
  unfold Scf.Loop.for
  rw [Scf.for_eq]
  exact Ev.forFrom body V hb hQ _ 0 rfl (Nat.zero_le _) init σ h0

set_option maxHeartbeats 8000000 in
set_option maxRecDepth 100000 in
set_option pp.maxSteps 60 in
theorem ev150 {σ : St F} : EvS c I σ (k0_part150 A0 w0 A1 w1 A2 w2 A3 w3 A4 w4 A5 w5 A6 w6 A7 w7 A8 w8 A9 w9 A10 w10 A11 w11 A12 w12 A13 w13 A14 w14 A15 w15 cc0_scratch7 cc0_scratch8) ⟨I.iw 0, I.iw 1, I.iw 2, I.iw 3, I.iw 4, I.iw 5, I.iw 6, I.iw 7, I.iw 8, I.iw 9, I.iw 10, usedW I.iw 11, I.iw 11, Scalar.shli 1#32 (I.iw 11)⟩ σ := by
  rw [k0_part150_eq_skeleton]; unfold k0_part150_skel
  iterate 12 refine Ev.bind EvS.sld_iw ?_
  exact Ev.pure ⟨rfl, rfl⟩
set_option maxHeartbeats 8000000 in
set_option maxRecDepth 100000 in
set_option pp.maxSteps 60 in
theorem ev151 {σ : St F} : EvS c I σ (k0_part151 A0 w0 A1 w1 A2 w2 A3 w3 A4 w4 A5 w5 A6 w6 A7 w7 A8 w8 A9 w9 A10 w10 A11 w11 A12 w12 A13 w13 A14 w14 A15 w15 cc0_scratch7 cc0_scratch8 (usedW I.iw 11) (Scalar.shli 1#32 (I.iw 11))) ⟨I.iw 12, I.iw 13, I.iw 14, I.iw 15, I.iw 16, I.iw 17, I.iw 18, I.iw 19, I.iw 20, I.iw 21, I.iw 22, usedW I.iw 23, I.iw 23, Scalar.shli 1#32 (I.iw 23)⟩ σ := by
  rw [k0_part151_eq_skeleton]; unfold k0_part151_skel
  iterate 12 refine Ev.bind EvS.sld_iw ?_
  exact Ev.pure ⟨rfl, rfl⟩
set_option maxHeartbeats 8000000 in
set_option maxRecDepth 100000 in
set_option pp.maxSteps 60 in
theorem ev152 {σ : St F} : EvS c I σ (k0_part152 A0 w0 A1 w1 A2 w2 A3 w3 A4 w4 A5 w5 A6 w6 A7 w7 A8 w8 A9 w9 A10 w10 A11 w11 A12 w12 A13 w13 A14 w14 A15 w15 cc0_scratch7 cc0_scratch8 (usedW I.iw 23) (Scalar.shli 1#32 (I.iw 23))) ⟨I.iw 24, I.iw 25, I.iw 26, I.iw 27, I.iw 28, I.iw 29, I.iw 30, I.iw 31, I.iw 32, I.iw 33, I.iw 34, usedW I.iw 35, I.iw 35, Scalar.shli 1#32 (I.iw 35)⟩ σ := by
  rw [k0_part152_eq_skeleton]; unfold k0_part152_skel
  iterate 12 refine Ev.bind EvS.sld_iw ?_
  exact Ev.pure ⟨rfl, rfl⟩
set_option maxHeartbeats 8000000 in
set_option maxRecDepth 100000 in
set_option pp.maxSteps 60 in
theorem ev153 {σ : St F} : EvS c I σ (k0_part153 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (usedW I.iw 35) (I.iw 35) (Scalar.shli 1#32 (I.iw 35))) ⟨I.iw 36, I.iw 37, I.iw 38, I.iw 39, I.iw 40, I.iw 41, I.iw 42, I.iw 43, I.iw 44, I.iw 45, I.iw 46, usedW I.iw 47, I.iw 47, chk1 I.iw, 1#32⟩ σ := by
  rw [k0_part153_eq_skeleton]; unfold k0_part153_skel
  iterate 12 refine Ev.bind EvS.sld_iw ?_
  refine Ev.assume (chk1 I.iw) ?_
  exact Ev.pure ⟨rfl, rfl⟩
set_option maxHeartbeats 8000000 in
set_option maxRecDepth 100000 in
set_option pp.maxSteps 60 in
theorem ev154 {σ : St F} {hw : k0_chk1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47)} : EvS c I σ (k0_part154 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (usedW I.iw 47) (I.iw 47) hw 1#32) ⟨U I.iw, cntW (U I.iw) 6, 6#32⟩ { σ with ord := ordF (U I.iw) σ.ord 6 } := by
  rw [k0_part154_eq_skeleton]; unfold k0_part154_skel
  iterate 6 refine Ev.bind EvS.sld_ord (Ev.bind EvS.st_ord ?_)
  refine Ev.bind EvS.sld_ord ?_
  exact Ev.pure ⟨rfl, rfl⟩

theorem offS1 : k0_off9 = ![0] ∧ k0_off10 = ![0, 0, 0, 0] ∧ k0_off12 = ![0] ∧ k0_off13 = ![0, 1, 0, 0] ∧ k0_off15 = ![0, 0, 0] ∧ k0_off8 = ![0] := by
  simp only [k0_off9, k0_off10, k0_off12, k0_off13, k0_off15, k0_off8]; decide +kernel
theorem offS1' (e : BitVec 32) : k0_off11 e = ![e.toNat, 0, 256 * 0] ∧ k0_off14 e = ![e.toNat, 0, 1024 + 256 * 0] ∧ k0_off16 e = ![e.toNat, 256 * 0, 0] := ⟨rfl, rfl, rfl⟩
set_option maxHeartbeats 8000000 in
set_option maxRecDepth 100000 in
set_option pp.maxSteps 60 in
theorem evP1 {x : BitVec 32} {hc : k0_cond1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1} {σ : St F} (hg : σ.g = flG (U I.iw) 0 0) (ho : ∀ i, i < cnt (U I.iw) 8 → σ.ord i = BitVec.ofNat 32 (ex (U I.iw) i)) (h : 0 < 4 * cnt (U I.iw) 8) :
    EvS c I σ (k0_part1 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) x hc) ⟨BitVec.ofNat 32 (ex (U I.iw) 0), chk2 I.iw (by rw [exw (by omega)]; exact ex_lt _ (by omega))⟩
      { σ with g := Function.update σ.g (sl 0) (.one (ex (U I.iw) 0) 0) } := by
  have hi : 0 < cnt (U I.iw) 8 := by omega
  have e8 : σ.ord (k0_off8 0) = BitVec.ofNat 32 (ex (U I.iw) 0) := by rw [offS1.2.2.2.2.2]; exact ho _ hi
  rw [k0_part1_eq_skeleton]; unfold k0_part1_skel
  refine Ev.bind EvS.sld_ord ?_
  rw [e8]
  refine Ev.assume (chk2 I.iw (by rw [exw hi]; exact ex_lt _ hi)) ?_
  refine Ev.bind (EvS.startG0 (sl 0) (ex (U I.iw) 0) 0 (gsem_eq _ offS1.1) offS1.2.1 ((offS1' _).1.trans (by rw [exw hi])) ?_) ?_
  · rw [hg]; exact flG_idle _ _ 0 (by omega) (by omega)
  · exact Ev.pure ⟨rfl, rfl⟩

theorem offS2 : k0_off18 = ![1] ∧ k0_off19 = ![1, 0, 0, 0] ∧ k0_off21 = ![1] ∧ k0_off22 = ![1, 1, 0, 0] ∧ k0_off24 = ![1, 0, 0] ∧ k0_off17 = ![0] := by
  simp only [k0_off18, k0_off19, k0_off21, k0_off22, k0_off24, k0_off17]; decide +kernel
theorem offS2' (e : BitVec 32) : k0_off20 e = ![e.toNat, 0, 256 * 1] ∧ k0_off23 e = ![e.toNat, 0, 1024 + 256 * 1] ∧ k0_off25 e = ![e.toNat, 256 * 1, 0] := ⟨rfl, rfl, rfl⟩
set_option maxHeartbeats 8000000 in
set_option maxRecDepth 100000 in
set_option pp.maxSteps 60 in
theorem evP2 {x : BitVec 32} {hc : k0_cond2 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1} {σ : St F} (hg : σ.g = flG (U I.iw) 0 1) (ho : ∀ i, i < cnt (U I.iw) 8 → σ.ord i = BitVec.ofNat 32 (ex (U I.iw) i)) (h : 1 < 4 * cnt (U I.iw) 8) :
    EvS c I σ (k0_part2 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) x hc) ⟨BitVec.ofNat 32 (ex (U I.iw) 0), chk3 I.iw (by rw [exw (by omega)]; exact ex_lt _ (by omega))⟩
      { σ with g := Function.update σ.g (sl 1) (.one (ex (U I.iw) 0) 1) } := by
  have hi : 0 < cnt (U I.iw) 8 := by omega
  have e8 : σ.ord (k0_off17 0) = BitVec.ofNat 32 (ex (U I.iw) 0) := by rw [offS2.2.2.2.2.2]; exact ho _ hi
  rw [k0_part2_eq_skeleton]; unfold k0_part2_skel
  refine Ev.bind EvS.sld_ord ?_
  rw [e8]
  refine Ev.assume (chk3 I.iw (by rw [exw hi]; exact ex_lt _ hi)) ?_
  refine Ev.bind (EvS.startG0 (sl 1) (ex (U I.iw) 0) 1 (gsem_eq _ offS2.1) offS2.2.1 ((offS2' _).1.trans (by rw [exw hi])) ?_) ?_
  · rw [hg]; exact flG_idle _ _ 1 (by omega) (by omega)
  · exact Ev.pure ⟨rfl, rfl⟩

theorem offS3 : k0_off27 = ![2] ∧ k0_off28 = ![2, 0, 0, 0] ∧ k0_off30 = ![2] ∧ k0_off31 = ![2, 1, 0, 0] ∧ k0_off33 = ![2, 0, 0] ∧ k0_off26 = ![0] := by
  simp only [k0_off27, k0_off28, k0_off30, k0_off31, k0_off33, k0_off26]; decide +kernel
theorem offS3' (e : BitVec 32) : k0_off29 e = ![e.toNat, 0, 256 * 2] ∧ k0_off32 e = ![e.toNat, 0, 1024 + 256 * 2] ∧ k0_off34 e = ![e.toNat, 256 * 2, 0] := ⟨rfl, rfl, rfl⟩
set_option maxHeartbeats 8000000 in
set_option maxRecDepth 100000 in
set_option pp.maxSteps 60 in
theorem evP3 {x : BitVec 32} {hc : k0_cond3 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1} {σ : St F} (hg : σ.g = flG (U I.iw) 0 2) (ho : ∀ i, i < cnt (U I.iw) 8 → σ.ord i = BitVec.ofNat 32 (ex (U I.iw) i)) (h : 2 < 4 * cnt (U I.iw) 8) :
    EvS c I σ (k0_part3 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) x hc) ⟨BitVec.ofNat 32 (ex (U I.iw) 0), chk4 I.iw (by rw [exw (by omega)]; exact ex_lt _ (by omega))⟩
      { σ with g := Function.update σ.g (sl 2) (.one (ex (U I.iw) 0) 2) } := by
  have hi : 0 < cnt (U I.iw) 8 := by omega
  have e8 : σ.ord (k0_off26 0) = BitVec.ofNat 32 (ex (U I.iw) 0) := by rw [offS3.2.2.2.2.2]; exact ho _ hi
  rw [k0_part3_eq_skeleton]; unfold k0_part3_skel
  refine Ev.bind EvS.sld_ord ?_
  rw [e8]
  refine Ev.assume (chk4 I.iw (by rw [exw hi]; exact ex_lt _ hi)) ?_
  refine Ev.bind (EvS.startG0 (sl 2) (ex (U I.iw) 0) 2 (gsem_eq _ offS3.1) offS3.2.1 ((offS3' _).1.trans (by rw [exw hi])) ?_) ?_
  · rw [hg]; exact flG_idle _ _ 2 (by omega) (by omega)
  · exact Ev.pure ⟨rfl, rfl⟩

set_option maxHeartbeats 8000000 in
set_option maxRecDepth 100000 in
set_option pp.maxSteps 60 in
theorem ev155 {σ : St F} (hw : k0_chk1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47)) (hg : ∀ s, σ.g s = .idle) (hd : ∀ s, σ.d s = .idle) {o : ℕ → BitVec 32} (ho : σ.ord = ordF (U I.iw) o 6) :
    Ev c I (fun v σ' => Inv I I.iw (4 * cnt (U I.iw) 8) σ') σ (k0_part155 A0 w0 A1 w1 A2 w2 A3 w3 A4 w4 A5 w5 A6 w6 A7 w7 A8 w8 A9 w9 A10 w10 A11 w11 A12 w12 A13 w13 A14 w14 A15 w15 cc0_scratch7 cc0_scratch8 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) hw (U I.iw) (cntW (U I.iw) 6) 6#32) := by
  rw [k0_part155_eq_skeleton]; unfold k0_part155_skel
  refine Ev.bind EvS.st_ord (Ev.bind EvS.sld_ord (Ev.bind EvS.st_ord ?_))
  refine Ev.cast (σ' := { σ with ord := ordF (U I.iw) o 8, g := flG (U I.iw) 0 0, d := flD (U I.iw) 0 0 }) ?_ ?_
  · rw [flG_zero, flD_zero, ← funext hg, ← funext hd, ho]
    cases σ; cases ho; rfl
  have hor : ∀ i, i < cnt (U I.iw) 8 → ordF (U I.iw) o 8 i = BitVec.ofNat 32 (ex (U I.iw) i) := fun i h => ord_ex _ _ h
  extract_lets; rename_i jp3 _ _ _ _ _ _ _ _ jp2 _ _ _ _ _ _ _ _ jp1 _ _ _ _ _ _ _ _
  have hj3 : Ev c I (fun v σ' => Inv I I.iw (4 * cnt (U I.iw) 8) σ')
      { σ with ord := ordF (U I.iw) o 8, g := flG (U I.iw) 0 3, d := flD (U I.iw) 0 3 } (jp3 ⟨⟩) := by
    simp only [jp3]
    refine Ev.bind EvS.ld_acc (Ev.bind (EvS.st_acc (zeroF F) (fun i => rfl) ?_) ?_)
    · intro a b ha hb hn
      exact absurd ⟨⟨Nat.zero_le _, by simpa using ha⟩, Nat.zero_le _, by simpa using hb⟩ hn
    refine Ev.bindQ (Ev.loop (Q := fun _ σ' => Inv I I.iw (4 * cnt (U I.iw) 8) σ') (Inv I I.iw) ?_ (fun t b σ' h => evTrip t hw _ _ _ _ b h) ?_) fun v σ' h => ?_
    · exact ⟨rfl, rfl, hor, fun h => absurd rfl h, fun h => absurd rfl h, fun h => absurd rfl h, fun a b _ _ => rfl⟩
    · intro b σ' h; rw [← t1_trips I.iw]; exact h
    · refine Ev.bindQ (Ev.loop (Q := fun _ σ' => Inv I I.iw (4 * cnt (U I.iw) 8) σ') (fun _ => Inv I I.iw (4 * cnt (U I.iw) 8)) h (fun t => t2_no I.iw t) fun b σ' h => h) fun v σ' h => ?_
      exact Ev.pure h
  clear_value jp3
  have hj2 : Ev c I (fun v σ' => Inv I I.iw (4 * cnt (U I.iw) 8) σ')
      { σ with ord := ordF (U I.iw) o 8, g := flG (U I.iw) 0 2, d := flD (U I.iw) 0 2 } (jp2 ⟨⟩) := by
    simp only [jp2]
    by_cases hc : k0_cond3 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1
    · have h : 2 < 4 * cnt (U I.iw) 8 := (cond3_iff I.iw).1 hc
      have hi : 0 < cnt (U I.iw) 8 := by omega
      refine Ev.ite_pos hc ?_
      refine Ev.bind (evP3 rfl hor h) ?_
      refine Ev.bind (EvS.startG1 (sl 2) (ex (U I.iw) 0) 2 (gsem_eq _ offS3.2.2.1) offS3.2.2.2.1 ((offS3' _).2.1.trans (by rw [exw hi])) (by simp only [Function.update_self])) ?_
      refine Ev.bind (EvS.startD (sl 2) (ex (U I.iw) 0) 2 (dsem_eq _ offS3.2.2.1) offS3.2.2.2.2.1 ((offS3' _).2.2.trans (by rw [exw hi])) ?_) ?_
      · exact flD_idle (U I.iw) 0 2 (by omega) (by omega)
      · refine Ev.cast ?_ hj3
        have e1 := flG_start (U I.iw) 0 2 (by omega) (by omega) h
        have e2 := flD_start (U I.iw) 0 2 (by omega) (by omega) h
        show ({ σ with ord := ordF (U I.iw) o 8, g := Function.update (Function.update (flG (U I.iw) 0 2) (sl 2) _) (sl 2) (.fly (ex (U I.iw) (2 / 4)) (2 % 4)), d := Function.update (flD (U I.iw) 0 2) (sl 2) (.fly (ex (U I.iw) (2 / 4)) (2 % 4)) } : St F) = _
        rw [Function.update_idem, e1, e2]
    · have h : ¬ 2 < 4 * cnt (U I.iw) 8 := fun h => hc ((cond3_iff I.iw).2 h)
      refine Ev.ite_neg hc ?_
      refine Ev.cast ?_ hj3
      rw [flG_skip _ 0 2 h, flD_skip _ 0 2 h]
  clear_value jp2
  have hj1 : Ev c I (fun v σ' => Inv I I.iw (4 * cnt (U I.iw) 8) σ')
      { σ with ord := ordF (U I.iw) o 8, g := flG (U I.iw) 0 1, d := flD (U I.iw) 0 1 } (jp1 ⟨⟩) := by
    simp only [jp1]
    by_cases hc : k0_cond2 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1
    · have h : 1 < 4 * cnt (U I.iw) 8 := (cond2_iff I.iw).1 hc
      have hi : 0 < cnt (U I.iw) 8 := by omega
      refine Ev.ite_pos hc ?_
      refine Ev.bind (evP2 rfl hor h) ?_
      refine Ev.bind (EvS.startG1 (sl 1) (ex (U I.iw) 0) 1 (gsem_eq _ offS2.2.2.1) offS2.2.2.2.1 ((offS2' _).2.1.trans (by rw [exw hi])) (by simp only [Function.update_self])) ?_
      refine Ev.bind (EvS.startD (sl 1) (ex (U I.iw) 0) 1 (dsem_eq _ offS2.2.2.1) offS2.2.2.2.2.1 ((offS2' _).2.2.trans (by rw [exw hi])) ?_) ?_
      · exact flD_idle (U I.iw) 0 1 (by omega) (by omega)
      · refine Ev.cast ?_ hj2
        have e1 := flG_start (U I.iw) 0 1 (by omega) (by omega) h
        have e2 := flD_start (U I.iw) 0 1 (by omega) (by omega) h
        show ({ σ with ord := ordF (U I.iw) o 8, g := Function.update (Function.update (flG (U I.iw) 0 1) (sl 1) _) (sl 1) (.fly (ex (U I.iw) (1 / 4)) (1 % 4)), d := Function.update (flD (U I.iw) 0 1) (sl 1) (.fly (ex (U I.iw) (1 / 4)) (1 % 4)) } : St F) = _
        rw [Function.update_idem, e1, e2]
    · have h : ¬ 1 < 4 * cnt (U I.iw) 8 := fun h => hc ((cond2_iff I.iw).2 h)
      refine Ev.ite_neg hc ?_
      refine Ev.cast ?_ hj2
      rw [flG_skip _ 0 1 h, flD_skip _ 0 1 h]
  clear_value jp1
  by_cases hc : k0_cond1 (I.iw 0) (I.iw 1) (I.iw 2) (I.iw 3) (I.iw 4) (I.iw 5) (I.iw 6) (I.iw 7) (I.iw 8) (I.iw 9) (I.iw 10) (I.iw 11) (I.iw 12) (I.iw 13) (I.iw 14) (I.iw 15) (I.iw 16) (I.iw 17) (I.iw 18) (I.iw 19) (I.iw 20) (I.iw 21) (I.iw 22) (I.iw 23) (I.iw 24) (I.iw 25) (I.iw 26) (I.iw 27) (I.iw 28) (I.iw 29) (I.iw 30) (I.iw 31) (I.iw 32) (I.iw 33) (I.iw 34) (I.iw 35) (I.iw 36) (I.iw 37) (I.iw 38) (I.iw 39) (I.iw 40) (I.iw 41) (I.iw 42) (I.iw 43) (I.iw 44) (I.iw 45) (I.iw 46) (I.iw 47) = 1#1
  · have h : 0 < 4 * cnt (U I.iw) 8 := (cond1_iff I.iw).1 hc
    have hi : 0 < cnt (U I.iw) 8 := by omega
    refine Ev.ite_pos hc ?_
    refine Ev.bind (evP1 rfl hor h) ?_
    refine Ev.bind (EvS.startG1 (sl 0) (ex (U I.iw) 0) 0 (gsem_eq _ offS1.2.2.1) offS1.2.2.2.1 ((offS1' _).2.1.trans (by rw [exw hi])) (by simp only [Function.update_self])) ?_
    refine Ev.bind (EvS.startD (sl 0) (ex (U I.iw) 0) 0 (dsem_eq _ offS1.2.2.1) offS1.2.2.2.2.1 ((offS1' _).2.2.trans (by rw [exw hi])) ?_) ?_
    · exact flD_idle (U I.iw) 0 0 (by omega) (by omega)
    · refine Ev.cast ?_ hj1
      have e1 := flG_start (U I.iw) 0 0 (by omega) (by omega) h
      have e2 := flD_start (U I.iw) 0 0 (by omega) (by omega) h
      show ({ σ with ord := ordF (U I.iw) o 8, g := Function.update (Function.update (flG (U I.iw) 0 0) (sl 0) _) (sl 0) (.fly (ex (U I.iw) (0 / 4)) (0 % 4)), d := Function.update (flD (U I.iw) 0 0) (sl 0) (.fly (ex (U I.iw) (0 / 4)) (0 % 4)) } : St F) = _
      rw [Function.update_idem, e1, e2]
  · have h : ¬ 0 < 4 * cnt (U I.iw) 8 := fun h => hc ((cond1_iff I.iw).2 h)
    refine Ev.ite_neg hc ?_
    refine Ev.cast ?_ hj1
    rw [flG_skip _ 0 0 h, flD_skip _ 0 0 h]

/-- The kernel's result. -/
def outV (I : Inp F) : FVec F S24x5120 .bf16 := k0_pay1 (allV (accS I (U I.iw) (4 * cnt (U I.iw) 8)))
/-- The same by coordinates. -/
def outF (I : Inp F) (a b : ℕ) : Elt F .bf16 := if h : a < 24 ∧ b < 5120 then outV I (ix2 ⟨a, h.1⟩ ⟨b, h.2⟩) else FloatOps.ofBits .bf16 0#16

set_option maxHeartbeats 8000000 in
set_option maxRecDepth 100000 in
set_option pp.maxSteps 60 in
theorem evBody {σ : St F} (hg : ∀ s, σ.g s = .idle) (hd : ∀ s, σ.d s = .idle) :
    Ev c I (fun _ σ' => (∀ s, σ'.g s = .idle) ∧ (∀ s, σ'.d s = .idle) ∧ σ'.out = outF I) σ (cc0_moe_swiglu A0 w0 A1 w1 A2 w2 A3 w3 A4 w4 A5 w5 A6 w6 A7 w7 A8 w8 A9 w9 A10 w10 A11 w11 A12 w12 A13 w13 A14 w14 A15 w15 cc0_scratch7 cc0_scratch8) := by
  rw [cc0_moe_swiglu_eq_skeleton]; unfold cc0_moe_swiglu_skel
  refine Ev.bind ev150 (Ev.bind ev151 (Ev.bind ev152 (Ev.bind ev153 (Ev.bind ev154 ?_))))
  refine Ev.bindQ (ev155 (chk1 I.iw) hg hd rfl) fun v σ' h => ?_
  refine Ev.bind EvS.ld_acc (Ev.bind EvS.ld_out (Ev.bind (EvS.st_out (outF I) ?_ ?_) (Ev.pure ?_)))
  · intro i
    unfold outF
    have h0 : (i 0 : ℕ) < 24 := (i 0).2
    have h1 : (i 1 : ℕ) < 5120 := (i 1).2
    rw [dif_pos ⟨by show 0 + (i 0 : ℕ) < 24; omega, by show 0 + (i 1 : ℕ) < 5120; omega⟩]
    unfold outV
    rw [← allV_congr h.acc]
    refine congrArg (k0_pay1 (allV σ'.acc)) ?_
    exact (congrArg₂ ix2 (Fin.ext (Nat.zero_add _)) (Fin.ext (Nat.zero_add _))).trans (eq_ix2 i).symm
  · intro a b ha hb hn
    exact absurd ⟨⟨Nat.zero_le _, by simpa using ha⟩, Nat.zero_le _, by simpa using hb⟩ hn
  · refine ⟨fun s => ?_, fun s => ?_, rfl⟩
    · show σ'.g s = _; rw [h.g, flG_end _ _ _ (Nat.le_refl _)]
    · show σ'.d s = _; rw [h.d, flD_end _ _ _ (Nat.le_refl _)]

end Cert.KernelIdeal.Moe
-- ==== Proof.KI.Split.lean ====
/-
  The buffers, shares and counters of the kernel taken apart and put together.
-/
module

public import proofs.«01_k».proof.Proof.KI.Body

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## Arrays by coordinates -/

section ext
variable {α : Type} [Nonempty α]
def ext1 {n : ℕ} (f : (⟨1, ![n]⟩ : Shape).Idx → α) (a : ℕ) : α := if h : a < n then f (ix1 ⟨a, h⟩) else Classical.arbitrary α
def ext2 {n k : ℕ} (f : (⟨2, ![n, k]⟩ : Shape).Idx → α) (a b : ℕ) : α :=
  if h : a < n ∧ b < k then f (ix2 ⟨a, h.1⟩ ⟨b, h.2⟩) else Classical.arbitrary α
def ext3 {n k l : ℕ} (f : (⟨3, ![n, k, l]⟩ : Shape).Idx → α) (a b d : ℕ) : α :=
  if h : a < n ∧ b < k ∧ d < l then f (ix3 ⟨a, h.1⟩ ⟨b, h.2.1⟩ ⟨d, h.2.2⟩) else Classical.arbitrary α
theorem ext1_eq {n : ℕ} (f : (⟨1, ![n]⟩ : Shape).Idx → α) : (fun i => ext1 f (i 0)) = f := by
  funext i
  have h : ((i 0 : Fin n) : ℕ) < n := (i 0).2
  unfold ext1; rw [dif_pos h]; exact congrArg f (eq_ix1 i).symm
theorem ext2_eq {n k : ℕ} (f : (⟨2, ![n, k]⟩ : Shape).Idx → α) : (fun i => ext2 f (i 0) (i 1)) = f := by
  funext i
  have h : ((i 0 : Fin n) : ℕ) < n ∧ ((i 1 : Fin k) : ℕ) < k := ⟨(i 0).2, (i 1).2⟩
  unfold ext2; rw [dif_pos h]; exact congrArg f (eq_ix2 i).symm
theorem ext3_eq {n k l : ℕ} (f : (⟨3, ![n, k, l]⟩ : Shape).Idx → α) : (fun i => ext3 f (i 0) (i 1) (i 2)) = f := by
  funext i
  have h : ((i 0 : Fin n) : ℕ) < n ∧ ((i 1 : Fin k) : ℕ) < k ∧ ((i 2 : Fin l) : ℕ) < l := ⟨(i 0).2, (i 1).2, (i 2).2⟩
  unfold ext3; rw [dif_pos h]; exact congrArg f (eq_ix3 i).symm
end ext

instance : Nonempty (Elt F .bf16) := Elt.nonempty F _
instance : Nonempty (Elt F .f32) := Elt.nonempty F _
instance : Nonempty (Elt F .fp8e4m3) := Elt.nonempty F _

/-! ## Shares and parts -/

variable {c : Dev nD} {I : Inp F}

section shares
variable {ℓ : Loc nD τ sig} {S : Finset (Idx ℓ)} {f : Buf (Elt F) ℓ}

theorem quad (q : PosShare TreeShare) : (ℓ ↦[S]{q} f : sProp 𝕄) ⊣⊢
    iprop((ℓ ↦[S]{q.left.left} f) ∗ (ℓ ↦[S]{q.left.right} f) ∗ (ℓ ↦[S]{q.right.left} f) ∗ (ℓ ↦[S]{q.right.right} f)) := by
  constructor
  · iintro H
    ihave H2 := (pointsTo_share (PosShare.mem_left_op_right q)).1 $$ H
    icases H2 with ⟨Hl, Hr⟩
    ihave H3 := (pointsTo_share (PosShare.mem_left_op_right q.left)).1 $$ Hl
    icases H3 with ⟨Hll, Hlr⟩
    ihave H4 := (pointsTo_share (PosShare.mem_left_op_right q.right)).1 $$ Hr
    icases H4 with ⟨Hrl, Hrr⟩
    isplitl [Hll]; · iexact Hll
    isplitl [Hlr]; · iexact Hlr
    isplitl [Hrl]; · iexact Hrl
    iexact Hrr
  · iintro ⟨H1, H2, H3, H4⟩
    iapply (pointsTo_share (PosShare.mem_left_op_right q)).2
    isplitl [H1 H2]
    · iapply (pointsTo_share (PosShare.mem_left_op_right q.left)).2
      isplitl [H1]; · iexact H1
      iexact H2
    · iapply (pointsTo_share (PosShare.mem_left_op_right q.right)).2
      isplitl [H3]; · iexact H3
      iexact H4
end shares

theorem wgu_shares : (A6.view.loc (c : Thread nD τ) ↦[Finset.univ]{fullShare} wguC I : sProp 𝕄) ⊣⊢
    iprop((allG c I 0 0 ∗ allG c I 0 1 ∗ allG c I 1 0 ∗ allG c I 1 1) ∗ (allG c I 2 0 ∗ allG c I 2 1 ∗ allG c I 3 0 ∗ allG c I 3 1)) := by
  constructor
  · iintro H
    ihave H2 := (pointsTo_share (PosShare.mem_left_op_right fullShare)).1 $$ H
    icases H2 with ⟨Hl, Hr⟩
    isplitl [Hl]
    · iapply (quad fullShare.left).1; iexact Hl
    · iapply (quad fullShare.right).1; iexact Hr
  · iintro ⟨Hl, Hr⟩
    iapply (pointsTo_share (PosShare.mem_left_op_right fullShare)).2
    isplitl [Hl]
    · iapply (quad fullShare.left).2; iexact Hl
    · iapply (quad fullShare.right).2; iexact Hr

theorem wd_shares : (A7.view.loc (c : Thread nD τ) ↦[Finset.univ]{fullShare} wdC I : sProp 𝕄) ⊣⊢
    iprop(allD c I 0 ∗ allD c I 1 ∗ allD c I 2 ∗ allD c I 3) := quad fullShare

theorem gset_disj (t t' : Fin 4 × Fin 2) (h : t ≠ t') : Disjoint (gset t.1 t.2) (gset t'.1 t'.2) := by
  refine Finset.disjoint_left.mpr fun i hi hi' => h ?_
  simp only [gset, Finset.mem_filter] at hi hi'
  exact Prod.ext (Fin.ext (hi.2.1.symm.trans hi'.2.1)) (Fin.ext (hi.2.2.symm.trans hi'.2.2))
theorem gset_univ : (Finset.univ : Finset (Fin 4 × Fin 2)).biUnion (fun t => gset t.1 t.2) = Finset.univ := by
  refine Finset.eq_univ_of_forall fun i => Finset.mem_biUnion.mpr ⟨(i 0, i 1), Finset.mem_univ _, ?_⟩
  exact Finset.mem_filter.mpr ⟨Finset.mem_univ _, rfl, rfl⟩
theorem dset_disj (t t' : Fin 4) (h : t ≠ t') : Disjoint (dset t) (dset t') := by
  refine Finset.disjoint_left.mpr fun i hi hi' => h ?_
  simp only [dset, Finset.mem_filter] at hi hi'
  exact Fin.ext (hi.2.symm.trans hi'.2)
theorem dset_univ : (Finset.univ : Finset (Fin 4)).biUnion dset = Finset.univ := by
  refine Finset.eq_univ_of_forall fun i => Finset.mem_biUnion.mpr ⟨i 0, Finset.mem_univ _, ?_⟩
  exact Finset.mem_filter.mpr ⟨Finset.mem_univ _, rfl⟩

theorem seq8 (Φ : Fin 4 × Fin 2 → sProp 𝕄) : bigSep Finset.univ Φ =
    iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ
theorem seq4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem gbuf_split (f : S4x2x5120x256.Idx → Elt F .fp8e4m3) : (pt c A9 f : sProp 𝕄) ⊢
    iprop(anyG c 0 0 ∗ anyG c 0 1 ∗ anyG c 1 0 ∗ anyG c 1 1 ∗ anyG c 2 0 ∗ anyG c 2 1 ∗ anyG c 3 0 ∗ anyG c 3 1) := by
  have e : (pt c A9 f : sProp 𝕄) = bigSep Finset.univ (fun t : Fin 4 × Fin 2 => A9.view.loc (c : Thread nD τ) ↦[gset t.1 t.2]{fullShare} f) :=
    (congrArg (fun S => (A9.view.loc (c : Thread nD τ) ↦[S]{fullShare} f : sProp 𝕄)) gset_univ.symm).trans
      (pointsTo_biUnion _ _ fun t _ t' _ h => gset_disj t t' h)
  rw [e, seq8]
  iintro ⟨H0, H1, H2, H3, H4, H5, H6, H7⟩
  unfold anyG
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

theorem gbuf_join : iprop(anyG c 0 0 ∗ anyG c 0 1 ∗ anyG c 1 0 ∗ anyG c 1 1 ∗ anyG c 2 0 ∗ anyG c 2 1 ∗ anyG c 3 0 ∗ anyG c 3 1) ⊢
    (iprop(∃ f : S4x2x5120x256.Idx → Elt F .fp8e4m3, pt c A9 f) : sProp 𝕄) := by
  unfold anyG
  iintro ⟨⟨%f0, H0⟩, ⟨%f1, H1⟩, ⟨%f2, H2⟩, ⟨%f3, H3⟩, ⟨%f4, H4⟩, ⟨%f5, H5⟩, ⟨%f6, H6⟩, ⟨%f7, H7⟩⟩
  have j := pointsTo_biUnion_join (Ix := Unit) (Name := ℕ) (U := Pipeline.UD sig nD τ) (Lvl := ℕ) (q := fullShare) (ℓ := A9.view.loc (c : Thread nD τ)) (Finset.univ : Finset (Fin 4 × Fin 2)) (fun t => gset t.1 t.2)
    (fun t => (![![f0, f1], ![f2, f3], ![f4, f5], ![f6, f7]] : Fin 4 → Fin 2 → S4x2x5120x256.Idx → Elt F .fp8e4m3) t.1 t.2) f0 (fun t _ t' _ h => gset_disj t t' h)
  rw [seq8, gset_univ] at j
  ihave Hj := j $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  icases Hj with ⟨%g, -, Hg⟩
  iexists g; iexact Hg

theorem dbuf_split (f : S4x256x5120.Idx → Elt F .fp8e4m3) : (pt c A10 f : sProp 𝕄) ⊢
    iprop(anyD c 0 ∗ anyD c 1 ∗ anyD c 2 ∗ anyD c 3) := by
  have e : (pt c A10 f : sProp 𝕄) = bigSep Finset.univ (fun t : Fin 4 => A10.view.loc (c : Thread nD τ) ↦[dset t]{fullShare} f) :=
    (congrArg (fun S => (A10.view.loc (c : Thread nD τ) ↦[S]{fullShare} f : sProp 𝕄)) dset_univ.symm).trans
      (pointsTo_biUnion _ _ fun t _ t' _ h => dset_disj t t' h)
  rw [e, seq4]
  iintro ⟨H0, H1, H2, H3⟩
  unfold anyD
  isplitl [H0]; · iexists f; iexact H0
  isplitl [H1]; · iexists f; iexact H1
  isplitl [H2]; · iexists f; iexact H2
  iexists f; iexact H3

theorem dbuf_join : iprop(anyD c 0 ∗ anyD c 1 ∗ anyD c 2 ∗ anyD c 3) ⊢
    (iprop(∃ f : S4x256x5120.Idx → Elt F .fp8e4m3, pt c A10 f) : sProp 𝕄) := by
  unfold anyD
  iintro ⟨⟨%f0, H0⟩, ⟨%f1, H1⟩, ⟨%f2, H2⟩, ⟨%f3, H3⟩⟩
  have j := pointsTo_biUnion_join (Ix := Unit) (Name := ℕ) (U := Pipeline.UD sig nD τ) (Lvl := ℕ) (q := fullShare) (ℓ := A10.view.loc (c : Thread nD τ)) (Finset.univ : Finset (Fin 4)) dset
    (![f0, f1, f2, f3] : Fin 4 → S4x256x5120.Idx → Elt F .fp8e4m3) f0 (fun t _ t' _ h => dset_disj t t' h)
  rw [seq4, dset_univ] at j
  ihave Hj := j $$ [H0 H1 H2 H3]
  · isplitl [H0]; · iexact H0
    isplitl [H1]; · iexact H1
    isplitl [H2]; · iexact H2
    iexact H3
  icases Hj with ⟨%g, -, Hg⟩
  iexists g; iexact Hg

/-! ## The whole state with nothing in flight -/

/-- The eight counters at zero. -/
abbrev sems (c : Dev nD) : sProp 𝕄 :=
  iprop(semVal ((c : Thread nD τ), SemLoc.dma (gsem 0)) 0 ∗ semVal ((c : Thread nD τ), SemLoc.dma (gsem 1)) 0
    ∗ semVal ((c : Thread nD τ), SemLoc.dma (gsem 2)) 0 ∗ semVal ((c : Thread nD τ), SemLoc.dma (gsem 3)) 0
    ∗ semVal ((c : Thread nD τ), SemLoc.dma (dsem 0)) 0 ∗ semVal ((c : Thread nD τ), SemLoc.dma (dsem 1)) 0
    ∗ semVal ((c : Thread nD τ), SemLoc.dma (dsem 2)) 0 ∗ semVal ((c : Thread nD τ), SemLoc.dma (dsem 3)) 0)

theorem Res_eq (σ : St F) : Res c I σ = iprop(comp c I σ .iw ∗ comp c I σ .x ∗ comp c I σ .ids ∗ comp c I σ .wts ∗ comp c I σ .sgu ∗ comp c I σ .sd
    ∗ comp c I σ .out ∗ comp c I σ .sg ∗ comp c I σ .sx ∗ comp c I σ .acc ∗ comp c I σ .y ∗ comp c I σ .ord ∗ comp c I σ .owes
    ∗ gP c I 0 (σ.g 0) ∗ gP c I 1 (σ.g 1) ∗ gP c I 2 (σ.g 2) ∗ gP c I 3 (σ.g 3)
    ∗ dP c I 0 (σ.d 0) ∗ dP c I 1 (σ.d 1) ∗ dP c I 2 (σ.d 2) ∗ dP c I 3 (σ.d 3)) :=
  bigSep_univ_eq_bigSepL ([.iw, .x, .ids, .wts, .sgu, .sd, .out, .sg, .sx, .acc, .y, .ord, .owes, .g 0, .g 1, .g 2, .g 3, .d 0, .d 1, .d 2, .d 3] : List Piece)
    (by decide) (by decide) _

/-- What the kernel is given, and gives back. -/
abbrev Idle (c : Dev nD) (I : Inp F) (σ : St F) : sProp 𝕄 :=
  iprop((comp c I σ .iw ∗ comp c I σ .x ∗ comp c I σ .ids ∗ comp c I σ .wts ∗ comp c I σ .sgu ∗ comp c I σ .sd
    ∗ comp c I σ .out ∗ comp c I σ .sg ∗ comp c I σ .sx ∗ comp c I σ .acc ∗ comp c I σ .y ∗ comp c I σ .ord ∗ comp c I σ .owes)
    ∗ (∃ f : S4x2x5120x256.Idx → Elt F .fp8e4m3, pt c A9 f) ∗ (∃ f : S4x256x5120.Idx → Elt F .fp8e4m3, pt c A10 f)
    ∗ pt c A6 (wguC I) ∗ pt c A7 (wdC I) ∗ sems c)

theorem Res_idle {σ : St F} (hg : ∀ s, σ.g s = .idle) (hd : ∀ s, σ.d s = .idle) : Res c I σ ⊣⊢ Idle c I σ := by
  rw [Res_eq, hg, hg, hg, hg, hd, hd, hd, hd]
  unfold gP dP
  constructor
  · iintro ⟨P0, P1, P2, P3, P4, P5, P6, P7, P8, P9, P10, P11, P12, ⟨S0, G00, G01, W00, W01⟩, ⟨S1, G10, G11, W10, W11⟩, ⟨S2, G20, G21, W20, W21⟩, ⟨S3, G30, G31, W30, W31⟩,
      ⟨T0, D0, V0⟩, ⟨T1, D1, V1⟩, ⟨T2, D2, V2⟩, ⟨T3, D3, V3⟩⟩
    isplitl [P0 P1 P2 P3 P4 P5 P6 P7 P8 P9 P10 P11 P12]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      iexact P12
    isplitl [G00 G01 G10 G11 G20 G21 G30 G31]
    · iapply gbuf_join
      isplitl [G00]; · iexact G00
      isplitl [G01]; · iexact G01
      isplitl [G10]; · iexact G10
      isplitl [G11]; · iexact G11
      isplitl [G20]; · iexact G20
      isplitl [G21]; · iexact G21
      isplitl [G30]; · iexact G30
      iexact G31
    isplitl [D0 D1 D2 D3]
    · iapply dbuf_join
      isplitl [D0]; · iexact D0
      isplitl [D1]; · iexact D1
      isplitl [D2]; · iexact D2
      iexact D3
    isplitl [W00 W01 W10 W11 W20 W21 W30 W31]
    · iapply (wgu_shares (c := c) (I := I)).2
      isplitl [W00 W01 W10 W11]
      · isplitl [W00]; · iexact W00
        isplitl [W01]; · iexact W01
        isplitl [W10]; · iexact W10
        iexact W11
      · isplitl [W20]; · iexact W20
        isplitl [W21]; · iexact W21
        isplitl [W30]; · iexact W30
        iexact W31
    isplitl [V0 V1 V2 V3]
    · iapply (wd_shares (c := c) (I := I)).2
      isplitl [V0]; · iexact V0
      isplitl [V1]; · iexact V1
      isplitl [V2]; · iexact V2
      iexact V3
    isplitl [S0]; · iexact S0
    isplitl [S1]; · iexact S1
    isplitl [S2]; · iexact S2
    isplitl [S3]; · iexact S3
    isplitl [T0]; · iexact T0
    isplitl [T1]; · iexact T1
    isplitl [T2]; · iexact T2
    iexact T3
  · iintro ⟨⟨P0, P1, P2, P3, P4, P5, P6, P7, P8, P9, P10, P11, P12⟩, ⟨%f, G⟩, ⟨%g, D⟩, W, V, ⟨S0, S1, S2, S3, T0, T1, T2, T3⟩⟩
    ihave G := (gbuf_split (c := c) f) $$ G
    icases G with ⟨G00, G01, G10, G11, G20, G21, G30, G31⟩
    ihave D := (dbuf_split (c := c) g) $$ D
    icases D with ⟨D0, D1, D2, D3⟩
    ihave W := (wgu_shares (c := c) (I := I)).1 $$ W
    icases W with ⟨⟨W00, W01, W10, W11⟩, ⟨W20, W21, W30, W31⟩⟩
    ihave V := (wd_shares (c := c) (I := I)).1 $$ V
    icases V with ⟨V0, V1, V2, V3⟩
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [S0 G00 G01 W00 W01]
    · isplitl [S0]; · iexact S0
      isplitl [G00]; · iexact G00
      isplitl [G01]; · iexact G01
      isplitl [W00]; · iexact W00
      iexact W01
    isplitl [S1 G10 G11 W10 W11]
    · isplitl [S1]; · iexact S1
      isplitl [G10]; · iexact G10
      isplitl [G11]; · iexact G11
      isplitl [W10]; · iexact W10
      iexact W11
    isplitl [S2 G20 G21 W20 W21]
    · isplitl [S2]; · iexact S2
      isplitl [G20]; · iexact G20
      isplitl [G21]; · iexact G21
      isplitl [W20]; · iexact W20
      iexact W21
    isplitl [S3 G30 G31 W30 W31]
    · isplitl [S3]; · iexact S3
      isplitl [G30]; · iexact G30
      isplitl [G31]; · iexact G31
      isplitl [W30]; · iexact W30
      iexact W31
    isplitl [T0 D0 V0]
    · isplitl [T0]; · iexact T0
      isplitl [D0]; · iexact D0
      iexact V0
    isplitl [T1 D1 V1]
    · isplitl [T1]; · iexact T1
      isplitl [D1]; · iexact D1
      iexact V1
    isplitl [T2 D2 V2]
    · isplitl [T2]; · iexact T2
      isplitl [D2]; · iexact D2
      iexact V2
    isplitl [T3]; · iexact T3
    isplitl [D3]; · iexact D3
    iexact V3

end Cert.KernelIdeal.Moe
-- ==== Proof.KI.Frame.lean ====
/-
  The kernel runs and leaves its arguments unchanged; its result named.
-/
module

public import proofs.«01_k».proof.Proof.KI.Split
public import Idealize.ShloMosaic.Lib.Pipeline.FrameBody
public import proofs.«01_k».proof.Proof.Gen.KernelIdeal.Frame

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## What the kernel reads -/

def vIW (c : Dev nD) : S48.Idx → Elt F .i32 := V m c main_v1
def vX (c : Dev nD) : S24x5120.Idx → Elt F .bf16 := V m c main_v2
def vIds (c : Dev nD) : S24x2.Idx → Elt F .i32 := V m c main_v0
def vWts (c : Dev nD) : S24x2.Idx → Elt F .f32 := V m c main_v3
def vSgu (c : Dev nD) : S8x40x16.Idx → Elt F .f32 := V m c main_arg4
def vSd (c : Dev nD) : S8x8x40.Idx → Elt F .f32 := V m c main_arg6
def vWgu (c : Dev nD) : S8x5120x2048.Idx → Elt F .fp8e4m3 := V m c main_arg3
def vWd (c : Dev nD) : S8x1024x5120.Idx → Elt F .fp8e4m3 := V m c main_arg5

/-- The arrays the kernel reads, by coordinates. -/
def inp (c : Dev nD) : Inp F where
  iw := ext1 (vIW m c)
  x := ext2 (vX m c)
  ids := ext2 (vIds m c)
  wts := ext2 (vWts m c)
  sgu := ext3 (vSgu m c)
  sd := ext3 (vSd m c)
  wgu := ext3 (vWgu m c)
  wd := ext3 (vWd m c)

theorem emb0 (t : Fin cfg0.N) (j : S48.Idx) : ((cfg0.win 0).blk t).view.emb j = j := by
  funext a; apply Fin.ext
  match a with
  | ⟨0, _⟩ => show 0 * 48 + 1 * (j 0).val = (j 0).val; omega
theorem iblk0_eq (c : Dev nD) (t : Fin cfg0.N) : iblk m c 0 t = vIW m c := by
  funext j; show V m c main_v1 (((cfg0.win 0).blk t).view.emb j) = V m c main_v1 j; rw [emb0]
theorem emb1 (t : Fin cfg0.N) (j : S24x5120.Idx) : ((cfg0.win 1).blk t).view.emb j = j := by
  funext a; apply Fin.ext
  match a with
  | ⟨0, _⟩ => show 0 * 24 + 1 * (j 0).val = (j 0).val; omega
  | ⟨1, _⟩ => show 0 * 5120 + 1 * (j 1).val = (j 1).val; omega
theorem iblk1_eq (c : Dev nD) (t : Fin cfg0.N) : iblk m c 1 t = vX m c := by
  funext j; show V m c main_v2 (((cfg0.win 1).blk t).view.emb j) = V m c main_v2 j; rw [emb1]
theorem emb2 (t : Fin cfg0.N) (j : S24x2.Idx) : ((cfg0.win 2).blk t).view.emb j = j := by
  funext a; apply Fin.ext
  match a with
  | ⟨0, _⟩ => show 0 * 24 + 1 * (j 0).val = (j 0).val; omega
  | ⟨1, _⟩ => show 0 * 2 + 1 * (j 1).val = (j 1).val; omega
theorem iblk2_eq (c : Dev nD) (t : Fin cfg0.N) : iblk m c 2 t = vIds m c := by
  funext j; show V m c main_v0 (((cfg0.win 2).blk t).view.emb j) = V m c main_v0 j; rw [emb2]
theorem emb3 (t : Fin cfg0.N) (j : S24x2.Idx) : ((cfg0.win 3).blk t).view.emb j = j := by
  funext a; apply Fin.ext
  match a with
  | ⟨0, _⟩ => show 0 * 24 + 1 * (j 0).val = (j 0).val; omega
  | ⟨1, _⟩ => show 0 * 2 + 1 * (j 1).val = (j 1).val; omega
theorem iblk3_eq (c : Dev nD) (t : Fin cfg0.N) : iblk m c 3 t = vWts m c := by
  funext j; show V m c main_v3 (((cfg0.win 3).blk t).view.emb j) = V m c main_v3 j; rw [emb3]
theorem emb4 (t : Fin cfg0.N) (j : S8x40x16.Idx) : ((cfg0.win 4).blk t).view.emb j = j := by
  funext a; apply Fin.ext
  match a with
  | ⟨0, _⟩ => show 0 * 8 + 1 * (j 0).val = (j 0).val; omega
  | ⟨1, _⟩ => show 0 * 40 + 1 * (j 1).val = (j 1).val; omega
  | ⟨2, _⟩ => show 0 * 16 + 1 * (j 2).val = (j 2).val; omega
theorem iblk4_eq (c : Dev nD) (t : Fin cfg0.N) : iblk m c 4 t = vSgu m c := by
  funext j; show V m c main_arg4 (((cfg0.win 4).blk t).view.emb j) = V m c main_arg4 j; rw [emb4]
theorem emb5 (t : Fin cfg0.N) (j : S8x8x40.Idx) : ((cfg0.win 5).blk t).view.emb j = j := by
  funext a; apply Fin.ext
  match a with
  | ⟨0, _⟩ => show 0 * 8 + 1 * (j 0).val = (j 0).val; omega
  | ⟨1, _⟩ => show 0 * 8 + 1 * (j 1).val = (j 1).val; omega
  | ⟨2, _⟩ => show 0 * 40 + 1 * (j 2).val = (j 2).val; omega
theorem iblk5_eq (c : Dev nD) (t : Fin cfg0.N) : iblk m c 5 t = vSd m c := by
  funext j; show V m c main_arg6 (((cfg0.win 5).blk t).view.emb j) = V m c main_arg6 j; rw [emb5]
theorem emb6 (t : Fin cfg0.N) (j : S24x5120.Idx) : ((cfg0.win 6).blk t).view.emb j = j := by
  funext a; apply Fin.ext
  match a with
  | ⟨0, _⟩ => show 0 * 24 + 1 * (j 0).val = (j 0).val; omega
  | ⟨1, _⟩ => show 0 * 5120 + 1 * (j 1).val = (j 1).val; omega

/-! ## The program up to the kernel -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem frame_of (dats : (p : Fin 1) → (c : Dev nD) → Dat τ (Elt F) Unit ℕ (Pipeline.UD sig nD τ) ℕ (cfgs p) c)
    (hA : ∀ c w, (dats 0 c).A w = V m c (Pipeline.arrRef spec0 w)) {r : PUnit × MemSt nD τ sig (Elt F)}
    (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c)))⟩

/-! ## The kernel's own counters and operands -/

/-- The kernel's eight transfer counters. -/
abbrev osem0 : Fin 8 → SemLoc sig := fun j => (![SemLoc.dma 7, SemLoc.dma 8, SemLoc.dma 9, SemLoc.dma 10, SemLoc.dma 11, SemLoc.dma 12, SemLoc.dma 13, SemLoc.dma 14] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = sems c := by
  rw [Pipeline.ownSems0_eq_of_list c osem0 [0, 1, 2, 3, 4, 5, 6, 7] (by decide) (by decide)]; rfl
/-- The weights, which the kernel's own transfers read. -/
def H0 : Finset (Ref sig .tc) := {main_arg3, main_arg5}
theorem H0_sub : H0 ⊆ Pipeline.restRefs sig spec0 := by decide

theorem weights_eq (c : Dev nD) :
    (bigSep H0 (fun b => ((c : Thread nD τ).loc b) ↦{fullShare} V m c b) : sProp 𝕄) = iprop(pt c A6 (wguC (inp m c)) ∗ pt c A7 (wdC (inp m c))) := by
  have e1 : wguC (inp m c) = vWgu m c := ext3_eq _
  have e2 : wdC (inp m c) = vWd m c := ext3_eq _
  rw [BI.bigSep_eq_bigSepL_of_eq [main_arg3, main_arg5] (by decide) (by decide), e1, e2]; rfl

theorem Phi_eq (c : Dev nD) :
    (Pipeline.ΦD osem0 spec0 H0 (V m) c : sProp 𝕄)
      = iprop(iprop((∃ f : S4x2x5120x256.Idx → Elt F .fp8e4m3, pt c A9 f) ∗ (∃ f : S4x256x5120.Idx → Elt F .fp8e4m3, pt c A10 f)
            ∗ (∃ f : S16x40x128.Idx → Elt F .f32, pt c A11 f) ∗ (∃ f : S8x5120.Idx → Elt F .f32, pt c A12 f)
            ∗ (∃ f : S24x5120.Idx → Elt F .f32, pt c A13 f) ∗ (∃ f : S24x5120.Idx → Elt F .f32, pt c A14 f)
            ∗ (∃ f : S9.Idx → Elt F .i32, pt c A15 f))
          ∗ (∃ r, prngReg c r) ∗ sems c ∗ iprop(pt c A6 (wguC (inp m c)) ∗ pt c A7 (wdC (inp m c)))) := by
  rw [Pipeline.ΦD_eq, scopedRest0_eq, ownSems00_eq, weights_eq]; rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun i : S24x5120.Idx => outF (inp m c) (i 0) (i 1)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = fun i : S24x5120.Idx => outF (inp m c) (i 0) (i 1) := by dsimp only [dats]
theorem before0_0 (c : Dev nD) (t : Fin cfg0.N) (d) : (dats m 0 c).before 0 t d = vIW m c :=
  (((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)).trans (iblk0_eq m c t)
theorem before0_1 (c : Dev nD) (t : Fin cfg0.N) (d) : (dats m 0 c).before 1 t d = vX m c :=
  (((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)).trans (iblk1_eq m c t)
theorem before0_2 (c : Dev nD) (t : Fin cfg0.N) (d) : (dats m 0 c).before 2 t d = vIds m c :=
  (((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)).trans (iblk2_eq m c t)
theorem before0_3 (c : Dev nD) (t : Fin cfg0.N) (d) : (dats m 0 c).before 3 t d = vWts m c :=
  (((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)).trans (iblk3_eq m c t)
theorem before0_4 (c : Dev nD) (t : Fin cfg0.N) (d) : (dats m 0 c).before 4 t d = vSgu m c :=
  (((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)).trans (iblk4_eq m c t)
theorem before0_5 (c : Dev nD) (t : Fin cfg0.N) (d) : (dats m 0 c).before 5 t d = vSd m c :=
  (((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)).trans (iblk5_eq m c t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem comp_iw (c : Dev nD) (σ : St F) : comp c (inp m c) σ .iw = pt c A0 (vIW m c) := congrArg (fun f => (pt c A0 f : sProp 𝕄)) (ext1_eq (vIW m c))
theorem comp_x (c : Dev nD) (σ : St F) : comp c (inp m c) σ .x = pt c A1 (vX m c) := congrArg (fun f => (pt c A1 f : sProp 𝕄)) (ext2_eq (vX m c))
theorem comp_ids (c : Dev nD) (σ : St F) : comp c (inp m c) σ .ids = pt c A2 (vIds m c) := congrArg (fun f => (pt c A2 f : sProp 𝕄)) (ext2_eq (vIds m c))
theorem comp_wts (c : Dev nD) (σ : St F) : comp c (inp m c) σ .wts = pt c A3 (vWts m c) := congrArg (fun f => (pt c A3 f : sProp 𝕄)) (ext2_eq (vWts m c))
theorem comp_sgu (c : Dev nD) (σ : St F) : comp c (inp m c) σ .sgu = pt c A4 (vSgu m c) := congrArg (fun f => (pt c A4 f : sProp 𝕄)) (ext3_eq (vSgu m c))
theorem comp_sd (c : Dev nD) (σ : St F) : comp c (inp m c) σ .sd = pt c A5 (vSd m c) := congrArg (fun f => (pt c A5 f : sProp 𝕄)) (ext3_eq (vSd m c))

/-- A state with nothing in flight and the buffers at the given contents. -/
def st0 (o : S24x5120.Idx → Elt F .bf16) (f1 : S16x40x128.Idx → Elt F .f32) (f2 : S8x5120.Idx → Elt F .f32) (f3 f4 : S24x5120.Idx → Elt F .f32)
    (f5 : S9.Idx → Elt F .i32) : St F where
  out := ext2 o
  sg := ext3 f1
  sx := ext2 f2
  acc := ext2 f3
  y := ext2 f4
  ord := ext1 f5
  g _ := .idle
  d _ := .idle

theorem own0 (c : Dev nD) (t : Fin cfg0.N) (f : S48.Idx → Elt F .i32) : (owns (c : Thread nD τ) (st0_0 t) fullShare f : sProp 𝕄) = pt c A0 f := owns_whole _ _ _ _
theorem own1 (c : Dev nD) (t : Fin cfg0.N) (f : S24x5120.Idx → Elt F .bf16) : (owns (c : Thread nD τ) (st0_1 t) fullShare f : sProp 𝕄) = pt c A1 f := owns_whole _ _ _ _
theorem own2 (c : Dev nD) (t : Fin cfg0.N) (f : S24x2.Idx → Elt F .i32) : (owns (c : Thread nD τ) (st0_2 t) fullShare f : sProp 𝕄) = pt c A2 f := owns_whole _ _ _ _
theorem own3 (c : Dev nD) (t : Fin cfg0.N) (f : S24x2.Idx → Elt F .f32) : (owns (c : Thread nD τ) (st0_3 t) fullShare f : sProp 𝕄) = pt c A3 f := owns_whole _ _ _ _
theorem own4 (c : Dev nD) (t : Fin cfg0.N) (f : S8x40x16.Idx → Elt F .f32) : (owns (c : Thread nD τ) (st0_4 t) fullShare f : sProp 𝕄) = pt c A4 f := owns_whole _ _ _ _
theorem own5 (c : Dev nD) (t : Fin cfg0.N) (f : S8x8x40.Idx → Elt F .f32) : (owns (c : Thread nD τ) (st0_5 t) fullShare f : sProp 𝕄) = pt c A5 f := owns_whole _ _ _ _
theorem own6 (c : Dev nD) (t : Fin cfg0.N) (f : S24x5120.Idx → Elt F .bf16) : (owns (c : Thread nD τ) (st0_6 t) fullShare f : sProp 𝕄) = pt c A8 f := owns_whole _ _ _ _

/-- What the pipeline hands the kernel, as the kernel's state with nothing in flight. -/
theorem enter (c : Dev nD) (o f1 f2 f3 f4 f5) :
    iprop((pt c A0 (vIW m c) ∗ pt c A1 (vX m c) ∗ pt c A2 (vIds m c) ∗ pt c A3 (vWts m c) ∗ pt c A4 (vSgu m c) ∗ pt c A5 (vSd m c)
        ∗ pt c A8 o ∗ pt c A11 f1 ∗ pt c A12 f2 ∗ pt c A13 f3 ∗ pt c A14 f4 ∗ pt c A15 f5 ∗ (∃ W, owes (c : Thread nD τ) 0 W))
      ∗ (∃ f : S4x2x5120x256.Idx → Elt F .fp8e4m3, pt c A9 f) ∗ (∃ f : S4x256x5120.Idx → Elt F .fp8e4m3, pt c A10 f)
      ∗ pt c A6 (wguC (inp m c)) ∗ pt c A7 (wdC (inp m c)) ∗ sems c)
    ⊢ (Res c (inp m c) (st0 o f1 f2 f3 f4 f5) : sProp 𝕄) := by
  refine .trans ?_ (Res_idle (fun _ => rfl) (fun _ => rfl)).2
  have e (T : Piece) (P : sProp 𝕄) (h : comp c (inp m c) (st0 o f1 f2 f3 f4 f5) T = P) := h
  unfold Idle
  rw [comp_iw, comp_x, comp_ids, comp_wts, comp_sgu, comp_sd,
    e .out _ (congrArg (fun f => (pt c A8 f : sProp 𝕄)) (ext2_eq o)), e .sg _ (congrArg (fun f => (pt c A11 f : sProp 𝕄)) (ext3_eq f1)),
    e .sx _ (congrArg (fun f => (pt c A12 f : sProp 𝕄)) (ext2_eq f2)), e .acc _ (congrArg (fun f => (pt c A13 f : sProp 𝕄)) (ext2_eq f3)),
    e .y _ (congrArg (fun f => (pt c A14 f : sProp 𝕄)) (ext2_eq f4)), e .ord _ (congrArg (fun f => (pt c A15 f : sProp 𝕄)) (ext1_eq f5))]
  exact .rfl

theorem leave (c : Dev nD) {σ : St F} (hg : ∀ s, σ.g s = .idle) (hd : ∀ s, σ.d s = .idle) (ho : σ.out = outF (inp m c)) :
    (Res c (inp m c) σ : sProp 𝕄) ⊢
    iprop((pt c A0 (vIW m c) ∗ pt c A1 (vX m c) ∗ pt c A2 (vIds m c) ∗ pt c A3 (vWts m c) ∗ pt c A4 (vSgu m c) ∗ pt c A5 (vSd m c)
        ∗ pt c A8 (fun i => outF (inp m c) (i 0) (i 1)) ∗ (∃ f : S16x40x128.Idx → Elt F .f32, pt c A11 f) ∗ (∃ f : S8x5120.Idx → Elt F .f32, pt c A12 f)
            ∗ (∃ f : S24x5120.Idx → Elt F .f32, pt c A13 f) ∗ (∃ f : S24x5120.Idx → Elt F .f32, pt c A14 f)
            ∗ (∃ f : S9.Idx → Elt F .i32, pt c A15 f) ∗ (∃ W, owes (c : Thread nD τ) 0 W))
      ∗ (∃ f : S4x2x5120x256.Idx → Elt F .fp8e4m3, pt c A9 f) ∗ (∃ f : S4x256x5120.Idx → Elt F .fp8e4m3, pt c A10 f)
      ∗ pt c A6 (wguC (inp m c)) ∗ pt c A7 (wdC (inp m c)) ∗ sems c) := by
  refine (Res_idle hg hd).1.trans ?_
  unfold Idle
  rw [comp_iw, comp_x, comp_ids, comp_wts, comp_sgu, comp_sd, ← ho]
  simp only [comp]
  iintro ⟨⟨P0, P1, P2, P3, P4, P5, P6, P7, P8, P9, P10, P11, P12⟩, G, D, W, V, S⟩
  isplitr [G D W V S]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexists _; iexact P7
    isplitl [P8]; · iexists _; iexact P8
    isplitl [P9]; · iexists _; iexact P9
    isplitl [P10]; · iexists _; iexact P10
    isplitl [P11]; · iexists _; iexact P11
    iexact P12
  isplitl [G]; · iexact G
  isplitl [D]; · iexact D
  isplitl [W]; · iexact W
  isplitl [V]; · iexact V
  iexact S

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [show (dats m 0 c).Φ (t0_0 : Fin cfg0.N).succ = Pipeline.ΦD osem0 spec0 H0 (V m) c from rfl,
    show (dats m 0 c).Φ (t0_0 : Fin cfg0.N).castSucc = Pipeline.ΦD osem0 spec0 H0 (V m) c from rfl, Phi_eq,
    after0_0, after0_1, after0_2, after0_3, after0_4, after0_5, after0_6, iblk0_eq, iblk1_eq, iblk2_eq, iblk3_eq, iblk4_eq, iblk5_eq]
  simp only [own0, own1, own2, own3, own4, own5, own6, before0_0, before0_1, before0_2, before0_3, before0_4, before0_5]
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨S0, S1, ⟨%f1, S2⟩, ⟨%f2, S3⟩, ⟨%f3, S4⟩, ⟨%f4, S5⟩, ⟨%f5, S6⟩⟩, Hg, Hq, ⟨Hw, Hv⟩⟩, ⟨%W, -, HW⟩, ⟨%d0, P0⟩, ⟨%d1, P1⟩, ⟨%d2, P2⟩, ⟨%d3, P3⟩, ⟨%d4, P4⟩, ⟨%d5, P5⟩, ⟨%d6, P6⟩⟩
  iapply (evBody (c := c) (I := inp m c) (σ := st0 ((dats m 0 c).before 6 t0_0 d6) f1 f2 f3 f4 f5) (fun _ => rfl) (fun _ => rfl) _ iprop(∃ r, prngReg c r) ?_)
  swap
  · isplitr [Hg]; swap; · iexact Hg
    iapply (enter m c ((dats m 0 c).before 6 t0_0 d6) f1 f2 f3 f4 f5)
    isplitl [P0 P1 P2 P3 P4 P5 P6 S2 S3 S4 S5 S6 HW]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [S2]; · iexact S2
      isplitl [S3]; · iexact S3
      isplitl [S4]; · iexact S4
      isplitl [S5]; · iexact S5
      isplitl [S6]; · iexact S6
      iexists W; iexact HW
    isplitl [S0]; · iexact S0
    isplitl [S1]; · iexact S1
    isplitl [Hw]; · iexact Hw
    isplitl [Hv]; · iexact Hv
    iexact Hq
  · intro a σ' h
    iintro ⟨HR, Hg⟩
    ihave HR := (leave m c h.1 h.2.1 h.2.2) $$ HR
    icases HR with ⟨⟨P0, P1, P2, P3, P4, P5, P6, S2, S3, S4, S5, S6, HW⟩, S0, S1, Hw, Hv, Hq⟩
    isplitl [S0 S1 S2 S3 S4 S5 S6 Hg Hq Hw Hv]
    · isplitl [S0 S1 S2 S3 S4 S5 S6]
      · isplitl [S0]; · iexact S0
        isplitl [S1]; · iexact S1
        isplitl [S2]; · iexact S2
        isplitl [S3]; · iexact S3
        isplitl [S4]; · iexact S4
        isplitl [S5]; · iexact S5
        iexact S6
      isplitl [Hg]; · iexact Hg
      isplitl [Hq]; · iexact Hq
      isplitl [Hw]; · iexact Hw
      iexact Hv
    isplitl [HW]
    · icases HW with ⟨%W', HW⟩
      iexists W'; isplitr; · ipureintro; exact fun _ _ => Or.inl trivial
      iexact HW
    isplitl [P0]; · iexact P0
    isplitl [P1]; · iexact P1
    isplitl [P2]; · iexact P2
    isplitl [P3]; · iexact P3
    isplitl [P4]; · iexact P4
    isplitl [P5]; · iexact P5
    iexact P6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The kernel runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨frame_of m (dats m) (A_eq m) h.1, h.2⟩) (run_main m ρ)

/-- What the result holds. -/
def outA (c : Dev nD) : S24x5120.Idx → Elt F .bf16 := fun i => outF (inp m c) (i 0) (i 1)

theorem flushed6_eq (c : Dev nD) (t : Fin cfg0.N) :
    (dats m 0 c).flushed 6 t = ((cfg0.win 6).blk t).view.read (Elt F) (outA m c) := by
  show (cfg0.win 6).cut (grid0.coords t) ((dats m 0 c).after 6 t) = _
  rw [after0_6]
  funext j
  show outA m c j = outA m c (((cfg0.win 6).blk t).view.emb j)
  rw [emb6]

theorem covered6 (i : S24x5120.Idx) :
    ∃ t : Fin cfg0.N, (cfg0.win 6).flush t = true ∧ i ∈ ((cfg0.win 6).blk t).view.set :=
  ⟨t0_0, flush0_6 _, by
    have h := ((cfg0.win 6).blk t0_0).view.emb_mem_set i; rwa [emb6] at h⟩

/-- The result after the run. -/
theorem final6 (c : Dev nD) : (dats m 0 c).arrAt 6 cfg0.N = outA m c :=
  (dats m 0 c).arrAt_eq_of_cover 6 (outA m c) (fun t _ => flushed6_eq m c t) covered6

/-- The run with the result named. -/
theorem run : θ_run defs (onTc (τ := τ) (main (F := F))) ⟨m, fun _ => 0, ρ⟩ (fun r => ∀ c : Dev nD,
      r.2.mem ((c.tc : Thread nD τ).loc main_v4) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 6).trans (final6 m c), frame_of m (dats m) (A_eq m) h.1 c⟩) (run_main m ρ)

end Cert.KernelIdeal.Moe
-- ==== Proof.V.Tile.lean ====
/-
  What one tile of the products holds, element by element, over the extended reals.
-/
module

public import proofs.«01_k».proof.Proof.KI.Fetch
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.Pipeline.Value

@[expose] public section

noncomputable section

namespace Cert.KernelIdeal.Moe

open Cert.KernelIdeal Cert.KernelIdeal.Gen
open Idealize.ShloMosaic Idealize.ShloMosaic.TcCoe
open Idealize.SL.Sem
open Idealize.ShloMosaic.ValueIdx

/-- A row of two pieces, at a column. -/
theorem cat_row (x y : FVec Ideal S1x128 .f32) (q : Fin 256) :
    concatenate S1x256 1 [⟨S1x128, x⟩, ⟨S1x128, y⟩] concatenates_S1x128_S1x128_S1x256_d1 (ix2 (0 : Fin 1) q) =
      if h : q.val < 128 then x (ix2 (0 : Fin 1) ⟨q.val, h⟩) else y (ix2 (0 : Fin 1) ⟨q.val - 128, by omega⟩) := by
  split
  · next h =>
    exact concatenate_pair_apply_left (t := S1x256) (s₁ := S1x128) (s₂ := S1x128) 1 x y _ _ rfl _ (fun b => by
      match b with | ⟨0, _⟩ => rfl | ⟨1, _⟩ => rfl)
  · next h =>
    exact concatenate_pair_apply_right (t := S1x256) (s₁ := S1x128) (s₂ := S1x128) 1 x y _ _ rfl rfl _ (fun b hb => by
      match b with | ⟨0, _⟩ => rfl | ⟨1, _⟩ => exact absurd rfl hb) (by show q.val - 128 + 128 = q.val; omega)

/-- Two tiles of rows one above the other, at an element. -/
theorem cat_col (x y : FVec Ideal S128x256 .bf16) (t q : Fin 256) :
    concatenate S256x256 0 [⟨S128x256, x⟩, ⟨S128x256, y⟩] concatenates_S128x256_S128x256_S256x256_d0 (ix2 t q) =
      if h : t.val < 128 then x (ix2 ⟨t.val, h⟩ q) else y (ix2 ⟨t.val - 128, by omega⟩ q) := by
  split
  · next h =>
    exact concatenate_pair_apply_left (t := S256x256) (s₁ := S128x256) (s₂ := S128x256) 0 x y _ _ rfl _ (fun b => by
      match b with | ⟨0, _⟩ => rfl | ⟨1, _⟩ => rfl)
  · next h =>
    exact concatenate_pair_apply_right (t := S256x256) (s₁ := S128x256) (s₂ := S128x256) 0 x y _ _ rfl rfl _ (fun b hb => by
      match b with | ⟨1, _⟩ => rfl | ⟨0, _⟩ => exact absurd rfl hb) (by show t.val - 128 + 128 = t.val; omega)

/-- A product into zeros, at an element. -/
theorem dot_apply (x : FVec Ideal S24x256 .bf16) (w : FVec Ideal S256x256 .bf16) (a : Fin 24) (q : Fin 256) :
    matmul dot_S24x256_S256x256_S24x256_1_0_0_1_n_n none x w (constant S24x256 .f32 0x00000000#32) (ix2 a q)
      = ∑ t : Fin 256, x (ix2 a t) * w (ix2 t q) := by
  refine (Ideal.matmul_plain_apply (M := 24) (K := 256) (N := 256) none x w _ a q).trans ?_
  show Ideal.ofBits .f32 0x00000000#32 + _ = _
  rw [Ideal.ofBits_zero_f32, zero_add]

/-- Scaled codes: a tile of codes times a row of scales. -/
theorem sc_apply (w : FVec Ideal S128x256 .fp8e4m3) (s : FVec Ideal S1x256 .f32) (r : Fin 128) (q : Fin 256) :
    mulf (extf .bf16 w bitsLt_fp8e4m3_bf16) (truncf .bf16 (broadcastTo S128x256 s broadcasts_S1x256_S128x256) bitsLt_bf16_f32) (ix2 r q)
      = (w (ix2 r q) * s (ix2 (0 : Fin 1) q) : EReal) := by
  show (w (ix2 r q) : EReal) * broadcastTo S128x256 s broadcasts_S1x256_S128x256 (ix2 r q) = _
  rw [broadcastTo_1b_ab_apply]

theorem drop3 (v : Vec Ideal S1x1x128 .f32) (q : Fin 128) :
    shapeCast S1x128 v shapeCasts_S1x1x128_S1x128 (ix2 (0 : Fin 1) q) = v (ix3 (0 : Fin 1) (0 : Fin 1) q) :=
  shapeCast_1ab_ab_apply v _ _ _

theorem drop4 (v : Vec Ideal S1x1x128x256 .fp8e4m3) (r : Fin 128) (q : Fin 256) :
    shapeCast S128x256 v shapeCasts_S1x1x128x256_S128x256 (ix2 r q) = v (ix4 (0 : Fin 1) (0 : Fin 1) r q) :=
  shapeCast_apply v _ _ _ (by
    rw [Shape.rowMajor_val_four, Shape.rowMajor_val_two]
    show ((0 * 1 + 0) * 128 + r.val) * 256 + q.val = r.val * 256 + q.val
    omega)

theorem drop_d (v : Vec Ideal S1x128x256 .fp8e4m3) (r : Fin 128) (q : Fin 256) :
    shapeCast S128x256 v shapeCasts_S1x128x256_S128x256 (ix2 r q) = v (ix3 (0 : Fin 1) r q) :=
  shapeCast_1ab_ab_apply v _ _ _

/-- The first double tile of gate or up, at an element. -/
theorem pay61_apply (s0 s1 s2 s3 : Vec Ideal S1x1x128 .f32) (w0 w1 : Vec Ideal S1x1x128x256 .fp8e4m3) (x : Vec Ideal S24x256 .bf16)
    (a : Fin 24) (q : Fin 256) :
    k0_pay61 s0 s1 w0 s2 s3 w1 x (ix2 a q) = ∑ t : Fin 256, (x (ix2 a t) : EReal) *
      (if h : t.val < 128 then (w0 (ix4 (0 : Fin 1) (0 : Fin 1) ⟨t.val, h⟩ q) : EReal) *
          (if h : q.val < 128 then s0 (ix3 (0 : Fin 1) (0 : Fin 1) ⟨q.val, h⟩) else s1 (ix3 (0 : Fin 1) (0 : Fin 1) ⟨q.val - 128, by omega⟩))
        else (w1 (ix4 (0 : Fin 1) (0 : Fin 1) ⟨t.val - 128, by omega⟩ q) : EReal) *
          (if h : q.val < 128 then s2 (ix3 (0 : Fin 1) (0 : Fin 1) ⟨q.val, h⟩) else s3 (ix3 (0 : Fin 1) (0 : Fin 1) ⟨q.val - 128, by omega⟩))) := by
  unfold k0_pay61
  refine (dot_apply _ _ a q).trans (Finset.sum_congr rfl fun t _ => ?_)
  rw [shapeCast_self, cat_col]
  refine congrArg ((x (ix2 a t) : EReal) * ·) ?_
  split
  · rw [sc_apply, shapeCast_self, cat_row, drop4]
    split <;> rw [drop3]
  · rw [sc_apply, shapeCast_self, cat_row, drop4]
    split <;> rw [drop3]

theorem pay62_eq (p : FVec Ideal S24x256 .f32) (s0 s1 s2 s3 : Vec Ideal S1x1x128 .f32) (w0 w1 : Vec Ideal S1x1x128x256 .fp8e4m3) (x : Vec Ideal S24x256 .bf16)
    (i : S24x256.Idx) : k0_pay62 p s0 s1 w0 s2 s3 w1 x i = (p i + k0_pay61 s0 s1 w0 s2 s3 w1 x i : EReal) := rfl

/-- One column tile of the down product added, at an element. -/
theorem pay103_apply (h : FVec Ideal S24x256 .bf16) (w0 w1 : Vec Ideal S1x128x256 .fp8e4m3) (s0 s1 : Vec Ideal S1x256 .f32) (y : Vec Ideal S24x256 .f32)
    (a : Fin 24) (q : Fin 256) :
    k0_pay103 h w0 s0 w1 s1 y (ix2 a q) = (y (ix2 a q) : EReal) + ∑ t : Fin 256, (h (ix2 a t) : EReal) *
      (if h : t.val < 128 then (w0 (ix3 (0 : Fin 1) ⟨t.val, h⟩ q) : EReal) * s0 (ix2 (0 : Fin 1) q)
        else (w1 (ix3 (0 : Fin 1) ⟨t.val - 128, by omega⟩ q) : EReal) * s1 (ix2 (0 : Fin 1) q)) := by
  unfold k0_pay103
  rw [shapeCast_self]
  refine congrArg ((y (ix2 a q) : EReal) + ·) ?_
  refine (dot_apply _ _ a q).trans (Finset.sum_congr rfl fun t _ => ?_)
  rw [cat_col]
  refine congrArg ((h (ix2 a t) : EReal) * ·) ?_
  split
  · rw [sc_apply, shapeCast_self, drop_d]
  · rw [sc_apply, shapeCast_self, drop_d]

/-- The widened gate and up scales. -/
theorem sgNew_eq (I : Inp Ideal) (e a r l : ℕ) (hr : r < 40) (hl : l < 128) : sgNew I e a r l = I.sgu e r a := by
  unfold sgNew; rw [dif_pos ⟨hr, hl⟩]
  unfold sgCol k0_pay2
  rw [shapeCast_ab_1ab_apply]
  rw [extf_apply, truncf_apply]
  rw [broadcastTo_apply _ _ _ (ix2 (⟨r, hr⟩ : Fin 40) (0 : Fin 1)) (fun ax => by match ax with | ⟨0, _⟩ => rfl | ⟨1, _⟩ => rfl), shapeCast_self]
  rw [shapeCast_1ab_ab_apply]
  show I.sgu (e + 0) (0 + r) (a + 0) = _
  rw [Nat.add_zero, Nat.zero_add, Nat.add_zero]

/-- The widened down scales. -/
theorem sxNew_eq (I : Inp Ideal) (e r l : ℕ) (hr : r < 8) : sxNew I e r l = I.sd e r (l / 128) := by
  unfold sxNew; rw [dif_pos hr]
  unfold sxCol k0_pay42
  rw [shapeCast_self]
  rw [extf_apply, truncf_apply]
  rw [broadcastTo_apply _ _ _ (ix2 (⟨r, hr⟩ : Fin 8) (0 : Fin 1)) (fun ax => by match ax with | ⟨0, _⟩ => rfl | ⟨1, _⟩ => rfl), shapeCast_self]
  rw [shapeCast_1ab_ab_apply]
  show I.sd (e + 0) (0 + r) (l / 128 + 0) = _
  rw [Nat.add_zero, Nat.zero_add, Nat.add_zero]

end Cert.KernelIdeal.Moe
-- ==== Proof.V.Kern.lean ====
/-
  The mathematics, by coordinates, and the kernel's result as that mathematics.
-/
module

public import proofs.«01_k».proof.Proof.V.Tile
public import proofs.«01_k».proof.Proof.KI.Body

@[expose] public section

noncomputable section

namespace Cert.KernelIdeal.Moe

open Cert.KernelIdeal Cert.KernelIdeal.Gen
open Idealize.ShloMosaic Idealize.ShloMosaic.TcCoe
open Idealize.SL.Sem
open Idealize.ShloMosaic.ValueIdx

/-- Gate (`f < 1024`) or up (`1024 ≤ f`) of expert `e` for token `a`. -/
def gS (I : Inp Ideal) (e a f : ℕ) : EReal :=
  ∑ d ∈ Finset.range 5120, (I.x a d : EReal) * ((I.wgu e d f : EReal) * (I.sgu e (d / 128) (f / 128) : EReal))
/-- The hidden activation. -/
def hS (I : Inp Ideal) (e a f : ℕ) : EReal := gS I e a f * Ideal.logistic (gS I e a f) * gS I e a (1024 + f)
/-- One summand of the down product. -/
def dS (I : Inp Ideal) (e a b f : ℕ) : EReal := hS I e a f * ((I.wd e f b : EReal) * (I.sd e (f / 128) (b / 128) : EReal))
/-- The down product. -/
def pS (I : Inp Ideal) (e a b : ℕ) : EReal := ∑ f ∈ Finset.range 1024, dS I e a b f
/-- The weight of expert `e` for token `a`: the sum of the weights of the ids that equal it. -/
def cS (I : Inp Ideal) (e a : ℕ) : EReal :=
  (if I.ids a 0 = BitVec.ofNat 32 e then (I.wts a 0 : EReal) else 0) + (if I.ids a 1 = BitVec.ofNat 32 e then (I.wts a 1 : EReal) else 0)
/-- The result. -/
def oS (I : Inp Ideal) (a b : ℕ) : EReal := ∑ e ∈ Finset.range 8, pS I e a b * cS I e a

/-- One summand of gate or up, for a column given by the quarter, the half and the column in the quarter. -/
def gT (I : Inp Ideal) (e f a d : ℕ) : EReal := (I.x a d : EReal) * ((I.wgu e d f : EReal) * (I.sgu e (d / 128) (f / 128) : EReal))

theorem first_eq (I : Inp Ideal) (e j w k : ℕ) (hw : w < 2) (hj : j < 4) (hk : k < 20) (a : Fin 24) (q : Fin 256) :
    k0_pay61 (sgV (sgNew I e) (8 * w + 2 * j) (2 * k)) (sgV (sgNew I e) (8 * w + 2 * j + 1) (2 * k)) (wV I e j w (256 * k))
        (sgV (sgNew I e) (8 * w + 2 * j) (2 * k + 1)) (sgV (sgNew I e) (8 * w + 2 * j + 1) (2 * k + 1)) (wV I e j w (256 * k + 128)) (xV I (256 * k)) (ix2 a q)
      = ∑ t ∈ Finset.range 256, gT I e (w * 1024 + 256 * j + q.val) a.val (256 * k + t) := by
  rw [pay61_apply, Finset.sum_range]
  refine Finset.sum_congr rfl fun t _ => ?_
  have hq := q.2
  have ht := t.2
  have hs : ∀ c r (l : Fin 128), r < 40 → sgV (sgNew I e) c r (ix3 (0 : Fin 1) (0 : Fin 1) l) = I.sgu e r c := fun c r l hr => by
    show sgNew I e (c + 0) (r + 0) (0 + l.val) = _
    rw [Nat.add_zero, Nat.add_zero, Nat.zero_add, sgNew_eq I e c r l.val hr l.2]
  have hcol : (w * 1024 + 256 * j + q.val) / 128 = if q.val < 128 then 8 * w + 2 * j else 8 * w + 2 * j + 1 := by split <;> omega
  unfold gT
  have hx : xV I (256 * k) (ix2 a t) = I.x a.val (256 * k + t.val) := by
    show I.x (0 + a.val) _ = _
    rw [Nat.zero_add]
  rw [hx]
  refine congrArg ((I.x a.val (256 * k + t.val) : EReal) * ·) ?_
  split
  · next h =>
    have hr : (256 * k + t.val) / 128 = 2 * k := by omega
    have hwv : wV I e j w (256 * k) (ix4 (0 : Fin 1) (0 : Fin 1) ⟨t.val, h⟩ q) = I.wgu e (256 * k + t.val) (w * 1024 + 256 * j + q.val) := by
      show I.wgu e _ (w * 1024 + 256 * j + (0 + q.val)) = _
      rw [Nat.zero_add]
    rw [hwv, hr, hcol]
    refine congrArg ((I.wgu e (256 * k + t.val) (w * 1024 + 256 * j + q.val) : EReal) * ·) ?_
    split
    · exact hs _ _ _ (by omega)
    · exact hs _ _ _ (by omega)
  · next h =>
    have hr : (256 * k + t.val) / 128 = 2 * k + 1 := by omega
    have hwv : wV I e j w (256 * k + 128) (ix4 (0 : Fin 1) (0 : Fin 1) ⟨t.val - 128, by omega⟩ q) = I.wgu e (256 * k + t.val) (w * 1024 + 256 * j + q.val) := by
      show I.wgu e (256 * k + 128 + (t.val - 128)) (w * 1024 + 256 * j + (0 + q.val)) = _
      rw [Nat.zero_add, show 256 * k + 128 + (t.val - 128) = 256 * k + t.val by omega]
    rw [hwv, hr, hcol]
    refine congrArg ((I.wgu e (256 * k + t.val) (w * 1024 + 256 * j + q.val) : EReal) * ·) ?_
    split
    · exact hs _ _ _ (by omega)
    · exact hs _ _ _ (by omega)

/-- Gate or up after `k + 1` double tiles: the sum over their inputs. -/
theorem half_eq (I : Inp Ideal) (e j w : ℕ) (hw : w < 2) (hj : j < 4) (a : Fin 24) (q : Fin 256) : ∀ k, k < 20 →
    halfV I e j w (8 * w + 2 * j) k (ix2 a q) = ∑ d ∈ Finset.range (256 * (k + 1)), gT I e (w * 1024 + 256 * j + q.val) a.val d
  | 0, hk => by
    refine (first_eq I e j w 0 hw hj hk a q).trans (Finset.sum_congr rfl fun t _ => ?_)
    rw [Nat.mul_zero, Nat.zero_add]
  | k + 1, hk => by
    rw [show 256 * (k + 1 + 1) = 256 * (k + 1) + 256 by omega, Finset.sum_range_add, ← half_eq I e j w hw hj a q k (by omega),
      ← first_eq I e j w (k + 1) hw hj hk a q]
    exact pay62_eq _ _ _ _ _ _ _ _ _

/-- The hidden activation of a quarter, at an element. -/
theorem hid_eq (I : Inp Ideal) (e j : ℕ) (hj : j < 4) (a : Fin 24) (q : Fin 256) : hidV I e j (ix2 a q) = hS I e a.val (256 * j + q.val) := by
  have h0 := half_eq I e j 0 (by omega) hj a q 19 (by omega)
  have h1 := half_eq I e j 1 (by omega) hj a q 19 (by omega)
  rw [show 8 * 0 + 2 * j = 2 * j by omega, show 0 * 1024 + 256 * j + q.val = 256 * j + q.val by omega] at h0
  rw [show 8 * 1 + 2 * j = 8 + 2 * j by omega, show 1 * 1024 + 256 * j + q.val = 1024 + (256 * j + q.val) by omega] at h1
  show (halfV I e j 0 (2 * j) 19 (ix2 a q) : EReal) * Ideal.logistic (halfV I e j 0 (2 * j) 19 (ix2 a q)) * halfV I e j 1 (8 + 2 * j) 19 (ix2 a q) = _
  rw [h0, h1]; rfl

/-- One quarter's part of the down product. -/
theorem yNew_eq (I : Inp Ideal) (e j : ℕ) (hj : j < 4) (old : ℕ → ℕ → Elt Ideal .f32) (a b : ℕ) (ha : a < 24) :
    yNew I (sxNew I e) e j (hidV I e j) old a b = (old a b : EReal) + ∑ t ∈ Finset.range 256, dS I e a b (256 * j + t) := by
  unfold yNew; rw [dif_pos ha]
  unfold yTile
  rw [pay103_apply]
  have hb : 256 * (b / 256) + b % 256 = b := by omega
  have hm := Nat.mod_lt b (show 0 < 256 by decide)
  have ho : yV old (256 * (b / 256)) (ix2 (⟨a, ha⟩ : Fin 24) (⟨b % 256, hm⟩ : Fin 256)) = old a b := by
    show old (0 + a) (256 * (b / 256) + b % 256) = _
    rw [Nat.zero_add, hb]
  rw [ho, Finset.sum_range]
  refine congrArg ((old a b : EReal) + ·) (Finset.sum_congr rfl fun t _ => ?_)
  have ht := t.2
  rw [hid_eq I e j hj]
  unfold dS
  refine congrArg (hS I e a (256 * j + t.val) * ·) ?_
  have hs : ∀ r, r < 8 → sxV (sxNew I e) r (256 * (b / 256)) (ix2 (0 : Fin 1) (⟨b % 256, hm⟩ : Fin 256)) = I.sd e r (b / 128) := fun r hr => by
    show sxNew I e (r + 0) (256 * (b / 256) + b % 256) = _
    rw [Nat.add_zero, hb, sxNew_eq I e r b hr]
  split
  · next h =>
    have hd : dV I e j 0 (256 * (b / 256)) (ix3 (0 : Fin 1) (⟨t.val, h⟩ : Fin 128) (⟨b % 256, hm⟩ : Fin 256)) = I.wd e (256 * j + t.val) b := by
      show I.wd e (256 * j + (0 + t.val)) (256 * (b / 256) + b % 256) = _
      rw [Nat.zero_add, hb]
    rw [hd, hs (2 * j) (by omega), show (256 * j + t.val) / 128 = 2 * j by omega]
  · next h =>
    have hd : dV I e j 128 (256 * (b / 256)) (ix3 (0 : Fin 1) (⟨t.val - 128, by omega⟩ : Fin 128) (⟨b % 256, hm⟩ : Fin 256)) = I.wd e (256 * j + t.val) b := by
      show I.wd e (256 * j + (128 + (t.val - 128))) (256 * (b / 256) + b % 256) = _
      rw [show 256 * j + (128 + (t.val - 128)) = 256 * j + t.val by omega, hb]
    rw [hd, hs (2 * j + 1) (by omega), show (256 * j + t.val) / 128 = 2 * j + 1 by omega]

theorem zeroF_eq (a b : ℕ) : (zeroF Ideal a b : EReal) = 0 := Ideal.ofBits_zero_f32

/-- An expert's sum after `j + 1` of its quarters. -/
theorem yS_eq (I : Inp Ideal) (u : BitVec 32) (i a b : ℕ) (ha : a < 24) : ∀ j, j < 4 →
    yS I u (4 * i + j + 1) a b = ∑ f ∈ Finset.range (256 * (j + 1)), dS I (ex u i) a b f
  | 0, hj => by
    show yNew I (sxNew I (ex u ((4 * i + 0) / 4))) (ex u ((4 * i + 0) / 4)) ((4 * i + 0) % 4) (hidV I (ex u ((4 * i + 0) / 4)) ((4 * i + 0) % 4)) (if (4 * i + 0) % 4 = 0 then _ else _) a b = _
    rw [show (4 * i + 0) / 4 = i by omega, show (4 * i + 0) % 4 = 0 by omega, if_pos rfl, yNew_eq I _ 0 hj _ a b ha, zeroF_eq, zero_add]
    refine Finset.sum_congr rfl fun t _ => ?_
    rw [Nat.mul_zero, Nat.zero_add]
  | j + 1, hj => by
    show yNew I (sxNew I (ex u ((4 * i + (j + 1)) / 4))) (ex u ((4 * i + (j + 1)) / 4)) ((4 * i + (j + 1)) % 4) (hidV I (ex u ((4 * i + (j + 1)) / 4)) ((4 * i + (j + 1)) % 4)) (if (4 * i + (j + 1)) % 4 = 0 then _ else _) a b = _
    rw [show (4 * i + (j + 1)) / 4 = i by omega, show (4 * i + (j + 1)) % 4 = j + 1 by omega, if_neg (by omega), yNew_eq I _ (j + 1) hj _ a b ha,
      show 256 * (j + 1 + 1) = 256 * (j + 1) + 256 by omega, Finset.sum_range_add, ← yS_eq I u i a b ha j (by omega)]
    rfl

theorem sel_eq (w : BitVec 32) (v : BitVec 32) (x : Ideal .f32) :
    (Scalar.select (IntOp.cmpi .eq w v) x (Scalar.ofBits (F := Ideal) .f32 0x00000000#32) : EReal) = if w = v then x else 0 := by
  have h0 : (Scalar.ofBits (F := Ideal) .f32 0x00000000#32 : EReal) = 0 := Ideal.ofBits_zero_f32
  by_cases h : w = v
  · rw [if_pos h]; subst h; simp [Scalar.select, IntOp.cmpi]
  · rw [if_neg h, ← h0];
    have hb : (w == v) = false := beq_false_of_ne h
    simp [Scalar.select, IntOp.cmpi, hb]

/-- The sum over experts, one expert more. -/
theorem accNew_eq (I : Inp Ideal) (e a b : ℕ) (ha : a < 24) (hb : b < 5120) (acc y : ℕ → ℕ → Elt Ideal .f32) :
    accNew I e acc y a b = (acc a b + y a b * cS I e a : EReal) := by
  unfold accNew; rw [dif_pos ⟨ha, hb⟩]
  unfold k0_pay280
  rw [shapeCast_self, addf_apply, mulf_apply]
  have e1 : allV acc (ix2 (⟨a, ha⟩ : Fin 24) (⟨b, hb⟩ : Fin 5120)) = acc a b := by
    show acc (0 + a) (0 + b) = _; rw [Nat.zero_add, Nat.zero_add]
  have e2 : allV y (ix2 (⟨a, ha⟩ : Fin 24) (⟨b, hb⟩ : Fin 5120)) = y a b := by
    show y (0 + a) (0 + b) = _; rw [Nat.zero_add, Nat.zero_add]
  rw [e1, e2, broadcastTo_apply _ _ _ (ix2 (⟨a, ha⟩ : Fin 24) (0 : Fin 1)) (fun ax => by match ax with | ⟨0, _⟩ => rfl | ⟨1, _⟩ => rfl)]
  refine congrArg (fun z : EReal => (acc a b + y a b * z : EReal)) ?_
  rw [addf_apply, addf_apply, shapeCast_self, shapeCast_self, shapeCast_self, shapeCast_self]
  have hI : ∀ k, colI I k (ix2 (⟨a, ha⟩ : Fin 24) (0 : Fin 1)) = I.ids a k := fun k => by
    show I.ids (0 + a) (k + 0) = _; rw [Nat.zero_add, Nat.add_zero]
  have hW : ∀ k, colW I k (ix2 (⟨a, ha⟩ : Fin 24) (0 : Fin 1)) = I.wts a k := fun k => by
    show I.wts (0 + a) (k + 0) = _; rw [Nat.zero_add, Nat.add_zero]
  have hz : (broadcast S24x1 (Scalar.ofBits (F := Ideal) .f32 0x00000000#32) (ix2 (⟨a, ha⟩ : Fin 24) (0 : Fin 1)) : EReal) = 0 := Ideal.ofBits_zero_f32
  rw [hz, zero_add]
  show (Scalar.select (IntOp.cmpi .eq (colI I 0 (ix2 (⟨a, ha⟩ : Fin 24) (0 : Fin 1))) _) (colW I 0 (ix2 (⟨a, ha⟩ : Fin 24) (0 : Fin 1))) _ : EReal)
    + (Scalar.select (IntOp.cmpi .eq (colI I 1 (ix2 (⟨a, ha⟩ : Fin 24) (0 : Fin 1))) _) (colW I 1 (ix2 (⟨a, ha⟩ : Fin 24) (0 : Fin 1))) _ : EReal) = _
  rw [hI, hI, hW, hW]
  exact congrArg₂ (fun p q : EReal => p + q) (sel_eq _ _ _) (sel_eq _ _ _)

/-- The sum over the experts of the first `i` places of the list. -/
theorem accS_eq (I : Inp Ideal) (u : BitVec 32) (a b : ℕ) (ha : a < 24) (hb : b < 5120) : ∀ i,
    accS I u (4 * i) a b = ∑ k ∈ Finset.range i, pS I (ex u k) a b * cS I (ex u k) a
  | 0 => zeroF_eq a b
  | i + 1 => by
    have h : ∀ j, j < 3 → accS I u (4 * i + j + 1) = accS I u (4 * i + j) := fun j hj => by
      show (if (4 * i + j) % 4 = 3 then _ else _) = _
      rw [if_neg (by omega)]
    have e : accS I u (4 * (i + 1)) = accNew I (ex u ((4 * i + 3) / 4)) (accS I u (4 * i + 3)) (yS I u (4 * i + 3 + 1)) := by
      rw [show 4 * (i + 1) = 4 * i + 3 + 1 by omega]
      show (if (4 * i + 3) % 4 = 3 then _ else _) = _
      rw [if_pos (by omega)]
    rw [e, accNew_eq I _ a b ha hb, show (4 * i + 3) / 4 = i by omega, h 2 (by omega), h 1 (by omega), h 0 (by omega),
      Finset.sum_range_succ, ← accS_eq I u a b ha hb i, yS_eq I u i a b ha 3 (by omega)]
    rfl

/-- A sum over the list of used experts is a sum over all experts, of the used ones. -/
theorem sum_ord (u : BitVec 32) (g : ℕ → EReal) : ∀ k, k ≤ 8 →
    ∑ i ∈ Finset.range (cnt u k), g (ordF u (fun _ => 0#32) k i).toNat = ∑ e ∈ Finset.range k, if bitW u e = 1#32 then g e else 0
  | 0, _ => rfl
  | k + 1, hk => by
    have hs := cnt_succ u k (by omega)
    have hb := bitW_le u k
    rw [Finset.sum_range_succ _ k, ← sum_ord u g k (by omega)]
    have hold : ∀ i ∈ Finset.range (cnt u k), g (ordF u (fun _ => 0#32) (k + 1) i).toNat = g (ordF u (fun _ => 0#32) k i).toNat := fun i hi => by
      have hi := Finset.mem_range.1 hi
      show g (if i = cnt u k then _ else _ : BitVec 32).toNat = _
      rw [if_neg (by omega)]
    by_cases h : bitW u k = 1#32
    · have h1 : (bitW u k).toNat = 1 := by rw [h]; rfl
      rw [if_pos h, hs, h1, Finset.sum_range_succ, Finset.sum_congr rfl hold]
      refine congrArg (_ + ·) ?_
      show g (if cnt u k = cnt u k then _ else _ : BitVec 32).toNat = _
      rw [if_pos rfl, BitVec.toNat_ofNat]
      congr 1; omega
    · have h0 : (bitW u k).toNat = 0 := by
        rcases Nat.lt_or_ge (bitW u k).toNat 1 with h' | h'
        · omega
        · exact absurd (BitVec.eq_of_toNat_eq (by show _ = 1; omega)) h
      rw [if_neg h, hs, h0, Nat.add_zero, Finset.sum_congr rfl hold, add_zero]

/-- The kernel's result at an element, when an expert out of use has weight zero. -/
theorem outF_eq (I : Inp Ideal) (a b : ℕ) (ha : a < 24) (hb : b < 5120) (hU : ∀ e, e < 8 → ¬ bitW (U I.iw) e = 1#32 → cS I e a = 0) :
    outF I a b = oS I a b := by
  unfold outF; rw [dif_pos ⟨ha, hb⟩]
  show allV (accS I (U I.iw) (4 * cnt (U I.iw) 8)) (ix2 (⟨a, ha⟩ : Fin 24) (⟨b, hb⟩ : Fin 5120)) = _
  show accS I (U I.iw) (4 * cnt (U I.iw) 8) (0 + a) (0 + b) = _
  rw [Nat.zero_add, Nat.zero_add, accS_eq I _ a b ha hb]
  refine (sum_ord (U I.iw) (fun e => pS I e a b * cS I e a) 8 (Nat.le_refl _)).trans (Finset.sum_congr rfl fun e he => ?_)
  have he := Finset.mem_range.1 he
  split
  · rfl
  · next h => rw [hU e he h, mul_zero]

end Cert.KernelIdeal.Moe
-- ==== Proof.V.Bits.lean ====
/-
  The mask of used experts has every expert that a token names.
-/
module

public import proofs.«01_k».proof.Proof.V.Kern
public import proofs.«01_k».proof.Proof.KI.Ids

@[expose] public section

noncomputable section

namespace Cert.KernelIdeal.Moe

open Cert.KernelIdeal Cert.KernelIdeal.Gen
open Idealize.ShloMosaic Idealize.ShloMosaic.TcCoe
open Idealize.SL.Sem
open Idealize.ShloMosaic.ValueIdx

/-- Bit `e` of the mask of used experts is set once a word equal to `e` was met. -/
theorem usedW_bit (f : ℕ → BitVec 32) (e : ℕ) (he : e < 8) : ∀ n k, k < n → f k = BitVec.ofNat 32 e → (usedW f n).getLsbD e = true
  | 0, k, h, _ => absurd h (Nat.not_lt_zero k)
  | n + 1, k, h, hf => by
    show ((usedW f n) ||| (IntOp.shli .scalar 1#32 (f n))).getLsbD e = true
    rw [BitVec.getLsbD_or]
    by_cases hk : k = n
    · subst hk
      rw [hf]
      have : (IntOp.shli .scalar 1#32 (BitVec.ofNat 32 e)).getLsbD e = true := by
        interval_cases e <;> decide
      rw [this, Bool.or_true]
    · rw [usedW_bit f e he n k (by omega) hf, Bool.true_or]

theorem bitW_of (u : BitVec 32) (e : ℕ) (he : e < 8) (h : u.getLsbD e = true) : bitW u e = 1#32 := by
  show (IntOp.shrsi .scalar u (BitVec.ofNat 32 e)) &&& 1#32 = 1#32
  have hs : IntOp.shrsi .scalar u (BitVec.ofNat 32 e) = u.sshiftRight e := by
    unfold IntOp.shrsi
    interval_cases e <;> rfl
  rw [hs]
  apply BitVec.eq_of_getLsbD_eq
  intro i hi
  rw [BitVec.getLsbD_and]
  by_cases h0 : i = 0
  · subst h0
    rw [BitVec.getLsbD_sshiftRight]
    simp [h]
    omega
  · have : (1#32).getLsbD i = false := by
      rw [BitVec.getLsbD_one]; simp [h0]
    rw [this, Bool.and_false]

/-- An expert that is not marked as used has weight nought for every token. -/
theorem cS_zero (I : Inp Ideal) (hI : ∀ a k, a < 24 → k < 2 → I.iw (2 * a + k) = I.ids a k) (a : ℕ) (ha : a < 24) (e : ℕ) (he : e < 8)
    (hb : ¬ bitW (U I.iw) e = 1#32) : cS I e a = 0 := by
  have hn : ∀ k, k < 2 → ¬ I.ids a k = BitVec.ofNat 32 e := fun k hk h =>
    hb (bitW_of _ e he (usedW_bit I.iw e he 48 (2 * a + k) (by omega) ((hI a k ha hk).trans h)))
  unfold cS
  rw [if_neg (hn 0 (by omega)), if_neg (hn 1 (by omega))]
  exact add_zero _

/-- The kernel's result is the mathematics. -/
theorem outF_eq_oS (I : Inp Ideal) (hI : ∀ a k, a < 24 → k < 2 → I.iw (2 * a + k) = I.ids a k) (a b : ℕ) (ha : a < 24) (hb : b < 5120) :
    outF I a b = oS I a b :=
  outF_eq I a b ha hb fun e he h => cS_zero I hI a ha e he h

end Cert.KernelIdeal.Moe
-- ==== Proof.V.Host.lean ====
/-
  What the kernel reads, in the arguments.
-/
module

public import proofs.«01_k».proof.Proof.V.Kern
public import proofs.«01_k».proof.Proof.KI.Frame

@[expose] public section

noncomputable section

namespace Cert.KernelIdeal.Moe

open Cert.KernelIdeal Cert.KernelIdeal.Gen
open Idealize.ShloMosaic Idealize.ShloMosaic.TcCoe
open Idealize.SL.Sem
open Idealize.ShloMosaic.ValueIdx

variable {F : FTy → Type} [FloatOps F]
variable (m : (ℓ : Loc nD τ sig) → Buf (Elt F) ℓ)

theorem V_main_v0 (c : Dev nD) : V m c main_v0 = shapeCast S24x2 (m ((c.tc : Thread nD τ).loc main_arg1)) shapeCasts_S24x1x2_S24x2 := by
  simp only [V, hostOps0, StableHlo.after_cons, StableHlo.after_nil]
  repeat (rw [StableHlo.reshape_result_ne]; rotate_left; decide)
  rw [StableHlo.reshape_result]
  repeat (rw [StableHlo.reshape_result_ne]; rotate_left; decide)
  rfl

theorem V_main_v2 (c : Dev nD) : V m c main_v2 = shapeCast S24x5120 (m ((c.tc : Thread nD τ).loc main_arg0)) shapeCasts_S24x1x5120_S24x5120 := by
  simp only [V, hostOps0, StableHlo.after_cons, StableHlo.after_nil]
  repeat (rw [StableHlo.reshape_result_ne]; rotate_left; decide)
  rw [StableHlo.reshape_result]
  repeat (rw [StableHlo.reshape_result_ne]; rotate_left; decide)
  rfl

theorem V_main_v3 (c : Dev nD) : V m c main_v3 = shapeCast S24x2 (m ((c.tc : Thread nD τ).loc main_arg2)) shapeCasts_S24x1x2_S24x2 := by
  simp only [V, hostOps0, StableHlo.after_cons, StableHlo.after_nil]
  repeat (rw [StableHlo.reshape_result_ne]; rotate_left; decide)
  rw [StableHlo.reshape_result]
  repeat (rw [StableHlo.reshape_result_ne]; rotate_left; decide)
  rfl

theorem V_main_v1 (c : Dev nD) : V m c main_v1 = shapeCast S48 (V m c main_v0) shapeCasts_S24x2_S48 := by
  rw [V_main_v0]
  simp only [V, hostOps0, StableHlo.after_cons, StableHlo.after_nil]
  repeat (rw [StableHlo.reshape_result_ne]; rotate_left; decide)
  rw [StableHlo.reshape_result, StableHlo.reshape_result]
  rfl

/-- The flat list of identifiers holds the table's rows in turn. -/
theorem inp_iw (c : Dev nD) (a k : ℕ) (ha : a < 24) (hk : k < 2) : (inp m c).iw (2 * a + k) = (inp m c).ids a k := by
  show ext1 (vIW m c) (2 * a + k) = ext2 (vIds m c) a k
  unfold ext1 ext2
  rw [dif_pos (show 2 * a + k < 48 by omega), dif_pos ⟨ha, hk⟩]
  unfold vIW vIds
  rw [V_main_v1]
  refine shapeCast_apply _ _ _ _ ?_
  show (S24x2.rowMajor (ix2 (⟨a, ha⟩ : Fin 24) (⟨k, hk⟩ : Fin 2)) : ℕ) = (S48.rowMajor (ix1 (⟨2 * a + k, by omega⟩ : Fin 48)) : ℕ)
  rw [Shape.rowMajor_val_two, Shape.rowMajor_val_one]
  show a * 2 + k = 2 * a + k
  omega

end Cert.KernelIdeal.Moe
-- ==== Proof.V.Ref.lean ====
/-
  The reference's result as the mathematics of Kern.lean.
-/
module

public import proofs.«01_k».proof.Proof.V.Kern
public import proofs.«01_k».proof.Proof.KI.Split
public import proofs.«01_k».proof.Proof.Gen.ReferenceIdeal.Value
public import Idealize.ShloMosaic.Lib.Pipeline.ValueKit.Tiles

@[expose] public section

noncomputable section

namespace Cert.ReferenceIdeal.Moe

open Cert.ReferenceIdeal Cert.ReferenceIdeal.Gen
open Idealize.ShloMosaic Idealize.ShloMosaic.TcCoe
open Idealize.SL.Sem
open Idealize.ShloMosaic.ValueIdx

open Cert.KernelIdeal.Moe (ext1 ext2 ext3 ext2_eq ext3_eq Inp gS hS dS pS cS oS gT)

section defs
variable {F : FTy → Type} [FloatOps F]

/-- Gate and up weights of one expert, scaled. -/
def wR (w : Vec F S1x5120x2048 .fp8e4m3) (s : Vec F S1x40x16 .f32) : FVec F S5120x2048 .bf16 :=
  shapeCast S5120x2048 (mulf (shapeCast S40x128x16x128 (extf .bf16 (shapeCast S5120x2048 w shapeCasts_S1x5120x2048_S5120x2048) bitsLt_fp8e4m3_bf16) shapeCasts_S5120x2048_S40x128x16x128)
    (broadcastTo S40x128x16x128 (shapeCast S40x1x16x1 (truncf .bf16 (shapeCast S40x16 s shapeCasts_S1x40x16_S40x16) bitsLt_bf16_f32) shapeCasts_S40x16_S40x1x16x1) broadcasts_S40x1x16x1_S40x128x16x128))
    shapeCasts_S40x128x16x128_S5120x2048
/-- Down weights of one expert, scaled. -/
def uR (w : Vec F S1x1024x5120 .fp8e4m3) (s : Vec F S1x8x40 .f32) : FVec F S1024x5120 .bf16 :=
  shapeCast S1024x5120 (mulf (shapeCast S8x128x40x128 (extf .bf16 (shapeCast S1024x5120 w shapeCasts_S1x1024x5120_S1024x5120) bitsLt_fp8e4m3_bf16) shapeCasts_S1024x5120_S8x128x40x128)
    (broadcastTo S8x128x40x128 (shapeCast S8x1x40x1 (truncf .bf16 (shapeCast S8x40 s shapeCasts_S1x8x40_S8x40) bitsLt_bf16_f32) shapeCasts_S8x40_S8x1x40x1) broadcasts_S8x1x40x1_S8x128x40x128))
    shapeCasts_S8x128x40x128_S1024x5120
/-- Gate and up of one expert. -/
def gR (x : FVec F S24x5120 .bf16) (w : Vec F S1x5120x2048 .fp8e4m3) (s : Vec F S1x40x16 .f32) : FVec F S24x2048 .f32 :=
  matmul dot_S24x5120_S5120x2048_S24x2048_1_0_0_1_n_n none x (wR w s) (constant S24x2048 .f32 0x00000000#32)
/-- The hidden activation of one expert. -/
def hR (g : FVec F S24x2048 .f32) : FVec F S24x1024 .bf16 :=
  truncf .bf16 (mulf (mulf (extractStridedSlice S24x1024 ![0, 0] g slices_S24x2048_o0_0_S24x1024) (logistic (extractStridedSlice S24x1024 ![0, 0] g slices_S24x2048_o0_0_S24x1024)))
    (extractStridedSlice S24x1024 ![0, 1024] g slices_S24x2048_o0_1024_S24x1024)) bitsLt_bf16_f32
/-- The weight of one expert for each token. -/
def cR (ids : Vec F S24x2 .i32) (wts : Vec F S24x2 .f32) (e : BitVec 32) : FVec F S24x1 .f32 :=
  shapeCast S24x1 (multiReduction .add [1] S24 (select (cmpi .eq (shapeCast S24x2 ids shapeCasts_S24x2_S24x2) (broadcast S24x2 e)) (shapeCast S24x2 wts shapeCasts_S24x2_S24x2)
    (broadcast S24x2 (Scalar.ofBits .f32 0x00000000#32))) 0x00000000#32 reduces_S24x2_S24 (.inl rfl) rfl) shapeCasts_S24_S24x1
/-- One expert added. -/
def oneR (x : FVec F S24x5120 .bf16) (ids : Vec F S24x2 .i32) (wts : Vec F S24x2 .f32) (w : Vec F S1x5120x2048 .fp8e4m3) (s : Vec F S1x40x16 .f32)
    (d : Vec F S1x1024x5120 .fp8e4m3) (t : Vec F S1x8x40 .f32) (e : BitVec 32) (acc : FVec F S24x5120 .f32) : FVec F S24x5120 .f32 :=
  addf acc (mulf (matmul dot_S24x1024_S1024x5120_S24x5120_1_0_0_1_n_n none (hR (gR x w s)) (uR d t) (constant S24x5120 .f32 0x00000000#32))
    (broadcastTo S24x5120 (cR ids wts e) broadcasts_S24x1_S24x5120))
/-- The first `n` experts. -/
def sumR (x : FVec F S24x5120 .bf16) (ids : Vec F S24x2 .i32) (wts : Vec F S24x2 .f32) (w : ℕ → Vec F S1x5120x2048 .fp8e4m3) (s : ℕ → Vec F S1x40x16 .f32)
    (d : ℕ → Vec F S1x1024x5120 .fp8e4m3) (t : ℕ → Vec F S1x8x40 .f32) : ℕ → FVec F S24x5120 .f32
  | 0 => broadcast S24x5120 (Scalar.ofBits .f32 0x00000000#32)
  | n + 1 => oneR x ids wts (w n) (s n) (d n) (t n) (BitVec.ofNat 32 n) (sumR x ids wts w s d t n)

theorem pays_eq (x : Vec F S24x5120 .bf16) (ids : Vec F S24x2 .i32) (wts : Vec F S24x2 .f32) (w : ℕ → Vec F S1x5120x2048 .fp8e4m3) (s : ℕ → Vec F S1x40x16 .f32)
    (d : ℕ → Vec F S1x1024x5120 .fp8e4m3) (t : ℕ → Vec F S1x8x40 .f32) :
    k0_pay1 (k0_pay25 (k0_pay22 (k0_pay19 (k0_pay15 (k0_pay12 (k0_pay10 (k0_pay6 (k0_pay3 (F := F)) (k0_pay4 x (w 0) (s 0) (d 0) (t 0)) (k0_pay5 ids) wts) (k0_pay7 (k0_pay2 x) (w 1) (s 1) (d 1) (t 1)) (k0_pay8 ids) k0_pay9 wts) (k0_pay11 (k0_pay2 x) (w 2) (s 2) (d 2) (t 2)) ids wts) (k0_pay13 (k0_pay2 x) (w 3) (s 3)) (k0_pay14 (d 3) (t 3)) ids wts) (k0_pay16 (k0_pay2 x) (w 4) (s 4)) (k0_pay17 (d 4)) (k0_pay18 (t 4)) ids wts) (k0_pay20 (k0_pay2 x) (w 5) (s 5)) (k0_pay21 (d 5)) (t 5) ids wts) (k0_pay23 (k0_pay2 x) (w 6) (s 6)) (k0_pay24 (d 6)) (t 6) ids wts) (k0_pay26 (k0_pay2 x) (w 7) (s 7)) (d 7) (t 7) ids wts
      = truncf .bf16 (sumR (k0_pay2 x) ids wts w s d t 8) bitsLt_bf16_f32 := rfl

/-- One expert's slice of an array by experts, with the unit axis a load leaves. -/
def slab {k l : ℕ} {φ : EltTy} [Nonempty (Elt F φ)] (f : (⟨3, ![8, k, l]⟩ : Shape).Idx → Elt F φ) (e : ℕ) : (⟨3, ![1, k, l]⟩ : Shape).Idx → Elt F φ :=
  fun i => ext3 f e (i 1) (i 2)
theorem ld_slab {k l : ℕ} {φ : EltTy} [Nonempty (Elt F φ)] (f : (⟨3, ![8, k, l]⟩ : Shape).Idx → Elt F φ) (e : ℕ) (inb) :
    View.ld (Val := Elt F) (e' := φ) f (Rect.unit (s := (⟨3, ![8, k, l]⟩ : Shape)) ![e, 0, 0] (⟨3, ![1, k, l]⟩ : Shape).size inb) = slab f e := by
  funext i
  have he : e < 8 := inb 0
  have h1 : ((i 1 : Fin k) : ℕ) < k := (i 1).2
  have h2 : ((i 2 : Fin l) : ℕ) < l := (i 2).2
  have h0 : ((i 0 : Fin 1) : ℕ) = 0 := by have h : ((i 0 : Fin 1) : ℕ) < 1 := (i 0).2; omega
  unfold slab ext3
  rw [dif_pos ⟨he, h1, h2⟩]
  refine View.ld_unit_apply_of f _ _ inb i _ fun ax => ?_
  match ax with
  | ⟨0, _⟩ => show e = e + ((i 0 : Fin 1) : ℕ); omega
  | ⟨1, _⟩ => show ((i 1 : Fin k) : ℕ) = 0 + ((i 1 : Fin k) : ℕ); omega
  | ⟨2, _⟩ => show ((i 2 : Fin l) : ℕ) = 0 + ((i 2 : Fin l) : ℕ); omega

/-- What the body leaves, as the eight experts in turn. -/
theorem out_eq (x0 : Vec F S24x5120 .bf16) (x1 : Vec F S24x2 .i32) (x2 : Vec F S24x2 .f32) (x3 : Vec F S8x5120x2048 .fp8e4m3) (x4 : Vec F S8x40x16 .f32)
    (x5 : Vec F S8x1024x5120 .fp8e4m3) (x6 : Vec F S8x8x40 .f32) :
    out0_7 x0 x1 x2 x3 x4 x5 x6 = truncf .bf16 (sumR x0 x1 x2 (slab x3) (slab x4) (slab x5) (slab x6) 8) bitsLt_bf16_f32 := by
  have hz : ∀ a : Fin 2, (![0, 0] : Fin 2 → ℕ) a = 0 := fun a => by match a with | ⟨0, _⟩ => rfl | ⟨1, _⟩ => rfl
  have e0 : View.ld x0 r0_0 = x0 := View.ld_unit_lit _ _ hz
  have e1 : View.ld x1 r0_5 = x1 := View.ld_unit_lit _ _ hz
  have e2 : View.ld x2 r0_5 = x2 := View.ld_unit_lit _ _ hz
  unfold out0_7 k0_pay27
  refine (View.canon_cons_unit_lit _ _ _ hz).trans ?_
  rw [e0, e1, e2]
  refine Eq.trans ?_ ((pays_eq x0 x1 x2 (slab x3) (slab x4) (slab x5) (slab x6)).trans ?_)
  · rw [ld_slab x3 0, ld_slab x3 1, ld_slab x3 2, ld_slab x3 3, ld_slab x3 4, ld_slab x3 5, ld_slab x3 6, ld_slab x3 7, ld_slab x4 0, ld_slab x4 1, ld_slab x4 2, ld_slab x4 3, ld_slab x4 4, ld_slab x4 5, ld_slab x4 6, ld_slab x4 7, ld_slab x5 0, ld_slab x5 1, ld_slab x5 2, ld_slab x5 3, ld_slab x5 4, ld_slab x5 5, ld_slab x5 6, ld_slab x5 7, ld_slab x6 0, ld_slab x6 1, ld_slab x6 2, ld_slab x6 3, ld_slab x6 4, ld_slab x6 5, ld_slab x6 6, ld_slab x6 7]
  · unfold k0_pay2; rw [shapeCast_self]
end defs

/-- The arrays by coordinates. -/
def inpR (x0 : Vec Ideal S24x5120 .bf16) (x1 : Vec Ideal S24x2 .i32) (x2 : Vec Ideal S24x2 .f32) (x3 : Vec Ideal S8x5120x2048 .fp8e4m3) (x4 : Vec Ideal S8x40x16 .f32)
    (x5 : Vec Ideal S8x1024x5120 .fp8e4m3) (x6 : Vec Ideal S8x8x40 .f32) : Inp Ideal where
  iw := fun _ => 0#32
  x := ext2 x0
  ids := ext2 x1
  wts := ext2 x2
  sgu := ext3 x4
  sd := ext3 x6
  wgu := ext3 x3
  wd := ext3 x5

theorem wR_apply (w : Vec Ideal S1x5120x2048 .fp8e4m3) (s : Vec Ideal S1x40x16 .f32) (d : Fin 5120) (f : Fin 2048) :
    wR w s (ix2 d f) = (w (ix3 (0 : Fin 1) d f) * s (ix3 (0 : Fin 1) (⟨d.val / 128, by omega⟩ : Fin 40) (⟨f.val / 128, by omega⟩ : Fin 16)) : EReal) := by
  unfold wR
  have hd : d.val / 128 < 40 := by omega
  have hf : f.val / 128 < 16 := by omega
  rw [shapeCast_apply _ _ _ (ix4 (⟨d.val / 128, hd⟩ : Fin 40) (⟨d.val % 128, by omega⟩ : Fin 128) (⟨f.val / 128, hf⟩ : Fin 16) (⟨f.val % 128, by omega⟩ : Fin 128)) (by
    rw [Shape.rowMajor_val_four, Shape.rowMajor_val_two]
    show ((d.val / 128 * 128 + d.val % 128) * 16 + f.val / 128) * 128 + f.val % 128 = d.val * 2048 + f.val
    omega)]
  rw [mulf_apply, shapeCast_apply _ _ _ (ix2 d f) (by
    rw [Shape.rowMajor_val_four, Shape.rowMajor_val_two]
    show d.val * 2048 + f.val = ((d.val / 128 * 128 + d.val % 128) * 16 + f.val / 128) * 128 + f.val % 128
    omega), extf_apply, shapeCast_1ab_ab_apply]
  refine congrArg ((w (ix3 (0 : Fin 1) d f) : EReal) * ·) ?_
  rw [broadcastTo_apply _ _ _ (ix4 (⟨d.val / 128, hd⟩ : Fin 40) (0 : Fin 1) (⟨f.val / 128, hf⟩ : Fin 16) (0 : Fin 1)) (fun ax => by
    match ax with | ⟨0, _⟩ => rfl | ⟨1, _⟩ => rfl | ⟨2, _⟩ => rfl | ⟨3, _⟩ => rfl)]
  rw [shapeCast_apply _ _ _ (ix2 (⟨d.val / 128, hd⟩ : Fin 40) (⟨f.val / 128, hf⟩ : Fin 16)) (by
    rw [Shape.rowMajor_val_four, Shape.rowMajor_val_two]
    show d.val / 128 * 16 + f.val / 128 = ((d.val / 128 * 1 + 0) * 16 + f.val / 128) * 1 + 0
    omega), truncf_apply, shapeCast_1ab_ab_apply]

theorem uR_apply (w : Vec Ideal S1x1024x5120 .fp8e4m3) (s : Vec Ideal S1x8x40 .f32) (d : Fin 1024) (f : Fin 5120) :
    uR w s (ix2 d f) = (w (ix3 (0 : Fin 1) d f) * s (ix3 (0 : Fin 1) (⟨d.val / 128, by omega⟩ : Fin 8) (⟨f.val / 128, by omega⟩ : Fin 40)) : EReal) := by
  unfold uR
  have hd : d.val / 128 < 8 := by omega
  have hf : f.val / 128 < 40 := by omega
  rw [shapeCast_apply _ _ _ (ix4 (⟨d.val / 128, hd⟩ : Fin 8) (⟨d.val % 128, by omega⟩ : Fin 128) (⟨f.val / 128, hf⟩ : Fin 40) (⟨f.val % 128, by omega⟩ : Fin 128)) (by
    rw [Shape.rowMajor_val_four, Shape.rowMajor_val_two]
    show ((d.val / 128 * 128 + d.val % 128) * 40 + f.val / 128) * 128 + f.val % 128 = d.val * 5120 + f.val
    omega)]
  rw [mulf_apply, shapeCast_apply _ _ _ (ix2 d f) (by
    rw [Shape.rowMajor_val_four, Shape.rowMajor_val_two]
    show d.val * 5120 + f.val = ((d.val / 128 * 128 + d.val % 128) * 40 + f.val / 128) * 128 + f.val % 128
    omega), extf_apply, shapeCast_1ab_ab_apply]
  refine congrArg ((w (ix3 (0 : Fin 1) d f) : EReal) * ·) ?_
  rw [broadcastTo_apply _ _ _ (ix4 (⟨d.val / 128, hd⟩ : Fin 8) (0 : Fin 1) (⟨f.val / 128, hf⟩ : Fin 40) (0 : Fin 1)) (fun ax => by
    match ax with | ⟨0, _⟩ => rfl | ⟨1, _⟩ => rfl | ⟨2, _⟩ => rfl | ⟨3, _⟩ => rfl)]
  rw [shapeCast_apply _ _ _ (ix2 (⟨d.val / 128, hd⟩ : Fin 8) (⟨f.val / 128, hf⟩ : Fin 40)) (by
    rw [Shape.rowMajor_val_four, Shape.rowMajor_val_two]
    show d.val / 128 * 40 + f.val / 128 = ((d.val / 128 * 1 + 0) * 40 + f.val / 128) * 1 + 0
    omega), truncf_apply, shapeCast_1ab_ab_apply]

theorem cR_apply (ids : Vec Ideal S24x2 .i32) (wts : Vec Ideal S24x2 .f32) (e : BitVec 32) (a : Fin 24) :
    cR ids wts e (ix2 a (0 : Fin 1)) = ((if ids (ix2 a (0 : Fin 2)) = e then (wts (ix2 a (0 : Fin 2)) : EReal) else 0)
      + (if ids (ix2 a (1 : Fin 2)) = e then (wts (ix2 a (1 : Fin 2)) : EReal) else 0) : EReal) := by
  unfold cR
  rw [shapeCast_a_a1_apply, shapeCast_self, shapeCast_self]
  refine (Ideal.multiReduction_add_single (s := S24x2) (t := S24) (a := 1) _ _ reduces_S24x2_S24 _ _ (ix1 a)).trans ?_
  have hl : ∀ k : Fin 2, reduces_S24x2_S24.lift (ix1 a) k = ix2 a k := fun k => by
    funext ax
    match ax with
    | ⟨0, _⟩ => exact Fin.ext rfl
    | ⟨1, _⟩ => exact Fin.ext rfl
  refine (Fin.sum_univ_two (M := EReal) _).trans ?_
  exact congrArg₂ (fun p q : EReal => p + q) ((congrArg _ (hl 0)).trans (Cert.KernelIdeal.Moe.sel_eq _ _ _)) ((congrArg _ (hl 1)).trans (Cert.KernelIdeal.Moe.sel_eq _ _ _))

theorem logistic_at {s : Shape} (v : FVec Ideal s .f32) (i : s.Idx) : logistic v i = Ideal.logistic (v i) := rfl

theorem dotG (x : FVec Ideal S24x5120 .bf16) (w : FVec Ideal S5120x2048 .bf16) (a : Fin 24) (f : Fin 2048) :
    matmul dot_S24x5120_S5120x2048_S24x2048_1_0_0_1_n_n none x w (constant S24x2048 .f32 0x00000000#32) (ix2 a f) = ∑ d : Fin 5120, x (ix2 a d) * w (ix2 d f) := by
  refine (Ideal.matmul_plain_apply (M := 24) (K := 5120) (N := 2048) none x w _ a f).trans ?_
  show Ideal.ofBits .f32 0x00000000#32 + _ = _
  rw [Ideal.ofBits_zero_f32, zero_add]
theorem dotD (x : FVec Ideal S24x1024 .bf16) (w : FVec Ideal S1024x5120 .bf16) (a : Fin 24) (b : Fin 5120) :
    matmul dot_S24x1024_S1024x5120_S24x5120_1_0_0_1_n_n none x w (constant S24x5120 .f32 0x00000000#32) (ix2 a b) = ∑ d : Fin 1024, x (ix2 a d) * w (ix2 d b) := by
  refine (Ideal.matmul_plain_apply (M := 24) (K := 1024) (N := 5120) none x w _ a b).trans ?_
  show Ideal.ofBits .f32 0x00000000#32 + _ = _
  rw [Ideal.ofBits_zero_f32, zero_add]

section value
variable (x0 : Vec Ideal S24x5120 .bf16) (x1 : Vec Ideal S24x2 .i32) (x2 : Vec Ideal S24x2 .f32) (x3 : Vec Ideal S8x5120x2048 .fp8e4m3) (x4 : Vec Ideal S8x40x16 .f32)
    (x5 : Vec Ideal S8x1024x5120 .fp8e4m3) (x6 : Vec Ideal S8x8x40 .f32)

theorem gR_eq (e : ℕ) (a : Fin 24) (f : Fin 2048) : gR x0 (slab x3 e) (slab x4 e) (ix2 a f) = gS (inpR x0 x1 x2 x3 x4 x5 x6) e a.val f.val := by
  unfold gR
  rw [dotG]
  unfold gS
  rw [Finset.sum_range]
  refine Finset.sum_congr rfl fun d _ => ?_
  rw [wR_apply]
  exact congrArg (fun z : EReal => z * _) (congrFun (ext2_eq x0) (ix2 a d)).symm

theorem gR_eq' (e : ℕ) (a : Fin 24) (f : ℕ) (hf : f < 2048) : gR x0 (slab x3 e) (slab x4 e) (ix2 a (⟨f, hf⟩ : Fin 2048)) = gS (inpR x0 x1 x2 x3 x4 x5 x6) e a.val f :=
  gR_eq x0 x1 x2 x3 x4 x5 x6 e a ⟨f, hf⟩

theorem hR_eq (e : ℕ) (a : Fin 24) (f : Fin 1024) : hR (gR x0 (slab x3 e) (slab x4 e)) (ix2 a f) = hS (inpR x0 x1 x2 x3 x4 x5 x6) e a.val f.val := by
  have hf : 1024 + f.val < 2048 := by omega
  have hf' : f.val < 2048 := by omega
  have h0 : extractStridedSlice S24x1024 ![0, 0] (gR x0 (slab x3 e) (slab x4 e)) slices_S24x2048_o0_0_S24x1024 (ix2 a f) = gS (inpR x0 x1 x2 x3 x4 x5 x6) e a.val f.val := by
    rw [slice2_axis1_apply 0 (gR x0 (slab x3 e) (slab x4 e)) slices_S24x2048_o0_0_S24x1024 a f ⟨f.val, hf'⟩ (Nat.zero_add _).symm, gR_eq' x0 x1 x2 x3 x4 x5 x6]
  have h1 : extractStridedSlice S24x1024 ![0, 1024] (gR x0 (slab x3 e) (slab x4 e)) slices_S24x2048_o0_1024_S24x1024 (ix2 a f) = gS (inpR x0 x1 x2 x3 x4 x5 x6) e a.val (1024 + f.val) := by
    rw [slice2_axis1_apply 1024 (gR x0 (slab x3 e) (slab x4 e)) slices_S24x2048_o0_1024_S24x1024 a f ⟨1024 + f.val, hf⟩ (Eq.refl (1024 + f.val)), gR_eq' x0 x1 x2 x3 x4 x5 x6]
  unfold hR
  have hl : logistic (extractStridedSlice S24x1024 ![0, 0] (gR x0 (slab x3 e) (slab x4 e)) slices_S24x2048_o0_0_S24x1024) (ix2 a f)
      = Ideal.logistic (gS (inpR x0 x1 x2 x3 x4 x5 x6) e a.val f.val) := by
    rw [logistic_at, h0]
  rw [truncf_apply, mulf_apply, mulf_apply, h1, hl, h0, hS]

theorem oneR_eq (e : ℕ) (acc : FVec Ideal S24x5120 .f32) (a : Fin 24) (b : Fin 5120) :
    oneR x0 x1 x2 (slab x3 e) (slab x4 e) (slab x5 e) (slab x6 e) (BitVec.ofNat 32 e) acc (ix2 a b)
      = (acc (ix2 a b) + pS (inpR x0 x1 x2 x3 x4 x5 x6) e a.val b.val * cS (inpR x0 x1 x2 x3 x4 x5 x6) e a.val : EReal) := by
  unfold oneR
  rw [addf_apply, mulf_apply, dotD, broadcastTo_apply _ _ _ (ix2 a (0 : Fin 1)) (fun ax => by match ax with | ⟨0, _⟩ => rfl | ⟨1, _⟩ => rfl), cR_apply]
  refine congrArg ((acc (ix2 a b) : EReal) + ·) (congrArg₂ (fun p q : EReal => p * q) ?_ ?_)
  · unfold pS
    rw [Finset.sum_range]
    refine Finset.sum_congr rfl fun f _ => ?_
    rw [hR_eq x0 x1 x2 x3 x4 x5 x6 e a f, uR_apply]
    rfl
  · have hi : ∀ k : Fin 2, x1 (ix2 a k) = ext2 x1 a.val k.val := fun k => (congrFun (ext2_eq x1) (ix2 a k)).symm
    have hw : ∀ k : Fin 2, x2 (ix2 a k) = ext2 x2 a.val k.val := fun k => (congrFun (ext2_eq x2) (ix2 a k)).symm
    rw [hi, hi, hw, hw]
    rfl

theorem sumR_eq (a : Fin 24) (b : Fin 5120) : ∀ n, sumR x0 x1 x2 (slab x3) (slab x4) (slab x5) (slab x6) n (ix2 a b)
    = ∑ e ∈ Finset.range n, pS (inpR x0 x1 x2 x3 x4 x5 x6) e a.val b.val * cS (inpR x0 x1 x2 x3 x4 x5 x6) e a.val
  | 0 => Ideal.ofBits_zero_f32
  | n + 1 => by
    rw [Finset.sum_range_succ, ← sumR_eq a b n]
    exact oneR_eq x0 x1 x2 x3 x4 x5 x6 n _ a b

/-- The reference's result at an element. -/
theorem outR_eq (a : Fin 24) (b : Fin 5120) : out0_7 x0 x1 x2 x3 x4 x5 x6 (ix2 a b) = oS (inpR x0 x1 x2 x3 x4 x5 x6) a.val b.val := by
  rw [out_eq, truncf_apply, sumR_eq]
  rfl
end value

end Cert.ReferenceIdeal.Moe
-- ==== Proof.V.RefArr.lean ====
/-
  The reference's result array.
-/
module

public import proofs.«01_k».proof.Proof.V.Ref

@[expose] public section

noncomputable section

namespace Cert.ReferenceIdeal.Moe

open Cert.ReferenceIdeal Cert.ReferenceIdeal.Gen
open Idealize.ShloMosaic Idealize.ShloMosaic.TcCoe
open Idealize.SL.Sem
open Idealize.ShloMosaic.ValueIdx

open Cert.ReferenceIdeal.Value

variable {F : FTy → Type} [FloatOps F]
variable (m : (ℓ : Loc nD τ sig) → Buf (Elt F) ℓ)

theorem V_main_v0 (c : Dev nD) : V m c main_v0 = shapeCast S24x5120 (m ((c.tc : Thread nD τ).loc main_arg0)) shapeCasts_S24x1x5120_S24x5120 := by
  simp only [V, hostOps0, StableHlo.after_cons, StableHlo.after_nil]
  repeat (rw [StableHlo.reshape_result_ne]; rotate_left; decide)
  rw [StableHlo.reshape_result]
  repeat (rw [StableHlo.reshape_result_ne]; rotate_left; decide)
  rfl

theorem V_main_v1 (c : Dev nD) : V m c main_v1 = shapeCast S24x2 (m ((c.tc : Thread nD τ).loc main_arg1)) shapeCasts_S24x1x2_S24x2 := by
  simp only [V, hostOps0, StableHlo.after_cons, StableHlo.after_nil]
  repeat (rw [StableHlo.reshape_result_ne]; rotate_left; decide)
  rw [StableHlo.reshape_result]
  repeat (rw [StableHlo.reshape_result_ne]; rotate_left; decide)
  rfl

theorem V_main_v2 (c : Dev nD) : V m c main_v2 = shapeCast S24x2 (m ((c.tc : Thread nD τ).loc main_arg2)) shapeCasts_S24x1x2_S24x2 := by
  simp only [V, hostOps0, StableHlo.after_cons, StableHlo.after_nil]
  repeat (rw [StableHlo.reshape_result_ne]; rotate_left; decide)
  rw [StableHlo.reshape_result]
  repeat (rw [StableHlo.reshape_result_ne]; rotate_left; decide)
  rfl

theorem emb0 (t : Fin cfg0.N) (j : S24x5120.Idx) : ((cfg0.win 0).blk t).view.emb j = j := by
  funext a; apply Fin.ext
  match a with
  | ⟨0, _⟩ => show 0 * 24 + 1 * (j 0).val = (j 0).val; omega
  | ⟨1, _⟩ => show 0 * 5120 + 1 * (j 1).val = (j 1).val; omega
def w0 (c : Dev nD) : Vec F S24x5120 .bf16 := V m c main_v0
theorem iblk0_eq (c : Dev nD) (t : Fin cfg0.N) : iblk m c 0 t = w0 m c := by
  funext j; show V m c main_v0 (((cfg0.win 0).blk t).view.emb j) = V m c main_v0 j; rw [emb0]

theorem emb1 (t : Fin cfg0.N) (j : S24x2.Idx) : ((cfg0.win 1).blk t).view.emb j = j := by
  funext a; apply Fin.ext
  match a with
  | ⟨0, _⟩ => show 0 * 24 + 1 * (j 0).val = (j 0).val; omega
  | ⟨1, _⟩ => show 0 * 2 + 1 * (j 1).val = (j 1).val; omega
def w1 (c : Dev nD) : Vec F S24x2 .i32 := V m c main_v1
theorem iblk1_eq (c : Dev nD) (t : Fin cfg0.N) : iblk m c 1 t = w1 m c := by
  funext j; show V m c main_v1 (((cfg0.win 1).blk t).view.emb j) = V m c main_v1 j; rw [emb1]

theorem emb2 (t : Fin cfg0.N) (j : S24x2.Idx) : ((cfg0.win 2).blk t).view.emb j = j := by
  funext a; apply Fin.ext
  match a with
  | ⟨0, _⟩ => show 0 * 24 + 1 * (j 0).val = (j 0).val; omega
  | ⟨1, _⟩ => show 0 * 2 + 1 * (j 1).val = (j 1).val; omega
def w2 (c : Dev nD) : Vec F S24x2 .f32 := V m c main_v2
theorem iblk2_eq (c : Dev nD) (t : Fin cfg0.N) : iblk m c 2 t = w2 m c := by
  funext j; show V m c main_v2 (((cfg0.win 2).blk t).view.emb j) = V m c main_v2 j; rw [emb2]

theorem emb3 (t : Fin cfg0.N) (j : S8x5120x2048.Idx) : ((cfg0.win 3).blk t).view.emb j = j := by
  funext a; apply Fin.ext
  match a with
  | ⟨0, _⟩ => show 0 * 8 + 1 * (j 0).val = (j 0).val; omega
  | ⟨1, _⟩ => show 0 * 5120 + 1 * (j 1).val = (j 1).val; omega
  | ⟨2, _⟩ => show 0 * 2048 + 1 * (j 2).val = (j 2).val; omega
def w3 (c : Dev nD) : Vec F S8x5120x2048 .fp8e4m3 := V m c main_arg3
theorem iblk3_eq (c : Dev nD) (t : Fin cfg0.N) : iblk m c 3 t = w3 m c := by
  funext j; show V m c main_arg3 (((cfg0.win 3).blk t).view.emb j) = V m c main_arg3 j; rw [emb3]

theorem emb4 (t : Fin cfg0.N) (j : S8x40x16.Idx) : ((cfg0.win 4).blk t).view.emb j = j := by
  funext a; apply Fin.ext
  match a with
  | ⟨0, _⟩ => show 0 * 8 + 1 * (j 0).val = (j 0).val; omega
  | ⟨1, _⟩ => show 0 * 40 + 1 * (j 1).val = (j 1).val; omega
  | ⟨2, _⟩ => show 0 * 16 + 1 * (j 2).val = (j 2).val; omega
def w4 (c : Dev nD) : Vec F S8x40x16 .f32 := V m c main_arg4
theorem iblk4_eq (c : Dev nD) (t : Fin cfg0.N) : iblk m c 4 t = w4 m c := by
  funext j; show V m c main_arg4 (((cfg0.win 4).blk t).view.emb j) = V m c main_arg4 j; rw [emb4]

theorem emb5 (t : Fin cfg0.N) (j : S8x1024x5120.Idx) : ((cfg0.win 5).blk t).view.emb j = j := by
  funext a; apply Fin.ext
  match a with
  | ⟨0, _⟩ => show 0 * 8 + 1 * (j 0).val = (j 0).val; omega
  | ⟨1, _⟩ => show 0 * 1024 + 1 * (j 1).val = (j 1).val; omega
  | ⟨2, _⟩ => show 0 * 5120 + 1 * (j 2).val = (j 2).val; omega
def w5 (c : Dev nD) : Vec F S8x1024x5120 .fp8e4m3 := V m c main_arg5
theorem iblk5_eq (c : Dev nD) (t : Fin cfg0.N) : iblk m c 5 t = w5 m c := by
  funext j; show V m c main_arg5 (((cfg0.win 5).blk t).view.emb j) = V m c main_arg5 j; rw [emb5]

theorem emb6 (t : Fin cfg0.N) (j : S8x8x40.Idx) : ((cfg0.win 6).blk t).view.emb j = j := by
  funext a; apply Fin.ext
  match a with
  | ⟨0, _⟩ => show 0 * 8 + 1 * (j 0).val = (j 0).val; omega
  | ⟨1, _⟩ => show 0 * 8 + 1 * (j 1).val = (j 1).val; omega
  | ⟨2, _⟩ => show 0 * 40 + 1 * (j 2).val = (j 2).val; omega
def w6 (c : Dev nD) : Vec F S8x8x40 .f32 := V m c main_arg6
theorem iblk6_eq (c : Dev nD) (t : Fin cfg0.N) : iblk m c 6 t = w6 m c := by
  funext j; show V m c main_arg6 (((cfg0.win 6).blk t).view.emb j) = V m c main_arg6 j; rw [emb6]

theorem emb7 (t : Fin cfg0.N) (j : S24x5120.Idx) : ((cfg0.win 7).blk t).view.emb j = j := by
  funext a; apply Fin.ext
  match a with
  | ⟨0, _⟩ => show 0 * 24 + 1 * (j 0).val = (j 0).val; omega
  | ⟨1, _⟩ => show 0 * 5120 + 1 * (j 1).val = (j 1).val; omega

/-- What the result holds. -/
def outA (c : Dev nD) : Vec F S24x5120 .bf16 := out0_7 (w0 m c) (w1 m c) (w2 m c) (w3 m c) (w4 m c) (w5 m c) (w6 m c)

theorem cut_read7 (X : Vec F S24x5120 .bf16) (t : Fin cfg0.N) : (cfg0.win 7).cut (grid0.coords t) X = ((cfg0.win 7).blk t).view.read (Elt F) X := by
  funext j
  show X j = X (((cfg0.win 7).blk t).view.emb j)
  rw [emb7]

theorem flushed7_eq (c : Dev nD) (t : Fin cfg0.N) :
    (dats m 0 c).flushed 7 t = ((cfg0.win 7).blk t).view.read (Elt F) (outA m c) := by
  rw [flushed7, iblk0_eq, iblk1_eq, iblk2_eq, iblk3_eq, iblk4_eq, iblk5_eq, iblk6_eq]
  exact cut_read7 _ t

theorem covered7 (i : S24x5120.Idx) :
    ∃ t : Fin cfg0.N, (cfg0.win 7).flush t = true ∧ i ∈ ((cfg0.win 7).blk t).view.set :=
  ⟨t0_0, flush0_7 _, by
    have h := ((cfg0.win 7).blk t0_0).view.emb_mem_set i; rwa [emb7] at h⟩

/-- The result after the run. -/
theorem final7 (c : Dev nD) : (dats m 0 c).arrAt 7 cfg0.N = outA m c :=
  (dats m 0 c).arrAt_eq_of_cover 7 (outA m c) (fun t _ => flushed7_eq m c t) covered7

end Cert.ReferenceIdeal.Moe
-- ==== Proof.V.Value.lean ====
/-
  The kernel's result is the reference's.
-/
module

public import proofs.«01_k».proof.Proof.V.Bits
public import proofs.«01_k».proof.Proof.V.Host
public import proofs.«01_k».proof.Proof.V.RefArr

@[expose] public section

noncomputable section

namespace Cert.Moe

open Idealize.ShloMosaic Idealize.ShloMosaic.TcCoe Idealize.SL.Sem Idealize.ShloMosaic.ValueIdx
open Cert.KernelIdeal.Moe (Inp oS ext2 ext3)

theorem oS_congr {I J : Inp Ideal} (hx : I.x = J.x) (hids : I.ids = J.ids) (hwts : I.wts = J.wts) (hsgu : I.sgu = J.sgu) (hsd : I.sd = J.sd) (hwgu : I.wgu = J.wgu) (hwd : I.wd = J.wd) (a b : ℕ) : oS I a b = oS J a b := by
  obtain ⟨i0, i1, i2, i3, i4, i5, i6, i7⟩ := I
  obtain ⟨j0, j1, j2, j3, j4, j5, j6, j7⟩ := J
  dsimp only at hx hids hwts hsgu hsd hwgu hwd
  subst hx hids hwts hsgu hsd hwgu hwd
  rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem in0 (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Moe.w0 m' c = Cert.KernelIdeal.Moe.vX m c := by
  unfold Cert.ReferenceIdeal.Moe.w0 Cert.KernelIdeal.Moe.vX
  rw [Cert.ReferenceIdeal.Moe.V_main_v0, Cert.KernelIdeal.Moe.V_main_v2]
  exact congrArg (fun f => shapeCast _ f _) h

theorem in1 (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Moe.w1 m' c = Cert.KernelIdeal.Moe.vIds m c := by
  unfold Cert.ReferenceIdeal.Moe.w1 Cert.KernelIdeal.Moe.vIds
  rw [Cert.ReferenceIdeal.Moe.V_main_v1, Cert.KernelIdeal.Moe.V_main_v0]
  exact congrArg (fun f => shapeCast _ f _) h

theorem in2 (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Moe.w2 m' c = Cert.KernelIdeal.Moe.vWts m c := by
  unfold Cert.ReferenceIdeal.Moe.w2 Cert.KernelIdeal.Moe.vWts
  rw [Cert.ReferenceIdeal.Moe.V_main_v2, Cert.KernelIdeal.Moe.V_main_v3]
  exact congrArg (fun f => shapeCast _ f _) h

theorem in3 (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Moe.w3 m' c = Cert.KernelIdeal.Moe.vWgu m c := by
  unfold Cert.ReferenceIdeal.Moe.w3 Cert.KernelIdeal.Moe.vWgu
  rw [Cert.ReferenceIdeal.Gen.V_main_arg3, Cert.KernelIdeal.Gen.V_main_arg3]
  exact h

theorem in4 (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Moe.w4 m' c = Cert.KernelIdeal.Moe.vSgu m c := by
  unfold Cert.ReferenceIdeal.Moe.w4 Cert.KernelIdeal.Moe.vSgu
  rw [Cert.ReferenceIdeal.Gen.V_main_arg4, Cert.KernelIdeal.Gen.V_main_arg4]
  exact h

theorem in5 (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Moe.w5 m' c = Cert.KernelIdeal.Moe.vWd m c := by
  unfold Cert.ReferenceIdeal.Moe.w5 Cert.KernelIdeal.Moe.vWd
  rw [Cert.ReferenceIdeal.Gen.V_main_arg5, Cert.KernelIdeal.Gen.V_main_arg5]
  exact h

theorem in6 (h : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Moe.w6 m' c = Cert.KernelIdeal.Moe.vSd m c := by
  unfold Cert.ReferenceIdeal.Moe.w6 Cert.KernelIdeal.Moe.vSd
  rw [Cert.ReferenceIdeal.Gen.V_main_arg6, Cert.KernelIdeal.Gen.V_main_arg6]
  exact h

/-- At equal arguments the two results agree. -/
theorem value (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Moe.outA m' c = Cert.KernelIdeal.Moe.outA m c := by
  funext i
  have hk : Cert.KernelIdeal.Moe.outA m c i = oS (Cert.KernelIdeal.Moe.inp m c) (i 0).val (i 1).val :=
    Cert.KernelIdeal.Moe.outF_eq_oS _ (fun a k ha hk => Cert.KernelIdeal.Moe.inp_iw m c a k ha hk) _ _ (i 0).2 (i 1).2
  have hr : Cert.ReferenceIdeal.Moe.outA m' c i = oS (Cert.ReferenceIdeal.Moe.inpR (Cert.ReferenceIdeal.Moe.w0 m' c) (Cert.ReferenceIdeal.Moe.w1 m' c) (Cert.ReferenceIdeal.Moe.w2 m' c) (Cert.ReferenceIdeal.Moe.w3 m' c) (Cert.ReferenceIdeal.Moe.w4 m' c) (Cert.ReferenceIdeal.Moe.w5 m' c) (Cert.ReferenceIdeal.Moe.w6 m' c)) (i 0).val (i 1).val :=
    (congrArg (Cert.ReferenceIdeal.Moe.outA m' c) (eq_ix2 i)).trans (Cert.ReferenceIdeal.Moe.outR_eq _ _ _ _ _ _ _ (i 0) (i 1))
  refine hr.trans (Eq.trans ?_ hk.symm)
  exact oS_congr (congrArg ext2 (in0 m m' c h0)) (congrArg ext2 (in1 m m' c h1)) (congrArg ext2 (in2 m m' c h2)) (congrArg ext3 (in4 m m' c h4))
    (congrArg ext3 (in6 m m' c h6)) (congrArg ext3 (in3 m m' c h3)) (congrArg ext3 (in5 m m' c h5)) _ _
end

end Cert.Moe
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.ReferenceIdeal.Frame
public import proofs.«01_k».proof.Proof.K.Frame
public import proofs.«01_k».proof.Proof.KI.Frame
public import proofs.«01_k».proof.Proof.V.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
   fun m ρ _ => Cert.Kernel.Moe.frame m ρ,
   fun m ρ _ => Cert.KernelIdeal.Moe.frame m ρ,
   fun m ρ _ => Cert.ReferenceIdeal.Gen.frame m ρ,
   trivial,
   fun m g m' g' _ hag => ⟨fun c => Cert.KernelIdeal.Moe.outA m c, Cert.KernelIdeal.Moe.run m g,
    (θ_run (Cert.ReferenceIdeal.defs (F := Ideal)) _ _).mono (fun r h c => by
      obtain ⟨h0, h1, h2, h3, h4, h5, h6⟩ := hag c
      exact ⟨((h c).1.trans (Cert.ReferenceIdeal.Moe.final7 m' c)).trans (Cert.Moe.value m m' c h0 h1 h2 h3 h4 h5 h6), (h c).2⟩)
      (Cert.ReferenceIdeal.Value.run_blocks m' g')⟩⟩

end Cert.Proof
